-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_on_whole_sums_pre_finite [hKernelIdeal : Cert.KernelIdeal.Facts] [hReferenceIdeal : Cert.ReferenceIdeal.Facts] [hPre_finite : Cert.Pre_finite.Facts] [hOn_whole_sums : Cert.On_whole_sums.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)) (v3 : (c : Dev Cert.KernelIdeal.nD) → Buf (Elt Ideal) ((c.tc : Thread Cert.KernelIdeal.nD Cert.KernelIdeal.τ).loc Cert.KernelIdeal.main_v63_3)) (v4 : (c : Dev Cert.KernelIdeal.nD) → Buf (Elt Ideal) ((c.tc : Thread Cert.KernelIdeal.nD Cert.KernelIdeal.τ).loc Cert.KernelIdeal.main_v63_4)) (v5 : (c : Dev Cert.KernelIdeal.nD) → Buf (Elt Ideal) ((c.tc : Thread Cert.KernelIdeal.nD Cert.KernelIdeal.τ).loc Cert.KernelIdeal.main_v63_5)) (v6 : (c : Dev Cert.KernelIdeal.nD) → Buf (Elt Ideal) ((c.tc : Thread Cert.KernelIdeal.nD Cert.KernelIdeal.τ).loc Cert.KernelIdeal.main_v63_6)) (v7 : (c : Dev Cert.KernelIdeal.nD) → Buf (Elt Ideal) ((c.tc : Thread Cert.KernelIdeal.nD Cert.KernelIdeal.τ).loc Cert.KernelIdeal.main_v63_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v63_0) i = v0 c i)
          ∧ (∀ i : (⟨2, ![2816, 4096]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v63_1) i = v1 c i)
          ∧ (∀ i : (⟨2, ![2816, 4096]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v63_2) i = v2 c i)
          ∧ (∀ i : (⟨3, ![8, 8, 2816]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v63_3) i = v3 c i)
          ∧ (∀ i : (⟨3, ![8, 8, 2816]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v63_4) i = v4 c i)
          ∧ (∀ i : (⟨2, ![1, 1024]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.KernelIdeal.nD Cert.KernelIdeal.τ).loc Cert.KernelIdeal.main_v63_5) i = v5 c i)
          ∧ (∀ i : (⟨2, ![4096, 1024]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 i = 1#1 → r.2.mem ((c.tc : Thread Cert.KernelIdeal.nD Cert.KernelIdeal.τ).loc Cert.KernelIdeal.main_v63_6) i = v6 c i)
          ∧ (∀ i : (⟨2, ![1, 1024]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 i = 1#1 → r.2.mem ((c.tc : Thread Cert.KernelIdeal.nD Cert.KernelIdeal.τ).loc Cert.KernelIdeal.main_v63_7) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1024]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v178) i = v0 c i)
          ∧ (∀ i : (⟨2, ![2816, 4096]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v181) i = v1 c i)
          ∧ (∀ i : (⟨2, ![2816, 4096]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v184) i = v2 c i)
          ∧ (∀ i : (⟨3, ![8, 8, 2816]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v191) i = v3 c i)
          ∧ (∀ i : (⟨3, ![8, 8, 2816]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v198) i = v4 c i)
          ∧ (∀ i : (⟨2, ![1, 1024]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.ReferenceIdeal.nD Cert.ReferenceIdeal.τ).loc Cert.ReferenceIdeal.main_v199) i = v5 c i)
          ∧ (∀ i : (⟨2, ![4096, 1024]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 i = 1#1 → r.2.mem ((c.tc : Thread Cert.ReferenceIdeal.nD Cert.ReferenceIdeal.τ).loc Cert.ReferenceIdeal.main_v200) i = v6 c i)
          ∧ (∀ i : (⟨2, ![1, 1024]⟩ : Shape).Idx, (Cert.On_whole_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 i = 1#1 → r.2.mem ((c.tc : Thread Cert.ReferenceIdeal.nD Cert.ReferenceIdeal.τ).loc Cert.ReferenceIdeal.main_v201) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def algebraic_Kernel2Ideal_Reference3Ideal [hKernel2Ideal : Cert.Kernel2Ideal.Facts] [hReference3Ideal : Cert.Reference3Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel2Ideal m →
    (∀ c : Dev Cert.Kernel2Ideal.nD,
      m' ((c.tc : Thread Cert.Reference3Ideal.nD Cert.Reference3Ideal.τ).loc Cert.Reference3Ideal.main_arg0) = m ((c.tc : Thread Cert.Kernel2Ideal.nD Cert.Kernel2Ideal.τ).loc Cert.Kernel2Ideal.main_arg0)
      ∧ m' ((c.tc : Thread Cert.Reference3Ideal.nD Cert.Reference3Ideal.τ).loc Cert.Reference3Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel3_Kernel3Ideal : Prop :=
  True

def algebraic_Kernel3Ideal_Reference4Ideal [hKernel3Ideal : Cert.Kernel3Ideal.Facts] [hReference4Ideal : Cert.Reference4Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel3Ideal m →
    (∀ c : Dev Cert.Kernel3Ideal.nD,
      m' ((c.tc : Thread Cert.Reference4Ideal.nD Cert.Reference4Ideal.τ).loc Cert.Reference4Ideal.main_arg0) = m ((c.tc : Thread Cert.Kernel3Ideal.nD Cert.Kernel3Ideal.τ).loc Cert.Kernel3Ideal.main_arg0)
      ∧ m' ((c.tc : Thread Cert.Reference4Ideal.nD Cert.Reference4Ideal.τ).loc Cert.Reference4Ideal.main_arg1) = m ((c.tc : Thread Cert.Kernel3Ideal.nD Cert.Kernel3Ideal.τ).loc Cert.Kernel3Ideal.main_arg1)
      ∧ m' ((c.tc : Thread Cert.Reference4Ideal.nD Cert.Reference4Ideal.τ).loc Cert.Reference4Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel4_Kernel4Ideal : Prop :=
  True

def algebraic_Kernel4Ideal_Reference5Ideal [hKernel4Ideal : Cert.Kernel4Ideal.Facts] [hReference5Ideal : Cert.Reference5Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel4Ideal m →
    (∀ c : Dev Cert.Kernel4Ideal.nD,
      m' ((c.tc : Thread Cert.Reference5Ideal.nD Cert.Reference5Ideal.τ).loc Cert.Reference5Ideal.main_arg0) = m ((c.tc : Thread Cert.Kernel4Ideal.nD Cert.Kernel4Ideal.τ).loc Cert.Kernel4Ideal.main_arg0)
      ∧ m' ((c.tc : Thread Cert.Reference5Ideal.nD Cert.Reference5Ideal.τ).loc Cert.Reference5Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel5_Kernel5Ideal : Prop :=
  True

def algebraic_Kernel5Ideal_Reference6Ideal [hKernel5Ideal : Cert.Kernel5Ideal.Facts] [hReference6Ideal : Cert.Reference6Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel5Ideal m →
    (∀ c : Dev Cert.Kernel5Ideal.nD,
      m' ((c.tc : Thread Cert.Reference6Ideal.nD Cert.Reference6Ideal.τ).loc Cert.Reference6Ideal.main_arg0) = m ((c.tc : Thread Cert.Kernel5Ideal.nD Cert.Kernel5Ideal.τ).loc Cert.Kernel5Ideal.main_arg0)
      ∧ m' ((c.tc : Thread Cert.Reference6Ideal.nD Cert.Reference6Ideal.τ).loc Cert.Reference6Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel6_Kernel6Ideal : Prop :=
  True

def algebraic_Kernel6Ideal_Reference7Ideal [hKernel6Ideal : Cert.Kernel6Ideal.Facts] [hReference7Ideal : Cert.Reference7Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel6Ideal m →
    (∀ c : Dev Cert.Kernel6Ideal.nD,
      m' ((c.tc : Thread Cert.Reference7Ideal.nD Cert.Reference7Ideal.τ).loc Cert.Reference7Ideal.main_arg0) = m ((c.tc : Thread Cert.Kernel6Ideal.nD Cert.Kernel6Ideal.τ).loc Cert.Kernel6Ideal.main_arg0)
      ∧ m' ((c.tc : Thread Cert.Reference7Ideal.nD Cert.Reference7Ideal.τ).loc Cert.Reference7Ideal.main_arg1) = m ((c.tc : Thread Cert.Kernel6Ideal.nD Cert.Kernel6Ideal.τ).loc Cert.Kernel6Ideal.main_arg1)
      ∧ m' ((c.tc : Thread Cert.Reference7Ideal.nD Cert.Reference7Ideal.τ).loc Cert.Reference7Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_v16) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel7_Kernel7Ideal : Prop :=
  True

def algebraic_Kernel7Ideal_Reference8Ideal [hKernel7Ideal : Cert.Kernel7Ideal.Facts] [hReference8Ideal : Cert.Reference8Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel7Ideal m →
    (∀ c : Dev Cert.Kernel7Ideal.nD,
      m' ((c.tc : Thread Cert.Reference8Ideal.nD Cert.Reference8Ideal.τ).loc Cert.Reference8Ideal.main_arg0) = m ((c.tc : Thread Cert.Kernel7Ideal.nD Cert.Kernel7Ideal.τ).loc Cert.Kernel7Ideal.main_arg0)
      ∧ m' ((c.tc : Thread Cert.Reference8Ideal.nD Cert.Reference8Ideal.τ).loc Cert.Reference8Ideal.main_arg1) = m ((c.tc : Thread Cert.Kernel7Ideal.nD Cert.Kernel7Ideal.τ).loc Cert.Kernel7Ideal.main_arg1)
      ∧ m' ((c.tc : Thread Cert.Reference8Ideal.nD Cert.Reference8Ideal.τ).loc Cert.Reference8Ideal.main_arg2) = m ((c.tc : Thread Cert.Kernel7Ideal.nD Cert.Kernel7Ideal.τ).loc Cert.Kernel7Ideal.main_arg2)
      ∧ m' ((c.tc : Thread Cert.Reference8Ideal.nD Cert.Reference8Ideal.τ).loc Cert.Reference8Ideal.main_arg3) = m ((c.tc : Thread Cert.Kernel7Ideal.nD Cert.Kernel7Ideal.τ).loc Cert.Kernel7Ideal.main_arg3)
      ∧ m' ((c.tc : Thread Cert.Reference8Ideal.nD Cert.Reference8Ideal.τ).loc Cert.Reference8Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel8_Kernel8Ideal : Prop :=
  True

def algebraic_Kernel8Ideal_Reference9Ideal [hKernel8Ideal : Cert.Kernel8Ideal.Facts] [hReference9Ideal : Cert.Reference9Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel8Ideal m →
    (∀ c : Dev Cert.Kernel8Ideal.nD,
      m' ((c.tc : Thread Cert.Reference9Ideal.nD Cert.Reference9Ideal.τ).loc Cert.Reference9Ideal.main_arg0) = m ((c.tc : Thread Cert.Kernel8Ideal.nD Cert.Kernel8Ideal.τ).loc Cert.Kernel8Ideal.main_arg0)
      ∧ m' ((c.tc : Thread Cert.Reference9Ideal.nD Cert.Reference9Ideal.τ).loc Cert.Reference9Ideal.main_arg1) = m ((c.tc : Thread Cert.Kernel8Ideal.nD Cert.Kernel8Ideal.τ).loc Cert.Kernel8Ideal.main_arg1)
      ∧ m' ((c.tc : Thread Cert.Reference9Ideal.nD Cert.Reference9Ideal.τ).loc Cert.Reference9Ideal.main_arg2) = m ((c.tc : Thread Cert.Kernel8Ideal.nD Cert.Kernel8Ideal.τ).loc Cert.Kernel8Ideal.main_arg2)
      ∧ m' ((c.tc : Thread Cert.Reference9Ideal.nD Cert.Reference9Ideal.τ).loc Cert.Reference9Ideal.main_arg3) = m ((c.tc : Thread Cert.Kernel8Ideal.nD Cert.Kernel8Ideal.τ).loc Cert.Kernel8Ideal.main_arg3)
      ∧ m' ((c.tc : Thread Cert.Reference9Ideal.nD Cert.Reference9Ideal.τ).loc Cert.Reference9Ideal.main_arg4) = m ((c.tc : Thread Cert.Kernel8Ideal.nD Cert.Kernel8Ideal.τ).loc Cert.Kernel8Ideal.main_arg4)
      ∧ m' ((c.tc : Thread Cert.Reference9Ideal.nD Cert.Reference9Ideal.τ).loc Cert.Reference9Ideal.main_arg5) = m ((c.tc : Thread Cert.Kernel8Ideal.nD Cert.Kernel8Ideal.τ).loc Cert.Kernel8Ideal.main_arg5)
      ∧ m' ((c.tc : Thread Cert.Reference9Ideal.nD Cert.Reference9Ideal.τ).loc Cert.Reference9Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v57) = v0 c
          ∧ r.2.mem ((c.tc : Thread Cert.Reference9Ideal.nD Cert.Reference9Ideal.τ).loc Cert.Reference9Ideal.main_v43) = v1 c
          ∧ r.2.mem ((c.tc : Thread Cert.Reference9Ideal.nD Cert.Reference9Ideal.τ).loc Cert.Reference9Ideal.main_v59) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel9_Kernel9Ideal : Prop :=
  True

def algebraic_Kernel9Ideal_Reference10Ideal [hKernel9Ideal : Cert.Kernel9Ideal.Facts] [hReference10Ideal : Cert.Reference10Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel9Ideal m →
    (∀ c : Dev Cert.Kernel9Ideal.nD,
      m' ((c.tc : Thread Cert.Reference10Ideal.nD Cert.Reference10Ideal.τ).loc Cert.Reference10Ideal.main_arg0) = m ((c.tc : Thread Cert.Kernel9Ideal.nD Cert.Kernel9Ideal.τ).loc Cert.Kernel9Ideal.main_arg0)
      ∧ m' ((c.tc : Thread Cert.Reference10Ideal.nD Cert.Reference10Ideal.τ).loc Cert.Reference10Ideal.main_arg1) = m ((c.tc : Thread Cert.Kernel9Ideal.nD Cert.Kernel9Ideal.τ).loc Cert.Kernel9Ideal.main_arg1)
      ∧ m' ((c.tc : Thread Cert.Reference10Ideal.nD Cert.Reference10Ideal.τ).loc Cert.Reference10Ideal.main_arg2) = m ((c.tc : Thread Cert.Kernel9Ideal.nD Cert.Kernel9Ideal.τ).loc Cert.Kernel9Ideal.main_arg2)
      ∧ m' ((c.tc : Thread Cert.Reference10Ideal.nD Cert.Reference10Ideal.τ).loc Cert.Reference10Ideal.main_arg3) = m ((c.tc : Thread Cert.Kernel9Ideal.nD Cert.Kernel9Ideal.τ).loc Cert.Kernel9Ideal.main_arg3)
      ∧ m' ((c.tc : Thread Cert.Reference10Ideal.nD Cert.Reference10Ideal.τ).loc Cert.Reference10Ideal.main_arg4) = m ((c.tc : Thread Cert.Kernel9Ideal.nD Cert.Kernel9Ideal.τ).loc Cert.Kernel9Ideal.main_arg4)
      ∧ m' ((c.tc : Thread Cert.Reference10Ideal.nD Cert.Reference10Ideal.τ).loc Cert.Reference10Ideal.main_arg5) = m ((c.tc : Thread Cert.Kernel9Ideal.nD Cert.Kernel9Ideal.τ).loc Cert.Kernel9Ideal.main_arg5)
      ∧ m' ((c.tc : Thread Cert.Reference10Ideal.nD Cert.Reference10Ideal.τ).loc Cert.Reference10Ideal.main_arg6) = m ((c.tc : Thread Cert.Kernel9Ideal.nD Cert.Kernel9Ideal.τ).loc Cert.Kernel9Ideal.main_arg6)
      ∧ m' ((c.tc : Thread Cert.Reference10Ideal.nD Cert.Reference10Ideal.τ).loc Cert.Reference10Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)) (v4 : (c : Dev Cert.Kernel9Ideal.nD) → Buf (Elt Ideal) ((c.tc : Thread Cert.Kernel9Ideal.nD Cert.Kernel9Ideal.τ).loc Cert.Kernel9Ideal.main_v3_4)) (v5 : (c : Dev Cert.Kernel9Ideal.nD) → Buf (Elt Ideal) ((c.tc : Thread Cert.Kernel9Ideal.nD Cert.Kernel9Ideal.τ).loc Cert.Kernel9Ideal.main_v3_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_v3_4) = v4 c
          ∧ r.2.mem ((c.tc : Thread Cert.Kernel9Ideal.nD Cert.Kernel9Ideal.τ).loc Cert.Kernel9Ideal.main_v3_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v154) = v0 c
          ∧ r.2.mem ((c.tc : Thread Cert.Reference10Ideal.nD Cert.Reference10Ideal.τ).loc Cert.Reference10Ideal.main_v152) = v1 c
          ∧ r.2.mem ((c.tc : Thread Cert.Reference10Ideal.nD Cert.Reference10Ideal.τ).loc Cert.Reference10Ideal.main_v132) = v2 c
          ∧ r.2.mem ((c.tc : Thread Cert.Reference10Ideal.nD Cert.Reference10Ideal.τ).loc Cert.Reference10Ideal.main_v112) = v3 c
          ∧ r.2.mem ((c.tc : Thread Cert.Reference10Ideal.nD Cert.Reference10Ideal.τ).loc Cert.Reference10Ideal.main_v155) = v4 c
          ∧ r.2.mem ((c.tc : Thread Cert.Reference10Ideal.nD Cert.Reference10Ideal.τ).loc Cert.Reference10Ideal.main_v156) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hReference3Ideal : Cert.Reference3Ideal.Facts) (hKernel3 : Cert.Kernel3.Facts) (hKernel3Ideal : Cert.Kernel3Ideal.Facts) (hReference4Ideal : Cert.Reference4Ideal.Facts) (hKernel4 : Cert.Kernel4.Facts) (hKernel4Ideal : Cert.Kernel4Ideal.Facts) (hReference5Ideal : Cert.Reference5Ideal.Facts) (hKernel5 : Cert.Kernel5.Facts) (hKernel5Ideal : Cert.Kernel5Ideal.Facts) (hReference6Ideal : Cert.Reference6Ideal.Facts) (hKernel6 : Cert.Kernel6.Facts) (hKernel6Ideal : Cert.Kernel6Ideal.Facts) (hReference7Ideal : Cert.Reference7Ideal.Facts) (hKernel7 : Cert.Kernel7.Facts) (hKernel7Ideal : Cert.Kernel7Ideal.Facts) (hReference8Ideal : Cert.Reference8Ideal.Facts) (hKernel8 : Cert.Kernel8.Facts) (hKernel8Ideal : Cert.Kernel8Ideal.Facts) (hReference9Ideal : Cert.Reference9Ideal.Facts) (hKernel9 : Cert.Kernel9.Facts) (hKernel9Ideal : Cert.Kernel9Ideal.Facts) (hReference10Ideal : Cert.Reference10Ideal.Facts) (hPre_finite : Cert.Pre_finite.Facts) (hOn_whole_sums : Cert.On_whole_sums.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference3Ideal (hReference3Ideal := hReference3Ideal)
    ∧ quiescent_Kernel3 (hKernel3 := hKernel3)
    ∧ quiescent_Kernel3Ideal (hKernel3Ideal := hKernel3Ideal)
    ∧ quiescent_Reference4Ideal (hReference4Ideal := hReference4Ideal)
    ∧ quiescent_Kernel4 (hKernel4 := hKernel4)
    ∧ quiescent_Kernel4Ideal (hKernel4Ideal := hKernel4Ideal)
    ∧ quiescent_Reference5Ideal (hReference5Ideal := hReference5Ideal)
    ∧ quiescent_Kernel5 (hKernel5 := hKernel5)
    ∧ quiescent_Kernel5Ideal (hKernel5Ideal := hKernel5Ideal)
    ∧ quiescent_Reference6Ideal (hReference6Ideal := hReference6Ideal)
    ∧ quiescent_Kernel6 (hKernel6 := hKernel6)
    ∧ quiescent_Kernel6Ideal (hKernel6Ideal := hKernel6Ideal)
    ∧ quiescent_Reference7Ideal (hReference7Ideal := hReference7Ideal)
    ∧ quiescent_Kernel7 (hKernel7 := hKernel7)
    ∧ quiescent_Kernel7Ideal (hKernel7Ideal := hKernel7Ideal)
    ∧ quiescent_Reference8Ideal (hReference8Ideal := hReference8Ideal)
    ∧ quiescent_Kernel8 (hKernel8 := hKernel8)
    ∧ quiescent_Kernel8Ideal (hKernel8Ideal := hKernel8Ideal)
    ∧ quiescent_Reference9Ideal (hReference9Ideal := hReference9Ideal)
    ∧ quiescent_Kernel9 (hKernel9 := hKernel9)
    ∧ quiescent_Kernel9Ideal (hKernel9Ideal := hKernel9Ideal)
    ∧ quiescent_Reference10Ideal (hReference10Ideal := hReference10Ideal)
    ∧ preserves_Kernel_KernelIdeal
    ∧ algebraic_KernelIdeal_ReferenceIdeal_on_whole_sums_pre_finite (hKernelIdeal := hKernelIdeal) (hReferenceIdeal := hReferenceIdeal) (hPre_finite := hPre_finite) (hOn_whole_sums := hOn_whole_sums)
    ∧ preserves_Kernel2_Kernel2Ideal
    ∧ algebraic_Kernel2Ideal_Reference2Ideal (hKernel2Ideal := hKernel2Ideal) (hReference2Ideal := hReference2Ideal)
    ∧ algebraic_Kernel2Ideal_Reference3Ideal (hKernel2Ideal := hKernel2Ideal) (hReference3Ideal := hReference3Ideal)
    ∧ preserves_Kernel3_Kernel3Ideal
    ∧ algebraic_Kernel3Ideal_Reference4Ideal (hKernel3Ideal := hKernel3Ideal) (hReference4Ideal := hReference4Ideal)
    ∧ preserves_Kernel4_Kernel4Ideal
    ∧ algebraic_Kernel4Ideal_Reference5Ideal (hKernel4Ideal := hKernel4Ideal) (hReference5Ideal := hReference5Ideal)
    ∧ preserves_Kernel5_Kernel5Ideal
    ∧ algebraic_Kernel5Ideal_Reference6Ideal (hKernel5Ideal := hKernel5Ideal) (hReference6Ideal := hReference6Ideal)
    ∧ preserves_Kernel6_Kernel6Ideal
    ∧ algebraic_Kernel6Ideal_Reference7Ideal (hKernel6Ideal := hKernel6Ideal) (hReference7Ideal := hReference7Ideal)
    ∧ preserves_Kernel7_Kernel7Ideal
    ∧ algebraic_Kernel7Ideal_Reference8Ideal (hKernel7Ideal := hKernel7Ideal) (hReference8Ideal := hReference8Ideal)
    ∧ preserves_Kernel8_Kernel8Ideal
    ∧ algebraic_Kernel8Ideal_Reference9Ideal (hKernel8Ideal := hKernel8Ideal) (hReference9Ideal := hReference9Ideal)
    ∧ preserves_Kernel9_Kernel9Ideal
    ∧ algebraic_Kernel9Ideal_Reference10Ideal (hKernel9Ideal := hKernel9Ideal) (hReference10Ideal := hReference10Ideal)
-- ==== On_whole_sums.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x8x2816 : Shape := ⟨3, ![8, 8, 2816]⟩
abbrev S_ : Shape := ⟨0, ![]⟩
abbrev S2816x4096 : Shape := ⟨2, ![2816, 4096]⟩
abbrev S1x1024 : Shape := ⟨2, ![1, 1024]⟩

class Facts : Prop where
  bcast_S_S8x8x2816 : S_.BroadcastsInDim S8x8x2816 (![] : Fin 0 → Fin S8x8x2816.rank)
  bcast_S_S4096x1024 : S_.BroadcastsInDim S4096x1024 (![] : Fin 0 → Fin S4096x1024.rank)
  bcast_S_S2816x4096 : S_.BroadcastsInDim S2816x4096 (![] : Fin 0 → Fin S2816x4096.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1024 .f32) (main_arg2 : FVec F S1024x5632 .f32) (main_arg3 : FVec F S3x5632 .f32) (main_arg4 : FVec F S5632 .f32) (main_arg5 : FVec F S2816x1024 .f32) (main_arg6 : FVec F S1024 .f32) (main_arg7 : FVec F S4096x1024 .f32) : IVec S4096x1024 1 × IVec S2816x4096 1 × IVec S2816x4096 1 × IVec S8x8x2816 1 × IVec S8x8x2816 1 × IVec S1x1024 1 × IVec S4096x1024 1 × IVec S1x1024 1 :=
  let main_v0 : IVec S8x8x2816 32 := iotaInDim S8x8x2816 32 0
  let main_c : IVec S_ 32 := constantI S_ 32 7#32
  let main_v1 : IVec S8x8x2816 32 := broadcastInDim S8x8x2816 ![] bcast_S_S8x8x2816 main_c
  let main_v2 : IVec S8x8x2816 1 := cmpi .eq main_v0 main_v1
  let main_c_0 : IVec S_ 1 := constantI S_ 1 1#1
  let main_v3 : IVec S4096x1024 1 := broadcastInDim S4096x1024 ![] bcast_S_S4096x1024 main_c_0
  let main_c_1 : IVec S_ 1 := constantI S_ 1 1#1
  let main_v4 : IVec S2816x4096 1 := broadcastInDim S2816x4096 ![] bcast_S_S2816x4096 main_c_1
  let main_c_2 : IVec S_ 1 := constantI S_ 1 1#1
  let main_v5 : IVec S2816x4096 1 := broadcastInDim S2816x4096 ![] bcast_S_S2816x4096 main_c_2
  let main_c_3 : IVec S_ 1 := constantI S_ 1 1#1
  let main_v6 : IVec S1x1024 1 := broadcastInDim S1x1024 ![] bcast_S_S1x1024 main_c_3
  let main_c_4 : IVec S_ 1 := constantI S_ 1 1#1
  let main_v7 : IVec S4096x1024 1 := broadcastInDim S4096x1024 ![] bcast_S_S4096x1024 main_c_4
  let main_c_5 : IVec S_ 1 := constantI S_ 1 1#1
  let main_v8 : IVec S1x1024 1 := broadcastInDim S1x1024 ![] bcast_S_S1x1024 main_c_5
  (main_v3, main_v4, main_v5, main_v2, main_v2, main_v6, main_v7, main_v8)
-- ==== Pre_finite.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)

variable [Facts]

def fn_part1 {F : FTy → Type} [FloatOps F] (main_arg6 : FVec F S1024 .f32) (main_arg7 : FVec F S4096x1024 .f32) (main_v2 : IVec S4096x1024 1) (main_v5 : IVec S1024 1) (main_v8 : IVec S1024x5632 1) (main_v11 : IVec S3x5632 1) (main_v14 : IVec S5632 1) (main_v17 : IVec S2816x1024 1) : IVec S4096x1024 1 × IVec S1024 1 × IVec S1024x5632 1 × IVec S3x5632 1 × IVec S5632 1 × IVec S2816x1024 1 × IVec S1024 1 × IVec S4096x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S1024 .f32) (main_arg2 : FVec F S1024x5632 .f32) (main_arg3 : FVec F S3x5632 .f32) (main_arg4 : FVec F S5632 .f32) (main_arg5 : FVec F S2816x1024 .f32) (main_arg6 : FVec F S1024 .f32) (main_arg7 : FVec F S4096x1024 .f32) : IVec S4096x1024 1 × IVec S1024 1 × IVec S1024x5632 1 × IVec S3x5632 1 × IVec S5632 1 × IVec S2816x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S5632 .f32 := Host.absf main_arg4
  let main_cst_3 : FVec F S_ .f32 := constant S_ .f32 0x7F800000#32
  let main_v13 : FVec F S5632 .f32 := broadcastInDim S5632 ![] bcast_S_S5632 main_cst_3
  let main_v14 : IVec S5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_arg7 main_v2 main_v5 main_v8 main_v11 main_v14 main_v17
-- ==== Kernel.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S5632x1024 : Shape := ⟨2, ![5632, 1024]⟩
abbrev S2816x4096 : Shape := ⟨2, ![2816, 4096]⟩
abbrev S8x8x2816 : Shape := ⟨3, ![8, 8, 2816]⟩
abbrev S512x1024 : Shape := ⟨2, ![512, 1024]⟩
abbrev S512x256 : Shape := ⟨2, ![512, 256]⟩
abbrev S8x256 : Shape := ⟨2, ![8, 256]⟩
abbrev S3x256 : Shape := ⟨2, ![3, 256]⟩
abbrev S1x256 : Shape := ⟨2, ![1, 256]⟩
abbrev S256x1024 : Shape := ⟨2, ![256, 1024]⟩
abbrev S256x512 : Shape := ⟨2, ![256, 512]⟩
abbrev S1x8x256 : Shape := ⟨3, ![1, 8, 256]⟩
abbrev S2x512x256 : Shape := ⟨3, ![2, 512, 256]⟩
abbrev S11x8x256 : Shape := ⟨3, ![11, 8, 256]⟩
abbrev S8x1 : Shape := ⟨2, ![8, 1]⟩
abbrev S512 : Shape := ⟨1, ![512]⟩
abbrev S512x1 : Shape := ⟨2, ![512, 1]⟩
abbrev S1x512x256 : Shape := ⟨3, ![1, 512, 256]⟩
abbrev S504x256 : Shape := ⟨2, ![504, 256]⟩
abbrev S256 : Shape := ⟨1, ![256]⟩

abbrev nBuf : Space → Nat
  | .hbm => 88
  | .vmem => 59
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S_, .f32⟩
  | .hbm, ⟨26, _⟩ => ⟨S2x5632, .f32⟩
  | .hbm, ⟨27, _⟩ => ⟨S4098x5632, .f32⟩
  | .hbm, ⟨28, _⟩ => ⟨S1x5632, .f32⟩
  | .hbm, ⟨29, _⟩ => ⟨S5632, .f32⟩
  | .hbm, ⟨30, _⟩ => ⟨S4096x5632, .f32⟩
  | .hbm, ⟨31, _⟩ => ⟨S1x5632, .f32⟩
  | .hbm, ⟨32, _⟩ => ⟨S4096x5632, .f32⟩
  | .hbm, ⟨33, _⟩ => ⟨S4096x5632, .f32⟩
  | .hbm, ⟨34, _⟩ => ⟨S1x5632, .f32⟩
  | .hbm, ⟨35, _⟩ => ⟨S4096x5632, .f32⟩
  | .hbm, ⟨36, _⟩ => ⟨S4096x5632, .f32⟩
  | .hbm, ⟨37, _⟩ => ⟨S1x5632, .f32⟩
  | .hbm, ⟨38, _⟩ => ⟨S5632, .f32⟩
  | .hbm, ⟨39, _⟩ => ⟨S4096x5632, .f32⟩
  | .hbm, ⟨40, _⟩ => ⟨S1x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S1x5632, .f32⟩
  | .hbm, ⟨45, _⟩ => ⟨S5632, .f32⟩
  | .hbm, ⟨46, _⟩ => ⟨S4096x5632, .f32⟩
  | .hbm, ⟨47, _⟩ => ⟨S1x5632, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S4096x2816, .f32⟩
  | .hbm, ⟨52, _⟩ => ⟨S4096x2816, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S_, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S_, .f32⟩
  | .hbm, ⟨66, _⟩ => ⟨S4096x2816, .f32⟩
  | .hbm, ⟨67, _⟩ => ⟨S4096x2816, .f32⟩
  | .hbm, ⟨68, _⟩ => ⟨S_, .f32⟩
  | .hbm, ⟨69, _⟩ => ⟨S4096x2816, .f32⟩
  | .hbm, ⟨70, _⟩ => ⟨S4096x2816, .f32⟩
  | .hbm, ⟨71, _⟩ => ⟨S4096x2816, .f32⟩
  | .hbm, ⟨72, _⟩ => ⟨S4096x2816, .f32⟩
  | .hbm, ⟨73, _⟩ => ⟨S4096x1024, .f32⟩
  | .hbm, ⟨74, _⟩ => ⟨S1x5632, .f32⟩
  | .hbm, ⟨75, _⟩ => ⟨S2816x1024, .bf16⟩
  | .hbm, ⟨76, _⟩ => ⟨S1x1024, .f32⟩
  | .hbm, ⟨77, _⟩ => ⟨S5632x1024, .f32⟩
  | .hbm, ⟨78, _⟩ => ⟨S5632x1024, .bf16⟩
  | .hbm, ⟨79, _⟩ => ⟨S1x1024, .f32⟩
  | .hbm, ⟨80, _⟩ => ⟨S4096x1024, .bf16⟩
  | .hbm, ⟨81, _⟩ => ⟨S2816x4096, .bf16⟩
  | .hbm, ⟨82, _⟩ => ⟨S2816x4096, .bf16⟩
  | .hbm, ⟨83, _⟩ => ⟨S8x8x2816, .f32⟩
  | .hbm, ⟨84, _⟩ => ⟨S8x8x2816, .f32⟩
  | .hbm, ⟨85, _⟩ => ⟨S1x1024, .f32⟩
  | .hbm, ⟨86, _⟩ => ⟨S4096x1024, .f32⟩
  | .hbm, ⟨87, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S512x1024, .f32⟩
  | .local _ .vmem, ⟨28, _⟩ => ⟨S512x1024, .f32⟩
  | .local _ .vmem, ⟨29, _⟩ => ⟨S1x1024, .f32⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S512x1024, .bf16⟩
  | .local _ .vmem, ⟨37, _⟩ => ⟨S512x1024, .bf16⟩
  | .local _ .vmem, ⟨38, _⟩ => ⟨S256x512, .bf16⟩
  | .local _ .vmem, ⟨39, _⟩ => ⟨S256x512, .bf16⟩
  | .local _ .vmem, ⟨40, _⟩ => ⟨S256x512, .bf16⟩
  | .local _ .vmem, ⟨41, _⟩ => ⟨S256x512, .bf16⟩
  | .local _ .vmem, ⟨42, _⟩ => ⟨S1x8x256, .f32⟩
  | .local _ .vmem, ⟨43, _⟩ => ⟨S1x8x256, .f32⟩
  | .local _ .vmem, ⟨44, _⟩ => ⟨S1x8x256, .f32⟩
  | .local _ .vmem, ⟨45, _⟩ => ⟨S1x8x256, .f32⟩
  | .local _ .vmem, ⟨46, _⟩ => ⟨S1x1024, .f32⟩
  | .local _ .vmem, ⟨47, _⟩ => ⟨S512x1024, .f32⟩
  | .local _ .vmem, ⟨48, _⟩ => ⟨S512x1024, .f32⟩
  | .local _ .vmem, ⟨49, _⟩ => ⟨S1x1024, .f32⟩
  | .local _ .vmem, ⟨50, _⟩ => ⟨S512x1024, .bf16⟩
  | .local _ .vmem, ⟨51, _⟩ => ⟨S512x1024, .f32⟩
  | .local _ .vmem, ⟨52, _⟩ => ⟨S2x512x256, .f32⟩
  | .local _ .vmem, ⟨53, _⟩ => ⟨S512x256, .bf16⟩
  | .local _ .vmem, ⟨54, _⟩ => ⟨S512x256, .bf16⟩
  | .local _ .vmem, ⟨55, _⟩ => ⟨S11x8x256, .f32⟩
  | .local _ .vmem, ⟨56, _⟩ => ⟨S11x8x256, .f32⟩
  | .local _ .vmem, ⟨57, _⟩ => ⟨S11x8x256, .f32⟩
  | .local _ .vmem, ⟨58, _⟩ => ⟨S11x8x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63_0 : Ref sig .tc := ⟨.hbm, 80, rfl⟩
abbrev main_v63_1 : Ref sig .tc := ⟨.hbm, 81, rfl⟩
abbrev main_v63_2 : Ref sig .tc := ⟨.hbm, 82, rfl⟩
abbrev main_v63_3 : Ref sig .tc := ⟨.hbm, 83, rfl⟩
abbrev main_v63_4 : Ref sig .tc := ⟨.hbm, 84, rfl⟩
abbrev main_v63_5 : Ref sig .tc := ⟨.hbm, 85, rfl⟩
abbrev main_v63_6 : Ref sig .tc := ⟨.hbm, 86, rfl⟩
abbrev main_v63_7 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg25_0 : Ref sig .tc := ⟨.vmem, 47, rfl⟩
abbrev cc0_stg25_1 : Ref sig .tc := ⟨.vmem, 48, rfl⟩
abbrev cc0_stg26_0 : Ref sig .tc := ⟨.vmem, 49, rfl⟩
abbrev cc0_scratch0 : Ref sig .tc := ⟨.vmem, 50, rfl⟩
abbrev cc0_scratch1 : Ref sig .tc := ⟨.vmem, 51, rfl⟩
abbrev cc0_scratch2 : Ref sig .tc := ⟨.vmem, 52, rfl⟩
abbrev cc0_scratch3 : Ref sig .tc := ⟨.vmem, 53, rfl⟩
abbrev cc0_scratch4 : Ref sig .tc := ⟨.vmem, 54, rfl⟩
abbrev cc0_scratch5 : Ref sig .tc := ⟨.vmem, 55, rfl⟩
abbrev cc0_scratch6 : Ref sig .tc := ⟨.vmem, 56, rfl⟩
abbrev cc0_scratch7 : Ref sig .tc := ⟨.vmem, 57, rfl⟩
abbrev cc0_scratch8 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45
abbrev cc0_sem24_0 : DmaSem sig := 46
abbrev cc0_sem25_0 : DmaSem sig := 47
abbrev cc0_sem25_1 : DmaSem sig := 48
abbrev cc0_sem26_0 : DmaSem sig := 49

abbrev nD : Nat := 1
abbrev τ : Topo := Topo.v7x

variable {F : FTy → Type} [FloatOps F]

abbrev grid0 : Pipeline.Grid := ⟨2, ![8, 11], ![false, false]⟩

def k0_cond4 (i : grid0.Coords) : BitVec 1 :=
  let arg0 : BitVec 32 := BitVec.ofNat 32 (i 0).val
  let c0_i32_6 : BitVec 32 := 0#32
  let v16 : BitVec 1 := Scalar.cmpi .eq arg0 c0_i32_6
  let v17 : BitVec 32 := Scalar.extui v16
  let c0_i32_7 : BitVec 32 := 0#32
  let v18 : BitVec 1 := Scalar.cmpi .ne v17 c0_i32_7
  v18

def k0_off1 (i : grid0.Coords) : Fin 3 → Nat :=
  let arg1 : BitVec 32 := BitVec.ofNat 32 (i 1).val
  let v410 : Index := Scalar.indexCast arg1
  let c0_149 : Index := 0#32
  let c0_150 : Index := 0#32
  ![v410.toNat, 0, 0]
def k0_off2 (i : grid0.Coords) : Fin 3 → Nat :=
  let arg1 : BitVec 32 := BitVec.ofNat 32 (i 1).val
  let c2_i32 : BitVec 32 := 2#32
  let c0_i32_0 : BitVec 32 := 0#32
  let v3 : BitVec 1 := Scalar.cmpi .eq c2_i32 c0_i32_0
  let c1_i32 : BitVec 32 := 1#32
  let v4 : BitVec 32 := Scalar.select v3 c1_i32 c2_i32
  let v5 : BitVec 32 := Scalar.remsi arg1 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v19 : Index := Scalar.indexCast v12
  let c0 : Index := 0#32
  let c0_8 : Index := 0#32
  ![v19.toNat, 0, 0]
def k0_off3 (i : grid0.Coords) : Fin 3 → Nat :=
  let c1_i32_13 : BitVec 32 := 1#32
  let arg1 : BitVec 32 := BitVec.ofNat 32 (i 1).val
  let c2_i32 : BitVec 32 := 2#32
  let c0_i32_0 : BitVec 32 := 0#32
  let v3 : BitVec 1 := Scalar.cmpi .eq c2_i32 c0_i32_0
  let c1_i32 : BitVec 32 := 1#32
  let v4 : BitVec 32 := Scalar.select v3 c1_i32 c2_i32
  let v5 : BitVec 32 := Scalar.remsi arg1 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v26 : BitVec 32 := Scalar.subi c1_i32_13 v12
  let v27 : Index := Scalar.indexCast v26
  let c0_14 : Index := 0#32
  let c0_15 : Index := 0#32
  ![v27.toNat, 0, 0]
def k0_off4 (i : grid0.Coords) : Fin 3 → Nat :=
  let arg1 : BitVec 32 := BitVec.ofNat 32 (i 1).val
  let v184 : Index := Scalar.indexCast arg1
  let c0_77 : Index := 0#32
  let c0_78 : Index := 0#32
  ![v184.toNat, 0, 0]
def k0_cond1 (i : grid0.Coords) : BitVec 1 :=
  let arg1 : BitVec 32 := BitVec.ofNat 32 (i 1).val
  let c0_i32_4 : BitVec 32 := 0#32
  let v13 : BitVec 1 := Scalar.cmpi .eq arg1 c0_i32_4
  let v14 : BitVec 32 := Scalar.extui v13
  let c0_i32_5 : BitVec 32 := 0#32
  let v15 : BitVec 1 := Scalar.cmpi .ne v14 c0_i32_5
  v15

def k0_cond2 (i : grid0.Coords) : BitVec 1 :=
  let arg0 : BitVec 32 := BitVec.ofNat 32 (i 0).val
  let c0_i32_164 : BitVec 32 := 0#32
  let v445 : BitVec 1 := Scalar.cmpi .eq arg0 c0_i32_164
  let v446 : BitVec 32 := Scalar.extui v445
  let c0_i32_165 : BitVec 32 := 0#32
  let v447 : BitVec 1 := Scalar.cmpi .ne v446 c0_i32_165
  v447

def k0_cond3 (i : grid0.Coords) : BitVec 1 :=
  let arg0 : BitVec 32 := BitVec.ofNat 32 (i 0).val
  let c0_i32_164 : BitVec 32 := 0#32
  let v445 : BitVec 1 := Scalar.cmpi .eq arg0 c0_i32_164
  let v_true : BitVec 1 := 1#1
  let v448 : BitVec 1 := Scalar.xori v445 v_true
  let v449 : BitVec 32 := Scalar.extui v448
  let c0_i32_166 : BitVec 32 := 0#32
  let v450 : BitVec 1 := Scalar.cmpi .ne v449 c0_i32_166
  v450

def k0_cond5 (i : grid0.Coords) : BitVec 1 :=
  let arg1 : BitVec 32 := BitVec.ofNat 32 (i 1).val
  let c10_i32 : BitVec 32 := 10#32
  let v406 : BitVec 1 := Scalar.cmpi .eq arg1 c10_i32
  let v407 : BitVec 32 := Scalar.extui v406
  let c0_i32_147 : BitVec 32 := 0#32
  let v408 : BitVec 1 := Scalar.cmpi .ne v407 c0_i32_147
  v408

def k0_cond6 (i : grid0.Coords) : BitVec 1 :=
  let arg0 : BitVec 32 := BitVec.ofNat 32 (i 0).val
  let c0_i32_174 : BitVec 32 := 0#32
  let v451 : BitVec 1 := Scalar.cmpi .eq arg0 c0_i32_174
  let v452 : BitVec 32 := Scalar.extui v451
  let c0_i32_175 : BitVec 32 := 0#32
  let v453 : BitVec 1 := Scalar.cmpi .ne v452 c0_i32_175
  v453

def k0_cond7 (i : grid0.Coords) : BitVec 1 :=
  let arg0 : BitVec 32 := BitVec.ofNat 32 (i 0).val
  let c0_i32_174 : BitVec 32 := 0#32
  let v451 : BitVec 1 := Scalar.cmpi .eq arg0 c0_i32_174
  let v_true : BitVec 1 := 1#1
  let v454 : BitVec 1 := Scalar.xori v451 v_true
  let v455 : BitVec 32 := Scalar.extui v454
  let c0_i32_176 : BitVec 32 := 0#32
  let v456 : BitVec 1 := Scalar.cmpi .ne v455 c0_i32_176
  v456

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c11_i32 : BitVec 32 := 11#32
  let v1 : BitVec 32 := Scalar.addi c11_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let v4 : BitVec 32 := Scalar.addi c0_i32_0 arg1
  let c0_i32_1 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c11_i32 : BitVec 32 := 11#32
  let v4 : BitVec 32 := Scalar.addi c11_i32 arg1
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c10_i32 : BitVec 32 := 10#32
  let v1 : BitVec 32 := Scalar.minsi v0 c10_i32
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c11_i32 : BitVec 32 := 11#32
  let v2 : BitVec 32 := Scalar.addi c11_i32 v1
  let c0_i32_0 : BitVec 32 := 0#32
  let c0_i32_1 : BitVec 32 := 0#32
  ![v2.toNat, c0_i32_0.toNat]

def cc0_transform_19 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![arg1.toNat, v0.toNat]

def cc0_transform_21 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![arg1.toNat, v0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x8x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S512x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S2816x4096 : Shape := ⟨2, ![2816, 4096]⟩
abbrev S3x2816 : Shape := ⟨2, ![3, 2816]⟩
abbrev S2816 : Shape := ⟨1, ![2816]⟩
abbrev S1x2816 : Shape := ⟨2, ![1, 2816]⟩
abbrev S4x2816 : Shape := ⟨2, ![4, 2816]⟩
abbrev S8x2816 : Shape := ⟨2, ![8, 2816]⟩
abbrev S1x8x2816 : Shape := ⟨3, ![1, 8, 2816]⟩
abbrev S8x8x2816 : Shape := ⟨3, ![8, 8, 2816]⟩

abbrev nBuf : Space → Nat
  | .hbm => 256
  | .vmem => 0
  | .smem => 0
  | _ => 0

abbrev hbmTy0_0 (i : Nat) : BufTy := match i % 128 with
  | 0 => ⟨S4096x1024, .f32⟩
  | 1 => ⟨S1024, .f32⟩
  | 2 => ⟨S1024x5632, .f32⟩
  | 3 => ⟨S3x5632, .f32⟩
  | 4 => ⟨S5632, .f32⟩
  | 5 => ⟨S2816x1024, .f32⟩
  | 6 => ⟨S1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x5632, .f32⟩
  | 29 => ⟨S_, .f32⟩
  | 30 => ⟨S2x5632, .f32⟩
  | 31 => ⟨S4098x5632, .f32⟩
  | 32 => ⟨S_, .f32⟩
  | 33 => ⟨S2x5632, .f32⟩
  | 34 => ⟨S1x5632, .f32⟩
  | 35 => ⟨S5632, .f32⟩
  | 36 => ⟨S4096x5632, .f32⟩
  | 37 => ⟨S1x5632, .f32⟩
  | 38 => ⟨S4096x5632, .f32⟩
  | 39 => ⟨S4096x5632, .f32⟩
  | 40 => ⟨S1x5632, .f32⟩
  | 41 => ⟨S4096x5632, .f32⟩
  | 42 => ⟨S4096x5632, .f32⟩
  | 43 => ⟨S1x5632, .f32⟩
  | 44 => ⟨S5632, .f32⟩
  | 45 => ⟨S4096x5632, .f32⟩
  | 46 => ⟨S1x5632, .f32⟩
  | 47 => ⟨S4096x5632, .f32⟩
  | 48 => ⟨S4096x5632, .f32⟩
  | 49 => ⟨S4096x5632, .f32⟩
  | 50 => ⟨S1x5632, .f32⟩
  | 51 => ⟨S5632, .f32⟩
  | 52 => ⟨S4096x5632, .f32⟩
  | 53 => ⟨S1x5632, .f32⟩
  | 54 => ⟨S4096x5632, .f32⟩
  | 55 => ⟨S4096x5632, .f32⟩
  | 56 => ⟨S4096x5632, .f32⟩
  | 57 => ⟨S4096x2816, .f32⟩
  | 58 => ⟨S4096x2816, .f32⟩
  | 59 => ⟨S_, .f32⟩
  | 60 => ⟨S_, .f32⟩
  | 61 => ⟨S_, .f32⟩
  | 62 => ⟨S4096x2816, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S4096x2816, .f32⟩
  | 69 => ⟨S4096x2816, .f32⟩
  | 70 => ⟨S4096x2816, .f32⟩
  | 71 => ⟨S_, .f32⟩
  | 72 => ⟨S4096x2816, .f32⟩
  | 73 => ⟨S4096x2816, .f32⟩
  | 74 => ⟨S4096x2816, .f32⟩
  | 75 => ⟨S_, .f32⟩
  | 76 => ⟨S4096x2816, .f32⟩
  | 77 => ⟨S4096x2816, .f32⟩
  | 78 => ⟨S_, .f32⟩
  | 79 => ⟨S4096x2816, .f32⟩
  | 80 => ⟨S4096x2816, .f32⟩
  | 81 => ⟨S4096x2816, .f32⟩
  | 82 => ⟨S_, .f32⟩
  | 83 => ⟨S4096x2816, .f32⟩
  | 84 => ⟨S4096x2816, .f32⟩
  | 85 => ⟨S_, .f32⟩
  | 86 => ⟨S4096x2816, .f32⟩
  | 87 => ⟨S4096x2816, .f32⟩
  | 88 => ⟨S4096x2816, .f32⟩
  | 89 => ⟨S4096x2816, .f32⟩
  | 90 => ⟨S4096x1024, .f32⟩
  | 91 => ⟨S4096x1024, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096x1, .f32⟩
  | 100 => ⟨S4096x1, .f32⟩
  | 101 => ⟨S4096x1, .f32⟩
  | 102 => ⟨S4096x1, .f32⟩
  | 103 => ⟨S_, .f32⟩
  | 104 => ⟨S4096x1, .f32⟩
  | 105 => ⟨S4096x1, .f32⟩
  | 106 => ⟨S4096x1024, .f32⟩
  | 107 => ⟨S4096x1024, .f32⟩
  | 108 => ⟨S1x1024, .f32⟩
  | 109 => ⟨S4096x1024, .f32⟩
  | 110 => ⟨S4096x1024, .f32⟩
  | 111 => ⟨S4096x1024, .f32⟩
  | 112 => ⟨S_, .f32⟩
  | 113 => ⟨S1024, .f32⟩
  | 114 => ⟨S1x1024, .f32⟩
  | 115 => ⟨S4096x1024, .f32⟩
  | 116 => ⟨S4096x1024, .f32⟩
  | 117 => ⟨S_, .f32⟩
  | 118 => ⟨S1024, .f32⟩
  | 119 => ⟨S4096x1024, .f32⟩
  | 120 => ⟨S_, .f32⟩
  | 121 => ⟨S4096, .f32⟩
  | 122 => ⟨S4096x1, .f32⟩
  | 123 => ⟨S4096x1024, .f32⟩
  | 124 => ⟨S4096x1024, .f32⟩
  | 125 => ⟨S4096x1, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S_, .f32⟩
  | 2 => ⟨S4096, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x2816, .f32⟩
  | 9 => ⟨S4096x2816, .f32⟩
  | 10 => ⟨S4096x2816, .f32⟩
  | 11 => ⟨S4096x2816, .f32⟩
  | 12 => ⟨S4096x2816, .f32⟩
  | 13 => ⟨S_, .f32⟩
  | 14 => ⟨S4096x2816, .f32⟩
  | 15 => ⟨S4096x2816, .f32⟩
  | 16 => ⟨S4096x2816, .f32⟩
  | 17 => ⟨S_, .f32⟩
  | 18 => ⟨S4096x2816, .f32⟩
  | 19 => ⟨S4096x2816, .f32⟩
  | 20 => ⟨S4096x2816, .f32⟩
  | 21 => ⟨S4096x2816, .f32⟩
  | 22 => ⟨S4096x2816, .f32⟩
  | 23 => ⟨S4096x2816, .f32⟩
  | 24 => ⟨S4096x2816, .f32⟩
  | 25 => ⟨S4096x5632, .f32⟩
  | 26 => ⟨S4096x5632, .f32⟩
  | 27 => ⟨S4096x5632, .f32⟩
  | 28 => ⟨S4096x5632, .f32⟩
  | 29 => ⟨S_, .f32⟩
  | 30 => ⟨S5632, .f32⟩
  | 31 => ⟨S1x5632, .f32⟩
  | 32 => ⟨S_, .f32⟩
  | 33 => ⟨S5632, .f32⟩
  | 34 => ⟨S_, .f32⟩
  | 35 => ⟨S4098x5632, .f32⟩
  | 36 => ⟨S1x5632, .f32⟩
  | 37 => ⟨S_, .f32⟩
  | 38 => ⟨S3x5632, .f32⟩
  | 39 => ⟨S4096x5632, .f32⟩
  | 40 => ⟨S4096x5632, .f32⟩
  | 41 => ⟨S4096x5632, .f32⟩
  | 42 => ⟨S_, .f32⟩
  | 43 => ⟨S5632, .f32⟩
  | 44 => ⟨S1x5632, .f32⟩
  | 45 => ⟨S_, .f32⟩
  | 46 => ⟨S5632, .f32⟩
  | 47 => ⟨S_, .f32⟩
  | 48 => ⟨S4098x5632, .f32⟩
  | 49 => ⟨S4098x5632, .f32⟩
  | 50 => ⟨S1x5632, .f32⟩
  | 51 => ⟨S_, .f32⟩
  | 52 => ⟨S3x5632, .f32⟩
  | 53 => ⟨S3x5632, .f32⟩
  | 54 => ⟨S_, .f32⟩
  | 55 => ⟨S5632, .f32⟩
  | 56 => ⟨S1x5632, .f32⟩
  | 57 => ⟨S_, .f32⟩
  | 58 => ⟨S5632, .f32⟩
  | 59 => ⟨S4096x5632, .f32⟩
  | 60 => ⟨S4096x5632, .f32⟩
  | 61 => ⟨S4096x5632, .f32⟩
  | 62 => ⟨S_, .f32⟩
  | 63 => ⟨S5632, .f32⟩
  | 64 => ⟨S1x5632, .f32⟩
  | 65 => ⟨S_, .f32⟩
  | 66 => ⟨S5632, .f32⟩
  | 67 => ⟨S_, .f32⟩
  | 68 => ⟨S4098x5632, .f32⟩
  | 69 => ⟨S4098x5632, .f32⟩
  | 70 => ⟨S1x5632, .f32⟩
  | 71 => ⟨S_, .f32⟩
  | 72 => ⟨S3x5632, .f32⟩
  | 73 => ⟨S3x5632, .f32⟩
  | 74 => ⟨S2x5632, .f32⟩
  | 75 => ⟨S4096x5632, .f32⟩
  | 76 => ⟨S4096x1024, .f32⟩
  | 77 => ⟨S4096x1024, .f32⟩
  | 78 => ⟨S_, .f32⟩
  | 79 => ⟨S1024, .f32⟩
  | 80 => ⟨S1x1024, .f32⟩
  | 81 => ⟨S4096x1024, .f32⟩
  | 82 => ⟨S4096x1024, .f32⟩
  | 83 => ⟨S_, .f32⟩
  | 84 => ⟨S1024, .f32⟩
  | 85 => ⟨S4096x1024, .f32⟩
  | 86 => ⟨S_, .f32⟩
  | 87 => ⟨S4096, .f32⟩
  | 88 => ⟨S4096x1, .f32⟩
  | 89 => ⟨S4096x1024, .f32⟩
  | 90 => ⟨S4096x1024, .f32⟩
  | 91 => ⟨S4096x1, .f32⟩
  | 92 => ⟨S_, .f32⟩
  | 93 => ⟨S4096x1, .f32⟩
  | 94 => ⟨S4096x1, .f32⟩
  | 95 => ⟨S_, .f32⟩
  | 96 => ⟨S4096, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .bf16⟩
  | 103 => ⟨S4096x2816, .f32⟩
  | 104 => ⟨S2816x4096, .f32⟩
  | 105 => ⟨S2816x4096, .bf16⟩
  | 106 => ⟨S4096x2816, .f32⟩
  | 107 => ⟨S2816x4096, .f32⟩
  | 108 => ⟨S2816x4096, .bf16⟩
  | 109 => ⟨S3x2816, .f32⟩
  | 110 => ⟨S2816, .f32⟩
  | 111 => ⟨S1x2816, .f32⟩
  | 112 => ⟨S_, .f32⟩
  | 113 => ⟨S4x2816, .f32⟩
  | 114 => ⟨S8x2816, .f32⟩
  | 115 => ⟨S1x8x2816, .f32⟩
  | 116 => ⟨S8x8x2816, .f32⟩
  | 117 => ⟨S3x2816, .f32⟩
  | 118 => ⟨S2816, .f32⟩
  | 119 => ⟨S1x2816, .f32⟩
  | 120 => ⟨S_, .f32⟩
  | 121 => ⟨S4x2816, .f32⟩
  | 122 => ⟨S8x2816, .f32⟩
  | 123 => ⟨S1x8x2816, .f32⟩
  | 124 => ⟨S8x8x2816, .f32⟩
  | 125 => ⟨S1x1024, .f32⟩
  | 126 => ⟨S4096x1024, .f32⟩
  | 127 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_v72 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_17 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_v91 : Ref sig .tc := ⟨.hbm, 119, rfl⟩
abbrev main_cst_19 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_v97 : Ref sig .tc := ⟨.hbm, 127, rfl⟩
abbrev main_v98 : Ref sig .tc := ⟨.hbm, 128, rfl⟩
abbrev main_cst_21 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_22 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_23 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_24 : Ref sig .tc := ⟨.hbm, 157, rfl⟩
abbrev main_v124 : Ref sig .tc := ⟨.hbm, 158, rfl⟩
abbrev main_v125 : Ref sig .tc := ⟨.hbm, 159, rfl⟩
abbrev main_cst_25 : Ref sig .tc := ⟨.hbm, 160, rfl⟩
abbrev main_v126 : Ref sig .tc := ⟨.hbm, 161, rfl⟩
abbrev main_cst_26 : Ref sig .tc := ⟨.hbm, 162, rfl⟩
abbrev main_v127 : Ref sig .tc := ⟨.hbm, 163, rfl⟩
abbrev main_v128 : Ref sig .tc := ⟨.hbm, 164, rfl⟩
abbrev main_cst_27 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_28 : Ref sig .tc := ⟨.hbm, 170, rfl⟩
abbrev main_v133 : Ref sig .tc := ⟨.hbm, 171, rfl⟩
abbrev main_v134 : Ref sig .tc := ⟨.hbm, 172, rfl⟩
abbrev main_cst_29 : Ref sig .tc := ⟨.hbm, 173, rfl⟩
abbrev main_v135 : Ref sig .tc := ⟨.hbm, 174, rfl⟩
abbrev main_cst_30 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_31 : Ref sig .tc := ⟨.hbm, 179, rfl⟩
abbrev main_v139 : Ref sig .tc := ⟨.hbm, 180, rfl⟩
abbrev main_v140 : Ref sig .tc := ⟨.hbm, 181, rfl⟩
abbrev main_cst_32 : Ref sig .tc := ⟨.hbm, 182, rfl⟩
abbrev main_v141 : Ref sig .tc := ⟨.hbm, 183, rfl⟩
abbrev main_v142 : Ref sig .tc := ⟨.hbm, 184, rfl⟩
abbrev main_cst_33 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_34 : Ref sig .tc := ⟨.hbm, 190, rfl⟩
abbrev main_v147 : Ref sig .tc := ⟨.hbm, 191, rfl⟩
abbrev main_v148 : Ref sig .tc := ⟨.hbm, 192, rfl⟩
abbrev main_cst_35 : Ref sig .tc := ⟨.hbm, 193, rfl⟩
abbrev main_v149 : Ref sig .tc := ⟨.hbm, 194, rfl⟩
abbrev main_cst_36 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_37 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_38 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_cst_39 : Ref sig .tc := ⟨.hbm, 211, rfl⟩
abbrev main_v163 : Ref sig .tc := ⟨.hbm, 212, rfl⟩
abbrev main_v164 : Ref sig .tc := ⟨.hbm, 213, rfl⟩
abbrev main_cst_40 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_cst_41 : Ref sig .tc := ⟨.hbm, 220, rfl⟩
abbrev main_v170 : Ref sig .tc := ⟨.hbm, 221, rfl⟩
abbrev main_v171 : Ref sig .tc := ⟨.hbm, 222, rfl⟩
abbrev main_cst_42 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_cst_43 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_cst_44 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩
abbrev S1408x1024 : Shape := ⟨2, ![1408, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x4096, .f32⟩
  | .hbm, ⟨3, _⟩ => ⟨S2816x4096, .bf16⟩
  | .hbm, ⟨4, _⟩ => ⟨S4096x1024, .bf16⟩
  | .hbm, ⟨5, _⟩ => ⟨S2816x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Reference3Ideal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S5632x1024, .f32⟩
  | .hbm, ⟨5, _⟩ => ⟨S5632x1024, .bf16⟩
  | .hbm, ⟨6, _⟩ => ⟨S4096x5632, .f32⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel4.lean ====
abbrev S4096x1024 : Shape := ⟨2, ![4096, 1024]⟩
abbrev S4096x2048 : Shape := ⟨2, ![4096, 2048]⟩
abbrev S1024x4096 : Shape := ⟨2, ![1024, 4096]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x4096, .f32⟩
  | .hbm, ⟨3, _⟩ => ⟨S1024x4096, .bf16⟩
  | .hbm, ⟨4, _⟩ => ⟨S4096x2048, .bf16⟩
  | .hbm, ⟨5, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S1024x4096, .bf16⟩
  | .hbm, ⟨4, _⟩ => ⟨S4096x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x2048 : Shape := ⟨2, ![1024, 2048]⟩
abbrev S1x1024 : Shape := ⟨2, ![1, 1024]⟩
abbrev S4096x2048 : Shape := ⟨2, ![4096, 2048]⟩
abbrev S1024x4096 : Shape := ⟨2, ![1024, 4096]⟩
abbrev S1024x1024 : Shape := ⟨2, ![1024, 1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S4096x2048, .f32⟩
  | .hbm, ⟨6, _⟩ => ⟨S1024x4096, .bf16⟩
  | .hbm, ⟨7, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c2_i32 : BitVec 32 := 2#32
  let v8 : BitVec 1 := Scalar.cmpi .slt arg1 c2_i32
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S1024x4096 : Shape := ⟨2, ![1024, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S1024x4096, .f32⟩
  | .hbm, ⟨21, _⟩ => ⟨S1024x4096, .bf16⟩
  | .hbm, ⟨22, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel7.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x2048, .bf16⟩
  | .hbm, ⟨6, _⟩ => ⟨S1024x2048, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_5 : BitVec 32 := 0#32
  let v13 : BitVec 1 := Scalar.cmpi .ne v12 c0_i32_5
  v13

def k0_cond4 (i : grid0.Coords) : BitVec 1 :=
  let arg0 : BitVec 32 := BitVec.ofNat 32 (i 0).val
  let c0_i32_22 : BitVec 32 := 0#32
  let v46 : BitVec 1 := Scalar.cmpi .eq arg0 c0_i32_22
  let v47 : BitVec 32 := Scalar.extui v46
  let c0_i32_23 : BitVec 32 := 0#32
  let v48 : BitVec 1 := Scalar.cmpi .ne v47 c0_i32_23
  v48

def k0_cond5 (i : grid0.Coords) : BitVec 1 :=
  let arg0 : BitVec 32 := BitVec.ofNat 32 (i 0).val
  let c0_i32_22 : BitVec 32 := 0#32
  let v46 : BitVec 1 := Scalar.cmpi .eq arg0 c0_i32_22
  let true_24 : BitVec 1 := 1#1
  let v49 : BitVec 1 := Scalar.xori v46 true_24
  let v50 : BitVec 32 := Scalar.extui v49
  let c0_i32_25 : BitVec 32 := 0#32
  let v51 : BitVec 1 := Scalar.cmpi .ne v50 c0_i32_25
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference8Ideal.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel8.lean ====
abbrev S4096x512 : Shape := ⟨2, ![4096, 512]⟩
abbrev S4096x256 : Shape := ⟨2, ![4096, 256]⟩
abbrev S1024 : Shape := ⟨1, ![1024]⟩
abbrev S1024x1024 : Shape := ⟨2, ![1024, 1024]⟩
abbrev S4096x1024 : Shape := ⟨2, ![4096, 1024]⟩
abbrev S1x1024 : Shape := ⟨2, ![1, 1024]⟩
abbrev S1024x4096 : Shape := ⟨2, ![1024, 4096]⟩
abbrev S512x512 : Shape := ⟨2, ![512, 512]⟩
abbrev S512x256 : Shape := ⟨2, ![512, 256]⟩
abbrev S512x1024 : Shape := ⟨2, ![512, 1024]⟩
abbrev S1024x512 : Shape := ⟨2, ![1024, 512]⟩
abbrev S1x512 : Shape := ⟨2, ![1, 512]⟩
abbrev S512 : Shape := ⟨1, ![512]⟩
abbrev S512x1 : Shape := ⟨2, ![512, 1]⟩
abbrev S1x256 : Shape := ⟨2, ![1, 256]⟩

abbrev nBuf : Space → Nat
  | .hbm => 13
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x256, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S4096x1024, .f32⟩
  | .hbm, ⟨7, _⟩ => ⟨S1x1024, .f32⟩
  | .hbm, ⟨8, _⟩ => ⟨S1024x1024, .bf16⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S1024x4096, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1024x512, .bf16⟩
  | .local _ .vmem, ⟨16, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S4096x512 : Shape := ⟨2, ![4096, 512]⟩
abbrev S4096x256 : Shape := ⟨2, ![4096, 256]⟩
abbrev S1024 : Shape := ⟨1, ![1024]⟩
abbrev S1024x1024 : Shape := ⟨2, ![1024, 1024]⟩
abbrev S4096x1024 : Shape := ⟨2, ![4096, 1024]⟩
abbrev S512 : Shape := ⟨1, ![512]⟩
abbrev S256 : Shape := ⟨1, ![256]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S1x256 : Shape := ⟨2, ![1, 256]⟩
abbrev S1x1024 : Shape := ⟨2, ![1, 1024]⟩
abbrev S1024x4096 : Shape := ⟨2, ![1024, 4096]⟩

abbrev nBuf : Space → Nat
  | .hbm => 79
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x256, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S4096x1024, .f32⟩
  | .hbm, ⟨7, _⟩ => ⟨S512, .f32⟩
  | .hbm, ⟨8, _⟩ => ⟨S256, .f32⟩
  | .hbm, ⟨9, _⟩ => ⟨S256, .f32⟩
  | .hbm, ⟨10, _⟩ => ⟨S4096x512, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x256, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x256, .f32⟩
  | .hbm, ⟨38, _⟩ => ⟨S4096x256, .f32⟩
  | .hbm, ⟨39, _⟩ => ⟨S1x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x256, .f32⟩
  | .hbm, ⟨54, _⟩ => ⟨S4096x256, .f32⟩
  | .hbm, ⟨55, _⟩ => ⟨S1x256, .f32⟩
  | .hbm, ⟨56, _⟩ => ⟨S4096x256, .f32⟩
  | .hbm, ⟨57, _⟩ => ⟨S4096x256, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S1024x4096, .f32⟩
  | .hbm, ⟨78, _⟩ => ⟨S1024x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel9.lean ====
abbrev S4096x1024 : Shape := ⟨2, ![4096, 1024]⟩
abbrev S4096x512 : Shape := ⟨2, ![4096, 512]⟩
abbrev S4096x256 : Shape := ⟨2, ![4096, 256]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1x512 : Shape := ⟨2, ![1, 512]⟩
abbrev S1x256 : Shape := ⟨2, ![1, 256]⟩
abbrev S256 : Shape := ⟨1, ![256]⟩

abbrev nBuf : Space → Nat
  | .hbm => 17
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x256, .f32⟩
  | .hbm, ⟨4, _⟩ => ⟨S4096x256, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1024x1024, .bf16⟩
  | .hbm, ⟨10, _⟩ => ⟨S1x1024, .f32⟩
  | .hbm, ⟨11, _⟩ => ⟨S4096x1024, .bf16⟩
  | .hbm, ⟨12, _⟩ => ⟨S4096x512, .f32⟩
  | .hbm, ⟨13, _⟩ => ⟨S4096x256, .f32⟩
  | .hbm, ⟨14, _⟩ => ⟨S4096x256, .f32⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x512, .f32⟩
  | .local _ .vmem, ⟨16, _⟩ => ⟨S512x512, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S1x1024, .f32⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v131 : BitVec 32 := Scalar.extui v0
  let c0_i32_49 : BitVec 32 := 0#32
  let v132 : BitVec 1 := Scalar.cmpi .ne v131 c0_i32_49
  v132

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_50 : BitVec 1 := 1#1
  let v133 : BitVec 1 := Scalar.xori v0 true_50
  let v134 : BitVec 32 := Scalar.extui v133
  let c0_i32_51 : BitVec 32 := 0#32
  let v135 : BitVec 1 := Scalar.cmpi .ne v134 c0_i32_51
  v135

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v32 : BitVec 32 := Scalar.extui v0
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v34 : BitVec 1 := Scalar.xori v0 v_true
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference10Ideal.lean ====
abbrev S4096x1024 : Shape := ⟨2, ![4096, 1024]⟩
abbrev S4096x512 : Shape := ⟨2, ![4096, 512]⟩
abbrev S4096x256 : Shape := ⟨2, ![4096, 256]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512 : Shape := ⟨1, ![512]⟩
abbrev S256 : Shape := ⟨1, ![256]⟩
abbrev S1x512 : Shape := ⟨2, ![1, 512]⟩
abbrev S1x256 : Shape := ⟨2, ![1, 256]⟩

abbrev nBuf : Space → Nat
  | .hbm => 201
  | .vmem => 0
  | .smem => 0
  | _ => 0

abbrev hbmTy0_0 (i : Nat) : BufTy := match i % 128 with
  | 0 => ⟨S4096x1024, .f32⟩
  | 1 => ⟨S4096x1024, .f32⟩
  | 2 => ⟨S4096x512, .f32⟩
  | 3 => ⟨S4096x256, .f32⟩
  | 4 => ⟨S4096x256, .f32⟩
  | 5 => ⟨S1024, .f32⟩
  | 6 => ⟨S1024x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x1024, .f32⟩
  | 29 => ⟨S_, .f32⟩
  | 30 => ⟨S1024, .f32⟩
  | 31 => ⟨S1x1024, .f32⟩
  | 32 => ⟨S4096x1024, .f32⟩
  | 33 => ⟨S4096x1024, .f32⟩
  | 34 => ⟨S_, .f32⟩
  | 35 => ⟨S1024, .f32⟩
  | 36 => ⟨S4096x1024, .f32⟩
  | 37 => ⟨S_, .f32⟩
  | 38 => ⟨S4096, .f32⟩
  | 39 => ⟨S4096x1, .f32⟩
  | 40 => ⟨S4096x1024, .f32⟩
  | 41 => ⟨S4096x1024, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S512, .f32⟩
  | 54 => ⟨S256, .f32⟩
  | 55 => ⟨S256, .f32⟩
  | 56 => ⟨S4096x512, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x512, .f32⟩
  | 72 => ⟨S4096x512, .f32⟩
  | 73 => ⟨S1x512, .f32⟩
  | 74 => ⟨S4096x512, .f32⟩
  | 75 => ⟨S4096x512, .f32⟩
  | 76 => ⟨S4096x256, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x256, .f32⟩
  | 92 => ⟨S4096x256, .f32⟩
  | 93 => ⟨S1x256, .f32⟩
  | 94 => ⟨S4096x256, .f32⟩
  | 95 => ⟨S4096x256, .f32⟩
  | 96 => ⟨S4096x256, .f32⟩
  | 97 => ⟨S_, .f32⟩
  | 98 => ⟨S4096, .f32⟩
  | 99 => ⟨S4096x1, .f32⟩
  | 100 => ⟨S_, .f32⟩
  | 101 => ⟨S4096x1, .f32⟩
  | 102 => ⟨S4096x1, .f32⟩
  | 103 => ⟨S_, .f32⟩
  | 104 => ⟨S4096x1, .f32⟩
  | 105 => ⟨S4096x1, .f32⟩
  | 106 => ⟨S4096x1, .f32⟩
  | 107 => ⟨S4096x1, .f32⟩
  | 108 => ⟨S_, .f32⟩
  | 109 => ⟨S4096x1, .f32⟩
  | 110 => ⟨S4096x1, .f32⟩
  | 111 => ⟨S4096x256, .f32⟩
  | 112 => ⟨S4096x256, .f32⟩
  | 113 => ⟨S1x256, .f32⟩
  | 114 => ⟨S4096x256, .f32⟩
  | 115 => ⟨S4096x256, .f32⟩
  | 116 => ⟨S4096x1024, .f32⟩
  | 117 => ⟨S4096x1024, .f32⟩
  | 118 => ⟨S4096x1024, .f32⟩
  | 119 => ⟨S4096x512, .f32⟩
  | 120 => ⟨S4096x256, .f32⟩
  | 121 => ⟨S4096x256, .f32⟩
  | 122 => ⟨S4096x256, .f32⟩
  | 123 => ⟨S_, .f32⟩
  | 124 => ⟨S256, .f32⟩
  | 125 => ⟨S1x256, .f32⟩
  | 126 => ⟨S4096x256, .f32⟩
  | 127 => ⟨S4096x256, .f32⟩
  | _ => ⟨S4096x1024, .f32⟩

abbrev hbmTy0_1 (i : Nat) : BufTy := match i % 128 with
  | 0 => ⟨S_, .f32⟩
  | 1 => ⟨S256, .f32⟩
  | 2 => ⟨S4096x256, .f32⟩
  | 3 => ⟨S_, .f32⟩
  | 4 => ⟨S4096, .f32⟩
  | 5 => ⟨S4096x1, .f32⟩
  | 6 => ⟨S4096x256, .f32⟩
  | 7 => ⟨S4096x256, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096, .f32⟩
  | 14 => ⟨S4096x256, .f32⟩
  | 15 => ⟨S4096x256, .f32⟩
  | 16 => ⟨S4096x256, .f32⟩
  | 17 => ⟨S4096x256, .f32⟩
  | 18 => ⟨S4096x256, .f32⟩
  | 19 => ⟨S4096x256, .f32⟩
  | 20 => ⟨S_, .f32⟩
  | 21 => ⟨S256, .f32⟩
  | 22 => ⟨S1x256, .f32⟩
  | 23 => ⟨S4096x256, .f32⟩
  | 24 => ⟨S4096x256, .f32⟩
  | 25 => ⟨S_, .f32⟩
  | 26 => ⟨S256, .f32⟩
  | 27 => ⟨S4096x256, .f32⟩
  | 28 => ⟨S_, .f32⟩
  | 29 => ⟨S4096, .f32⟩
  | 30 => ⟨S4096x1, .f32⟩
  | 31 => ⟨S4096x256, .f32⟩
  | 32 => ⟨S4096x256, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S4096, .f32⟩
  | 39 => ⟨S4096x256, .f32⟩
  | 40 => ⟨S4096x256, .f32⟩
  | 41 => ⟨S4096x256, .f32⟩
  | 42 => ⟨S4096x256, .f32⟩
  | 43 => ⟨S4096x256, .f32⟩
  | 44 => ⟨S4096x512, .f32⟩
  | 45 => ⟨S_, .f32⟩
  | 46 => ⟨S512, .f32⟩
  | 47 => ⟨S1x512, .f32⟩
  | 48 => ⟨S4096x512, .f32⟩
  | 49 => ⟨S4096x512, .f32⟩
  | 50 => ⟨S_, .f32⟩
  | 51 => ⟨S512, .f32⟩
  | 52 => ⟨S4096x512, .f32⟩
  | 53 => ⟨S_, .f32⟩
  | 54 => ⟨S4096, .f32⟩
  | 55 => ⟨S4096x1, .f32⟩
  | 56 => ⟨S4096x512, .f32⟩
  | 57 => ⟨S4096x512, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096, .f32⟩
  | 64 => ⟨S4096x512, .f32⟩
  | 65 => ⟨S4096x512, .f32⟩
  | 66 => ⟨S4096x512, .f32⟩
  | 67 => ⟨S4096x512, .f32⟩
  | 68 => ⟨S4096x512, .f32⟩
  | 69 => ⟨S1024, .f32⟩
  | 70 => ⟨S4096x1024, .bf16⟩
  | 71 => ⟨S1x1024, .f32⟩
  | 72 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_cst_17 : Ref sig .tc := ⟨.hbm, 100, rfl⟩
abbrev main_v74 : Ref sig .tc := ⟨.hbm, 101, rfl⟩
abbrev main_v75 : Ref sig .tc := ⟨.hbm, 102, rfl⟩
abbrev main_cst_18 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_19 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_20 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_21 : Ref sig .tc := ⟨.hbm, 128, rfl⟩
abbrev main_v98 : Ref sig .tc := ⟨.hbm, 129, rfl⟩
abbrev main_v99 : Ref sig .tc := ⟨.hbm, 130, rfl⟩
abbrev main_cst_22 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_23 : Ref sig .tc := ⟨.hbm, 137, rfl⟩
abbrev main_v105 : Ref sig .tc := ⟨.hbm, 138, rfl⟩
abbrev main_v106 : Ref sig .tc := ⟨.hbm, 139, rfl⟩
abbrev main_cst_24 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_25 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_26 : Ref sig .tc := ⟨.hbm, 153, rfl⟩
abbrev main_v118 : Ref sig .tc := ⟨.hbm, 154, rfl⟩
abbrev main_v119 : Ref sig .tc := ⟨.hbm, 155, rfl⟩
abbrev main_cst_27 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_28 : Ref sig .tc := ⟨.hbm, 162, rfl⟩
abbrev main_v125 : Ref sig .tc := ⟨.hbm, 163, rfl⟩
abbrev main_v126 : Ref sig .tc := ⟨.hbm, 164, rfl⟩
abbrev main_cst_29 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_30 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_31 : Ref sig .tc := ⟨.hbm, 178, rfl⟩
abbrev main_v138 : Ref sig .tc := ⟨.hbm, 179, rfl⟩
abbrev main_v139 : Ref sig .tc := ⟨.hbm, 180, rfl⟩
abbrev main_cst_32 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_33 : Ref sig .tc := ⟨.hbm, 187, rfl⟩
abbrev main_v145 : Ref sig .tc := ⟨.hbm, 188, rfl⟩
abbrev main_v146 : Ref sig .tc := ⟨.hbm, 189, rfl⟩
abbrev main_cst_34 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩

abbrev nD : Nat := 1
abbrev τ : Topo := Topo.v7x

variable {F : FTy → Type} [FloatOps F]
-- ==== Proof.Body.State.lean ====
/-
  THE STATE OF THE KERNEL'S BODY: the blocks it reads at a grid point, what its output buffers and its scratch hold, the memrefs
  it is called with, and the assertion that the memrefs hold those contents. Then the closed forms of its conditions and of the
  offsets at which it reads its two-slot scratch.
-/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The nineteen input blocks of a grid point. -/
structure In (F : FTy → Type) [FloatOps F] where
  x0 : Vec F S512x1024 .f32
  x1 : Vec F S512x1024 .f32
  x2 : Vec F S512x256 .f32
  x3 : Vec F S512x256 .f32
  x4 : Vec F S8x256 .f32
  x5 : Vec F S8x256 .f32
  x6 : Vec F S3x256 .f32
  x7 : Vec F S3x256 .f32
  x8 : Vec F S1x256 .f32
  x9 : Vec F S1x256 .f32
  x10 : Vec F S256x1024 .bf16
  x11 : Vec F S1x1024 .f32
  x12 : Vec F S256x1024 .bf16
  x13 : Vec F S256x1024 .bf16
  x14 : Vec F S512x1024 .f32
  x15 : Vec F S1x1024 .f32
  x16 : Vec F S256x1024 .bf16
  x17 : Vec F S256x1024 .bf16
  x18 : Vec F S256x1024 .bf16

/-- What the eight output buffers and the nine scratch buffers hold. -/
structure St (F : FTy → Type) [FloatOps F] where
  dy : Vec F S512x1024 .bf16
  dug : Vec F S256x512 .bf16
  duu : Vec F S256x512 .bf16
  dcg : Vec F S1x8x256 .f32
  dcu : Vec F S1x8x256 .f32
  dgp : Vec F S1x1024 .f32
  dx2 : Vec F S512x1024 .f32
  dgf : Vec F S1x1024 .f32
  dyS : Vec F S512x1024 .bf16
  dhS : Vec F S512x1024 .f32
  daS : Vec F S2x512x256 .f32
  dugS : Vec F S512x256 .bf16
  duuS : Vec F S512x256 .bf16
  cg : Vec F S11x8x256 .f32
  cu : Vec F S11x8x256 .f32
  ag : Vec F S11x8x256 .f32
  au : Vec F S11x8x256 .f32

/-- The memrefs of one call of the body, each a whole buffer. -/
structure Bufs where
  b2 : Memref sig .tc .vmem S512x1024 .f32
  h2 : b2.IsWhole
  b3 : Memref sig .tc .vmem S512x1024 .f32
  h3 : b3.IsWhole
  b4 : Memref sig .tc .vmem S512x256 .f32
  h4 : b4.IsWhole
  b5 : Memref sig .tc .vmem S512x256 .f32
  h5 : b5.IsWhole
  b6 : Memref sig .tc .vmem S8x256 .f32
  h6 : b6.IsWhole
  b7 : Memref sig .tc .vmem S8x256 .f32
  h7 : b7.IsWhole
  b8 : Memref sig .tc .vmem S3x256 .f32
  h8 : b8.IsWhole
  b9 : Memref sig .tc .vmem S3x256 .f32
  h9 : b9.IsWhole
  b10 : Memref sig .tc .vmem S1x256 .f32
  h10 : b10.IsWhole
  b11 : Memref sig .tc .vmem S1x256 .f32
  h11 : b11.IsWhole
  b12 : Memref sig .tc .vmem S256x1024 .bf16
  h12 : b12.IsWhole
  b13 : Memref sig .tc .vmem S1x1024 .f32
  h13 : b13.IsWhole
  b14 : Memref sig .tc .vmem S256x1024 .bf16
  h14 : b14.IsWhole
  b15 : Memref sig .tc .vmem S256x1024 .bf16
  h15 : b15.IsWhole
  b16 : Memref sig .tc .vmem S512x1024 .f32
  h16 : b16.IsWhole
  b17 : Memref sig .tc .vmem S1x1024 .f32
  h17 : b17.IsWhole
  b18 : Memref sig .tc .vmem S256x1024 .bf16
  h18 : b18.IsWhole
  b19 : Memref sig .tc .vmem S256x1024 .bf16
  h19 : b19.IsWhole
  b20 : Memref sig .tc .vmem S256x1024 .bf16
  h20 : b20.IsWhole
  b21 : Memref sig .tc .vmem S512x1024 .bf16
  h21 : b21.IsWhole
  b22 : Memref sig .tc .vmem S256x512 .bf16
  h22 : b22.IsWhole
  b23 : Memref sig .tc .vmem S256x512 .bf16
  h23 : b23.IsWhole
  b24 : Memref sig .tc .vmem S1x8x256 .f32
  h24 : b24.IsWhole
  b25 : Memref sig .tc .vmem S1x8x256 .f32
  h25 : b25.IsWhole
  b26 : Memref sig .tc .vmem S1x1024 .f32
  h26 : b26.IsWhole
  b27 : Memref sig .tc .vmem S512x1024 .f32
  h27 : b27.IsWhole
  b28 : Memref sig .tc .vmem S1x1024 .f32
  h28 : b28.IsWhole
  b29 : Memref sig .tc .vmem S512x1024 .bf16
  h29 : b29.IsWhole
  b30 : Memref sig .tc .vmem S512x1024 .f32
  h30 : b30.IsWhole
  b31 : Memref sig .tc .vmem S2x512x256 .f32
  h31 : b31.IsWhole
  b32 : Memref sig .tc .vmem S512x256 .bf16
  h32 : b32.IsWhole
  b33 : Memref sig .tc .vmem S512x256 .bf16
  h33 : b33.IsWhole
  b34 : Memref sig .tc .vmem S11x8x256 .f32
  h34 : b34.IsWhole
  b35 : Memref sig .tc .vmem S11x8x256 .f32
  h35 : b35.IsWhole
  b36 : Memref sig .tc .vmem S11x8x256 .f32
  h36 : b36.IsWhole
  b37 : Memref sig .tc .vmem S11x8x256 .f32
  h37 : b37.IsWhole

/-- The input memrefs hold the input blocks. -/
def ownIn (c : Dev nD) (B : Bufs) (x : In F) : sProp 𝕄 :=
  iprop(owns (c : Thread nD τ) B.b2 fullShare x.x0 ∗ owns (c : Thread nD τ) B.b3 fullShare x.x1 ∗ owns (c : Thread nD τ) B.b4 fullShare x.x2 ∗ owns (c : Thread nD τ) B.b5 fullShare x.x3 ∗ owns (c : Thread nD τ) B.b6 fullShare x.x4 ∗ owns (c : Thread nD τ) B.b7 fullShare x.x5 ∗ owns (c : Thread nD τ) B.b8 fullShare x.x6 ∗ owns (c : Thread nD τ) B.b9 fullShare x.x7 ∗ owns (c : Thread nD τ) B.b10 fullShare x.x8 ∗ owns (c : Thread nD τ) B.b11 fullShare x.x9 ∗ owns (c : Thread nD τ) B.b12 fullShare x.x10 ∗ owns (c : Thread nD τ) B.b13 fullShare x.x11 ∗ owns (c : Thread nD τ) B.b14 fullShare x.x12 ∗ owns (c : Thread nD τ) B.b15 fullShare x.x13 ∗ owns (c : Thread nD τ) B.b16 fullShare x.x14 ∗ owns (c : Thread nD τ) B.b17 fullShare x.x15 ∗ owns (c : Thread nD τ) B.b18 fullShare x.x16 ∗ owns (c : Thread nD τ) B.b19 fullShare x.x17 ∗ owns (c : Thread nD τ) B.b20 fullShare x.x18)

/-- The output and scratch memrefs hold the state. -/
def ownSt (c : Dev nD) (B : Bufs) (z : St F) : sProp 𝕄 :=
  iprop(owns (c : Thread nD τ) B.b21 fullShare z.dy ∗ owns (c : Thread nD τ) B.b22 fullShare z.dug ∗ owns (c : Thread nD τ) B.b23 fullShare z.duu ∗ owns (c : Thread nD τ) B.b24 fullShare z.dcg ∗ owns (c : Thread nD τ) B.b25 fullShare z.dcu ∗ owns (c : Thread nD τ) B.b26 fullShare z.dgp ∗ owns (c : Thread nD τ) B.b27 fullShare z.dx2 ∗ owns (c : Thread nD τ) B.b28 fullShare z.dgf ∗ owns (c : Thread nD τ) B.b29 fullShare z.dyS ∗ owns (c : Thread nD τ) B.b30 fullShare z.dhS ∗ owns (c : Thread nD τ) B.b31 fullShare z.daS ∗ owns (c : Thread nD τ) B.b32 fullShare z.dugS ∗ owns (c : Thread nD τ) B.b33 fullShare z.duuS ∗ owns (c : Thread nD τ) B.b34 fullShare z.cg ∗ owns (c : Thread nD τ) B.b35 fullShare z.cu ∗ owns (c : Thread nD τ) B.b36 fullShare z.ag ∗ owns (c : Thread nD τ) B.b37 fullShare z.au)

/-- The same of the input memrefs, each memref's buffer at raw contents. -/
def rawIn (c : Dev nD) (B : Bufs) (x : In F) : sProp 𝕄 :=
  iprop((B.b2.view.loc (c : Thread nD τ) ↦[B.b2.view.set]{fullShare} B.h2.unread x.x0) ∗ (B.b3.view.loc (c : Thread nD τ) ↦[B.b3.view.set]{fullShare} B.h3.unread x.x1) ∗ (B.b4.view.loc (c : Thread nD τ) ↦[B.b4.view.set]{fullShare} B.h4.unread x.x2) ∗ (B.b5.view.loc (c : Thread nD τ) ↦[B.b5.view.set]{fullShare} B.h5.unread x.x3) ∗ (B.b6.view.loc (c : Thread nD τ) ↦[B.b6.view.set]{fullShare} B.h6.unread x.x4) ∗ (B.b7.view.loc (c : Thread nD τ) ↦[B.b7.view.set]{fullShare} B.h7.unread x.x5) ∗ (B.b8.view.loc (c : Thread nD τ) ↦[B.b8.view.set]{fullShare} B.h8.unread x.x6) ∗ (B.b9.view.loc (c : Thread nD τ) ↦[B.b9.view.set]{fullShare} B.h9.unread x.x7) ∗ (B.b10.view.loc (c : Thread nD τ) ↦[B.b10.view.set]{fullShare} B.h10.unread x.x8) ∗ (B.b11.view.loc (c : Thread nD τ) ↦[B.b11.view.set]{fullShare} B.h11.unread x.x9) ∗ (B.b12.view.loc (c : Thread nD τ) ↦[B.b12.view.set]{fullShare} B.h12.unread x.x10) ∗ (B.b13.view.loc (c : Thread nD τ) ↦[B.b13.view.set]{fullShare} B.h13.unread x.x11) ∗ (B.b14.view.loc (c : Thread nD τ) ↦[B.b14.view.set]{fullShare} B.h14.unread x.x12) ∗ (B.b15.view.loc (c : Thread nD τ) ↦[B.b15.view.set]{fullShare} B.h15.unread x.x13) ∗ (B.b16.view.loc (c : Thread nD τ) ↦[B.b16.view.set]{fullShare} B.h16.unread x.x14) ∗ (B.b17.view.loc (c : Thread nD τ) ↦[B.b17.view.set]{fullShare} B.h17.unread x.x15) ∗ (B.b18.view.loc (c : Thread nD τ) ↦[B.b18.view.set]{fullShare} B.h18.unread x.x16) ∗ (B.b19.view.loc (c : Thread nD τ) ↦[B.b19.view.set]{fullShare} B.h19.unread x.x17) ∗ (B.b20.view.loc (c : Thread nD τ) ↦[B.b20.view.set]{fullShare} B.h20.unread x.x18))

/-- The same of the output and scratch memrefs. -/
def rawSt (c : Dev nD) (B : Bufs) (z : St F) : sProp 𝕄 :=
  iprop((B.b21.view.loc (c : Thread nD τ) ↦[B.b21.view.set]{fullShare} B.h21.unread z.dy) ∗ (B.b22.view.loc (c : Thread nD τ) ↦[B.b22.view.set]{fullShare} B.h22.unread z.dug) ∗ (B.b23.view.loc (c : Thread nD τ) ↦[B.b23.view.set]{fullShare} B.h23.unread z.duu) ∗ (B.b24.view.loc (c : Thread nD τ) ↦[B.b24.view.set]{fullShare} B.h24.unread z.dcg) ∗ (B.b25.view.loc (c : Thread nD τ) ↦[B.b25.view.set]{fullShare} B.h25.unread z.dcu) ∗ (B.b26.view.loc (c : Thread nD τ) ↦[B.b26.view.set]{fullShare} B.h26.unread z.dgp) ∗ (B.b27.view.loc (c : Thread nD τ) ↦[B.b27.view.set]{fullShare} B.h27.unread z.dx2) ∗ (B.b28.view.loc (c : Thread nD τ) ↦[B.b28.view.set]{fullShare} B.h28.unread z.dgf) ∗ (B.b29.view.loc (c : Thread nD τ) ↦[B.b29.view.set]{fullShare} B.h29.unread z.dyS) ∗ (B.b30.view.loc (c : Thread nD τ) ↦[B.b30.view.set]{fullShare} B.h30.unread z.dhS) ∗ (B.b31.view.loc (c : Thread nD τ) ↦[B.b31.view.set]{fullShare} B.h31.unread z.daS) ∗ (B.b32.view.loc (c : Thread nD τ) ↦[B.b32.view.set]{fullShare} B.h32.unread z.dugS) ∗ (B.b33.view.loc (c : Thread nD τ) ↦[B.b33.view.set]{fullShare} B.h33.unread z.duuS) ∗ (B.b34.view.loc (c : Thread nD τ) ↦[B.b34.view.set]{fullShare} B.h34.unread z.cg) ∗ (B.b35.view.loc (c : Thread nD τ) ↦[B.b35.view.set]{fullShare} B.h35.unread z.cu) ∗ (B.b36.view.loc (c : Thread nD τ) ↦[B.b36.view.set]{fullShare} B.h36.unread z.ag) ∗ (B.b37.view.loc (c : Thread nD τ) ↦[B.b37.view.set]{fullShare} B.h37.unread z.au))

/-- A whole memref that holds `x` has its buffer at the raw contents of `x`. -/
theorem owns_open {c : Thread nD τ} {sp : Space} {sh : Shape} {e : EltTy} {M : Memref sig c.2.kind sp sh e} (h : M.IsWhole) (x : sh.Idx → Elt F e) :
    (owns c M fullShare x : sProp 𝕄) ⊢ (M.view.loc c ↦[M.view.set]{fullShare} h.unread x) := by
  unfold owns; iintro ⟨%f, %hf, H⟩; rw [h.eq_unread hf]; iexact H

/-- And back. -/
theorem owns_close {c : Thread nD τ} {sp : Space} {sh : Shape} {e : EltTy} {M : Memref sig c.2.kind sp sh e} (h : M.IsWhole) (x : sh.Idx → Elt F e) :
    (M.view.loc c ↦[M.view.set]{fullShare} h.unread x : sProp 𝕄) ⊢ owns c M fullShare x := by
  unfold owns; iintro H; iexists _; isplitr
  · ipureintro; exact h.read_unread x
  iexact H

theorem ownIn_raw (c : Dev nD) (B : Bufs) (x : In F) : ownIn c B x ⊢ rawIn c B x := by
  unfold ownIn rawIn
  exact BI.sep_mono (owns_open B.h2 _) <| BI.sep_mono (owns_open B.h3 _) <| BI.sep_mono (owns_open B.h4 _) <| BI.sep_mono (owns_open B.h5 _) <| BI.sep_mono (owns_open B.h6 _) <| BI.sep_mono (owns_open B.h7 _) <| BI.sep_mono (owns_open B.h8 _) <| BI.sep_mono (owns_open B.h9 _) <| BI.sep_mono (owns_open B.h10 _) <| BI.sep_mono (owns_open B.h11 _) <| BI.sep_mono (owns_open B.h12 _) <| BI.sep_mono (owns_open B.h13 _) <| BI.sep_mono (owns_open B.h14 _) <| BI.sep_mono (owns_open B.h15 _) <| BI.sep_mono (owns_open B.h16 _) <| BI.sep_mono (owns_open B.h17 _) <| BI.sep_mono (owns_open B.h18 _) <| BI.sep_mono (owns_open B.h19 _) <| owns_open B.h20 _
theorem rawIn_own (c : Dev nD) (B : Bufs) (x : In F) : rawIn c B x ⊢ ownIn c B x := by
  unfold ownIn rawIn
  exact BI.sep_mono (owns_close B.h2 _) <| BI.sep_mono (owns_close B.h3 _) <| BI.sep_mono (owns_close B.h4 _) <| BI.sep_mono (owns_close B.h5 _) <| BI.sep_mono (owns_close B.h6 _) <| BI.sep_mono (owns_close B.h7 _) <| BI.sep_mono (owns_close B.h8 _) <| BI.sep_mono (owns_close B.h9 _) <| BI.sep_mono (owns_close B.h10 _) <| BI.sep_mono (owns_close B.h11 _) <| BI.sep_mono (owns_close B.h12 _) <| BI.sep_mono (owns_close B.h13 _) <| BI.sep_mono (owns_close B.h14 _) <| BI.sep_mono (owns_close B.h15 _) <| BI.sep_mono (owns_close B.h16 _) <| BI.sep_mono (owns_close B.h17 _) <| BI.sep_mono (owns_close B.h18 _) <| BI.sep_mono (owns_close B.h19 _) <| owns_close B.h20 _
theorem ownSt_raw (c : Dev nD) (B : Bufs) (z : St F) : ownSt c B z ⊢ rawSt c B z := by
  unfold ownSt rawSt
  exact BI.sep_mono (owns_open B.h21 _) <| BI.sep_mono (owns_open B.h22 _) <| BI.sep_mono (owns_open B.h23 _) <| BI.sep_mono (owns_open B.h24 _) <| BI.sep_mono (owns_open B.h25 _) <| BI.sep_mono (owns_open B.h26 _) <| BI.sep_mono (owns_open B.h27 _) <| BI.sep_mono (owns_open B.h28 _) <| BI.sep_mono (owns_open B.h29 _) <| BI.sep_mono (owns_open B.h30 _) <| BI.sep_mono (owns_open B.h31 _) <| BI.sep_mono (owns_open B.h32 _) <| BI.sep_mono (owns_open B.h33 _) <| BI.sep_mono (owns_open B.h34 _) <| BI.sep_mono (owns_open B.h35 _) <| BI.sep_mono (owns_open B.h36 _) <| owns_open B.h37 _

/-- The body of the kernel on these memrefs. -/
abbrev bodyOf (i : grid0.Coords) (B : Bufs) : Prog (TpuEff nD τ sig (Elt F) Λ₀ .tc) PUnit :=
  cc0_ffn_bwd i B.b2 B.h2 B.b3 B.h3 B.b4 B.h4 B.b5 B.h5 B.b6 B.h6 B.b7 B.h7 B.b8 B.h8 B.b9 B.h9 B.b10 B.h10 B.b11 B.h11 B.b12 B.h12 B.b13 B.h13 B.b14 B.h14 B.b15 B.h15 B.b16 B.h16 B.b17 B.h17 B.b18 B.h18 B.b19 B.h19 B.b20 B.h20 B.b21 B.h21 B.b22 B.h22 B.b23 B.h23 B.b24 B.h24 B.b25 B.h25 B.b26 B.h26 B.b27 B.h27 B.b28 B.h28 B.b29 B.h29 B.b30 B.h30 B.b31 B.h31 B.b32 B.h32 B.b33 B.h33 B.b34 B.h34 B.b35 B.h35 B.b36 B.h36 B.b37 B.h37

/-- A run of the body at the coordinates `i`: the state it leaves, with the proof that it leaves it. -/
abbrev Run (c : Dev nD) (i : grid0.Coords) (B : Bufs) (x : In F) (z : St F) : Type :=
  { z' : St F // ∀ (E : Set ℕ) (K : PUnit → sProp 𝕄),
      iprop(rawIn c B x ∗ rawSt c B z ∗ (iprop(rawIn c B x ∗ ownSt c B z') -∗ K ⟨⟩))
        ⊢ wp frame (wpE (defs₀ (F := F)) Variants.none c none) E (bodyOf i B) K }

/-! ## The conditions and the offsets in closed form -/

theorem coord0 (t : Fin cfg0.N) : (grid0.coords t 0).val = t.val / 11 := by
  have ht : t.val < 88 := Nat.lt_of_lt_of_eq t.isLt N_0
  have e0 : (grid0.coords t 0).val = t.val / 11 % 8 := Pipeline.Grid.coords_val t 0 (by decide) rfl
  omega
theorem coord1 (t : Fin cfg0.N) : (grid0.coords t 1).val = t.val % 11 := by
  have e1 : (grid0.coords t 1).val = t.val / 1 % 11 := Pipeline.Grid.coords_val t 1 (by decide) rfl
  omega
theorem cond1_iff : ∀ t : Fin cfg0.N, k0_cond1 (grid0.coords t) = 1#1 ↔ t.val % 11 = 0 := by
  decide +kernel
theorem cond2_iff : ∀ t : Fin cfg0.N, k0_cond2 (grid0.coords t) = 1#1 ↔ t.val / 11 = 0 := by
  decide +kernel
theorem cond3_iff : ∀ t : Fin cfg0.N, k0_cond3 (grid0.coords t) = 1#1 ↔ ¬ t.val / 11 = 0 := by
  decide +kernel
theorem cond4_iff : ∀ t : Fin cfg0.N, k0_cond4 (grid0.coords t) = 1#1 ↔ t.val / 11 = 0 := by
  decide +kernel
theorem cond5_iff : ∀ t : Fin cfg0.N, k0_cond5 (grid0.coords t) = 1#1 ↔ t.val % 11 = 10 := by
  decide +kernel
theorem cond6_iff : ∀ t : Fin cfg0.N, k0_cond6 (grid0.coords t) = 1#1 ↔ t.val / 11 = 0 := by
  decide +kernel
theorem cond7_iff : ∀ t : Fin cfg0.N, k0_cond7 (grid0.coords t) = 1#1 ↔ ¬ t.val / 11 = 0 := by
  decide +kernel

/-- The slot that is read: the parity of the column. -/
theorem off2_eq : ∀ i : grid0.Coords, k0_off2 i = ![(i 1).val % 2, 0, 0] := by decide +kernel
/-- The slot that is written: the other one. -/
theorem off3_eq : ∀ i : grid0.Coords, k0_off3 i = ![1 - (i 1).val % 2, 0, 0] := by decide +kernel
theorem off2_first : ∀ i : grid0.Coords, k0_cond1 i = 1#1 → k0_off2 i = ![0, 0, 0] := by decide +kernel
theorem off3_first : ∀ i : grid0.Coords, k0_cond1 i = 1#1 → k0_off3 i = ![1, 0, 0] := by decide +kernel

set_option maxRecDepth 65536 in
/-- The body is its skeleton, its parts' skeletons in place. -/
theorem body_skel (c : Dev nD) (i : grid0.Coords) (B : Bufs) (P : Prog (TpuEff nD τ sig (Elt F) Λ₀ .tc) PUnit → Prop)
    (h : P (cc0_ffn_bwd_skel i B.b2 B.h2 B.b3 B.h3 B.b4 B.h4 B.b5 B.h5 B.b6 B.h6 B.b7 B.h7 B.b8 B.h8 B.b9 B.h9 B.b10 B.h10 B.b11 B.h11 B.b12 B.h12 B.b13 B.h13 B.b14 B.h14 B.b15 B.h15 B.b16 B.h16 B.b17 B.h17 B.b18 B.h18 B.b19 B.h19 B.b20 B.h20 B.b21 B.h21 B.b22 B.h22 B.b23 B.h23 B.b24 B.h24 B.b25 B.h25 B.b26 B.h26 B.b27 B.h27 B.b28 B.h28 B.b29 B.h29 B.b30 B.h30 B.b31 B.h31 B.b32 B.h32 B.b33 B.h33 B.b34 B.h34 B.b35 B.h35 B.b36 B.h36 B.b37 B.h37)) : P (bodyOf i B) := by
  unfold bodyOf; simp only [cc0_ffn_bwd_eq_skeleton]; exact h

end Cert.KernelIdeal.Body

end
-- ==== Proof.Body.RunA.lean ====
/- The run of the body AT the first column of the first block of tokens. -/
module

public import proofs.«01_k».proof.Proof.Body.State

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .vmem S512x1024 .f32) (harg2 : arg2.IsWhole)
  (arg3 : Memref sig .tc .vmem S512x1024 .f32) (harg3 : arg3.IsWhole)
  (arg4 : Memref sig .tc .vmem S512x256 .f32) (harg4 : arg4.IsWhole)
  (arg5 : Memref sig .tc .vmem S512x256 .f32) (harg5 : arg5.IsWhole)
  (arg6 : Memref sig .tc .vmem S8x256 .f32) (harg6 : arg6.IsWhole)
  (arg7 : Memref sig .tc .vmem S8x256 .f32) (harg7 : arg7.IsWhole)
  (arg8 : Memref sig .tc .vmem S3x256 .f32) (harg8 : arg8.IsWhole)
  (arg9 : Memref sig .tc .vmem S3x256 .f32) (harg9 : arg9.IsWhole)
  (arg10 : Memref sig .tc .vmem S1x256 .f32) (harg10 : arg10.IsWhole)
  (arg11 : Memref sig .tc .vmem S1x256 .f32) (harg11 : arg11.IsWhole)
  (arg12 : Memref sig .tc .vmem S256x1024 .bf16) (harg12 : arg12.IsWhole)
  (arg13 : Memref sig .tc .vmem S1x1024 .f32) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S512x1024 .f32) (harg16 : arg16.IsWhole)
  (arg17 : Memref sig .tc .vmem S1x1024 .f32) (harg17 : arg17.IsWhole)
  (arg18 : Memref sig .tc .vmem S256x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S512x1024 .bf16) (harg21 : arg21.IsWhole)
  (arg22 : Memref sig .tc .vmem S256x512 .bf16) (harg22 : arg22.IsWhole)
  (arg23 : Memref sig .tc .vmem S256x512 .bf16) (harg23 : arg23.IsWhole)
  (arg24 : Memref sig .tc .vmem S1x8x256 .f32) (harg24 : arg24.IsWhole)
  (arg25 : Memref sig .tc .vmem S1x8x256 .f32) (harg25 : arg25.IsWhole)
  (arg26 : Memref sig .tc .vmem S1x1024 .f32) (harg26 : arg26.IsWhole)
  (arg27 : Memref sig .tc .vmem S512x1024 .f32) (harg27 : arg27.IsWhole)
  (arg28 : Memref sig .tc .vmem S1x1024 .f32) (harg28 : arg28.IsWhole)
  (arg29 : Memref sig .tc .vmem S512x1024 .bf16) (harg29 : arg29.IsWhole)
  (arg30 : Memref sig .tc .vmem S512x1024 .f32) (harg30 : arg30.IsWhole)
  (arg31 : Memref sig .tc .vmem S2x512x256 .f32) (harg31 : arg31.IsWhole)
  (arg32 : Memref sig .tc .vmem S512x256 .bf16) (harg32 : arg32.IsWhole)
  (arg33 : Memref sig .tc .vmem S512x256 .bf16) (harg33 : arg33.IsWhole)
  (arg34 : Memref sig .tc .vmem S11x8x256 .f32) (harg34 : arg34.IsWhole)
  (arg35 : Memref sig .tc .vmem S11x8x256 .f32) (harg35 : arg35.IsWhole)
  (arg36 : Memref sig .tc .vmem S11x8x256 .f32) (harg36 : arg36.IsWhole)
  (arg37 : Memref sig .tc .vmem S11x8x256 .f32) (harg37 : arg37.IsWhole)

set_option maxHeartbeats 2000000 in
/-- On whole buffers at the contents `x` and `z` the body runs, at the first column of the first block of tokens, and leaves a state that the run finds. -/
noncomputable def rawA (c : Dev nD) (i : grid0.Coords) (hc1 : k0_cond1 i = 1#1) (hc2 : k0_cond2 i = 1#1) (hc3 : ¬k0_cond3 i = 1#1) (hc4 : k0_cond4 i = 1#1) (hc5 : ¬k0_cond5 i = 1#1) (x : In F) (z : St F) :
    Run c i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26, arg27, harg27, arg28, harg28, arg29, harg29, arg30, harg30, arg31, harg31, arg32, harg32, arg33, harg33, arg34, harg34, arg35, harg35, arg36, harg36, arg37, harg37⟩ x z := by
  refine ⟨⟨?_, ?_, ?_, ?_, ?_, ?_, ?_, ?_, ?_, ?_, ?_, ?_, ?_, ?_, ?_, ?_, ?_⟩, fun E K => ?run⟩
  case run =>
    unfold bodyOf rawIn rawSt ownSt owns
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨⟨H0, H1, H2, H3, H4, H5, H6, H7, H8, H9, H10, H11, H12, H13, H14, H15, H16, H17, H18⟩, ⟨H19, H20, H21, H22, H23, H24, H25, H26, H27, H28, H29, H30, H31, H32, H33, H34, H35⟩, Hk⟩
    letI : ClosedOff (k0_off2 i) := ⟨![0, 0, 0], off2_first i hc1⟩
    letI : ClosedOff (k0_off3 i) := ⟨![1, 0, 0], off3_first i hc1⟩
    sl_exec (disch := first | sl_exact hc1 | sl_exact hc2 | sl_exact hc3 | sl_exact hc4 | sl_exact hc5)
    sl_step
    iapply Hk
    isplitl [H0 H1 H2 H3 H4 H5 H6 H7 H8 H9 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _; isplitr; swap; · iexact H24
      ipureintro; rfl
    isplitl [H25]
    · iexists _; isplitr; swap; · iexact H25
      ipureintro; rfl
    isplitl [H26]
    · iexists _; isplitr; swap; · iexact H26
      ipureintro; rfl
    isplitl [H27]
    · iexists _; isplitr; swap; · iexact H27
      ipureintro; rfl
    isplitl [H28]
    · iexists _; isplitr; swap; · iexact H28
      ipureintro; rfl
    isplitl [H29]
    · iexists _; isplitr; swap; · iexact H29
      ipureintro; rfl
    isplitl [H30]
    · iexists _; isplitr; swap; · iexact H30
      ipureintro; rfl
    isplitl [H31]
    · iexists _; isplitr; swap; · iexact H31
      ipureintro; rfl
    isplitl [H32]
    · iexists _; isplitr; swap; · iexact H32
      ipureintro; rfl
    isplitl [H33]
    · iexists _; isplitr; swap; · iexact H33
      ipureintro; rfl
    isplitl [H34]
    · iexists _; isplitr; swap; · iexact H34
      ipureintro; rfl
    iexists _; isplitr; swap; · iexact H35
    ipureintro; rfl

/-- The run at the first column of the first block of tokens. -/
noncomputable def runA (c : Dev nD) (i : grid0.Coords) (B : Bufs) (hc1 : k0_cond1 i = 1#1) (hc2 : k0_cond2 i = 1#1) (hc3 : ¬k0_cond3 i = 1#1) (hc4 : k0_cond4 i = 1#1) (hc5 : ¬k0_cond5 i = 1#1) (x : In F) (z : St F) : Run c i B x z :=
  rawA B.b2 B.h2 B.b3 B.h3 B.b4 B.h4 B.b5 B.h5 B.b6 B.h6 B.b7 B.h7 B.b8 B.h8 B.b9 B.h9 B.b10 B.h10 B.b11 B.h11 B.b12 B.h12 B.b13 B.h13 B.b14 B.h14 B.b15 B.h15 B.b16 B.h16 B.b17 B.h17 B.b18 B.h18 B.b19 B.h19 B.b20 B.h20 B.b21 B.h21 B.b22 B.h22 B.b23 B.h23 B.b24 B.h24 B.b25 B.h25 B.b26 B.h26 B.b27 B.h27 B.b28 B.h28 B.b29 B.h29 B.b30 B.h30 B.b31 B.h31 B.b32 B.h32 B.b33 B.h33 B.b34 B.h34 B.b35 B.h35 B.b36 B.h36 B.b37 B.h37 c i hc1 hc2 hc3 hc4 hc5 x z

end Cert.KernelIdeal.Body

end
-- ==== Proof.Body.RunB.lean ====
/- The run of the body AT an inner column of the first block of tokens. -/
module

public import proofs.«01_k».proof.Proof.Body.State

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .vmem S512x1024 .f32) (harg2 : arg2.IsWhole)
  (arg3 : Memref sig .tc .vmem S512x1024 .f32) (harg3 : arg3.IsWhole)
  (arg4 : Memref sig .tc .vmem S512x256 .f32) (harg4 : arg4.IsWhole)
  (arg5 : Memref sig .tc .vmem S512x256 .f32) (harg5 : arg5.IsWhole)
  (arg6 : Memref sig .tc .vmem S8x256 .f32) (harg6 : arg6.IsWhole)
  (arg7 : Memref sig .tc .vmem S8x256 .f32) (harg7 : arg7.IsWhole)
  (arg8 : Memref sig .tc .vmem S3x256 .f32) (harg8 : arg8.IsWhole)
  (arg9 : Memref sig .tc .vmem S3x256 .f32) (harg9 : arg9.IsWhole)
  (arg10 : Memref sig .tc .vmem S1x256 .f32) (harg10 : arg10.IsWhole)
  (arg11 : Memref sig .tc .vmem S1x256 .f32) (harg11 : arg11.IsWhole)
  (arg12 : Memref sig .tc .vmem S256x1024 .bf16) (harg12 : arg12.IsWhole)
  (arg13 : Memref sig .tc .vmem S1x1024 .f32) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S512x1024 .f32) (harg16 : arg16.IsWhole)
  (arg17 : Memref sig .tc .vmem S1x1024 .f32) (harg17 : arg17.IsWhole)
  (arg18 : Memref sig .tc .vmem S256x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S512x1024 .bf16) (harg21 : arg21.IsWhole)
  (arg22 : Memref sig .tc .vmem S256x512 .bf16) (harg22 : arg22.IsWhole)
  (arg23 : Memref sig .tc .vmem S256x512 .bf16) (harg23 : arg23.IsWhole)
  (arg24 : Memref sig .tc .vmem S1x8x256 .f32) (harg24 : arg24.IsWhole)
  (arg25 : Memref sig .tc .vmem S1x8x256 .f32) (harg25 : arg25.IsWhole)
  (arg26 : Memref sig .tc .vmem S1x1024 .f32) (harg26 : arg26.IsWhole)
  (arg27 : Memref sig .tc .vmem S512x1024 .f32) (harg27 : arg27.IsWhole)
  (arg28 : Memref sig .tc .vmem S1x1024 .f32) (harg28 : arg28.IsWhole)
  (arg29 : Memref sig .tc .vmem S512x1024 .bf16) (harg29 : arg29.IsWhole)
  (arg30 : Memref sig .tc .vmem S512x1024 .f32) (harg30 : arg30.IsWhole)
  (arg31 : Memref sig .tc .vmem S2x512x256 .f32) (harg31 : arg31.IsWhole)
  (arg32 : Memref sig .tc .vmem S512x256 .bf16) (harg32 : arg32.IsWhole)
  (arg33 : Memref sig .tc .vmem S512x256 .bf16) (harg33 : arg33.IsWhole)
  (arg34 : Memref sig .tc .vmem S11x8x256 .f32) (harg34 : arg34.IsWhole)
  (arg35 : Memref sig .tc .vmem S11x8x256 .f32) (harg35 : arg35.IsWhole)
  (arg36 : Memref sig .tc .vmem S11x8x256 .f32) (harg36 : arg36.IsWhole)
  (arg37 : Memref sig .tc .vmem S11x8x256 .f32) (harg37 : arg37.IsWhole)

set_option maxHeartbeats 2000000 in
/-- On whole buffers at the contents `x` and `z` the body runs, at an inner column of the first block of tokens, and leaves a state that the run finds. -/
noncomputable def rawB (c : Dev nD) (i : grid0.Coords) (hc1 : ¬k0_cond1 i = 1#1) (hc4 : k0_cond4 i = 1#1) (hc5 : ¬k0_cond5 i = 1#1) (x : In F) (z : St F) :
    Run c i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26, arg27, harg27, arg28, harg28, arg29, harg29, arg30, harg30, arg31, harg31, arg32, harg32, arg33, harg33, arg34, harg34, arg35, harg35, arg36, harg36, arg37, harg37⟩ x z := by
  refine ⟨⟨?_, ?_, ?_, ?_, ?_, ?_, ?_, ?_, ?_, ?_, ?_, ?_, ?_, ?_, ?_, ?_, ?_⟩, fun E K => ?run⟩
  case run =>
    unfold bodyOf rawIn rawSt ownSt owns
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨⟨H0, H1, H2, H3, H4, H5, H6, H7, H8, H9, H10, H11, H12, H13, H14, H15, H16, H17, H18⟩, ⟨H19, H20, H21, H22, H23, H24, H25, H26, H27, H28, H29, H30, H31, H32, H33, H34, H35⟩, Hk⟩
    sl_exec (disch := first | sl_exact hc1 | sl_exact hc4 | sl_exact hc5)
    sl_step
    iapply Hk
    isplitl [H0 H1 H2 H3 H4 H5 H6 H7 H8 H9 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _; isplitr; swap; · iexact H24
      ipureintro; rfl
    isplitl [H25]
    · iexists _; isplitr; swap; · iexact H25
      ipureintro; rfl
    isplitl [H26]
    · iexists _; isplitr; swap; · iexact H26
      ipureintro; rfl
    isplitl [H27]
    · iexists _; isplitr; swap; · iexact H27
      ipureintro; rfl
    isplitl [H28]
    · iexists _; isplitr; swap; · iexact H28
      ipureintro; rfl
    isplitl [H29]
    · iexists _; isplitr; swap; · iexact H29
      ipureintro; rfl
    isplitl [H30]
    · iexists _; isplitr; swap; · iexact H30
      ipureintro; rfl
    isplitl [H31]
    · iexists _; isplitr; swap; · iexact H31
      ipureintro; rfl
    isplitl [H32]
    · iexists _; isplitr; swap; · iexact H32
      ipureintro; rfl
    isplitl [H33]
    · iexists _; isplitr; swap; · iexact H33
      ipureintro; rfl
    isplitl [H34]
    · iexists _; isplitr; swap; · iexact H34
      ipureintro; rfl
    iexists _; isplitr; swap; · iexact H35
    ipureintro; rfl

/-- The run at an inner column of the first block of tokens. -/
noncomputable def runB (c : Dev nD) (i : grid0.Coords) (B : Bufs) (hc1 : ¬k0_cond1 i = 1#1) (hc4 : k0_cond4 i = 1#1) (hc5 : ¬k0_cond5 i = 1#1) (x : In F) (z : St F) : Run c i B x z :=
  rawB B.b2 B.h2 B.b3 B.h3 B.b4 B.h4 B.b5 B.h5 B.b6 B.h6 B.b7 B.h7 B.b8 B.h8 B.b9 B.h9 B.b10 B.h10 B.b11 B.h11 B.b12 B.h12 B.b13 B.h13 B.b14 B.h14 B.b15 B.h15 B.b16 B.h16 B.b17 B.h17 B.b18 B.h18 B.b19 B.h19 B.b20 B.h20 B.b21 B.h21 B.b22 B.h22 B.b23 B.h23 B.b24 B.h24 B.b25 B.h25 B.b26 B.h26 B.b27 B.h27 B.b28 B.h28 B.b29 B.h29 B.b30 B.h30 B.b31 B.h31 B.b32 B.h32 B.b33 B.h33 B.b34 B.h34 B.b35 B.h35 B.b36 B.h36 B.b37 B.h37 c i hc1 hc4 hc5 x z

end Cert.KernelIdeal.Body

end
-- ==== Proof.Body.RunC.lean ====
/- The run of the body AT the last column of the first block of tokens. -/
module

public import proofs.«01_k».proof.Proof.Body.State

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .vmem S512x1024 .f32) (harg2 : arg2.IsWhole)
  (arg3 : Memref sig .tc .vmem S512x1024 .f32) (harg3 : arg3.IsWhole)
  (arg4 : Memref sig .tc .vmem S512x256 .f32) (harg4 : arg4.IsWhole)
  (arg5 : Memref sig .tc .vmem S512x256 .f32) (harg5 : arg5.IsWhole)
  (arg6 : Memref sig .tc .vmem S8x256 .f32) (harg6 : arg6.IsWhole)
  (arg7 : Memref sig .tc .vmem S8x256 .f32) (harg7 : arg7.IsWhole)
  (arg8 : Memref sig .tc .vmem S3x256 .f32) (harg8 : arg8.IsWhole)
  (arg9 : Memref sig .tc .vmem S3x256 .f32) (harg9 : arg9.IsWhole)
  (arg10 : Memref sig .tc .vmem S1x256 .f32) (harg10 : arg10.IsWhole)
  (arg11 : Memref sig .tc .vmem S1x256 .f32) (harg11 : arg11.IsWhole)
  (arg12 : Memref sig .tc .vmem S256x1024 .bf16) (harg12 : arg12.IsWhole)
  (arg13 : Memref sig .tc .vmem S1x1024 .f32) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S512x1024 .f32) (harg16 : arg16.IsWhole)
  (arg17 : Memref sig .tc .vmem S1x1024 .f32) (harg17 : arg17.IsWhole)
  (arg18 : Memref sig .tc .vmem S256x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S512x1024 .bf16) (harg21 : arg21.IsWhole)
  (arg22 : Memref sig .tc .vmem S256x512 .bf16) (harg22 : arg22.IsWhole)
  (arg23 : Memref sig .tc .vmem S256x512 .bf16) (harg23 : arg23.IsWhole)
  (arg24 : Memref sig .tc .vmem S1x8x256 .f32) (harg24 : arg24.IsWhole)
  (arg25 : Memref sig .tc .vmem S1x8x256 .f32) (harg25 : arg25.IsWhole)
  (arg26 : Memref sig .tc .vmem S1x1024 .f32) (harg26 : arg26.IsWhole)
  (arg27 : Memref sig .tc .vmem S512x1024 .f32) (harg27 : arg27.IsWhole)
  (arg28 : Memref sig .tc .vmem S1x1024 .f32) (harg28 : arg28.IsWhole)
  (arg29 : Memref sig .tc .vmem S512x1024 .bf16) (harg29 : arg29.IsWhole)
  (arg30 : Memref sig .tc .vmem S512x1024 .f32) (harg30 : arg30.IsWhole)
  (arg31 : Memref sig .tc .vmem S2x512x256 .f32) (harg31 : arg31.IsWhole)
  (arg32 : Memref sig .tc .vmem S512x256 .bf16) (harg32 : arg32.IsWhole)
  (arg33 : Memref sig .tc .vmem S512x256 .bf16) (harg33 : arg33.IsWhole)
  (arg34 : Memref sig .tc .vmem S11x8x256 .f32) (harg34 : arg34.IsWhole)
  (arg35 : Memref sig .tc .vmem S11x8x256 .f32) (harg35 : arg35.IsWhole)
  (arg36 : Memref sig .tc .vmem S11x8x256 .f32) (harg36 : arg36.IsWhole)
  (arg37 : Memref sig .tc .vmem S11x8x256 .f32) (harg37 : arg37.IsWhole)

set_option maxHeartbeats 2000000 in
/-- On whole buffers at the contents `x` and `z` the body runs, at the last column of the first block of tokens, and leaves a state that the run finds. -/
noncomputable def rawC (c : Dev nD) (i : grid0.Coords) (hc1 : ¬k0_cond1 i = 1#1) (hc4 : k0_cond4 i = 1#1) (hc5 : k0_cond5 i = 1#1) (hc6 : k0_cond6 i = 1#1) (hc7 : ¬k0_cond7 i = 1#1) (x : In F) (z : St F) :
    Run c i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26, arg27, harg27, arg28, harg28, arg29, harg29, arg30, harg30, arg31, harg31, arg32, harg32, arg33, harg33, arg34, harg34, arg35, harg35, arg36, harg36, arg37, harg37⟩ x z := by
  refine ⟨⟨?_, ?_, ?_, ?_, ?_, ?_, ?_, ?_, ?_, ?_, ?_, ?_, ?_, ?_, ?_, ?_, ?_⟩, fun E K => ?run⟩
  case run =>
    unfold bodyOf rawIn rawSt ownSt owns
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨⟨H0, H1, H2, H3, H4, H5, H6, H7, H8, H9, H10, H11, H12, H13, H14, H15, H16, H17, H18⟩, ⟨H19, H20, H21, H22, H23, H24, H25, H26, H27, H28, H29, H30, H31, H32, H33, H34, H35⟩, Hk⟩
    sl_exec (disch := first | sl_exact hc1 | sl_exact hc4 | sl_exact hc5 | sl_exact hc6 | sl_exact hc7)
    sl_step
    iapply Hk
    isplitl [H0 H1 H2 H3 H4 H5 H6 H7 H8 H9 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _; isplitr; swap; · iexact H24
      ipureintro; rfl
    isplitl [H25]
    · iexists _; isplitr; swap; · iexact H25
      ipureintro; rfl
    isplitl [H26]
    · iexists _; isplitr; swap; · iexact H26
      ipureintro; rfl
    isplitl [H27]
    · iexists _; isplitr; swap; · iexact H27
      ipureintro; rfl
    isplitl [H28]
    · iexists _; isplitr; swap; · iexact H28
      ipureintro; rfl
    isplitl [H29]
    · iexists _; isplitr; swap; · iexact H29
      ipureintro; rfl
    isplitl [H30]
    · iexists _; isplitr; swap; · iexact H30
      ipureintro; rfl
    isplitl [H31]
    · iexists _; isplitr; swap; · iexact H31
      ipureintro; rfl
    isplitl [H32]
    · iexists _; isplitr; swap; · iexact H32
      ipureintro; rfl
    isplitl [H33]
    · iexists _; isplitr; swap; · iexact H33
      ipureintro; rfl
    isplitl [H34]
    · iexists _; isplitr; swap; · iexact H34
      ipureintro; rfl
    iexists _; isplitr; swap; · iexact H35
    ipureintro; rfl

/-- The run at the last column of the first block of tokens. -/
noncomputable def runC (c : Dev nD) (i : grid0.Coords) (B : Bufs) (hc1 : ¬k0_cond1 i = 1#1) (hc4 : k0_cond4 i = 1#1) (hc5 : k0_cond5 i = 1#1) (hc6 : k0_cond6 i = 1#1) (hc7 : ¬k0_cond7 i = 1#1) (x : In F) (z : St F) : Run c i B x z :=
  rawC B.b2 B.h2 B.b3 B.h3 B.b4 B.h4 B.b5 B.h5 B.b6 B.h6 B.b7 B.h7 B.b8 B.h8 B.b9 B.h9 B.b10 B.h10 B.b11 B.h11 B.b12 B.h12 B.b13 B.h13 B.b14 B.h14 B.b15 B.h15 B.b16 B.h16 B.b17 B.h17 B.b18 B.h18 B.b19 B.h19 B.b20 B.h20 B.b21 B.h21 B.b22 B.h22 B.b23 B.h23 B.b24 B.h24 B.b25 B.h25 B.b26 B.h26 B.b27 B.h27 B.b28 B.h28 B.b29 B.h29 B.b30 B.h30 B.b31 B.h31 B.b32 B.h32 B.b33 B.h33 B.b34 B.h34 B.b35 B.h35 B.b36 B.h36 B.b37 B.h37 c i hc1 hc4 hc5 hc6 hc7 x z

end Cert.KernelIdeal.Body

end
-- ==== Proof.Body.RunD.lean ====
/- The run of the body AT the first column of a later block of tokens. -/
module

public import proofs.«01_k».proof.Proof.Body.State

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .vmem S512x1024 .f32) (harg2 : arg2.IsWhole)
  (arg3 : Memref sig .tc .vmem S512x1024 .f32) (harg3 : arg3.IsWhole)
  (arg4 : Memref sig .tc .vmem S512x256 .f32) (harg4 : arg4.IsWhole)
  (arg5 : Memref sig .tc .vmem S512x256 .f32) (harg5 : arg5.IsWhole)
  (arg6 : Memref sig .tc .vmem S8x256 .f32) (harg6 : arg6.IsWhole)
  (arg7 : Memref sig .tc .vmem S8x256 .f32) (harg7 : arg7.IsWhole)
  (arg8 : Memref sig .tc .vmem S3x256 .f32) (harg8 : arg8.IsWhole)
  (arg9 : Memref sig .tc .vmem S3x256 .f32) (harg9 : arg9.IsWhole)
  (arg10 : Memref sig .tc .vmem S1x256 .f32) (harg10 : arg10.IsWhole)
  (arg11 : Memref sig .tc .vmem S1x256 .f32) (harg11 : arg11.IsWhole)
  (arg12 : Memref sig .tc .vmem S256x1024 .bf16) (harg12 : arg12.IsWhole)
  (arg13 : Memref sig .tc .vmem S1x1024 .f32) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S512x1024 .f32) (harg16 : arg16.IsWhole)
  (arg17 : Memref sig .tc .vmem S1x1024 .f32) (harg17 : arg17.IsWhole)
  (arg18 : Memref sig .tc .vmem S256x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S512x1024 .bf16) (harg21 : arg21.IsWhole)
  (arg22 : Memref sig .tc .vmem S256x512 .bf16) (harg22 : arg22.IsWhole)
  (arg23 : Memref sig .tc .vmem S256x512 .bf16) (harg23 : arg23.IsWhole)
  (arg24 : Memref sig .tc .vmem S1x8x256 .f32) (harg24 : arg24.IsWhole)
  (arg25 : Memref sig .tc .vmem S1x8x256 .f32) (harg25 : arg25.IsWhole)
  (arg26 : Memref sig .tc .vmem S1x1024 .f32) (harg26 : arg26.IsWhole)
  (arg27 : Memref sig .tc .vmem S512x1024 .f32) (harg27 : arg27.IsWhole)
  (arg28 : Memref sig .tc .vmem S1x1024 .f32) (harg28 : arg28.IsWhole)
  (arg29 : Memref sig .tc .vmem S512x1024 .bf16) (harg29 : arg29.IsWhole)
  (arg30 : Memref sig .tc .vmem S512x1024 .f32) (harg30 : arg30.IsWhole)
  (arg31 : Memref sig .tc .vmem S2x512x256 .f32) (harg31 : arg31.IsWhole)
  (arg32 : Memref sig .tc .vmem S512x256 .bf16) (harg32 : arg32.IsWhole)
  (arg33 : Memref sig .tc .vmem S512x256 .bf16) (harg33 : arg33.IsWhole)
  (arg34 : Memref sig .tc .vmem S11x8x256 .f32) (harg34 : arg34.IsWhole)
  (arg35 : Memref sig .tc .vmem S11x8x256 .f32) (harg35 : arg35.IsWhole)
  (arg36 : Memref sig .tc .vmem S11x8x256 .f32) (harg36 : arg36.IsWhole)
  (arg37 : Memref sig .tc .vmem S11x8x256 .f32) (harg37 : arg37.IsWhole)

set_option maxHeartbeats 2000000 in
/-- On whole buffers at the contents `x` and `z` the body runs, at the first column of a later block of tokens, and leaves a state that the run finds. -/
noncomputable def rawD (c : Dev nD) (i : grid0.Coords) (hc1 : k0_cond1 i = 1#1) (hc2 : ¬k0_cond2 i = 1#1) (hc3 : k0_cond3 i = 1#1) (hc4 : ¬k0_cond4 i = 1#1) (hc5 : ¬k0_cond5 i = 1#1) (x : In F) (z : St F) :
    Run c i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26, arg27, harg27, arg28, harg28, arg29, harg29, arg30, harg30, arg31, harg31, arg32, harg32, arg33, harg33, arg34, harg34, arg35, harg35, arg36, harg36, arg37, harg37⟩ x z := by
  refine ⟨⟨?_, ?_, ?_, ?_, ?_, ?_, ?_, ?_, ?_, ?_, ?_, ?_, ?_, ?_, ?_, ?_, ?_⟩, fun E K => ?run⟩
  case run =>
    unfold bodyOf rawIn rawSt ownSt owns
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨⟨H0, H1, H2, H3, H4, H5, H6, H7, H8, H9, H10, H11, H12, H13, H14, H15, H16, H17, H18⟩, ⟨H19, H20, H21, H22, H23, H24, H25, H26, H27, H28, H29, H30, H31, H32, H33, H34, H35⟩, Hk⟩
    letI : ClosedOff (k0_off2 i) := ⟨![0, 0, 0], off2_first i hc1⟩
    letI : ClosedOff (k0_off3 i) := ⟨![1, 0, 0], off3_first i hc1⟩
    sl_exec (disch := first | sl_exact hc1 | sl_exact hc2 | sl_exact hc3 | sl_exact hc4 | sl_exact hc5)
    sl_step
    iapply Hk
    isplitl [H0 H1 H2 H3 H4 H5 H6 H7 H8 H9 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _; isplitr; swap; · iexact H24
      ipureintro; rfl
    isplitl [H25]
    · iexists _; isplitr; swap; · iexact H25
      ipureintro; rfl
    isplitl [H26]
    · iexists _; isplitr; swap; · iexact H26
      ipureintro; rfl
    isplitl [H27]
    · iexists _; isplitr; swap; · iexact H27
      ipureintro; rfl
    isplitl [H28]
    · iexists _; isplitr; swap; · iexact H28
      ipureintro; rfl
    isplitl [H29]
    · iexists _; isplitr; swap; · iexact H29
      ipureintro; rfl
    isplitl [H30]
    · iexists _; isplitr; swap; · iexact H30
      ipureintro; rfl
    isplitl [H31]
    · iexists _; isplitr; swap; · iexact H31
      ipureintro; rfl
    isplitl [H32]
    · iexists _; isplitr; swap; · iexact H32
      ipureintro; rfl
    isplitl [H33]
    · iexists _; isplitr; swap; · iexact H33
      ipureintro; rfl
    isplitl [H34]
    · iexists _; isplitr; swap; · iexact H34
      ipureintro; rfl
    iexists _; isplitr; swap; · iexact H35
    ipureintro; rfl

/-- The run at the first column of a later block of tokens. -/
noncomputable def runD (c : Dev nD) (i : grid0.Coords) (B : Bufs) (hc1 : k0_cond1 i = 1#1) (hc2 : ¬k0_cond2 i = 1#1) (hc3 : k0_cond3 i = 1#1) (hc4 : ¬k0_cond4 i = 1#1) (hc5 : ¬k0_cond5 i = 1#1) (x : In F) (z : St F) : Run c i B x z :=
  rawD B.b2 B.h2 B.b3 B.h3 B.b4 B.h4 B.b5 B.h5 B.b6 B.h6 B.b7 B.h7 B.b8 B.h8 B.b9 B.h9 B.b10 B.h10 B.b11 B.h11 B.b12 B.h12 B.b13 B.h13 B.b14 B.h14 B.b15 B.h15 B.b16 B.h16 B.b17 B.h17 B.b18 B.h18 B.b19 B.h19 B.b20 B.h20 B.b21 B.h21 B.b22 B.h22 B.b23 B.h23 B.b24 B.h24 B.b25 B.h25 B.b26 B.h26 B.b27 B.h27 B.b28 B.h28 B.b29 B.h29 B.b30 B.h30 B.b31 B.h31 B.b32 B.h32 B.b33 B.h33 B.b34 B.h34 B.b35 B.h35 B.b36 B.h36 B.b37 B.h37 c i hc1 hc2 hc3 hc4 hc5 x z

end Cert.KernelIdeal.Body

end
-- ==== Proof.Body.RunE.lean ====
/- The run of the body AT an inner column of a later block of tokens. -/
module

public import proofs.«01_k».proof.Proof.Body.State

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .vmem S512x1024 .f32) (harg2 : arg2.IsWhole)
  (arg3 : Memref sig .tc .vmem S512x1024 .f32) (harg3 : arg3.IsWhole)
  (arg4 : Memref sig .tc .vmem S512x256 .f32) (harg4 : arg4.IsWhole)
  (arg5 : Memref sig .tc .vmem S512x256 .f32) (harg5 : arg5.IsWhole)
  (arg6 : Memref sig .tc .vmem S8x256 .f32) (harg6 : arg6.IsWhole)
  (arg7 : Memref sig .tc .vmem S8x256 .f32) (harg7 : arg7.IsWhole)
  (arg8 : Memref sig .tc .vmem S3x256 .f32) (harg8 : arg8.IsWhole)
  (arg9 : Memref sig .tc .vmem S3x256 .f32) (harg9 : arg9.IsWhole)
  (arg10 : Memref sig .tc .vmem S1x256 .f32) (harg10 : arg10.IsWhole)
  (arg11 : Memref sig .tc .vmem S1x256 .f32) (harg11 : arg11.IsWhole)
  (arg12 : Memref sig .tc .vmem S256x1024 .bf16) (harg12 : arg12.IsWhole)
  (arg13 : Memref sig .tc .vmem S1x1024 .f32) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S512x1024 .f32) (harg16 : arg16.IsWhole)
  (arg17 : Memref sig .tc .vmem S1x1024 .f32) (harg17 : arg17.IsWhole)
  (arg18 : Memref sig .tc .vmem S256x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S512x1024 .bf16) (harg21 : arg21.IsWhole)
  (arg22 : Memref sig .tc .vmem S256x512 .bf16) (harg22 : arg22.IsWhole)
  (arg23 : Memref sig .tc .vmem S256x512 .bf16) (harg23 : arg23.IsWhole)
  (arg24 : Memref sig .tc .vmem S1x8x256 .f32) (harg24 : arg24.IsWhole)
  (arg25 : Memref sig .tc .vmem S1x8x256 .f32) (harg25 : arg25.IsWhole)
  (arg26 : Memref sig .tc .vmem S1x1024 .f32) (harg26 : arg26.IsWhole)
  (arg27 : Memref sig .tc .vmem S512x1024 .f32) (harg27 : arg27.IsWhole)
  (arg28 : Memref sig .tc .vmem S1x1024 .f32) (harg28 : arg28.IsWhole)
  (arg29 : Memref sig .tc .vmem S512x1024 .bf16) (harg29 : arg29.IsWhole)
  (arg30 : Memref sig .tc .vmem S512x1024 .f32) (harg30 : arg30.IsWhole)
  (arg31 : Memref sig .tc .vmem S2x512x256 .f32) (harg31 : arg31.IsWhole)
  (arg32 : Memref sig .tc .vmem S512x256 .bf16) (harg32 : arg32.IsWhole)
  (arg33 : Memref sig .tc .vmem S512x256 .bf16) (harg33 : arg33.IsWhole)
  (arg34 : Memref sig .tc .vmem S11x8x256 .f32) (harg34 : arg34.IsWhole)
  (arg35 : Memref sig .tc .vmem S11x8x256 .f32) (harg35 : arg35.IsWhole)
  (arg36 : Memref sig .tc .vmem S11x8x256 .f32) (harg36 : arg36.IsWhole)
  (arg37 : Memref sig .tc .vmem S11x8x256 .f32) (harg37 : arg37.IsWhole)

set_option maxHeartbeats 2000000 in
/-- On whole buffers at the contents `x` and `z` the body runs, at an inner column of a later block of tokens, and leaves a state that the run finds. -/
noncomputable def rawE (c : Dev nD) (i : grid0.Coords) (hc1 : ¬k0_cond1 i = 1#1) (hc4 : ¬k0_cond4 i = 1#1) (hc5 : ¬k0_cond5 i = 1#1) (x : In F) (z : St F) :
    Run c i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26, arg27, harg27, arg28, harg28, arg29, harg29, arg30, harg30, arg31, harg31, arg32, harg32, arg33, harg33, arg34, harg34, arg35, harg35, arg36, harg36, arg37, harg37⟩ x z := by
  refine ⟨⟨?_, ?_, ?_, ?_, ?_, ?_, ?_, ?_, ?_, ?_, ?_, ?_, ?_, ?_, ?_, ?_, ?_⟩, fun E K => ?run⟩
  case run =>
    unfold bodyOf rawIn rawSt ownSt owns
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨⟨H0, H1, H2, H3, H4, H5, H6, H7, H8, H9, H10, H11, H12, H13, H14, H15, H16, H17, H18⟩, ⟨H19, H20, H21, H22, H23, H24, H25, H26, H27, H28, H29, H30, H31, H32, H33, H34, H35⟩, Hk⟩
    sl_exec (disch := first | sl_exact hc1 | sl_exact hc4 | sl_exact hc5)
    sl_step
    iapply Hk
    isplitl [H0 H1 H2 H3 H4 H5 H6 H7 H8 H9 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _; isplitr; swap; · iexact H24
      ipureintro; rfl
    isplitl [H25]
    · iexists _; isplitr; swap; · iexact H25
      ipureintro; rfl
    isplitl [H26]
    · iexists _; isplitr; swap; · iexact H26
      ipureintro; rfl
    isplitl [H27]
    · iexists _; isplitr; swap; · iexact H27
      ipureintro; rfl
    isplitl [H28]
    · iexists _; isplitr; swap; · iexact H28
      ipureintro; rfl
    isplitl [H29]
    · iexists _; isplitr; swap; · iexact H29
      ipureintro; rfl
    isplitl [H30]
    · iexists _; isplitr; swap; · iexact H30
      ipureintro; rfl
    isplitl [H31]
    · iexists _; isplitr; swap; · iexact H31
      ipureintro; rfl
    isplitl [H32]
    · iexists _; isplitr; swap; · iexact H32
      ipureintro; rfl
    isplitl [H33]
    · iexists _; isplitr; swap; · iexact H33
      ipureintro; rfl
    isplitl [H34]
    · iexists _; isplitr; swap; · iexact H34
      ipureintro; rfl
    iexists _; isplitr; swap; · iexact H35
    ipureintro; rfl

/-- The run at an inner column of a later block of tokens. -/
noncomputable def runE (c : Dev nD) (i : grid0.Coords) (B : Bufs) (hc1 : ¬k0_cond1 i = 1#1) (hc4 : ¬k0_cond4 i = 1#1) (hc5 : ¬k0_cond5 i = 1#1) (x : In F) (z : St F) : Run c i B x z :=
  rawE B.b2 B.h2 B.b3 B.h3 B.b4 B.h4 B.b5 B.h5 B.b6 B.h6 B.b7 B.h7 B.b8 B.h8 B.b9 B.h9 B.b10 B.h10 B.b11 B.h11 B.b12 B.h12 B.b13 B.h13 B.b14 B.h14 B.b15 B.h15 B.b16 B.h16 B.b17 B.h17 B.b18 B.h18 B.b19 B.h19 B.b20 B.h20 B.b21 B.h21 B.b22 B.h22 B.b23 B.h23 B.b24 B.h24 B.b25 B.h25 B.b26 B.h26 B.b27 B.h27 B.b28 B.h28 B.b29 B.h29 B.b30 B.h30 B.b31 B.h31 B.b32 B.h32 B.b33 B.h33 B.b34 B.h34 B.b35 B.h35 B.b36 B.h36 B.b37 B.h37 c i hc1 hc4 hc5 x z

end Cert.KernelIdeal.Body

end
-- ==== Proof.Body.RunG.lean ====
/- The run of the body AT the last column of a later block of tokens. -/
module

public import proofs.«01_k».proof.Proof.Body.State

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .vmem S512x1024 .f32) (harg2 : arg2.IsWhole)
  (arg3 : Memref sig .tc .vmem S512x1024 .f32) (harg3 : arg3.IsWhole)
  (arg4 : Memref sig .tc .vmem S512x256 .f32) (harg4 : arg4.IsWhole)
  (arg5 : Memref sig .tc .vmem S512x256 .f32) (harg5 : arg5.IsWhole)
  (arg6 : Memref sig .tc .vmem S8x256 .f32) (harg6 : arg6.IsWhole)
  (arg7 : Memref sig .tc .vmem S8x256 .f32) (harg7 : arg7.IsWhole)
  (arg8 : Memref sig .tc .vmem S3x256 .f32) (harg8 : arg8.IsWhole)
  (arg9 : Memref sig .tc .vmem S3x256 .f32) (harg9 : arg9.IsWhole)
  (arg10 : Memref sig .tc .vmem S1x256 .f32) (harg10 : arg10.IsWhole)
  (arg11 : Memref sig .tc .vmem S1x256 .f32) (harg11 : arg11.IsWhole)
  (arg12 : Memref sig .tc .vmem S256x1024 .bf16) (harg12 : arg12.IsWhole)
  (arg13 : Memref sig .tc .vmem S1x1024 .f32) (harg13 : arg13.IsWhole)
  (arg14 : Memref sig .tc .vmem S256x1024 .bf16) (harg14 : arg14.IsWhole)
  (arg15 : Memref sig .tc .vmem S256x1024 .bf16) (harg15 : arg15.IsWhole)
  (arg16 : Memref sig .tc .vmem S512x1024 .f32) (harg16 : arg16.IsWhole)
  (arg17 : Memref sig .tc .vmem S1x1024 .f32) (harg17 : arg17.IsWhole)
  (arg18 : Memref sig .tc .vmem S256x1024 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S512x1024 .bf16) (harg21 : arg21.IsWhole)
  (arg22 : Memref sig .tc .vmem S256x512 .bf16) (harg22 : arg22.IsWhole)
  (arg23 : Memref sig .tc .vmem S256x512 .bf16) (harg23 : arg23.IsWhole)
  (arg24 : Memref sig .tc .vmem S1x8x256 .f32) (harg24 : arg24.IsWhole)
  (arg25 : Memref sig .tc .vmem S1x8x256 .f32) (harg25 : arg25.IsWhole)
  (arg26 : Memref sig .tc .vmem S1x1024 .f32) (harg26 : arg26.IsWhole)
  (arg27 : Memref sig .tc .vmem S512x1024 .f32) (harg27 : arg27.IsWhole)
  (arg28 : Memref sig .tc .vmem S1x1024 .f32) (harg28 : arg28.IsWhole)
  (arg29 : Memref sig .tc .vmem S512x1024 .bf16) (harg29 : arg29.IsWhole)
  (arg30 : Memref sig .tc .vmem S512x1024 .f32) (harg30 : arg30.IsWhole)
  (arg31 : Memref sig .tc .vmem S2x512x256 .f32) (harg31 : arg31.IsWhole)
  (arg32 : Memref sig .tc .vmem S512x256 .bf16) (harg32 : arg32.IsWhole)
  (arg33 : Memref sig .tc .vmem S512x256 .bf16) (harg33 : arg33.IsWhole)
  (arg34 : Memref sig .tc .vmem S11x8x256 .f32) (harg34 : arg34.IsWhole)
  (arg35 : Memref sig .tc .vmem S11x8x256 .f32) (harg35 : arg35.IsWhole)
  (arg36 : Memref sig .tc .vmem S11x8x256 .f32) (harg36 : arg36.IsWhole)
  (arg37 : Memref sig .tc .vmem S11x8x256 .f32) (harg37 : arg37.IsWhole)

set_option maxHeartbeats 2000000 in
/-- On whole buffers at the contents `x` and `z` the body runs, at the last column of a later block of tokens, and leaves a state that the run finds. -/
noncomputable def rawG (c : Dev nD) (i : grid0.Coords) (hc1 : ¬k0_cond1 i = 1#1) (hc4 : ¬k0_cond4 i = 1#1) (hc5 : k0_cond5 i = 1#1) (hc6 : ¬k0_cond6 i = 1#1) (hc7 : k0_cond7 i = 1#1) (x : In F) (z : St F) :
    Run c i ⟨arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, arg24, harg24, arg25, harg25, arg26, harg26, arg27, harg27, arg28, harg28, arg29, harg29, arg30, harg30, arg31, harg31, arg32, harg32, arg33, harg33, arg34, harg34, arg35, harg35, arg36, harg36, arg37, harg37⟩ x z := by
  refine ⟨⟨?_, ?_, ?_, ?_, ?_, ?_, ?_, ?_, ?_, ?_, ?_, ?_, ?_, ?_, ?_, ?_, ?_⟩, fun E K => ?run⟩
  case run =>
    unfold bodyOf rawIn rawSt ownSt owns
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨⟨H0, H1, H2, H3, H4, H5, H6, H7, H8, H9, H10, H11, H12, H13, H14, H15, H16, H17, H18⟩, ⟨H19, H20, H21, H22, H23, H24, H25, H26, H27, H28, H29, H30, H31, H32, H33, H34, H35⟩, Hk⟩
    sl_exec (disch := first | sl_exact hc1 | sl_exact hc4 | sl_exact hc5 | sl_exact hc6 | sl_exact hc7)
    sl_step
    iapply Hk
    isplitl [H0 H1 H2 H3 H4 H5 H6 H7 H8 H9 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _; isplitr; swap; · iexact H24
      ipureintro; rfl
    isplitl [H25]
    · iexists _; isplitr; swap; · iexact H25
      ipureintro; rfl
    isplitl [H26]
    · iexists _; isplitr; swap; · iexact H26
      ipureintro; rfl
    isplitl [H27]
    · iexists _; isplitr; swap; · iexact H27
      ipureintro; rfl
    isplitl [H28]
    · iexists _; isplitr; swap; · iexact H28
      ipureintro; rfl
    isplitl [H29]
    · iexists _; isplitr; swap; · iexact H29
      ipureintro; rfl
    isplitl [H30]
    · iexists _; isplitr; swap; · iexact H30
      ipureintro; rfl
    isplitl [H31]
    · iexists _; isplitr; swap; · iexact H31
      ipureintro; rfl
    isplitl [H32]
    · iexists _; isplitr; swap; · iexact H32
      ipureintro; rfl
    isplitl [H33]
    · iexists _; isplitr; swap; · iexact H33
      ipureintro; rfl
    isplitl [H34]
    · iexists _; isplitr; swap; · iexact H34
      ipureintro; rfl
    iexists _; isplitr; swap; · iexact H35
    ipureintro; rfl

/-- The run at the last column of a later block of tokens. -/
noncomputable def runG (c : Dev nD) (i : grid0.Coords) (B : Bufs) (hc1 : ¬k0_cond1 i = 1#1) (hc4 : ¬k0_cond4 i = 1#1) (hc5 : k0_cond5 i = 1#1) (hc6 : ¬k0_cond6 i = 1#1) (hc7 : k0_cond7 i = 1#1) (x : In F) (z : St F) : Run c i B x z :=
  rawG B.b2 B.h2 B.b3 B.h3 B.b4 B.h4 B.b5 B.h5 B.b6 B.h6 B.b7 B.h7 B.b8 B.h8 B.b9 B.h9 B.b10 B.h10 B.b11 B.h11 B.b12 B.h12 B.b13 B.h13 B.b14 B.h14 B.b15 B.h15 B.b16 B.h16 B.b17 B.h17 B.b18 B.h18 B.b19 B.h19 B.b20 B.h20 B.b21 B.h21 B.b22 B.h22 B.b23 B.h23 B.b24 B.h24 B.b25 B.h25 B.b26 B.h26 B.b27 B.h27 B.b28 B.h28 B.b29 B.h29 B.b30 B.h30 B.b31 B.h31 B.b32 B.h32 B.b33 B.h33 B.b34 B.h34 B.b35 B.h35 B.b36 B.h36 B.b37 B.h37 c i hc1 hc4 hc5 hc6 hc7 x z

end Cert.KernelIdeal.Body

end
-- ==== Proof.Body.Point.lean ====
/-
  THE KERNEL'S RUN, FOR ANY INVARIANT. `step` is what the body does at a grid point. An `Inv` says what holds of the scratch between the
  points and of each output block after a point; whatever it is, the whole program runs and leaves arrays whose blocks meet it.
-/
module

public import proofs.«01_k».proof.Proof.Body.RunA
public import proofs.«01_k».proof.Proof.Body.RunB
public import proofs.«01_k».proof.Proof.Body.RunC
public import proofs.«01_k».proof.Proof.Body.RunD
public import proofs.«01_k».proof.Proof.Body.RunE
public import proofs.«01_k».proof.Proof.Body.RunG
public import Idealize.ShloMosaic.Lib.Pipeline.DatRel
public import Idealize.ShloMosaic.Lib.Pipeline.ArrRel

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The memrefs of the body at point `t`. -/
abbrev bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), win0_14.stage (cfg0.slots t 14), hstage0_14 ((cfg0.slots t 14).cast nbuf0_14), win0_15.stage (cfg0.slots t 15), hstage0_15 ((cfg0.slots t 15).cast nbuf0_15), win0_16.stage (cfg0.slots t 16), hstage0_16 ((cfg0.slots t 16).cast nbuf0_16), win0_17.stage (cfg0.slots t 17), hstage0_17 ((cfg0.slots t 17).cast nbuf0_17), win0_18.stage (cfg0.slots t 18), hstage0_18 ((cfg0.slots t 18).cast nbuf0_18), win0_19.stage (cfg0.slots t 19), hstage0_19 ((cfg0.slots t 19).cast nbuf0_19), win0_20.stage (cfg0.slots t 20), hstage0_20 ((cfg0.slots t 20).cast nbuf0_20), win0_21.stage (cfg0.slots t 21), hstage0_21 ((cfg0.slots t 21).cast nbuf0_21), win0_22.stage (cfg0.slots t 22), hstage0_22 ((cfg0.slots t 22).cast nbuf0_22), win0_23.stage (cfg0.slots t 23), hstage0_23 ((cfg0.slots t 23).cast nbuf0_23), win0_24.stage (cfg0.slots t 24), hstage0_24 ((cfg0.slots t 24).cast nbuf0_24), win0_25.stage (cfg0.slots t 25), hstage0_25 ((cfg0.slots t 25).cast nbuf0_25), win0_26.stage (cfg0.slots t 26), hstage0_26 ((cfg0.slots t 26).cast nbuf0_26), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _⟩

/-- The input blocks of point `t`. -/
abbrev inAt (c : Dev nD) (t : Fin cfg0.N) : In F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

/-- What the body does at point `t`. -/
def step (c : Dev nD) (t : Fin cfg0.N) (z : St F) : Run c (grid0.coords t) (bufs t) (inAt m c t) z :=
  if hs : t.val / 11 = 0 then
    if h0 : t.val % 11 = 0 then
      runA c (grid0.coords t) (bufs t) ((cond1_iff t).2 h0) ((cond2_iff t).2 hs) (fun h => (cond3_iff t).1 h hs) ((cond4_iff t).2 hs)
        (fun h => by have := (cond5_iff t).1 h; omega) (inAt m c t) z
    else if hl : t.val % 11 = 10 then
      runC c (grid0.coords t) (bufs t) (fun h => h0 ((cond1_iff t).1 h)) ((cond4_iff t).2 hs) ((cond5_iff t).2 hl) ((cond6_iff t).2 hs)
        (fun h => (cond7_iff t).1 h hs) (inAt m c t) z
    else runB c (grid0.coords t) (bufs t) (fun h => h0 ((cond1_iff t).1 h)) ((cond4_iff t).2 hs) (fun h => hl ((cond5_iff t).1 h)) (inAt m c t) z
  else
    if h0 : t.val % 11 = 0 then
      runD c (grid0.coords t) (bufs t) ((cond1_iff t).2 h0) (fun h => hs ((cond2_iff t).1 h)) ((cond3_iff t).2 hs) (fun h => hs ((cond4_iff t).1 h))
        (fun h => by have := (cond5_iff t).1 h; omega) (inAt m c t) z
    else if hl : t.val % 11 = 10 then
      runG c (grid0.coords t) (bufs t) (fun h => h0 ((cond1_iff t).1 h)) (fun h => hs ((cond4_iff t).1 h)) ((cond5_iff t).2 hl)
        (fun h => hs ((cond6_iff t).1 h)) ((cond7_iff t).2 hs) (inAt m c t) z
    else runE c (grid0.coords t) (bufs t) (fun h => h0 ((cond1_iff t).1 h)) (fun h => hs ((cond4_iff t).1 h)) (fun h => hl ((cond5_iff t).1 h)) (inAt m c t) z

/-- The point before. -/
abbrev pred (t : Fin cfg0.N) : Fin cfg0.N := ⟨t.val - 1, Nat.lt_of_le_of_lt (Nat.sub_le _ _) t.isLt⟩

/-- What is known of the state: of the scratch before each point (`S`, which does not look at the output buffers), and of each output
    block after each point. -/
structure Inv (c : Dev nD) where
  S : ℕ → St F → Prop
  dy : Fin cfg0.N → Vec F S512x1024 .bf16 → Prop
  dug : Fin cfg0.N → Vec F S256x512 .bf16 → Prop
  duu : Fin cfg0.N → Vec F S256x512 .bf16 → Prop
  dcg : Fin cfg0.N → Vec F S1x8x256 .f32 → Prop
  dcu : Fin cfg0.N → Vec F S1x8x256 .f32 → Prop
  dgp : Fin cfg0.N → Vec F S1x1024 .f32 → Prop
  dx2 : Fin cfg0.N → Vec F S512x1024 .f32 → Prop
  dgf : Fin cfg0.N → Vec F S1x1024 .f32 → Prop
  start : ∀ z, S 0 z
  outs : ∀ n z (y19 : Vec F S512x1024 .bf16) (y20 : Vec F S256x512 .bf16) (y21 : Vec F S256x512 .bf16) (y22 : Vec F S1x8x256 .f32) (y23 : Vec F S1x8x256 .f32) (y24 : Vec F S1x1024 .f32) (y25 : Vec F S512x1024 .f32) (y26 : Vec F S1x1024 .f32), S n z →
    S n { z with dy := y19, dug := y20, duu := y21, dcg := y22, dcu := y23, dgp := y24, dx2 := y25, dgf := y26 }
  step : ∀ (t : Fin cfg0.N) (z : St F), S t.val z → (t.val % 11 ≠ 0 → dy (pred t) z.dy) → (t.val ≠ 0 → dgp (pred t) z.dgp)
    → (t.val % 11 ≠ 0 → dx2 (pred t) z.dx2) → (t.val ≠ 0 → dgf (pred t) z.dgf)
    → S (t.val + 1) (step m c t z).1 ∧ dy t (step m c t z).1.dy ∧ dug t (step m c t z).1.dug ∧ duu t (step m c t z).1.duu ∧ dcg t (step m c t z).1.dcg ∧ dcu t (step m c t z).1.dcu ∧ dgp t (step m c t z).1.dgp ∧ dx2 t (step m c t z).1.dx2 ∧ dgf t (step m c t z).1.dgf

variable {m}
variable (I : (c : Dev nD) → Inv m c)

/-- The windows of the outputs are held to the invariant's predicates. -/
def marked : Fin 27 → Bool := fun w => decide (19 ≤ w.val)

/-- The predicates, by window. -/
def Rl (c : Dev nD) (w : Fin cfg0.W) (t : Fin cfg0.N) : ((cfg0.win w).block.Idx → Elt F (cfg0.win w).elt) → Prop :=
  match w with
  | ⟨19, _⟩ => (I c).dy t
  | ⟨20, _⟩ => (I c).dug t
  | ⟨21, _⟩ => (I c).duu t
  | ⟨22, _⟩ => (I c).dcg t
  | ⟨23, _⟩ => (I c).dcu t
  | ⟨24, _⟩ => (I c).dgp t
  | ⟨25, _⟩ => (I c).dx2 t
  | ⟨26, _⟩ => (I c).dgf t
  | _ => fun _ => True

/-- The scratch holds the scratch part of the state. -/
def ownScr (c : Dev nD) (z : St F) : sProp 𝕄 :=
  iprop(owns (c : Thread nD τ) (Memref.whole cc0_scratch0) fullShare z.dyS ∗ owns (c : Thread nD τ) (Memref.whole cc0_scratch1) fullShare z.dhS ∗ owns (c : Thread nD τ) (Memref.whole cc0_scratch2) fullShare z.daS ∗ owns (c : Thread nD τ) (Memref.whole cc0_scratch3) fullShare z.dugS ∗ owns (c : Thread nD τ) (Memref.whole cc0_scratch4) fullShare z.duuS ∗ owns (c : Thread nD τ) (Memref.whole cc0_scratch5) fullShare z.cg ∗ owns (c : Thread nD τ) (Memref.whole cc0_scratch6) fullShare z.cu ∗ owns (c : Thread nD τ) (Memref.whole cc0_scratch7) fullShare z.ag ∗ owns (c : Thread nD τ) (Memref.whole cc0_scratch8) fullShare z.au)

/-- The region's invariant before position `n`: the scratch at a state that meets `S n`, and the generator register. -/
def Phi (c : Dev nD) (n : ℕ) : sProp 𝕄 := iprop((∃ z, ⌜(I c).S n z⌝ ∗ ownScr c z) ∗ (∃ r, prngReg c r))

/-- The proof data: the arrays as the region finds them; each input's buffer at its block; the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨_ + 27, h⟩ => absurd h (by have : cfg0.W = 27 := rfl; omega)
  Φ t := Phi I c t.val
  q w := Pipeline.shareOf spec0 w
  owed _ := 0

/-- The same, each output window held to its predicate. -/
abbrev rdats (c : Dev nD) := (dats I 0 c).toRRel marked (Rl I c)

theorem A_eq (c : Dev nD) (w : Fin cfg0.W) : (dats I 0 c).A w = V m c (Pipeline.arrRef spec0 w) := by
  dsimp only [dats]

theorem after0_0 (c : Dev nD) (t : Fin cfg0.N) : (dats I 0 c).after 0 t = iblk m c 0 t := by dsimp only [dats]
theorem before0_0 (c : Dev nD) (t : Fin cfg0.N) (d) : (dats I 0 c).before 0 t d = iblk m c 0 t :=
  before0_0_of m (dats I 0 c) (A_eq I c 0) (after0_0 I c) t d
theorem live0_0 (c : Dev nD) (t : Fin cfg0.N) : (dats I 0 c).leavesExact 0 t = owns (c : Thread nD τ) (win0_0.stage (cfg0.slots t 0)) fullShare (iblk m c 0 t) := by
  unfold Dat.leavesExact; rw [show cfg0.idle 0 (grid0.coords t) = false from rfl, after0_0]
theorem after0_1 (c : Dev nD) (t : Fin cfg0.N) : (dats I 0 c).after 1 t = iblk m c 1 t := by dsimp only [dats]
theorem before0_1 (c : Dev nD) (t : Fin cfg0.N) (d) : (dats I 0 c).before 1 t d = iblk m c 1 t :=
  before0_1_of m (dats I 0 c) (A_eq I c 1) (after0_1 I c) t d
theorem live0_1 (c : Dev nD) (t : Fin cfg0.N) : (dats I 0 c).leavesExact 1 t = owns (c : Thread nD τ) (win0_1.stage (cfg0.slots t 1)) fullShare (iblk m c 1 t) := by
  unfold Dat.leavesExact; rw [show cfg0.idle 1 (grid0.coords t) = false from rfl, after0_1]
theorem after0_2 (c : Dev nD) (t : Fin cfg0.N) : (dats I 0 c).after 2 t = iblk m c 2 t := by dsimp only [dats]
theorem before0_2 (c : Dev nD) (t : Fin cfg0.N) (d) : (dats I 0 c).before 2 t d = iblk m c 2 t :=
  before0_2_of m (dats I 0 c) (A_eq I c 2) (after0_2 I c) t d
theorem live0_2 (c : Dev nD) (t : Fin cfg0.N) : (dats I 0 c).leavesExact 2 t = owns (c : Thread nD τ) (win0_2.stage (cfg0.slots t 2)) fullShare (iblk m c 2 t) := by
  unfold Dat.leavesExact; rw [show cfg0.idle 2 (grid0.coords t) = false from rfl, after0_2]
theorem after0_3 (c : Dev nD) (t : Fin cfg0.N) : (dats I 0 c).after 3 t = iblk m c 3 t := by dsimp only [dats]
theorem before0_3 (c : Dev nD) (t : Fin cfg0.N) (d) : (dats I 0 c).before 3 t d = iblk m c 3 t :=
  before0_3_of m (dats I 0 c) (A_eq I c 3) (after0_3 I c) t d
theorem live0_3 (c : Dev nD) (t : Fin cfg0.N) : (dats I 0 c).leavesExact 3 t = owns (c : Thread nD τ) (win0_3.stage (cfg0.slots t 3)) fullShare (iblk m c 3 t) := by
  unfold Dat.leavesExact; rw [show cfg0.idle 3 (grid0.coords t) = false from rfl, after0_3]
theorem after0_4 (c : Dev nD) (t : Fin cfg0.N) : (dats I 0 c).after 4 t = iblk m c 4 t := by dsimp only [dats]
theorem before0_4 (c : Dev nD) (t : Fin cfg0.N) (d) : (dats I 0 c).before 4 t d = iblk m c 4 t :=
  before0_4_of m (dats I 0 c) (A_eq I c 4) (after0_4 I c) t d
theorem live0_4 (c : Dev nD) (t : Fin cfg0.N) : (dats I 0 c).leavesExact 4 t = owns (c : Thread nD τ) (win0_4.stage (cfg0.slots t 4)) fullShare (iblk m c 4 t) := by
  unfold Dat.leavesExact; rw [show cfg0.idle 4 (grid0.coords t) = false from rfl, after0_4]
theorem after0_5 (c : Dev nD) (t : Fin cfg0.N) : (dats I 0 c).after 5 t = iblk m c 5 t := by dsimp only [dats]
theorem before0_5 (c : Dev nD) (t : Fin cfg0.N) (d) : (dats I 0 c).before 5 t d = iblk m c 5 t :=
  before0_5_of m (dats I 0 c) (A_eq I c 5) (after0_5 I c) t d
theorem live0_5 (c : Dev nD) (t : Fin cfg0.N) : (dats I 0 c).leavesExact 5 t = owns (c : Thread nD τ) (win0_5.stage (cfg0.slots t 5)) fullShare (iblk m c 5 t) := by
  unfold Dat.leavesExact; rw [show cfg0.idle 5 (grid0.coords t) = false from rfl, after0_5]
theorem after0_6 (c : Dev nD) (t : Fin cfg0.N) : (dats I 0 c).after 6 t = iblk m c 6 t := by dsimp only [dats]
theorem before0_6 (c : Dev nD) (t : Fin cfg0.N) (d) : (dats I 0 c).before 6 t d = iblk m c 6 t :=
  before0_6_of m (dats I 0 c) (A_eq I c 6) (after0_6 I c) t d
theorem live0_6 (c : Dev nD) (t : Fin cfg0.N) : (dats I 0 c).leavesExact 6 t = owns (c : Thread nD τ) (win0_6.stage (cfg0.slots t 6)) fullShare (iblk m c 6 t) := by
  unfold Dat.leavesExact; rw [show cfg0.idle 6 (grid0.coords t) = false from rfl, after0_6]
theorem after0_7 (c : Dev nD) (t : Fin cfg0.N) : (dats I 0 c).after 7 t = iblk m c 7 t := by dsimp only [dats]
theorem before0_7 (c : Dev nD) (t : Fin cfg0.N) (d) : (dats I 0 c).before 7 t d = iblk m c 7 t :=
  before0_7_of m (dats I 0 c) (A_eq I c 7) (after0_7 I c) t d
theorem live0_7 (c : Dev nD) (t : Fin cfg0.N) : (dats I 0 c).leavesExact 7 t = owns (c : Thread nD τ) (win0_7.stage (cfg0.slots t 7)) fullShare (iblk m c 7 t) := by
  unfold Dat.leavesExact; rw [show cfg0.idle 7 (grid0.coords t) = false from rfl, after0_7]
theorem after0_8 (c : Dev nD) (t : Fin cfg0.N) : (dats I 0 c).after 8 t = iblk m c 8 t := by dsimp only [dats]
theorem before0_8 (c : Dev nD) (t : Fin cfg0.N) (d) : (dats I 0 c).before 8 t d = iblk m c 8 t :=
  before0_8_of m (dats I 0 c) (A_eq I c 8) (after0_8 I c) t d
theorem live0_8 (c : Dev nD) (t : Fin cfg0.N) : (dats I 0 c).leavesExact 8 t = owns (c : Thread nD τ) (win0_8.stage (cfg0.slots t 8)) fullShare (iblk m c 8 t) := by
  unfold Dat.leavesExact; rw [show cfg0.idle 8 (grid0.coords t) = false from rfl, after0_8]
theorem after0_9 (c : Dev nD) (t : Fin cfg0.N) : (dats I 0 c).after 9 t = iblk m c 9 t := by dsimp only [dats]
theorem before0_9 (c : Dev nD) (t : Fin cfg0.N) (d) : (dats I 0 c).before 9 t d = iblk m c 9 t :=
  before0_9_of m (dats I 0 c) (A_eq I c 9) (after0_9 I c) t d
theorem live0_9 (c : Dev nD) (t : Fin cfg0.N) : (dats I 0 c).leavesExact 9 t = owns (c : Thread nD τ) (win0_9.stage (cfg0.slots t 9)) fullShare (iblk m c 9 t) := by
  unfold Dat.leavesExact; rw [show cfg0.idle 9 (grid0.coords t) = false from rfl, after0_9]
theorem after0_10 (c : Dev nD) (t : Fin cfg0.N) : (dats I 0 c).after 10 t = iblk m c 10 t := by dsimp only [dats]
theorem before0_10 (c : Dev nD) (t : Fin cfg0.N) (d) : (dats I 0 c).before 10 t d = iblk m c 10 t :=
  before0_10_of m (dats I 0 c) (A_eq I c 10) (after0_10 I c) t d
theorem live0_10 (c : Dev nD) (t : Fin cfg0.N) : (dats I 0 c).leavesExact 10 t = owns (c : Thread nD τ) (win0_10.stage (cfg0.slots t 10)) fullShare (iblk m c 10 t) := by
  unfold Dat.leavesExact; rw [show cfg0.idle 10 (grid0.coords t) = false from rfl, after0_10]
theorem after0_11 (c : Dev nD) (t : Fin cfg0.N) : (dats I 0 c).after 11 t = iblk m c 11 t := by dsimp only [dats]
theorem before0_11 (c : Dev nD) (t : Fin cfg0.N) (d) : (dats I 0 c).before 11 t d = iblk m c 11 t :=
  before0_11_of m (dats I 0 c) (A_eq I c 11) (after0_11 I c) t d
theorem live0_11 (c : Dev nD) (t : Fin cfg0.N) : (dats I 0 c).leavesExact 11 t = owns (c : Thread nD τ) (win0_11.stage (cfg0.slots t 11)) fullShare (iblk m c 11 t) := by
  unfold Dat.leavesExact; rw [show cfg0.idle 11 (grid0.coords t) = false from rfl, after0_11]
theorem after0_12 (c : Dev nD) (t : Fin cfg0.N) : (dats I 0 c).after 12 t = iblk m c 12 t := by dsimp only [dats]
theorem before0_12 (c : Dev nD) (t : Fin cfg0.N) (d) : (dats I 0 c).before 12 t d = iblk m c 12 t :=
  before0_12_of m (dats I 0 c) (A_eq I c 12) (after0_12 I c) t d
theorem live0_12 (c : Dev nD) (t : Fin cfg0.N) : (dats I 0 c).leavesExact 12 t = owns (c : Thread nD τ) (win0_12.stage (cfg0.slots t 12)) fullShare (iblk m c 12 t) := by
  unfold Dat.leavesExact; rw [show cfg0.idle 12 (grid0.coords t) = false from rfl, after0_12]
theorem after0_13 (c : Dev nD) (t : Fin cfg0.N) : (dats I 0 c).after 13 t = iblk m c 13 t := by dsimp only [dats]
theorem before0_13 (c : Dev nD) (t : Fin cfg0.N) (d) : (dats I 0 c).before 13 t d = iblk m c 13 t :=
  before0_13_of m (dats I 0 c) (A_eq I c 13) (after0_13 I c) t d
theorem live0_13 (c : Dev nD) (t : Fin cfg0.N) : (dats I 0 c).leavesExact 13 t = owns (c : Thread nD τ) (win0_13.stage (cfg0.slots t 13)) fullShare (iblk m c 13 t) := by
  unfold Dat.leavesExact; rw [show cfg0.idle 13 (grid0.coords t) = false from rfl, after0_13]
theorem after0_14 (c : Dev nD) (t : Fin cfg0.N) : (dats I 0 c).after 14 t = iblk m c 14 t := by dsimp only [dats]
theorem before0_14 (c : Dev nD) (t : Fin cfg0.N) (d) : (dats I 0 c).before 14 t d = iblk m c 14 t :=
  before0_14_of m (dats I 0 c) (A_eq I c 14) (after0_14 I c) t d
theorem live0_14 (c : Dev nD) (t : Fin cfg0.N) : (dats I 0 c).leavesExact 14 t = owns (c : Thread nD τ) (win0_14.stage (cfg0.slots t 14)) fullShare (iblk m c 14 t) := by
  unfold Dat.leavesExact; rw [show cfg0.idle 14 (grid0.coords t) = false from rfl, after0_14]
theorem after0_15 (c : Dev nD) (t : Fin cfg0.N) : (dats I 0 c).after 15 t = iblk m c 15 t := by dsimp only [dats]
theorem before0_15 (c : Dev nD) (t : Fin cfg0.N) (d) : (dats I 0 c).before 15 t d = iblk m c 15 t :=
  before0_15_of m (dats I 0 c) (A_eq I c 15) (after0_15 I c) t d
theorem live0_15 (c : Dev nD) (t : Fin cfg0.N) : (dats I 0 c).leavesExact 15 t = owns (c : Thread nD τ) (win0_15.stage (cfg0.slots t 15)) fullShare (iblk m c 15 t) := by
  unfold Dat.leavesExact; rw [show cfg0.idle 15 (grid0.coords t) = false from rfl, after0_15]
theorem after0_16 (c : Dev nD) (t : Fin cfg0.N) : (dats I 0 c).after 16 t = iblk m c 16 t := by dsimp only [dats]
theorem before0_16 (c : Dev nD) (t : Fin cfg0.N) (d) : (dats I 0 c).before 16 t d = iblk m c 16 t :=
  before0_16_of m (dats I 0 c) (A_eq I c 16) (after0_16 I c) t d
theorem live0_16 (c : Dev nD) (t : Fin cfg0.N) : (dats I 0 c).leavesExact 16 t = owns (c : Thread nD τ) (win0_16.stage (cfg0.slots t 16)) fullShare (iblk m c 16 t) := by
  unfold Dat.leavesExact; rw [show cfg0.idle 16 (grid0.coords t) = false from rfl, after0_16]
theorem after0_17 (c : Dev nD) (t : Fin cfg0.N) : (dats I 0 c).after 17 t = iblk m c 17 t := by dsimp only [dats]
theorem before0_17 (c : Dev nD) (t : Fin cfg0.N) (d) : (dats I 0 c).before 17 t d = iblk m c 17 t :=
  before0_17_of m (dats I 0 c) (A_eq I c 17) (after0_17 I c) t d
theorem live0_17 (c : Dev nD) (t : Fin cfg0.N) : (dats I 0 c).leavesExact 17 t = owns (c : Thread nD τ) (win0_17.stage (cfg0.slots t 17)) fullShare (iblk m c 17 t) := by
  unfold Dat.leavesExact; rw [show cfg0.idle 17 (grid0.coords t) = false from rfl, after0_17]
theorem after0_18 (c : Dev nD) (t : Fin cfg0.N) : (dats I 0 c).after 18 t = iblk m c 18 t := by dsimp only [dats]
theorem before0_18 (c : Dev nD) (t : Fin cfg0.N) (d) : (dats I 0 c).before 18 t d = iblk m c 18 t :=
  before0_18_of m (dats I 0 c) (A_eq I c 18) (after0_18 I c) t d
theorem live0_18 (c : Dev nD) (t : Fin cfg0.N) : (dats I 0 c).leavesExact 18 t = owns (c : Thread nD τ) (win0_18.stage (cfg0.slots t 18)) fullShare (iblk m c 18 t) := by
  unfold Dat.leavesExact; rw [show cfg0.idle 18 (grid0.coords t) = false from rfl, after0_18]

/-- An output window that is neither fetched at `t` nor written back at the point before holds what that point left. -/
theorem found (c : Dev nD) (w : Fin cfg0.W) (hw : marked w = true) (t : Fin cfg0.N) (ht : t.val ≠ 0) (hf : (cfg0.win w).fetch t = false)
    (hl : (cfg0.win w).flush (pred t) = false) (X : (cfg0.win w).block.Idx → Elt F (cfg0.win w).elt) (h : (rdats I c).Finds w t X) :
    Rl I c w (pred t) X := by
  rcases ((rdats I c).finds_of_pos hf ht X).1 h with h' | h'
  · rw [hl] at h'; exact absurd h' (by decide)
  · exact (dats I 0 c).toRRel_leaves hw h'

theorem found_dy (c : Dev nD) (t : Fin cfg0.N) (X) (h : (rdats I c).Finds 19 t X) (ht : t.val % 11 ≠ 0) : (I c).dy (pred t) X := by
  have hN : t.val < 88 := Nat.lt_of_lt_of_eq t.isLt N_0
  refine found I c 19 rfl t (by omega) rfl ?_ X h
  rw [Bool.eq_false_iff]; intro h'
  have h2 : (pred t).val % 11 = 10 := (flush0_19 (pred t)).1 h'
  simp only [pred] at h2; omega
theorem found_dgp (c : Dev nD) (t : Fin cfg0.N) (X) (h : (rdats I c).Finds 24 t X) (ht : t.val ≠ 0) : (I c).dgp (pred t) X := by
  have hN : t.val < 88 := Nat.lt_of_lt_of_eq t.isLt N_0
  refine found I c 24 rfl t (by omega) rfl ?_ X h
  rw [Bool.eq_false_iff]; intro h'
  have h2 : (pred t).val % 88 = 87 := (flush0_24 (pred t)).1 h'
  simp only [pred] at h2; omega
theorem found_dx2 (c : Dev nD) (t : Fin cfg0.N) (X) (h : (rdats I c).Finds 25 t X) (ht : t.val % 11 ≠ 0) : (I c).dx2 (pred t) X := by
  have hN : t.val < 88 := Nat.lt_of_lt_of_eq t.isLt N_0
  refine found I c 25 rfl t (by omega) rfl ?_ X h
  rw [Bool.eq_false_iff]; intro h'
  have h2 : (pred t).val % 11 = 10 := (flush0_25 (pred t)).1 h'
  simp only [pred] at h2; omega
theorem found_dgf (c : Dev nD) (t : Fin cfg0.N) (X) (h : (rdats I c).Finds 26 t X) (ht : t.val ≠ 0) : (I c).dgf (pred t) X := by
  have hN : t.val < 88 := Nat.lt_of_lt_of_eq t.isLt N_0
  refine found I c 26 rfl t (by omega) rfl ?_ X h
  rw [Bool.eq_false_iff]; intro h'
  have h2 : (pred t).val % 88 = 87 := (flush0_26 (pred t)).1 h'
  simp only [pred] at h2; omega

/-- The body's step between owned memrefs. -/
theorem step_own (c : Dev nD) (t : Fin cfg0.N) (z : St F) (K : PUnit → sProp 𝕄) :
    iprop(ownIn c (bufs t) (inAt m c t) ∗ ownSt c (bufs t) z ∗ (iprop(ownIn c (bufs t) (inAt m c t) ∗ ownSt c (bufs t) (step m c t z).1) -∗ K ⟨⟩))
      ⊢ wp frame (wpE (defs₀ (F := F)) Variants.none c none) Set.univ (bodyOf (grid0.coords t) (bufs t)) K := by
  iintro ⟨HI, HS, Hk⟩
  iapply ((step m c t z).2 Set.univ K)
  isplitl [HI]
  · iapply (ownIn_raw c (bufs t) (inAt m c t)); iexact HI
  isplitl [HS]
  · iapply (ownSt_raw c (bufs t) z); iexact HS
  iintro ⟨HI, HS⟩
  iapply Hk
  isplitl [HI]
  · iapply (rawIn_own c (bufs t) (inAt m c t)); iexact HI
  iexact HS

/-- What the body is called with at point `t`, -/
def bodyPre (c : Dev nD) (t : Fin cfg0.N) : sProp 𝕄 :=
  iprop(Phi I c t.val ∗ (dats I 0 c).owesAt () t.castSucc
    ∗ (∃ d, owns (c : Thread nD τ) (win0_0.stage (cfg0.slots t 0)) fullShare ((dats I 0 c).before 0 t d))
    ∗ (∃ d, owns (c : Thread nD τ) (win0_1.stage (cfg0.slots t 1)) fullShare ((dats I 0 c).before 1 t d))
    ∗ (∃ d, owns (c : Thread nD τ) (win0_2.stage (cfg0.slots t 2)) fullShare ((dats I 0 c).before 2 t d))
    ∗ (∃ d, owns (c : Thread nD τ) (win0_3.stage (cfg0.slots t 3)) fullShare ((dats I 0 c).before 3 t d))
    ∗ (∃ d, owns (c : Thread nD τ) (win0_4.stage (cfg0.slots t 4)) fullShare ((dats I 0 c).before 4 t d))
    ∗ (∃ d, owns (c : Thread nD τ) (win0_5.stage (cfg0.slots t 5)) fullShare ((dats I 0 c).before 5 t d))
    ∗ (∃ d, owns (c : Thread nD τ) (win0_6.stage (cfg0.slots t 6)) fullShare ((dats I 0 c).before 6 t d))
    ∗ (∃ d, owns (c : Thread nD τ) (win0_7.stage (cfg0.slots t 7)) fullShare ((dats I 0 c).before 7 t d))
    ∗ (∃ d, owns (c : Thread nD τ) (win0_8.stage (cfg0.slots t 8)) fullShare ((dats I 0 c).before 8 t d))
    ∗ (∃ d, owns (c : Thread nD τ) (win0_9.stage (cfg0.slots t 9)) fullShare ((dats I 0 c).before 9 t d))
    ∗ (∃ d, owns (c : Thread nD τ) (win0_10.stage (cfg0.slots t 10)) fullShare ((dats I 0 c).before 10 t d))
    ∗ (∃ d, owns (c : Thread nD τ) (win0_11.stage (cfg0.slots t 11)) fullShare ((dats I 0 c).before 11 t d))
    ∗ (∃ d, owns (c : Thread nD τ) (win0_12.stage (cfg0.slots t 12)) fullShare ((dats I 0 c).before 12 t d))
    ∗ (∃ d, owns (c : Thread nD τ) (win0_13.stage (cfg0.slots t 13)) fullShare ((dats I 0 c).before 13 t d))
    ∗ (∃ d, owns (c : Thread nD τ) (win0_14.stage (cfg0.slots t 14)) fullShare ((dats I 0 c).before 14 t d))
    ∗ (∃ d, owns (c : Thread nD τ) (win0_15.stage (cfg0.slots t 15)) fullShare ((dats I 0 c).before 15 t d))
    ∗ (∃ d, owns (c : Thread nD τ) (win0_16.stage (cfg0.slots t 16)) fullShare ((dats I 0 c).before 16 t d))
    ∗ (∃ d, owns (c : Thread nD τ) (win0_17.stage (cfg0.slots t 17)) fullShare ((dats I 0 c).before 17 t d))
    ∗ (∃ d, owns (c : Thread nD τ) (win0_18.stage (cfg0.slots t 18)) fullShare ((dats I 0 c).before 18 t d))
    ∗ (∃ Y, ⌜(rdats I c).Finds 19 t Y⌝ ∗ owns (c : Thread nD τ) (win0_19.stage (cfg0.slots t 19)) fullShare Y)
    ∗ (∃ Y, ⌜(rdats I c).Finds 20 t Y⌝ ∗ owns (c : Thread nD τ) (win0_20.stage (cfg0.slots t 20)) fullShare Y)
    ∗ (∃ Y, ⌜(rdats I c).Finds 21 t Y⌝ ∗ owns (c : Thread nD τ) (win0_21.stage (cfg0.slots t 21)) fullShare Y)
    ∗ (∃ Y, ⌜(rdats I c).Finds 22 t Y⌝ ∗ owns (c : Thread nD τ) (win0_22.stage (cfg0.slots t 22)) fullShare Y)
    ∗ (∃ Y, ⌜(rdats I c).Finds 23 t Y⌝ ∗ owns (c : Thread nD τ) (win0_23.stage (cfg0.slots t 23)) fullShare Y)
    ∗ (∃ Y, ⌜(rdats I c).Finds 24 t Y⌝ ∗ owns (c : Thread nD τ) (win0_24.stage (cfg0.slots t 24)) fullShare Y)
    ∗ (∃ Y, ⌜(rdats I c).Finds 25 t Y⌝ ∗ owns (c : Thread nD τ) (win0_25.stage (cfg0.slots t 25)) fullShare Y)
    ∗ (∃ Y, ⌜(rdats I c).Finds 26 t Y⌝ ∗ owns (c : Thread nD τ) (win0_26.stage (cfg0.slots t 26)) fullShare Y))

/-- and what it returns. -/
def bodyPost (c : Dev nD) (t : Fin cfg0.N) : sProp 𝕄 :=
  iprop(Phi I c (t.val + 1) ∗ (dats I 0 c).owesAt () t.castSucc
    ∗ (dats I 0 c).leavesExact 0 t
    ∗ (dats I 0 c).leavesExact 1 t
    ∗ (dats I 0 c).leavesExact 2 t
    ∗ (dats I 0 c).leavesExact 3 t
    ∗ (dats I 0 c).leavesExact 4 t
    ∗ (dats I 0 c).leavesExact 5 t
    ∗ (dats I 0 c).leavesExact 6 t
    ∗ (dats I 0 c).leavesExact 7 t
    ∗ (dats I 0 c).leavesExact 8 t
    ∗ (dats I 0 c).leavesExact 9 t
    ∗ (dats I 0 c).leavesExact 10 t
    ∗ (dats I 0 c).leavesExact 11 t
    ∗ (dats I 0 c).leavesExact 12 t
    ∗ (dats I 0 c).leavesExact 13 t
    ∗ (dats I 0 c).leavesExact 14 t
    ∗ (dats I 0 c).leavesExact 15 t
    ∗ (dats I 0 c).leavesExact 16 t
    ∗ (dats I 0 c).leavesExact 17 t
    ∗ (dats I 0 c).leavesExact 18 t
    ∗ (∃ X, ⌜(I c).dy t X⌝ ∗ owns (c : Thread nD τ) (win0_19.stage (cfg0.slots t 19)) fullShare X)
    ∗ (∃ X, ⌜(I c).dug t X⌝ ∗ owns (c : Thread nD τ) (win0_20.stage (cfg0.slots t 20)) fullShare X)
    ∗ (∃ X, ⌜(I c).duu t X⌝ ∗ owns (c : Thread nD τ) (win0_21.stage (cfg0.slots t 21)) fullShare X)
    ∗ (∃ X, ⌜(I c).dcg t X⌝ ∗ owns (c : Thread nD τ) (win0_22.stage (cfg0.slots t 22)) fullShare X)
    ∗ (∃ X, ⌜(I c).dcu t X⌝ ∗ owns (c : Thread nD τ) (win0_23.stage (cfg0.slots t 23)) fullShare X)
    ∗ (∃ X, ⌜(I c).dgp t X⌝ ∗ owns (c : Thread nD τ) (win0_24.stage (cfg0.slots t 24)) fullShare X)
    ∗ (∃ X, ⌜(I c).dx2 t X⌝ ∗ owns (c : Thread nD τ) (win0_25.stage (cfg0.slots t 25)) fullShare X)
    ∗ (∃ X, ⌜(I c).dgf t X⌝ ∗ owns (c : Thread nD τ) (win0_26.stage (cfg0.slots t 26)) fullShare X))

set_option maxHeartbeats 1000000 in
/-- The body at any point: `step` from the state that the scratch and the output buffers make up. -/
theorem sound_body (c : Dev nD) (t : Fin cfg0.N) :
    bodyPre I c t ⊢ wp frame (wpE (defs₀ (F := F)) Variants.none c none) Set.univ (bodyOf (grid0.coords t) (bufs t)) (fun _ => bodyPost I c t) := by
  unfold bodyPre bodyPost Phi ownScr
  simp only [before0_0, before0_1, before0_2, before0_3, before0_4, before0_5, before0_6, before0_7, before0_8, before0_9, before0_10, before0_11, before0_12, before0_13, before0_14, before0_15, before0_16, before0_17, before0_18, live0_0, live0_1, live0_2, live0_3, live0_4, live0_5, live0_6, live0_7, live0_8, live0_9, live0_10, live0_11, live0_12, live0_13, live0_14, live0_15, live0_16, live0_17, live0_18]
  iintro ⟨⟨⟨%z, %hS, HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%y19, %hy19, H19⟩, ⟨%y20, %hy20, H20⟩, ⟨%y21, %hy21, H21⟩, ⟨%y22, %hy22, H22⟩, ⟨%y23, %hy23, H23⟩, ⟨%y24, %hy24, H24⟩, ⟨%y25, %hy25, H25⟩, ⟨%y26, %hy26, H26⟩⟩
  have hz := (I c).step t { z with dy := y19, dug := y20, duu := y21, dcg := y22, dcu := y23, dgp := y24, dx2 := y25, dgf := y26 } ((I c).outs _ z _ _ _ _ _ _ _ _ hS)
    (fun h => found_dy I c t y19 hy19 h) (fun h => found_dgp I c t y24 hy24 h) (fun h => found_dx2 I c t y25 hy25 h) (fun h => found_dgf I c t y26 hy26 h)
  obtain ⟨hS1, hdy, hdug, hduu, hdcg, hdcu, hdgp, hdx2, hdgf⟩ := hz
  iapply (step_own c t { z with dy := y19, dug := y20, duu := y21, dcg := y22, dcu := y23, dgp := y24, dx2 := y25, dgf := y26 } _)
  unfold ownIn ownSt
  isplitl [H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19 H20 H21 H22 H23 H24 H25 H26 HS0 HS1 HS2 HS3 HS4 HS5 HS6 HS7 HS8]
  · isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  iintro ⟨⟨H0, H1, H2, H3, H4, H5, H6, H7, H8, H9, H10, H11, H12, H13, H14, H15, H16, H17, H18⟩, H19, H20, H21, H22, H23, H24, H25, H26, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · iexists _; isplitr
      · ipureintro; exact hS1
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · iexists _; isplitr
    · ipureintro; exact hdy
    iexact H19
  isplitl [H20]
  · iexists _; isplitr
    · ipureintro; exact hdug
    iexact H20
  isplitl [H21]
  · iexists _; isplitr
    · ipureintro; exact hduu
    iexact H21
  isplitl [H22]
  · iexists _; isplitr
    · ipureintro; exact hdcg
    iexact H22
  isplitl [H23]
  · iexists _; isplitr
    · ipureintro; exact hdcu
    iexact H23
  isplitl [H24]
  · iexists _; isplitr
    · ipureintro; exact hdgp
    iexact H24
  isplitl [H25]
  · iexists _; isplitr
    · ipureintro; exact hdx2
    iexact H25
  iexists _; isplitr
  · ipureintro; exact hdgf
  iexact H26

/-- The body table's row at point `t`'s slots is the body on `bufs t`. -/
theorem defs₀_row (t : Fin cfg0.N) :
    defs₀ (F := F) .tc cfg0.body (cfg0.bodyArgs t (cfg0.slots t)) = bodyOf (grid0.coords t) (bufs t) := by
  unfold defs₀; rw [Defs.onTc_tc]

set_option maxHeartbeats 2000000 in
/-- The library's body obligation. -/
theorem body_obligation (c : Dev nD) :
    Pipeline.BodyObligationRel (dats I 0 c) (defs₀ (F := F)) Variants.none () Set.univ marked (Rl I c) := fun t => by
  rw [bigSep_W0, bigSep_W0, defs₀_row]
  exact triple_restated (sound_body I c t) rfl .rfl fun _ => .rfl

/-- Before the first point the scratch is at anything. -/
theorem phiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

/-- The invariant holds before the first point. -/
theorem hin (c : Dev nD) : Pipeline.ΦA spec0 c ⊢ (dats I 0 c).Φ 0 := by
  rw [phiA_eq]
  show _ ⊢ Phi I c 0
  unfold Phi ownScr
  iintro ⟨⟨⟨%d0, HS0⟩, ⟨%d1, HS1⟩, ⟨%d2, HS2⟩, ⟨%d3, HS3⟩, ⟨%d4, HS4⟩, ⟨%d5, HS5⟩, ⟨%d6, HS6⟩, ⟨%d7, HS7⟩, ⟨%d8, HS8⟩⟩, Hg⟩
  isplitr [Hg]
  · iexists (⟨Pipeline.Dat.unnamed (cfg := cfg0) 19 ⟨0, Nat.lt_of_lt_of_eq (by omega : 0 < 88) N_0.symm⟩, Pipeline.Dat.unnamed (cfg := cfg0) 20 ⟨0, Nat.lt_of_lt_of_eq (by omega : 0 < 88) N_0.symm⟩, Pipeline.Dat.unnamed (cfg := cfg0) 21 ⟨0, Nat.lt_of_lt_of_eq (by omega : 0 < 88) N_0.symm⟩, Pipeline.Dat.unnamed (cfg := cfg0) 22 ⟨0, Nat.lt_of_lt_of_eq (by omega : 0 < 88) N_0.symm⟩, Pipeline.Dat.unnamed (cfg := cfg0) 23 ⟨0, Nat.lt_of_lt_of_eq (by omega : 0 < 88) N_0.symm⟩, Pipeline.Dat.unnamed (cfg := cfg0) 24 ⟨0, Nat.lt_of_lt_of_eq (by omega : 0 < 88) N_0.symm⟩, Pipeline.Dat.unnamed (cfg := cfg0) 25 ⟨0, Nat.lt_of_lt_of_eq (by omega : 0 < 88) N_0.symm⟩, Pipeline.Dat.unnamed (cfg := cfg0) 26 ⟨0, Nat.lt_of_lt_of_eq (by omega : 0 < 88) N_0.symm⟩, d0, d1, d2, d3, d4, d5, d6, d7, d8⟩ : St F)
    isplitr
    · ipureintro; exact (I c).start _
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  iexact Hg

/-- After the last point the scratch is forgotten. -/
theorem hout (c : Dev nD) : (dats I 0 c).Φ (Fin.last cfg0.N) ⊢ Pipeline.ΦA spec0 c := by
  rw [phiA_eq]
  show Phi I c _ ⊢ _
  unfold Phi ownScr
  iintro ⟨⟨%z, -, HS0, HS1, HS2, HS3, HS4, HS5, HS6, HS7, HS8⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8
  iexact Hg

-- the launch theorem's implicit arguments are found by unifying its conclusion with this one, which takes unfolding plain
-- definitions in a metavariable's type
set_option backward.isDefEq.respectTransparency.types false in
/-- THE RUN: the program ends with every input array as the region found it and every output array of blocks that meet the invariant,
    every other buffer as the region found it, and every semaphore at zero. -/
theorem run_main : θ_run defs (onTc (τ := τ) (main (F := F))) (s₀ m ρ)
    (fun r => Pipeline.RDat.FramePost (cfgs 0) (rdats I) (V m) r ∧ r.2.sem = fun _ => 0) :=
  Pipeline.RDat.θ_run_frame_track_shared (Q' := _) cfgs (0 : Fin 1) launch₀0 defs₀ Variants.none (rdats I) m ρ main
    (hbody := fun c => (body_obligation I c).toRRel) (hq := fun _ _ _ => rfl)
    (howed := fun _ _ => rfl) (V := V m) (hmain := hmain m Variants.none) (hA := A_eq I) (hin := hin I) (hout := hout I)

end Cert.KernelIdeal.Body

end
-- ==== Proof.Body.FrameOf.lean ====
/-
  THE FRAME. Every run of `run_main` ends quiescent with the argument arrays as launched; at the invariant that says nothing this is the
  frame claim, over any float values.
-/
module

public import proofs.«01_k».proof.Proof.Body.Point

@[expose] public section

set_option maxRecDepth 16384

noncomputable section

namespace Cert.KernelIdeal.Body

open Idealize.ShloMosaic Idealize.ShloMosaic.TcCoe Idealize.ShloMosaic.Tactic
open Idealize.SL.Sem
open Cert.KernelIdeal.Gen

variable {F : FTy → Type} [FloatOps F] [Named F]
variable {m : (ℓ : Loc nD τ sig) → Buf (Elt F) ℓ} (ρ : Dev nD → PrngReg)
variable (I : (c : Dev nD) → Inv m c)

/-- An input's array is never written. -/
theorem arr_in (c : Dev nD) (w : Fin cfg0.W) (hw : (cfg0.win w).isOut = false) {X} (h : (rdats I c).ArrAt w cfg0.N X) :
    X = V m c (Pipeline.arrRef spec0 w) :=
  ((congrFun ((rdats I c).ArrAt_in w hw _) X).mp h).trans (A_eq I c w)

/-- The argument arrays at the end. -/
theorem args_end {r : PUnit × MemSt nD τ sig (Elt F)} (h : Pipeline.RDat.FramePost (cfgs 0) (rdats I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine ⟨(arr_in I c 14 rfl ((h c).1 14)).trans (V_main_arg0 m c), ?_, ?_, (arr_in I c 7 rfl ((h c).1 7)).trans (V_main_arg3 m c), ?_, ?_, ?_,
    (arr_in I c 0 rfl ((h c).1 0)).trans (V_main_arg7 m c)⟩
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)

/-- The invariant that says nothing. -/
def nothing (m : (ℓ : Loc nD τ sig) → Buf (Elt F) ℓ) (c : Dev nD) : Inv m c where
  S _ _ := True
  dy _ _ := True
  dug _ _ := True
  duu _ _ := True
  dcg _ _ := True
  dcu _ _ := True
  dgp _ _ := True
  dx2 _ _ := True
  dgf _ _ := True
  start _ := trivial
  outs _ _ _ _ _ _ _ _ _ _ _ := trivial
  step _ _ _ _ _ _ _ := ⟨trivial, trivial, trivial, trivial, trivial, trivial, trivial, trivial, trivial⟩

end Cert.KernelIdeal.Body

end
-- ==== Proof.Frames.lean ====
/-
  THE FRAMES AND THE NAMED CONSTANTS. The kernel and its ideal reading are one program but for the two named constants, which over the float
  words are the words themselves: one run gives both frames. The reference runs on the host.
-/
module

public import proofs.«01_k».proof.Defs
public import proofs.«01_k».proof.Proof.Body.FrameOf
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_finite.Gen.facts

theorem frame_kernelIdeal : Cert.quiescent_KernelIdeal := fun m ρ _ =>
  (θ_run Cert.KernelIdeal.defs _ _).mono (fun _ h => ⟨Cert.KernelIdeal.Body.args_end _ h.1, h.2⟩)
    (Cert.KernelIdeal.Body.run_main ρ (Cert.KernelIdeal.Body.nothing m))

theorem frame_kernelIdeal_finite : Cert.quiescent_KernelIdeal_pre_finite := fun m ρ _ =>
  (θ_run Cert.KernelIdeal.defs _ _).mono (fun _ h => ⟨Cert.KernelIdeal.Body.args_end _ h.1, h.2⟩)
    (Cert.KernelIdeal.Body.run_main ρ (Cert.KernelIdeal.Body.nothing m))

/-- The two named constants are what their words round. -/
theorem preserves : Cert.preserves_Kernel_KernelIdeal :=
  ⟨IdealRules.named_const.statement Cert.KernelIdeal.κ "cubic" .f32 0x3D372713#32 ((8943 / 200000 : ℝ) : EReal) rfl,
    IdealRules.named_const.statement Cert.KernelIdeal.κ "cubic3" .f32 0x3E095D4F#32 ((26829 / 200000 : ℝ) : EReal) rfl⟩

/-- The reference has no semaphore; its arguments are among what its run states. -/
theorem frame_referenceIdeal : Cert.quiescent_ReferenceIdeal := by
  intro m ρ _
  refine (θ_run Cert.ReferenceIdeal.defs _ _).mono (fun r h => ⟨fun c => ?_, sem_eq_zero_of_no_sems (by decide) r.2⟩)
    (Cert.ReferenceIdeal.Value.run m ρ)
  obtain ⟨-, -, -, -, -, -, -, -, h0, h1, h2, h3, h4, h5, h6, h7⟩ := h c
  exact ⟨h0, h1, h2, h3, h4, h5, h6, h7⟩

theorem frame_referenceIdeal_finite : Cert.quiescent_ReferenceIdeal_pre_finite := fun m ρ _ => frame_referenceIdeal m ρ trivial

end Cert.Proof

end
-- ==== Proof.KernelFrame.lean ====
/- THE KERNEL'S FRAME, over the float words. -/
module

public import proofs.«01_k».proof.Defs
public import proofs.«01_k».proof.Proof.WordBody.FrameOf
public import proofs.«01_k».proof.Proof.Gen.Kernel
public import Idealize.ShloMosaic.Adequacy
public import Idealize.ShloMosaic.Init

@[expose] public section

noncomputable section

namespace Cert.Proof

open Idealize.ShloMosaic Idealize.SL.Sem

attribute [local instance] Cert.Kernel.Gen.facts

theorem frame_kernel : Cert.quiescent_Kernel := fun m ρ _ =>
  (θ_run Cert.Kernel.defs _ _).mono (fun _ h => ⟨Cert.Kernel.Body.args_end _ h.1, h.2⟩)
    (Cert.Kernel.Body.run_main ρ (Cert.Kernel.Body.nothing m))

end Cert.Proof

end
-- ==== Proof.Body.Pure.lean ====
/-
  THE BODY AS A FUNCTION OF ITS BLOCKS. What a grid point leaves in the outputs and the scratch, as plain functions of the blocks it reads and
  of what the scratch held: no memref, no view. `core` is what every grid point does; `firstColumn` and `firstBlock` are what is done before it
  at the first column of a block of tokens and at the first block; `lastColumn` is what is done after it at the last column.
-/
module

public import proofs.«01_k».proof.Proof.Body.State
public import Idealize.ShloMosaic.Lib.VecWindow
public import Idealize.ShloMosaic.Lib.WholeRead
public import Idealize.ShloMosaic.Lib.Pointwise

@[expose] public section

noncomputable section

namespace Cert.KernelIdeal.Body

open Cert.KernelIdeal Cert.KernelIdeal.Gen
open Idealize.ShloMosaic
open Idealize.ShloMosaic.Pointwise

/-! ## Slabs of a rank-three scratch, rows of a block -/

section Slab

variable {α : Type} {n a b : ℕ}

/-- The slab at `j`. -/
def slab (x : (⟨3, ![n, a, b]⟩ : Shape).Idx → α) (j : Fin n) : (⟨3, ![1, a, b]⟩ : Shape).Idx → α :=
  fun y => x (ix3 j (y 1) (y 2))

/-- The slab at `j` replaced. -/
def setSlab (x : (⟨3, ![n, a, b]⟩ : Shape).Idx → α) (j : Fin n) (w : (⟨3, ![1, a, b]⟩ : Shape).Idx → α) :
    (⟨3, ![n, a, b]⟩ : Shape).Idx → α :=
  fun y => if (y 0).val = j.val then w (ix3 0 (y 1) (y 2)) else x y

theorem idx3_one (y : (⟨3, ![1, a, b]⟩ : Shape).Idx) : ix3 (0 : Fin 1) (y 1) (y 2) = y := by
  funext k
  match k with
  | ⟨0, _⟩ => exact Fin.ext (by have h : (y 0).val < 1 := (y 0).isLt; show 0 = (y 0).val; omega)
  | ⟨1, _⟩ => rfl
  | ⟨2, _⟩ => rfl

@[simp] theorem slab_setSlab (x : (⟨3, ![n, a, b]⟩ : Shape).Idx → α) (j : Fin n) (w : (⟨3, ![1, a, b]⟩ : Shape).Idx → α) :
    slab (setSlab x j w) j = w := by
  funext y
  exact (if_pos rfl).trans (congrArg w (idx3_one y))

theorem slab_setSlab_ne (x : (⟨3, ![n, a, b]⟩ : Shape).Idx → α) {j k : Fin n} (h : k ≠ j) (w : (⟨3, ![1, a, b]⟩ : Shape).Idx → α) :
    slab (setSlab x j w) k = slab x k := by
  funext y
  exact if_neg fun he => h (Fin.ext he)

@[simp] theorem setSlab_setSlab (x : (⟨3, ![n, a, b]⟩ : Shape).Idx → α) (j : Fin n) (w w' : (⟨3, ![1, a, b]⟩ : Shape).Idx → α) :
    setSlab (setSlab x j w) j w' = setSlab x j w' := by
  funext y
  unfold setSlab
  by_cases h : (y 0).val = j.val
  · rw [if_pos h, if_pos h]
  · rw [if_neg h, if_neg h, if_neg h]

variable {sig : RefSig} {κ : Kind} {sp : Space} {e : EltTy} {Val : EltTy → Type}

theorem emb_slab {off : Fin 3 → ℕ} {j : Fin n} (ho : off = ![j.val, 0, 0])
    (inb : ∀ k : Fin 3, off k + (![1, a, b] : Fin 3 → ℕ) k ≤ (⟨3, ![n, a, b]⟩ : Shape).size k)
    (y : (⟨3, ![1, a, b]⟩ : Shape).Idx) :
    (Rect.unit (s := ⟨3, ![n, a, b]⟩) off ![1, a, b] inb).idx y = ix3 j (y 1) (y 2) := by
  subst ho
  funext k
  match k with
  | ⟨0, _⟩ => exact Fin.ext (by have h : (y 0).val < 1 := (y 0).isLt; show j.val + 1 * (y 0).val = j.val; omega)
  | ⟨1, _⟩ => exact Fin.ext (by show 0 + 1 * (y 1).val = (y 1).val; omega)
  | ⟨2, _⟩ => exact Fin.ext (by show 0 + 1 * (y 2).val = (y 2).val; omega)

/-- A load of one slab of a whole memref. -/
theorem load_slab {M : Memref sig κ sp ⟨3, ![n, a, b]⟩ e} (h : M.IsWhole) (x : (⟨3, ![n, a, b]⟩ : Shape).Idx → Val e)
    {off : Fin 3 → ℕ} {j : Fin n} (ho : off = ![j.val, 0, 0])
    (inb : ∀ k : Fin 3, off k + (![1, a, b] : Fin 3 → ℕ) k ≤ (⟨3, ![n, a, b]⟩ : Shape).size k) :
    View.readAt Val M.view (Rect.unit (s := ⟨3, ![n, a, b]⟩) off ![1, a, b] inb).toLoadRect (h.unread x) = slab x j := by
  funext y
  exact (h.readAt_unread x _ y).trans (congrArg x (emb_slab ho inb y))

/-- A store of one slab over what a list of stores left. -/
theorem store_slab_cons {M : Memref sig κ sp ⟨3, ![n, a, b]⟩ e} (f : M.view.ty.Contents Val)
    {off : Fin 3 → ℕ} {j : Fin n} (ho : off = ![j.val, 0, 0])
    (inb : ∀ k : Fin 3, off k + (![1, a, b] : Fin 3 → ℕ) k ≤ (⟨3, ![n, a, b]⟩ : Shape).size k)
    (w : (⟨3, ![1, a, b]⟩ : Shape).Idx → Val e) (L : List (View.Piece Val ⟨3, ![n, a, b]⟩ e)) :
    M.view.read Val (M.view.writes Val f (⟨Rect.unit (s := ⟨3, ![n, a, b]⟩) off ![1, a, b] inb, w⟩ :: L))
      = setSlab (M.view.read Val (M.view.writes Val f L)) j w := by
  funext y
  by_cases hy : (y 0).val = j.val
  · have e1 : setSlab (M.view.read Val (M.view.writes Val f L)) j w y = w (ix3 0 (y 1) (y 2)) := if_pos hy
    rw [e1]
    refine View.read_writes_cons_unit_of_mem M.view f inb w L y (ix3 0 (y 1) (y 2)) ho fun k => ?_
    match k with
    | ⟨0, _⟩ => exact hy
    | ⟨1, _⟩ => show (y 1).val = 0 + (y 1).val; omega
    | ⟨2, _⟩ => show (y 2).val = 0 + (y 2).val; omega
  · have e1 : setSlab (M.view.read Val (M.view.writes Val f L)) j w y = M.view.read Val (M.view.writes Val f L) y := if_neg hy
    rw [e1]
    refine View.read_writes_cons_unit_of_not_mem M.view f inb w L y ho 0 ?_
    show (y 0).val < j.val ∨ j.val + 1 ≤ (y 0).val
    omega

/-- A load of a slab just stored. -/
theorem reload_slab [∀ e, Nonempty (Val e)] (v : View sig κ sp ⟨3, ![n, a, b]⟩ e)
    {off off' : Fin 3 → ℕ} (ho : off = off')
    (inb : ∀ k : Fin 3, off k + (![1, a, b] : Fin 3 → ℕ) k ≤ (⟨3, ![n, a, b]⟩ : Shape).size k)
    (inb' : ∀ k : Fin 3, off' k + (![1, a, b] : Fin 3 → ℕ) k ≤ (⟨3, ![n, a, b]⟩ : Shape).size k)
    (w : (⟨3, ![1, a, b]⟩ : Shape).Idx → Val e) (L : List (View.Piece Val ⟨3, ![n, a, b]⟩ e)) :
    v.readCov (⟨Rect.unit (s := ⟨3, ![n, a, b]⟩) off ![1, a, b] inb, w⟩ :: L) (Rect.unit (s := ⟨3, ![n, a, b]⟩) off' ![1, a, b] inb').toLoadRect = w := by
  subst ho; exact View.readCov_cons_toLoadRect v (Rect.unit (s := ⟨3, ![n, a, b]⟩) off ![1, a, b] inb) w L

/-- A load of everything, and of one row. -/
theorem load_whole {s : Shape} {M : Memref sig κ sp s e} (h : M.IsWhole) (x : s.Idx → Val e) {off : Fin s.rank → ℕ}
    (inb : ∀ k, off k + s.size k ≤ s.size k) :
    View.readAt Val M.view (Rect.unit off s.size inb).toLoadRect (h.unread x) = x :=
  (View.readAt_full M.view _ inb).trans (h.read_unread x)

/-- Row `k` of a block. -/
def row {α : Type} {n b : ℕ} (x : (⟨2, ![n, b]⟩ : Shape).Idx → α) (k : Fin n) : (⟨2, ![1, b]⟩ : Shape).Idx → α :=
  fun y => x (ix2 k (y 1))

theorem load_row {n b : ℕ} {M : Memref sig κ sp ⟨2, ![n, b]⟩ e} (h : M.IsWhole) (x : (⟨2, ![n, b]⟩ : Shape).Idx → Val e)
    (k : Fin n) {off : Fin 2 → ℕ} (ho : off = ![k.val, 0])
    (inb : ∀ k : Fin 2, off k + (![1, b] : Fin 2 → ℕ) k ≤ (⟨2, ![n, b]⟩ : Shape).size k) :
    View.readAt Val M.view (Rect.unit (s := ⟨2, ![n, b]⟩) off ![1, b] inb).toLoadRect (h.unread x) = row x k := by
  subst ho
  funext y
  refine (h.readAt_unread x _ y).trans (congrArg x ?_)
  funext l
  match l with
  | ⟨0, _⟩ => exact Fin.ext (by have h : (y 0).val < 1 := (y 0).isLt; show k.val + 1 * (y 0).val = k.val; omega)
  | ⟨1, _⟩ => exact Fin.ext (by show 0 + 1 * (y 1).val = (y 1).val; omega)

end Slab

/-! ## The body's values -/

variable {F : FTy → Type} [FloatOps F] [Named F]

/-- Whether the block of tokens is the sequence's first. -/
def seqStart (i : grid0.Coords) : BitVec 1 := Scalar.cmpi .eq (Scalar.subi (7#32) (BitVec.ofNat 32 (i 0).val)) (0#32)

/-- The row numbers of a group of eight. -/
def rowNo : IVec S8x1 32 := iota Kind.tc S8x1 32 [0] iota_S8x1_d0_w32

/-- The gate half before the convolution, and shifted by one and by two tokens. -/
def g0 (x : In F) : FVec F S512x256 .f32 := k0_pay30 x.x2
def g1 (i : grid0.Coords) (x : In F) : FVec F S512x256 .f32 := k0_pay37 (k0_pay35 (seqStart i) x.x2 (row x.x4 7)) (k0_pay36 x.x2)
def g2 (i : grid0.Coords) (x : In F) : FVec F S512x256 .f32 :=
  k0_pay38 rowNo (k0_pay31 (seqStart i) (row x.x4 6)) (k0_pay32 (seqStart i) (row x.x4 7)) (k0_pay34 x.x2)

/-- The gate half after the convolution. -/
def gate (i : grid0.Coords) (x : In F) : FVec F S512x256 .f32 :=
  k0_pay39 (k0_pay30 x.x2) rowNo (k0_pay31 (seqStart i) (row x.x4 6)) (k0_pay32 (seqStart i) (row x.x4 7)) (k0_pay34 x.x2)
    (k0_pay35 (seqStart i) x.x2 (row x.x4 7)) (k0_pay36 x.x2) x.x8 (row x.x6 0) (row x.x6 1) (row x.x6 2)

/-- The up half before the convolution, and shifted by one and by two tokens. -/
def u0 (x : In F) : FVec F S512x256 .f32 := k0_pay40 x.x3
def u1 (i : grid0.Coords) (x : In F) : FVec F S512x256 .f32 :=
  k0_pay44 (seqStart i) (u0 x) rowNo (k0_pay42 (row x.x5 7)) (FloatOps.ofBits FTy.f32 0#32)
def u2 (i : grid0.Coords) (x : In F) : FVec F S512x256 .f32 :=
  k0_pay45 (seqStart i) (u0 x) rowNo (k0_pay41 (seqStart i) (row x.x5 6)) (k0_pay42 (row x.x5 7)) (FloatOps.ofBits FTy.f32 0#32)

/-- The up half after the convolution. -/
def up (i : grid0.Coords) (x : In F) : FVec F S512x256 .f32 :=
  k0_pay46 (seqStart i) (u0 x) rowNo (k0_pay41 (seqStart i) (row x.x5 6)) (k0_pay42 (row x.x5 7)) (FloatOps.ofBits FTy.f32 0#32)
    x.x9 (row x.x7 0) (row x.x7 1) (row x.x7 2)

/-- The gradients of the two halves after the convolution, of the activation's gradient `da`. -/
def dUp (i : grid0.Coords) (x : In F) (da : FVec F S512x256 .f32) : FVec F S512x256 .f32 := k0_pay50 da (gate i x) (k0_pay47 (gate i x))
def dGate (i : grid0.Coords) (x : In F) (da : FVec F S512x256 .f32) : FVec F S512x256 .f32 :=
  k0_pay51 da (gate i x) (up i x) (k0_pay47 (gate i x))

/-- The gradient of the gate half before the convolution (of the next block's first rows `nx`), as stored in the scratch and, transposed, in
    the output. -/
def dGate0 (i : grid0.Coords) (x : In F) (da : FVec F S512x256 .f32) (nx : Vec F S1x8x256 .f32) : FVec F S512x256 .bf16 :=
  k0_pay60 rowNo (dGate i x da) (k0_pay53 nx) (k0_pay54 nx) (k0_pay55 da (gate i x) (up i x) (k0_pay47 (gate i x)))
    (k0_pay56 rowNo da (gate i x) (up i x) (k0_pay47 (gate i x)) nx) (k0_pay57 da (gate i x) (up i x) (k0_pay47 (gate i x)))
    (row x.x6 2) (row x.x6 1) (row x.x6 0)
def dGate0T (i : grid0.Coords) (x : In F) (da : FVec F S512x256 .f32) (nx : Vec F S1x8x256 .f32) : FVec F S256x512 .bf16 :=
  k0_pay59 rowNo (dGate i x da) (k0_pay53 nx) (k0_pay54 nx) (k0_pay55 da (gate i x) (up i x) (k0_pay47 (gate i x)))
    (k0_pay56 rowNo da (gate i x) (up i x) (k0_pay47 (gate i x)) nx) (k0_pay57 da (gate i x) (up i x) (k0_pay47 (gate i x)))
    (row x.x6 2) (row x.x6 1) (row x.x6 0)

/-- The same of the up half. -/
def dUp0 (i : grid0.Coords) (x : In F) (da : FVec F S512x256 .f32) (nx : Vec F S1x8x256 .f32) : FVec F S512x256 .bf16 :=
  k0_pay74 (k0_pay68 rowNo (dUp i x da) nx) (k0_pay69 rowNo (dUp i x da) nx) (k0_pay70 (dUp i x da) (row x.x7 2)) (k0_pay71 (row x.x7 1)) (row x.x7 0)
def dUp0T (i : grid0.Coords) (x : In F) (da : FVec F S512x256 .f32) (nx : Vec F S1x8x256 .f32) : FVec F S256x512 .bf16 :=
  k0_pay73 (k0_pay68 rowNo (dUp i x da) nx) (k0_pay69 rowNo (dUp i x da) nx) (k0_pay70 (dUp i x da) (row x.x7 2)) (k0_pay71 (row x.x7 1)) (row x.x7 0)

/-- The tables of the convolution's gradients, the block's part added to `old`. -/
def tabG (i : grid0.Coords) (x : In F) (da : FVec F S512x256 .f32) (old : Vec F S1x8x256 .f32) : FVec F S1x8x256 .f32 :=
  k0_pay64 rowNo (g0 x) (g1 i x) (dGate i x da) (k0_pay62 rowNo) (k0_pay63 (g2 i x) (dGate i x da)) old
def tabU (i : grid0.Coords) (x : In F) (da : FVec F S512x256 .f32) (old : Vec F S1x8x256 .f32) : FVec F S1x8x256 .f32 :=
  k0_pay1 (k0_pay76 rowNo) (k0_pay77 (u2 i x) (dUp i x da)) (k0_pay78 rowNo) (k0_pay79 (u1 i x) (dUp i x da)) (k0_pay80 rowNo)
    (k0_pay81 (u0 x) (dUp i x da)) (FloatOps.ofBits FTy.f32 0#32) (k0_pay82 rowNo) (k0_pay83 (dUp i x da)) old

/-- The activation's gradient at the point: the slot of the column's parity. -/
def daOf (i : grid0.Coords) (z : St F) : FVec F S512x256 .f32 := k0_pay27 (slab z.daS ⟨(i 1).val % 2, Nat.mod_lt _ (by decide)⟩)

/-- What every grid point does. -/
def core (i : grid0.Coords) (x : In F) (z : St F) : St F :=
  { z with
    dug := dGate0T i x (daOf i z) (slab z.cg (i 1))
    duu := dUp0T i x (daOf i z) (slab z.cu (i 1))
    dcg := k0_pay65 (tabG i x (daOf i z) (slab z.ag (i 1)))
    dcu := k0_pay2 (tabU i x (daOf i z) (slab z.au (i 1)))
    dhS := k0_pay29 z.dhS z.dugS x.x17 z.duuS x.x18
    daS := setSlab z.daS ⟨1 - (i 1).val % 2, by omega⟩ (k0_pay28 z.dyS x.x16)
    dugS := dGate0 i x (daOf i z) (slab z.cg (i 1))
    duuS := dUp0 i x (daOf i z) (slab z.cu (i 1))
    cg := setSlab z.cg (i 1) (k0_pay61 (dGate i x (daOf i z)))
    cu := setSlab z.cu (i 1) (k0_pay75 (dUp i x (daOf i z)))
    ag := setSlab z.ag (i 1) (tabG i x (daOf i z) (slab z.ag (i 1)))
    au := setSlab z.au (i 1) (tabU i x (daOf i z) (slab z.au (i 1))) }

/-- What the first column of a block of tokens does first; the gain's gradient is `dgp`. -/
def firstColumn (x : In F) (dgp : Vec F S1x1024 .f32) (z : St F) : St F :=
  { z with
    dy := k0_pay11 x.x0 x.x1 x.x11
    dgp := dgp
    dyS := k0_pay10 x.x0 x.x1 x.x11
    dhS := k0_pay19
    daS := setSlab z.daS 0 (k0_pay20 (k0_pay9 x.x0 x.x1 x.x11) x.x10)
    dugS := k0_pay21
    duuS := k0_pay22 }

/-- What the first block of tokens does first, at each column. -/
def firstBlock (i : grid0.Coords) (z : St F) : St F :=
  { z with
    cg := setSlab z.cg (i 1) k0_pay23
    cu := setSlab z.cu (i 1) k0_pay24
    ag := setSlab z.ag (i 1) k0_pay25
    au := setSlab z.au (i 1) k0_pay26 }

/-- The part of the gain's gradient the last column adds. -/
def dgfPart (x : In F) (z : St F) : FVec F S1x1024 .f32 := k0_pay15 z.dhS z.dugS x.x12 z.duuS x.x13 x.x14

/-- What the last column of a block of tokens does last; the gain's gradient is `dgf`. -/
def lastColumn (x : In F) (dgf : Vec F S1x1024 .f32) (z : St F) : St F :=
  { z with
    dx2 := k0_pay3 (k0_pay16 z.dhS z.dugS x.x12 z.duuS x.x13 x.x14 x.x15) (k0_pay17 x.x14) x.x0
    dgf := dgf }

/-- Offsets in closed form. -/
theorem off1_eq : ∀ i : grid0.Coords, k0_off1 i = ![(i 1).val, 0, 0] := by decide +kernel
theorem off4_eq : ∀ i : grid0.Coords, k0_off4 i = ![(i 1).val, 0, 0] := by decide +kernel

end Cert.KernelIdeal.Body

end
-- ==== Proof.Value.Reals.lean ====
/- Vectors of extended reals that hold real numbers: the arithmetic of the ideal floats on them, and the constants of the program. -/
module

public import Idealize.ShloMosaic.Lib.Pointwise

@[expose] public section

noncomputable section

namespace Cert.Ffn

open Idealize.ShloMosaic
open Idealize.ShloMosaic.Pointwise

/-- A matrix holds the real numbers `f`; a row of a table of one; one of rank three; a vector. -/
abbrev R2 {n b : ℕ} (v : (⟨2, ![n, b]⟩ : Shape).Idx → EReal) (f : ℕ → ℕ → ℝ) : Prop :=
  ∀ (r : Fin n) (k : Fin b), v (ix2 r k) = ((f r.val k.val : ℝ) : EReal)
abbrev R3 {a n b : ℕ} (v : (⟨3, ![a, n, b]⟩ : Shape).Idx → EReal) (f : ℕ → ℕ → ℕ → ℝ) : Prop :=
  ∀ (j : Fin a) (r : Fin n) (k : Fin b), v (ix3 j r k) = ((f j.val r.val k.val : ℝ) : EReal)
abbrev R1 {n : ℕ} (v : (⟨1, ![n]⟩ : Shape).Idx → EReal) (f : ℕ → ℝ) : Prop :=
  ∀ (r : Fin n), v (ix1 r) = ((f r.val : ℝ) : EReal)

/-- A sum of real numbers. -/
theorem csum {ι : Type} [Fintype ι] (f : ι → ℝ) : ∑ i, ((f i : ℝ) : EReal) = ((∑ i, f i : ℝ) : EReal) := by
  classical
  have h : ∀ s : Finset ι, ∑ i ∈ s, ((f i : ℝ) : EReal) = ((∑ i ∈ s, f i : ℝ) : EReal) := by
    intro s
    induction s using Finset.induction_on with
    | empty => simp
    | insert a s ha h => rw [Finset.sum_insert ha, Finset.sum_insert ha, h, EReal.coe_add]
  exact h _

/-- The small number under the root, and the activation's two. -/
def eps : ℝ := 8796093 / 2 ^ 43
def gc : ℝ := 13386282 / 2 ^ 24
def kq : ℝ := 8943 / 200000

theorem eps_pos : 0 < eps := by norm_num [eps]

theorem bits_eps : Ideal.ofBits .f32 897988541#32 = ((eps : ℝ) : EReal) := by
  simp [Ideal.ofBits, Ideal.ieee, eps]; norm_num; rw [← EReal.coe_mul]; norm_num
theorem bits_n : Ideal.ofBits .f32 1149239296#32 = ((1024 : ℝ) : EReal) := by
  simp [Ideal.ofBits, Ideal.ieee]; norm_num; rw [← EReal.coe_mul]; norm_num
theorem bits_gc : Ideal.ofBits .f32 1061962282#32 = ((gc : ℝ) : EReal) := by
  simp [Ideal.ofBits, Ideal.ieee, gc]; norm_num; rw [← EReal.coe_mul]; norm_num
theorem bits_half_gc : Ideal.ofBits .f32 1053573674#32 = ((gc / 2 : ℝ) : EReal) := by
  simp [Ideal.ofBits, Ideal.ieee, gc]; norm_num; rw [← EReal.coe_mul]; norm_num
theorem bits_half : Ideal.ofBits .f32 1056964608#32 = ((1 / 2 : ℝ) : EReal) := by
  simp [Ideal.ofBits, Ideal.ieee]; norm_num; rw [← EReal.coe_mul]; norm_num
theorem bits_neg_half : Ideal.ofBits .f32 3204448256#32 = ((-(1 / 2) : ℝ) : EReal) := by
  simp [Ideal.ofBits, Ideal.ieee]; norm_num; rw [← EReal.coe_mul]; norm_num
theorem bits_three : Ideal.ofBits .f32 1077936128#32 = ((3 : ℝ) : EReal) := by
  simp [Ideal.ofBits, Ideal.ieee]; norm_num; rw [← EReal.coe_mul]; norm_num
theorem bits_one : Ideal.ofBits .f32 1065353216#32 = ((1 : ℝ) : EReal) := by
  simp [Ideal.ofBits, Ideal.ieee]; rw [← EReal.coe_mul]; norm_num
theorem bits_num : Ideal.ofBits .f32 1194240768#32 = ((44715 : ℝ) : EReal) := by
  simp [Ideal.ofBits, Ideal.ieee]; norm_num; rw [← EReal.coe_mul]; norm_num
theorem bits_den : Ideal.ofBits .f32 1232348160#32 = ((1000000 : ℝ) : EReal) := by
  simp [Ideal.ofBits, Ideal.ieee]; norm_num; rw [← EReal.coe_mul]; norm_num

theorem div_n (x : ℝ) : Ideal.div (x : EReal) ((1024 : ℝ) : EReal) = ((x / 1024 : ℝ) : EReal) := by
  rw [Ideal.div_coe (by norm_num), ← EReal.coe_mul]; congr 1; ring

theorem div_pos (x y : ℝ) (h : 0 < y) : Ideal.div (x : EReal) (y : EReal) = ((x / y : ℝ) : EReal) := by
  rw [Ideal.div_coe h.ne', ← EReal.coe_mul]; congr 1; ring

/-- The mean square of a row with the small number, and one over its root. -/
def ms (X : ℕ → ℕ → ℝ) (i : ℕ) : ℝ := (∑ k : Fin 1024, X i k * X i k) / 1024 + eps
def rr (X : ℕ → ℕ → ℝ) (i : ℕ) : ℝ := (Real.sqrt (ms X i))⁻¹

theorem ms_pos (X : ℕ → ℕ → ℝ) (i : ℕ) : 0 < ms X i :=
  add_pos_of_nonneg_of_pos (div_nonneg (Finset.sum_nonneg fun k _ => mul_self_nonneg _) (by norm_num)) eps_pos

theorem rsqrt_pos (y : ℝ) (h : 0 < y) : Ideal.rsqrt (y : EReal) = (((Real.sqrt y)⁻¹ : ℝ) : EReal) := by
  rw [Ideal.rsqrt_coe, if_neg h.le.not_gt, if_neg h.ne']

theorem rsqrt_ms (X : ℕ → ℕ → ℝ) (i : ℕ) : Ideal.rsqrt ((ms X i : ℝ) : EReal) = ((rr X i : ℝ) : EReal) := rsqrt_pos _ (ms_pos X i)

/-- The normalised row's gradient: `D` into the result, `g` the gain. -/
def rmsb (D X : ℕ → ℕ → ℝ) (g : ℕ → ℝ) (i k : ℕ) : ℝ :=
  rr X i * (D i k * g k - X i k * rr X i * ((∑ x : Fin 1024, D i x * g x * (X i x * rr X i)) / 1024))

/-- The activation and its derivative. -/
def th (x : ℝ) : ℝ := Real.tanh (gc * x * (1 + kq * (x * x)))
def gl (x : ℝ) : ℝ := x * (1 / 2 * (1 + th x))
def gl' (x : ℝ) : ℝ := 1 / 2 * (1 + th x) + gc / 2 * x * (1 - th x * th x) * (1 + 3 * kq * (x * x))

/-- `u` delayed by `d` tokens, with zeros before the first. -/
def shift (d : ℕ) (u : ℕ → ℕ → ℝ) (i c : ℕ) : ℝ := if d ≤ i then u (i - d) c else 0

/-- `u` advanced by `d` tokens, with zeros after the last of the 4096. -/
def ahead (d : ℕ) (u : ℕ → ℕ → ℝ) (i c : ℕ) : ℝ := if i + d < 4096 then u (i + d) c else 0

end Cert.Ffn

end
-- ==== Proof.Value.PayRms.lean ====
/- The normalisations' gradients and the plain products, on blocks that hold real numbers. -/
module

public import proofs.«01_k».proof.Proof.Body.Pure
public import proofs.«01_k».proof.Proof.Value.Reals

@[expose] public section

noncomputable section

namespace Cert.KernelIdeal.Body

open Cert.KernelIdeal Cert.KernelIdeal.Gen Cert.Ffn
open Idealize.ShloMosaic
open Idealize.ShloMosaic.Pointwise

section Rms

variable {a x : FVec Ideal S512x1024 .f32} {g : FVec Ideal S1x1024 .f32} {A X : ℕ → ℕ → ℝ} {G : ℕ → ℝ}

theorem pay6_real (hx : R2 (n := 512) (b := 1024) x X) (r : Fin 512) (k : Fin 1) : k0_pay6 (F := Ideal) x (ix2 r k) = ((rr X r.val : ℝ) : EReal) := by
  pointwise [k0_pay6, k0_pay5]
  simp only [hx r, bits_eps, bits_n, ← EReal.coe_mul, csum, div_n, ← EReal.coe_add]
  exact rsqrt_ms X r.val

theorem pay9_real (ha : R2 (n := 512) (b := 1024) a A) (hx : R2 (n := 512) (b := 1024) x X) (hg : R2 (n := 1) (b := 1024) g (fun _ k => G k)) :
    R2 (n := 512) (b := 1024) (k0_pay9 (F := Ideal) a x g) (rmsb A X G) := by
  intro r k
  pointwise [k0_pay9, k0_pay7, k0_pay5]
  simp only [pay6_real hx, ha r, hx r, hg, bits_n, ← EReal.coe_mul, csum, div_n, ← EReal.coe_sub]
  rfl

theorem pay10_real (ha : R2 (n := 512) (b := 1024) a A) (hx : R2 (n := 512) (b := 1024) x X) (hg : R2 (n := 1) (b := 1024) g (fun _ k => G k)) :
    R2 (n := 512) (b := 1024) (k0_pay10 (F := Ideal) a x g) (rmsb A X G) := by
  intro r k
  pointwise [k0_pay10]
  exact pay9_real ha hx hg r k

theorem pay11_real (ha : R2 (n := 512) (b := 1024) a A) (hx : R2 (n := 512) (b := 1024) x X) (hg : R2 (n := 1) (b := 1024) g (fun _ k => G k)) :
    R2 (n := 512) (b := 1024) (k0_pay11 (F := Ideal) a x g) (rmsb A X G) := by
  intro r k
  pointwise [k0_pay11]
  exact pay9_real ha hx hg r k

theorem pay8_real (ha : R2 (n := 512) (b := 1024) a A) (hx : R2 (n := 512) (b := 1024) x X) :
    R2 (n := 1) (b := 1024) (k0_pay8 (F := Ideal) a x) (fun _ k => ∑ r : Fin 512, A r k * (X r k * rr X r)) := by
  intro r k
  pointwise [k0_pay8, k0_pay7, k0_pay5]
  simp only [pay6_real hx, ha, hx, ← EReal.coe_mul, csum]

end Rms

theorem pay18_real {p z : FVec Ideal S1x1024 .f32} {A Z : ℕ → ℕ → ℝ} (hp : R2 (n := 1) (b := 1024) p A) (hz : R2 (n := 1) (b := 1024) z Z) :
    R2 (n := 1) (b := 1024) (k0_pay18 p z) (fun _ k => Z 0 k + A 0 k) := by
  intro r k
  pointwise [k0_pay18]
  obtain rfl : r = 0 := Subsingleton.elim _ _
  rw [hp, hz, ← EReal.coe_add]
  rfl

theorem pay4_real {p z : FVec Ideal S1x1024 .f32} {A Z : ℕ → ℕ → ℝ} (hp : R2 (n := 1) (b := 1024) p A) (hz : R2 (n := 1) (b := 1024) z Z) :
    R2 (n := 1) (b := 1024) (k0_pay4 p z) (fun _ k => Z 0 k + A 0 k) := by
  intro r k
  pointwise [k0_pay4]
  obtain rfl : r = 0 := Subsingleton.elim _ _
  rw [hp, hz, ← EReal.coe_add]
  rfl

theorem pay20_real {d : FVec Ideal S512x1024 .f32} {w : FVec Ideal S256x1024 .bf16} {D W : ℕ → ℕ → ℝ} (hd : R2 (n := 512) (b := 1024) d D)
    (hw : R2 (n := 256) (b := 1024) w W) :
    R3 (a := 1) (n := 512) (b := 256) (k0_pay20 d w) (fun _ r c => ∑ k : Fin 1024, D r k * W c k) := by
  intro q r k
  obtain rfl : q = 0 := Subsingleton.elim _ _
  pointwise [k0_pay20]
  simp only [hd r, hw k, ← EReal.coe_mul, csum]

theorem pay28_real {d : FVec Ideal S512x1024 .bf16} {w : FVec Ideal S256x1024 .bf16} {D W : ℕ → ℕ → ℝ} (hd : R2 (n := 512) (b := 1024) d D)
    (hw : R2 (n := 256) (b := 1024) w W) :
    R3 (a := 1) (n := 512) (b := 256) (k0_pay28 (F := Ideal) d w) (fun _ r c => ∑ k : Fin 1024, D r k * W c k) := by
  intro q r k
  obtain rfl : q = 0 := Subsingleton.elim _ _
  pointwise [k0_pay28]
  simp only [hd r, hw k, ← EReal.coe_mul, csum]

theorem pay29_real {z : FVec Ideal S512x1024 .f32} {d e : FVec Ideal S512x256 .bf16} {w v : FVec Ideal S256x1024 .bf16} {Z D E W V : ℕ → ℕ → ℝ}
    (hz : R2 (n := 512) (b := 1024) z Z) (hd : R2 (n := 512) (b := 256) d D) (he : R2 (n := 512) (b := 256) e E)
    (hw : R2 (n := 256) (b := 1024) w W) (hv : R2 (n := 256) (b := 1024) v V) :
    R2 (n := 512) (b := 1024) (k0_pay29 (F := Ideal) z d w e v)
      (fun r k => Z r k + ((∑ c : Fin 256, D r c * W c k) + ∑ c : Fin 256, E r c * V c k)) := by
  intro r k
  pointwise [k0_pay29]
  simp only [hz r, hd r, he r, hw, hv, ← EReal.coe_mul, csum, ← EReal.coe_add]

section Last

variable {z : FVec Ideal S512x1024 .f32} {d e : FVec Ideal S512x256 .bf16} {w v : FVec Ideal S256x1024 .bf16} {Z D E W V : ℕ → ℕ → ℝ}
  {x : FVec Ideal S512x1024 .f32} {g : FVec Ideal S1x1024 .f32} {X : ℕ → ℕ → ℝ} {G : ℕ → ℝ} {A : ℕ → ℕ → ℝ} {a : FVec Ideal S512x1024 .f32}

/-- The gradient of the normalised tokens, the last column's products added. -/
def dhOf (Z D E W V : ℕ → ℕ → ℝ) (r k : ℕ) : ℝ := Z r k + (∑ c : Fin 256, D r c * W c k) + ∑ c : Fin 256, E r c * V c k

theorem pay15_real (hz : R2 (n := 512) (b := 1024) z Z) (hd : R2 (n := 512) (b := 256) d D) (he : R2 (n := 512) (b := 256) e E)
    (hw : R2 (n := 256) (b := 1024) w W) (hv : R2 (n := 256) (b := 1024) v V) (hx : R2 (n := 512) (b := 1024) x X) :
    R2 (n := 1) (b := 1024) (k0_pay15 (F := Ideal) z d w e v x) (fun _ k => ∑ r : Fin 512, dhOf Z D E W V r k * (X r k * rr X r)) := by
  intro r k
  pointwise [k0_pay15, k0_pay12, k0_pay13, k0_pay14]
  simp only [hz _ _, hd _ _, he _ _, hw _ _, hv _ _, hx _ _, bits_eps, bits_n, ← EReal.coe_mul, csum, div_n, ← EReal.coe_add]
  simp only [show ∀ i : ℕ, Ideal.rsqrt ((((∑ k : Fin 1024, X i k * X i k) / 1024 + eps : ℝ)) : EReal) = ((rr X i : ℝ) : EReal) from fun i => rsqrt_ms X i, ← EReal.coe_mul, csum]
  rfl

theorem dx2_real (ha : R2 (n := 512) (b := 1024) a A) (hz : R2 (n := 512) (b := 1024) z Z) (hd : R2 (n := 512) (b := 256) d D) (he : R2 (n := 512) (b := 256) e E)
    (hw : R2 (n := 256) (b := 1024) w W) (hv : R2 (n := 256) (b := 1024) v V) (hx : R2 (n := 512) (b := 1024) x X)
    (hg : R2 (n := 1) (b := 1024) g (fun _ k => G k)) :
    R2 (n := 512) (b := 1024) (k0_pay3 (F := Ideal) (k0_pay16 (F := Ideal) z d w e v x g) (k0_pay17 (F := Ideal) x) a) (fun r k => A r k + rmsb (dhOf Z D E W V) X G r k) := by
  intro r k
  pointwise [k0_pay3, k0_pay16, k0_pay17, k0_pay12, k0_pay13, k0_pay14]
  simp only [ha _ _, hz _ _, hd _ _, he _ _, hw _ _, hv _ _, hx _ _, hg _ _, bits_eps, bits_n, ← EReal.coe_mul, csum, div_n, ← EReal.coe_add]
  simp only [show ∀ i : ℕ, Ideal.rsqrt ((((∑ k : Fin 1024, X i k * X i k) / 1024 + eps : ℝ)) : EReal) = ((rr X i : ℝ) : EReal) from fun i => rsqrt_ms X i, ← EReal.coe_mul, csum, div_n, ← EReal.coe_sub, ← EReal.coe_add]
  rfl

end Last

end Cert.KernelIdeal.Body

end
-- ==== Proof.Value.PayConv.lean ====
/- The convolution's two halves at a grid point, and the delayed tokens they are made of. -/
module

public import proofs.«01_k».proof.Proof.Body.Pure
public import proofs.«01_k».proof.Proof.Value.Reals

@[expose] public section

noncomputable section

namespace Cert.KernelIdeal.Body

open Cert.KernelIdeal Cert.KernelIdeal.Gen Cert.Ffn
open Idealize.ShloMosaic
open Idealize.ShloMosaic.Pointwise

/-- The real numbers the arguments hold, and the two the forward pass has computed: `U` before the convolution, `Y` the network's output. -/
structure Params where
  X : ℕ → ℕ → ℝ
  GF : ℕ → ℝ
  WU : ℕ → ℕ → ℝ
  CW : ℕ → ℕ → ℝ
  CB : ℕ → ℝ
  WD : ℕ → ℕ → ℝ
  GP : ℕ → ℝ
  DX : ℕ → ℕ → ℝ
  U : ℕ → ℕ → ℝ
  Y : ℕ → ℕ → ℝ

/-- What the windows hold at the block `b` of tokens and the column `j`. -/
structure At (P : Params) (b j : ℕ) (x : In Ideal) : Prop where
  x0 : R2 (n := 512) (b := 1024) x.x0 (fun r k => P.DX (512 * b + r) k)
  x1 : R2 (n := 512) (b := 1024) x.x1 (fun r k => P.Y (512 * b + r) k)
  x2 : R2 (n := 512) (b := 256) x.x2 (fun r c => P.U (512 * b + r) (256 * j + c))
  x3 : R2 (n := 512) (b := 256) x.x3 (fun r c => P.U (512 * b + r) (2816 + 256 * j + c))
  x4 : b ≠ 0 → R2 (n := 8) (b := 256) x.x4 (fun r c => P.U (512 * b - 8 + r) (256 * j + c))
  x5 : b ≠ 0 → R2 (n := 8) (b := 256) x.x5 (fun r c => P.U (512 * b - 8 + r) (2816 + 256 * j + c))
  x6 : R2 (n := 3) (b := 256) x.x6 (fun r c => P.CW r (256 * j + c))
  x7 : R2 (n := 3) (b := 256) x.x7 (fun r c => P.CW r (2816 + 256 * j + c))
  x8 : R2 (n := 1) (b := 256) x.x8 (fun _ c => P.CB (256 * j + c))
  x9 : R2 (n := 1) (b := 256) x.x9 (fun _ c => P.CB (2816 + 256 * j + c))
  x10 : R2 (n := 256) (b := 1024) x.x10 (fun c k => P.WD (256 * j + c) k)
  x11 : R2 (n := 1) (b := 1024) x.x11 (fun _ k => P.GP k)
  x12 : R2 (n := 256) (b := 1024) x.x12 (fun c k => P.WU k (256 * j + c))
  x13 : R2 (n := 256) (b := 1024) x.x13 (fun c k => P.WU k (2816 + 256 * j + c))
  x14 : R2 (n := 512) (b := 1024) x.x14 (fun r k => P.X (512 * b + r) k)
  x15 : R2 (n := 1) (b := 1024) x.x15 (fun _ k => P.GF k)
  x16 : R2 (n := 256) (b := 1024) x.x16 (fun c k => P.WD (256 * min (j + 1) 10 + c) k)
  x17 : R2 (n := 256) (b := 1024) x.x17 (fun c k => P.WU k (256 * (j - 1) + c))
  x18 : R2 (n := 256) (b := 1024) x.x18 (fun c k => P.WU k (2816 + 256 * (j - 1) + c))

/-- A choice by the equality of two small numbers. -/
theorem sel_eq {α : Type} (r m : ℕ) (hr : r < 512) (hm : m < 512) (a b : α) :
    Scalar.select (IntOp.cmpi .eq (BitVec.ofNat 32 r) (BitVec.ofNat 32 m)) a b = if r = m then a else b := by
  by_cases h : r = m
  · subst h; simp [Scalar.select, IntOp.cmpi]
  · have : BitVec.ofNat 32 r ≠ BitVec.ofNat 32 m := fun e => h (by
      have := congrArg BitVec.toNat e
      simp only [BitVec.toNat_ofNat] at this
      omega)
    have e : (BitVec.ofNat 32 r == BitVec.ofNat 32 m) = false := by rw [beq_eq_false_iff_ne]; exact this
    simp only [Scalar.select, IntOp.cmpi, e, if_neg h]
    rfl

/-- A choice by the block's being the sequence's first. -/
theorem sel_start {α : Type} (i : grid0.Coords) (b : ℕ) (hb : b = 7 - (i 0).val) (a a' : α) :
    Scalar.select (seqStart i) a a' = if b = 0 then a else a' := by
  have h8 : (i 0).val < 8 := (i 0).isLt
  have key : ∀ n : Fin 8, Scalar.cmpi .eq (Scalar.subi (7#32) (BitVec.ofNat 32 n.val)) (0#32) = if 7 - n.val = 0 then 1#1 else 0#1 := by decide
  have := key ⟨(i 0).val, h8⟩
  unfold seqStart
  rw [this, hb]
  by_cases h : 7 - (i 0).val = 0 <;> simp [Scalar.select, h]

variable {P : Params} {b j : ℕ} {x : In Ideal} {i : grid0.Coords}

theorem val_shift {d n r c : ℕ} {u : ℕ → ℕ → ℝ} (h : d ≤ r) (e : n = r - d) : ((u n c : ℝ) : EReal) = ((shift d u r c : ℝ) : EReal) := by
  rw [shift, if_pos h, e]

theorem g0_real (h : At P b j x) : R2 (n := 512) (b := 256) (g0 x) (fun r c => P.U (512 * b + r) (256 * j + c)) := by
  intro r k
  pointwise [g0, k0_pay30]
  exact h.x2 r k

theorem g1_real (h : At P b j x) (hb : b = 7 - (i 0).val) :
    R2 (n := 512) (b := 256) (g1 i x) (fun r c => shift 1 P.U (512 * b + r) (256 * j + c)) := by
  intro r k
  pointwise [g1, k0_pay37, k0_pay35, k0_pay36, k0_pay33, k0_pay32, k0_pay30, rowNo, row]
  have hr := r.isLt
  by_cases h8 : r.val < 8
  · rw [dif_pos h8, sel_eq _ 0 (by omega) (by omega), sel_start i b hb]
    by_cases h0 : r.val = 0
    · rw [if_pos h0]
      by_cases hb0 : b = 0
      · rw [if_pos hb0, shift, if_neg (by omega)]; rfl
      · rw [if_neg hb0]
        exact (h.x4 hb0 _ _).trans (val_shift (by omega) (by show 512 * b - 8 + 7 = _; omega))
    · rw [if_neg h0]
      exact (h.x2 _ _).trans (val_shift (by omega) (by show 512 * b + (r.val + 512 - 1) % 512 = _; omega))
  · rw [dif_neg h8]
    exact (h.x2 _ _).trans (val_shift (by omega) (by show 512 * b + (8 + (r.val - 8) + 512 - 1) % 512 = _; omega))

theorem g2_real (h : At P b j x) (hb : b = 7 - (i 0).val) :
    R2 (n := 512) (b := 256) (g2 i x) (fun r c => shift 2 P.U (512 * b + r) (256 * j + c)) := by
  intro r k
  pointwise [g2, k0_pay38, k0_pay31, k0_pay32, k0_pay34, k0_pay30, rowNo, row]
  have hr := r.isLt
  by_cases h8 : r.val < 8
  · rw [dif_pos h8, sel_eq _ 0 (by omega) (by omega), sel_eq _ 1 (by omega) (by omega), sel_start i b hb, sel_start i b hb]
    by_cases h0 : r.val = 0
    · rw [if_pos h0]
      by_cases hb0 : b = 0
      · rw [if_pos hb0, shift, if_neg (by omega)]; rfl
      · rw [if_neg hb0]
        exact (h.x4 hb0 _ _).trans (val_shift (by omega) (by show 512 * b - 8 + 6 = _; omega))
    · rw [if_neg h0]
      by_cases h1 : r.val = 1
      · rw [if_pos h1]
        by_cases hb0 : b = 0
        · rw [if_pos hb0, shift, if_neg (by omega)]; rfl
        · rw [if_neg hb0]
          exact (h.x4 hb0 _ _).trans (val_shift (by omega) (by show 512 * b - 8 + 7 = _; omega))
      · rw [if_neg h1]
        exact (h.x2 _ _).trans (val_shift (by omega) (by show 512 * b + (r.val + 512 - 2) % 512 = _; omega))
  · rw [dif_neg h8]
    exact (h.x2 _ _).trans (val_shift (by omega) (by show 512 * b + (8 + (r.val - 8) + 512 - 2) % 512 = _; omega))

theorem u0_real (h : At P b j x) : R2 (n := 512) (b := 256) (u0 x) (fun r c => P.U (512 * b + r) (2816 + 256 * j + c)) := by
  intro r k
  pointwise [u0, k0_pay40]
  exact h.x3 r k

theorem u1_real (h : At P b j x) (hb : b = 7 - (i 0).val) :
    R2 (n := 512) (b := 256) (u1 i x) (fun r c => shift 1 P.U (512 * b + r) (2816 + 256 * j + c)) := by
  intro r k
  pointwise [u1, k0_pay44, k0_pay43, k0_pay42, u0, k0_pay40, rowNo, row]
  have hr := r.isLt
  by_cases h8 : r.val < 8
  · rw [dif_pos h8, sel_eq _ 0 (by omega) (by omega), sel_start i b hb]
    by_cases h0 : r.val = 0
    · rw [if_pos h0]
      by_cases hb0 : b = 0
      · rw [if_pos hb0, shift, if_neg (by omega)]; rfl
      · rw [if_neg hb0]
        exact (h.x5 hb0 _ _).trans (val_shift (by omega) (by show 512 * b - 8 + 7 = _; omega))
    · rw [if_neg h0]
      exact (h.x3 _ _).trans (val_shift (by omega) (by show 512 * b + (r.val + 512 - 1) % 512 = _; omega))
  · rw [dif_neg h8]
    exact (h.x3 _ _).trans (val_shift (by omega) (by show 512 * b + (8 + (r.val - 8) + 512 - 1) % 512 = _; omega))

theorem u2_real (h : At P b j x) (hb : b = 7 - (i 0).val) :
    R2 (n := 512) (b := 256) (u2 i x) (fun r c => shift 2 P.U (512 * b + r) (2816 + 256 * j + c)) := by
  intro r k
  pointwise [u2, k0_pay45, k0_pay43, k0_pay41, k0_pay42, u0, k0_pay40, rowNo, row]
  have hr := r.isLt
  by_cases h8 : r.val < 8
  · rw [dif_pos h8, sel_eq _ 0 (by omega) (by omega), sel_eq _ 1 (by omega) (by omega), sel_start i b hb, sel_start i b hb]
    by_cases h0 : r.val = 0
    · rw [if_pos h0]
      by_cases hb0 : b = 0
      · rw [if_pos hb0, shift, if_neg (by omega)]; rfl
      · rw [if_neg hb0]
        exact (h.x5 hb0 _ _).trans (val_shift (by omega) (by show 512 * b - 8 + 6 = _; omega))
    · rw [if_neg h0]
      by_cases h1 : r.val = 1
      · rw [if_pos h1]
        by_cases hb0 : b = 0
        · rw [if_pos hb0, shift, if_neg (by omega)]; rfl
        · rw [if_neg hb0]
          exact (h.x5 hb0 _ _).trans (val_shift (by omega) (by show 512 * b - 8 + 7 = _; omega))
      · rw [if_neg h1]
        exact (h.x3 _ _).trans (val_shift (by omega) (by show 512 * b + (r.val + 512 - 2) % 512 = _; omega))
  · rw [dif_neg h8]
    exact (h.x3 _ _).trans (val_shift (by omega) (by show 512 * b + (8 + (r.val - 8) + 512 - 2) % 512 = _; omega))

/-- The convolution at the token `i` and the column `c`. -/
def pre (P : Params) (i c : ℕ) : ℝ := P.CB c + P.CW 0 c * shift 2 P.U i c + P.CW 1 c * shift 1 P.U i c + P.CW 2 c * P.U i c

theorem gate_eq (r : Fin 512) (k : Fin 256) : gate i x (ix2 r k) = x.x8 (ix2 0 k) + x.x6 (ix2 0 k) * g2 i x (ix2 r k)
    + x.x6 (ix2 1 k) * g1 i x (ix2 r k) + x.x6 (ix2 2 k) * g0 x (ix2 r k) := by
  pointwise [gate, k0_pay39, g0, k0_pay30, row]
  unfold g2 g1
  rfl

theorem up_eq (r : Fin 512) (k : Fin 256) : up i x (ix2 r k) = x.x9 (ix2 0 k) + x.x7 (ix2 0 k) * u2 i x (ix2 r k)
    + x.x7 (ix2 1 k) * u1 i x (ix2 r k) + x.x7 (ix2 2 k) * u0 x (ix2 r k) := by
  have z0 : (FloatOps.ofBits FTy.f32 0#32 : Ideal .f32) = 0 := Ideal.ofBits_zero_f32
  pointwise [up, k0_pay46, row]
  unfold u2 u1
  rw [z0]

theorem gate_real (h : At P b j x) (hb : b = 7 - (i 0).val) :
    R2 (n := 512) (b := 256) (gate i x) (fun r c => pre P (512 * b + r) (256 * j + c)) := by
  intro r k
  rw [gate_eq, h.x8, h.x6, h.x6, h.x6, g2_real h hb, g1_real h hb, g0_real h]
  simp only [← EReal.coe_mul, ← EReal.coe_add]
  rfl

theorem up_real (h : At P b j x) (hb : b = 7 - (i 0).val) :
    R2 (n := 512) (b := 256) (up i x) (fun r c => pre P (512 * b + r) (2816 + 256 * j + c)) := by
  intro r k
  rw [up_eq, h.x9, h.x7, h.x7, h.x7, u2_real h hb, u1_real h hb, u0_real h]
  simp only [← EReal.coe_mul, ← EReal.coe_add]
  rfl

end Cert.KernelIdeal.Body

end
-- ==== Proof.Value.PayGrad.lean ====
/- The gradients of the activation and of the convolution at a grid point. -/
module

public import proofs.«01_k».proof.Proof.Body.Pure
public import proofs.«01_k».proof.Proof.Value.PayConv

@[expose] public section

noncomputable section

namespace Cert.KernelIdeal.Body

open Cert.KernelIdeal Cert.KernelIdeal.Gen Cert.Ffn
open Idealize.ShloMosaic
open Idealize.ShloMosaic.Pointwise

/-- The gradients, on the reals: of the network's output, of the activation, of the convolution's two halves, and of what is before it. -/
def dyR (P : Params) (i k : ℕ) : ℝ := rmsb P.DX P.Y P.GP i k
def daR (P : Params) (i c : ℕ) : ℝ := ∑ k : Fin 1024, dyR P i k * P.WD c k
def dUpR (P : Params) (i c : ℕ) : ℝ := daR P i c * gl (pre P i c)
def dGateR (P : Params) (i c : ℕ) : ℝ := daR P i c * pre P i (2816 + c) * gl' (pre P i c)

/-- The convolution run backwards, on the columns from `o` on. -/
def back (P : Params) (o : ℕ) (D : ℕ → ℕ → ℝ) (i c : ℕ) : ℝ :=
  P.CW 2 (o + c) * D i c + P.CW 1 (o + c) * ahead 1 D i c + P.CW 0 (o + c) * ahead 2 D i c

/-- The first rows of the block after `b`, zero after the last. -/
def nxt (D : ℕ → ℕ → ℝ) (b j : ℕ) (r c : ℕ) : ℝ := if 512 * b + 512 + r < 4096 then D (512 * b + 512 + r) (256 * j + c) else 0

/-- What the block `b` adds to the four rows of the table (the other four stay zero): the products with the tokens two earlier, one earlier and
    at the same place, and the plain sum. -/
def part (o : ℕ) (D U : ℕ → ℕ → ℝ) (b r c : ℕ) : ℝ :=
  if r = 0 then ∑ x : Fin 512, D (512 * b + x) c * shift 2 U (512 * b + x) (o + c)
  else if r = 1 then ∑ x : Fin 512, D (512 * b + x) c * shift 1 U (512 * b + x) (o + c)
  else if r = 2 then ∑ x : Fin 512, D (512 * b + x) c * U (512 * b + x) (o + c)
  else if r = 3 then ∑ x : Fin 512, D (512 * b + x) c
  else 0

theorem val_ahead {d n r c : ℕ} {u : ℕ → ℕ → ℝ} (h : r + d < 4096) (e : n = r + d) : ((u n c : ℝ) : EReal) = ((ahead d u r c : ℝ) : EReal) := by
  rw [ahead, if_pos h, e]

theorem nxt_ahead {D : ℕ → ℕ → ℝ} {d b j r c i : ℕ} (e : 512 * b + 512 + r = i + d) :
    ((nxt D b j r c : ℝ) : EReal) = ((ahead d D i (256 * j + c) : ℝ) : EReal) := by
  rw [nxt, ahead, e]

theorem cubic_eq : (Named.named κ "cubic" 1027024659#32 : Ideal .f32) = ((kq : ℝ) : EReal) := by
  refine (IdealRules.named_const.ideal_named_scalar _ _ _ _ rfl).trans ?_
  norm_num [kq]

theorem cubic3_eq : (Named.named κ "cubic3" 1040801103#32 : Ideal .f32) = ((3 * kq : ℝ) : EReal) := by
  refine (IdealRules.named_const.ideal_named_scalar _ _ _ _ rfl).trans ?_
  norm_num [kq]

theorem one_real : (1 : EReal) = ((1 : ℝ) : EReal) := rfl

variable {P : Params} {b j : ℕ} {x : In Ideal} {i : grid0.Coords} {da : FVec Ideal S512x256 .f32} {nx : Vec Ideal S1x8x256 .f32}

theorem dUp_real (h : At P b j x) (hb : b = 7 - (i 0).val) (hd : R2 (n := 512) (b := 256) da (fun r c => daR P (512 * b + r) (256 * j + c))) :
    R2 (n := 512) (b := 256) (dUp i x da) (fun r c => dUpR P (512 * b + r) (256 * j + c)) := by
  intro r k
  pointwise [dUp, k0_pay50, k0_pay47, k0_pay48, k0_pay49]
  rw [hd, gate_real h hb]
  simp only [bits_half, bits_gc, bits_half_gc, cubic_eq, cubic3_eq, one_real, ← EReal.coe_mul, ← EReal.coe_add, ← EReal.coe_sub, Ideal.tanh_coe]
  rfl

theorem dGate_real (h : At P b j x) (hb : b = 7 - (i 0).val) (hd : R2 (n := 512) (b := 256) da (fun r c => daR P (512 * b + r) (256 * j + c))) :
    R2 (n := 512) (b := 256) (dGate i x da) (fun r c => dGateR P (512 * b + r) (256 * j + c)) := by
  intro r k
  pointwise [dGate, k0_pay51, k0_pay47, k0_pay48, k0_pay49]
  rw [hd, gate_real h hb, up_real h hb]
  simp only [bits_half, bits_gc, bits_half_gc, cubic_eq, cubic3_eq, one_real, ← EReal.coe_mul, ← EReal.coe_add, ← EReal.coe_sub, Ideal.tanh_coe]
  rw [dGateR, ← Nat.add_assoc]
  rfl

theorem dGate0_real (h : At P b j x) (hb : b = 7 - (i 0).val) (hd : R2 (n := 512) (b := 256) da (fun r c => daR P (512 * b + r) (256 * j + c)))
    (hn : R3 (a := 1) (n := 8) (b := 256) nx (fun _ r c => nxt (dGateR P) b j r c)) :
    R2 (n := 512) (b := 256) (dGate0 (F := Ideal) i x da nx) (fun r c => back P 0 (dGateR P) (512 * b + r) (256 * j + c)) := by
  intro r k
  pointwise [dGate0, k0_pay60, k0_pay58, k0_pay57, k0_pay56, k0_pay55, k0_pay54, k0_pay53, k0_pay52, rowNo, row]
  have hr := r.isLt
  have hk := k.isLt
  have D0 : dGate i x da (ix2 r k) = ((dGateR P (512 * b + r.val) (256 * j + k.val) : ℝ) : EReal) := dGate_real h hb hd r k
  have D1 : (if _ : r.val < 504 then dGate i x da (ix2 ⟨(r.val + 512 - 511) % 512, Nat.mod_lt _ (by decide)⟩ k)
      else Scalar.select (IntOp.cmpi CmpIPredicate.eq (BitVec.ofNat 32 (r.val - 504)) 7#32) (nx (ix3 0 0 k))
        (dGate i x da (ix2 ⟨(504 + (r.val - 504) + 512 - 511) % 512, Nat.mod_lt _ (by decide)⟩ k)) : EReal)
      = ((ahead 1 (dGateR P) (512 * b + r.val) (256 * j + k.val) : ℝ) : EReal) := by
    by_cases h5 : r.val < 504
    · rw [dif_pos h5]
      exact (dGate_real h hb hd _ _).trans (val_ahead (by omega) (by show 512 * b + (r.val + 512 - 511) % 512 = _; omega))
    · rw [dif_neg h5, sel_eq _ 7 (by omega) (by omega)]
      by_cases h7 : r.val - 504 = 7
      · rw [if_pos h7, hn 0 0 k]
        exact nxt_ahead (by show 512 * b + 512 + 0 = _; omega)
      · rw [if_neg h7]
        exact (dGate_real h hb hd _ _).trans (val_ahead (by omega) (by show 512 * b + (504 + (r.val - 504) + 512 - 511) % 512 = _; omega))
  have D2 : (if _ : r.val < 504 then dGate i x da (ix2 ⟨(r.val + 512 - 510) % 512, Nat.mod_lt _ (by decide)⟩ k)
      else Scalar.select (IntOp.cmpi CmpIPredicate.eq (BitVec.ofNat 32 (r.val - 504)) 7#32) (nx (ix3 0 1 k))
        (Scalar.select (IntOp.cmpi CmpIPredicate.eq (BitVec.ofNat 32 (r.val - 504)) 6#32) (nx (ix3 0 0 k))
          (dGate i x da (ix2 ⟨(504 + (r.val - 504) + 512 - 510) % 512, Nat.mod_lt _ (by decide)⟩ k))) : EReal)
      = ((ahead 2 (dGateR P) (512 * b + r.val) (256 * j + k.val) : ℝ) : EReal) := by
    by_cases h5 : r.val < 504
    · rw [dif_pos h5]
      exact (dGate_real h hb hd _ _).trans (val_ahead (by omega) (by show 512 * b + (r.val + 512 - 510) % 512 = _; omega))
    · rw [dif_neg h5, sel_eq _ 7 (by omega) (by omega), sel_eq _ 6 (by omega) (by omega)]
      by_cases h7 : r.val - 504 = 7
      · rw [if_pos h7, hn 0 1 k]
        exact nxt_ahead (by show 512 * b + 512 + 1 = _; omega)
      · rw [if_neg h7]
        by_cases h6 : r.val - 504 = 6
        · rw [if_pos h6, hn 0 0 k]
          exact nxt_ahead (by show 512 * b + 512 + 0 = _; omega)
        · rw [if_neg h6]
          exact (dGate_real h hb hd _ _).trans (val_ahead (by omega) (by show 512 * b + (504 + (r.val - 504) + 512 - 510) % 512 = _; omega))
  refine (congrArg₂ (fun a c : EReal => (x.x6 (ix2 2 k) * dGate i x da (ix2 r k) + x.x6 (ix2 1 k) * a) + x.x6 (ix2 0 k) * c) D1 D2).trans ?_
  beta_reduce
  rw [D0, h.x6, h.x6, h.x6]
  simp only [← EReal.coe_mul, ← EReal.coe_add]
  congr 1
  show P.CW 2 (256 * j + k.val) * _ + P.CW 1 (256 * j + k.val) * _ + P.CW 0 (256 * j + k.val) * _ = _
  rw [back, Nat.zero_add]

theorem dUp0_real (h : At P b j x) (hb : b = 7 - (i 0).val) (hd : R2 (n := 512) (b := 256) da (fun r c => daR P (512 * b + r) (256 * j + c)))
    (hn : R3 (a := 1) (n := 8) (b := 256) nx (fun _ r c => nxt (dUpR P) b j r c)) :
    R2 (n := 512) (b := 256) (dUp0 (F := Ideal) i x da nx) (fun r c => back P 2816 (dUpR P) (512 * b + r) (256 * j + c)) := by
  intro r k
  pointwise [dUp0, k0_pay74, k0_pay72, k0_pay71, k0_pay70, k0_pay69, k0_pay68, k0_pay67, k0_pay66, rowNo, row]
  have hr := r.isLt
  have hk := k.isLt
  have D0 : dUp i x da (ix2 r k) = ((dUpR P (512 * b + r.val) (256 * j + k.val) : ℝ) : EReal) := dUp_real h hb hd r k
  have D1 : (if _ : r.val < 504 then dUp i x da (ix2 ⟨(r.val + 512 - 511) % 512, Nat.mod_lt _ (by decide)⟩ k)
      else Scalar.select (IntOp.cmpi CmpIPredicate.eq (BitVec.ofNat 32 (r.val - 504)) 7#32) (nx (ix3 0 0 k))
        (dUp i x da (ix2 ⟨(504 + (r.val - 504) + 512 - 511) % 512, Nat.mod_lt _ (by decide)⟩ k)) : EReal)
      = ((ahead 1 (dUpR P) (512 * b + r.val) (256 * j + k.val) : ℝ) : EReal) := by
    by_cases h5 : r.val < 504
    · rw [dif_pos h5]
      exact (dUp_real h hb hd _ _).trans (val_ahead (by omega) (by show 512 * b + (r.val + 512 - 511) % 512 = _; omega))
    · rw [dif_neg h5, sel_eq _ 7 (by omega) (by omega)]
      by_cases h7 : r.val - 504 = 7
      · rw [if_pos h7, hn 0 0 k]
        exact nxt_ahead (by show 512 * b + 512 + 0 = _; omega)
      · rw [if_neg h7]
        exact (dUp_real h hb hd _ _).trans (val_ahead (by omega) (by show 512 * b + (504 + (r.val - 504) + 512 - 511) % 512 = _; omega))
  have D2 : (if _ : r.val < 504 then dUp i x da (ix2 ⟨(r.val + 512 - 510) % 512, Nat.mod_lt _ (by decide)⟩ k)
      else Scalar.select (IntOp.cmpi CmpIPredicate.eq (BitVec.ofNat 32 (r.val - 504)) 7#32) (nx (ix3 0 1 k))
        (Scalar.select (IntOp.cmpi CmpIPredicate.eq (BitVec.ofNat 32 (r.val - 504)) 6#32) (nx (ix3 0 0 k))
          (dUp i x da (ix2 ⟨(504 + (r.val - 504) + 512 - 510) % 512, Nat.mod_lt _ (by decide)⟩ k))) : EReal)
      = ((ahead 2 (dUpR P) (512 * b + r.val) (256 * j + k.val) : ℝ) : EReal) := by
    by_cases h5 : r.val < 504
    · rw [dif_pos h5]
      exact (dUp_real h hb hd _ _).trans (val_ahead (by omega) (by show 512 * b + (r.val + 512 - 510) % 512 = _; omega))
    · rw [dif_neg h5, sel_eq _ 7 (by omega) (by omega), sel_eq _ 6 (by omega) (by omega)]
      by_cases h7 : r.val - 504 = 7
      · rw [if_pos h7, hn 0 1 k]
        exact nxt_ahead (by show 512 * b + 512 + 1 = _; omega)
      · rw [if_neg h7]
        by_cases h6 : r.val - 504 = 6
        · rw [if_pos h6, hn 0 0 k]
          exact nxt_ahead (by show 512 * b + 512 + 0 = _; omega)
        · rw [if_neg h6]
          exact (dUp_real h hb hd _ _).trans (val_ahead (by omega) (by show 512 * b + (504 + (r.val - 504) + 512 - 510) % 512 = _; omega))
  refine (congrArg₂ (fun a c : EReal => (x.x7 (ix2 2 k) * dUp i x da (ix2 r k) + x.x7 (ix2 1 k) * a) + x.x7 (ix2 0 k) * c) D1 D2).trans ?_
  beta_reduce
  rw [D0, h.x7, h.x7, h.x7]
  simp only [← EReal.coe_mul, ← EReal.coe_add]
  congr 1
  show P.CW 2 (2816 + 256 * j + k.val) * _ + P.CW 1 (2816 + 256 * j + k.val) * _ + P.CW 0 (2816 + 256 * j + k.val) * _ = _
  rw [back, ← Nat.add_assoc]

theorem tabG_real (h : At P b j x) (hb : b = 7 - (i 0).val) (hd : R2 (n := 512) (b := 256) da (fun r c => daR P (512 * b + r) (256 * j + c)))
    {T : ℕ → ℕ → ℝ} (hn : R3 (a := 1) (n := 8) (b := 256) nx (fun _ r c => T r c)) :
    R3 (a := 1) (n := 8) (b := 256) (tabG (F := Ideal) i x da nx) (fun _ r c => T r c + part 0 (dGateR P) P.U b r (256 * j + c)) := by
  intro q r k
  obtain rfl : q = 0 := Subsingleton.elim _ _
  pointwise [tabG, k0_pay64, k0_pay62, k0_pay63, rowNo, row]
  rw [sel_eq _ 0 (by omega) (by omega), sel_eq _ 1 (by omega) (by omega), sel_eq _ 2 (by omega) (by omega), sel_eq _ 3 (by omega) (by omega), hn]
  simp only [dGate_real h hb hd _ _, g2_real h hb _ _, g1_real h hb _ _, g0_real h _ _, ← EReal.coe_mul, csum]
  rw [part]
  split_ifs <;> simp only [← EReal.coe_add, add_zero, Nat.zero_add]

theorem tabU_real (h : At P b j x) (hb : b = 7 - (i 0).val) (hd : R2 (n := 512) (b := 256) da (fun r c => daR P (512 * b + r) (256 * j + c)))
    {T : ℕ → ℕ → ℝ} (hn : R3 (a := 1) (n := 8) (b := 256) nx (fun _ r c => T r c)) :
    R3 (a := 1) (n := 8) (b := 256) (tabU (F := Ideal) i x da nx) (fun _ r c => T r c + part 2816 (dUpR P) P.U b r (256 * j + c)) := by
  intro q r k
  obtain rfl : q = 0 := Subsingleton.elim _ _
  pointwise [tabU, k0_pay1, k0_pay76, k0_pay77, k0_pay78, k0_pay79, k0_pay80, k0_pay81, k0_pay82, k0_pay83, rowNo, row]
  rw [sel_eq _ 0 (by omega) (by omega), sel_eq _ 1 (by omega) (by omega), sel_eq _ 2 (by omega) (by omega), sel_eq _ 3 (by omega) (by omega), hn]
  simp only [dUp_real h hb hd _ _, u2_real h hb _ _, u1_real h hb _ _, u0_real h _ _, ← EReal.coe_mul, csum]
  rw [part, ← Nat.add_assoc]
  split_ifs <;> simp only [← EReal.coe_add, add_zero]

theorem pay61_real {v : FVec Ideal S512x256 .f32} {D : ℕ → ℕ → ℝ} (hv : R2 (n := 512) (b := 256) v D) :
    R3 (a := 1) (n := 8) (b := 256) (k0_pay61 (F := Ideal) v) (fun _ r c => D r c) := by
  intro q r k
  obtain rfl : q = 0 := Subsingleton.elim _ _
  pointwise [k0_pay61]
  exact hv _ _

theorem pay75_real {v : FVec Ideal S512x256 .f32} {D : ℕ → ℕ → ℝ} (hv : R2 (n := 512) (b := 256) v D) :
    R3 (a := 1) (n := 8) (b := 256) (k0_pay75 (F := Ideal) v) (fun _ r c => D r c) := by
  intro q r k
  obtain rfl : q = 0 := Subsingleton.elim _ _
  pointwise [k0_pay75]
  exact hv _ _

theorem pay65_eq (v : Vec Ideal S1x8x256 .f32) : k0_pay65 (F := Ideal) v = v := by
  funext q
  rw [eq_ix3 q]
  pointwise [k0_pay65]

theorem pay2_eq (v : Vec Ideal S1x8x256 .f32) : k0_pay2 (F := Ideal) v = v := by
  funext q
  rw [eq_ix3 q]
  pointwise [k0_pay2]

theorem pay23_real : R3 (a := 1) (n := 8) (b := 256) (k0_pay23 (F := Ideal)) (fun _ _ _ => 0) := by
  intro q r k
  obtain rfl : q = 0 := Subsingleton.elim _ _
  pointwise [k0_pay23]
  rfl
theorem pay24_real : R3 (a := 1) (n := 8) (b := 256) (k0_pay24 (F := Ideal)) (fun _ _ _ => 0) := by
  intro q r k
  obtain rfl : q = 0 := Subsingleton.elim _ _
  pointwise [k0_pay24]
  rfl
theorem pay25_real : R3 (a := 1) (n := 8) (b := 256) (k0_pay25 (F := Ideal)) (fun _ _ _ => 0) := by
  intro q r k
  obtain rfl : q = 0 := Subsingleton.elim _ _
  pointwise [k0_pay25]
  rfl
theorem pay26_real : R3 (a := 1) (n := 8) (b := 256) (k0_pay26 (F := Ideal)) (fun _ _ _ => 0) := by
  intro q r k
  obtain rfl : q = 0 := Subsingleton.elim _ _
  pointwise [k0_pay26]
  rfl
theorem pay19_real : R2 (n := 512) (b := 1024) (k0_pay19 (F := Ideal)) (fun _ _ => 0) := by
  intro r k
  pointwise [k0_pay19]
  rfl
theorem pay21_real : R2 (n := 512) (b := 256) (k0_pay21 (F := Ideal)) (fun _ _ => 0) := by
  intro r k
  pointwise [k0_pay21]
  rfl
theorem pay22_real : R2 (n := 512) (b := 256) (k0_pay22 (F := Ideal)) (fun _ _ => 0) := by
  intro r k
  pointwise [k0_pay22]
  rfl

theorem pay27_apply (v : Vec Ideal S1x512x256 .f32) (r : Fin 512) (k : Fin 256) : k0_pay27 (F := Ideal) v (ix2 r k) = v (ix3 0 r k) := by
  pointwise [k0_pay27]

theorem dGate0T_apply (c : Fin 256) (r : Fin 512) : dGate0T (F := Ideal) i x da nx (ix2 c r) = dGate0 (F := Ideal) i x da nx (ix2 r c) := by
  pointwise [dGate0T, dGate0, k0_pay59, k0_pay60]

theorem dUp0T_apply (c : Fin 256) (r : Fin 512) : dUp0T (F := Ideal) i x da nx (ix2 c r) = dUp0 (F := Ideal) i x da nx (ix2 r c) := by
  pointwise [dUp0T, dUp0, k0_pay73, k0_pay74]

end Cert.KernelIdeal.Body

end
-- ==== Proof.Value.Step.lean ====
/-
  WHAT A GRID POINT LEAVES, ON THE REALS. The grid runs over the eight blocks of tokens, the last block first (`s`, the block `7 - s`), and over the
  eleven columns `j` of each. `Sc` says what the scratch holds before a point, `Out` what the output blocks hold after it.
-/
module

public import proofs.«01_k».proof.Proof.Value.PayRms
public import proofs.«01_k».proof.Proof.Value.PayGrad

@[expose] public section

noncomputable section

namespace Cert.KernelIdeal.Body

open Cert.KernelIdeal Cert.KernelIdeal.Gen Cert.Ffn
open Idealize.ShloMosaic

/-- The first rows of the block `B`, zero past the last block. -/
def fst (D : ℕ → ℕ → ℝ) (B q r c : ℕ) : ℝ := if 512 * B + r < 4096 then D (512 * B + r) (256 * q + c) else 0

/-- The table's sums over the first `n` blocks of the grid. -/
def tabSum (P : Params) (o : ℕ) (D : ℕ → ℕ → ℝ) (n r c : ℕ) : ℝ := ∑ s ∈ Finset.range n, part o D P.U (7 - s) r c

/-- What the column `q` adds to the gradient of the normalised tokens, and the sum of the first `n` columns. -/
def dhTerm (P : Params) (i k q : ℕ) : ℝ :=
  (∑ c : Fin 256, back P 0 (dGateR P) i (256 * q + c) * P.WU k (256 * q + c))
    + ∑ c : Fin 256, back P 2816 (dUpR P) i (256 * q + c) * P.WU k (2816 + 256 * q + c)
def dhSum (P : Params) (i k n : ℕ) : ℝ := ∑ q ∈ Finset.range n, dhTerm P i k q

/-- The gains' gradients, over the first `n` blocks of the grid. -/
def gainSum (D X : ℕ → ℕ → ℝ) (n k : ℕ) : ℝ := ∑ s ∈ Finset.range n, ∑ r : Fin 512, D (512 * (7 - s) + r) k * (X (512 * (7 - s) + r) k * rr X (512 * (7 - s) + r))

variable (P : Params)

/-- The scratch of a column's pass before the point `(s, j)`, the first column's reset done. -/
structure Col (s j : ℕ) (z : St Ideal) : Prop where
  dyS : R2 (n := 512) (b := 1024) z.dyS (fun r k => dyR P (512 * (7 - s) + r) k)
  daS : R2 (n := 512) (b := 256) (k0_pay27 (F := Ideal) (slab (n := 2) z.daS ⟨j % 2, Nat.mod_lt _ (by decide)⟩)) (fun r c => daR P (512 * (7 - s) + r) (256 * j + c))
  dhS : R2 (n := 512) (b := 1024) z.dhS (fun r k => dhSum P (512 * (7 - s) + r) k (j - 1))
  dugS : R2 (n := 512) (b := 256) z.dugS (fun r c => if j = 0 then 0 else back P 0 (dGateR P) (512 * (7 - s) + r) (256 * (j - 1) + c))
  duuS : R2 (n := 512) (b := 256) z.duuS (fun r c => if j = 0 then 0 else back P 2816 (dUpR P) (512 * (7 - s) + r) (256 * (j - 1) + c))

/-- The scratch kept from block to block: `ok` says which columns hold something, `done` which of them this block has passed. -/
structure Tab (s : ℕ) (ok done : ℕ → Prop) [DecidablePred done] (z : St Ideal) : Prop where
  cg : ∀ q : Fin 11, ok q → R3 (a := 1) (n := 8) (b := 256) (slab (n := 11) z.cg q) (fun _ r c => fst (dGateR P) (if done q then 7 - s else 8 - s) q r c)
  cu : ∀ q : Fin 11, ok q → R3 (a := 1) (n := 8) (b := 256) (slab (n := 11) z.cu q) (fun _ r c => fst (dUpR P) (if done q then 7 - s else 8 - s) q r c)
  ag : ∀ q : Fin 11, ok q → R3 (a := 1) (n := 8) (b := 256) (slab (n := 11) z.ag q) (fun _ r c => tabSum P 0 (dGateR P) (if done q then s + 1 else s) r (256 * q + c))
  au : ∀ q : Fin 11, ok q → R3 (a := 1) (n := 8) (b := 256) (slab (n := 11) z.au q) (fun _ r c => tabSum P 2816 (dUpR P) (if done q then s + 1 else s) r (256 * q + c))

/-- What the scratch holds before the point `(s, j)`. -/
structure Sc (s j : ℕ) (z : St Ideal) : Prop where
  col : j ≠ 0 → Col P s j z
  tab : Tab P s (fun q => q < j ∨ s ≠ 0) (fun q => q < j) z

/-- The scratch before the point's core, and after it. -/
structure Mid (s j : ℕ) (z : St Ideal) : Prop where
  col : Col P s j z
  tab : Tab P s (fun q => q ≤ j ∨ s ≠ 0) (fun q => q < j) z

structure After (s j : ℕ) (z : St Ideal) : Prop where
  dyS : R2 (n := 512) (b := 1024) z.dyS (fun r k => dyR P (512 * (7 - s) + r) k)
  daS : j ≠ 10 → R2 (n := 512) (b := 256) (k0_pay27 (F := Ideal) (slab (n := 2) z.daS ⟨(j + 1) % 2, Nat.mod_lt _ (by decide)⟩)) (fun r c => daR P (512 * (7 - s) + r) (256 * (j + 1) + c))
  dhS : R2 (n := 512) (b := 1024) z.dhS (fun r k => dhSum P (512 * (7 - s) + r) k j)
  dugS : R2 (n := 512) (b := 256) z.dugS (fun r c => back P 0 (dGateR P) (512 * (7 - s) + r) (256 * j + c))
  duuS : R2 (n := 512) (b := 256) z.duuS (fun r c => back P 2816 (dUpR P) (512 * (7 - s) + r) (256 * j + c))
  tab : Tab P s (fun q => q ≤ j ∨ s ≠ 0) (fun q => q ≤ j) z
  dug : R2 (n := 256) (b := 512) z.dug (fun c r => back P 0 (dGateR P) (512 * (7 - s) + r) (256 * j + c))
  duu : R2 (n := 256) (b := 512) z.duu (fun c r => back P 2816 (dUpR P) (512 * (7 - s) + r) (256 * j + c))
  dcg : R3 (a := 1) (n := 8) (b := 256) z.dcg (fun _ r c => tabSum P 0 (dGateR P) (s + 1) r (256 * j + c))
  dcu : R3 (a := 1) (n := 8) (b := 256) z.dcu (fun _ r c => tabSum P 2816 (dUpR P) (s + 1) r (256 * j + c))

variable {P} {x : In Ideal} {i : grid0.Coords}

theorem slab_R3 {n a b : ℕ} {v : (⟨3, ![n, a, b]⟩ : Shape).Idx → EReal} {j q : Fin n} {w : (⟨3, ![1, a, b]⟩ : Shape).Idx → EReal}
    {f : ℕ → ℕ → ℕ → ℝ} (hv : q ≠ j → R3 (a := 1) (n := a) (b := b) (slab v q) f) (hw : q = j → R3 (a := 1) (n := a) (b := b) w f) :
    R3 (a := 1) (n := a) (b := b) (slab (setSlab v j w) q) f := by
  by_cases h : q = j
  · subst h
    have e : slab (setSlab v q w) q = w := slab_setSlab v q w
    rw [e]; exact hw rfl
  · have e : slab (setSlab v j w) q = slab v q := slab_setSlab_ne v h w
    rw [e]; exact hv h

theorem congr3 {a n b : ℕ} {v : (⟨3, ![a, n, b]⟩ : Shape).Idx → EReal} {f g : ℕ → ℕ → ℕ → ℝ} (h : R3 (a := a) (n := n) (b := b) v f)
    (e : ∀ q r c, r < n → f q r c = g q r c) : R3 (a := a) (n := n) (b := b) v g := fun q r c => (h q r c).trans (by rw [e _ _ _ r.isLt])

theorem congr2 {n b : ℕ} {v : (⟨2, ![n, b]⟩ : Shape).Idx → EReal} {f g : ℕ → ℕ → ℝ} (h : R2 (n := n) (b := b) v f)
    (e : ∀ r c, f r c = g r c) : R2 (n := n) (b := b) v g := fun r c => (h r c).trans (by rw [e])

theorem core_after {z : St Ideal} (h : At P (7 - (i 0).val) (i 1).val x) (hz : Mid P (i 0).val (i 1).val z) :
    After P (i 0).val (i 1).val (core i x z) := by
  have hs : (i 0).val < 8 := (i 0).isLt
  have hj : (i 1).val < 11 := (i 1).isLt
  have hd : R2 (n := 512) (b := 256) (daOf i z) (fun r c => daR P (512 * (7 - (i 0).val) + r) (256 * (i 1).val + c)) := hz.col.daS
  have hcg : R3 (a := 1) (n := 8) (b := 256) (slab (n := 11) z.cg (i 1)) (fun _ r c => nxt (dGateR P) (7 - (i 0).val) (i 1).val r c) :=
    congr3 (hz.tab.cg (i 1) (.inl le_rfl)) fun q r c _ => by rw [if_neg (lt_irrefl _), show 8 - (i 0).val = 7 - (i 0).val + 1 by omega]; rfl
  have hcu : R3 (a := 1) (n := 8) (b := 256) (slab (n := 11) z.cu (i 1)) (fun _ r c => nxt (dUpR P) (7 - (i 0).val) (i 1).val r c) :=
    congr3 (hz.tab.cu (i 1) (.inl le_rfl)) fun q r c _ => by rw [if_neg (lt_irrefl _), show 8 - (i 0).val = 7 - (i 0).val + 1 by omega]; rfl
  have hg0 := dGate0_real h rfl hd hcg
  have hu0 := dUp0_real h rfl hd hcu
  have htg := tabG_real h rfl hd (T := fun r c => tabSum P 0 (dGateR P) (i 0).val r (256 * (i 1).val + c))
    (congr3 (hz.tab.ag (i 1) (.inl le_rfl)) fun q r c _ => by rw [if_neg (lt_irrefl _)])
  have htu := tabU_real h rfl hd (T := fun r c => tabSum P 2816 (dUpR P) (i 0).val r (256 * (i 1).val + c))
    (congr3 (hz.tab.au (i 1) (.inl le_rfl)) fun q r c _ => by rw [if_neg (lt_irrefl _)])
  have htg' := congr3 htg (g := fun _ r c => tabSum P 0 (dGateR P) ((i 0).val + 1) r (256 * (i 1).val + c))
    fun q r c _ => by rw [tabSum, tabSum, Finset.sum_range_succ]
  have htu' := congr3 htu (g := fun _ r c => tabSum P 2816 (dUpR P) ((i 0).val + 1) r (256 * (i 1).val + c))
    fun q r c _ => by rw [tabSum, tabSum, Finset.sum_range_succ]
  refine ⟨hz.col.dyS, ?_, ?_, hg0, hu0, ⟨?_, ?_, ?_, ?_⟩, ?_, ?_, ?_, ?_⟩
  · intro h10 r c
    have e : slab (n := 2) (core i x z).daS ⟨((i 1).val + 1) % 2, Nat.mod_lt _ (by decide)⟩ = k0_pay28 z.dyS x.x16 := by
      have e0 : (⟨((i 1).val + 1) % 2, Nat.mod_lt _ (by decide)⟩ : Fin 2) = ⟨1 - (i 1).val % 2, by omega⟩ := Fin.ext (by dsimp only; omega)
      rw [e0]
      exact slab_setSlab (n := 2) (a := 512) (b := 256) z.daS ⟨1 - (i 1).val % 2, by omega⟩ (k0_pay28 z.dyS x.x16)
    rw [e, pay27_apply]
    refine (pay28_real hz.col.dyS h.x16 0 r c).trans ?_
    rw [Nat.min_eq_left (by omega)]
    rfl
  · refine congr2 (pay29_real hz.col.dhS hz.col.dugS hz.col.duuS h.x17 h.x18) fun r k => ?_
    by_cases h0 : (i 1).val = 0
    · simp [h0, dhSum]
    · simp only [if_neg h0]
      obtain ⟨j', hj'⟩ : ∃ j', (i 1).val = j' + 1 := ⟨(i 1).val - 1, by omega⟩
      rw [hj', dhSum, dhSum, Finset.sum_range_succ]
      rfl
  · intro q hq
    refine slab_R3 (n := 11) (a := 8) (b := 256) (fun hne => ?_) (fun he => ?_)
    · have hne' : q.val ≠ (i 1).val := fun e => hne (Fin.ext e)
      refine congr3 (hz.tab.cg q hq) fun _ r c _ => ?_
      have : (q.val < (i 1).val) = (q.val ≤ (i 1).val) := propext (by omega)
      simp only [this]
    · subst he
      refine congr3 (pay61_real (dGate_real h rfl hd)) fun _ r c hr => ?_
      rw [if_pos le_rfl, fst, if_pos (by omega)]
  · intro q hq
    refine slab_R3 (n := 11) (a := 8) (b := 256) (fun hne => ?_) (fun he => ?_)
    · have hne' : q.val ≠ (i 1).val := fun e => hne (Fin.ext e)
      refine congr3 (hz.tab.cu q hq) fun _ r c _ => ?_
      have : (q.val < (i 1).val) = (q.val ≤ (i 1).val) := propext (by omega)
      simp only [this]
    · subst he
      refine congr3 (pay75_real (dUp_real h rfl hd)) fun _ r c hr => ?_
      rw [if_pos le_rfl, fst, if_pos (by omega)]
  · intro q hq
    refine slab_R3 (n := 11) (a := 8) (b := 256) (fun hne => ?_) (fun he => ?_)
    · have hne' : q.val ≠ (i 1).val := fun e => hne (Fin.ext e)
      refine congr3 (hz.tab.ag q hq) fun _ r c _ => ?_
      have : (q.val < (i 1).val) = (q.val ≤ (i 1).val) := propext (by omega)
      simp only [this]
    · subst he
      refine congr3 htg' fun _ r c hr => ?_
      rw [if_pos le_rfl]
  · intro q hq
    refine slab_R3 (n := 11) (a := 8) (b := 256) (fun hne => ?_) (fun he => ?_)
    · have hne' : q.val ≠ (i 1).val := fun e => hne (Fin.ext e)
      refine congr3 (hz.tab.au q hq) fun _ r c _ => ?_
      have : (q.val < (i 1).val) = (q.val ≤ (i 1).val) := propext (by omega)
      simp only [this]
    · subst he
      refine congr3 htu' fun _ r c hr => ?_
      rw [if_pos le_rfl]
  · intro c r
    exact (dGate0T_apply c r).trans (hg0 r c)
  · intro c r
    exact (dUp0T_apply c r).trans (hu0 r c)
  · show R3 (a := 1) (n := 8) (b := 256) (k0_pay65 (tabG i x (daOf i z) (slab z.ag (i 1)))) _
    rw [pay65_eq]; exact htg'
  · show R3 (a := 1) (n := 8) (b := 256) (k0_pay2 (tabU i x (daOf i z) (slab z.au (i 1)))) _
    rw [pay2_eq]; exact htu'

theorem firstBlock_tab {z : St Ideal} (hs : (i 0).val = 0) (hz : Tab P (i 0).val (fun q => q < (i 1).val ∨ (i 0).val ≠ 0) (fun q => q < (i 1).val) z) :
    Tab P (i 0).val (fun q => q ≤ (i 1).val ∨ (i 0).val ≠ 0) (fun q => q < (i 1).val) (firstBlock i z) := by
  refine ⟨?_, ?_, ?_, ?_⟩
  · intro q hq
    refine slab_R3 (n := 11) (a := 8) (b := 256) (fun hne => ?_) (fun he => ?_)
    · have hne' : q.val ≠ (i 1).val := fun e => hne (Fin.ext e)
      exact hz.cg q (by omega)
    · subst he
      refine congr3 pay23_real fun _ r c hr => ?_
      rw [if_neg (lt_irrefl _), fst, if_neg (by omega)]
  · intro q hq
    refine slab_R3 (n := 11) (a := 8) (b := 256) (fun hne => ?_) (fun he => ?_)
    · have hne' : q.val ≠ (i 1).val := fun e => hne (Fin.ext e)
      exact hz.cu q (by omega)
    · subst he
      refine congr3 pay24_real fun _ r c hr => ?_
      rw [if_neg (lt_irrefl _), fst, if_neg (by omega)]
  · intro q hq
    refine slab_R3 (n := 11) (a := 8) (b := 256) (fun hne => ?_) (fun he => ?_)
    · have hne' : q.val ≠ (i 1).val := fun e => hne (Fin.ext e)
      exact hz.ag q (by omega)
    · subst he
      refine congr3 pay25_real fun _ r c hr => ?_
      rw [if_neg (lt_irrefl _), hs, tabSum, Finset.sum_range_zero]
  · intro q hq
    refine slab_R3 (n := 11) (a := 8) (b := 256) (fun hne => ?_) (fun he => ?_)
    · have hne' : q.val ≠ (i 1).val := fun e => hne (Fin.ext e)
      exact hz.au q (by omega)
    · subst he
      refine congr3 pay26_real fun _ r c hr => ?_
      rw [if_neg (lt_irrefl _), hs, tabSum, Finset.sum_range_zero]

theorem tab_mid {s j : ℕ} {z : St Ideal} (hs : s ≠ 0) (hz : Tab P s (fun q => q < j ∨ s ≠ 0) (fun q => q < j) z) :
    Tab P s (fun q => q ≤ j ∨ s ≠ 0) (fun q => q < j) z :=
  ⟨fun q _ => hz.cg q (.inr hs), fun q _ => hz.cu q (.inr hs), fun q _ => hz.ag q (.inr hs), fun q _ => hz.au q (.inr hs)⟩

theorem firstColumn_col {z : St Ideal} (h : At P (7 - (i 0).val) (i 1).val x) (hj : (i 1).val = 0) (g : Vec Ideal S1x1024 .f32) :
    Col P (i 0).val (i 1).val (firstColumn x g z) := by
  refine ⟨pay10_real h.x0 h.x1 h.x11, ?_, ?_, ?_, ?_⟩
  · intro r c
    have e : slab (n := 2) (firstColumn x g z).daS ⟨(i 1).val % 2, Nat.mod_lt _ (by decide)⟩ = k0_pay20 (k0_pay9 x.x0 x.x1 x.x11) x.x10 := by
      have e0 : (⟨(i 1).val % 2, Nat.mod_lt _ (by decide)⟩ : Fin 2) = 0 := Fin.ext (by show (i 1).val % 2 = 0; omega)
      rw [e0]
      exact slab_setSlab (n := 2) (a := 512) (b := 256) z.daS 0 (k0_pay20 (k0_pay9 x.x0 x.x1 x.x11) x.x10)
    rw [e, pay27_apply]
    exact pay20_real (pay9_real h.x0 h.x1 h.x11) h.x10 0 r c
  · exact congr2 pay19_real fun r k => by rw [hj, dhSum, Finset.sum_range_zero]
  · exact congr2 pay21_real fun r k => by rw [if_pos hj]
  · exact congr2 pay22_real fun r k => by rw [if_pos hj]

/-- What the output blocks hold after the point. -/
structure Out (P : Params) (s j : ℕ) (z : St Ideal) : Prop where
  dug : R2 (n := 256) (b := 512) z.dug (fun c r => back P 0 (dGateR P) (512 * (7 - s) + r) (256 * j + c))
  duu : R2 (n := 256) (b := 512) z.duu (fun c r => back P 2816 (dUpR P) (512 * (7 - s) + r) (256 * j + c))
  dcg : R3 (a := 1) (n := 8) (b := 256) z.dcg (fun _ r c => tabSum P 0 (dGateR P) (s + 1) r (256 * j + c))
  dcu : R3 (a := 1) (n := 8) (b := 256) z.dcu (fun _ r c => tabSum P 2816 (dUpR P) (s + 1) r (256 * j + c))

theorem After.out {s j : ℕ} {z : St Ideal} (h : After P s j z) : Out P s j z := ⟨h.dug, h.duu, h.dcg, h.dcu⟩

theorem After.next {s j : ℕ} {z : St Ideal} (h : After P s j z) (hj : j ≠ 10) : Sc P s (j + 1) z := by
  have e : ∀ q : ℕ, (q < j + 1) = (q ≤ j) := fun q => propext Nat.lt_succ_iff
  refine ⟨fun _ => ⟨h.dyS, h.daS hj, h.dhS, congr2 h.dugS fun r c => ?_, congr2 h.duuS fun r c => ?_⟩, ⟨fun q hq => ?_, fun q hq => ?_, fun q hq => ?_, fun q hq => ?_⟩⟩
  · rw [if_neg (by omega)]; rfl
  · rw [if_neg (by omega)]; rfl
  · simp only [e] at hq ⊢; exact h.tab.cg q hq
  · simp only [e] at hq ⊢; exact h.tab.cu q hq
  · simp only [e] at hq ⊢; exact h.tab.ag q hq
  · simp only [e] at hq ⊢; exact h.tab.au q hq

theorem After.nextBlock {s : ℕ} {z : St Ideal} (h : After P s 10 z) : Sc P (s + 1) 0 z := by
  refine ⟨fun h => absurd rfl h, ⟨fun q _ => ?_, fun q _ => ?_, fun q _ => ?_, fun q _ => ?_⟩⟩
  · exact congr3 (h.tab.cg q (.inl (by omega))) fun _ r c _ => by rw [if_pos (by omega), if_neg (by omega), show 8 - (s + 1) = 7 - s by omega]
  · exact congr3 (h.tab.cu q (.inl (by omega))) fun _ r c _ => by rw [if_pos (by omega), if_neg (by omega), show 8 - (s + 1) = 7 - s by omega]
  · exact congr3 (h.tab.ag q (.inl (by omega))) fun _ r c _ => by rw [if_pos (by omega), if_neg (by omega)]
  · exact congr3 (h.tab.au q (.inl (by omega))) fun _ r c _ => by rw [if_pos (by omega), if_neg (by omega)]

theorem dh_last {s j : ℕ} (hj : j = 10) (r k : ℕ) :
    dhOf (fun r k => dhSum P (512 * (7 - s) + r) k j) (fun r c => back P 0 (dGateR P) (512 * (7 - s) + r) (256 * j + c))
      (fun r c => back P 2816 (dUpR P) (512 * (7 - s) + r) (256 * j + c)) (fun c k => P.WU k (256 * j + c)) (fun c k => P.WU k (2816 + 256 * j + c)) r k
      = dhSum P (512 * (7 - s) + r) k 11 := by
  subst hj
  rw [dhOf, dhSum, dhSum, Finset.sum_range_succ _ 10, dhTerm, add_assoc]

theorem dgfPart_real {z : St Ideal} (h : At P (7 - (i 0).val) (i 1).val x) (hz : After P (i 0).val (i 1).val z) (hj : (i 1).val = 10) :
    R2 (n := 1) (b := 1024) (dgfPart x z) (fun _ k => ∑ r : Fin 512, dhSum P (512 * (7 - (i 0).val) + r) k 11
      * (P.X (512 * (7 - (i 0).val) + r) k * rr P.X (512 * (7 - (i 0).val) + r))) := by
  refine congr2 (pay15_real hz.dhS hz.dugS hz.duuS h.x12 h.x13 h.x14) fun r k => ?_
  simp only [dh_last hj]
  rfl

theorem dx2_last {z : St Ideal} (h : At P (7 - (i 0).val) (i 1).val x) (hz : After P (i 0).val (i 1).val z) (hj : (i 1).val = 10) (g : Vec Ideal S1x1024 .f32) :
    R2 (n := 512) (b := 1024) (lastColumn x g z).dx2 (fun r k => P.DX (512 * (7 - (i 0).val) + r) k
      + rmsb (fun i k => dhSum P i k 11) P.X P.GF (512 * (7 - (i 0).val) + r) k) := by
  refine congr2 (dx2_real h.x0 hz.dhS hz.dugS hz.duuS h.x12 h.x13 h.x14 h.x15) fun r k => ?_
  have e : dhOf (fun r k => dhSum P (512 * (7 - (i 0).val) + r) k (i 1).val) (fun r c => back P 0 (dGateR P) (512 * (7 - (i 0).val) + r) (256 * (i 1).val + c))
      (fun r c => back P 2816 (dUpR P) (512 * (7 - (i 0).val) + r) (256 * (i 1).val + c)) (fun c k => P.WU k (256 * (i 1).val + c)) (fun c k => P.WU k (2816 + 256 * (i 1).val + c))
      = fun r k => dhSum P (512 * (7 - (i 0).val) + r) k 11 := funext fun r => funext fun k => dh_last hj r k
  rw [e]
  rfl

end Cert.KernelIdeal.Body

end
-- ==== Proof.Value.Blocks.lean ====
/-
  THE INPUT BLOCKS OF A GRID POINT, read off the arrays: the block's row `r` and column `k` are the array's row and column at the block's place.
-/
module

public import proofs.«01_k».proof.Proof.Body.Point
public import proofs.«01_k».proof.Proof.Value.Step
public import Idealize.ShloMosaic.Lib.Pipeline.Value

@[expose] public section

noncomputable section

namespace Cert.KernelIdeal.Body

open Cert.KernelIdeal Cert.KernelIdeal.Gen Cert.Ffn
open Idealize.ShloMosaic Idealize.ShloMosaic.TcCoe
open Idealize.ShloMosaic.Pipeline (Dat Cfg Window)

theorem coords0 : ∀ t : Fin grid0.N, ((grid0.coords t) 0).val = t.val / 11 := by decide +kernel
theorem coords1 : ∀ t : Fin grid0.N, ((grid0.coords t) 1).val = t.val % 11 := by decide +kernel

variable (m : (ℓ : Loc nD τ sig) → Buf (Elt Ideal) ℓ)

/-- What the region's input arrays hold. -/
structure Arrs (P : Params) (c : Dev nD) : Prop where
  X : R2 (n := 4096) (b := 1024) (V m c main_arg0) P.X
  DX : R2 (n := 4096) (b := 1024) (V m c main_arg7) P.DX
  CW : R2 (n := 3) (b := 5632) (V m c main_arg3) P.CW
  U : R2 (n := 4096) (b := 5632) (V m c main_v13) P.U
  Y : R2 (n := 4096) (b := 1024) (V m c main_v56) P.Y
  CB : R2 (n := 1) (b := 5632) (V m c main_v57) (fun _ c => P.CB c)
  WD : R2 (n := 2816) (b := 1024) (V m c main_v58) P.WD
  GP : R2 (n := 1) (b := 1024) (V m c main_v59) (fun _ k => P.GP k)
  WU : R2 (n := 5632) (b := 1024) (V m c main_v61) (fun c k => P.WU k c)
  GF : R2 (n := 1) (b := 1024) (V m c main_v62) (fun _ k => P.GF k)

variable {m} {P : Params}

theorem index0 : ∀ t : Fin grid0.N, win0_0.index t 0 = 7 - t.val / 11 ∧ win0_0.index t 1 = 0 := by decide +kernel
theorem index1 : ∀ t : Fin grid0.N, win0_1.index t 0 = 7 - t.val / 11 ∧ win0_1.index t 1 = 0 := by decide +kernel
theorem index2 : ∀ t : Fin grid0.N, win0_2.index t 0 = 7 - t.val / 11 ∧ win0_2.index t 1 = t.val % 11 := by decide +kernel
theorem index3 : ∀ t : Fin grid0.N, win0_3.index t 0 = 7 - t.val / 11 ∧ win0_3.index t 1 = 11 + t.val % 11 := by decide +kernel
theorem index4 : ∀ t : Fin grid0.N, win0_4.index t 0 = 64 * (7 - t.val / 11) - 1 ∧ win0_4.index t 1 = t.val % 11 := by decide +kernel
theorem index5 : ∀ t : Fin grid0.N, win0_5.index t 0 = 64 * (7 - t.val / 11) - 1 ∧ win0_5.index t 1 = 11 + t.val % 11 := by decide +kernel
theorem index6 : ∀ t : Fin grid0.N, win0_6.index t 0 = 0 ∧ win0_6.index t 1 = t.val % 11 := by decide +kernel
theorem index7 : ∀ t : Fin grid0.N, win0_7.index t 0 = 0 ∧ win0_7.index t 1 = 11 + t.val % 11 := by decide +kernel
theorem index8 : ∀ t : Fin grid0.N, win0_8.index t 0 = 0 ∧ win0_8.index t 1 = t.val % 11 := by decide +kernel
theorem index9 : ∀ t : Fin grid0.N, win0_9.index t 0 = 0 ∧ win0_9.index t 1 = 11 + t.val % 11 := by decide +kernel
theorem index10 : ∀ t : Fin grid0.N, win0_10.index t 0 = t.val % 11 ∧ win0_10.index t 1 = 0 := by decide +kernel
theorem index11 : ∀ t : Fin grid0.N, win0_11.index t 0 = 0 ∧ win0_11.index t 1 = 0 := by decide +kernel
theorem index12 : ∀ t : Fin grid0.N, win0_12.index t 0 = t.val % 11 ∧ win0_12.index t 1 = 0 := by decide +kernel
theorem index13 : ∀ t : Fin grid0.N, win0_13.index t 0 = 11 + t.val % 11 ∧ win0_13.index t 1 = 0 := by decide +kernel
theorem index14 : ∀ t : Fin grid0.N, win0_14.index t 0 = 7 - t.val / 11 ∧ win0_14.index t 1 = 0 := by decide +kernel
theorem index15 : ∀ t : Fin grid0.N, win0_15.index t 0 = 0 ∧ win0_15.index t 1 = 0 := by decide +kernel
theorem index16 : ∀ t : Fin grid0.N, win0_16.index t 0 = min (t.val % 11 + 1) 10 ∧ win0_16.index t 1 = 0 := by decide +kernel
theorem index17 : ∀ t : Fin grid0.N, win0_17.index t 0 = t.val % 11 - 1 ∧ win0_17.index t 1 = 0 := by decide +kernel
theorem index18 : ∀ t : Fin grid0.N, win0_18.index t 0 = 11 + (t.val % 11 - 1) ∧ win0_18.index t 1 = 0 := by decide +kernel

theorem read0 {c : Dev nD} (h : Arrs m P c) (t : Fin cfg0.N) (r : Fin 512) (k : Fin 1024) (R : Fin 4096) (K : Fin 1024)
    (hr : R.val = 512 * (7 - t.val / 11) + r.val) (hk : K.val = k.val) : iblk m c 0 t (ix2 r k) = V m c main_arg7 (ix2 R K) := by
  have ht : t.val < 88 := t.isLt
  unfold iblk
  rw [View.read_apply, cast_eq]
  show V m c main_arg7 _ = _
  refine congrArg (V m c main_arg7) (funext fun a => Fin.ext ?_)
  match a with
  | ⟨0, _⟩ => show win0_0.index t 0 * 512 + 1 * r.val = R.val; rw [(index0 t).1, hr]; omega
  | ⟨1, _⟩ => show win0_0.index t 1 * 1024 + 1 * k.val = K.val; rw [(index0 t).2, hk]; omega

theorem read1 {c : Dev nD} (h : Arrs m P c) (t : Fin cfg0.N) (r : Fin 512) (k : Fin 1024) (R : Fin 4096) (K : Fin 1024)
    (hr : R.val = 512 * (7 - t.val / 11) + r.val) (hk : K.val = k.val) : iblk m c 1 t (ix2 r k) = V m c main_v56 (ix2 R K) := by
  have ht : t.val < 88 := t.isLt
  unfold iblk
  rw [View.read_apply, cast_eq]
  show V m c main_v56 _ = _
  refine congrArg (V m c main_v56) (funext fun a => Fin.ext ?_)
  match a with
  | ⟨0, _⟩ => show win0_1.index t 0 * 512 + 1 * r.val = R.val; rw [(index1 t).1, hr]; omega
  | ⟨1, _⟩ => show win0_1.index t 1 * 1024 + 1 * k.val = K.val; rw [(index1 t).2, hk]; omega

theorem read2 {c : Dev nD} (h : Arrs m P c) (t : Fin cfg0.N) (r : Fin 512) (k : Fin 256) (R : Fin 4096) (K : Fin 5632)
    (hr : R.val = 512 * (7 - t.val / 11) + r.val) (hk : K.val = 256 * (t.val % 11) + k.val) : iblk m c 2 t (ix2 r k) = V m c main_v13 (ix2 R K) := by
  have ht : t.val < 88 := t.isLt
  unfold iblk
  rw [View.read_apply, cast_eq]
  show V m c main_v13 _ = _
  refine congrArg (V m c main_v13) (funext fun a => Fin.ext ?_)
  match a with
  | ⟨0, _⟩ => show win0_2.index t 0 * 512 + 1 * r.val = R.val; rw [(index2 t).1, hr]; omega
  | ⟨1, _⟩ => show win0_2.index t 1 * 256 + 1 * k.val = K.val; rw [(index2 t).2, hk]; omega

theorem read3 {c : Dev nD} (h : Arrs m P c) (t : Fin cfg0.N) (r : Fin 512) (k : Fin 256) (R : Fin 4096) (K : Fin 5632)
    (hr : R.val = 512 * (7 - t.val / 11) + r.val) (hk : K.val = 2816 + 256 * (t.val % 11) + k.val) : iblk m c 3 t (ix2 r k) = V m c main_v13 (ix2 R K) := by
  have ht : t.val < 88 := t.isLt
  unfold iblk
  rw [View.read_apply, cast_eq]
  show V m c main_v13 _ = _
  refine congrArg (V m c main_v13) (funext fun a => Fin.ext ?_)
  match a with
  | ⟨0, _⟩ => show win0_3.index t 0 * 512 + 1 * r.val = R.val; rw [(index3 t).1, hr]; omega
  | ⟨1, _⟩ => show win0_3.index t 1 * 256 + 1 * k.val = K.val; rw [(index3 t).2, hk]; omega

theorem read4 {c : Dev nD} (h : Arrs m P c) (t : Fin cfg0.N) (hb : 7 - t.val / 11 ≠ 0) (r : Fin 8) (k : Fin 256) (R : Fin 4096) (K : Fin 5632)
    (hr : R.val = 512 * (7 - t.val / 11) - 8 + r.val) (hk : K.val = 256 * (t.val % 11) + k.val) : iblk m c 4 t (ix2 r k) = V m c main_v13 (ix2 R K) := by
  have ht : t.val < 88 := t.isLt
  unfold iblk
  rw [View.read_apply, cast_eq]
  show V m c main_v13 _ = _
  refine congrArg (V m c main_v13) (funext fun a => Fin.ext ?_)
  match a with
  | ⟨0, _⟩ => show win0_4.index t 0 * 8 + 1 * r.val = R.val; rw [(index4 t).1, hr]; omega
  | ⟨1, _⟩ => show win0_4.index t 1 * 256 + 1 * k.val = K.val; rw [(index4 t).2, hk]; omega

theorem read5 {c : Dev nD} (h : Arrs m P c) (t : Fin cfg0.N) (hb : 7 - t.val / 11 ≠ 0) (r : Fin 8) (k : Fin 256) (R : Fin 4096) (K : Fin 5632)
    (hr : R.val = 512 * (7 - t.val / 11) - 8 + r.val) (hk : K.val = 2816 + 256 * (t.val % 11) + k.val) : iblk m c 5 t (ix2 r k) = V m c main_v13 (ix2 R K) := by
  have ht : t.val < 88 := t.isLt
  unfold iblk
  rw [View.read_apply, cast_eq]
  show V m c main_v13 _ = _
  refine congrArg (V m c main_v13) (funext fun a => Fin.ext ?_)
  match a with
  | ⟨0, _⟩ => show win0_5.index t 0 * 8 + 1 * r.val = R.val; rw [(index5 t).1, hr]; omega
  | ⟨1, _⟩ => show win0_5.index t 1 * 256 + 1 * k.val = K.val; rw [(index5 t).2, hk]; omega

theorem read6 {c : Dev nD} (h : Arrs m P c) (t : Fin cfg0.N) (r : Fin 3) (k : Fin 256) (R : Fin 3) (K : Fin 5632)
    (hr : R.val = r.val) (hk : K.val = 256 * (t.val % 11) + k.val) : iblk m c 6 t (ix2 r k) = V m c main_arg3 (ix2 R K) := by
  have ht : t.val < 88 := t.isLt
  unfold iblk
  rw [View.read_apply, cast_eq]
  show V m c main_arg3 _ = _
  refine congrArg (V m c main_arg3) (funext fun a => Fin.ext ?_)
  match a with
  | ⟨0, _⟩ => show win0_6.index t 0 * 3 + 1 * r.val = R.val; rw [(index6 t).1, hr]; omega
  | ⟨1, _⟩ => show win0_6.index t 1 * 256 + 1 * k.val = K.val; rw [(index6 t).2, hk]; omega

theorem read7 {c : Dev nD} (h : Arrs m P c) (t : Fin cfg0.N) (r : Fin 3) (k : Fin 256) (R : Fin 3) (K : Fin 5632)
    (hr : R.val = r.val) (hk : K.val = 2816 + 256 * (t.val % 11) + k.val) : iblk m c 7 t (ix2 r k) = V m c main_arg3 (ix2 R K) := by
  have ht : t.val < 88 := t.isLt
  unfold iblk
  rw [View.read_apply, cast_eq]
  show V m c main_arg3 _ = _
  refine congrArg (V m c main_arg3) (funext fun a => Fin.ext ?_)
  match a with
  | ⟨0, _⟩ => show win0_7.index t 0 * 3 + 1 * r.val = R.val; rw [(index7 t).1, hr]; omega
  | ⟨1, _⟩ => show win0_7.index t 1 * 256 + 1 * k.val = K.val; rw [(index7 t).2, hk]; omega

theorem read8 {c : Dev nD} (h : Arrs m P c) (t : Fin cfg0.N) (r : Fin 1) (k : Fin 256) (R : Fin 1) (K : Fin 5632)
    (hr : R.val = r.val) (hk : K.val = 256 * (t.val % 11) + k.val) : iblk m c 8 t (ix2 r k) = V m c main_v57 (ix2 R K) := by
  have ht : t.val < 88 := t.isLt
  unfold iblk
  rw [View.read_apply, cast_eq]
  show V m c main_v57 _ = _
  refine congrArg (V m c main_v57) (funext fun a => Fin.ext ?_)
  match a with
  | ⟨0, _⟩ => show win0_8.index t 0 * 1 + 1 * r.val = R.val; rw [(index8 t).1, hr]; omega
  | ⟨1, _⟩ => show win0_8.index t 1 * 256 + 1 * k.val = K.val; rw [(index8 t).2, hk]; omega

theorem read9 {c : Dev nD} (h : Arrs m P c) (t : Fin cfg0.N) (r : Fin 1) (k : Fin 256) (R : Fin 1) (K : Fin 5632)
    (hr : R.val = r.val) (hk : K.val = 2816 + 256 * (t.val % 11) + k.val) : iblk m c 9 t (ix2 r k) = V m c main_v57 (ix2 R K) := by
  have ht : t.val < 88 := t.isLt
  unfold iblk
  rw [View.read_apply, cast_eq]
  show V m c main_v57 _ = _
  refine congrArg (V m c main_v57) (funext fun a => Fin.ext ?_)
  match a with
  | ⟨0, _⟩ => show win0_9.index t 0 * 1 + 1 * r.val = R.val; rw [(index9 t).1, hr]; omega
  | ⟨1, _⟩ => show win0_9.index t 1 * 256 + 1 * k.val = K.val; rw [(index9 t).2, hk]; omega

theorem read10 {c : Dev nD} (h : Arrs m P c) (t : Fin cfg0.N) (r : Fin 256) (k : Fin 1024) (R : Fin 2816) (K : Fin 1024)
    (hr : R.val = 256 * (t.val % 11) + r.val) (hk : K.val = k.val) : iblk m c 10 t (ix2 r k) = V m c main_v58 (ix2 R K) := by
  have ht : t.val < 88 := t.isLt
  unfold iblk
  rw [View.read_apply, cast_eq]
  show V m c main_v58 _ = _
  refine congrArg (V m c main_v58) (funext fun a => Fin.ext ?_)
  match a with
  | ⟨0, _⟩ => show win0_10.index t 0 * 256 + 1 * r.val = R.val; rw [(index10 t).1, hr]; omega
  | ⟨1, _⟩ => show win0_10.index t 1 * 1024 + 1 * k.val = K.val; rw [(index10 t).2, hk]; omega

theorem read11 {c : Dev nD} (h : Arrs m P c) (t : Fin cfg0.N) (r : Fin 1) (k : Fin 1024) (R : Fin 1) (K : Fin 1024)
    (hr : R.val = r.val) (hk : K.val = k.val) : iblk m c 11 t (ix2 r k) = V m c main_v59 (ix2 R K) := by
  have ht : t.val < 88 := t.isLt
  unfold iblk
  rw [View.read_apply, cast_eq]
  show V m c main_v59 _ = _
  refine congrArg (V m c main_v59) (funext fun a => Fin.ext ?_)
  match a with
  | ⟨0, _⟩ => show win0_11.index t 0 * 1 + 1 * r.val = R.val; rw [(index11 t).1, hr]; omega
  | ⟨1, _⟩ => show win0_11.index t 1 * 1024 + 1 * k.val = K.val; rw [(index11 t).2, hk]; omega

theorem read12 {c : Dev nD} (h : Arrs m P c) (t : Fin cfg0.N) (r : Fin 256) (k : Fin 1024) (R : Fin 5632) (K : Fin 1024)
    (hr : R.val = 256 * (t.val % 11) + r.val) (hk : K.val = k.val) : iblk m c 12 t (ix2 r k) = V m c main_v61 (ix2 R K) := by
  have ht : t.val < 88 := t.isLt
  unfold iblk
  rw [View.read_apply, cast_eq]
  show V m c main_v61 _ = _
  refine congrArg (V m c main_v61) (funext fun a => Fin.ext ?_)
  match a with
  | ⟨0, _⟩ => show win0_12.index t 0 * 256 + 1 * r.val = R.val; rw [(index12 t).1, hr]; omega
  | ⟨1, _⟩ => show win0_12.index t 1 * 1024 + 1 * k.val = K.val; rw [(index12 t).2, hk]; omega

theorem read13 {c : Dev nD} (h : Arrs m P c) (t : Fin cfg0.N) (r : Fin 256) (k : Fin 1024) (R : Fin 5632) (K : Fin 1024)
    (hr : R.val = 2816 + 256 * (t.val % 11) + r.val) (hk : K.val = k.val) : iblk m c 13 t (ix2 r k) = V m c main_v61 (ix2 R K) := by
  have ht : t.val < 88 := t.isLt
  unfold iblk
  rw [View.read_apply, cast_eq]
  show V m c main_v61 _ = _
  refine congrArg (V m c main_v61) (funext fun a => Fin.ext ?_)
  match a with
  | ⟨0, _⟩ => show win0_13.index t 0 * 256 + 1 * r.val = R.val; rw [(index13 t).1, hr]; omega
  | ⟨1, _⟩ => show win0_13.index t 1 * 1024 + 1 * k.val = K.val; rw [(index13 t).2, hk]; omega

theorem read14 {c : Dev nD} (h : Arrs m P c) (t : Fin cfg0.N) (r : Fin 512) (k : Fin 1024) (R : Fin 4096) (K : Fin 1024)
    (hr : R.val = 512 * (7 - t.val / 11) + r.val) (hk : K.val = k.val) : iblk m c 14 t (ix2 r k) = V m c main_arg0 (ix2 R K) := by
  have ht : t.val < 88 := t.isLt
  unfold iblk
  rw [View.read_apply, cast_eq]
  show V m c main_arg0 _ = _
  refine congrArg (V m c main_arg0) (funext fun a => Fin.ext ?_)
  match a with
  | ⟨0, _⟩ => show win0_14.index t 0 * 512 + 1 * r.val = R.val; rw [(index14 t).1, hr]; omega
  | ⟨1, _⟩ => show win0_14.index t 1 * 1024 + 1 * k.val = K.val; rw [(index14 t).2, hk]; omega

theorem read15 {c : Dev nD} (h : Arrs m P c) (t : Fin cfg0.N) (r : Fin 1) (k : Fin 1024) (R : Fin 1) (K : Fin 1024)
    (hr : R.val = r.val) (hk : K.val = k.val) : iblk m c 15 t (ix2 r k) = V m c main_v62 (ix2 R K) := by
  have ht : t.val < 88 := t.isLt
  unfold iblk
  rw [View.read_apply, cast_eq]
  show V m c main_v62 _ = _
  refine congrArg (V m c main_v62) (funext fun a => Fin.ext ?_)
  match a with
  | ⟨0, _⟩ => show win0_15.index t 0 * 1 + 1 * r.val = R.val; rw [(index15 t).1, hr]; omega
  | ⟨1, _⟩ => show win0_15.index t 1 * 1024 + 1 * k.val = K.val; rw [(index15 t).2, hk]; omega

theorem read16 {c : Dev nD} (h : Arrs m P c) (t : Fin cfg0.N) (r : Fin 256) (k : Fin 1024) (R : Fin 2816) (K : Fin 1024)
    (hr : R.val = 256 * min (t.val % 11 + 1) 10 + r.val) (hk : K.val = k.val) : iblk m c 16 t (ix2 r k) = V m c main_v58 (ix2 R K) := by
  have ht : t.val < 88 := t.isLt
  unfold iblk
  rw [View.read_apply, cast_eq]
  show V m c main_v58 _ = _
  refine congrArg (V m c main_v58) (funext fun a => Fin.ext ?_)
  match a with
  | ⟨0, _⟩ => show win0_16.index t 0 * 256 + 1 * r.val = R.val; rw [(index16 t).1, hr]; omega
  | ⟨1, _⟩ => show win0_16.index t 1 * 1024 + 1 * k.val = K.val; rw [(index16 t).2, hk]; omega

theorem read17 {c : Dev nD} (h : Arrs m P c) (t : Fin cfg0.N) (r : Fin 256) (k : Fin 1024) (R : Fin 5632) (K : Fin 1024)
    (hr : R.val = 256 * (t.val % 11 - 1) + r.val) (hk : K.val = k.val) : iblk m c 17 t (ix2 r k) = V m c main_v61 (ix2 R K) := by
  have ht : t.val < 88 := t.isLt
  unfold iblk
  rw [View.read_apply, cast_eq]
  show V m c main_v61 _ = _
  refine congrArg (V m c main_v61) (funext fun a => Fin.ext ?_)
  match a with
  | ⟨0, _⟩ => show win0_17.index t 0 * 256 + 1 * r.val = R.val; rw [(index17 t).1, hr]; omega
  | ⟨1, _⟩ => show win0_17.index t 1 * 1024 + 1 * k.val = K.val; rw [(index17 t).2, hk]; omega

theorem read18 {c : Dev nD} (h : Arrs m P c) (t : Fin cfg0.N) (r : Fin 256) (k : Fin 1024) (R : Fin 5632) (K : Fin 1024)
    (hr : R.val = 2816 + 256 * (t.val % 11 - 1) + r.val) (hk : K.val = k.val) : iblk m c 18 t (ix2 r k) = V m c main_v61 (ix2 R K) := by
  have ht : t.val < 88 := t.isLt
  unfold iblk
  rw [View.read_apply, cast_eq]
  show V m c main_v61 _ = _
  refine congrArg (V m c main_v61) (funext fun a => Fin.ext ?_)
  match a with
  | ⟨0, _⟩ => show win0_18.index t 0 * 256 + 1 * r.val = R.val; rw [(index18 t).1, hr]; omega
  | ⟨1, _⟩ => show win0_18.index t 1 * 1024 + 1 * k.val = K.val; rw [(index18 t).2, hk]; omega

set_option maxHeartbeats 4000000 in
/-- The point's blocks, as the real numbers of the arrays. -/
theorem at_inAt {c : Dev nD} (h : Arrs m P c) (t : Fin cfg0.N) : At P (7 - t.val / 11) (t.val % 11) (inAt m c t) := by
  have ht : t.val < 88 := t.isLt
  constructor
  · intro r k
    exact (read0 h t r k ⟨512 * (7 - t.val / 11) + r.val, by omega⟩ ⟨k.val, by omega⟩ rfl rfl).trans (h.DX _ _)
  · intro r k
    exact (read1 h t r k ⟨512 * (7 - t.val / 11) + r.val, by omega⟩ ⟨k.val, by omega⟩ rfl rfl).trans (h.Y _ _)
  · intro r k
    exact (read2 h t r k ⟨512 * (7 - t.val / 11) + r.val, by omega⟩ ⟨256 * (t.val % 11) + k.val, by omega⟩ rfl rfl).trans (h.U _ _)
  · intro r k
    exact (read3 h t r k ⟨512 * (7 - t.val / 11) + r.val, by omega⟩ ⟨2816 + 256 * (t.val % 11) + k.val, by omega⟩ rfl rfl).trans (h.U _ _)
  · intro hb r k
    exact (read4 h t hb r k ⟨512 * (7 - t.val / 11) - 8 + r.val, by omega⟩ ⟨256 * (t.val % 11) + k.val, by omega⟩ rfl rfl).trans (h.U _ _)
  · intro hb r k
    exact (read5 h t hb r k ⟨512 * (7 - t.val / 11) - 8 + r.val, by omega⟩ ⟨2816 + 256 * (t.val % 11) + k.val, by omega⟩ rfl rfl).trans (h.U _ _)
  · intro r k
    exact (read6 h t r k ⟨r.val, by omega⟩ ⟨256 * (t.val % 11) + k.val, by omega⟩ rfl rfl).trans (h.CW _ _)
  · intro r k
    exact (read7 h t r k ⟨r.val, by omega⟩ ⟨2816 + 256 * (t.val % 11) + k.val, by omega⟩ rfl rfl).trans (h.CW _ _)
  · intro r k
    exact (read8 h t r k ⟨r.val, by omega⟩ ⟨256 * (t.val % 11) + k.val, by omega⟩ rfl rfl).trans (h.CB _ _)
  · intro r k
    exact (read9 h t r k ⟨r.val, by omega⟩ ⟨2816 + 256 * (t.val % 11) + k.val, by omega⟩ rfl rfl).trans (h.CB _ _)
  · intro r k
    exact (read10 h t r k ⟨256 * (t.val % 11) + r.val, by omega⟩ ⟨k.val, by omega⟩ rfl rfl).trans (h.WD _ _)
  · intro r k
    exact (read11 h t r k ⟨r.val, by omega⟩ ⟨k.val, by omega⟩ rfl rfl).trans (h.GP _ _)
  · intro r k
    exact (read12 h t r k ⟨256 * (t.val % 11) + r.val, by omega⟩ ⟨k.val, by omega⟩ rfl rfl).trans (h.WU _ _)
  · intro r k
    exact (read13 h t r k ⟨2816 + 256 * (t.val % 11) + r.val, by omega⟩ ⟨k.val, by omega⟩ rfl rfl).trans (h.WU _ _)
  · intro r k
    exact (read14 h t r k ⟨512 * (7 - t.val / 11) + r.val, by omega⟩ ⟨k.val, by omega⟩ rfl rfl).trans (h.X _ _)
  · intro r k
    exact (read15 h t r k ⟨r.val, by omega⟩ ⟨k.val, by omega⟩ rfl rfl).trans (h.GF _ _)
  · intro r k
    exact (read16 h t r k ⟨256 * min (t.val % 11 + 1) 10 + r.val, by omega⟩ ⟨k.val, by omega⟩ rfl rfl).trans (h.WD _ _)
  · intro r k
    exact (read17 h t r k ⟨256 * (t.val % 11 - 1) + r.val, by omega⟩ ⟨k.val, by omega⟩ rfl rfl).trans (h.WU _ _)
  · intro r k
    exact (read18 h t r k ⟨2816 + 256 * (t.val % 11 - 1) + r.val, by omega⟩ ⟨k.val, by omega⟩ rfl rfl).trans (h.WU _ _)

end Cert.KernelIdeal.Body

end
-- ==== Proof.Value.Arrays.lean ====
/-
  THE OUTPUT ARRAYS AFTER THE RUN, element by element: every element lies in the block of a point that writes back, and holds what that
  point left there.
-/
module

public import proofs.«01_k».proof.Proof.Value.Blocks

@[expose] public section

noncomputable section

namespace Cert.KernelIdeal.Body

open Cert.KernelIdeal Cert.KernelIdeal.Gen Cert.Ffn
open Idealize.ShloMosaic Idealize.ShloMosaic.TcCoe Idealize.SL Idealize.SL.RA
open Idealize.ShloMosaic.Pipeline (Dat Cfg Window)

theorem index19 : ∀ t : Fin grid0.N, win0_19.index t 0 = 7 - t.val / 11 ∧ win0_19.index t 1 = 0 := by decide +kernel
theorem index20 : ∀ t : Fin grid0.N, win0_20.index t 0 = t.val % 11 ∧ win0_20.index t 1 = 7 - t.val / 11 := by decide +kernel
theorem index21 : ∀ t : Fin grid0.N, win0_21.index t 0 = t.val % 11 ∧ win0_21.index t 1 = 7 - t.val / 11 := by decide +kernel
theorem index22 : ∀ t : Fin grid0.N, win0_22.index t 0 = t.val / 11 ∧ win0_22.index t 1 = 0 ∧ win0_22.index t 2 = t.val % 11 := by decide +kernel
theorem index23 : ∀ t : Fin grid0.N, win0_23.index t 0 = t.val / 11 ∧ win0_23.index t 1 = 0 ∧ win0_23.index t 2 = t.val % 11 := by decide +kernel
theorem index24 : ∀ t : Fin grid0.N, win0_24.index t 0 = 0 ∧ win0_24.index t 1 = 0 := by decide +kernel
theorem index25 : ∀ t : Fin grid0.N, win0_25.index t 0 = 7 - t.val / 11 ∧ win0_25.index t 1 = 0 := by decide +kernel
theorem index26 : ∀ t : Fin grid0.N, win0_26.index t 0 = 0 ∧ win0_26.index t 1 = 0 := by decide +kernel

variable {Ix : Type} [DecidableEq Ix] {Name : Type} [DecidableEq Name] {M : Type} [URA M] {Lvl : Type} {c : Dev nD}
  (dat : Dat τ (Elt Ideal) Ix Name M Lvl cfg0 c)

theorem arr19 (f : ℕ → ℕ → ℝ) (hL : ∀ t : Fin cfg0.N, (cfg0.win 19).flush t = true → R2 (n := 512) (b := 1024) (dat.after 19 t) (fun r k => f (512 * (7 - t.val / 11) + r) k))
    (i : (⟨2, ![4096, 1024]⟩ : Shape).Idx) : dat.arrAt 19 cfg0.N i = ((f (i 0).val (i 1).val : ℝ) : EReal) := by
  refine dat.arrAt_forall_of_covers 19 (fun i v => v = ((f (i 0).val (i 1).val : ℝ) : EReal)) (by decide +kernel) (fun t hf y => ?_) i
  rw [cast_eq]
  have b0 : (y 0).val < 512 := (y 0).isLt
  have b1 : (y 1).val < 1024 := (y 1).isLt
  have e0 : ((((cfg0.win 19).blk t).view.emb y) 0).val = (512 * (7 - t.val / 11) + (y 0).val) := by
    show win0_19.index t 0 * 512 + 1 * (y 0).val = _
    rw [(index19 t).1]; omega
  have e1 : ((((cfg0.win 19).blk t).view.emb y) 1).val = (y 1).val := by
    show win0_19.index t 1 * 1024 + 1 * (y 1).val = _
    rw [(index19 t).2]; omega
  have e := hL t hf ⟨(y 0).val, b0⟩ ⟨(y 1).val, b1⟩
  refine (congrArg (dat.after 19 t) (funext fun a => Fin.ext ?_)).trans (e.trans ?_)
  · match a with
    | ⟨0, _⟩ => rfl
    | ⟨1, _⟩ => rfl
  · show ((f (512 * (7 - t.val / 11) + (y 0).val) (y 1).val : ℝ) : EReal) = ((f ((((cfg0.win 19).blk t).view.emb y) 0).val ((((cfg0.win 19).blk t).view.emb y) 1).val : ℝ) : EReal)
    rw [e0, e1]

theorem arr20 (f : ℕ → ℕ → ℝ) (hL : ∀ t : Fin cfg0.N, (cfg0.win 20).flush t = true → R2 (n := 256) (b := 512) (dat.after 20 t) (fun r k => f (256 * (t.val % 11) + r) (512 * (7 - t.val / 11) + k)))
    (i : (⟨2, ![2816, 4096]⟩ : Shape).Idx) : dat.arrAt 20 cfg0.N i = ((f (i 0).val (i 1).val : ℝ) : EReal) := by
  refine dat.arrAt_forall_of_covers 20 (fun i v => v = ((f (i 0).val (i 1).val : ℝ) : EReal)) (by decide +kernel) (fun t hf y => ?_) i
  rw [cast_eq]
  have b0 : (y 0).val < 256 := (y 0).isLt
  have b1 : (y 1).val < 512 := (y 1).isLt
  have e0 : ((((cfg0.win 20).blk t).view.emb y) 0).val = (256 * (t.val % 11) + (y 0).val) := by
    show win0_20.index t 0 * 256 + 1 * (y 0).val = _
    rw [(index20 t).1]; omega
  have e1 : ((((cfg0.win 20).blk t).view.emb y) 1).val = (512 * (7 - t.val / 11) + (y 1).val) := by
    show win0_20.index t 1 * 512 + 1 * (y 1).val = _
    rw [(index20 t).2]; omega
  have e := hL t hf ⟨(y 0).val, b0⟩ ⟨(y 1).val, b1⟩
  refine (congrArg (dat.after 20 t) (funext fun a => Fin.ext ?_)).trans (e.trans ?_)
  · match a with
    | ⟨0, _⟩ => rfl
    | ⟨1, _⟩ => rfl
  · show ((f (256 * (t.val % 11) + (y 0).val) (512 * (7 - t.val / 11) + (y 1).val) : ℝ) : EReal) = ((f ((((cfg0.win 20).blk t).view.emb y) 0).val ((((cfg0.win 20).blk t).view.emb y) 1).val : ℝ) : EReal)
    rw [e0, e1]

theorem arr21 (f : ℕ → ℕ → ℝ) (hL : ∀ t : Fin cfg0.N, (cfg0.win 21).flush t = true → R2 (n := 256) (b := 512) (dat.after 21 t) (fun r k => f (256 * (t.val % 11) + r) (512 * (7 - t.val / 11) + k)))
    (i : (⟨2, ![2816, 4096]⟩ : Shape).Idx) : dat.arrAt 21 cfg0.N i = ((f (i 0).val (i 1).val : ℝ) : EReal) := by
  refine dat.arrAt_forall_of_covers 21 (fun i v => v = ((f (i 0).val (i 1).val : ℝ) : EReal)) (by decide +kernel) (fun t hf y => ?_) i
  rw [cast_eq]
  have b0 : (y 0).val < 256 := (y 0).isLt
  have b1 : (y 1).val < 512 := (y 1).isLt
  have e0 : ((((cfg0.win 21).blk t).view.emb y) 0).val = (256 * (t.val % 11) + (y 0).val) := by
    show win0_21.index t 0 * 256 + 1 * (y 0).val = _
    rw [(index21 t).1]; omega
  have e1 : ((((cfg0.win 21).blk t).view.emb y) 1).val = (512 * (7 - t.val / 11) + (y 1).val) := by
    show win0_21.index t 1 * 512 + 1 * (y 1).val = _
    rw [(index21 t).2]; omega
  have e := hL t hf ⟨(y 0).val, b0⟩ ⟨(y 1).val, b1⟩
  refine (congrArg (dat.after 21 t) (funext fun a => Fin.ext ?_)).trans (e.trans ?_)
  · match a with
    | ⟨0, _⟩ => rfl
    | ⟨1, _⟩ => rfl
  · show ((f (256 * (t.val % 11) + (y 0).val) (512 * (7 - t.val / 11) + (y 1).val) : ℝ) : EReal) = ((f ((((cfg0.win 21).blk t).view.emb y) 0).val ((((cfg0.win 21).blk t).view.emb y) 1).val : ℝ) : EReal)
    rw [e0, e1]

theorem arr22 (f : ℕ → ℕ → ℕ → ℝ) (hL : ∀ t : Fin cfg0.N, (cfg0.win 22).flush t = true → R3 (a := 1) (n := 8) (b := 256) (dat.after 22 t) (fun _ r k => f (t.val / 11) r (256 * (t.val % 11) + k)))
    (i : (⟨3, ![8, 8, 2816]⟩ : Shape).Idx) : dat.arrAt 22 cfg0.N i = ((f (i 0).val (i 1).val (i 2).val : ℝ) : EReal) := by
  refine dat.arrAt_forall_of_covers 22 (fun i v => v = ((f (i 0).val (i 1).val (i 2).val : ℝ) : EReal)) (by decide +kernel) (fun t hf y => ?_) i
  rw [cast_eq]
  have b0 : (y 0).val < 1 := (y 0).isLt
  have b1 : (y 1).val < 8 := (y 1).isLt
  have b2 : (y 2).val < 256 := (y 2).isLt
  have e0 : ((((cfg0.win 22).blk t).view.emb y) 0).val = (t.val / 11) := by
    show win0_22.index t 0 * 1 + 1 * (y 0).val = _
    rw [(index22 t).1]; omega
  have e1 : ((((cfg0.win 22).blk t).view.emb y) 1).val = (y 1).val := by
    show win0_22.index t 1 * 8 + 1 * (y 1).val = _
    rw [(index22 t).2.1]; omega
  have e2 : ((((cfg0.win 22).blk t).view.emb y) 2).val = (256 * (t.val % 11) + (y 2).val) := by
    show win0_22.index t 2 * 256 + 1 * (y 2).val = _
    rw [(index22 t).2.2]; omega
  have e := hL t hf ⟨(y 0).val, b0⟩ ⟨(y 1).val, b1⟩ ⟨(y 2).val, b2⟩
  refine (congrArg (dat.after 22 t) (funext fun a => Fin.ext ?_)).trans (e.trans ?_)
  · match a with
    | ⟨0, _⟩ => rfl
    | ⟨1, _⟩ => rfl
    | ⟨2, _⟩ => rfl
  · show ((f (t.val / 11) (y 1).val (256 * (t.val % 11) + (y 2).val) : ℝ) : EReal) = ((f ((((cfg0.win 22).blk t).view.emb y) 0).val ((((cfg0.win 22).blk t).view.emb y) 1).val ((((cfg0.win 22).blk t).view.emb y) 2).val : ℝ) : EReal)
    rw [e0, e1, e2]

theorem arr23 (f : ℕ → ℕ → ℕ → ℝ) (hL : ∀ t : Fin cfg0.N, (cfg0.win 23).flush t = true → R3 (a := 1) (n := 8) (b := 256) (dat.after 23 t) (fun _ r k => f (t.val / 11) r (256 * (t.val % 11) + k)))
    (i : (⟨3, ![8, 8, 2816]⟩ : Shape).Idx) : dat.arrAt 23 cfg0.N i = ((f (i 0).val (i 1).val (i 2).val : ℝ) : EReal) := by
  refine dat.arrAt_forall_of_covers 23 (fun i v => v = ((f (i 0).val (i 1).val (i 2).val : ℝ) : EReal)) (by decide +kernel) (fun t hf y => ?_) i
  rw [cast_eq]
  have b0 : (y 0).val < 1 := (y 0).isLt
  have b1 : (y 1).val < 8 := (y 1).isLt
  have b2 : (y 2).val < 256 := (y 2).isLt
  have e0 : ((((cfg0.win 23).blk t).view.emb y) 0).val = (t.val / 11) := by
    show win0_23.index t 0 * 1 + 1 * (y 0).val = _
    rw [(index23 t).1]; omega
  have e1 : ((((cfg0.win 23).blk t).view.emb y) 1).val = (y 1).val := by
    show win0_23.index t 1 * 8 + 1 * (y 1).val = _
    rw [(index23 t).2.1]; omega
  have e2 : ((((cfg0.win 23).blk t).view.emb y) 2).val = (256 * (t.val % 11) + (y 2).val) := by
    show win0_23.index t 2 * 256 + 1 * (y 2).val = _
    rw [(index23 t).2.2]; omega
  have e := hL t hf ⟨(y 0).val, b0⟩ ⟨(y 1).val, b1⟩ ⟨(y 2).val, b2⟩
  refine (congrArg (dat.after 23 t) (funext fun a => Fin.ext ?_)).trans (e.trans ?_)
  · match a with
    | ⟨0, _⟩ => rfl
    | ⟨1, _⟩ => rfl
    | ⟨2, _⟩ => rfl
  · show ((f (t.val / 11) (y 1).val (256 * (t.val % 11) + (y 2).val) : ℝ) : EReal) = ((f ((((cfg0.win 23).blk t).view.emb y) 0).val ((((cfg0.win 23).blk t).view.emb y) 1).val ((((cfg0.win 23).blk t).view.emb y) 2).val : ℝ) : EReal)
    rw [e0, e1, e2]

theorem arr24 (f : ℕ → ℕ → ℝ) (hL : ∀ t : Fin cfg0.N, (cfg0.win 24).flush t = true → R2 (n := 1) (b := 1024) (dat.after 24 t) (fun r k => f r k))
    (i : (⟨2, ![1, 1024]⟩ : Shape).Idx) : dat.arrAt 24 cfg0.N i = ((f (i 0).val (i 1).val : ℝ) : EReal) := by
  refine dat.arrAt_forall_of_covers 24 (fun i v => v = ((f (i 0).val (i 1).val : ℝ) : EReal)) (by decide +kernel) (fun t hf y => ?_) i
  rw [cast_eq]
  have b0 : (y 0).val < 1 := (y 0).isLt
  have b1 : (y 1).val < 1024 := (y 1).isLt
  have e0 : ((((cfg0.win 24).blk t).view.emb y) 0).val = (y 0).val := by
    show win0_24.index t 0 * 1 + 1 * (y 0).val = _
    rw [(index24 t).1]; omega
  have e1 : ((((cfg0.win 24).blk t).view.emb y) 1).val = (y 1).val := by
    show win0_24.index t 1 * 1024 + 1 * (y 1).val = _
    rw [(index24 t).2]; omega
  have e := hL t hf ⟨(y 0).val, b0⟩ ⟨(y 1).val, b1⟩
  refine (congrArg (dat.after 24 t) (funext fun a => Fin.ext ?_)).trans (e.trans ?_)
  · match a with
    | ⟨0, _⟩ => rfl
    | ⟨1, _⟩ => rfl
  · show ((f (y 0).val (y 1).val : ℝ) : EReal) = ((f ((((cfg0.win 24).blk t).view.emb y) 0).val ((((cfg0.win 24).blk t).view.emb y) 1).val : ℝ) : EReal)
    rw [e0, e1]

theorem arr25 (f : ℕ → ℕ → ℝ) (hL : ∀ t : Fin cfg0.N, (cfg0.win 25).flush t = true → R2 (n := 512) (b := 1024) (dat.after 25 t) (fun r k => f (512 * (7 - t.val / 11) + r) k))
    (i : (⟨2, ![4096, 1024]⟩ : Shape).Idx) : dat.arrAt 25 cfg0.N i = ((f (i 0).val (i 1).val : ℝ) : EReal) := by
  refine dat.arrAt_forall_of_covers 25 (fun i v => v = ((f (i 0).val (i 1).val : ℝ) : EReal)) (by decide +kernel) (fun t hf y => ?_) i
  rw [cast_eq]
  have b0 : (y 0).val < 512 := (y 0).isLt
  have b1 : (y 1).val < 1024 := (y 1).isLt
  have e0 : ((((cfg0.win 25).blk t).view.emb y) 0).val = (512 * (7 - t.val / 11) + (y 0).val) := by
    show win0_25.index t 0 * 512 + 1 * (y 0).val = _
    rw [(index25 t).1]; omega
  have e1 : ((((cfg0.win 25).blk t).view.emb y) 1).val = (y 1).val := by
    show win0_25.index t 1 * 1024 + 1 * (y 1).val = _
    rw [(index25 t).2]; omega
  have e := hL t hf ⟨(y 0).val, b0⟩ ⟨(y 1).val, b1⟩
  refine (congrArg (dat.after 25 t) (funext fun a => Fin.ext ?_)).trans (e.trans ?_)
  · match a with
    | ⟨0, _⟩ => rfl
    | ⟨1, _⟩ => rfl
  · show ((f (512 * (7 - t.val / 11) + (y 0).val) (y 1).val : ℝ) : EReal) = ((f ((((cfg0.win 25).blk t).view.emb y) 0).val ((((cfg0.win 25).blk t).view.emb y) 1).val : ℝ) : EReal)
    rw [e0, e1]

theorem arr26 (f : ℕ → ℕ → ℝ) (hL : ∀ t : Fin cfg0.N, (cfg0.win 26).flush t = true → R2 (n := 1) (b := 1024) (dat.after 26 t) (fun r k => f r k))
    (i : (⟨2, ![1, 1024]⟩ : Shape).Idx) : dat.arrAt 26 cfg0.N i = ((f (i 0).val (i 1).val : ℝ) : EReal) := by
  refine dat.arrAt_forall_of_covers 26 (fun i v => v = ((f (i 0).val (i 1).val : ℝ) : EReal)) (by decide +kernel) (fun t hf y => ?_) i
  rw [cast_eq]
  have b0 : (y 0).val < 1 := (y 0).isLt
  have b1 : (y 1).val < 1024 := (y 1).isLt
  have e0 : ((((cfg0.win 26).blk t).view.emb y) 0).val = (y 0).val := by
    show win0_26.index t 0 * 1 + 1 * (y 0).val = _
    rw [(index26 t).1]; omega
  have e1 : ((((cfg0.win 26).blk t).view.emb y) 1).val = (y 1).val := by
    show win0_26.index t 1 * 1024 + 1 * (y 1).val = _
    rw [(index26 t).2]; omega
  have e := hL t hf ⟨(y 0).val, b0⟩ ⟨(y 1).val, b1⟩
  refine (congrArg (dat.after 26 t) (funext fun a => Fin.ext ?_)).trans (e.trans ?_)
  · match a with
    | ⟨0, _⟩ => rfl
    | ⟨1, _⟩ => rfl
  · show ((f (y 0).val (y 1).val : ℝ) : EReal) = ((f ((((cfg0.win 26).blk t).view.emb y) 0).val ((((cfg0.win 26).blk t).view.emb y) 1).val : ℝ) : EReal)
    rw [e0, e1]

end Cert.KernelIdeal.Body

end
-- ==== Proof.Body.Wholes.lean ====
/- Loads and stores of a whole buffer, and the loads of whole buffers just stored, with the sizes of the shapes at hand written out. -/
module

public import proofs.«01_k».proof.Proof.Body.Pure

@[expose] public section

noncomputable section

namespace Cert.KernelIdeal.Body

open Cert.KernelIdeal Cert.KernelIdeal.Gen
open Idealize.ShloMosaic

variable {F : FTy → Type} [FloatOps F]

theorem load_S512x1024_f32 {M : Memref sig .tc .vmem S512x1024 .f32} (h : M.IsWhole) (x : Vec F S512x1024 .f32) (inb : _) :
    View.readAt (Elt F) M.view (Rect.unit (s := S512x1024) ![0, 0] ![512, 1024] inb).toLoadRect (h.unread x) = x := load_whole h x inb

theorem store_S512x1024_f32 {M : Memref sig .tc .vmem S512x1024 .f32} (f : M.view.ty.Contents (Elt F)) (inb : _) (w : Vec F S512x1024 .f32) (L : _) :
    M.view.read (Elt F) (M.view.writes (Elt F) f (⟨Rect.unit (s := S512x1024) ![0, 0] ![512, 1024] inb, w⟩ :: L)) = w := View.read_writes_full _ f inb w L

theorem reload_S512x1024_f32 (v : View sig .tc .vmem S512x1024 .f32) (inb inb' : _) (w : Vec F S512x1024 .f32) (L : List (View.Piece (Elt F) S512x1024 .f32)) :
    v.readCov (⟨Rect.unit (s := S512x1024) ![0, 0] ![512, 1024] inb, w⟩ :: L) (Rect.unit (s := S512x1024) ![0, 0] ![512, 1024] inb').toLoadRect = w :=
  View.readCov_full v inb inb' w L

theorem load_S512x1024_bf16 {M : Memref sig .tc .vmem S512x1024 .bf16} (h : M.IsWhole) (x : Vec F S512x1024 .bf16) (inb : _) :
    View.readAt (Elt F) M.view (Rect.unit (s := S512x1024) ![0, 0] ![512, 1024] inb).toLoadRect (h.unread x) = x := load_whole h x inb

theorem store_S512x1024_bf16 {M : Memref sig .tc .vmem S512x1024 .bf16} (f : M.view.ty.Contents (Elt F)) (inb : _) (w : Vec F S512x1024 .bf16) (L : _) :
    M.view.read (Elt F) (M.view.writes (Elt F) f (⟨Rect.unit (s := S512x1024) ![0, 0] ![512, 1024] inb, w⟩ :: L)) = w := View.read_writes_full _ f inb w L

theorem reload_S512x1024_bf16 (v : View sig .tc .vmem S512x1024 .bf16) (inb inb' : _) (w : Vec F S512x1024 .bf16) (L : List (View.Piece (Elt F) S512x1024 .bf16)) :
    v.readCov (⟨Rect.unit (s := S512x1024) ![0, 0] ![512, 1024] inb, w⟩ :: L) (Rect.unit (s := S512x1024) ![0, 0] ![512, 1024] inb').toLoadRect = w :=
  View.readCov_full v inb inb' w L

theorem load_S256x1024_bf16 {M : Memref sig .tc .vmem S256x1024 .bf16} (h : M.IsWhole) (x : Vec F S256x1024 .bf16) (inb : _) :
    View.readAt (Elt F) M.view (Rect.unit (s := S256x1024) ![0, 0] ![256, 1024] inb).toLoadRect (h.unread x) = x := load_whole h x inb

theorem store_S256x1024_bf16 {M : Memref sig .tc .vmem S256x1024 .bf16} (f : M.view.ty.Contents (Elt F)) (inb : _) (w : Vec F S256x1024 .bf16) (L : _) :
    M.view.read (Elt F) (M.view.writes (Elt F) f (⟨Rect.unit (s := S256x1024) ![0, 0] ![256, 1024] inb, w⟩ :: L)) = w := View.read_writes_full _ f inb w L

theorem reload_S256x1024_bf16 (v : View sig .tc .vmem S256x1024 .bf16) (inb inb' : _) (w : Vec F S256x1024 .bf16) (L : List (View.Piece (Elt F) S256x1024 .bf16)) :
    v.readCov (⟨Rect.unit (s := S256x1024) ![0, 0] ![256, 1024] inb, w⟩ :: L) (Rect.unit (s := S256x1024) ![0, 0] ![256, 1024] inb').toLoadRect = w :=
  View.readCov_full v inb inb' w L

theorem load_S256x1024_f32 {M : Memref sig .tc .vmem S256x1024 .f32} (h : M.IsWhole) (x : Vec F S256x1024 .f32) (inb : _) :
    View.readAt (Elt F) M.view (Rect.unit (s := S256x1024) ![0, 0] ![256, 1024] inb).toLoadRect (h.unread x) = x := load_whole h x inb

theorem store_S256x1024_f32 {M : Memref sig .tc .vmem S256x1024 .f32} (f : M.view.ty.Contents (Elt F)) (inb : _) (w : Vec F S256x1024 .f32) (L : _) :
    M.view.read (Elt F) (M.view.writes (Elt F) f (⟨Rect.unit (s := S256x1024) ![0, 0] ![256, 1024] inb, w⟩ :: L)) = w := View.read_writes_full _ f inb w L

theorem reload_S256x1024_f32 (v : View sig .tc .vmem S256x1024 .f32) (inb inb' : _) (w : Vec F S256x1024 .f32) (L : List (View.Piece (Elt F) S256x1024 .f32)) :
    v.readCov (⟨Rect.unit (s := S256x1024) ![0, 0] ![256, 1024] inb, w⟩ :: L) (Rect.unit (s := S256x1024) ![0, 0] ![256, 1024] inb').toLoadRect = w :=
  View.readCov_full v inb inb' w L

theorem load_S512x256_f32 {M : Memref sig .tc .vmem S512x256 .f32} (h : M.IsWhole) (x : Vec F S512x256 .f32) (inb : _) :
    View.readAt (Elt F) M.view (Rect.unit (s := S512x256) ![0, 0] ![512, 256] inb).toLoadRect (h.unread x) = x := load_whole h x inb

theorem store_S512x256_f32 {M : Memref sig .tc .vmem S512x256 .f32} (f : M.view.ty.Contents (Elt F)) (inb : _) (w : Vec F S512x256 .f32) (L : _) :
    M.view.read (Elt F) (M.view.writes (Elt F) f (⟨Rect.unit (s := S512x256) ![0, 0] ![512, 256] inb, w⟩ :: L)) = w := View.read_writes_full _ f inb w L

theorem reload_S512x256_f32 (v : View sig .tc .vmem S512x256 .f32) (inb inb' : _) (w : Vec F S512x256 .f32) (L : List (View.Piece (Elt F) S512x256 .f32)) :
    v.readCov (⟨Rect.unit (s := S512x256) ![0, 0] ![512, 256] inb, w⟩ :: L) (Rect.unit (s := S512x256) ![0, 0] ![512, 256] inb').toLoadRect = w :=
  View.readCov_full v inb inb' w L

theorem load_S512x256_bf16 {M : Memref sig .tc .vmem S512x256 .bf16} (h : M.IsWhole) (x : Vec F S512x256 .bf16) (inb : _) :
    View.readAt (Elt F) M.view (Rect.unit (s := S512x256) ![0, 0] ![512, 256] inb).toLoadRect (h.unread x) = x := load_whole h x inb

theorem store_S512x256_bf16 {M : Memref sig .tc .vmem S512x256 .bf16} (f : M.view.ty.Contents (Elt F)) (inb : _) (w : Vec F S512x256 .bf16) (L : _) :
    M.view.read (Elt F) (M.view.writes (Elt F) f (⟨Rect.unit (s := S512x256) ![0, 0] ![512, 256] inb, w⟩ :: L)) = w := View.read_writes_full _ f inb w L

theorem reload_S512x256_bf16 (v : View sig .tc .vmem S512x256 .bf16) (inb inb' : _) (w : Vec F S512x256 .bf16) (L : List (View.Piece (Elt F) S512x256 .bf16)) :
    v.readCov (⟨Rect.unit (s := S512x256) ![0, 0] ![512, 256] inb, w⟩ :: L) (Rect.unit (s := S512x256) ![0, 0] ![512, 256] inb').toLoadRect = w :=
  View.readCov_full v inb inb' w L

theorem load_S256x512_bf16 {M : Memref sig .tc .vmem S256x512 .bf16} (h : M.IsWhole) (x : Vec F S256x512 .bf16) (inb : _) :
    View.readAt (Elt F) M.view (Rect.unit (s := S256x512) ![0, 0] ![256, 512] inb).toLoadRect (h.unread x) = x := load_whole h x inb

theorem store_S256x512_bf16 {M : Memref sig .tc .vmem S256x512 .bf16} (f : M.view.ty.Contents (Elt F)) (inb : _) (w : Vec F S256x512 .bf16) (L : _) :
    M.view.read (Elt F) (M.view.writes (Elt F) f (⟨Rect.unit (s := S256x512) ![0, 0] ![256, 512] inb, w⟩ :: L)) = w := View.read_writes_full _ f inb w L

theorem reload_S256x512_bf16 (v : View sig .tc .vmem S256x512 .bf16) (inb inb' : _) (w : Vec F S256x512 .bf16) (L : List (View.Piece (Elt F) S256x512 .bf16)) :
    v.readCov (⟨Rect.unit (s := S256x512) ![0, 0] ![256, 512] inb, w⟩ :: L) (Rect.unit (s := S256x512) ![0, 0] ![256, 512] inb').toLoadRect = w :=
  View.readCov_full v inb inb' w L

theorem load_S1x256_f32 {M : Memref sig .tc .vmem S1x256 .f32} (h : M.IsWhole) (x : Vec F S1x256 .f32) (inb : _) :
    View.readAt (Elt F) M.view (Rect.unit (s := S1x256) ![0, 0] ![1, 256] inb).toLoadRect (h.unread x) = x := load_whole h x inb

theorem store_S1x256_f32 {M : Memref sig .tc .vmem S1x256 .f32} (f : M.view.ty.Contents (Elt F)) (inb : _) (w : Vec F S1x256 .f32) (L : _) :
    M.view.read (Elt F) (M.view.writes (Elt F) f (⟨Rect.unit (s := S1x256) ![0, 0] ![1, 256] inb, w⟩ :: L)) = w := View.read_writes_full _ f inb w L

theorem reload_S1x256_f32 (v : View sig .tc .vmem S1x256 .f32) (inb inb' : _) (w : Vec F S1x256 .f32) (L : List (View.Piece (Elt F) S1x256 .f32)) :
    v.readCov (⟨Rect.unit (s := S1x256) ![0, 0] ![1, 256] inb, w⟩ :: L) (Rect.unit (s := S1x256) ![0, 0] ![1, 256] inb').toLoadRect = w :=
  View.readCov_full v inb inb' w L

theorem load_S1x1024_f32 {M : Memref sig .tc .vmem S1x1024 .f32} (h : M.IsWhole) (x : Vec F S1x1024 .f32) (inb : _) :
    View.readAt (Elt F) M.view (Rect.unit (s := S1x1024) ![0, 0] ![1, 1024] inb).toLoadRect (h.unread x) = x := load_whole h x inb

theorem store_S1x1024_f32 {M : Memref sig .tc .vmem S1x1024 .f32} (f : M.view.ty.Contents (Elt F)) (inb : _) (w : Vec F S1x1024 .f32) (L : _) :
    M.view.read (Elt F) (M.view.writes (Elt F) f (⟨Rect.unit (s := S1x1024) ![0, 0] ![1, 1024] inb, w⟩ :: L)) = w := View.read_writes_full _ f inb w L

theorem reload_S1x1024_f32 (v : View sig .tc .vmem S1x1024 .f32) (inb inb' : _) (w : Vec F S1x1024 .f32) (L : List (View.Piece (Elt F) S1x1024 .f32)) :
    v.readCov (⟨Rect.unit (s := S1x1024) ![0, 0] ![1, 1024] inb, w⟩ :: L) (Rect.unit (s := S1x1024) ![0, 0] ![1, 1024] inb').toLoadRect = w :=
  View.readCov_full v inb inb' w L

theorem load_S1x8x256_f32 {M : Memref sig .tc .vmem S1x8x256 .f32} (h : M.IsWhole) (x : Vec F S1x8x256 .f32) (inb : _) :
    View.readAt (Elt F) M.view (Rect.unit (s := S1x8x256) ![0, 0, 0] ![1, 8, 256] inb).toLoadRect (h.unread x) = x := load_whole h x inb

theorem store_S1x8x256_f32 {M : Memref sig .tc .vmem S1x8x256 .f32} (f : M.view.ty.Contents (Elt F)) (inb : _) (w : Vec F S1x8x256 .f32) (L : _) :
    M.view.read (Elt F) (M.view.writes (Elt F) f (⟨Rect.unit (s := S1x8x256) ![0, 0, 0] ![1, 8, 256] inb, w⟩ :: L)) = w := View.read_writes_full _ f inb w L

theorem reload_S1x8x256_f32 (v : View sig .tc .vmem S1x8x256 .f32) (inb inb' : _) (w : Vec F S1x8x256 .f32) (L : List (View.Piece (Elt F) S1x8x256 .f32)) :
    v.readCov (⟨Rect.unit (s := S1x8x256) ![0, 0, 0] ![1, 8, 256] inb, w⟩ :: L) (Rect.unit (s := S1x8x256) ![0, 0, 0] ![1, 8, 256] inb').toLoadRect = w :=
  View.readCov_full v inb inb' w L

theorem load_S8x256_f32 {M : Memref sig .tc .vmem S8x256 .f32} (h : M.IsWhole) (x : Vec F S8x256 .f32) (inb : _) :
    View.readAt (Elt F) M.view (Rect.unit (s := S8x256) ![0, 0] ![8, 256] inb).toLoadRect (h.unread x) = x := load_whole h x inb

theorem store_S8x256_f32 {M : Memref sig .tc .vmem S8x256 .f32} (f : M.view.ty.Contents (Elt F)) (inb : _) (w : Vec F S8x256 .f32) (L : _) :
    M.view.read (Elt F) (M.view.writes (Elt F) f (⟨Rect.unit (s := S8x256) ![0, 0] ![8, 256] inb, w⟩ :: L)) = w := View.read_writes_full _ f inb w L

theorem reload_S8x256_f32 (v : View sig .tc .vmem S8x256 .f32) (inb inb' : _) (w : Vec F S8x256 .f32) (L : List (View.Piece (Elt F) S8x256 .f32)) :
    v.readCov (⟨Rect.unit (s := S8x256) ![0, 0] ![8, 256] inb, w⟩ :: L) (Rect.unit (s := S8x256) ![0, 0] ![8, 256] inb').toLoadRect = w :=
  View.readCov_full v inb inb' w L

end Cert.KernelIdeal.Body

end
-- ==== Proof.Body.ClosedA.lean ====
/- What the run leaves AT the first column of the first block of tokens: the pure function. -/
module

public import proofs.«01_k».proof.Proof.Body.Wholes
public import proofs.«01_k».proof.Proof.Body.RunA

@[expose] public section

set_option maxRecDepth 16384

noncomputable section

namespace Cert.KernelIdeal.Body

open Cert.KernelIdeal Cert.KernelIdeal.Gen
open Idealize.ShloMosaic

variable {F : FTy → Type} [FloatOps F] [Named F]

set_option maxHeartbeats 4000000 in
theorem runA_eq (c : Dev nD) (i : grid0.Coords) (B : Bufs) (hc1 : k0_cond1 i = 1#1) (hc2 : k0_cond2 i = 1#1) (hc3 : ¬k0_cond3 i = 1#1) (hc4 : k0_cond4 i = 1#1) (hc5 : ¬k0_cond5 i = 1#1) (x : In F) (z : St F) :
    (runA c i B hc1 hc2 hc3 hc4 hc5 x z).1 = core i x (firstBlock i (firstColumn x (k0_pay8 x.x0 x.x1) z)) := by
  have o1 := off1_eq i
  have o2 : k0_off2 i = ![(⟨(i 1).val % 2, Nat.mod_lt _ (by decide)⟩ : Fin 2).val, 0, 0] := off2_eq i
  have o3 : k0_off3 i = ![(⟨1 - (i 1).val % 2, by omega⟩ : Fin 2).val, 0, 0] := off3_eq i
  have o4 := off4_eq i
  have o14 : k0_off1 i = k0_off4 i := o1.trans o4.symm
  have p0 : (i 1).val % 2 = 0 := by
    have h := congrFun (off2_first i hc1) 0; rw [off2_eq] at h; exact h
  have o02 : (![0, 0, 0] : Fin 3 → ℕ) = k0_off2 i := (off2_first i hc1).symm
  have s0 : (⟨(i 1).val % 2, Nat.mod_lt _ (by decide)⟩ : Fin 2) = 0 := Fin.ext p0
  have l4 : ∀ {M : Memref sig .tc .vmem S11x8x256 .f32} (h : M.IsWhole) (x : Vec F S11x8x256 .f32) (inb : _),
      View.readAt (Elt F) M.view (Rect.unit (s := S11x8x256) (k0_off4 i) S1x8x256.size inb).toLoadRect (h.unread x) = slab (n := 11) x (i 1) :=
    fun h x inb => load_slab h x o4 inb
  have l2 : ∀ {M : Memref sig .tc .vmem S2x512x256 .f32} (h : M.IsWhole) (x : Vec F S2x512x256 .f32) (inb : _),
      View.readAt (Elt F) M.view (Rect.unit (s := S2x512x256) (k0_off2 i) S1x512x256.size inb).toLoadRect (h.unread x)
        = slab x ⟨(i 1).val % 2, Nat.mod_lt _ (by decide)⟩ :=
    fun h x inb => load_slab h x o2 inb
  have w4 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) S1x8x256.size inb, w⟩ :: L))
        = setSlab (n := 11) (M.view.read (Elt F) (M.view.writes (Elt F) f L)) (i 1) w :=
    fun f inb w L => store_slab_cons f o4 inb w L
  have w1 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) S1x8x256.size inb, w⟩ :: L))
        = setSlab (n := 11) (M.view.read (Elt F) (M.view.writes (Elt F) f L)) (i 1) w :=
    fun f inb w L => store_slab_cons f o1 inb w L
  have w3 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) (k0_off3 i) S1x512x256.size inb, w⟩ :: L))
        = setSlab (M.view.read (Elt F) (M.view.writes (Elt F) f L)) ⟨1 - (i 1).val % 2, by omega⟩ w :=
    fun f inb w L => store_slab_cons f o3 inb w L
  have w0 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) ![0, 0, 0] S1x512x256.size inb, w⟩ :: L))
        = setSlab (M.view.read (Elt F) (M.view.writes (Elt F) f L)) 0 w :=
    fun f inb w L => store_slab_cons (j := 0) f rfl inb w L
  have r4 : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) S1x8x256.size inb').toLoadRect = w :=
    fun v inb inb' w L => reload_slab v rfl inb inb' w L
  have r1 : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) S1x8x256.size inb').toLoadRect = w :=
    fun v inb inb' w L => reload_slab v o14 inb inb' w L
  have r4x : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) ![1, 8, 256] inb').toLoadRect = w :=
    fun v inb inb' w L => reload_slab v rfl inb inb' w L
  have r4y : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) ![1, 8, 256] inb').toLoadRect = w :=
    fun v inb inb' w L => reload_slab v rfl inb inb' w L
  have r4z : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) S1x8x256.size inb').toLoadRect = w :=
    fun v inb inb' w L => reload_slab v rfl inb inb' w L
  have r1x : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) ![1, 8, 256] inb').toLoadRect = w :=
    fun v inb inb' w L => reload_slab v o14 inb inb' w L
  have r1y : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) ![1, 8, 256] inb').toLoadRect = w :=
    fun v inb inb' w L => reload_slab v o14 inb inb' w L
  have r1z : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) S1x8x256.size inb').toLoadRect = w :=
    fun v inb inb' w L => reload_slab v o14 inb inb' w L
  have w1x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) ![1, 8, 256] inb, w⟩ :: L))
        = setSlab (n := 11) (M.view.read (Elt F) (M.view.writes (Elt F) f L)) (i 1) w :=
    fun f inb w L => store_slab_cons f o1 inb w L
  have w4x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) ![1, 8, 256] inb, w⟩ :: L))
        = setSlab (n := 11) (M.view.read (Elt F) (M.view.writes (Elt F) f L)) (i 1) w :=
    fun f inb w L => store_slab_cons f o4 inb w L
  have l4x : ∀ {M : Memref sig .tc .vmem S11x8x256 .f32} (h : M.IsWhole) (x : Vec F S11x8x256 .f32) (inb : _),
      View.readAt (Elt F) M.view (Rect.unit (s := S11x8x256) (k0_off4 i) ![1, 8, 256] inb).toLoadRect (h.unread x) = slab (n := 11) x (i 1) :=
    fun h x inb => load_slab h x o4 inb
  have e1 : ∀ (x : Vec F S11x8x256 .f32) (w : Vec F S1x8x256 .f32), slab (n := 11) (setSlab (n := 11) x (i 1) w) (i 1) = w :=
    fun x w => slab_setSlab x (i 1) w
  have q0 : ∀ {M : Memref sig .tc .vmem S8x256 .f32} (h : M.IsWhole) (x : Vec F S8x256 .f32) (inb : _),
      View.readAt (Elt F) M.view (Rect.unit (s := S8x256) ![6, 0] S1x256.size inb).toLoadRect (h.unread x) = row x 6 := fun h x inb => load_row h x 6 rfl inb
  have q1 : ∀ {M : Memref sig .tc .vmem S8x256 .f32} (h : M.IsWhole) (x : Vec F S8x256 .f32) (inb : _),
      View.readAt (Elt F) M.view (Rect.unit (s := S8x256) ![7, 0] S1x256.size inb).toLoadRect (h.unread x) = row x 7 := fun h x inb => load_row h x 7 rfl inb
  have q2 : ∀ {M : Memref sig .tc .vmem S3x256 .f32} (h : M.IsWhole) (x : Vec F S3x256 .f32) (inb : _),
      View.readAt (Elt F) M.view (Rect.unit (s := S3x256) ![0, 0] S1x256.size inb).toLoadRect (h.unread x) = row x 0 := fun h x inb => load_row h x 0 rfl inb
  have q3 : ∀ {M : Memref sig .tc .vmem S3x256 .f32} (h : M.IsWhole) (x : Vec F S3x256 .f32) (inb : _),
      View.readAt (Elt F) M.view (Rect.unit (s := S3x256) ![1, 0] S1x256.size inb).toLoadRect (h.unread x) = row x 1 := fun h x inb => load_row h x 1 rfl inb
  have q4 : ∀ {M : Memref sig .tc .vmem S3x256 .f32} (h : M.IsWhole) (x : Vec F S3x256 .f32) (inb : _),
      View.readAt (Elt F) M.view (Rect.unit (s := S3x256) ![2, 0] S1x256.size inb).toLoadRect (h.unread x) = row x 2 := fun h x inb => load_row h x 2 rfl inb
  have r0 : ∀ (v : View sig .tc .vmem S2x512x256 .f32) (inb inb' : _) (w : Vec F S1x512x256 .f32) (L : List (View.Piece (Elt F) S2x512x256 .f32)),
      v.readCov (⟨Rect.unit (s := S2x512x256) ![0, 0, 0] S1x512x256.size inb, w⟩ :: L) (Rect.unit (s := S2x512x256) (k0_off2 i) S1x512x256.size inb').toLoadRect = w :=
    fun v inb inb' w L => reload_slab v o02 inb inb' w L
  unfold runA rawA core firstBlock firstColumn
  dsimp only
  congr 1 <;>
  simp only [rawA.sl.H27_1, rawA.sl.H28_1, rawA.sl.H29_1, rawA.sl.H30_1, rawA.sl.H31_1, rawA.sl.H32_1, rawA.sl.H33_1, rawA.sl.H34_1, rawA.sl.H34_2, rawA.sl.H35_1, rawA.sl.H35_2, rawA.sl.cst_154, rawA.sl.cst_155, rawA.sl.cst_156, rawA.sl.cst_157, rawA.sl.cst_54, rawA.sl.r, rawA.sl.r_1, rawA.sl.r_10, rawA.sl.r_11, rawA.sl.r_12, rawA.sl.r_13, rawA.sl.r_14, rawA.sl.r_15, rawA.sl.r_16, rawA.sl.r_17, rawA.sl.r_18, rawA.sl.r_19, rawA.sl.r_2, rawA.sl.r_20, rawA.sl.r_21, rawA.sl.r_22, rawA.sl.r_23, rawA.sl.r_24, rawA.sl.r_25, rawA.sl.r_26, rawA.sl.r_27, rawA.sl.r_28, rawA.sl.r_29, rawA.sl.r_3, rawA.sl.r_30, rawA.sl.r_31, rawA.sl.r_32, rawA.sl.r_4, rawA.sl.r_5, rawA.sl.r_6, rawA.sl.r_7, rawA.sl.r_8, rawA.sl.r_9, rawA.sl.v0, rawA.sl.v1, rawA.sl.v100, rawA.sl.v103, rawA.sl.v107, rawA.sl.v140, rawA.sl.v142, rawA.sl.v147, rawA.sl.v151, rawA.sl.v185, rawA.sl.v2, rawA.sl.v20, rawA.sl.v22, rawA.sl.v23, rawA.sl.v282, rawA.sl.v290, rawA.sl.v296, rawA.sl.v31, rawA.sl.v32, rawA.sl.v33, rawA.sl.v36, rawA.sl.v37, rawA.sl.v393, rawA.sl.v401, rawA.sl.v409, rawA.sl.v410, rawA.sl.v411, rawA.sl.v412, rawA.sl.v413, rawA.sl.v414, rawA.sl.v415, rawA.sl.v416, rawA.sl.v417, rawA.sl.v418, rawA.sl.v419, rawA.sl.v420, rawA.sl.v421, rawA.sl.v422, rawA.sl.v423, rawA.sl.v424, rawA.sl.v425, rawA.sl.v426, rawA.sl.v427, rawA.sl.v428, rawA.sl.v429, rawA.sl.v430, rawA.sl.v431, rawA.sl.v433, rawA.sl.v434, rawA.sl.v435, rawA.sl.v436, rawA.sl.v438, rawA.sl.v439, rawA.sl.v440, rawA.sl.v441, rawA.sl.v442, rawA.sl.v445, rawA.sl.v446, rawA.sl.v447, rawA.sl.v45, rawA.sl.v456, rawA.sl.v48, rawA.sl.v52, rawA.sl.v85, rawA.sl.v87, rawA.sl.v92, rawA.sl.v96,
    load_whole, l4, l2, load_S512x1024_f32, store_S512x1024_f32, reload_S512x1024_f32, load_S512x1024_bf16, store_S512x1024_bf16, reload_S512x1024_bf16, load_S256x1024_bf16, store_S256x1024_bf16, reload_S256x1024_bf16, load_S256x1024_f32, store_S256x1024_f32, reload_S256x1024_f32, load_S512x256_f32, store_S512x256_f32, reload_S512x256_f32, load_S512x256_bf16, store_S512x256_bf16, reload_S512x256_bf16, load_S256x512_bf16, store_S256x512_bf16, reload_S256x512_bf16, load_S1x256_f32, store_S1x256_f32, reload_S1x256_f32, load_S1x1024_f32, store_S1x1024_f32, reload_S1x1024_f32, load_S1x8x256_f32, store_S1x8x256_f32, reload_S1x8x256_f32, load_S8x256_f32, store_S8x256_f32, reload_S8x256_f32, w4, w1, w3, w0, e1, r4, r1, r4x, r4y, r4z, r1x, r1y, r1z, w1x, w4x, l4x, q0, q1, q2, q3, q4, r0, s0, View.readCov_full, View.read_writes_full, View.writes_nil, Memref.IsWhole.read_unread,
    slab_setSlab, setSlab_setSlab, daOf, dGate0T, dGate0, dUp0T, dUp0, tabG, tabU, dGate, dUp, gate, up, g0, g1, g2, u0, u1, u2, seqStart, rowNo,
    k0_pay5, k0_pay6, k0_pay7, k0_pay8, k0_pay9, k0_pay10, k0_pay11]

end Cert.KernelIdeal.Body

end
-- ==== Proof.Body.ClosedB.lean ====
/- What the run leaves AT an inner column of the first block of tokens: the pure function. -/
module

public import proofs.«01_k».proof.Proof.Body.Wholes
public import proofs.«01_k».proof.Proof.Body.RunB

@[expose] public section

set_option maxRecDepth 16384

noncomputable section

namespace Cert.KernelIdeal.Body

open Cert.KernelIdeal Cert.KernelIdeal.Gen
open Idealize.ShloMosaic

variable {F : FTy → Type} [FloatOps F] [Named F]

set_option maxHeartbeats 4000000 in
theorem runB_eq (c : Dev nD) (i : grid0.Coords) (B : Bufs) (hc1 : ¬k0_cond1 i = 1#1) (hc4 : k0_cond4 i = 1#1) (hc5 : ¬k0_cond5 i = 1#1) (x : In F) (z : St F) :
    (runB c i B hc1 hc4 hc5 x z).1 = core i x (firstBlock i z) := by
  have o1 := off1_eq i
  have o2 : k0_off2 i = ![(⟨(i 1).val % 2, Nat.mod_lt _ (by decide)⟩ : Fin 2).val, 0, 0] := off2_eq i
  have o3 : k0_off3 i = ![(⟨1 - (i 1).val % 2, by omega⟩ : Fin 2).val, 0, 0] := off3_eq i
  have o4 := off4_eq i
  have o14 : k0_off1 i = k0_off4 i := o1.trans o4.symm
  have l4 : ∀ {M : Memref sig .tc .vmem S11x8x256 .f32} (h : M.IsWhole) (x : Vec F S11x8x256 .f32) (inb : _),
      View.readAt (Elt F) M.view (Rect.unit (s := S11x8x256) (k0_off4 i) S1x8x256.size inb).toLoadRect (h.unread x) = slab (n := 11) x (i 1) :=
    fun h x inb => load_slab h x o4 inb
  have l2 : ∀ {M : Memref sig .tc .vmem S2x512x256 .f32} (h : M.IsWhole) (x : Vec F S2x512x256 .f32) (inb : _),
      View.readAt (Elt F) M.view (Rect.unit (s := S2x512x256) (k0_off2 i) S1x512x256.size inb).toLoadRect (h.unread x)
        = slab x ⟨(i 1).val % 2, Nat.mod_lt _ (by decide)⟩ :=
    fun h x inb => load_slab h x o2 inb
  have w4 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) S1x8x256.size inb, w⟩ :: L))
        = setSlab (n := 11) (M.view.read (Elt F) (M.view.writes (Elt F) f L)) (i 1) w :=
    fun f inb w L => store_slab_cons f o4 inb w L
  have w1 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) S1x8x256.size inb, w⟩ :: L))
        = setSlab (n := 11) (M.view.read (Elt F) (M.view.writes (Elt F) f L)) (i 1) w :=
    fun f inb w L => store_slab_cons f o1 inb w L
  have w3 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) (k0_off3 i) S1x512x256.size inb, w⟩ :: L))
        = setSlab (M.view.read (Elt F) (M.view.writes (Elt F) f L)) ⟨1 - (i 1).val % 2, by omega⟩ w :=
    fun f inb w L => store_slab_cons f o3 inb w L
  have w0 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) ![0, 0, 0] S1x512x256.size inb, w⟩ :: L))
        = setSlab (M.view.read (Elt F) (M.view.writes (Elt F) f L)) 0 w :=
    fun f inb w L => store_slab_cons (j := 0) f rfl inb w L
  have r4 : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) S1x8x256.size inb').toLoadRect = w :=
    fun v inb inb' w L => reload_slab v rfl inb inb' w L
  have r1 : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) S1x8x256.size inb').toLoadRect = w :=
    fun v inb inb' w L => reload_slab v o14 inb inb' w L
  have r4x : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) ![1, 8, 256] inb').toLoadRect = w :=
    fun v inb inb' w L => reload_slab v rfl inb inb' w L
  have r4y : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) ![1, 8, 256] inb').toLoadRect = w :=
    fun v inb inb' w L => reload_slab v rfl inb inb' w L
  have r4z : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) S1x8x256.size inb').toLoadRect = w :=
    fun v inb inb' w L => reload_slab v rfl inb inb' w L
  have r1x : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) ![1, 8, 256] inb').toLoadRect = w :=
    fun v inb inb' w L => reload_slab v o14 inb inb' w L
  have r1y : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) ![1, 8, 256] inb').toLoadRect = w :=
    fun v inb inb' w L => reload_slab v o14 inb inb' w L
  have r1z : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) S1x8x256.size inb').toLoadRect = w :=
    fun v inb inb' w L => reload_slab v o14 inb inb' w L
  have w1x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) ![1, 8, 256] inb, w⟩ :: L))
        = setSlab (n := 11) (M.view.read (Elt F) (M.view.writes (Elt F) f L)) (i 1) w :=
    fun f inb w L => store_slab_cons f o1 inb w L
  have w4x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) ![1, 8, 256] inb, w⟩ :: L))
        = setSlab (n := 11) (M.view.read (Elt F) (M.view.writes (Elt F) f L)) (i 1) w :=
    fun f inb w L => store_slab_cons f o4 inb w L
  have l4x : ∀ {M : Memref sig .tc .vmem S11x8x256 .f32} (h : M.IsWhole) (x : Vec F S11x8x256 .f32) (inb : _),
      View.readAt (Elt F) M.view (Rect.unit (s := S11x8x256) (k0_off4 i) ![1, 8, 256] inb).toLoadRect (h.unread x) = slab (n := 11) x (i 1) :=
    fun h x inb => load_slab h x o4 inb
  have e1 : ∀ (x : Vec F S11x8x256 .f32) (w : Vec F S1x8x256 .f32), slab (n := 11) (setSlab (n := 11) x (i 1) w) (i 1) = w :=
    fun x w => slab_setSlab x (i 1) w
  have q0 : ∀ {M : Memref sig .tc .vmem S8x256 .f32} (h : M.IsWhole) (x : Vec F S8x256 .f32) (inb : _),
      View.readAt (Elt F) M.view (Rect.unit (s := S8x256) ![6, 0] S1x256.size inb).toLoadRect (h.unread x) = row x 6 := fun h x inb => load_row h x 6 rfl inb
  have q1 : ∀ {M : Memref sig .tc .vmem S8x256 .f32} (h : M.IsWhole) (x : Vec F S8x256 .f32) (inb : _),
      View.readAt (Elt F) M.view (Rect.unit (s := S8x256) ![7, 0] S1x256.size inb).toLoadRect (h.unread x) = row x 7 := fun h x inb => load_row h x 7 rfl inb
  have q2 : ∀ {M : Memref sig .tc .vmem S3x256 .f32} (h : M.IsWhole) (x : Vec F S3x256 .f32) (inb : _),
      View.readAt (Elt F) M.view (Rect.unit (s := S3x256) ![0, 0] S1x256.size inb).toLoadRect (h.unread x) = row x 0 := fun h x inb => load_row h x 0 rfl inb
  have q3 : ∀ {M : Memref sig .tc .vmem S3x256 .f32} (h : M.IsWhole) (x : Vec F S3x256 .f32) (inb : _),
      View.readAt (Elt F) M.view (Rect.unit (s := S3x256) ![1, 0] S1x256.size inb).toLoadRect (h.unread x) = row x 1 := fun h x inb => load_row h x 1 rfl inb
  have q4 : ∀ {M : Memref sig .tc .vmem S3x256 .f32} (h : M.IsWhole) (x : Vec F S3x256 .f32) (inb : _),
      View.readAt (Elt F) M.view (Rect.unit (s := S3x256) ![2, 0] S1x256.size inb).toLoadRect (h.unread x) = row x 2 := fun h x inb => load_row h x 2 rfl inb
  unfold runB rawB core firstBlock
  dsimp only
  congr 1 <;>
  simp only [rawB.sl.H32_1, rawB.sl.H33_1, rawB.sl.H34_1, rawB.sl.H34_2, rawB.sl.H35_1, rawB.sl.H35_2, rawB.sl.cst_54, rawB.sl.r, rawB.sl.r_1, rawB.sl.r_10, rawB.sl.r_11, rawB.sl.r_12, rawB.sl.r_13, rawB.sl.r_14, rawB.sl.r_15, rawB.sl.r_16, rawB.sl.r_17, rawB.sl.r_18, rawB.sl.r_19, rawB.sl.r_2, rawB.sl.r_20, rawB.sl.r_21, rawB.sl.r_22, rawB.sl.r_23, rawB.sl.r_24, rawB.sl.r_25, rawB.sl.r_26, rawB.sl.r_27, rawB.sl.r_28, rawB.sl.r_29, rawB.sl.r_3, rawB.sl.r_30, rawB.sl.r_31, rawB.sl.r_32, rawB.sl.r_4, rawB.sl.r_5, rawB.sl.r_6, rawB.sl.r_7, rawB.sl.r_8, rawB.sl.r_9, rawB.sl.v0, rawB.sl.v1, rawB.sl.v100, rawB.sl.v103, rawB.sl.v107, rawB.sl.v140, rawB.sl.v142, rawB.sl.v147, rawB.sl.v151, rawB.sl.v185, rawB.sl.v2, rawB.sl.v22, rawB.sl.v23, rawB.sl.v282, rawB.sl.v290, rawB.sl.v296, rawB.sl.v31, rawB.sl.v32, rawB.sl.v33, rawB.sl.v36, rawB.sl.v37, rawB.sl.v393, rawB.sl.v401, rawB.sl.v45, rawB.sl.v48, rawB.sl.v52, rawB.sl.v85, rawB.sl.v87, rawB.sl.v92, rawB.sl.v96,
    load_whole, l4, l2, load_S512x1024_f32, store_S512x1024_f32, reload_S512x1024_f32, load_S512x1024_bf16, store_S512x1024_bf16, reload_S512x1024_bf16, load_S256x1024_bf16, store_S256x1024_bf16, reload_S256x1024_bf16, load_S256x1024_f32, store_S256x1024_f32, reload_S256x1024_f32, load_S512x256_f32, store_S512x256_f32, reload_S512x256_f32, load_S512x256_bf16, store_S512x256_bf16, reload_S512x256_bf16, load_S256x512_bf16, store_S256x512_bf16, reload_S256x512_bf16, load_S1x256_f32, store_S1x256_f32, reload_S1x256_f32, load_S1x1024_f32, store_S1x1024_f32, reload_S1x1024_f32, load_S1x8x256_f32, store_S1x8x256_f32, reload_S1x8x256_f32, load_S8x256_f32, store_S8x256_f32, reload_S8x256_f32, w4, w1, w3, w0, e1, r4, r1, r4x, r4y, r4z, r1x, r1y, r1z, w1x, w4x, l4x, q0, q1, q2, q3, q4, View.readCov_full, View.read_writes_full, View.writes_nil, Memref.IsWhole.read_unread,
    slab_setSlab, setSlab_setSlab, daOf, dGate0T, dGate0, dUp0T, dUp0, tabG, tabU, dGate, dUp, gate, up, g0, g1, g2, u0, u1, u2, seqStart, rowNo]

end Cert.KernelIdeal.Body

end
-- ==== Proof.Body.ClosedC.lean ====
/- What the run leaves AT the last column of the first block of tokens: the pure function. -/
module

public import proofs.«01_k».proof.Proof.Body.Wholes
public import proofs.«01_k».proof.Proof.Body.RunC

@[expose] public section

set_option maxRecDepth 16384

noncomputable section

namespace Cert.KernelIdeal.Body

open Cert.KernelIdeal Cert.KernelIdeal.Gen
open Idealize.ShloMosaic

variable {F : FTy → Type} [FloatOps F] [Named F]

set_option maxHeartbeats 4000000 in
theorem runC_eq (c : Dev nD) (i : grid0.Coords) (B : Bufs) (hc1 : ¬k0_cond1 i = 1#1) (hc4 : k0_cond4 i = 1#1) (hc5 : k0_cond5 i = 1#1) (hc6 : k0_cond6 i = 1#1) (hc7 : ¬k0_cond7 i = 1#1) (x : In F) (z : St F) :
    (runC c i B hc1 hc4 hc5 hc6 hc7 x z).1 = lastColumn x (dgfPart x (core i x (firstBlock i z))) (core i x (firstBlock i z)) := by
  have o1 := off1_eq i
  have o2 : k0_off2 i = ![(⟨(i 1).val % 2, Nat.mod_lt _ (by decide)⟩ : Fin 2).val, 0, 0] := off2_eq i
  have o3 : k0_off3 i = ![(⟨1 - (i 1).val % 2, by omega⟩ : Fin 2).val, 0, 0] := off3_eq i
  have o4 := off4_eq i
  have o14 : k0_off1 i = k0_off4 i := o1.trans o4.symm
  have l4 : ∀ {M : Memref sig .tc .vmem S11x8x256 .f32} (h : M.IsWhole) (x : Vec F S11x8x256 .f32) (inb : _),
      View.readAt (Elt F) M.view (Rect.unit (s := S11x8x256) (k0_off4 i) S1x8x256.size inb).toLoadRect (h.unread x) = slab (n := 11) x (i 1) :=
    fun h x inb => load_slab h x o4 inb
  have l2 : ∀ {M : Memref sig .tc .vmem S2x512x256 .f32} (h : M.IsWhole) (x : Vec F S2x512x256 .f32) (inb : _),
      View.readAt (Elt F) M.view (Rect.unit (s := S2x512x256) (k0_off2 i) S1x512x256.size inb).toLoadRect (h.unread x)
        = slab x ⟨(i 1).val % 2, Nat.mod_lt _ (by decide)⟩ :=
    fun h x inb => load_slab h x o2 inb
  have w4 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) S1x8x256.size inb, w⟩ :: L))
        = setSlab (n := 11) (M.view.read (Elt F) (M.view.writes (Elt F) f L)) (i 1) w :=
    fun f inb w L => store_slab_cons f o4 inb w L
  have w1 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) S1x8x256.size inb, w⟩ :: L))
        = setSlab (n := 11) (M.view.read (Elt F) (M.view.writes (Elt F) f L)) (i 1) w :=
    fun f inb w L => store_slab_cons f o1 inb w L
  have w3 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) (k0_off3 i) S1x512x256.size inb, w⟩ :: L))
        = setSlab (M.view.read (Elt F) (M.view.writes (Elt F) f L)) ⟨1 - (i 1).val % 2, by omega⟩ w :=
    fun f inb w L => store_slab_cons f o3 inb w L
  have w0 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) ![0, 0, 0] S1x512x256.size inb, w⟩ :: L))
        = setSlab (M.view.read (Elt F) (M.view.writes (Elt F) f L)) 0 w :=
    fun f inb w L => store_slab_cons (j := 0) f rfl inb w L
  have r4 : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) S1x8x256.size inb').toLoadRect = w :=
    fun v inb inb' w L => reload_slab v rfl inb inb' w L
  have r1 : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) S1x8x256.size inb').toLoadRect = w :=
    fun v inb inb' w L => reload_slab v o14 inb inb' w L
  have r4x : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) ![1, 8, 256] inb').toLoadRect = w :=
    fun v inb inb' w L => reload_slab v rfl inb inb' w L
  have r4y : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) ![1, 8, 256] inb').toLoadRect = w :=
    fun v inb inb' w L => reload_slab v rfl inb inb' w L
  have r4z : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) S1x8x256.size inb').toLoadRect = w :=
    fun v inb inb' w L => reload_slab v rfl inb inb' w L
  have r1x : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) ![1, 8, 256] inb').toLoadRect = w :=
    fun v inb inb' w L => reload_slab v o14 inb inb' w L
  have r1y : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) ![1, 8, 256] inb').toLoadRect = w :=
    fun v inb inb' w L => reload_slab v o14 inb inb' w L
  have r1z : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) S1x8x256.size inb').toLoadRect = w :=
    fun v inb inb' w L => reload_slab v o14 inb inb' w L
  have w1x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) ![1, 8, 256] inb, w⟩ :: L))
        = setSlab (n := 11) (M.view.read (Elt F) (M.view.writes (Elt F) f L)) (i 1) w :=
    fun f inb w L => store_slab_cons f o1 inb w L
  have w4x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) ![1, 8, 256] inb, w⟩ :: L))
        = setSlab (n := 11) (M.view.read (Elt F) (M.view.writes (Elt F) f L)) (i 1) w :=
    fun f inb w L => store_slab_cons f o4 inb w L
  have l4x : ∀ {M : Memref sig .tc .vmem S11x8x256 .f32} (h : M.IsWhole) (x : Vec F S11x8x256 .f32) (inb : _),
      View.readAt (Elt F) M.view (Rect.unit (s := S11x8x256) (k0_off4 i) ![1, 8, 256] inb).toLoadRect (h.unread x) = slab (n := 11) x (i 1) :=
    fun h x inb => load_slab h x o4 inb
  have e1 : ∀ (x : Vec F S11x8x256 .f32) (w : Vec F S1x8x256 .f32), slab (n := 11) (setSlab (n := 11) x (i 1) w) (i 1) = w :=
    fun x w => slab_setSlab x (i 1) w
  have q0 : ∀ {M : Memref sig .tc .vmem S8x256 .f32} (h : M.IsWhole) (x : Vec F S8x256 .f32) (inb : _),
      View.readAt (Elt F) M.view (Rect.unit (s := S8x256) ![6, 0] S1x256.size inb).toLoadRect (h.unread x) = row x 6 := fun h x inb => load_row h x 6 rfl inb
  have q1 : ∀ {M : Memref sig .tc .vmem S8x256 .f32} (h : M.IsWhole) (x : Vec F S8x256 .f32) (inb : _),
      View.readAt (Elt F) M.view (Rect.unit (s := S8x256) ![7, 0] S1x256.size inb).toLoadRect (h.unread x) = row x 7 := fun h x inb => load_row h x 7 rfl inb
  have q2 : ∀ {M : Memref sig .tc .vmem S3x256 .f32} (h : M.IsWhole) (x : Vec F S3x256 .f32) (inb : _),
      View.readAt (Elt F) M.view (Rect.unit (s := S3x256) ![0, 0] S1x256.size inb).toLoadRect (h.unread x) = row x 0 := fun h x inb => load_row h x 0 rfl inb
  have q3 : ∀ {M : Memref sig .tc .vmem S3x256 .f32} (h : M.IsWhole) (x : Vec F S3x256 .f32) (inb : _),
      View.readAt (Elt F) M.view (Rect.unit (s := S3x256) ![1, 0] S1x256.size inb).toLoadRect (h.unread x) = row x 1 := fun h x inb => load_row h x 1 rfl inb
  have q4 : ∀ {M : Memref sig .tc .vmem S3x256 .f32} (h : M.IsWhole) (x : Vec F S3x256 .f32) (inb : _),
      View.readAt (Elt F) M.view (Rect.unit (s := S3x256) ![2, 0] S1x256.size inb).toLoadRect (h.unread x) = row x 2 := fun h x inb => load_row h x 2 rfl inb
  unfold runC rawC lastColumn dgfPart core firstBlock
  dsimp only
  congr 1 <;>
  simp only [rawC.sl.H28_1, rawC.sl.H30_1, rawC.sl.H31_1, rawC.sl.H32_1, rawC.sl.H33_1, rawC.sl.H34_1, rawC.sl.H34_2, rawC.sl.H35_1, rawC.sl.H35_2, rawC.sl.cst_54, rawC.sl.r, rawC.sl.r_1, rawC.sl.r_10, rawC.sl.r_11, rawC.sl.r_12, rawC.sl.r_13, rawC.sl.r_14, rawC.sl.r_15, rawC.sl.r_16, rawC.sl.r_17, rawC.sl.r_18, rawC.sl.r_19, rawC.sl.r_2, rawC.sl.r_20, rawC.sl.r_21, rawC.sl.r_22, rawC.sl.r_23, rawC.sl.r_24, rawC.sl.r_25, rawC.sl.r_26, rawC.sl.r_27, rawC.sl.r_28, rawC.sl.r_29, rawC.sl.r_3, rawC.sl.r_30, rawC.sl.r_31, rawC.sl.r_32, rawC.sl.r_33, rawC.sl.r_34, rawC.sl.r_35, rawC.sl.r_4, rawC.sl.r_5, rawC.sl.r_6, rawC.sl.r_7, rawC.sl.r_8, rawC.sl.r_9, rawC.sl.v0, rawC.sl.v1, rawC.sl.v100, rawC.sl.v103, rawC.sl.v107, rawC.sl.v140, rawC.sl.v142, rawC.sl.v147, rawC.sl.v151, rawC.sl.v185, rawC.sl.v2, rawC.sl.v22, rawC.sl.v23, rawC.sl.v282, rawC.sl.v290, rawC.sl.v296, rawC.sl.v31, rawC.sl.v32, rawC.sl.v33, rawC.sl.v36, rawC.sl.v37, rawC.sl.v393, rawC.sl.v401, rawC.sl.v409, rawC.sl.v410, rawC.sl.v411, rawC.sl.v415, rawC.sl.v416, rawC.sl.v420, rawC.sl.v421, rawC.sl.v448, rawC.sl.v45, rawC.sl.v48, rawC.sl.v52, rawC.sl.v85, rawC.sl.v87, rawC.sl.v92, rawC.sl.v96,
    load_whole, l4, l2, load_S512x1024_f32, store_S512x1024_f32, reload_S512x1024_f32, load_S512x1024_bf16, store_S512x1024_bf16, reload_S512x1024_bf16, load_S256x1024_bf16, store_S256x1024_bf16, reload_S256x1024_bf16, load_S256x1024_f32, store_S256x1024_f32, reload_S256x1024_f32, load_S512x256_f32, store_S512x256_f32, reload_S512x256_f32, load_S512x256_bf16, store_S512x256_bf16, reload_S512x256_bf16, load_S256x512_bf16, store_S256x512_bf16, reload_S256x512_bf16, load_S1x256_f32, store_S1x256_f32, reload_S1x256_f32, load_S1x1024_f32, store_S1x1024_f32, reload_S1x1024_f32, load_S1x8x256_f32, store_S1x8x256_f32, reload_S1x8x256_f32, load_S8x256_f32, store_S8x256_f32, reload_S8x256_f32, w4, w1, w3, w0, e1, r4, r1, r4x, r4y, r4z, r1x, r1y, r1z, w1x, w4x, l4x, q0, q1, q2, q3, q4, View.readCov_full, View.read_writes_full, View.writes_nil, Memref.IsWhole.read_unread,
    slab_setSlab, setSlab_setSlab, daOf, dGate0T, dGate0, dUp0T, dUp0, tabG, tabU, dGate, dUp, gate, up, g0, g1, g2, u0, u1, u2, seqStart, rowNo]

end Cert.KernelIdeal.Body

end
-- ==== Proof.Body.ClosedD.lean ====
/- What the run leaves AT the first column of a later block of tokens: the pure function. -/
module

public import proofs.«01_k».proof.Proof.Body.Wholes
public import proofs.«01_k».proof.Proof.Body.RunD

@[expose] public section

set_option maxRecDepth 16384

noncomputable section

namespace Cert.KernelIdeal.Body

open Cert.KernelIdeal Cert.KernelIdeal.Gen
open Idealize.ShloMosaic

variable {F : FTy → Type} [FloatOps F] [Named F]

set_option maxHeartbeats 4000000 in
theorem runD_eq (c : Dev nD) (i : grid0.Coords) (B : Bufs) (hc1 : k0_cond1 i = 1#1) (hc2 : ¬k0_cond2 i = 1#1) (hc3 : k0_cond3 i = 1#1) (hc4 : ¬k0_cond4 i = 1#1) (hc5 : ¬k0_cond5 i = 1#1) (x : In F) (z : St F) :
    (runD c i B hc1 hc2 hc3 hc4 hc5 x z).1 = core i x (firstColumn x (k0_pay18 (k0_pay8 x.x0 x.x1) z.dgp) z) := by
  have o1 := off1_eq i
  have o2 : k0_off2 i = ![(⟨(i 1).val % 2, Nat.mod_lt _ (by decide)⟩ : Fin 2).val, 0, 0] := off2_eq i
  have o3 : k0_off3 i = ![(⟨1 - (i 1).val % 2, by omega⟩ : Fin 2).val, 0, 0] := off3_eq i
  have o4 := off4_eq i
  have o14 : k0_off1 i = k0_off4 i := o1.trans o4.symm
  have p0 : (i 1).val % 2 = 0 := by
    have h := congrFun (off2_first i hc1) 0; rw [off2_eq] at h; exact h
  have o02 : (![0, 0, 0] : Fin 3 → ℕ) = k0_off2 i := (off2_first i hc1).symm
  have s0 : (⟨(i 1).val % 2, Nat.mod_lt _ (by decide)⟩ : Fin 2) = 0 := Fin.ext p0
  have l4 : ∀ {M : Memref sig .tc .vmem S11x8x256 .f32} (h : M.IsWhole) (x : Vec F S11x8x256 .f32) (inb : _),
      View.readAt (Elt F) M.view (Rect.unit (s := S11x8x256) (k0_off4 i) S1x8x256.size inb).toLoadRect (h.unread x) = slab (n := 11) x (i 1) :=
    fun h x inb => load_slab h x o4 inb
  have l2 : ∀ {M : Memref sig .tc .vmem S2x512x256 .f32} (h : M.IsWhole) (x : Vec F S2x512x256 .f32) (inb : _),
      View.readAt (Elt F) M.view (Rect.unit (s := S2x512x256) (k0_off2 i) S1x512x256.size inb).toLoadRect (h.unread x)
        = slab x ⟨(i 1).val % 2, Nat.mod_lt _ (by decide)⟩ :=
    fun h x inb => load_slab h x o2 inb
  have w4 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) S1x8x256.size inb, w⟩ :: L))
        = setSlab (n := 11) (M.view.read (Elt F) (M.view.writes (Elt F) f L)) (i 1) w :=
    fun f inb w L => store_slab_cons f o4 inb w L
  have w1 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) S1x8x256.size inb, w⟩ :: L))
        = setSlab (n := 11) (M.view.read (Elt F) (M.view.writes (Elt F) f L)) (i 1) w :=
    fun f inb w L => store_slab_cons f o1 inb w L
  have w3 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) (k0_off3 i) S1x512x256.size inb, w⟩ :: L))
        = setSlab (M.view.read (Elt F) (M.view.writes (Elt F) f L)) ⟨1 - (i 1).val % 2, by omega⟩ w :=
    fun f inb w L => store_slab_cons f o3 inb w L
  have w0 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) ![0, 0, 0] S1x512x256.size inb, w⟩ :: L))
        = setSlab (M.view.read (Elt F) (M.view.writes (Elt F) f L)) 0 w :=
    fun f inb w L => store_slab_cons (j := 0) f rfl inb w L
  have r4 : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) S1x8x256.size inb').toLoadRect = w :=
    fun v inb inb' w L => reload_slab v rfl inb inb' w L
  have r1 : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) S1x8x256.size inb').toLoadRect = w :=
    fun v inb inb' w L => reload_slab v o14 inb inb' w L
  have r4x : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) ![1, 8, 256] inb').toLoadRect = w :=
    fun v inb inb' w L => reload_slab v rfl inb inb' w L
  have r4y : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) ![1, 8, 256] inb').toLoadRect = w :=
    fun v inb inb' w L => reload_slab v rfl inb inb' w L
  have r4z : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) S1x8x256.size inb').toLoadRect = w :=
    fun v inb inb' w L => reload_slab v rfl inb inb' w L
  have r1x : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) ![1, 8, 256] inb').toLoadRect = w :=
    fun v inb inb' w L => reload_slab v o14 inb inb' w L
  have r1y : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) ![1, 8, 256] inb').toLoadRect = w :=
    fun v inb inb' w L => reload_slab v o14 inb inb' w L
  have r1z : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) S1x8x256.size inb').toLoadRect = w :=
    fun v inb inb' w L => reload_slab v o14 inb inb' w L
  have w1x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) ![1, 8, 256] inb, w⟩ :: L))
        = setSlab (n := 11) (M.view.read (Elt F) (M.view.writes (Elt F) f L)) (i 1) w :=
    fun f inb w L => store_slab_cons f o1 inb w L
  have w4x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) ![1, 8, 256] inb, w⟩ :: L))
        = setSlab (n := 11) (M.view.read (Elt F) (M.view.writes (Elt F) f L)) (i 1) w :=
    fun f inb w L => store_slab_cons f o4 inb w L
  have l4x : ∀ {M : Memref sig .tc .vmem S11x8x256 .f32} (h : M.IsWhole) (x : Vec F S11x8x256 .f32) (inb : _),
      View.readAt (Elt F) M.view (Rect.unit (s := S11x8x256) (k0_off4 i) ![1, 8, 256] inb).toLoadRect (h.unread x) = slab (n := 11) x (i 1) :=
    fun h x inb => load_slab h x o4 inb
  have e1 : ∀ (x : Vec F S11x8x256 .f32) (w : Vec F S1x8x256 .f32), slab (n := 11) (setSlab (n := 11) x (i 1) w) (i 1) = w :=
    fun x w => slab_setSlab x (i 1) w
  have q0 : ∀ {M : Memref sig .tc .vmem S8x256 .f32} (h : M.IsWhole) (x : Vec F S8x256 .f32) (inb : _),
      View.readAt (Elt F) M.view (Rect.unit (s := S8x256) ![6, 0] S1x256.size inb).toLoadRect (h.unread x) = row x 6 := fun h x inb => load_row h x 6 rfl inb
  have q1 : ∀ {M : Memref sig .tc .vmem S8x256 .f32} (h : M.IsWhole) (x : Vec F S8x256 .f32) (inb : _),
      View.readAt (Elt F) M.view (Rect.unit (s := S8x256) ![7, 0] S1x256.size inb).toLoadRect (h.unread x) = row x 7 := fun h x inb => load_row h x 7 rfl inb
  have q2 : ∀ {M : Memref sig .tc .vmem S3x256 .f32} (h : M.IsWhole) (x : Vec F S3x256 .f32) (inb : _),
      View.readAt (Elt F) M.view (Rect.unit (s := S3x256) ![0, 0] S1x256.size inb).toLoadRect (h.unread x) = row x 0 := fun h x inb => load_row h x 0 rfl inb
  have q3 : ∀ {M : Memref sig .tc .vmem S3x256 .f32} (h : M.IsWhole) (x : Vec F S3x256 .f32) (inb : _),
      View.readAt (Elt F) M.view (Rect.unit (s := S3x256) ![1, 0] S1x256.size inb).toLoadRect (h.unread x) = row x 1 := fun h x inb => load_row h x 1 rfl inb
  have q4 : ∀ {M : Memref sig .tc .vmem S3x256 .f32} (h : M.IsWhole) (x : Vec F S3x256 .f32) (inb : _),
      View.readAt (Elt F) M.view (Rect.unit (s := S3x256) ![2, 0] S1x256.size inb).toLoadRect (h.unread x) = row x 2 := fun h x inb => load_row h x 2 rfl inb
  have r0 : ∀ (v : View sig .tc .vmem S2x512x256 .f32) (inb inb' : _) (w : Vec F S1x512x256 .f32) (L : List (View.Piece (Elt F) S2x512x256 .f32)),
      v.readCov (⟨Rect.unit (s := S2x512x256) ![0, 0, 0] S1x512x256.size inb, w⟩ :: L) (Rect.unit (s := S2x512x256) (k0_off2 i) S1x512x256.size inb').toLoadRect = w :=
    fun v inb inb' w L => reload_slab v o02 inb inb' w L
  unfold runD rawD core firstColumn
  dsimp only
  congr 1 <;>
  simp only [rawD.sl.H27_1, rawD.sl.H28_1, rawD.sl.H29_1, rawD.sl.H30_1, rawD.sl.H31_1, rawD.sl.H34_1, rawD.sl.H35_1, rawD.sl.cst_154, rawD.sl.cst_155, rawD.sl.cst_156, rawD.sl.cst_157, rawD.sl.cst_54, rawD.sl.r, rawD.sl.r_1, rawD.sl.r_10, rawD.sl.r_11, rawD.sl.r_12, rawD.sl.r_13, rawD.sl.r_14, rawD.sl.r_15, rawD.sl.r_16, rawD.sl.r_17, rawD.sl.r_18, rawD.sl.r_19, rawD.sl.r_2, rawD.sl.r_20, rawD.sl.r_21, rawD.sl.r_22, rawD.sl.r_23, rawD.sl.r_24, rawD.sl.r_25, rawD.sl.r_26, rawD.sl.r_27, rawD.sl.r_28, rawD.sl.r_29, rawD.sl.r_3, rawD.sl.r_30, rawD.sl.r_31, rawD.sl.r_32, rawD.sl.r_4, rawD.sl.r_5, rawD.sl.r_6, rawD.sl.r_7, rawD.sl.r_8, rawD.sl.r_9, rawD.sl.v0, rawD.sl.v1, rawD.sl.v100, rawD.sl.v103, rawD.sl.v107, rawD.sl.v140, rawD.sl.v142, rawD.sl.v147, rawD.sl.v151, rawD.sl.v2, rawD.sl.v20, rawD.sl.v22, rawD.sl.v23, rawD.sl.v290, rawD.sl.v31, rawD.sl.v32, rawD.sl.v33, rawD.sl.v36, rawD.sl.v37, rawD.sl.v393, rawD.sl.v401, rawD.sl.v409, rawD.sl.v410, rawD.sl.v411, rawD.sl.v412, rawD.sl.v413, rawD.sl.v414, rawD.sl.v415, rawD.sl.v416, rawD.sl.v417, rawD.sl.v418, rawD.sl.v419, rawD.sl.v420, rawD.sl.v421, rawD.sl.v422, rawD.sl.v423, rawD.sl.v424, rawD.sl.v425, rawD.sl.v426, rawD.sl.v427, rawD.sl.v428, rawD.sl.v429, rawD.sl.v430, rawD.sl.v431, rawD.sl.v433, rawD.sl.v434, rawD.sl.v435, rawD.sl.v436, rawD.sl.v438, rawD.sl.v439, rawD.sl.v440, rawD.sl.v441, rawD.sl.v442, rawD.sl.v445, rawD.sl.v446, rawD.sl.v447, rawD.sl.v45, rawD.sl.v456, rawD.sl.v470, rawD.sl.v48, rawD.sl.v52, rawD.sl.v85, rawD.sl.v87, rawD.sl.v92, rawD.sl.v96,
    load_whole, l4, l2, load_S512x1024_f32, store_S512x1024_f32, reload_S512x1024_f32, load_S512x1024_bf16, store_S512x1024_bf16, reload_S512x1024_bf16, load_S256x1024_bf16, store_S256x1024_bf16, reload_S256x1024_bf16, load_S256x1024_f32, store_S256x1024_f32, reload_S256x1024_f32, load_S512x256_f32, store_S512x256_f32, reload_S512x256_f32, load_S512x256_bf16, store_S512x256_bf16, reload_S512x256_bf16, load_S256x512_bf16, store_S256x512_bf16, reload_S256x512_bf16, load_S1x256_f32, store_S1x256_f32, reload_S1x256_f32, load_S1x1024_f32, store_S1x1024_f32, reload_S1x1024_f32, load_S1x8x256_f32, store_S1x8x256_f32, reload_S1x8x256_f32, load_S8x256_f32, store_S8x256_f32, reload_S8x256_f32, w4, w1, w3, w0, e1, r4, r1, r4x, r4y, r4z, r1x, r1y, r1z, w1x, w4x, l4x, q0, q1, q2, q3, q4, r0, s0, View.readCov_full, View.read_writes_full, View.writes_nil, Memref.IsWhole.read_unread,
    slab_setSlab, setSlab_setSlab, daOf, dGate0T, dGate0, dUp0T, dUp0, tabG, tabU, dGate, dUp, gate, up, g0, g1, g2, u0, u1, u2, seqStart, rowNo,
    k0_pay5, k0_pay6, k0_pay7, k0_pay8, k0_pay9, k0_pay10, k0_pay11]

end Cert.KernelIdeal.Body

end
-- ==== Proof.Body.ClosedE.lean ====
/- What the run leaves AT an inner column of a later block of tokens: the pure function. -/
module

public import proofs.«01_k».proof.Proof.Body.Wholes
public import proofs.«01_k».proof.Proof.Body.RunE

@[expose] public section

set_option maxRecDepth 16384

noncomputable section

namespace Cert.KernelIdeal.Body

open Cert.KernelIdeal Cert.KernelIdeal.Gen
open Idealize.ShloMosaic

variable {F : FTy → Type} [FloatOps F] [Named F]

set_option maxHeartbeats 4000000 in
theorem runE_eq (c : Dev nD) (i : grid0.Coords) (B : Bufs) (hc1 : ¬k0_cond1 i = 1#1) (hc4 : ¬k0_cond4 i = 1#1) (hc5 : ¬k0_cond5 i = 1#1) (x : In F) (z : St F) :
    (runE c i B hc1 hc4 hc5 x z).1 = core i x z := by
  have o1 := off1_eq i
  have o2 : k0_off2 i = ![(⟨(i 1).val % 2, Nat.mod_lt _ (by decide)⟩ : Fin 2).val, 0, 0] := off2_eq i
  have o3 : k0_off3 i = ![(⟨1 - (i 1).val % 2, by omega⟩ : Fin 2).val, 0, 0] := off3_eq i
  have o4 := off4_eq i
  have o14 : k0_off1 i = k0_off4 i := o1.trans o4.symm
  have l4 : ∀ {M : Memref sig .tc .vmem S11x8x256 .f32} (h : M.IsWhole) (x : Vec F S11x8x256 .f32) (inb : _),
      View.readAt (Elt F) M.view (Rect.unit (s := S11x8x256) (k0_off4 i) S1x8x256.size inb).toLoadRect (h.unread x) = slab (n := 11) x (i 1) :=
    fun h x inb => load_slab h x o4 inb
  have l2 : ∀ {M : Memref sig .tc .vmem S2x512x256 .f32} (h : M.IsWhole) (x : Vec F S2x512x256 .f32) (inb : _),
      View.readAt (Elt F) M.view (Rect.unit (s := S2x512x256) (k0_off2 i) S1x512x256.size inb).toLoadRect (h.unread x)
        = slab x ⟨(i 1).val % 2, Nat.mod_lt _ (by decide)⟩ :=
    fun h x inb => load_slab h x o2 inb
  have w4 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) S1x8x256.size inb, w⟩ :: L))
        = setSlab (n := 11) (M.view.read (Elt F) (M.view.writes (Elt F) f L)) (i 1) w :=
    fun f inb w L => store_slab_cons f o4 inb w L
  have w1 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) S1x8x256.size inb, w⟩ :: L))
        = setSlab (n := 11) (M.view.read (Elt F) (M.view.writes (Elt F) f L)) (i 1) w :=
    fun f inb w L => store_slab_cons f o1 inb w L
  have w3 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) (k0_off3 i) S1x512x256.size inb, w⟩ :: L))
        = setSlab (M.view.read (Elt F) (M.view.writes (Elt F) f L)) ⟨1 - (i 1).val % 2, by omega⟩ w :=
    fun f inb w L => store_slab_cons f o3 inb w L
  have w0 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) ![0, 0, 0] S1x512x256.size inb, w⟩ :: L))
        = setSlab (M.view.read (Elt F) (M.view.writes (Elt F) f L)) 0 w :=
    fun f inb w L => store_slab_cons (j := 0) f rfl inb w L
  have r4 : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) S1x8x256.size inb').toLoadRect = w :=
    fun v inb inb' w L => reload_slab v rfl inb inb' w L
  have r1 : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) S1x8x256.size inb').toLoadRect = w :=
    fun v inb inb' w L => reload_slab v o14 inb inb' w L
  have r4x : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) ![1, 8, 256] inb').toLoadRect = w :=
    fun v inb inb' w L => reload_slab v rfl inb inb' w L
  have r4y : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) ![1, 8, 256] inb').toLoadRect = w :=
    fun v inb inb' w L => reload_slab v rfl inb inb' w L
  have r4z : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) S1x8x256.size inb').toLoadRect = w :=
    fun v inb inb' w L => reload_slab v rfl inb inb' w L
  have r1x : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) ![1, 8, 256] inb').toLoadRect = w :=
    fun v inb inb' w L => reload_slab v o14 inb inb' w L
  have r1y : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) ![1, 8, 256] inb').toLoadRect = w :=
    fun v inb inb' w L => reload_slab v o14 inb inb' w L
  have r1z : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) S1x8x256.size inb').toLoadRect = w :=
    fun v inb inb' w L => reload_slab v o14 inb inb' w L
  have w1x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) ![1, 8, 256] inb, w⟩ :: L))
        = setSlab (n := 11) (M.view.read (Elt F) (M.view.writes (Elt F) f L)) (i 1) w :=
    fun f inb w L => store_slab_cons f o1 inb w L
  have w4x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) ![1, 8, 256] inb, w⟩ :: L))
        = setSlab (n := 11) (M.view.read (Elt F) (M.view.writes (Elt F) f L)) (i 1) w :=
    fun f inb w L => store_slab_cons f o4 inb w L
  have l4x : ∀ {M : Memref sig .tc .vmem S11x8x256 .f32} (h : M.IsWhole) (x : Vec F S11x8x256 .f32) (inb : _),
      View.readAt (Elt F) M.view (Rect.unit (s := S11x8x256) (k0_off4 i) ![1, 8, 256] inb).toLoadRect (h.unread x) = slab (n := 11) x (i 1) :=
    fun h x inb => load_slab h x o4 inb
  have e1 : ∀ (x : Vec F S11x8x256 .f32) (w : Vec F S1x8x256 .f32), slab (n := 11) (setSlab (n := 11) x (i 1) w) (i 1) = w :=
    fun x w => slab_setSlab x (i 1) w
  have q0 : ∀ {M : Memref sig .tc .vmem S8x256 .f32} (h : M.IsWhole) (x : Vec F S8x256 .f32) (inb : _),
      View.readAt (Elt F) M.view (Rect.unit (s := S8x256) ![6, 0] S1x256.size inb).toLoadRect (h.unread x) = row x 6 := fun h x inb => load_row h x 6 rfl inb
  have q1 : ∀ {M : Memref sig .tc .vmem S8x256 .f32} (h : M.IsWhole) (x : Vec F S8x256 .f32) (inb : _),
      View.readAt (Elt F) M.view (Rect.unit (s := S8x256) ![7, 0] S1x256.size inb).toLoadRect (h.unread x) = row x 7 := fun h x inb => load_row h x 7 rfl inb
  have q2 : ∀ {M : Memref sig .tc .vmem S3x256 .f32} (h : M.IsWhole) (x : Vec F S3x256 .f32) (inb : _),
      View.readAt (Elt F) M.view (Rect.unit (s := S3x256) ![0, 0] S1x256.size inb).toLoadRect (h.unread x) = row x 0 := fun h x inb => load_row h x 0 rfl inb
  have q3 : ∀ {M : Memref sig .tc .vmem S3x256 .f32} (h : M.IsWhole) (x : Vec F S3x256 .f32) (inb : _),
      View.readAt (Elt F) M.view (Rect.unit (s := S3x256) ![1, 0] S1x256.size inb).toLoadRect (h.unread x) = row x 1 := fun h x inb => load_row h x 1 rfl inb
  have q4 : ∀ {M : Memref sig .tc .vmem S3x256 .f32} (h : M.IsWhole) (x : Vec F S3x256 .f32) (inb : _),
      View.readAt (Elt F) M.view (Rect.unit (s := S3x256) ![2, 0] S1x256.size inb).toLoadRect (h.unread x) = row x 2 := fun h x inb => load_row h x 2 rfl inb
  unfold runE rawE core
  dsimp only
  congr 1 <;>
  simp only [rawE.sl.H34_1, rawE.sl.H35_1, rawE.sl.cst_54, rawE.sl.r, rawE.sl.r_1, rawE.sl.r_10, rawE.sl.r_11, rawE.sl.r_12, rawE.sl.r_13, rawE.sl.r_14, rawE.sl.r_15, rawE.sl.r_16, rawE.sl.r_17, rawE.sl.r_18, rawE.sl.r_19, rawE.sl.r_2, rawE.sl.r_20, rawE.sl.r_21, rawE.sl.r_22, rawE.sl.r_23, rawE.sl.r_24, rawE.sl.r_25, rawE.sl.r_26, rawE.sl.r_27, rawE.sl.r_28, rawE.sl.r_29, rawE.sl.r_3, rawE.sl.r_30, rawE.sl.r_31, rawE.sl.r_32, rawE.sl.r_4, rawE.sl.r_5, rawE.sl.r_6, rawE.sl.r_7, rawE.sl.r_8, rawE.sl.r_9, rawE.sl.v0, rawE.sl.v1, rawE.sl.v100, rawE.sl.v103, rawE.sl.v107, rawE.sl.v140, rawE.sl.v142, rawE.sl.v147, rawE.sl.v151, rawE.sl.v2, rawE.sl.v22, rawE.sl.v23, rawE.sl.v290, rawE.sl.v31, rawE.sl.v32, rawE.sl.v33, rawE.sl.v36, rawE.sl.v37, rawE.sl.v393, rawE.sl.v401, rawE.sl.v45, rawE.sl.v48, rawE.sl.v52, rawE.sl.v85, rawE.sl.v87, rawE.sl.v92, rawE.sl.v96,
    load_whole, l4, l2, load_S512x1024_f32, store_S512x1024_f32, reload_S512x1024_f32, load_S512x1024_bf16, store_S512x1024_bf16, reload_S512x1024_bf16, load_S256x1024_bf16, store_S256x1024_bf16, reload_S256x1024_bf16, load_S256x1024_f32, store_S256x1024_f32, reload_S256x1024_f32, load_S512x256_f32, store_S512x256_f32, reload_S512x256_f32, load_S512x256_bf16, store_S512x256_bf16, reload_S512x256_bf16, load_S256x512_bf16, store_S256x512_bf16, reload_S256x512_bf16, load_S1x256_f32, store_S1x256_f32, reload_S1x256_f32, load_S1x1024_f32, store_S1x1024_f32, reload_S1x1024_f32, load_S1x8x256_f32, store_S1x8x256_f32, reload_S1x8x256_f32, load_S8x256_f32, store_S8x256_f32, reload_S8x256_f32, w4, w1, w3, w0, e1, r4, r1, r4x, r4y, r4z, r1x, r1y, r1z, w1x, w4x, l4x, q0, q1, q2, q3, q4, View.readCov_full, View.read_writes_full, View.writes_nil, Memref.IsWhole.read_unread,
    slab_setSlab, setSlab_setSlab, daOf, dGate0T, dGate0, dUp0T, dUp0, tabG, tabU, dGate, dUp, gate, up, g0, g1, g2, u0, u1, u2, seqStart, rowNo]

end Cert.KernelIdeal.Body

end
-- ==== Proof.Body.ClosedG.lean ====
/- What the run leaves AT the last column of a later block of tokens: the pure function. -/
module

public import proofs.«01_k».proof.Proof.Body.Wholes
public import proofs.«01_k».proof.Proof.Body.RunG

@[expose] public section

set_option maxRecDepth 16384

noncomputable section

namespace Cert.KernelIdeal.Body

open Cert.KernelIdeal Cert.KernelIdeal.Gen
open Idealize.ShloMosaic

variable {F : FTy → Type} [FloatOps F] [Named F]

set_option maxHeartbeats 4000000 in
theorem runG_eq (c : Dev nD) (i : grid0.Coords) (B : Bufs) (hc1 : ¬k0_cond1 i = 1#1) (hc4 : ¬k0_cond4 i = 1#1) (hc5 : k0_cond5 i = 1#1) (hc6 : ¬k0_cond6 i = 1#1) (hc7 : k0_cond7 i = 1#1) (x : In F) (z : St F) :
    (runG c i B hc1 hc4 hc5 hc6 hc7 x z).1 = lastColumn x (k0_pay4 (dgfPart x (core i x z)) z.dgf) (core i x z) := by
  have o1 := off1_eq i
  have o2 : k0_off2 i = ![(⟨(i 1).val % 2, Nat.mod_lt _ (by decide)⟩ : Fin 2).val, 0, 0] := off2_eq i
  have o3 : k0_off3 i = ![(⟨1 - (i 1).val % 2, by omega⟩ : Fin 2).val, 0, 0] := off3_eq i
  have o4 := off4_eq i
  have o14 : k0_off1 i = k0_off4 i := o1.trans o4.symm
  have l4 : ∀ {M : Memref sig .tc .vmem S11x8x256 .f32} (h : M.IsWhole) (x : Vec F S11x8x256 .f32) (inb : _),
      View.readAt (Elt F) M.view (Rect.unit (s := S11x8x256) (k0_off4 i) S1x8x256.size inb).toLoadRect (h.unread x) = slab (n := 11) x (i 1) :=
    fun h x inb => load_slab h x o4 inb
  have l2 : ∀ {M : Memref sig .tc .vmem S2x512x256 .f32} (h : M.IsWhole) (x : Vec F S2x512x256 .f32) (inb : _),
      View.readAt (Elt F) M.view (Rect.unit (s := S2x512x256) (k0_off2 i) S1x512x256.size inb).toLoadRect (h.unread x)
        = slab x ⟨(i 1).val % 2, Nat.mod_lt _ (by decide)⟩ :=
    fun h x inb => load_slab h x o2 inb
  have w4 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) S1x8x256.size inb, w⟩ :: L))
        = setSlab (n := 11) (M.view.read (Elt F) (M.view.writes (Elt F) f L)) (i 1) w :=
    fun f inb w L => store_slab_cons f o4 inb w L
  have w1 : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) S1x8x256.size inb, w⟩ :: L))
        = setSlab (n := 11) (M.view.read (Elt F) (M.view.writes (Elt F) f L)) (i 1) w :=
    fun f inb w L => store_slab_cons f o1 inb w L
  have w3 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) (k0_off3 i) S1x512x256.size inb, w⟩ :: L))
        = setSlab (M.view.read (Elt F) (M.view.writes (Elt F) f L)) ⟨1 - (i 1).val % 2, by omega⟩ w :=
    fun f inb w L => store_slab_cons f o3 inb w L
  have w0 : ∀ {M : Memref sig .tc .vmem S2x512x256 .f32} (f : M.view.ty.Contents (Elt F)) (inb : _) (w : Vec F S1x512x256 .f32) (L : _),
      M.view.read (Elt F) (M.view.writes (Elt F) f (⟨Rect.unit (s := S2x512x256) ![0, 0, 0] S1x512x256.size inb, w⟩ :: L))
        = setSlab (M.view.read (Elt F) (M.view.writes (Elt F) f L)) 0 w :=
    fun f inb w L => store_slab_cons (j := 0) f rfl inb w L
  have r4 : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) S1x8x256.size inb').toLoadRect = w :=
    fun v inb inb' w L => reload_slab v rfl inb inb' w L
  have r1 : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) S1x8x256.size inb').toLoadRect = w :=
    fun v inb inb' w L => reload_slab v o14 inb inb' w L
  have r4x : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) ![1, 8, 256] inb').toLoadRect = w :=
    fun v inb inb' w L => reload_slab v rfl inb inb' w L
  have r4y : ∀ (v : View sig .tc .vmem S11x8x256 .f32) (inb inb' : _) (w : Vec F S1x8x256 .f32) (L : List (View.Piece (Elt F) S11x8x256 .f32)),
      v.readCov (⟨Rect.unit (s := S11x8x256) (k0_off4 i) S1x8x256.size inb, w⟩ :: L) (Rect.unit (s := S11x8x256) (k0_off4 i) ![1, 8, 256] inb').toLoadRect = w :=
    fun v inb inb' w L => reload_slab v rfl inb inb' w L
  have r4z : ∀ (v : View sig .tc .vmem S11x8x256 .f32) (inb inb' : _) (w : Vec F S1x8x256 .f32) (L : List (View.Piece (Elt F) S11x8x256 .f32)),
      v.readCov (⟨Rect.unit (s := S11x8x256) (k0_off4 i) ![1, 8, 256] inb, w⟩ :: L) (Rect.unit (s := S11x8x256) (k0_off4 i) S1x8x256.size inb').toLoadRect = w :=
    fun v inb inb' w L => reload_slab v rfl inb inb' w L
  have r1x : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) ![1, 8, 256] inb').toLoadRect = w :=
    fun v inb inb' w L => reload_slab v o14 inb inb' w L
  have r1y : ∀ (v : View sig .tc .vmem S11x8x256 .f32) (inb inb' : _) (w : Vec F S1x8x256 .f32) (L : List (View.Piece (Elt F) S11x8x256 .f32)),
      v.readCov (⟨Rect.unit (s := S11x8x256) (k0_off1 i) S1x8x256.size inb, w⟩ :: L) (Rect.unit (s := S11x8x256) (k0_off4 i) ![1, 8, 256] inb').toLoadRect = w :=
    fun v inb inb' w L => reload_slab v o14 inb inb' w L
  have r1z : ∀ (v : View sig .tc .vmem S11x8x256 .f32) (inb inb' : _) (w : Vec F S1x8x256 .f32) (L : List (View.Piece (Elt F) S11x8x256 .f32)),
      v.readCov (⟨Rect.unit (s := S11x8x256) (k0_off1 i) ![1, 8, 256] inb, w⟩ :: L) (Rect.unit (s := S11x8x256) (k0_off4 i) S1x8x256.size inb').toLoadRect = w :=
    fun v inb inb' w L => reload_slab v o14 inb inb' w L
  have w1x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off1 i) ![1, 8, 256] inb, w⟩ :: L))
        = setSlab (n := 11) (M.view.read (Elt F) (M.view.writes (Elt F) f L)) (i 1) w :=
    fun f inb w L => store_slab_cons f o1 inb w L
  have w4x : ∀ {M : Memref sig .tc .vmem S11x8x256 .f32} (f : M.view.ty.Contents (Elt F)) (inb : _) (w : Vec F S1x8x256 .f32) (L : _),
      M.view.read (Elt F) (M.view.writes (Elt F) f (⟨Rect.unit (s := S11x8x256) (k0_off4 i) ![1, 8, 256] inb, w⟩ :: L))
        = setSlab (n := 11) (M.view.read (Elt F) (M.view.writes (Elt F) f L)) (i 1) w :=
    fun f inb w L => store_slab_cons f o4 inb w L
  have l4x : ∀ {M : Memref sig .tc .vmem S11x8x256 .f32} (h : M.IsWhole) (x : Vec F S11x8x256 .f32) (inb : _),
      View.readAt (Elt F) M.view (Rect.unit (s := S11x8x256) (k0_off4 i) ![1, 8, 256] inb).toLoadRect (h.unread x) = slab (n := 11) x (i 1) :=
    fun h x inb => load_slab h x o4 inb
  have e1 : ∀ (x : Vec F S11x8x256 .f32) (w : Vec F S1x8x256 .f32), slab (n := 11) (setSlab (n := 11) x (i 1) w) (i 1) = w :=
    fun x w => slab_setSlab x (i 1) w
  have q0 : ∀ {M : Memref sig .tc .vmem S8x256 .f32} (h : M.IsWhole) (x : Vec F S8x256 .f32) (inb : _),
      View.readAt (Elt F) M.view (Rect.unit (s := S8x256) ![6, 0] S1x256.size inb).toLoadRect (h.unread x) = row x 6 := fun h x inb => load_row h x 6 rfl inb
  have q1 : ∀ {M : Memref sig .tc .vmem S8x256 .f32} (h : M.IsWhole) (x : Vec F S8x256 .f32) (inb : _),
      View.readAt (Elt F) M.view (Rect.unit (s := S8x256) ![7, 0] S1x256.size inb).toLoadRect (h.unread x) = row x 7 := fun h x inb => load_row h x 7 rfl inb
  have q2 : ∀ {M : Memref sig .tc .vmem S3x256 .f32} (h : M.IsWhole) (x : Vec F S3x256 .f32) (inb : _),
      View.readAt (Elt F) M.view (Rect.unit (s := S3x256) ![0, 0] S1x256.size inb).toLoadRect (h.unread x) = row x 0 := fun h x inb => load_row h x 0 rfl inb
  have q3 : ∀ {M : Memref sig .tc .vmem S3x256 .f32} (h : M.IsWhole) (x : Vec F S3x256 .f32) (inb : _),
      View.readAt (Elt F) M.view (Rect.unit (s := S3x256) ![1, 0] S1x256.size inb).toLoadRect (h.unread x) = row x 1 := fun h x inb => load_row h x 1 rfl inb
  have q4 : ∀ {M : Memref sig .tc .vmem S3x256 .f32} (h : M.IsWhole) (x : Vec F S3x256 .f32) (inb : _),
      View.readAt (Elt F) M.view (Rect.unit (s := S3x256) ![2, 0] S1x256.size inb).toLoadRect (h.unread x) = row x 2 := fun h x inb => load_row h x 2 rfl inb
  unfold runG rawG lastColumn dgfPart core
  dsimp only
  congr 1 <;>
  simp only [rawG.sl.H28_1, rawG.sl.H30_1, rawG.sl.H31_1, rawG.sl.H34_1, rawG.sl.H35_1, rawG.sl.cst_54, rawG.sl.r, rawG.sl.r_1, rawG.sl.r_10, rawG.sl.r_11, rawG.sl.r_12, rawG.sl.r_13, rawG.sl.r_14, rawG.sl.r_15, rawG.sl.r_16, rawG.sl.r_17, rawG.sl.r_18, rawG.sl.r_19, rawG.sl.r_2, rawG.sl.r_20, rawG.sl.r_21, rawG.sl.r_22, rawG.sl.r_23, rawG.sl.r_24, rawG.sl.r_25, rawG.sl.r_26, rawG.sl.r_27, rawG.sl.r_28, rawG.sl.r_29, rawG.sl.r_3, rawG.sl.r_30, rawG.sl.r_31, rawG.sl.r_32, rawG.sl.r_33, rawG.sl.r_34, rawG.sl.r_35, rawG.sl.r_4, rawG.sl.r_5, rawG.sl.r_6, rawG.sl.r_7, rawG.sl.r_8, rawG.sl.r_9, rawG.sl.v0, rawG.sl.v1, rawG.sl.v100, rawG.sl.v103, rawG.sl.v107, rawG.sl.v140, rawG.sl.v142, rawG.sl.v147, rawG.sl.v151, rawG.sl.v2, rawG.sl.v22, rawG.sl.v23, rawG.sl.v290, rawG.sl.v31, rawG.sl.v32, rawG.sl.v33, rawG.sl.v36, rawG.sl.v37, rawG.sl.v393, rawG.sl.v401, rawG.sl.v409, rawG.sl.v410, rawG.sl.v411, rawG.sl.v415, rawG.sl.v416, rawG.sl.v420, rawG.sl.v421, rawG.sl.v448, rawG.sl.v45, rawG.sl.v457, rawG.sl.v48, rawG.sl.v52, rawG.sl.v85, rawG.sl.v87, rawG.sl.v92, rawG.sl.v96,
    load_whole, l4, l2, load_S512x1024_f32, store_S512x1024_f32, reload_S512x1024_f32, load_S512x1024_bf16, store_S512x1024_bf16, reload_S512x1024_bf16, load_S256x1024_bf16, store_S256x1024_bf16, reload_S256x1024_bf16, load_S256x1024_f32, store_S256x1024_f32, reload_S256x1024_f32, load_S512x256_f32, store_S512x256_f32, reload_S512x256_f32, load_S512x256_bf16, store_S512x256_bf16, reload_S512x256_bf16, load_S256x512_bf16, store_S256x512_bf16, reload_S256x512_bf16, load_S1x256_f32, store_S1x256_f32, reload_S1x256_f32, load_S1x1024_f32, store_S1x1024_f32, reload_S1x1024_f32, load_S1x8x256_f32, store_S1x8x256_f32, reload_S1x8x256_f32, load_S8x256_f32, store_S8x256_f32, reload_S8x256_f32, w4, w1, w3, w0, e1, r4, r1, r4x, r4y, r4z, r1x, r1y, r1z, w1x, w4x, l4x, q0, q1, q2, q3, q4, View.readCov_full, View.read_writes_full, View.writes_nil, Memref.IsWhole.read_unread,
    slab_setSlab, setSlab_setSlab, daOf, dGate0T, dGate0, dUp0T, dUp0, tabG, tabU, dGate, dUp, gate, up, g0, g1, g2, u0, u1, u2, seqStart, rowNo]

end Cert.KernelIdeal.Body

end
-- ==== Proof.Value.Invariant.lean ====
/-
  THE INVARIANT OF THE REGION, in real numbers: what the scratch holds before each grid point, and what each output block holds after it.
-/
module

public import proofs.«01_k».proof.Proof.Value.Blocks
public import proofs.«01_k».proof.Proof.Body.ClosedA
public import proofs.«01_k».proof.Proof.Body.ClosedB
public import proofs.«01_k».proof.Proof.Body.ClosedC
public import proofs.«01_k».proof.Proof.Body.ClosedD
public import proofs.«01_k».proof.Proof.Body.ClosedE
public import proofs.«01_k».proof.Proof.Body.ClosedG

@[expose] public section

noncomputable section

namespace Cert.KernelIdeal.Body

open Cert.KernelIdeal Cert.KernelIdeal.Gen Cert.Ffn
open Idealize.ShloMosaic Idealize.ShloMosaic.TcCoe
open Idealize.ShloMosaic.Pipeline (Dat Cfg Window)

variable {m : (ℓ : Loc nD τ sig) → Buf (Elt Ideal) ℓ} {P : Params}

/-- The gradient of the first norm's result, all columns together. -/
def dhR (P : Params) (i k : ℕ) : ℝ := dhSum P i k 11

/-- What an output block of the norm gains and of the tokens holds after the point `t`. -/
structure Kept (P : Params) (t : ℕ) (z : St Ideal) : Prop where
  dy : R2 (n := 512) (b := 1024) z.dy (fun r k => dyR P (512 * (7 - t / 11) + r) k)
  dgp : R2 (n := 1) (b := 1024) z.dgp (fun _ k => gainSum P.DX P.Y (t / 11 + 1) k)
  dx2 : t % 11 = 10 → R2 (n := 512) (b := 1024) z.dx2 (fun r k => P.DX (512 * (7 - t / 11) + r) k + rmsb (dhR P) P.X P.GF (512 * (7 - t / 11) + r) k)
  dgf : 10 ≤ t → R2 (n := 1) (b := 1024) z.dgf (fun _ k => gainSum (dhR P) P.X ((t + 1) / 11) k)

theorem Sc.of_scratch {s j : ℕ} {z y : St Ideal} (h : Sc P s j z) (e : y = { z with dy := y.dy, dug := y.dug, duu := y.duu, dcg := y.dcg, dcu := y.dcu, dgp := y.dgp, dx2 := y.dx2, dgf := y.dgf }) :
    Sc P s j y := by
  rw [e]
  exact ⟨fun hj => ⟨(h.col hj).dyS, (h.col hj).daS, (h.col hj).dhS, (h.col hj).dugS, (h.col hj).duuS⟩, ⟨h.tab.cg, h.tab.cu, h.tab.ag, h.tab.au⟩⟩

theorem lastColumn_sc {s j : ℕ} {z : St Ideal} {x : In Ideal} {g : Vec Ideal S1x1024 .f32} (h : Sc P s j z) : Sc P s j (lastColumn x g z) :=
  h.of_scratch rfl

theorem firstColumn_tab {s : ℕ} {ok done : ℕ → Prop} [DecidablePred done] {z : St Ideal} {x : In Ideal} {g : Vec Ideal S1x1024 .f32}
    (h : Tab P s ok done z) : Tab P s ok done (firstColumn x g z) := ⟨h.cg, h.cu, h.ag, h.au⟩

theorem firstBlock_col {s j : ℕ} {z : St Ideal} {i : grid0.Coords} (h : Col P s j z) : Col P s j (firstBlock i z) :=
  ⟨h.dyS, h.daS, h.dhS, h.dugS, h.duuS⟩

theorem lastColumn_out {s j : ℕ} {z : St Ideal} {x : In Ideal} {g : Vec Ideal S1x1024 .f32} (h : Out P s j z) : Out P s j (lastColumn x g z) :=
  ⟨h.dug, h.duu, h.dcg, h.dcu⟩

theorem gainSum_one (D X : ℕ → ℕ → ℝ) (k : ℕ) :
    gainSum D X 1 k = ∑ r : Fin 512, D (512 * 7 + r) k * (X (512 * 7 + r) k * rr X (512 * 7 + r)) := by
  unfold gainSum; rw [Finset.sum_range_one]

theorem gainSum_succ (D X : ℕ → ℕ → ℝ) (n k : ℕ) :
    gainSum D X (n + 1) k = gainSum D X n k + ∑ r : Fin 512, D (512 * (7 - n) + r) k * (X (512 * (7 - n) + r) k * rr X (512 * (7 - n) + r)) := by
  unfold gainSum; rw [Finset.sum_range_succ]

/-- What a point leaves. -/
def Left (P : Params) (t : ℕ) (z : St Ideal) : Prop := Sc P ((t + 1) / 11) ((t + 1) % 11) z ∧ Out P (t / 11) (t % 11) z ∧ Kept P t z

set_option maxHeartbeats 4000000 in
theorem step_left {c : Dev nD} (h : Arrs m P c) (t : Fin cfg0.N) (z : St Ideal) (hz : Sc P (t.val / 11) (t.val % 11) z)
    (k1 : t.val % 11 ≠ 0 → R2 (n := 512) (b := 1024) z.dy (fun r k => dyR P (512 * (7 - (t.val - 1) / 11) + r) k))
    (k2 : t.val ≠ 0 → R2 (n := 1) (b := 1024) z.dgp (fun _ k => gainSum P.DX P.Y ((t.val - 1) / 11 + 1) k))
    (k3 : t.val ≠ 0 → 10 ≤ t.val - 1 → R2 (n := 1) (b := 1024) z.dgf (fun _ k => gainSum (dhR P) P.X ((t.val - 1 + 1) / 11) k)) : Left P t.val (step m c t z).1 := by
  have ht : t.val < 88 := t.isLt
  have c0 := coords0 t
  have c1 := coords1 t
  have hx := at_inAt h t
  have hxi : At P (7 - ((grid0.coords t) 0).val) ((grid0.coords t) 1).val (inAt m c t) := by rw [c0, c1]; exact hx
  have hc : ∀ y : St Ideal, Mid P (t.val / 11) (t.val % 11) y → After P (t.val / 11) (t.val % 11) (core (grid0.coords t) (inAt m c t) y) := by
    intro y hy
    have := core_after (z := y) hxi (by rw [c0, c1]; exact hy)
    rw [c0, c1] at this
    exact this
  have hcol : ∀ (y : St Ideal) (g : Vec Ideal S1x1024 .f32), t.val % 11 = 0 → Col P (t.val / 11) (t.val % 11) (firstColumn (inAt m c t) g y) := by
    intro y g h0
    have := firstColumn_col (z := y) hxi (by rw [c1]; exact h0) g
    rw [c0, c1] at this
    exact this
  have htab : ∀ y : St Ideal, t.val / 11 = 0 → Tab P (t.val / 11) (fun q => q < t.val % 11 ∨ t.val / 11 ≠ 0) (fun q => q < t.val % 11) y →
      Tab P (t.val / 11) (fun q => q ≤ t.val % 11 ∨ t.val / 11 ≠ 0) (fun q => q < t.val % 11) (firstBlock (grid0.coords t) y) := by
    intro y h0 hy
    have := firstBlock_tab (P := P) (i := grid0.coords t) (z := y) (by rw [c0]; exact h0)
    simp only [c0, c1] at this
    exact this hy
  have hlast : ∀ y : St Ideal, After P (t.val / 11) (t.val % 11) y → t.val % 11 = 10 →
      R2 (n := 1) (b := 1024) (dgfPart (inAt m c t) y) (fun _ k => ∑ r : Fin 512, dhR P (512 * (7 - t.val / 11) + r) k
        * (P.X (512 * (7 - t.val / 11) + r) k * rr P.X (512 * (7 - t.val / 11) + r))) := by
    intro y hy hl
    have := dgfPart_real (z := y) hxi (by rw [c0, c1]; exact hy) (by rw [c1]; exact hl)
    rw [c0] at this
    exact this
  have hdx : ∀ (y : St Ideal) (g : Vec Ideal S1x1024 .f32), After P (t.val / 11) (t.val % 11) y → t.val % 11 = 10 →
      R2 (n := 512) (b := 1024) (lastColumn (inAt m c t) g y).dx2 (fun r k => P.DX (512 * (7 - t.val / 11) + r) k
        + rmsb (dhR P) P.X P.GF (512 * (7 - t.val / 11) + r) k) := by
    intro y g hy hl
    have := dx2_last (z := y) hxi (by rw [c0, c1]; exact hy) (by rw [c1]; exact hl) g
    rw [c0] at this
    exact this
  have hnext : ∀ y : St Ideal, After P (t.val / 11) (t.val % 11) y → t.val % 11 ≠ 10 → Sc P ((t.val + 1) / 11) ((t.val + 1) % 11) y := by
    intro y hy hl
    rw [show (t.val + 1) / 11 = t.val / 11 by omega, show (t.val + 1) % 11 = t.val % 11 + 1 by omega]
    exact hy.next hl
  have hblock : ∀ y : St Ideal, After P (t.val / 11) (t.val % 11) y → t.val % 11 = 10 → Sc P ((t.val + 1) / 11) ((t.val + 1) % 11) y := by
    intro y hy hl
    rw [show (t.val + 1) / 11 = t.val / 11 + 1 by omega, show (t.val + 1) % 11 = 0 by omega]
    rw [hl] at hy
    exact hy.nextBlock
  have hdy := pay11_real hx.x0 hx.x1 hx.x11
  have hgp := pay8_real hx.x0 hx.x1
  unfold step
  split
  · rename_i hs
    split
    · rename_i h0
      rw [runA_eq]
      have hA := hc (firstBlock (grid0.coords t) (firstColumn (inAt m c t) (k0_pay8 (inAt m c t).x0 (inAt m c t).x1) z)) ⟨firstBlock_col (hcol z _ h0), htab _ hs (firstColumn_tab hz.tab)⟩
      refine ⟨hnext _ hA (by omega), hA.out, hdy, ?_, fun h => absurd h (by omega), fun h => absurd h (by omega)⟩
      refine congr2 hgp fun r k => ?_
      rw [hs, gainSum_one]
      rfl
    · rename_i h0
      have k1 := k1 h0
      have k2 := k2 (by omega)
      have k3 := k3 (by omega)
      have e1 : (t.val - 1) / 11 = t.val / 11 := by omega
      split
      · rename_i hl
        rw [runC_eq]
        have hA := hc (firstBlock (grid0.coords t) z) ⟨firstBlock_col (hz.col h0), htab _ hs hz.tab⟩
        refine ⟨lastColumn_sc (hblock _ hA hl), lastColumn_out hA.out, by rw [← e1]; exact k1, by rw [← e1]; exact k2, fun _ => hdx _ _ hA hl, fun _ => ?_⟩
        refine congr2 (hlast _ hA hl) fun r k => ?_
        rw [hs, show (t.val + 1) / 11 = 1 by omega, gainSum_one]
      · rename_i hl
        rw [runB_eq]
        have hA := hc (firstBlock (grid0.coords t) z) ⟨firstBlock_col (hz.col h0), htab _ hs hz.tab⟩
        exact ⟨hnext _ hA hl, hA.out, by rw [← e1]; exact k1, by rw [← e1]; exact k2, fun h => absurd h hl, fun h => absurd h (by omega)⟩
  · rename_i hs
    have k2 := k2 (by omega)
    have k3 := k3 (by omega)
    split
    · rename_i h0
      rw [runD_eq]
      have hA := hc (firstColumn (inAt m c t) (k0_pay18 (k0_pay8 (inAt m c t).x0 (inAt m c t).x1) z.dgp) z) ⟨hcol z _ h0, firstColumn_tab (tab_mid hs hz.tab)⟩
      refine ⟨hnext _ hA (by omega), hA.out, hdy, ?_, fun h => absurd h (by omega), fun _ => ?_⟩
      · refine congr2 (pay18_real hgp k2) fun r k => ?_
        rw [show (t.val - 1) / 11 + 1 = t.val / 11 by omega, gainSum_succ]
        rfl
      · have := k3 (by omega)
        rw [show (t.val - 1 + 1) / 11 = (t.val + 1) / 11 by omega] at this
        exact this
    · rename_i h0
      have k1 := k1 h0
      have e1 : (t.val - 1) / 11 = t.val / 11 := by omega
      split
      · rename_i hl
        rw [runG_eq]
        have hA := hc z ⟨hz.col h0, tab_mid hs hz.tab⟩
        refine ⟨lastColumn_sc (hblock _ hA hl), lastColumn_out hA.out, by rw [← e1]; exact k1, by rw [← e1]; exact k2, fun _ => hdx _ _ hA hl, fun _ => ?_⟩
        refine congr2 (pay4_real (hlast _ hA hl) (k3 (by omega))) fun r k => ?_
        rw [show (t.val + 1) / 11 = t.val / 11 + 1 by omega, show (t.val - 1 + 1) / 11 = t.val / 11 by omega, gainSum_succ]
      · rename_i hl
        rw [runE_eq]
        have hA := hc z ⟨hz.col h0, tab_mid hs hz.tab⟩
        refine ⟨hnext _ hA hl, hA.out, by rw [← e1]; exact k1, by rw [← e1]; exact k2, fun h => absurd h hl, fun _ => ?_⟩
        have := k3 (by omega)
        rw [show (t.val - 1 + 1) / 11 = (t.val + 1) / 11 by omega] at this
        exact this

/-- The invariant. -/
def inv {c : Dev nD} (h : Arrs m P c) : Inv m c where
  S n z := Sc P (n / 11) (n % 11) z
  dy t v := R2 (n := 512) (b := 1024) v (fun r k => dyR P (512 * (7 - t.val / 11) + r) k)
  dug t v := R2 (n := 256) (b := 512) v (fun c r => back P 0 (dGateR P) (512 * (7 - t.val / 11) + r) (256 * (t.val % 11) + c))
  duu t v := R2 (n := 256) (b := 512) v (fun c r => back P 2816 (dUpR P) (512 * (7 - t.val / 11) + r) (256 * (t.val % 11) + c))
  dcg t v := R3 (a := 1) (n := 8) (b := 256) v (fun _ r c => tabSum P 0 (dGateR P) (t.val / 11 + 1) r (256 * (t.val % 11) + c))
  dcu t v := R3 (a := 1) (n := 8) (b := 256) v (fun _ r c => tabSum P 2816 (dUpR P) (t.val / 11 + 1) r (256 * (t.val % 11) + c))
  dgp t v := R2 (n := 1) (b := 1024) v (fun _ k => gainSum P.DX P.Y (t.val / 11 + 1) k)
  dx2 t v := t.val % 11 = 10 → R2 (n := 512) (b := 1024) v (fun r k => P.DX (512 * (7 - t.val / 11) + r) k + rmsb (dhR P) P.X P.GF (512 * (7 - t.val / 11) + r) k)
  dgf t v := 10 ≤ t.val → R2 (n := 1) (b := 1024) v (fun _ k => gainSum (dhR P) P.X ((t.val + 1) / 11) k)
  start z := ⟨fun h => absurd rfl h, ⟨fun q hq => absurd hq (by simp), fun q hq => absurd hq (by simp), fun q hq => absurd hq (by simp), fun q hq => absurd hq (by simp)⟩⟩
  outs n z _ _ _ _ _ _ _ _ h := h.of_scratch rfl
  step t z hz h1 h2 h3 h4 := by
    have key := step_left h t z hz h1 h2 h4
    exact ⟨key.1, key.2.2.dy, key.2.1.dug, key.2.1.duu, key.2.1.dcg, key.2.1.dcu, key.2.2.dgp, key.2.2.dx2, key.2.2.dgf⟩

end Cert.KernelIdeal.Body

end
-- ==== Proof.Value.HostRun.lean ====
/- What the host lines before the launch leave in the arrays that the kernel reads. The product of the normed input and the
   up-projection, and the projection of the gated activation, are the reference's own terms of the arguments: the two programs
   compute these lines alike. -/
module

public import proofs.«01_k».proof.Proof.Gen.ReferenceIdeal.Read
public import proofs.«01_k».proof.Proof.Gen.KernelIdeal.Frame

@[expose] public section

set_option Elab.async false

noncomputable section

namespace Cert.KernelIdeal.Host

open Cert.KernelIdeal Cert.KernelIdeal.Gen Idealize.ShloMosaic Idealize.ShloMosaic.TcCoe Idealize.ShloMosaic.StableHlo
open Cert.ReferenceIdeal.Read

variable (m : (ℓ : Loc nD τ sig) → Buf (Elt Ideal) ℓ) (c : Dev nD)

set_option maxRecDepth 8192 in
set_option maxHeartbeats 4000000 in
/-- The up-projection. -/
theorem V_up : V m c main_v13 = val_main_v16 (F := Ideal) (m ((c.tc : Thread nD τ).loc main_arg0))
    (m ((c.tc : Thread nD τ).loc main_arg1)) (m ((c.tc : Thread nD τ).loc main_arg2)) := by
  show StableHlo.after hostOps0 (fun b => m (c, b)) (Proc.devRef .tc main_v13) = _
  after_results_simp
  rfl

set_option maxRecDepth 8192 in
set_option maxHeartbeats 4000000 in
/-- The down-projection of the gated activation. -/
theorem V_down : V m c main_v56 = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps0 (fun b => m (c, b)) (Proc.devRef .tc main_v56) = _
  after_results_simp
  rfl

set_option maxRecDepth 8192 in
set_option maxHeartbeats 4000000 in
/-- The convolution's bias, as a row. -/
theorem V_bias : V m c main_v57 = shapeCast S1x5632 (m ((c.tc : Thread nD τ).loc main_arg4)) shapeCasts_S5632_S1x5632 := by
  show StableHlo.after hostOps0 (fun b => m (c, b)) (Proc.devRef .tc main_v57) = _
  after_results_simp
  rfl

set_option maxRecDepth 8192 in
set_option maxHeartbeats 4000000 in
/-- The down-projection's weights. -/
theorem V_wdown : V m c main_v58 = truncf .bf16 (F := Ideal) (m ((c.tc : Thread nD τ).loc main_arg5)) bitsLt_bf16_f32 := by
  show StableHlo.after hostOps0 (fun b => m (c, b)) (Proc.devRef .tc main_v58) = _
  after_results_simp

set_option maxRecDepth 8192 in
set_option maxHeartbeats 4000000 in
/-- The gain of the norm after, as a row. -/
theorem V_gpost : V m c main_v59 = shapeCast S1x1024 (m ((c.tc : Thread nD τ).loc main_arg6)) shapeCasts_S1024_S1x1024 := by
  show StableHlo.after hostOps0 (fun b => m (c, b)) (Proc.devRef .tc main_v59) = _
  after_results_simp
  rfl

set_option maxRecDepth 8192 in
set_option maxHeartbeats 4000000 in
/-- The up-projection's weights, transposed. -/
theorem V_wup : V m c main_v61 = truncf .bf16 (F := Ideal) (transpose S5632x1024 [1, 0] (m ((c.tc : Thread nD τ).loc main_arg2)) transposes_S1024x5632_S5632x1024_1_0) bitsLt_bf16_f32 := by
  show StableHlo.after hostOps0 (fun b => m (c, b)) (Proc.devRef .tc main_v61) = _
  after_results_simp

set_option maxRecDepth 8192 in
set_option maxHeartbeats 4000000 in
/-- The gain of the norm before, as a row. -/
theorem V_gpre : V m c main_v62 = shapeCast S1x1024 (m ((c.tc : Thread nD τ).loc main_arg1)) shapeCasts_S1024_S1x1024 := by
  show StableHlo.after hostOps0 (fun b => m (c, b)) (Proc.devRef .tc main_v62) = _
  after_results_simp
  rfl

end Cert.KernelIdeal.Host

end
-- ==== Proof.Value.RefFwd.lean ====
/-
  THE REFERENCE RUN FORWARDS, on the reals: the norm, the up projection, the convolution, the gated unit and the down projection.
-/
module

public import proofs.«01_k».proof.Proof.Gen.ReferenceIdeal.Read
public import proofs.«01_k».proof.Proof.Value.PayGrad

@[expose] public section

set_option maxHeartbeats 1000000

noncomputable section

namespace Cert.ReferenceIdeal.Read

open Cert.ReferenceIdeal Cert.Ffn Cert.KernelIdeal.Body
open Idealize.ShloMosaic Idealize.ShloMosaic.TcCoe
open Idealize.ShloMosaic.Pointwise

/-- The arguments hold the real numbers of `P`, and its two forward arrays are theirs. -/
structure Args (P : Params) (x0 : (⟨S4096x1024, .f32⟩ : BufTy).Contents (Elt Ideal)) (x1 : (⟨S1024, .f32⟩ : BufTy).Contents (Elt Ideal))
    (x2 : (⟨S1024x5632, .f32⟩ : BufTy).Contents (Elt Ideal)) (x3 : (⟨S3x5632, .f32⟩ : BufTy).Contents (Elt Ideal))
    (x4 : (⟨S5632, .f32⟩ : BufTy).Contents (Elt Ideal)) (x5 : (⟨S2816x1024, .f32⟩ : BufTy).Contents (Elt Ideal))
    (x6 : (⟨S1024, .f32⟩ : BufTy).Contents (Elt Ideal)) (x7 : (⟨S4096x1024, .f32⟩ : BufTy).Contents (Elt Ideal)) : Prop where
  x0 : R2 (n := 4096) (b := 1024) x0 P.X
  x1 : R1 (n := 1024) x1 P.GF
  x2 : R2 (n := 1024) (b := 5632) x2 P.WU
  x3 : R2 (n := 3) (b := 5632) x3 P.CW
  x4 : R1 (n := 5632) x4 P.CB
  x5 : R2 (n := 2816) (b := 1024) x5 P.WD
  x6 : R1 (n := 1024) x6 P.GP
  x7 : R2 (n := 4096) (b := 1024) x7 P.DX
  U : ∀ i c, P.U i c = ∑ k : Fin 1024, P.X i k * rr P.X i * P.GF k * P.WU k c
  Y : ∀ i k, P.Y i k = ∑ c : Fin 2816, gl (pre P i c) * pre P i (2816 + c) * P.WD c k

theorem shift_coe {U : ℕ → ℕ → ℝ} {d r n c : ℕ} (hr : d ≤ r) (e : n = r - d) :
    ((U n c : ℝ) : EReal) = ((if d ≤ r then U (r - d) c else 0 : ℝ) : EReal) := by rw [if_pos hr, e]

variable {P : Params} {x0 : (⟨S4096x1024, .f32⟩ : BufTy).Contents (Elt Ideal)} {x1 : (⟨S1024, .f32⟩ : BufTy).Contents (Elt Ideal)}
  {x2 : (⟨S1024x5632, .f32⟩ : BufTy).Contents (Elt Ideal)} {x3 : (⟨S3x5632, .f32⟩ : BufTy).Contents (Elt Ideal)}
  {x4 : (⟨S5632, .f32⟩ : BufTy).Contents (Elt Ideal)} {x5 : (⟨S2816x1024, .f32⟩ : BufTy).Contents (Elt Ideal)}
  {x6 : (⟨S1024, .f32⟩ : BufTy).Contents (Elt Ideal)} {x7 : (⟨S4096x1024, .f32⟩ : BufTy).Contents (Elt Ideal)}

theorem r6 (h : Args P x0 x1 x2 x3 x4 x5 x6 x7) : R2 (n := 4096) (b := 1) (val_main_v6 (F := Ideal) x0) (fun i _ => ms P.X i) := by
  intro r k
  pointwise [val_main_v6, val_main_v5, val_main_v4, val_main_v3, val_main_v2, val_main_v1, val_main_v0, val_main_cst, val_main_cst_0, val_main_cst_1]
  simp only [h.x0 _ _, ← EReal.coe_mul, csum]
  rw [bits_n, bits_eps, div_n, ← EReal.coe_add]
  rfl

theorem r7 (h : Args P x0 x1 x2 x3 x4 x5 x6 x7) : R2 (n := 4096) (b := 1) (val_main_v7 (F := Ideal) x0) (fun i _ => rr P.X i) := by
  intro r k
  pointwise [val_main_v7]
  rw [r6 h]
  exact rsqrt_ms _ _

theorem r10 (h : Args P x0 x1 x2 x3 x4 x5 x6 x7) : R2 (n := 4096) (b := 1) (val_main_v10 (F := Ideal) x0) (fun i _ => -(1 / 2) * (rr P.X i / ms P.X i)) := by
  intro r k
  pointwise [val_main_v10, val_main_v9, val_main_cst_2, val_main_v8]
  rw [r7 h, r6 h, bits_neg_half, div_pos _ _ (ms_pos _ _), ← EReal.coe_mul]

theorem r12 (h : Args P x0 x1 x2 x3 x4 x5 x6 x7) : R2 (n := 4096) (b := 1024) (val_main_v12 (F := Ideal) x0) (fun i k => P.X i k * rr P.X i) := by
  intro r k
  pointwise [val_main_v12, val_main_v11]
  rw [h.x0, r7 h, ← EReal.coe_mul]

theorem r15 (h : Args P x0 x1 x2 x3 x4 x5 x6 x7) : R2 (n := 4096) (b := 1024) (val_main_v15 (F := Ideal) x0 x1) (fun i k => P.X i k * rr P.X i * P.GF k) := by
  intro r k
  pointwise [val_main_v15, val_main_v14, val_main_v13]
  rw [r12 h, h.x1, ← EReal.coe_mul]

theorem r16 (h : Args P x0 x1 x2 x3 x4 x5 x6 x7) : R2 (n := 4096) (b := 5632) (val_main_v16 (F := Ideal) x0 x1 x2) (P.U) := by
  intro r k
  pointwise [val_main_v16]
  simp only [r15 h _ _, h.x2 _ _, ← EReal.coe_mul, csum]
  rw [h.U]

theorem r22 (h : Args P x0 x1 x2 x3 x4 x5 x6 x7) : R2 (n := 4096) (b := 5632) (val_main_v22 (F := Ideal) x0 x1 x2) (shift 2 P.U) := by
  intro r k
  pointwise [val_main_v22, val_main_v18, val_main_v17, val_main_cst_3]
  unfold shift
  split
  · rw [if_neg (by omega)]; rfl
  · exact (r16 h _ _).trans (shift_coe (by omega) (by first | rfl | omega | (dsimp only; omega)))

theorem r31 (h : Args P x0 x1 x2 x3 x4 x5 x6 x7) : R2 (n := 4096) (b := 5632) (val_main_v31 (F := Ideal) x0 x1 x2) (shift 1 P.U) := by
  intro r k
  pointwise [val_main_v31, val_main_v18, val_main_v17, val_main_cst_3]
  unfold shift
  split
  · rw [if_neg (by omega)]; rfl
  · exact (r16 h _ _).trans (shift_coe (by omega) (by first | rfl | omega | (dsimp only; omega)))

theorem r38 (h : Args P x0 x1 x2 x3 x4 x5 x6 x7) : R2 (n := 4096) (b := 5632) (val_main_v38 (F := Ideal) x0 x1 x2) (P.U) := by
  intro r k
  pointwise [val_main_v38, val_main_v18, val_main_v17, val_main_cst_3]
  exact r16 h _ _

theorem r42 (h : Args P x0 x1 x2 x3 x4 x5 x6 x7) : R2 (n := 4096) (b := 5632) (val_main_v42 (F := Ideal) x0 x1 x2 x3 x4) (pre P) := by
  intro r k
  pointwise [val_main_v42, val_main_v35, val_main_v28, val_main_v27, val_main_v26, val_main_v25, val_main_v24, val_main_v23, val_main_v21, val_main_v20, val_main_v34, val_main_v33, val_main_v32, val_main_v30, val_main_v29, val_main_v41, val_main_v40, val_main_v39, val_main_v37, val_main_v36]
  simp only [h.x4 _, h.x3 _ _, r22 h _ _, r31 h _ _, r38 h _ _, ← EReal.coe_mul, ← EReal.coe_add]
  rfl

theorem r43 (h : Args P x0 x1 x2 x3 x4 x5 x6 x7) : R2 (n := 4096) (b := 2816) (val_main_v43 (F := Ideal) x0 x1 x2 x3 x4) (pre P) := by
  intro r k
  pointwise [val_main_v43]
  exact (r42 h _ _).trans (by first | rfl | simp)

theorem r44 (h : Args P x0 x1 x2 x3 x4 x5 x6 x7) : R2 (n := 4096) (b := 2816) (val_main_v44 (F := Ideal) x0 x1 x2 x3 x4) (fun i c => pre P i (2816 + c)) := by
  intro r k
  pointwise [val_main_v44]
  exact (r42 h _ _).trans (congrArg (fun c => ((pre P r.val c : ℝ) : EReal)) (by first | rfl | omega | (dsimp only; omega)))

theorem quot : Ideal.div (Ideal.ofBits .f32 1194240768#32) (Ideal.ofBits .f32 1232348160#32) = ((kq : ℝ) : EReal) := by
  rw [bits_num, bits_den, div_pos _ _ (by norm_num)]
  congr 1
  norm_num [kq]

theorem r56 (h : Args P x0 x1 x2 x3 x4 x5 x6 x7) : R2 (n := 4096) (b := 2816) (val_main_v56 (F := Ideal) x0 x1 x2 x3 x4) (fun i c => th (pre P i c)) := by
  intro r k
  pointwise [val_main_v56, val_main_v55, val_main_v54, val_main_cst_8, val_main_v53, val_main_v52, val_main_v51, val_main_v47, val_main_v46, val_main_v45, val_main_cst_5, val_main_cst_6]
  rw [quot, bits_gc]
  simp only [r43 h _ _, ← EReal.coe_mul, ← EReal.coe_add]
  rw [Ideal.tanh_coe]
  congr 1
  unfold th
  congr 1
  ring

theorem r65 (h : Args P x0 x1 x2 x3 x4 x5 x6 x7) : R2 (n := 4096) (b := 2816) (val_main_v65 (F := Ideal) x0 x1 x2 x3 x4) (fun i c => 1 / 2 * (1 + th (pre P i c))) := by
  intro r k
  pointwise [val_main_v65, val_main_v64, val_main_cst_12, val_main_v63, val_main_v62, val_main_cst_11]
  rw [bits_half]
  simp only [r56 h _ _, ← EReal.coe_one, ← EReal.coe_mul, ← EReal.coe_add]

theorem r66 (h : Args P x0 x1 x2 x3 x4 x5 x6 x7) : R2 (n := 4096) (b := 2816) (val_main_v66 (F := Ideal) x0 x1 x2 x3 x4) (fun i c => gl (pre P i c)) := by
  intro r k
  pointwise [val_main_v66]
  rw [r43 h, r65 h, ← EReal.coe_mul]
  rfl

theorem r61 (h : Args P x0 x1 x2 x3 x4 x5 x6 x7) : R2 (n := 4096) (b := 2816) (val_main_v61 (F := Ideal) x0 x1 x2 x3 x4) (fun i c => (1 + th (pre P i c)) * (1 - th (pre P i c))) := by
  intro r k
  pointwise [val_main_v61, val_main_v60, val_main_v59, val_main_cst_10, val_main_v58, val_main_v57, val_main_cst_9]
  simp only [r56 h _ _, ← EReal.coe_one, ← EReal.coe_mul, ← EReal.coe_add, ← EReal.coe_sub]

theorem r68 (h : Args P x0 x1 x2 x3 x4 x5 x6 x7) : R2 (n := 4096) (b := 1024) (val_main_v68 (F := Ideal) x0 x1 x2 x3 x4 x5) (P.Y) := by
  intro r k
  pointwise [val_main_v68, val_main_v67]
  simp only [r66 h _ _, r44 h _ _, h.x5 _ _, ← EReal.coe_mul, csum]
  rw [h.Y]

end Cert.ReferenceIdeal.Read

end
-- ==== Proof.Value.Given.lean ====
/-
  THE REAL NUMBERS THAT THE ARGUMENTS HOLD. An array of finite elements is an array of real numbers; the two forward arrays are sums over
  the others; the arrays that the kernel's windows read hold these numbers.
-/
module

public import proofs.«01_k».proof.Defs
public import proofs.«01_k».proof.Proof.Gen.Pre_finite
public import proofs.«01_k».proof.Proof.Value.HostRun
public import proofs.«01_k».proof.Proof.Value.RefFwd
public import proofs.«01_k».proof.Proof.Value.Blocks

@[expose] public section

noncomputable section

namespace Cert.Ffn

open Idealize.ShloMosaic Idealize.ShloMosaic.TcCoe
open Cert.KernelIdeal.Body

/-- "Finite" as the precondition prints it: the absolute value is below the infinity. -/
abbrev Finite {s : Shape} (v : s.Idx → EReal) : Prop :=
  ∀ i, Ideal.cmp .olt (max (v i) (-(v i))) (Ideal.ofBits .f32 0x7F800000#32) = 1#1

/-- A finite value is the real number it gives. -/
theorem coe_of_finite (x : EReal) (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  unfold Ideal.cmp at h
  have hl : max x (-x) < ⊤ := by
    by_contra hn
    simp [hn] at h
  rw [max_lt_iff] at hl
  refine (EReal.coe_toReal hl.1.ne ?_).symm
  rintro rfl
  simp at hl

/-- The real numbers of an array of two axes, zero outside it. -/
def real2 {n b : ℕ} (v : (⟨2, ![n, b]⟩ : Shape).Idx → EReal) (r k : ℕ) : ℝ :=
  if h : r < n ∧ k < b then (v (ix2 ⟨r, h.1⟩ ⟨k, h.2⟩)).toReal else 0

/-- The real numbers of an array of one axis, zero outside it. -/
def real1 {n : ℕ} (v : (⟨1, ![n]⟩ : Shape).Idx → EReal) (r : ℕ) : ℝ :=
  if h : r < n then (v (ix1 ⟨r, h⟩)).toReal else 0

theorem real2_spec {n b : ℕ} {v : (⟨2, ![n, b]⟩ : Shape).Idx → EReal} (h : Finite v) : R2 v (real2 v) := fun r k => by
  unfold real2
  rw [dif_pos ⟨r.isLt, k.isLt⟩]
  exact coe_of_finite _ (h _)

theorem real1_spec {n : ℕ} {v : (⟨1, ![n]⟩ : Shape).Idx → EReal} (h : Finite v) : R1 v (real1 v) := fun r => by
  unfold real1
  rw [dif_pos r.isLt]
  exact coe_of_finite _ (h _)

/-- The parameters with the up-projection filled in. -/
def withU (Q : Params) : Params :=
  { Q with U := fun i c => ∑ k : Fin 1024, Q.X i k * rr Q.X i * Q.GF k * Q.WU k c }

/-- The parameters with the down-projection filled in. -/
def withY (Q : Params) : Params :=
  { Q with Y := fun i k => ∑ c : Fin 2816, gl (pre Q i c) * pre Q i (2816 + c) * Q.WD c k }

/-- The parameters of eight arrays. -/
def params (x0 : (⟨2, ![4096, 1024]⟩ : Shape).Idx → EReal) (x1 : (⟨1, ![1024]⟩ : Shape).Idx → EReal)
    (x2 : (⟨2, ![1024, 5632]⟩ : Shape).Idx → EReal) (x3 : (⟨2, ![3, 5632]⟩ : Shape).Idx → EReal)
    (x4 : (⟨1, ![5632]⟩ : Shape).Idx → EReal) (x5 : (⟨2, ![2816, 1024]⟩ : Shape).Idx → EReal)
    (x6 : (⟨1, ![1024]⟩ : Shape).Idx → EReal) (x7 : (⟨2, ![4096, 1024]⟩ : Shape).Idx → EReal) : Params :=
  withY (withU ⟨real2 x0, real1 x1, real2 x2, real2 x3, real1 x4, real2 x5, real1 x6, real2 x7, fun _ _ => 0, fun _ _ => 0⟩)

theorem params_args {x0 : (⟨2, ![4096, 1024]⟩ : Shape).Idx → EReal} {x1 : (⟨1, ![1024]⟩ : Shape).Idx → EReal}
    {x2 : (⟨2, ![1024, 5632]⟩ : Shape).Idx → EReal} {x3 : (⟨2, ![3, 5632]⟩ : Shape).Idx → EReal}
    {x4 : (⟨1, ![5632]⟩ : Shape).Idx → EReal} {x5 : (⟨2, ![2816, 1024]⟩ : Shape).Idx → EReal}
    {x6 : (⟨1, ![1024]⟩ : Shape).Idx → EReal} {x7 : (⟨2, ![4096, 1024]⟩ : Shape).Idx → EReal}
    (h0 : Finite x0) (h1 : Finite x1) (h2 : Finite x2) (h3 : Finite x3) (h4 : Finite x4) (h5 : Finite x5) (h6 : Finite x6)
    (h7 : Finite x7) : Cert.ReferenceIdeal.Read.Args (params x0 x1 x2 x3 x4 x5 x6 x7) x0 x1 x2 x3 x4 x5 x6 x7 where
  x0 := real2_spec h0
  x1 := real1_spec h1
  x2 := real2_spec h2
  x3 := real2_spec h3
  x4 := real1_spec h4
  x5 := real2_spec h5
  x6 := real1_spec h6
  x7 := real2_spec h7
  U := fun _ _ => rfl
  Y := fun _ _ => rfl

end Cert.Ffn

namespace Cert.KernelIdeal.Host

open Cert.KernelIdeal Cert.KernelIdeal.Gen Cert.Ffn Cert.KernelIdeal.Body
open Idealize.ShloMosaic Idealize.ShloMosaic.TcCoe
open Idealize.ShloMosaic.Pointwise
open Cert.ReferenceIdeal.Read (Args r16 r68)

variable {m : (ℓ : Loc nD τ sig) → Buf (Elt Ideal) ℓ} {c : Dev nD} {P : Params}

/-- A core's eight arguments, holding the parameters. -/
abbrev ArgsAt (m : (ℓ : Loc nD τ sig) → Buf (Elt Ideal) ℓ) (c : Dev nD) (P : Params) : Prop :=
  Args P (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem row5632 (v : S5632.Idx → EReal) (r : Fin 1) (k : Fin 5632) :
    shapeCast (α := EReal) S1x5632 v shapeCasts_S5632_S1x5632 (ix2 r k) = v (ix1 k) := by
  pointwise []

theorem row1024 (v : S1024.Idx → EReal) (r : Fin 1) (k : Fin 1024) :
    shapeCast (α := EReal) S1x1024 v shapeCasts_S1024_S1x1024 (ix2 r k) = v (ix1 k) := by
  pointwise []

theorem turn (v : S1024x5632.Idx → EReal) (r : Fin 5632) (k : Fin 1024) :
    transpose S5632x1024 [1, 0] v transposes_S1024x5632_S5632x1024_1_0 (ix2 r k) = v (ix2 k r) := by
  pointwise []

/-- The arrays of the kernel's windows hold the parameters of the arguments. -/
theorem arrs (h : ArgsAt m c P) : Arrs m P c where
  X := fun r k => (congrFun (V_main_arg0 m c) _).trans (h.x0 r k)
  DX := fun r k => (congrFun (V_main_arg7 m c) _).trans (h.x7 r k)
  CW := fun r k => (congrFun (V_main_arg3 m c) _).trans (h.x3 r k)
  U := fun r k => (congrFun (V_up m c) _).trans (r16 h r k)
  Y := fun r k => (congrFun (V_down m c) _).trans (r68 h r k)
  CB := fun r k => (congrFun (V_bias m c) _).trans ((row5632 _ r k).trans (h.x4 k))
  WD := fun r k => (congrFun (V_wdown m c) _).trans (h.x5 r k)
  GP := fun r k => (congrFun (V_gpost m c) _).trans ((row1024 _ r k).trans (h.x6 k))
  WU := fun r k => (congrFun (V_wup m c) _).trans ((turn _ r k).trans (h.x2 k r))
  GF := fun r k => (congrFun (V_gpre m c) _).trans ((row1024 _ r k).trans (h.x1 k))

/-- The precondition makes a core's arguments such. -/
theorem argsAt (hp : Cert.Pre_KernelIdeal_finite m) (c : Dev nD) : ∃ P, ArgsAt m c P :=
  ⟨_, params_args (fun i => congrFun (hp c).1 i) (fun i => congrFun (hp c).2.1 i) (fun i => congrFun (hp c).2.2.1 i)
    (fun i => congrFun (hp c).2.2.2.1 i) (fun i => congrFun (hp c).2.2.2.2.1 i) (fun i => congrFun (hp c).2.2.2.2.2.1 i)
    (fun i => congrFun (hp c).2.2.2.2.2.2.1 i) (fun i => congrFun (hp c).2.2.2.2.2.2.2 i)⟩

end Cert.KernelIdeal.Host

end
-- ==== Proof.Value.Results.lean ====
/-
  WHAT THE RESULTS ARE, in real numbers of the arguments, and that the kernel's run leaves them. Of the two tables of the convolution's
  gradients the last of eight partial sums is the whole sum; the earlier seven are not spoken of.
-/
module

public import proofs.«01_k».proof.Proof.Value.Arrays
public import proofs.«01_k».proof.Proof.Value.Invariant
public import proofs.«01_k».proof.Proof.Value.Given
public import proofs.«01_k».proof.Proof.Body.FrameOf

@[expose] public section

noncomputable section

namespace Cert.Ffn

open Idealize.ShloMosaic Cert.KernelIdeal.Body

/-- The gradient of the second norm's input. -/
def dyV (P : Params) (i : (⟨2, ![4096, 1024]⟩ : Shape).Idx) : EReal := ((dyR P (i 0).val (i 1).val : ℝ) : EReal)
/-- The gradient of the up-projection's gate half, transposed. -/
def dugV (P : Params) (i : (⟨2, ![2816, 4096]⟩ : Shape).Idx) : EReal := ((back P 0 (dGateR P) (i 1).val (i 0).val : ℝ) : EReal)
/-- The gradient of the up-projection's other half, transposed. -/
def duuV (P : Params) (i : (⟨2, ![2816, 4096]⟩ : Shape).Idx) : EReal := ((back P 2816 (dUpR P) (i 1).val (i 0).val : ℝ) : EReal)
/-- The gradients of the convolution's weights and bias, gate half. -/
def dcgV (P : Params) (i : (⟨3, ![8, 8, 2816]⟩ : Shape).Idx) : EReal := ((tabSum P 0 (dGateR P) 8 (i 1).val (i 2).val : ℝ) : EReal)
/-- The gradients of the convolution's weights and bias, other half. -/
def dcuV (P : Params) (i : (⟨3, ![8, 8, 2816]⟩ : Shape).Idx) : EReal := ((tabSum P 2816 (dUpR P) 8 (i 1).val (i 2).val : ℝ) : EReal)
/-- The gradient of the second norm's gain. -/
def dgpV (P : Params) (i : (⟨2, ![1, 1024]⟩ : Shape).Idx) : EReal := ((gainSum P.DX P.Y 8 (i 1).val : ℝ) : EReal)
/-- The gradient of the input. -/
def dx2V (P : Params) (i : (⟨2, ![4096, 1024]⟩ : Shape).Idx) : EReal := ((P.DX (i 0).val (i 1).val + rmsb (dhR P) P.X P.GF (i 0).val (i 1).val : ℝ) : EReal)
/-- The gradient of the first norm's gain. -/
def dgfV (P : Params) (i : (⟨2, ![1, 1024]⟩ : Shape).Idx) : EReal := ((gainSum (dhR P) P.X 8 (i 1).val : ℝ) : EReal)

end Cert.Ffn

namespace Cert.KernelIdeal.Body

open Cert.KernelIdeal Cert.KernelIdeal.Gen Cert.Ffn
open Idealize.ShloMosaic Idealize.ShloMosaic.TcCoe Idealize.SL.Sem
open Idealize.ShloMosaic.Pipeline (Dat Cfg Window)

variable {m : (ℓ : Loc nD τ sig) → Buf (Elt Ideal) ℓ}

set_option maxHeartbeats 4000000 in
/-- The kernel's run leaves the results. -/
theorem results (g : Dev nD → PrngReg) (P : Dev nD → Params) (h : ∀ c, Arrs m (P c) c) :
    θ_run (defs (F := Ideal)) (onTc (τ := τ) (main (F := Ideal))) ⟨m, fun _ => 0, g⟩ (fun r => ∀ c : Dev nD,
(∀ i : (⟨2, ![4096, 1024]⟩ : Shape).Idx, r.2.mem ((c.tc : Thread nD τ).loc main_v63_0) i = dyV (P c) i)
      ∧ (∀ i : (⟨2, ![2816, 4096]⟩ : Shape).Idx, r.2.mem ((c.tc : Thread nD τ).loc main_v63_1) i = dugV (P c) i)
      ∧ (∀ i : (⟨2, ![2816, 4096]⟩ : Shape).Idx, r.2.mem ((c.tc : Thread nD τ).loc main_v63_2) i = duuV (P c) i)
      ∧ (∀ i : (⟨3, ![8, 8, 2816]⟩ : Shape).Idx, (i 0).val = 7 → r.2.mem ((c.tc : Thread nD τ).loc main_v63_3) i = dcgV (P c) i)
      ∧ (∀ i : (⟨3, ![8, 8, 2816]⟩ : Shape).Idx, (i 0).val = 7 → r.2.mem ((c.tc : Thread nD τ).loc main_v63_4) i = dcuV (P c) i)
      ∧ (∀ i : (⟨2, ![1, 1024]⟩ : Shape).Idx, r.2.mem ((c.tc : Thread nD τ).loc main_v63_5) i = dgpV (P c) i)
      ∧ (∀ i : (⟨2, ![4096, 1024]⟩ : Shape).Idx, r.2.mem ((c.tc : Thread nD τ).loc main_v63_6) i = dx2V (P c) i)
      ∧ (∀ i : (⟨2, ![1, 1024]⟩ : Shape).Idx, r.2.mem ((c.tc : Thread nD τ).loc main_v63_7) i = dgfV (P c) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun r hr c => ?_) (run_main g (fun c => inv (h c)))
  obtain ⟨after, hL, hA⟩ := hr.1.exists_exact c
  have key : ∀ (w : Fin cfg0.W) (t : Fin cfg0.N), marked w = true → (cfg0.win w).flush t = true → Rl (fun c => inv (h c)) c w t (after w t) :=
    fun w t hw hf => (dats (fun c => inv (h c)) 0 c).toRRel_leaves hw (hL w t hf)
  refine ⟨fun i => ?_, fun i => ?_, fun i => ?_, fun i hi => ?_, fun i hi => ?_, fun i => ?_, fun i => ?_, fun i => ?_, args_end _ hr.1 c⟩
  · refine (congrFun (hA 19) i).trans ((arr19 ((rdats (fun c => inv (h c)) c).withAfter after) (dyR (P c)) (fun t hf => ?_) i).trans rfl)
    exact key 19 t rfl hf
  · refine (congrFun (hA 20) i).trans ((arr20 ((rdats (fun c => inv (h c)) c).withAfter after) (fun a b => back (P c) 0 (dGateR (P c)) b a) (fun t hf => ?_) i).trans rfl)
    exact key 20 t rfl hf
  · refine (congrFun (hA 21) i).trans ((arr21 ((rdats (fun c => inv (h c)) c).withAfter after) (fun a b => back (P c) 2816 (dUpR (P c)) b a) (fun t hf => ?_) i).trans rfl)
    exact key 21 t rfl hf
  · refine (congrFun (hA 22) i).trans ((arr22 ((rdats (fun c => inv (h c)) c).withAfter after) (fun j r k => tabSum (P c) 0 (dGateR (P c)) (j + 1) r k) (fun t hf => ?_) i).trans (by rw [hi]; rfl))
    exact key 22 t rfl hf
  · refine (congrFun (hA 23) i).trans ((arr23 ((rdats (fun c => inv (h c)) c).withAfter after) (fun j r k => tabSum (P c) 2816 (dUpR (P c)) (j + 1) r k) (fun t hf => ?_) i).trans (by rw [hi]; rfl))
    exact key 23 t rfl hf
  · refine (congrFun (hA 24) i).trans ((arr24 ((rdats (fun c => inv (h c)) c).withAfter after) (fun _ k => gainSum (P c).DX (P c).Y 8 k) (fun t hf => ?_) i).trans rfl)
    have e : t.val = 87 := by have := (flush0_24 t).1 hf; have : t.val < 88 := t.isLt; omega
    have := key 24 t rfl hf
    change R2 (n := 1) (b := 1024) (after 24 t) (fun _ k => gainSum (P c).DX (P c).Y (t.val / 11 + 1) k) at this
    rw [e] at this
    exact this
  · refine (congrFun (hA 25) i).trans ((arr25 ((rdats (fun c => inv (h c)) c).withAfter after) (fun a b => (P c).DX a b + rmsb (dhR (P c)) (P c).X (P c).GF a b) (fun t hf => ?_) i).trans rfl)
    exact key 25 t rfl hf ((flush0_25 t).1 hf)
  · refine (congrFun (hA 26) i).trans ((arr26 ((rdats (fun c => inv (h c)) c).withAfter after) (fun _ k => gainSum (dhR (P c)) (P c).X 8 k) (fun t hf => ?_) i).trans rfl)
    have e : t.val = 87 := by have := (flush0_26 t).1 hf; have : t.val < 88 := t.isLt; omega
    have := key 26 t rfl hf (by omega)
    change R2 (n := 1) (b := 1024) (after 26 t) (fun _ k => gainSum (dhR (P c)) (P c).X ((t.val + 1) / 11) k) at this
    rw [e] at this
    exact this

end Cert.KernelIdeal.Body

end
-- ==== Proof.Value.RefDown.lean ====
/-
  THE REFERENCE RUN BACKWARDS, on the reals: the second norm, the down projection, the gated unit and the convolution.
-/
module

public import proofs.«01_k».proof.Proof.Gen.ReferenceIdeal.Read
public import proofs.«01_k».proof.Proof.Value.RefFwd

@[expose] public section

set_option maxHeartbeats 1000000

noncomputable section

namespace Cert.ReferenceIdeal.Read

open Cert.ReferenceIdeal Cert.Ffn Cert.KernelIdeal.Body
open Idealize.ShloMosaic Idealize.ShloMosaic.TcCoe
open Idealize.ShloMosaic.Pointwise

variable {P : Params} {x0 : (⟨S4096x1024, .f32⟩ : BufTy).Contents (Elt Ideal)} {x1 : (⟨S1024, .f32⟩ : BufTy).Contents (Elt Ideal)}
  {x2 : (⟨S1024x5632, .f32⟩ : BufTy).Contents (Elt Ideal)} {x3 : (⟨S3x5632, .f32⟩ : BufTy).Contents (Elt Ideal)}
  {x4 : (⟨S5632, .f32⟩ : BufTy).Contents (Elt Ideal)} {x5 : (⟨S2816x1024, .f32⟩ : BufTy).Contents (Elt Ideal)}
  {x6 : (⟨S1024, .f32⟩ : BufTy).Contents (Elt Ideal)} {x7 : (⟨S4096x1024, .f32⟩ : BufTy).Contents (Elt Ideal)}

theorem val_then {c : Prop} [Decidable c] (h : c) {a : ℝ} (b : ℝ) : ((a : ℝ) : EReal) = ((if c then a else b : ℝ) : EReal) := by rw [if_pos h]
theorem val_else {c : Prop} [Decidable c] (h : ¬c) {b : ℝ} (a : ℝ) : ((b : ℝ) : EReal) = ((if c then a else b : ℝ) : EReal) := by rw [if_neg h]

theorem rr_ms (X : ℕ → ℕ → ℝ) (i : ℕ) : rr X i / ms X i = rr X i * rr X i * rr X i := by
  have h := ms_pos X i
  have e : rr X i * rr X i = (ms X i)⁻¹ := by
    unfold rr
    rw [← mul_inv, Real.mul_self_sqrt h.le]
  rw [e, div_eq_mul_inv, mul_comm]

/-- The norm's gradient as the chain rule gives it: the root's part once, the square's part twice. -/
theorem norm_back (D X : ℕ → ℕ → ℝ) (g : ℕ → ℝ) (i k : ℕ) :
    D i k * g k * rr X i + X i k * ((∑ x : Fin 1024, X i x * (D i x * g x)) * (-(1 / 2) * (rr X i / ms X i)) / 1024)
      + (∑ x : Fin 1024, X i x * (D i x * g x)) * (-(1 / 2) * (rr X i / ms X i)) / 1024 * X i k = rmsb D X g i k := by
  unfold rmsb
  rw [rr_ms, show (∑ x : Fin 1024, D i x * g x * (X i x * rr X i)) = (∑ x : Fin 1024, X i x * (D i x * g x)) * rr X i by
    rw [Finset.sum_mul]; exact Finset.sum_congr rfl fun x _ => by ring]
  ring

theorem r75 (h : Args P x0 x1 x2 x3 x4 x5 x6 x7) : R2 (n := 4096) (b := 1) (val_main_v75 (F := Ideal) x0 x1 x2 x3 x4 x5) (fun i _ => ms P.Y i) := by
  intro r k
  pointwise [val_main_v75, val_main_v74, val_main_v73, val_main_v72, val_main_v71, val_main_v70, val_main_v69, val_main_cst_13, val_main_cst_14, val_main_cst_15]
  simp only [r68 h _ _, ← EReal.coe_mul, csum]
  rw [bits_n, bits_eps, div_n, ← EReal.coe_add]
  rfl

theorem r76 (h : Args P x0 x1 x2 x3 x4 x5 x6 x7) : R2 (n := 4096) (b := 1) (val_main_v76 (F := Ideal) x0 x1 x2 x3 x4 x5) (fun i _ => rr P.Y i) := by
  intro r k
  pointwise [val_main_v76]
  rw [r75 h]
  exact rsqrt_ms _ _

theorem r79 (h : Args P x0 x1 x2 x3 x4 x5 x6 x7) : R2 (n := 4096) (b := 1) (val_main_v79 (F := Ideal) x0 x1 x2 x3 x4 x5) (fun i _ => -(1 / 2) * (rr P.Y i / ms P.Y i)) := by
  intro r k
  pointwise [val_main_v79, val_main_v78, val_main_cst_16, val_main_v77]
  rw [r76 h, r75 h, bits_neg_half, div_pos _ _ (ms_pos _ _), ← EReal.coe_mul]

theorem r81 (h : Args P x0 x1 x2 x3 x4 x5 x6 x7) : R2 (n := 4096) (b := 1024) (val_main_v81 (F := Ideal) x0 x1 x2 x3 x4 x5) (fun i k => P.Y i k * rr P.Y i) := by
  intro r k
  pointwise [val_main_v81, val_main_v80]
  rw [r68 h, r76 h, ← EReal.coe_mul]

theorem r86 (h : Args P x0 x1 x2 x3 x4 x5 x6 x7) : R1 (n := 1024) (val_main_v86 (F := Ideal) x0 x1 x2 x3 x4 x5 x7) (fun k => ∑ i : Fin 4096, P.Y i k * rr P.Y i * P.DX i k) := by
  intro k
  pointwise [val_main_v86, val_main_v85, val_main_cst_17]
  simp only [r81 h _ _, h.x7 _ _, ← EReal.coe_mul, csum]

theorem r90 (h : Args P x0 x1 x2 x3 x4 x5 x6 x7) : R1 (n := 1024) (val_main_v90 (F := Ideal) x0 x1 x2 x3 x4 x5 x7) (fun k => ∑ i : Fin 4096, P.Y i k * rr P.Y i * P.DX i k) := by
  intro k
  pointwise [val_main_v90, val_main_v87, val_main_cst_18]
  first | (rw [Fin.sum_univ_one]; exact r86 h _) | exact r86 h _

theorem r89 (h : Args P x0 x1 x2 x3 x4 x5 x6 x7) : R2 (n := 4096) (b := 1024) (val_main_v89 (F := Ideal) x6 x7) (fun i k => P.DX i k * P.GP k) := by
  intro r k
  pointwise [val_main_v89, val_main_v88, val_main_v82]
  rw [h.x7, h.x6, ← EReal.coe_mul]

theorem r98 (h : Args P x0 x1 x2 x3 x4 x5 x6 x7) : R2 (n := 4096) (b := 1) (val_main_v98 (F := Ideal) x0 x1 x2 x3 x4 x5 x6 x7) (fun i _ => (∑ x : Fin 1024, P.Y i x * (P.DX i x * P.GP x)) * (-(1 / 2) * (rr P.Y i / ms P.Y i)) / 1024) := by
  intro r k
  pointwise [val_main_v98, val_main_v97, val_main_cst_20, val_main_v96, val_main_v93, val_main_v92, val_main_cst_19, val_main_v91]
  simp only [r68 h _ _, r89 h _ _, r79 h _ _, ← EReal.coe_mul, csum]
  rw [bits_n, div_n]

theorem r99 (h : Args P x0 x1 x2 x3 x4 x5 x6 x7) : R1 (n := 4096) (val_main_v99 (F := Ideal) x0 x1 x2 x3 x4 x5 x6 x7) (fun i => (∑ x : Fin 1024, P.Y i x * (P.DX i x * P.GP x)) * (-(1 / 2) * (rr P.Y i / ms P.Y i)) / 1024) := by
  intro k
  pointwise [val_main_v99, val_main_cst_21]
  first | (rw [Fin.sum_univ_one]; exact r98 h _ _) | exact r98 h _ _

theorem r104 (h : Args P x0 x1 x2 x3 x4 x5 x6 x7) : R2 (n := 4096) (b := 1024) (val_main_v104 (F := Ideal) x0 x1 x2 x3 x4 x5 x6 x7) (dyR P) := by
  intro r k
  pointwise [val_main_v104, val_main_v103, val_main_v102, val_main_v101, val_main_v100, val_main_v95, val_main_v94]
  rw [r99 h, r68 h, r89 h, r76 h]
  simp only [← EReal.coe_mul, ← EReal.coe_add]
  rw [dyR, ← norm_back]

theorem r105 (h : Args P x0 x1 x2 x3 x4 x5 x6 x7) : R2 (n := 4096) (b := 2816) (val_main_v105 (F := Ideal) x0 x1 x2 x3 x4 x5 x6 x7) (daR P) := by
  intro r k
  pointwise [val_main_v105]
  simp only [r104 h _ _, h.x5 _ _, ← EReal.coe_mul, csum]
  rfl

theorem r106 (h : Args P x0 x1 x2 x3 x4 x5 x6 x7) : R2 (n := 4096) (b := 2816) (val_main_v106 (F := Ideal) x0 x1 x2 x3 x4 x5 x6 x7) (dUpR P) := by
  intro r k
  pointwise [val_main_v106]
  rw [r66 h, r105 h, ← EReal.coe_mul, mul_comm]
  rfl

theorem r107 (h : Args P x0 x1 x2 x3 x4 x5 x6 x7) : R2 (n := 4096) (b := 2816) (val_main_v107 (F := Ideal) x0 x1 x2 x3 x4 x5 x6 x7) (fun i c => daR P i c * pre P i (2816 + c)) := by
  intro r k
  pointwise [val_main_v107]
  rw [r105 h, r44 h, ← EReal.coe_mul]

theorem r114 (h : Args P x0 x1 x2 x3 x4 x5 x6 x7) : R2 (n := 4096) (b := 2816) (val_main_v114 (F := Ideal) x0 x1 x2 x3 x4 x5 x6 x7) (fun i c => gc * (1 / 2 * (pre P i c * (daR P i c * pre P i (2816 + c))) * ((1 + th (pre P i c)) * (1 - th (pre P i c))))) := by
  intro r k
  pointwise [val_main_v114, val_main_v113, val_main_cst_23, val_main_v112, val_main_v111, val_main_v110, val_main_cst_22, val_main_v108]
  rw [bits_gc, bits_half, r43 h, r107 h, r61 h]
  simp only [← EReal.coe_mul]

theorem r119 (h : Args P x0 x1 x2 x3 x4 x5 x6 x7) : R2 (n := 4096) (b := 2816) (val_main_v119 (F := Ideal) x0 x1 x2 x3 x4 x5 x6 x7) (dGateR P) := by
  intro r k
  pointwise [val_main_v119, val_main_v118, val_main_v117, val_main_v116, val_main_v115, val_main_v109, val_main_v45, val_main_cst_5, val_main_cst_6, val_main_v50, val_main_v49, val_main_cst_7, val_main_v48]
  rw [quot, bits_three, r114 h, r107 h, r65 h, r43 h]
  simp only [← EReal.coe_mul, ← EReal.coe_add]
  congr 1
  unfold dGateR gl'
  ring

/-- The gradient at the convolution's result, the gate's columns first. -/
def dAll (P : Params) (i c : ℕ) : ℝ := if c < 2816 then dGateR P i c else dUpR P i (c - 2816)

theorem r120 (h : Args P x0 x1 x2 x3 x4 x5 x6 x7) : R2 (n := 4096) (b := 5632) (val_main_v120 (F := Ideal) x0 x1 x2 x3 x4 x5 x6 x7) (dAll P) := by
  intro r k
  pointwise [val_main_v120]
  unfold dAll
  split
  · rename_i hc
    exact r119 h _ _
  · rename_i hc
    exact r106 h _ _

end Cert.ReferenceIdeal.Read

end
-- ==== Proof.Value.RefUp.lean ====
/-
  THE REFERENCE RUN BACKWARDS, on the reals: the convolution, the up projection and the first norm.
-/
module

public import proofs.«01_k».proof.Proof.Gen.ReferenceIdeal.Read
public import proofs.«01_k».proof.Proof.Value.RefDown

@[expose] public section

set_option maxHeartbeats 1000000

noncomputable section

namespace Cert.ReferenceIdeal.Read

open Cert.ReferenceIdeal Cert.Ffn Cert.KernelIdeal.Body
open Idealize.ShloMosaic Idealize.ShloMosaic.TcCoe
open Idealize.ShloMosaic.Pointwise

variable {P : Params} {x0 : (⟨S4096x1024, .f32⟩ : BufTy).Contents (Elt Ideal)} {x1 : (⟨S1024, .f32⟩ : BufTy).Contents (Elt Ideal)}
  {x2 : (⟨S1024x5632, .f32⟩ : BufTy).Contents (Elt Ideal)} {x3 : (⟨S3x5632, .f32⟩ : BufTy).Contents (Elt Ideal)}
  {x4 : (⟨S5632, .f32⟩ : BufTy).Contents (Elt Ideal)} {x5 : (⟨S2816x1024, .f32⟩ : BufTy).Contents (Elt Ideal)}
  {x6 : (⟨S1024, .f32⟩ : BufTy).Contents (Elt Ideal)} {x7 : (⟨S4096x1024, .f32⟩ : BufTy).Contents (Elt Ideal)}

theorem r127 (h : Args P x0 x1 x2 x3 x4 x5 x6 x7) : R2 (n := 4098) (b := 5632) (val_main_v127 (F := Ideal) x0 x1 x2 x3 x4 x5 x6 x7) (fun i c => if 2 ≤ i then P.CW 2 c * dAll P (i - 2) c else 0) := by
  intro r k
  pointwise [val_main_v127, val_main_cst_26, val_main_v122, val_main_v121, val_main_v39, val_main_v37, val_main_v36]
  by_cases hr : 2 ≤ r.val
  · rw [dif_pos (by omega)]
    refine Eq.trans ?_ (val_then hr _)
    rw [h.x3, r120 h, ← EReal.coe_mul]
    rfl
  · rw [dif_neg (by omega)]
    exact val_else hr _

theorem r136 (h : Args P x0 x1 x2 x3 x4 x5 x6 x7) : R2 (n := 4098) (b := 5632) (val_main_v136 (F := Ideal) x0 x1 x2 x3 x4 x5 x6 x7) (fun i c => if 1 ≤ i ∧ i - 1 < 4096 then P.CW 1 c * dAll P (i - 1) c else 0) := by
  intro r k
  pointwise [val_main_v136, val_main_cst_30, val_main_v131, val_main_v130, val_main_v32, val_main_v30, val_main_v29]
  by_cases hr : 1 ≤ r.val ∧ r.val - 1 < 4096
  · rw [dif_pos (by omega)]
    refine Eq.trans ?_ (val_then hr _)
    rw [h.x3, r120 h, ← EReal.coe_mul]
    rfl
  · rw [dif_neg (by omega)]
    exact val_else hr _

theorem r150 (h : Args P x0 x1 x2 x3 x4 x5 x6 x7) : R2 (n := 4098) (b := 5632) (val_main_v150 (F := Ideal) x0 x1 x2 x3 x4 x5 x6 x7) (fun i c => if i < 4096 then P.CW 0 c * dAll P (i - 0) c else 0) := by
  intro r k
  pointwise [val_main_v150, val_main_cst_36, val_main_v145, val_main_v144, val_main_v23, val_main_v21, val_main_v20]
  by_cases hr : r.val < 4096
  · rw [dif_pos (by omega)]
    refine Eq.trans ?_ (val_then hr _)
    rw [h.x3, r120 h, ← EReal.coe_mul]
    rfl
  · rw [dif_neg (by omega)]
    exact val_else hr _

/-- The gradient at the up projection's result. -/
def duR (P : Params) (i c : ℕ) : ℝ := P.CW 2 c * dAll P i c + P.CW 1 c * ahead 1 (dAll P) i c + P.CW 0 c * ahead 2 (dAll P) i c

theorem r156 (h : Args P x0 x1 x2 x3 x4 x5 x6 x7) : R2 (n := 4096) (b := 5632) (val_main_v156 (F := Ideal) x0 x1 x2 x3 x4 x5 x6 x7) (duR P) := by
  intro r k
  pointwise [val_main_v156, val_main_v151, val_main_v137]
  rw [r127 h, r136 h, r150 h, ← EReal.coe_add, ← EReal.coe_add]
  congr 1
  dsimp only
  unfold duR ahead
  have hr : r.val < 4096 := r.isLt
  rw [if_pos (by omega), show 2 + r.val - 2 = r.val by omega, show 2 + r.val - 1 = r.val + 1 by omega, show 2 + r.val - 0 = r.val + 2 by omega]
  congr 1
  · congr 1
    by_cases h1 : r.val + 1 < 4096
    · rw [if_pos (by omega), if_pos h1]
    · rw [if_neg (by omega), if_neg h1, mul_zero]
  · by_cases h1 : r.val + 2 < 4096
    · rw [if_pos (by omega), if_pos h1]
    · rw [if_neg (by omega), if_neg h1, mul_zero]

/-- The gradient at the first norm's result. -/
def dhAll (P : Params) (i k : ℕ) : ℝ := ∑ c : Fin 5632, duR P i c * P.WU k c

theorem r157 (h : Args P x0 x1 x2 x3 x4 x5 x6 x7) : R2 (n := 4096) (b := 1024) (val_main_v157 (F := Ideal) x0 x1 x2 x3 x4 x5 x6 x7) (dhAll P) := by
  intro r k
  pointwise [val_main_v157]
  simp only [r156 h _ _, h.x2 _ _, ← EReal.coe_mul, csum]
  rfl

theorem r159 (h : Args P x0 x1 x2 x3 x4 x5 x6 x7) : R1 (n := 1024) (val_main_v159 (F := Ideal) x0 x1 x2 x3 x4 x5 x6 x7) (fun k => ∑ i : Fin 4096, P.X i k * rr P.X i * dhAll P i k) := by
  intro k
  pointwise [val_main_v159, val_main_v158, val_main_cst_38]
  simp only [r12 h _ _, r157 h _ _, ← EReal.coe_mul, csum]

theorem r163 (h : Args P x0 x1 x2 x3 x4 x5 x6 x7) : R1 (n := 1024) (val_main_v163 (F := Ideal) x0 x1 x2 x3 x4 x5 x6 x7) (fun k => ∑ i : Fin 4096, P.X i k * rr P.X i * dhAll P i k) := by
  intro k
  pointwise [val_main_v163, val_main_v160, val_main_cst_39]
  first | (rw [Fin.sum_univ_one]; exact r159 h _) | exact r159 h _

theorem r162 (h : Args P x0 x1 x2 x3 x4 x5 x6 x7) : R2 (n := 4096) (b := 1024) (val_main_v162 (F := Ideal) x0 x1 x2 x3 x4 x5 x6 x7) (fun i k => dhAll P i k * P.GF k) := by
  intro r k
  pointwise [val_main_v162, val_main_v161, val_main_v13]
  rw [r157 h, h.x1, ← EReal.coe_mul]

theorem r171 (h : Args P x0 x1 x2 x3 x4 x5 x6 x7) : R2 (n := 4096) (b := 1) (val_main_v171 (F := Ideal) x0 x1 x2 x3 x4 x5 x6 x7) (fun i _ => (∑ x : Fin 1024, P.X i x * (dhAll P i x * P.GF x)) * (-(1 / 2) * (rr P.X i / ms P.X i)) / 1024) := by
  intro r k
  pointwise [val_main_v171, val_main_v170, val_main_cst_41, val_main_v169, val_main_v166, val_main_v165, val_main_cst_40, val_main_v164]
  simp only [h.x0 _ _, r162 h _ _, r10 h _ _, ← EReal.coe_mul, csum]
  rw [bits_n, div_n]

theorem r172 (h : Args P x0 x1 x2 x3 x4 x5 x6 x7) : R1 (n := 4096) (val_main_v172 (F := Ideal) x0 x1 x2 x3 x4 x5 x6 x7) (fun i => (∑ x : Fin 1024, P.X i x * (dhAll P i x * P.GF x)) * (-(1 / 2) * (rr P.X i / ms P.X i)) / 1024) := by
  intro k
  pointwise [val_main_v172, val_main_cst_42]
  first | (rw [Fin.sum_univ_one]; exact r171 h _ _) | exact r171 h _ _

theorem r177 (h : Args P x0 x1 x2 x3 x4 x5 x6 x7) : R2 (n := 4096) (b := 1024) (val_main_v177 (F := Ideal) x0 x1 x2 x3 x4 x5 x6 x7) (fun i k => rmsb (dhAll P) P.X P.GF i k) := by
  intro r k
  pointwise [val_main_v177, val_main_v176, val_main_v175, val_main_v174, val_main_v173, val_main_v168, val_main_v167]
  rw [r172 h, h.x0, r162 h, r7 h]
  simp only [← EReal.coe_mul, ← EReal.coe_add]
  rw [← norm_back]

theorem r124 (h : Args P x0 x1 x2 x3 x4 x5 x6 x7) : R1 (n := 5632) (val_main_v124 (F := Ideal) x0 x1 x2 x3 x4 x5 x6 x7) (fun c => ∑ i : Fin 4096, dAll P i c * P.U i c) := by
  intro k
  pointwise [val_main_v124, val_main_v123, val_main_cst_24]
  simp only [r120 h _ _, r38 h _ _, ← EReal.coe_mul, csum]

theorem r126 (h : Args P x0 x1 x2 x3 x4 x5 x6 x7) : R1 (n := 5632) (val_main_v126 (F := Ideal) x0 x1 x2 x3 x4 x5 x6 x7) (fun c => ∑ i : Fin 4096, dAll P i c * P.U i c) := by
  intro k
  pointwise [val_main_v126, val_main_v125, val_main_cst_25]
  first | (rw [Fin.sum_univ_one]; exact r124 h _) | exact r124 h _

theorem r133 (h : Args P x0 x1 x2 x3 x4 x5 x6 x7) : R1 (n := 5632) (val_main_v133 (F := Ideal) x0 x1 x2 x3 x4 x5 x6 x7) (fun c => ∑ i : Fin 4096, dAll P i c * shift 1 P.U i c) := by
  intro k
  pointwise [val_main_v133, val_main_v132, val_main_cst_28]
  simp only [r120 h _ _, r31 h _ _, ← EReal.coe_mul, csum]

theorem r135 (h : Args P x0 x1 x2 x3 x4 x5 x6 x7) : R1 (n := 5632) (val_main_v135 (F := Ideal) x0 x1 x2 x3 x4 x5 x6 x7) (fun c => ∑ i : Fin 4096, dAll P i c * shift 1 P.U i c) := by
  intro k
  pointwise [val_main_v135, val_main_v134, val_main_cst_29]
  first | (rw [Fin.sum_univ_one]; exact r133 h _) | exact r133 h _

theorem r147 (h : Args P x0 x1 x2 x3 x4 x5 x6 x7) : R1 (n := 5632) (val_main_v147 (F := Ideal) x0 x1 x2 x3 x4 x5 x6 x7) (fun c => ∑ i : Fin 4096, dAll P i c * shift 2 P.U i c) := by
  intro k
  pointwise [val_main_v147, val_main_v146, val_main_cst_34]
  simp only [r120 h _ _, r22 h _ _, ← EReal.coe_mul, csum]

theorem r149 (h : Args P x0 x1 x2 x3 x4 x5 x6 x7) : R1 (n := 5632) (val_main_v149 (F := Ideal) x0 x1 x2 x3 x4 x5 x6 x7) (fun c => ∑ i : Fin 4096, dAll P i c * shift 2 P.U i c) := by
  intro k
  pointwise [val_main_v149, val_main_v148, val_main_cst_35]
  first | (rw [Fin.sum_univ_one]; exact r147 h _) | exact r147 h _

theorem r141 (h : Args P x0 x1 x2 x3 x4 x5 x6 x7) : R1 (n := 5632) (val_main_v141 (F := Ideal) x0 x1 x2 x3 x4 x5 x6 x7) (fun c => ∑ i : Fin 4096, dAll P i c) := by
  intro k
  pointwise [val_main_v141, val_main_cst_32]
  simp only [r120 h _ _, csum]

theorem r143 (h : Args P x0 x1 x2 x3 x4 x5 x6 x7) : R1 (n := 5632) (val_main_v143 (F := Ideal) x0 x1 x2 x3 x4 x5 x6 x7) (fun c => ∑ i : Fin 4096, dAll P i c) := by
  intro k
  pointwise [val_main_v143, val_main_v142, val_main_cst_33]
  first | (rw [Fin.sum_univ_one]; exact r141 h _) | exact r141 h _

/-- The table of the sums: a row for each tap and one for the bias, the rest zero. -/
def tabAll (P : Params) (r c : ℕ) : ℝ :=
  if r = 0 then ∑ i : Fin 4096, dAll P i c * shift 2 P.U i c
  else if r = 1 then ∑ i : Fin 4096, dAll P i c * shift 1 P.U i c
  else if r = 2 then ∑ i : Fin 4096, dAll P i c * P.U i c
  else if r = 3 then ∑ i : Fin 4096, dAll P i c
  else 0

theorem r154 (h : Args P x0 x1 x2 x3 x4 x5 x6 x7) : R2 (n := 3) (b := 5632) (val_main_v154 (F := Ideal) x0 x1 x2 x3 x4 x5 x6 x7) (fun r c => tabAll P r c) := by
  intro r k
  pointwise [val_main_v154, val_main_v153, val_main_cst_37, val_main_v152, val_main_v140, val_main_v139, val_main_cst_31, val_main_v138, val_main_v129, val_main_cst_27, val_main_v128]
  unfold tabAll
  fin_cases r
  · rw [dif_neg (by simp), dif_neg (by simp), dif_pos (by simp), r149 h]
    simp
  · rw [dif_neg (by simp), dif_pos (by simp), dif_neg (by simp), r135 h]
    simp
  · rw [dif_pos (by simp), dif_neg (by simp), dif_neg (by simp), r126 h]
    simp

end Cert.ReferenceIdeal.Read

end
-- ==== Proof.Value.RefOut.lean ====
/-
  THE RESULTS OF THE REFERENCE, on the reals, summed in the order of the kernel.
-/
module

public import proofs.«01_k».proof.Proof.Gen.ReferenceIdeal.Read
public import proofs.«01_k».proof.Proof.Value.RefUp
public import proofs.«01_k».proof.Proof.Value.Step

@[expose] public section

set_option maxHeartbeats 1000000

noncomputable section

namespace Cert.ReferenceIdeal.Read

open Cert.ReferenceIdeal Cert.Ffn Cert.KernelIdeal.Body
open Idealize.ShloMosaic Idealize.ShloMosaic.TcCoe
open Idealize.ShloMosaic.Pointwise

variable {P : Params} {x0 : (⟨S4096x1024, .f32⟩ : BufTy).Contents (Elt Ideal)} {x1 : (⟨S1024, .f32⟩ : BufTy).Contents (Elt Ideal)}
  {x2 : (⟨S1024x5632, .f32⟩ : BufTy).Contents (Elt Ideal)} {x3 : (⟨S3x5632, .f32⟩ : BufTy).Contents (Elt Ideal)}
  {x4 : (⟨S5632, .f32⟩ : BufTy).Contents (Elt Ideal)} {x5 : (⟨S2816x1024, .f32⟩ : BufTy).Contents (Elt Ideal)}
  {x6 : (⟨S1024, .f32⟩ : BufTy).Contents (Elt Ideal)} {x7 : (⟨S4096x1024, .f32⟩ : BufTy).Contents (Elt Ideal)}

/-- A sum in blocks. -/
theorem sum_blocks {M : Type} [AddCommMonoid M] (f : ℕ → M) (b n : ℕ) : ∑ s ∈ Finset.range n, ∑ r ∈ Finset.range b, f (b * s + r) = ∑ i ∈ Finset.range (b * n), f i := by
  induction n with
  | zero => simp
  | succ n ih => rw [Finset.sum_range_succ, ih, Nat.mul_succ, Finset.sum_range_add]

/-- All tokens: the grid's blocks, the last first. -/
theorem sum_tokens (f : ℕ → ℝ) : ∑ s ∈ Finset.range 8, ∑ r : Fin 512, f (512 * (7 - s) + r) = ∑ i : Fin 4096, f i := by
  rw [Fin.sum_univ_eq_sum_range f 4096, show 4096 = 512 * 8 from rfl, ← sum_blocks f 512 8, ← Finset.sum_range_reflect (fun s => ∑ r ∈ Finset.range 512, f (512 * s + r)) 8]
  refine Finset.sum_congr rfl fun s _ => ?_
  exact Fin.sum_univ_eq_sum_range (fun r => f (512 * (7 - s) + r)) 512

/-- All columns of both halves: the grid's columns. -/
theorem sum_columns (f : ℕ → ℝ) : ∑ c : Fin 5632, f c
    = ∑ q ∈ Finset.range 11, ((∑ c : Fin 256, f (256 * q + c)) + ∑ c : Fin 256, f (2816 + 256 * q + c)) := by
  rw [Fin.sum_univ_eq_sum_range f 5632, show 5632 = 2816 + 2816 from rfl, Finset.sum_range_add, Finset.sum_add_distrib]
  refine congrArg₂ (· + ·) ?_ ?_
  · rw [show 2816 = 256 * 11 from rfl, ← sum_blocks f 256 11]
    exact Finset.sum_congr rfl fun q _ => (Fin.sum_univ_eq_sum_range (fun c => f (256 * q + c)) 256).symm
  · have e := sum_blocks (fun c => f (2816 + c)) 256 11
    rw [show 256 * 11 = 2816 from rfl] at e
    rw [← e]
    refine Finset.sum_congr rfl fun q _ => ?_
    rw [Fin.sum_univ_eq_sum_range (fun c => f (2816 + 256 * q + c)) 256]
    exact Finset.sum_congr rfl fun c _ => by rw [Nat.add_assoc]

variable (P)

theorem dAll_gate (i : ℕ) {c : ℕ} (hc : c < 2816) : dAll P i c = dGateR P i c := if_pos hc
theorem dAll_up (i c : ℕ) : dAll P i (2816 + c) = dUpR P i c := by
  rw [dAll, if_neg (by omega), Nat.add_sub_cancel_left]

theorem duR_gate (i : ℕ) {c : ℕ} (hc : c < 2816) : duR P i c = back P 0 (dGateR P) i c := by
  unfold duR back ahead
  rw [dAll_gate P _ hc, dAll_gate P _ hc, dAll_gate P _ hc, Nat.zero_add]

theorem duR_up (i c : ℕ) : duR P i (2816 + c) = back P 2816 (dUpR P) i c := by
  unfold duR back ahead
  rw [dAll_up, dAll_up, dAll_up]

/-- The gradient at the first norm's result, summed by columns. -/
theorem dhAll_eq (i k : ℕ) : dhAll P i k = dhSum P i k 11 := by
  unfold dhAll dhSum
  rw [sum_columns (fun c => duR P i c * P.WU k c)]
  refine Finset.sum_congr rfl fun q hq => ?_
  have hq := Finset.mem_range.1 hq
  unfold dhTerm
  refine congrArg₂ (· + ·) (Finset.sum_congr rfl fun c _ => ?_) (Finset.sum_congr rfl fun c _ => ?_)
  · rw [duR_gate P i (by omega)]
  · rw [Nat.add_assoc, duR_up]

theorem gain_eq (D X : ℕ → ℕ → ℝ) (k : ℕ) : gainSum D X 8 k = ∑ i : Fin 4096, X i k * rr X i * D i k := by
  unfold gainSum
  rw [sum_tokens (fun i => D i k * (X i k * rr X i))]
  exact Finset.sum_congr rfl fun i _ => mul_comm _ _

theorem table_eq (o : ℕ) (D : ℕ → ℕ → ℝ) (r c : ℕ) (hD : ∀ i, dAll P i (o + c) = D i c) : tabSum P o D 8 r c = tabAll P r (o + c) := by
  unfold tabSum part tabAll
  simp only [hD]
  split_ifs
  · exact sum_tokens (fun i => D i c * shift 2 P.U i (o + c))
  · exact sum_tokens (fun i => D i c * shift 1 P.U i (o + c))
  · exact sum_tokens (fun i => D i c * P.U i (o + c))
  · exact sum_tokens (fun i => D i c)
  · exact Finset.sum_const_zero

variable {P}

theorem r178 (h : Args P x0 x1 x2 x3 x4 x5 x6 x7) : R2 (n := 4096) (b := 1024) (val_main_v178 (F := Ideal) x0 x1 x2 x3 x4 x5 x6 x7) (dyR P) := by
  intro r k
  pointwise [val_main_v178]
  exact r104 h _ _

theorem r181 (h : Args P x0 x1 x2 x3 x4 x5 x6 x7) : R2 (n := 2816) (b := 4096) (val_main_v181 (F := Ideal) x0 x1 x2 x3 x4 x5 x6 x7) (fun c i => back P 0 (dGateR P) i c) := by
  intro r k
  pointwise [val_main_v181, val_main_v180, val_main_v179]
  refine (r156 h _ _).trans ?_
  congr 1
  exact duR_gate P _ r.isLt

theorem r184 (h : Args P x0 x1 x2 x3 x4 x5 x6 x7) : R2 (n := 2816) (b := 4096) (val_main_v184 (F := Ideal) x0 x1 x2 x3 x4 x5 x6 x7) (fun c i => back P 2816 (dUpR P) i c) := by
  intro r k
  pointwise [val_main_v184, val_main_v183, val_main_v182]
  refine (r156 h _ _).trans ?_
  congr 1
  exact (congrArg (duR P k.val) (by first | rfl | omega | (dsimp only; omega))).trans (duR_up P _ _)

theorem r191 (h : Args P x0 x1 x2 x3 x4 x5 x6 x7) : R3 (a := 8) (n := 8) (b := 2816) (val_main_v191 (F := Ideal) x0 x1 x2 x3 x4 x5 x6 x7) (fun _ r c => tabSum P 0 (dGateR P) 8 r c) := by
  intro q r k
  pointwise [val_main_v191, val_main_v190, val_main_v189, val_main_v188, val_main_cst_43, val_main_v187, val_main_v186, val_main_v185]
  by_cases h3 : r.val < 3
  · rw [dif_pos h3]
    refine (r154 h _ _).trans ?_
    congr 1
    exact ((congrArg (tabAll P r.val) (Nat.zero_add k.val).symm).trans (table_eq P 0 (dGateR P) _ _ (fun i => (congrArg (dAll P i) (Nat.zero_add _)).trans (dAll_gate P i k.isLt))).symm)
  · rw [dif_neg h3]
    by_cases h4 : r.val - 3 < 1
    · rw [dif_pos h4]
      refine (r143 h _).trans ?_
      congr 1
      refine Eq.trans ?_ (table_eq P 0 (dGateR P) _ _ (fun i => (congrArg (dAll P i) (Nat.zero_add _)).trans (dAll_gate P i k.isLt))).symm
      unfold tabAll
      rw [if_neg (by omega), if_neg (by omega), if_neg (by omega), if_pos (by omega)]
      exact congrArg (fun c => ∑ i : Fin 4096, dAll P i c) (Nat.zero_add k.val).symm
    · rw [dif_neg h4, table_eq P 0 (dGateR P) _ _ (fun i => (congrArg (dAll P i) (Nat.zero_add _)).trans (dAll_gate P i k.isLt))]
      unfold tabAll
      rw [if_neg (by omega), if_neg (by omega), if_neg (by omega), if_neg (by omega)]
      rfl

theorem r198 (h : Args P x0 x1 x2 x3 x4 x5 x6 x7) : R3 (a := 8) (n := 8) (b := 2816) (val_main_v198 (F := Ideal) x0 x1 x2 x3 x4 x5 x6 x7) (fun _ r c => tabSum P 2816 (dUpR P) 8 r c) := by
  intro q r k
  pointwise [val_main_v198, val_main_v197, val_main_v196, val_main_v195, val_main_cst_44, val_main_v194, val_main_v193, val_main_v192]
  by_cases h3 : r.val < 3
  · rw [dif_pos h3]
    refine (r154 h _ _).trans ?_
    congr 1
    exact ((congrArg (tabAll P r.val) (by first | rfl | omega | (dsimp only; omega))).trans (table_eq P 2816 (dUpR P) _ _ (fun i => dAll_up P i _)).symm)
  · rw [dif_neg h3]
    by_cases h4 : r.val - 3 < 1
    · rw [dif_pos h4]
      refine (r143 h _).trans ?_
      congr 1
      refine Eq.trans ?_ (table_eq P 2816 (dUpR P) _ _ (fun i => dAll_up P i _)).symm
      unfold tabAll
      rw [if_neg (by omega), if_neg (by omega), if_neg (by omega), if_pos (by omega)]

    · rw [dif_neg h4, table_eq P 2816 (dUpR P) _ _ (fun i => dAll_up P i _)]
      unfold tabAll
      rw [if_neg (by omega), if_neg (by omega), if_neg (by omega), if_neg (by omega)]
      rfl

theorem r199 (h : Args P x0 x1 x2 x3 x4 x5 x6 x7) : R2 (n := 1) (b := 1024) (val_main_v199 (F := Ideal) x0 x1 x2 x3 x4 x5 x7) (fun _ k => gainSum P.DX P.Y 8 k) := by
  intro r k
  pointwise [val_main_v199]
  rw [gain_eq]
  exact r90 h _

theorem r200 (h : Args P x0 x1 x2 x3 x4 x5 x6 x7) : R2 (n := 4096) (b := 1024) (val_main_v200 (F := Ideal) x0 x1 x2 x3 x4 x5 x6 x7) (fun i k => P.DX i k + rmsb (fun i k => dhSum P i k 11) P.X P.GF i k) := by
  intro r k
  pointwise [val_main_v200]
  rw [h.x7, r177 h, ← EReal.coe_add, show dhAll P = fun i k => dhSum P i k 11 from funext fun i => funext fun k => dhAll_eq P i k]

theorem r201 (h : Args P x0 x1 x2 x3 x4 x5 x6 x7) : R2 (n := 1) (b := 1024) (val_main_v201 (F := Ideal) x0 x1 x2 x3 x4 x5 x6 x7) (fun _ k => gainSum (fun i k => dhSum P i k 11) P.X 8 k) := by
  intro r k
  pointwise [val_main_v201]
  rw [gain_eq]
  simp only [← dhAll_eq]
  exact r163 h _

end Cert.ReferenceIdeal.Read

end
-- ==== Proof.Value.RefRun.lean ====
/-
  THE REFERENCE'S RUN leaves the results, as real numbers of the arguments.
-/
module

public import proofs.«01_k».proof.Proof.Value.Results
public import proofs.«01_k».proof.Proof.Value.RefOut
public import proofs.«01_k».proof.Proof.Gen.ReferenceIdeal.Run

@[expose] public section

noncomputable section

namespace Cert.ReferenceIdeal.Read

open Cert.ReferenceIdeal Cert.ReferenceIdeal.Gen Cert.Ffn Cert.KernelIdeal.Body
open Idealize.ShloMosaic Idealize.ShloMosaic.TcCoe Idealize.SL.Sem Idealize.ShloMosaic.StableHlo

variable {m : (ℓ : Loc nD τ sig) → Buf (Elt Ideal) ℓ}

theorem at2 {n b : ℕ} {v w : (⟨2, ![n, b]⟩ : Shape).Idx → EReal} (h : ∀ (r : Fin n) (k : Fin b), v (ix2 r k) = w (ix2 r k)) (i : (⟨2, ![n, b]⟩ : Shape).Idx) :
    v i = w i := by
  rw [← ix2_eta i]; exact h _ _

theorem at3 {a n b : ℕ} {v w : (⟨3, ![a, n, b]⟩ : Shape).Idx → EReal} (h : ∀ (j : Fin a) (r : Fin n) (k : Fin b), v (ix3 j r k) = w (ix3 j r k))
    (i : (⟨3, ![a, n, b]⟩ : Shape).Idx) : v i = w i := by
  rw [← ix3_eta i]; exact h _ _ _

/-- A core's eight arguments, holding the parameters. -/
abbrev ArgsAt (m : (ℓ : Loc nD τ sig) → Buf (Elt Ideal) ℓ) (c : Dev nD) (P : Params) : Prop :=
  Args P (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option maxHeartbeats 4000000 in
/-- The reference's run leaves the results. -/
theorem results (g : Dev nD → PrngReg) (P : Dev nD → Params) (h : ∀ c, ArgsAt m c (P c)) :
    θ_run (defs (F := Ideal)) (onTc (τ := τ) (main (F := Ideal))) ⟨m, fun _ => 0, g⟩ (fun r => ∀ c : Dev nD,
      (∀ i : (⟨2, ![4096, 1024]⟩ : Shape).Idx, r.2.mem ((c.tc : Thread nD τ).loc main_v178) i = dyV (P c) i)
      ∧ (∀ i : (⟨2, ![2816, 4096]⟩ : Shape).Idx, r.2.mem ((c.tc : Thread nD τ).loc main_v181) i = dugV (P c) i)
      ∧ (∀ i : (⟨2, ![2816, 4096]⟩ : Shape).Idx, r.2.mem ((c.tc : Thread nD τ).loc main_v184) i = duuV (P c) i)
      ∧ (∀ i : (⟨3, ![8, 8, 2816]⟩ : Shape).Idx, r.2.mem ((c.tc : Thread nD τ).loc main_v191) i = dcgV (P c) i)
      ∧ (∀ i : (⟨3, ![8, 8, 2816]⟩ : Shape).Idx, r.2.mem ((c.tc : Thread nD τ).loc main_v198) i = dcuV (P c) i)
      ∧ (∀ i : (⟨2, ![1, 1024]⟩ : Shape).Idx, r.2.mem ((c.tc : Thread nD τ).loc main_v199) i = dgpV (P c) i)
      ∧ (∀ i : (⟨2, ![4096, 1024]⟩ : Shape).Idx, r.2.mem ((c.tc : Thread nD τ).loc main_v200) i = dx2V (P c) i)
      ∧ (∀ i : (⟨2, ![1, 1024]⟩ : Shape).Idx, r.2.mem ((c.tc : Thread nD τ).loc main_v201) i = dgfV (P c) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun r hr c => ?_) (Cert.ReferenceIdeal.Value.run (F := Ideal) m g)
  obtain ⟨h0, h1, h2, h3, h4, h5, h6, h7, ha⟩ := hr c
  refine ⟨fun i => ?_, fun i => ?_, fun i => ?_, fun i => ?_, fun i => ?_, fun i => ?_, fun i => ?_, fun i => ?_, ha⟩
  · exact (congrFun (h0.trans (val_main_v178_eq (launchContents m c))) i).trans (at2 (w := dyV (P c)) (r178 (h c)) i)
  · exact (congrFun (h1.trans (val_main_v181_eq (launchContents m c))) i).trans (at2 (w := dugV (P c)) (r181 (h c)) i)
  · exact (congrFun (h2.trans (val_main_v184_eq (launchContents m c))) i).trans (at2 (w := duuV (P c)) (r184 (h c)) i)
  · exact (congrFun (h3.trans (val_main_v191_eq (launchContents m c))) i).trans (at3 (w := dcgV (P c)) (r191 (h c)) i)
  · exact (congrFun (h4.trans (val_main_v198_eq (launchContents m c))) i).trans (at3 (w := dcuV (P c)) (r198 (h c)) i)
  · exact (congrFun (h5.trans (val_main_v199_eq (launchContents m c))) i).trans (at2 (w := dgpV (P c)) (r199 (h c)) i)
  · exact (congrFun (h6.trans (val_main_v200_eq (launchContents m c))) i).trans (at2 (w := dx2V (P c)) (r200 (h c)) i)
  · exact (congrFun (h7.trans (val_main_v201_eq (launchContents m c))) i).trans (at2 (w := dgfV (P c)) (r201 (h c)) i)

end Cert.ReferenceIdeal.Read

end
-- ==== Proof.Value.Claim.lean ====
/-
  THE VALUE CLAIM. Both runs leave the same real numbers of the arguments, where the mask selects.
-/
module

public import proofs.«01_k».proof.Proof.Value.RefRun
public import proofs.«01_k».proof.Proof.Gen.On_whole_sums
public import proofs.«01_k».proof.Proof.Gen.Pre_finite

@[expose] public section

noncomputable section

namespace Cert.On_whole_sums

open Idealize.ShloMosaic

attribute [local instance] Cert.On_whole_sums.Gen.facts

variable (x0 : FVec Ideal S4096x1024 .f32) (x1 : FVec Ideal S1024 .f32) (x2 : FVec Ideal S1024x5632 .f32) (x3 : FVec Ideal S3x5632 .f32)
  (x4 : FVec Ideal S5632 .f32) (x5 : FVec Ideal S2816x1024 .f32) (x6 : FVec Ideal S1024 .f32) (x7 : FVec Ideal S4096x1024 .f32)

theorem last_of_eq (q : ℕ) (hq : q < 8) : IntOp.cmpi .eq (BitVec.ofNat 32 q) 7#32 = 1#1 → q = 7 := by
  have key : ∀ q < 8, IntOp.cmpi .eq (BitVec.ofNat 32 q) 7#32 = 1#1 → q = 7 := by decide
  exact key q hq

/-- Of the first table the mask selects the last of the eight sums. -/
theorem gate_last (i : S8x8x2816.Idx) (h : (fn (F := Ideal) x0 x1 x2 x3 x4 x5 x6 x7).2.2.2.1 i = 1#1) : (i 0).val = 7 :=
  last_of_eq _ (i 0).isLt h

/-- Of the second table too. -/
theorem up_last (i : S8x8x2816.Idx) (h : (fn (F := Ideal) x0 x1 x2 x3 x4 x5 x6 x7).2.2.2.2.1 i = 1#1) : (i 0).val = 7 :=
  last_of_eq _ (i 0).isLt h

end Cert.On_whole_sums

namespace Cert.Proof

open Idealize.ShloMosaic Idealize.ShloMosaic.TcCoe Idealize.SL.Sem Cert.Ffn

attribute [local instance] Cert.KernelIdeal.Gen.facts Cert.ReferenceIdeal.Gen.facts Cert.Pre_finite.Gen.facts Cert.On_whole_sums.Gen.facts

theorem algebraic : Cert.algebraic_KernelIdeal_ReferenceIdeal_on_whole_sums_pre_finite := by
  intro m g m' g' hp hagree
  choose P hP using Cert.KernelIdeal.Host.argsAt hp
  have hP' : ∀ c, Cert.ReferenceIdeal.Read.ArgsAt m' c (P c) := fun c => by
    obtain ⟨e0, e1, e2, e3, e4, e5, e6, e7⟩ := hagree c
    have h := hP c
    exact ⟨fun r k => (congrFun e0 _).trans (h.x0 r k), fun r => (congrFun e1 _).trans (h.x1 r), fun r k => (congrFun e2 _).trans (h.x2 r k),
      fun r k => (congrFun e3 _).trans (h.x3 r k), fun r => (congrFun e4 _).trans (h.x4 r), fun r k => (congrFun e5 _).trans (h.x5 r k),
      fun r => (congrFun e6 _).trans (h.x6 r), fun r k => (congrFun e7 _).trans (h.x7 r k), h.U, h.Y⟩
  refine ⟨fun c => dyV (P c), fun c => dugV (P c), fun c => duuV (P c), fun c => dcgV (P c), fun c => dcuV (P c), fun c => dgpV (P c), fun c => dx2V (P c), fun c => dgfV (P c), ?_, ?_⟩
  · refine (θ_run (Cert.KernelIdeal.defs (F := Ideal)) _ _).mono (fun r hr c => ?_) (Cert.KernelIdeal.Body.results g P fun c => Cert.KernelIdeal.Host.arrs (hP c))
    obtain ⟨h0, h1, h2, h3, h4, h5, h6, h7, ha⟩ := hr c
    exact ⟨fun i _ => h0 i, fun i _ => h1 i, fun i _ => h2 i, fun i hi => h3 i (Cert.On_whole_sums.gate_last _ _ _ _ _ _ _ _ i hi),
      fun i hi => h4 i (Cert.On_whole_sums.up_last _ _ _ _ _ _ _ _ i hi), fun i _ => h5 i, fun i _ => h6 i, fun i _ => h7 i, ha⟩
  · refine (θ_run (Cert.ReferenceIdeal.defs (F := Ideal)) _ _).mono (fun r hr c => ?_) (Cert.ReferenceIdeal.Read.results g' P hP')
    obtain ⟨h0, h1, h2, h3, h4, h5, h6, h7, ha⟩ := hr c
    exact ⟨fun i _ => h0 i, fun i _ => h1 i, fun i _ => h2 i, fun i _ => h3 i, fun i _ => h4 i, fun i _ => h5 i, fun i _ => h6 i, fun i _ => h7 i, ha⟩

end Cert.Proof

end
-- ==== Proof.Weights.Sums.lean ====
/- SUMS OF PRODUCTS OVER THE TOKENS, taken in blocks of 1024: what a weight's gradient is made of. -/
module

public import Idealize.ShloMosaic.Lib.MatmulPlain
public import Idealize.ShloMosaic.Lib.Pipeline.Value

@[expose] public section

noncomputable section

namespace Cert.Weights

open Idealize.ShloMosaic Idealize.ShloMosaic.ValueIdx
open scoped BigOperators

variable {M N : ℕ}

/-- The product at the token `k` of column `p` of `a` and column `q` of `b`; zero past the last token. -/
def term (a : (⟨2, ![4096, M]⟩ : Shape).Idx → EReal) (b : (⟨2, ![4096, N]⟩ : Shape).Idx → EReal) (p : Fin M) (q : Fin N) (k : ℕ) : EReal :=
  if h : k < 4096 then a (ix2 ⟨k, h⟩ p) * b (ix2 ⟨k, h⟩ q) else 0

/-- The gradient: `a` transposed times `b`, a sum over all the tokens. -/
def grad (a : (⟨2, ![4096, M]⟩ : Shape).Idx → EReal) (b : (⟨2, ![4096, N]⟩ : Shape).Idx → EReal) (p : Fin M) (q : Fin N) : EReal :=
  ∑ k : Fin 4096, a (ix2 k p) * b (ix2 k q)

theorem sum_term (a : (⟨2, ![4096, M]⟩ : Shape).Idx → EReal) (b : (⟨2, ![4096, N]⟩ : Shape).Idx → EReal) (p : Fin M) (q : Fin N) :
    ∑ k ∈ Finset.range 4096, term a b p q k = grad a b p q := by
  rw [Finset.sum_range]
  exact Finset.sum_congr rfl fun k _ => dif_pos k.isLt

/-- One more block of tokens. -/
theorem sum_block (f : ℕ → EReal) (n : ℕ) :
    ∑ k ∈ Finset.range (1024 * n), f k + ∑ x : Fin 1024, f (1024 * n + x.val) = ∑ k ∈ Finset.range (1024 * (n + 1)), f k := by
  rw [Nat.mul_succ, Finset.sum_range_add, Finset.sum_range (fun x => f (1024 * n + x))]

end Cert.Weights

end
-- ==== Proof.Weights.Value.lean ====
/- WHAT THE KERNEL OF A WEIGHT'S GRADIENT LEAVES. Four points in a row share one block of the result: the first stores its block of the
   product into the accumulator, the next three add theirs, and the last writes the accumulator out. So the accumulator after a point is
   the sum over the tokens up to that point's block, and the result is the sum over all of them. -/
module

public import proofs.«01_k».proof.Proof.Gen.Kernel2Ideal.Value
public import proofs.«01_k».proof.Proof.Weights.Sums
public import Idealize.ShloMosaic.Lib.Tactic
public import Idealize.ShloMosaic.Lib.StableHlo.Run

@[expose] public section

noncomputable section

namespace Cert.Kernel2Ideal.Weight

open Cert.Kernel2Ideal Cert.Kernel2Ideal.Gen Idealize.ShloMosaic Idealize.ShloMosaic.TcCoe Idealize.ShloMosaic.ValueIdx Cert.Weights
open scoped BigOperators

theorem zero_offsets : (![0, 0] : Fin 2 → Nat) = fun _ => 0 := funext fun a => by fin_cases a <;> rfl

/-! ## The cases' stores as values -/

section Cases

variable (c : Dev nD) (i : grid0.Coords) (a3 : Memref sig .tc .vmem S1408x1024 .bf16) (h3 : a3.IsWhole) (a4 : Memref sig .tc .vmem S1024x1024 .bf16) (h4 : a4.IsWhole)
  (a5 : Memref sig .tc .vmem S1408x1024 .bf16) (h5 : a5.IsWhole) (a6 : Memref sig .tc .vmem S1408x1024 .f32) (h6 : a6.IsWhole)
  (x0 : Vec Ideal S1408x1024 .bf16) (x1 : Vec Ideal S1024x1024 .bf16) (acc : Vec Ideal S1408x1024 .f32)

/-- The first point of a run leaves the product of its blocks. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero_offsets]
  unfold k0_pay2
  simp only [View.readAt_eq_ld, h3.read_unread, h4.read_unread, View.ld_unit_zero (S := S1408x1024) zero_offsets,
    View.ld_unit_zero (S := S1024x1024) zero_offsets, shapeCast_self]

/-- A point inside a run adds the product of its blocks. -/
theorem acc_middle (hc0 : ¬cond0_0 i) (hc1 : cond0_1 i) (hc2 : ¬cond0_2 i) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero zero_offsets]
  unfold k0_pay3
  simp only [View.readAt_eq_ld, h3.read_unread, h4.read_unread, h6.read_unread, View.ld_unit_zero (S := S1408x1024) zero_offsets,
    View.ld_unit_zero (S := S1024x1024) zero_offsets, shapeCast_self]

/-- So does the last point of a run, -/
theorem acc_last (hc0 : ¬cond0_0 i) (hc1 : cond0_1 i) (hc2 : cond0_2 i) :
    sout0_C_0 c i a3 h3 a4 h4 a5 h5 a6 h6 hc0 hc1 hc2 x0 x1 acc = addf acc (k0_pay1 x0 x1) := by
  unfold sout0_C_0
  rw [View.read_writes_eq_canon _ _ _ (scover0_C_0 c i a3 h3 a4 h4 a5 h5 a6 h6 hc0 hc1 hc2 x0 x1 acc)]
  unfold kernelRun0_C
  dsimp only
  sl_unfold_words
  rw [View.canon_unit_zero zero_offsets]
  unfold k0_pay3
  simp only [View.readAt_eq_ld, h3.read_unread, h4.read_unread, h6.read_unread, View.ld_unit_zero (S := S1408x1024) zero_offsets,
    View.ld_unit_zero (S := S1024x1024) zero_offsets, shapeCast_self]

/-- and it writes out the accumulator it leaves. -/
theorem out_last (hc0 : ¬cond0_0 i) (hc1 : cond0_1 i) (hc2 : cond0_2 i) :
    out0_C_2 c i a3 h3 a4 h4 a5 h5 a6 h6 hc0 hc1 hc2 x0 x1 acc = truncf .bf16 (addf acc (k0_pay1 x0 x1)) bitsLt_bf16_f32 := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero zero_offsets]
  unfold k0_pay4
  rw [View.readCov_unit_zero (S := S1408x1024) _ zero_offsets]
  unfold k0_pay3
  simp only [View.readAt_eq_ld, h3.read_unread, h4.read_unread, h6.read_unread, View.ld_unit_zero (S := S1408x1024) zero_offsets,
    View.ld_unit_zero (S := S1024x1024) zero_offsets, shapeCast_self]

end Cases

/-- The product of two blocks, at an index. -/
theorem product_apply (x0 : Vec Ideal S1408x1024 .bf16) (x1 : Vec Ideal S1024x1024 .bf16) (r : Fin 1408) (s : Fin 1024) :
    (k0_pay1 (F := Ideal) x0 x1 : S1408x1024.Idx → EReal) (ix2 r s) = ∑ k : Fin 1024, x0 (ix2 r k) * x1 (ix2 k s) := by
  unfold k0_pay1
  simp only [shapeCast_self]
  refine (Ideal.matmul_plain_apply none (φ₁ := .bf16) (φ₂ := .bf16) x0 x1 _ r s).trans ?_
  rw [show (constant (F := Ideal) S1408x1024 .f32 0x00000000#32 : S1408x1024.Idx → EReal) (ix2 r s) = 0 from Idealize.ShloMosaic.Ideal.ofBits_zero_f32]
  exact zero_add _

/-! ## The blocks as parts of the arguments -/

variable (m : (ℓ : Loc nD τ sig) → Buf (Elt Ideal) ℓ) (c : Dev nD)

/-- The two arguments. -/
abbrev argA : S4096x2816.Idx → EReal := m ((c.tc : Thread nD τ).loc main_arg0)
abbrev argB : S4096x1024.Idx → EReal := m ((c.tc : Thread nD τ).loc main_arg1)

/-- The kernel's left operand is the first argument transposed, -/
theorem left_apply (p : Fin 2816) (k : Fin 4096) : (V m c main_v1 : S2816x4096.Idx → EReal) (ix2 p k) = argA m c (ix2 k p) := by
  have e : V m c main_v1 = truncf .bf16 (F := Ideal) (transpose S2816x4096 [1, 0] (m ((c.tc : Thread nD τ).loc main_arg0)) transposes_S4096x2816_S2816x4096_1_0) bitsLt_bf16_f32 := by
    show StableHlo.after hostOps0 (fun b => m (c, b)) (Proc.devRef .tc main_v1) = _
    after_results_simp
  rw [e]
  exact transpose_apply [1, 0] (argA m c) transposes_S4096x2816_S2816x4096_1_0 (ix2 p k) (ix2 k p) (fun b => match b with
    | ⟨0, _⟩ => rfl
    | ⟨1, _⟩ => rfl)

/-- and its right operand is the second. -/
theorem right_apply (k : Fin 4096) (q : Fin 1024) : (V m c main_v2 : S4096x1024.Idx → EReal) (ix2 k q) = argB m c (ix2 k q) := by
  have e : V m c main_v2 = truncf .bf16 (F := Ideal) (m ((c.tc : Thread nD τ).loc main_arg1)) bitsLt_bf16_f32 := by
    show StableHlo.after hostOps0 (fun b => m (c, b)) (Proc.devRef .tc main_v2) = _
    after_results_simp
  rw [e]
  rfl

theorem index0 : ∀ t : Fin grid0.N, win0_0.index t 0 = t.val / 4 ∧ win0_0.index t 1 = t.val % 4 := by decide +kernel
theorem index1 : ∀ t : Fin grid0.N, win0_1.index t 0 = t.val % 4 ∧ win0_1.index t 1 = 0 := by decide +kernel

/-- The point's left block: the columns of its run, the tokens of its place in the run. -/
theorem block0 (t : Fin cfg0.N) (r : Fin 1408) (x : Fin 1024) (p : Fin 2816) (k : Fin 4096) (hp : p.val = 1408 * (t.val / 4) + r.val)
    (hk : k.val = 1024 * (t.val % 4) + x.val) : (iblk m c 0 t : S1408x1024.Idx → EReal) (ix2 r x) = argA m c (ix2 k p) := by
  rw [← left_apply m c p k]
  unfold iblk
  rw [View.read_apply, cast_eq]
  show V m c main_v1 _ = _
  refine congrArg (V m c main_v1) (funext fun a => Fin.ext ?_)
  match a with
  | ⟨0, _⟩ => show win0_0.index t 0 * 1408 + 1 * r.val = p.val; rw [(index0 t).1, hp]; omega
  | ⟨1, _⟩ => show win0_0.index t 1 * 1024 + 1 * x.val = k.val; rw [(index0 t).2, hk]; omega

/-- The point's right block: all the columns, the same tokens. -/
theorem block1 (t : Fin cfg0.N) (x : Fin 1024) (s : Fin 1024) (k : Fin 4096) (hk : k.val = 1024 * (t.val % 4) + x.val) :
    (iblk m c 1 t : S1024x1024.Idx → EReal) (ix2 x s) = argB m c (ix2 k s) := by
  rw [← right_apply m c k s]
  unfold iblk
  rw [View.read_apply, cast_eq]
  show V m c main_v2 _ = _
  refine congrArg (V m c main_v2) (funext fun a => Fin.ext ?_)
  match a with
  | ⟨0, _⟩ => show win0_1.index t 0 * 1024 + 1 * x.val = k.val; rw [(index1 t).1, hk]; omega
  | ⟨1, _⟩ => show win0_1.index t 1 * 1024 + 1 * s.val = s.val; rw [(index1 t).2]; omega

/-- The product of a point's blocks is the sum over its tokens. -/
theorem product_block (t : Fin cfg0.N) (r : Fin 1408) (s : Fin 1024) (p : Fin 2816) (hp : p.val = 1408 * (t.val / 4) + r.val) :
    (k0_pay1 (F := Ideal) (iblk m c 0 t) (iblk m c 1 t) : S1408x1024.Idx → EReal) (ix2 r s)
      = ∑ x : Fin 1024, term (argA m c) (argB m c) p s (1024 * (t.val % 4) + x.val) := by
  rw [product_apply]
  refine Finset.sum_congr rfl fun x _ => ?_
  have hx : 1024 * (t.val % 4) + x.val < 4096 := by omega
  rw [block0 m c t r x p ⟨_, hx⟩ hp rfl, block1 m c t x s ⟨_, hx⟩ rfl]
  unfold term
  rw [dif_pos hx]

/-! ## The accumulator, and the result -/

/-- After a point the accumulator holds the sum over the tokens up to the end of the point's block. -/
theorem acc_eq : ∀ (n : ℕ) (h : n < cfg0.N) (r : Fin 1408) (s : Fin 1024) (p : Fin 2816), p.val = 1408 * (n / 4) + r.val →
    ((outsAt0 m c n h).2 : S1408x1024.Idx → EReal) (ix2 r s) = ∑ k ∈ Finset.range (1024 * (n % 4 + 1)), term (argA m c) (argB m c) p s k := by
  intro n
  induction n with
  | zero =>
    intro h r s p hp
    rw [outsAt0_A m c ⟨0, h⟩ rfl (by dsimp only; omega) (by dsimp only; omega)]
    dsimp only
    rw [acc_first, product_block m c ⟨0, h⟩ r s p hp, ← sum_block, Nat.zero_mod, Nat.mul_zero, Finset.range_zero, Finset.sum_empty, zero_add]
  | succ n ih =>
    intro h r s p hp
    by_cases h0 : (n + 1) % 4 = 0
    · rw [outsAt0_A m c ⟨n + 1, h⟩ h0 (by dsimp only; omega) (by dsimp only; omega)]
      dsimp only
      rw [acc_first, product_block m c ⟨n + 1, h⟩ r s p hp, ← sum_block]
      dsimp only
      rw [h0, Nat.mul_zero, Finset.range_zero, Finset.sum_empty, zero_add]
    · have hd : n / 4 = (n + 1) / 4 := by omega
      have hm : (n + 1) % 4 = n % 4 + 1 := by omega
      have ih' := ih (Nat.lt_of_succ_lt h) r s p (by rw [hd]; exact hp)
      have hb := product_block m c ⟨n + 1, h⟩ r s p hp
      rw [← sum_block, hm, ← ih', ← hm]
      by_cases h2 : (n + 1) % 4 = 3
      · rw [outsAt0_C m c ⟨n + 1, h⟩ h0 (by dsimp only; omega) h2]
        dsimp only
        rw [acc_last, ← hb]
        rfl
      · rw [outsAt0_B m c ⟨n + 1, h⟩ h0 (by dsimp only; omega) h2]
        dsimp only
        rw [acc_middle, ← hb]
        rfl

/-- The last point of a run writes out the whole sums. -/
theorem out_eq (n : ℕ) (h : n < cfg0.N) (h3 : n % 4 = 3) (r : Fin 1408) (s : Fin 1024) (p : Fin 2816) (hp : p.val = 1408 * (n / 4) + r.val) :
    ((outsAt0 m c n h).1 : S1408x1024.Idx → EReal) (ix2 r s) = grad (argA m c) (argB m c) p s := by
  have ha := acc_eq m c n h r s p hp
  have e : ((outsAt0 m c n h).1 : S1408x1024.Idx → EReal) (ix2 r s) = ((outsAt0 m c n h).2 : S1408x1024.Idx → EReal) (ix2 r s) := by
    rw [outsAt0_C m c ⟨n, h⟩ (by dsimp only; omega) (by dsimp only; omega) h3]
    dsimp only
    rw [out_last, acc_last]
    rfl
  rw [e, ha, h3]
  exact sum_term ..

/-- THE RESULT at an index: the first argument transposed times the second. -/
theorem result_eq : (Value.G2 m c : S2816x1024.Idx → EReal) = fun i => grad (argA m c) (argB m c) (i 0) (i 1) := by
  funext i
  have hi0 : (i 0).val < 2816 := (i 0).isLt
  have hi1 : (i 1).val < 1024 := (i 1).isLt
  have hN : Value.pt2Of i < cfg0.N := by
    rw [show cfg0.N = 8 from N_0]
    show 4 * (1 * ((i 0).val / 1408 - 0) + 1 * ((i 1).val / 1024 - 0)) + 3 < 8
    omega
  have hl : Value.loc2Of i = ix2 ⟨(i 0).val % 1408, Nat.mod_lt _ (by decide)⟩ (i 1) := by
    funext a; apply Fin.ext
    match a with
    | ⟨0, _⟩ => rfl
    | ⟨1, _⟩ => exact Nat.mod_eq_of_lt hi1
  show Value.G2 m c i = _
  unfold Value.G2
  rw [dif_pos hN, ← Value.outsAt0_sweep m c _ hN, hl]
  refine out_eq m c _ hN ?_ _ _ _ ?_
  · show (4 * Value.run2Of i + 3) % 4 = 3
    omega
  · show (i 0).val = 1408 * ((4 * (1 * ((i 0).val / 1408 - 0) + 1 * ((i 1).val / 1024 - 0)) + 3) / 4) + (i 0).val % 1408
    omega

end Cert.Kernel2Ideal.Weight

end
-- ==== Proof.Weights.Claim.lean ====
/- THE KERNEL OF A WEIGHT'S GRADIENT AGAINST THE TWO GRADIENTS IT COMPUTES: that of the down-projection's matrix, and that of one half of the
   up-projection's matrix, which is kept transposed. Both are the first argument transposed times the second. -/
module

public import proofs.«01_k».proof.Defs
public import proofs.«01_k».proof.Proof.Weights.Value
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Reference3Ideal
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read

@[expose] public section

noncomputable section

open Idealize.ShloMosaic Idealize.ShloMosaic.TcCoe Idealize.ShloMosaic.ValueIdx Idealize.SL.Sem Cert.Weights
open scoped BigOperators

attribute [local instance] Cert.Kernel2.Gen.facts Cert.Kernel2Ideal.Gen.facts Cert.Reference2Ideal.Gen.facts Cert.Reference3Ideal.Gen.facts

namespace Cert.Reference2Ideal.Read

/-- The down-projection's gradient: a product with the factors the other way round, transposed. -/
theorem grad_eq (a : S4096x2816.Idx → EReal) (b : S4096x1024.Idx → EReal) :
    (val_main_v4 (F := Ideal) a b : S2816x1024.Idx → EReal) = fun i => grad a b (i 0) (i 1) := by
  funext i
  show val_main_v3 (F := Ideal) a b i = _
  rw [val_main_v3_apply, val_main_v2_apply]
  refine Finset.sum_congr rfl fun k _ => ?_
  rw [mul_comm]
  refine congrArg₂ (fun x y : EReal => x * y) (congrArg a (funext fun d => Fin.ext ?_)) (congrArg b (funext fun d => Fin.ext ?_))
  all_goals match d with
    | ⟨0, _⟩ => rfl
    | ⟨1, _⟩ => rfl

end Cert.Reference2Ideal.Read

namespace Cert.Reference3Ideal.Read

/-- The gradient of a half of the up-projection, transposed twice. -/
theorem grad_eq (a : S4096x2816.Idx → EReal) (b : S4096x1024.Idx → EReal) :
    (val_main_v5 (F := Ideal) a b : S2816x1024.Idx → EReal) = fun i => grad a b (i 0) (i 1) := by
  funext i
  show val_main_v4 (F := Ideal) a b i = _
  rw [val_main_v4_apply, val_main_v3_apply, val_main_v2_apply]
  refine Finset.sum_congr rfl fun k _ => ?_
  refine congrArg₂ (fun x y : EReal => x * y) (congrArg a (funext fun d => Fin.ext ?_)) (congrArg b (funext fun d => Fin.ext ?_))
  all_goals match d with
    | ⟨0, _⟩ => rfl
    | ⟨1, _⟩ => rfl

end Cert.Reference3Ideal.Read

namespace Cert.Proof

/-- The references have no semaphore; their arguments are among what their runs state. -/
theorem frame_reference2Ideal : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

theorem frame_reference3Ideal : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The kernel computes the gradient of the down-projection's matrix. -/
theorem algebraic_down : Cert.algebraic_Kernel2Ideal_Reference2Ideal := by
  intro m g m' g' _ hagree
  refine ⟨fun c => Cert.Kernel2Ideal.Value.G2 m c, Cert.Kernel2Ideal.Value.run m g, ?_⟩
  refine (θ_run (Cert.Reference2Ideal.defs (F := Ideal)) _ _).mono (fun r h c => ⟨(h c).1.trans ?_, (h c).2⟩) (Cert.Reference2Ideal.Value.run m' g')
  rw [(hagree c).1, (hagree c).2, Cert.Reference2Ideal.Read.val_main_v4_eq]
  exact (Cert.Reference2Ideal.Read.grad_eq _ _).trans (Cert.Kernel2Ideal.Weight.result_eq m c).symm

/-- The kernel computes the gradient of a half of the up-projection's matrix, transposed. -/
theorem algebraic_up : Cert.algebraic_Kernel2Ideal_Reference3Ideal := by
  intro m g m' g' _ hagree
  refine ⟨fun c => Cert.Kernel2Ideal.Value.G2 m c, Cert.Kernel2Ideal.Value.run m g, ?_⟩
  refine (θ_run (Cert.Reference3Ideal.defs (F := Ideal)) _ _).mono (fun r h c => ⟨(h c).1.trans ?_, (h c).2⟩) (Cert.Reference3Ideal.Value.run m' g')
  rw [(hagree c).1, (hagree c).2, Cert.Reference3Ideal.Read.val_main_v5_eq]
  exact (Cert.Reference3Ideal.Read.grad_eq _ _).trans (Cert.Kernel2Ideal.Weight.result_eq m c).symm

end Cert.Proof

end
-- ==== Proof.Weights.In.lean ====
/- THE SAME KERNEL FOR THE GRADIENT OF THE INPUT PROJECTION: eight points, four to each of the two column tiles of the result. -/
module

public import proofs.«01_k».proof.Proof.Gen.Kernel4Ideal.Value
public import proofs.«01_k».proof.Proof.Weights.Sums
public import Idealize.ShloMosaic.Lib.Tactic
public import Idealize.ShloMosaic.Lib.StableHlo.Run

@[expose] public section

noncomputable section

namespace Cert.Kernel4Ideal.Weight

open Cert.Kernel4Ideal Cert.Kernel4Ideal.Gen Idealize.ShloMosaic Idealize.ShloMosaic.TcCoe Idealize.ShloMosaic.ValueIdx Cert.Weights
open scoped BigOperators

theorem zero_offsets : (![0, 0] : Fin 2 → Nat) = fun _ => 0 := funext fun a => by fin_cases a <;> rfl

/-! ## The cases' stores as values -/

section Cases

variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (acc : Vec Ideal S1024x1024 .f32)

/-- The first point of a run leaves the product of its blocks. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero_offsets]
  unfold k0_pay2
  simp only [View.readAt_eq_ld, h3.read_unread, h4.read_unread, View.ld_unit_zero (S := S1024x1024) zero_offsets, shapeCast_self]

/-- A point inside a run adds the product of its blocks. -/
theorem acc_middle (hc0 : ¬cond0_0 i) (hc1 : cond0_1 i) (hc2 : ¬cond0_2 i) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero zero_offsets]
  unfold k0_pay3
  simp only [View.readAt_eq_ld, h3.read_unread, h4.read_unread, h6.read_unread, View.ld_unit_zero (S := S1024x1024) zero_offsets, shapeCast_self]

/-- So does the last point of a run, -/
theorem acc_last (hc0 : ¬cond0_0 i) (hc1 : cond0_1 i) (hc2 : cond0_2 i) :
    sout0_C_0 c i a3 h3 a4 h4 a5 h5 a6 h6 hc0 hc1 hc2 x0 x1 acc = addf acc (k0_pay1 x0 x1) := by
  unfold sout0_C_0
  rw [View.read_writes_eq_canon _ _ _ (scover0_C_0 c i a3 h3 a4 h4 a5 h5 a6 h6 hc0 hc1 hc2 x0 x1 acc)]
  unfold kernelRun0_C
  dsimp only
  sl_unfold_words
  rw [View.canon_unit_zero zero_offsets]
  unfold k0_pay3
  simp only [View.readAt_eq_ld, h3.read_unread, h4.read_unread, h6.read_unread, View.ld_unit_zero (S := S1024x1024) zero_offsets, shapeCast_self]

/-- and it writes out the accumulator it leaves. -/
theorem out_last (hc0 : ¬cond0_0 i) (hc1 : cond0_1 i) (hc2 : cond0_2 i) :
    out0_C_2 c i a3 h3 a4 h4 a5 h5 a6 h6 hc0 hc1 hc2 x0 x1 acc = truncf .bf16 (addf acc (k0_pay1 x0 x1)) bitsLt_bf16_f32 := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero zero_offsets]
  unfold k0_pay4
  rw [View.readCov_unit_zero (S := S1024x1024) _ zero_offsets]
  unfold k0_pay3
  simp only [View.readAt_eq_ld, h3.read_unread, h4.read_unread, h6.read_unread, View.ld_unit_zero (S := S1024x1024) zero_offsets, shapeCast_self]

end Cases

/-- The product of two blocks, at an index. -/
theorem product_apply (x0 : Vec Ideal S1024x1024 .bf16) (x1 : Vec Ideal S1024x1024 .bf16) (r : Fin 1024) (s : Fin 1024) :
    (k0_pay1 (F := Ideal) x0 x1 : S1024x1024.Idx → EReal) (ix2 r s) = ∑ k : Fin 1024, x0 (ix2 r k) * x1 (ix2 k s) := by
  unfold k0_pay1
  simp only [shapeCast_self]
  refine (Ideal.matmul_plain_apply none (φ₁ := .bf16) (φ₂ := .bf16) x0 x1 _ r s).trans ?_
  rw [show (constant (F := Ideal) S1024x1024 .f32 0x00000000#32 : S1024x1024.Idx → EReal) (ix2 r s) = 0 from Idealize.ShloMosaic.Ideal.ofBits_zero_f32]
  exact zero_add _

/-! ## The blocks as parts of the arguments -/

variable (m : (ℓ : Loc nD τ sig) → Buf (Elt Ideal) ℓ) (c : Dev nD)

/-- The two arguments. -/
abbrev argA : S4096x1024.Idx → EReal := m ((c.tc : Thread nD τ).loc main_arg0)
abbrev argB : S4096x2048.Idx → EReal := m ((c.tc : Thread nD τ).loc main_arg1)

/-- The kernel's left operand is the first argument transposed, -/
theorem left_apply (p : Fin 1024) (k : Fin 4096) : (V m c main_v1 : S1024x4096.Idx → EReal) (ix2 p k) = argA m c (ix2 k p) := by
  have e : V m c main_v1 = truncf .bf16 (F := Ideal) (transpose S1024x4096 [1, 0] (m ((c.tc : Thread nD τ).loc main_arg0)) transposes_S4096x1024_S1024x4096_1_0) bitsLt_bf16_f32 := by
    show StableHlo.after hostOps0 (fun b => m (c, b)) (Proc.devRef .tc main_v1) = _
    after_results_simp
  rw [e]
  exact transpose_apply [1, 0] (argA m c) transposes_S4096x1024_S1024x4096_1_0 (ix2 p k) (ix2 k p) (fun b => match b with
    | ⟨0, _⟩ => rfl
    | ⟨1, _⟩ => rfl)

/-- and its right operand is the second. -/
theorem right_apply (k : Fin 4096) (q : Fin 2048) : (V m c main_v2 : S4096x2048.Idx → EReal) (ix2 k q) = argB m c (ix2 k q) := by
  have e : V m c main_v2 = truncf .bf16 (F := Ideal) (m ((c.tc : Thread nD τ).loc main_arg1)) bitsLt_bf16_f32 := by
    show StableHlo.after hostOps0 (fun b => m (c, b)) (Proc.devRef .tc main_v2) = _
    after_results_simp
  rw [e]
  rfl

theorem index0 : ∀ t : Fin grid0.N, win0_0.index t 0 = 0 ∧ win0_0.index t 1 = t.val % 4 := by decide +kernel
theorem index1 : ∀ t : Fin grid0.N, win0_1.index t 0 = t.val % 4 ∧ win0_1.index t 1 = t.val / 4 := by decide +kernel

/-- The point's left block: all the columns, the tokens of its place in the run. -/
theorem block0 (t : Fin cfg0.N) (r : Fin 1024) (x : Fin 1024) (k : Fin 4096)
    (hk : k.val = 1024 * (t.val % 4) + x.val) : (iblk m c 0 t : S1024x1024.Idx → EReal) (ix2 r x) = argA m c (ix2 k r) := by
  rw [← left_apply m c r k]
  unfold iblk
  rw [View.read_apply, cast_eq]
  show V m c main_v1 _ = _
  refine congrArg (V m c main_v1) (funext fun a => Fin.ext ?_)
  match a with
  | ⟨0, _⟩ => show win0_0.index t 0 * 1024 + 1 * r.val = r.val; rw [(index0 t).1]; omega
  | ⟨1, _⟩ => show win0_0.index t 1 * 1024 + 1 * x.val = k.val; rw [(index0 t).2, hk]; omega

/-- The point's right block: the columns of its run, the same tokens. -/
theorem block1 (t : Fin cfg0.N) (x : Fin 1024) (s : Fin 1024) (q : Fin 2048) (k : Fin 4096) (hq : q.val = 1024 * (t.val / 4) + s.val)
    (hk : k.val = 1024 * (t.val % 4) + x.val) :
    (iblk m c 1 t : S1024x1024.Idx → EReal) (ix2 x s) = argB m c (ix2 k q) := by
  rw [← right_apply m c k q]
  unfold iblk
  rw [View.read_apply, cast_eq]
  show V m c main_v2 _ = _
  refine congrArg (V m c main_v2) (funext fun a => Fin.ext ?_)
  match a with
  | ⟨0, _⟩ => show win0_1.index t 0 * 1024 + 1 * x.val = k.val; rw [(index1 t).1, hk]; omega
  | ⟨1, _⟩ => show win0_1.index t 1 * 1024 + 1 * s.val = q.val; rw [(index1 t).2, hq]; omega

/-- The product of a point's blocks is the sum over its tokens. -/
theorem product_block (t : Fin cfg0.N) (r : Fin 1024) (s : Fin 1024) (q : Fin 2048) (hq : q.val = 1024 * (t.val / 4) + s.val) :
    (k0_pay1 (F := Ideal) (iblk m c 0 t) (iblk m c 1 t) : S1024x1024.Idx → EReal) (ix2 r s)
      = ∑ x : Fin 1024, term (argA m c) (argB m c) r q (1024 * (t.val % 4) + x.val) := by
  rw [product_apply]
  refine Finset.sum_congr rfl fun x _ => ?_
  have hx : 1024 * (t.val % 4) + x.val < 4096 := by omega
  rw [block0 m c t r x ⟨_, hx⟩ rfl, block1 m c t x s q ⟨_, hx⟩ hq rfl]
  unfold term
  rw [dif_pos hx]

/-! ## The accumulator, and the result -/

/-- After a point the accumulator holds the sum over the tokens up to the end of the point's block. -/
theorem acc_eq : ∀ (n : ℕ) (h : n < cfg0.N) (r : Fin 1024) (s : Fin 1024) (q : Fin 2048), q.val = 1024 * (n / 4) + s.val →
    ((outsAt0 m c n h).2 : S1024x1024.Idx → EReal) (ix2 r s) = ∑ k ∈ Finset.range (1024 * (n % 4 + 1)), term (argA m c) (argB m c) r q k := by
  intro n
  induction n with
  | zero =>
    intro h r s q hq
    rw [outsAt0_A m c ⟨0, h⟩ rfl (by dsimp only; omega) (by dsimp only; omega)]
    dsimp only
    rw [acc_first, product_block m c ⟨0, h⟩ r s q hq, ← sum_block, Nat.zero_mod, Nat.mul_zero, Finset.range_zero, Finset.sum_empty, zero_add]
  | succ n ih =>
    intro h r s q hq
    by_cases h0 : (n + 1) % 4 = 0
    · rw [outsAt0_A m c ⟨n + 1, h⟩ h0 (by dsimp only; omega) (by dsimp only; omega)]
      dsimp only
      rw [acc_first, product_block m c ⟨n + 1, h⟩ r s q hq, ← sum_block]
      dsimp only
      rw [h0, Nat.mul_zero, Finset.range_zero, Finset.sum_empty, zero_add]
    · have hd : n / 4 = (n + 1) / 4 := by omega
      have hm : (n + 1) % 4 = n % 4 + 1 := by omega
      have ih' := ih (Nat.lt_of_succ_lt h) r s q (by rw [hd]; exact hq)
      have hb := product_block m c ⟨n + 1, h⟩ r s q hq
      rw [← sum_block, hm, ← ih', ← hm]
      by_cases h2 : (n + 1) % 4 = 3
      · rw [outsAt0_C m c ⟨n + 1, h⟩ h0 (by dsimp only; omega) h2]
        dsimp only
        rw [acc_last, ← hb]
        rfl
      · rw [outsAt0_B m c ⟨n + 1, h⟩ h0 (by dsimp only; omega) h2]
        dsimp only
        rw [acc_middle, ← hb]
        rfl

/-- The last point of a run writes out the whole sums. -/
theorem out_eq (n : ℕ) (h : n < cfg0.N) (h3 : n % 4 = 3) (r : Fin 1024) (s : Fin 1024) (q : Fin 2048) (hq : q.val = 1024 * (n / 4) + s.val) :
    ((outsAt0 m c n h).1 : S1024x1024.Idx → EReal) (ix2 r s) = grad (argA m c) (argB m c) r q := by
  have ha := acc_eq m c n h r s q hq
  have e : ((outsAt0 m c n h).1 : S1024x1024.Idx → EReal) (ix2 r s) = ((outsAt0 m c n h).2 : S1024x1024.Idx → EReal) (ix2 r s) := by
    rw [outsAt0_C m c ⟨n, h⟩ (by dsimp only; omega) (by dsimp only; omega) h3]
    dsimp only
    rw [out_last, acc_last]
    rfl
  rw [e, ha, h3]
  exact sum_term ..

/-- THE RESULT at an index: the first argument transposed times the second. -/
theorem result_eq : (Value.G2 m c : S1024x2048.Idx → EReal) = fun i => grad (argA m c) (argB m c) (i 0) (i 1) := by
  funext i
  have hi0 : (i 0).val < 1024 := (i 0).isLt
  have hi1 : (i 1).val < 2048 := (i 1).isLt
  have hN : Value.pt2Of i < cfg0.N := by
    rw [show cfg0.N = 8 from N_0]
    show 4 * (2 * ((i 0).val / 1024 - 0) + 1 * ((i 1).val / 1024 - 0)) + 3 < 8
    omega
  have hl : Value.loc2Of i = ix2 (i 0) ⟨(i 1).val % 1024, Nat.mod_lt _ (by decide)⟩ := by
    funext a; apply Fin.ext
    match a with
    | ⟨0, _⟩ => exact Nat.mod_eq_of_lt hi0
    | ⟨1, _⟩ => rfl
  show Value.G2 m c i = _
  unfold Value.G2
  rw [dif_pos hN, ← Value.outsAt0_sweep m c _ hN, hl]
  refine out_eq m c _ hN ?_ _ _ _ ?_
  · show (4 * Value.run2Of i + 3) % 4 = 3
    omega
  · show (i 1).val = 1024 * ((4 * (2 * ((i 0).val / 1024 - 0) + 1 * ((i 1).val / 1024 - 0)) + 3) / 4) + (i 1).val % 1024
    omega

end Cert.Kernel4Ideal.Weight

end
-- ==== Proof.Weights.Out.lean ====
/- THE SAME KERNEL FOR THE GRADIENT OF THE OUTPUT PROJECTION: four points, all of them for the one block of the result. -/
module

public import proofs.«01_k».proof.Proof.Gen.Kernel5Ideal.Value
public import proofs.«01_k».proof.Proof.Weights.Sums
public import Idealize.ShloMosaic.Lib.Tactic
public import Idealize.ShloMosaic.Lib.StableHlo.Run

@[expose] public section

noncomputable section

namespace Cert.Kernel5Ideal.Weight

open Cert.Kernel5Ideal Cert.Kernel5Ideal.Gen Idealize.ShloMosaic Idealize.ShloMosaic.TcCoe Idealize.ShloMosaic.ValueIdx Cert.Weights
open scoped BigOperators

theorem zero_offsets : (![0, 0] : Fin 2 → Nat) = fun _ => 0 := funext fun a => by fin_cases a <;> rfl

/-! ## The cases' stores as values -/

section Cases

variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (acc : Vec Ideal S1024x1024 .f32)

/-- The first point of a run leaves the product of its blocks. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero_offsets]
  unfold k0_pay2
  simp only [View.readAt_eq_ld, h3.read_unread, h4.read_unread, View.ld_unit_zero (S := S1024x1024) zero_offsets, shapeCast_self]

/-- A point inside a run adds the product of its blocks. -/
theorem acc_middle (hc0 : ¬cond0_0 i) (hc1 : cond0_1 i) (hc2 : ¬cond0_2 i) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero zero_offsets]
  unfold k0_pay3
  simp only [View.readAt_eq_ld, h3.read_unread, h4.read_unread, h6.read_unread, View.ld_unit_zero (S := S1024x1024) zero_offsets, shapeCast_self]

/-- So does the last point of a run, -/
theorem acc_last (hc0 : ¬cond0_0 i) (hc1 : cond0_1 i) (hc2 : cond0_2 i) :
    sout0_C_0 c i a3 h3 a4 h4 a5 h5 a6 h6 hc0 hc1 hc2 x0 x1 acc = addf acc (k0_pay1 x0 x1) := by
  unfold sout0_C_0
  rw [View.read_writes_eq_canon _ _ _ (scover0_C_0 c i a3 h3 a4 h4 a5 h5 a6 h6 hc0 hc1 hc2 x0 x1 acc)]
  unfold kernelRun0_C
  dsimp only
  sl_unfold_words
  rw [View.canon_unit_zero zero_offsets]
  unfold k0_pay3
  simp only [View.readAt_eq_ld, h3.read_unread, h4.read_unread, h6.read_unread, View.ld_unit_zero (S := S1024x1024) zero_offsets, shapeCast_self]

/-- and it writes out the accumulator it leaves. -/
theorem out_last (hc0 : ¬cond0_0 i) (hc1 : cond0_1 i) (hc2 : cond0_2 i) :
    out0_C_2 c i a3 h3 a4 h4 a5 h5 a6 h6 hc0 hc1 hc2 x0 x1 acc = truncf .bf16 (addf acc (k0_pay1 x0 x1)) bitsLt_bf16_f32 := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero zero_offsets]
  unfold k0_pay4
  rw [View.readCov_unit_zero (S := S1024x1024) _ zero_offsets]
  unfold k0_pay3
  simp only [View.readAt_eq_ld, h3.read_unread, h4.read_unread, h6.read_unread, View.ld_unit_zero (S := S1024x1024) zero_offsets, shapeCast_self]

end Cases

/-- The product of two blocks, at an index. -/
theorem product_apply (x0 : Vec Ideal S1024x1024 .bf16) (x1 : Vec Ideal S1024x1024 .bf16) (r : Fin 1024) (s : Fin 1024) :
    (k0_pay1 (F := Ideal) x0 x1 : S1024x1024.Idx → EReal) (ix2 r s) = ∑ k : Fin 1024, x0 (ix2 r k) * x1 (ix2 k s) := by
  unfold k0_pay1
  simp only [shapeCast_self]
  refine (Ideal.matmul_plain_apply none (φ₁ := .bf16) (φ₂ := .bf16) x0 x1 _ r s).trans ?_
  rw [show (constant (F := Ideal) S1024x1024 .f32 0x00000000#32 : S1024x1024.Idx → EReal) (ix2 r s) = 0 from Idealize.ShloMosaic.Ideal.ofBits_zero_f32]
  exact zero_add _

/-! ## The blocks as parts of the arguments -/

variable (m : (ℓ : Loc nD τ sig) → Buf (Elt Ideal) ℓ) (c : Dev nD)

/-- The two arguments. -/
abbrev argA : S4096x1024.Idx → EReal := m ((c.tc : Thread nD τ).loc main_arg0)
abbrev argB : S4096x1024.Idx → EReal := m ((c.tc : Thread nD τ).loc main_arg1)

/-- The kernel's left operand is the first argument transposed, -/
theorem left_apply (p : Fin 1024) (k : Fin 4096) : (V m c main_v1 : S1024x4096.Idx → EReal) (ix2 p k) = argA m c (ix2 k p) := by
  have e : V m c main_v1 = truncf .bf16 (F := Ideal) (transpose S1024x4096 [1, 0] (m ((c.tc : Thread nD τ).loc main_arg0)) transposes_S4096x1024_S1024x4096_1_0) bitsLt_bf16_f32 := by
    show StableHlo.after hostOps0 (fun b => m (c, b)) (Proc.devRef .tc main_v1) = _
    after_results_simp
  rw [e]
  exact transpose_apply [1, 0] (argA m c) transposes_S4096x1024_S1024x4096_1_0 (ix2 p k) (ix2 k p) (fun b => match b with
    | ⟨0, _⟩ => rfl
    | ⟨1, _⟩ => rfl)

/-- and its right operand is the second. -/
theorem right_apply (k : Fin 4096) (q : Fin 1024) : (V m c main_v2 : S4096x1024.Idx → EReal) (ix2 k q) = argB m c (ix2 k q) := by
  have e : V m c main_v2 = truncf .bf16 (F := Ideal) (m ((c.tc : Thread nD τ).loc main_arg1)) bitsLt_bf16_f32 := by
    show StableHlo.after hostOps0 (fun b => m (c, b)) (Proc.devRef .tc main_v2) = _
    after_results_simp
  rw [e]
  rfl

theorem index0 : ∀ t : Fin grid0.N, win0_0.index t 0 = 0 ∧ win0_0.index t 1 = t.val % 4 := by decide +kernel
theorem index1 : ∀ t : Fin grid0.N, win0_1.index t 0 = t.val % 4 ∧ win0_1.index t 1 = t.val / 4 := by decide +kernel

/-- The point's left block: all the columns, the tokens of its place in the run. -/
theorem block0 (t : Fin cfg0.N) (r : Fin 1024) (x : Fin 1024) (k : Fin 4096)
    (hk : k.val = 1024 * (t.val % 4) + x.val) : (iblk m c 0 t : S1024x1024.Idx → EReal) (ix2 r x) = argA m c (ix2 k r) := by
  rw [← left_apply m c r k]
  unfold iblk
  rw [View.read_apply, cast_eq]
  show V m c main_v1 _ = _
  refine congrArg (V m c main_v1) (funext fun a => Fin.ext ?_)
  match a with
  | ⟨0, _⟩ => show win0_0.index t 0 * 1024 + 1 * r.val = r.val; rw [(index0 t).1]; omega
  | ⟨1, _⟩ => show win0_0.index t 1 * 1024 + 1 * x.val = k.val; rw [(index0 t).2, hk]; omega

/-- The point's right block: the columns of its run, the same tokens. -/
theorem block1 (t : Fin cfg0.N) (x : Fin 1024) (s : Fin 1024) (q : Fin 1024) (k : Fin 4096) (hq : q.val = 1024 * (t.val / 4) + s.val)
    (hk : k.val = 1024 * (t.val % 4) + x.val) :
    (iblk m c 1 t : S1024x1024.Idx → EReal) (ix2 x s) = argB m c (ix2 k q) := by
  rw [← right_apply m c k q]
  unfold iblk
  rw [View.read_apply, cast_eq]
  show V m c main_v2 _ = _
  refine congrArg (V m c main_v2) (funext fun a => Fin.ext ?_)
  match a with
  | ⟨0, _⟩ => show win0_1.index t 0 * 1024 + 1 * x.val = k.val; rw [(index1 t).1, hk]; omega
  | ⟨1, _⟩ => show win0_1.index t 1 * 1024 + 1 * s.val = q.val; rw [(index1 t).2, hq]; omega

/-- The product of a point's blocks is the sum over its tokens. -/
theorem product_block (t : Fin cfg0.N) (r : Fin 1024) (s : Fin 1024) (q : Fin 1024) (hq : q.val = 1024 * (t.val / 4) + s.val) :
    (k0_pay1 (F := Ideal) (iblk m c 0 t) (iblk m c 1 t) : S1024x1024.Idx → EReal) (ix2 r s)
      = ∑ x : Fin 1024, term (argA m c) (argB m c) r q (1024 * (t.val % 4) + x.val) := by
  rw [product_apply]
  refine Finset.sum_congr rfl fun x _ => ?_
  have hx : 1024 * (t.val % 4) + x.val < 4096 := by omega
  rw [block0 m c t r x ⟨_, hx⟩ rfl, block1 m c t x s q ⟨_, hx⟩ hq rfl]
  unfold term
  rw [dif_pos hx]

/-! ## The accumulator, and the result -/

/-- After a point the accumulator holds the sum over the tokens up to the end of the point's block. -/
theorem acc_eq : ∀ (n : ℕ) (h : n < cfg0.N) (r : Fin 1024) (s : Fin 1024) (q : Fin 1024), q.val = 1024 * (n / 4) + s.val →
    ((outsAt0 m c n h).2 : S1024x1024.Idx → EReal) (ix2 r s) = ∑ k ∈ Finset.range (1024 * (n % 4 + 1)), term (argA m c) (argB m c) r q k := by
  intro n
  induction n with
  | zero =>
    intro h r s q hq
    rw [outsAt0_A m c ⟨0, h⟩ rfl (by dsimp only; omega) (by dsimp only; omega)]
    dsimp only
    rw [acc_first, product_block m c ⟨0, h⟩ r s q hq, ← sum_block, Nat.zero_mod, Nat.mul_zero, Finset.range_zero, Finset.sum_empty, zero_add]
  | succ n ih =>
    intro h r s q hq
    by_cases h0 : (n + 1) % 4 = 0
    · rw [outsAt0_A m c ⟨n + 1, h⟩ h0 (by dsimp only; omega) (by dsimp only; omega)]
      dsimp only
      rw [acc_first, product_block m c ⟨n + 1, h⟩ r s q hq, ← sum_block]
      dsimp only
      rw [h0, Nat.mul_zero, Finset.range_zero, Finset.sum_empty, zero_add]
    · have hd : n / 4 = (n + 1) / 4 := by omega
      have hm : (n + 1) % 4 = n % 4 + 1 := by omega
      have ih' := ih (Nat.lt_of_succ_lt h) r s q (by rw [hd]; exact hq)
      have hb := product_block m c ⟨n + 1, h⟩ r s q hq
      rw [← sum_block, hm, ← ih', ← hm]
      by_cases h2 : (n + 1) % 4 = 3
      · rw [outsAt0_C m c ⟨n + 1, h⟩ h0 (by dsimp only; omega) h2]
        dsimp only
        rw [acc_last, ← hb]
        rfl
      · rw [outsAt0_B m c ⟨n + 1, h⟩ h0 (by dsimp only; omega) h2]
        dsimp only
        rw [acc_middle, ← hb]
        rfl

/-- The last point of a run writes out the whole sums. -/
theorem out_eq (n : ℕ) (h : n < cfg0.N) (h3 : n % 4 = 3) (r : Fin 1024) (s : Fin 1024) (q : Fin 1024) (hq : q.val = 1024 * (n / 4) + s.val) :
    ((outsAt0 m c n h).1 : S1024x1024.Idx → EReal) (ix2 r s) = grad (argA m c) (argB m c) r q := by
  have ha := acc_eq m c n h r s q hq
  have e : ((outsAt0 m c n h).1 : S1024x1024.Idx → EReal) (ix2 r s) = ((outsAt0 m c n h).2 : S1024x1024.Idx → EReal) (ix2 r s) := by
    rw [outsAt0_C m c ⟨n, h⟩ (by dsimp only; omega) (by dsimp only; omega) h3]
    dsimp only
    rw [out_last, acc_last]
    rfl
  rw [e, ha, h3]
  exact sum_term ..

/-- THE RESULT at an index: the first argument transposed times the second. -/
theorem result_eq : (Value.G2 m c : S1024x1024.Idx → EReal) = fun i => grad (argA m c) (argB m c) (i 0) (i 1) := by
  funext i
  have hi0 : (i 0).val < 1024 := (i 0).isLt
  have hi1 : (i 1).val < 1024 := (i 1).isLt
  have hN : Value.pt2Of i < cfg0.N := by
    rw [show cfg0.N = 4 from N_0]
    show 4 * (1 * ((i 0).val / 1024 - 0) + 1 * ((i 1).val / 1024 - 0)) + 3 < 4
    omega
  have hl : Value.loc2Of i = ix2 (i 0) ⟨(i 1).val % 1024, Nat.mod_lt _ (by decide)⟩ := by
    funext a; apply Fin.ext
    match a with
    | ⟨0, _⟩ => exact Nat.mod_eq_of_lt hi0
    | ⟨1, _⟩ => rfl
  show Value.G2 m c i = _
  unfold Value.G2
  rw [dif_pos hN, ← Value.outsAt0_sweep m c _ hN, hl]
  refine out_eq m c _ hN ?_ _ _ _ ?_
  · show (4 * Value.run2Of i + 3) % 4 = 3
    omega
  · show (i 1).val = 1024 * ((4 * (1 * ((i 0).val / 1024 - 0) + 1 * ((i 1).val / 1024 - 0)) + 3) / 4) + (i 1).val % 1024
    omega

end Cert.Kernel5Ideal.Weight

end
-- ==== Proof.Weights.ClaimIO.lean ====
/- THE KERNEL OF A WEIGHT'S GRADIENT AGAINST THE GRADIENTS OF THE ATTENTION BLOCK'S TWO PROJECTIONS, the input's and the output's. -/
module

public import proofs.«01_k».proof.Defs
public import proofs.«01_k».proof.Proof.Weights.In
public import proofs.«01_k».proof.Proof.Weights.Out
public import proofs.«01_k».proof.Proof.Gen.Kernel4Ideal
public import proofs.«01_k».proof.Proof.Gen.Kernel5Ideal
public import proofs.«01_k».proof.Proof.Gen.Reference5Ideal
public import proofs.«01_k».proof.Proof.Gen.Reference6Ideal
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read

@[expose] public section

noncomputable section

open Idealize.ShloMosaic Idealize.ShloMosaic.TcCoe Idealize.ShloMosaic.ValueIdx Idealize.SL.Sem Cert.Weights
open scoped BigOperators

attribute [local instance] Cert.Kernel4Ideal.Gen.facts Cert.Kernel5Ideal.Gen.facts Cert.Reference5Ideal.Gen.facts Cert.Reference6Ideal.Gen.facts

namespace Cert.Reference5Ideal.Read

/-- The input projection's gradient: a product with the factors the other way round, transposed. -/
theorem grad_eq (a : S4096x1024.Idx → EReal) (b : S4096x2048.Idx → EReal) :
    (val_main_v4 (F := Ideal) a b : S1024x2048.Idx → EReal) = fun i => grad a b (i 0) (i 1) := by
  funext i
  show val_main_v3 (F := Ideal) a b i = _
  rw [val_main_v3_apply, val_main_v2_apply]
  refine Finset.sum_congr rfl fun k _ => ?_
  rw [mul_comm]
  refine congrArg₂ (fun x y : EReal => x * y) (congrArg a (funext fun d => Fin.ext ?_)) (congrArg b (funext fun d => Fin.ext ?_))
  all_goals match d with
    | ⟨0, _⟩ => rfl
    | ⟨1, _⟩ => rfl

end Cert.Reference5Ideal.Read

namespace Cert.Reference6Ideal.Read

/-- The output projection's gradient, likewise. -/
theorem grad_eq (a b : S4096x1024.Idx → EReal) :
    (val_main_v4 (F := Ideal) a b : S1024x1024.Idx → EReal) = fun i => grad a b (i 0) (i 1) := by
  funext i
  show val_main_v3 (F := Ideal) a b i = _
  rw [val_main_v3_apply, val_main_v2_apply]
  refine Finset.sum_congr rfl fun k _ => ?_
  rw [mul_comm]
  refine congrArg₂ (fun x y : EReal => x * y) (congrArg a (funext fun d => Fin.ext ?_)) (congrArg b (funext fun d => Fin.ext ?_))
  all_goals match d with
    | ⟨0, _⟩ => rfl
    | ⟨1, _⟩ => rfl

end Cert.Reference6Ideal.Read

namespace Cert.Proof

/-- The references have no semaphore; their arguments are among what their runs state. -/
theorem frame_reference5Ideal : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

theorem frame_reference6Ideal : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

/-- The kernel computes the gradient of the input projection's matrix. -/
theorem algebraic_in : Cert.algebraic_Kernel4Ideal_Reference5Ideal := by
  intro m g m' g' _ hagree
  refine ⟨fun c => Cert.Kernel4Ideal.Value.G2 m c, Cert.Kernel4Ideal.Value.run m g, ?_⟩
  refine (θ_run (Cert.Reference5Ideal.defs (F := Ideal)) _ _).mono (fun r h c => ⟨(h c).1.trans ?_, (h c).2⟩) (Cert.Reference5Ideal.Value.run m' g')
  rw [(hagree c).1, (hagree c).2, Cert.Reference5Ideal.Read.val_main_v4_eq]
  exact (Cert.Reference5Ideal.Read.grad_eq _ _).trans (Cert.Kernel4Ideal.Weight.result_eq m c).symm

/-- The kernel computes the gradient of the output projection's matrix. -/
theorem algebraic_out : Cert.algebraic_Kernel5Ideal_Reference6Ideal := by
  intro m g m' g' _ hagree
  refine ⟨fun c => Cert.Kernel5Ideal.Value.G2 m c, Cert.Kernel5Ideal.Value.run m g, ?_⟩
  refine (θ_run (Cert.Reference6Ideal.defs (F := Ideal)) _ _).mono (fun r h c => ⟨(h c).1.trans ?_, (h c).2⟩) (Cert.Reference6Ideal.Value.run m' g')
  rw [(hagree c).1, (hagree c).2, Cert.Reference6Ideal.Read.val_main_v4_eq]
  exact (Cert.Reference6Ideal.Read.grad_eq _ _).trans (Cert.Kernel5Ideal.Weight.result_eq m c).symm

end Cert.Proof

end
-- ==== Proof.Up.Whole.lean ====
/- MEMREFS THAT SPAN THEIR BUFFERS: a load of all of one, and its contents as an array. -/
module

public import Idealize.ShloMosaic.Lib.VecWindow
public import Idealize.ShloMosaic.Lib.WholeRead

@[expose] public section

noncomputable section

namespace Cert.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} [FloatOps F]

local notation "𝕄" => MT nD τ sig Unit (Elt F) ℕ (UR sig nD τ) ℕ

/-- A load of a whole memref. -/
theorem read_all {s : Shape} {e : EltTy} {κ : Kind} {sp : Space} {Val : EltTy → Type} {M : Memref sig κ sp s e} (h : M.IsWhole) (x : s.Idx → Val e)
    {off : Fin s.rank → ℕ} (inb : ∀ k, off k + s.size k ≤ s.size k) :
    View.readAt Val M.view (Rect.unit off s.size inb).toLoadRect (h.unread x) = x :=
  (View.readAt_full M.view _ inb).trans (h.read_unread x)

/-- A whole memref that holds `x` has its buffer at the raw contents of `x`. -/
theorem owns_open {c : Thread nD τ} {sp : Space} {sh : Shape} {e : EltTy} {M : Memref sig c.2.kind sp sh e} (h : M.IsWhole) (x : sh.Idx → Elt F e) :
    (owns c M fullShare x : sProp 𝕄) ⊢ (M.view.loc c ↦[M.view.set]{fullShare} h.unread x) := by
  unfold owns; iintro ⟨%f, %hf, H⟩; rw [h.eq_unread hf]; iexact H

end Cert.Whole

end
-- ==== Proof.Up.Run.lean ====
/-
  THE BODY OF THE UP-PROJECTION'S KERNEL. At the first column tile of a block of tokens it normalises the block and keeps the norm's output,
  in the scratch and in the second result's buffer; at every column tile it multiplies what is kept by the tile of the matrix.
-/
module

public import proofs.«01_k».proof.Proof.Gen.Kernel3Ideal.Frame
public import proofs.«01_k».proof.Proof.Gen.Kernel3Ideal.Skeleton
public import proofs.«01_k».proof.Proof.Up.Whole

@[expose] public section

set_option maxRecDepth 16384

noncomputable section

namespace Cert.Kernel3Ideal.Up

open Cert.Kernel3Ideal Cert.Kernel3Ideal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The norm's output of a block of tokens, -/
def normed (x : Vec F S1024x1024 .f32) (g : Vec F S1x1024 .f32) : Vec F S1024x1024 .bf16 := k0_pay3 x g
/-- and its product with a tile of the matrix. -/
def tile (h : Vec F S1024x1024 .bf16) (w : Vec F S1408x1024 .bf16) : Vec F S1024x1408 .f32 := k0_pay4 h w

theorem pay2_eq (x : Vec F S1024x1024 .f32) (g : Vec F S1x1024 .f32) : k0_pay2 x g = normed x g := by
  unfold k0_pay2 normed k0_pay3
  simp only [shapeCast_self]

variable (a2 : Memref sig .tc .vmem S1024x1024 .f32) (h2 : a2.IsWhole) (a3 : Memref sig .tc .vmem S1x1024 .f32) (h3 : a3.IsWhole)
  (a4 : Memref sig .tc .vmem S1408x1024 .bf16) (h4 : a4.IsWhole) (a5 : Memref sig .tc .vmem S1024x1408 .f32) (h5 : a5.IsWhole)
  (a6 : Memref sig .tc .vmem S1024x1024 .bf16) (h6 : a6.IsWhole) (a7 : Memref sig .tc .vmem S1024x1024 .bf16) (h7 : a7.IsWhole)

/-- The three inputs' buffers hold `x`, `g` and `w`; the two outputs' and the scratch `o`, `p` and `s`. -/
def held (c : Dev nD) (x : Vec F S1024x1024 .f32) (g : Vec F S1x1024 .f32) (w : Vec F S1408x1024 .bf16) (o : Vec F S1024x1408 .f32)
    (p s : Vec F S1024x1024 .bf16) : sProp 𝕄 :=
  iprop(owns (c : Thread nD τ) a2 fullShare x ∗ owns (c : Thread nD τ) a3 fullShare g ∗ owns (c : Thread nD τ) a4 fullShare w
    ∗ owns (c : Thread nD τ) a5 fullShare o ∗ owns (c : Thread nD τ) a6 fullShare p ∗ owns (c : Thread nD τ) a7 fullShare s)

/-- The same, each buffer at raw contents. -/
def raw (c : Dev nD) (x : Vec F S1024x1024 .f32) (g : Vec F S1x1024 .f32) (w : Vec F S1408x1024 .bf16) (o : Vec F S1024x1408 .f32)
    (p s : Vec F S1024x1024 .bf16) : sProp 𝕄 :=
  iprop((a2.view.loc (c : Thread nD τ) ↦[a2.view.set]{fullShare} h2.unread x) ∗ (a3.view.loc (c : Thread nD τ) ↦[a3.view.set]{fullShare} h3.unread g)
    ∗ (a4.view.loc (c : Thread nD τ) ↦[a4.view.set]{fullShare} h4.unread w) ∗ (a5.view.loc (c : Thread nD τ) ↦[a5.view.set]{fullShare} h5.unread o)
    ∗ (a6.view.loc (c : Thread nD τ) ↦[a6.view.set]{fullShare} h6.unread p) ∗ (a7.view.loc (c : Thread nD τ) ↦[a7.view.set]{fullShare} h7.unread s))

theorem held_raw (c : Dev nD) (x : Vec F S1024x1024 .f32) (g : Vec F S1x1024 .f32) (w : Vec F S1408x1024 .bf16) (o : Vec F S1024x1408 .f32)
    (p s : Vec F S1024x1024 .bf16) : held a2 a3 a4 a5 a6 a7 c x g w o p s ⊢ raw a2 h2 a3 h3 a4 h4 a5 h5 a6 h6 a7 h7 c x g w o p s := by
  unfold held raw
  exact BI.sep_mono (owns_open h2 _) <| BI.sep_mono (owns_open h3 _) <| BI.sep_mono (owns_open h4 _) <| BI.sep_mono (owns_open h5 _) <|
    BI.sep_mono (owns_open h6 _) (owns_open h7 _)

variable (c : Dev nD) (i : grid0.Coords) (x : Vec F S1024x1024 .f32) (g : Vec F S1x1024 .f32) (w : Vec F S1408x1024 .bf16)
  (o : Vec F S1024x1408 .f32) (p s : Vec F S1024x1024 .bf16)

set_option maxHeartbeats 2000000 in
/-- The first column tile of a block of tokens. -/
theorem first (hc : k0_cond1 i = 1#1) (E : Set ℕ) (K : PUnit → sProp 𝕄) :
    iprop(raw a2 h2 a3 h3 a4 h4 a5 h5 a6 h6 a7 h7 c x g w o p s
        ∗ (held a2 a3 a4 a5 a6 a7 c x g w (tile (normed x g) w) (normed x g) (normed x g) -∗ K ⟨⟩))
      ⊢ wp frame (wpE (defs₀ (F := F)) Variants.none c none) E (cc0_up_proj i a2 h2 a3 h3 a4 h4 a5 h5 a6 h6 a7 h7) K := by
  unfold raw held
  simp only [cc0_up_proj_eq_skeleton]; unfold cc0_up_proj_skel
  iintro ⟨⟨H2, H3, H4, H5, H6, H7⟩, Hk⟩
  sl_exec (disch := first | sl_exact hc)
  sl_step
  iapply Hk
  unfold owns
  isplitl [H2]
  · iexists _; isplitr; swap; · iexact H2
    ipureintro; exact h2.read_unread x
  isplitl [H3]
  · iexists _; isplitr; swap; · iexact H3
    ipureintro; exact h3.read_unread g
  isplitl [H4]
  · iexists _; isplitr; swap; · iexact H4
    ipureintro; exact h4.read_unread w
  isplitl [H5]
  · iexists _; isplitr; swap; · iexact H5
    ipureintro
    sl_unfold_words
    refine (View.read_writes_full a5.view _ _ _ _).trans ?_
    unfold tile
    refine congrArg₂ k0_pay4 ?_ (read_all h4 w _)
    refine (View.readCov_full a7.view _ _ _ _).trans ?_
    rw [pay2_eq]
    exact congrArg₂ normed (read_all h2 x _) (read_all h3 g _)
  isplitl [H6]
  · iexists _; isplitr; swap; · iexact H6
    ipureintro
    sl_unfold_words
    refine (View.read_writes_full a6.view _ _ _ _).trans ?_
    exact congrArg₂ normed (read_all h2 x _) (read_all h3 g _)
  iexists _; isplitr; swap; · iexact H7
  ipureintro
  sl_unfold_words
  refine (View.read_writes_full a7.view _ _ _ _).trans ?_
  rw [pay2_eq]
  exact congrArg₂ normed (read_all h2 x _) (read_all h3 g _)

set_option maxHeartbeats 2000000 in
/-- A later column tile. -/
theorem later (hc : ¬k0_cond1 i = 1#1) (E : Set ℕ) (K : PUnit → sProp 𝕄) :
    iprop(raw a2 h2 a3 h3 a4 h4 a5 h5 a6 h6 a7 h7 c x g w o p s ∗ (held a2 a3 a4 a5 a6 a7 c x g w (tile s w) p s -∗ K ⟨⟩))
      ⊢ wp frame (wpE (defs₀ (F := F)) Variants.none c none) E (cc0_up_proj i a2 h2 a3 h3 a4 h4 a5 h5 a6 h6 a7 h7) K := by
  unfold raw held
  simp only [cc0_up_proj_eq_skeleton]; unfold cc0_up_proj_skel
  iintro ⟨⟨H2, H3, H4, H5, H6, H7⟩, Hk⟩
  sl_exec (disch := first | sl_exact hc)
  sl_step
  iapply Hk
  unfold owns
  isplitl [H2]
  · iexists _; isplitr; swap; · iexact H2
    ipureintro; exact h2.read_unread x
  isplitl [H3]
  · iexists _; isplitr; swap; · iexact H3
    ipureintro; exact h3.read_unread g
  isplitl [H4]
  · iexists _; isplitr; swap; · iexact H4
    ipureintro; exact h4.read_unread w
  isplitl [H5]
  · iexists _; isplitr; swap; · iexact H5
    ipureintro
    refine (View.read_writes_full a5.view _ _ _ _).trans ?_
    exact congrArg₂ k0_pay4 (read_all h7 s _) (read_all h4 w _)
  isplitl [H6]
  · iexists _; isplitr; swap; · iexact H6
    ipureintro; exact h6.read_unread p
  iexists _; isplitr; swap; · iexact H7
  ipureintro; exact h7.read_unread s

end Cert.Kernel3Ideal.Up

end
-- ==== Proof.Up.Frame.lean ====
/-
  THE RUN OF THE UP-PROJECTION. The scratch holds, from a block of tokens' first column tile to its last, the norm's output of that block; every
  column tile of the first result is its product with the tile of the matrix, and the second result's block is the norm's output itself.
-/
module

public import proofs.«01_k».proof.Proof.Up.Run
public import Idealize.ShloMosaic.Lib.Pipeline.DatRel
public import Idealize.ShloMosaic.Lib.Pipeline.ArrRel

@[expose] public section

set_option maxRecDepth 16384

noncomputable section

namespace Cert.Kernel3Ideal.Up

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond1_iff : ∀ t : Fin cfg0.N, k0_cond1 (grid0.coords t) = 1#1 ↔ t.val % 4 = 0 := by decide +kernel

/-- The first point of a point's block of tokens, -/
def head (t : Fin cfg0.N) : Fin cfg0.N := ⟨4 * (t.val / 4), Nat.lt_of_le_of_lt (Nat.mul_div_le _ _) t.isLt⟩
/-- and the norm's output of the block. -/
def normAt (c : Dev nD) (t : Fin cfg0.N) : Vec F S1024x1024 .bf16 := normed (iblk m c 0 (head t)) (iblk m c 1 (head t))

/-- The point before. -/
abbrev pred (t : Fin cfg0.N) : Fin cfg0.N := ⟨t.val - 1, Nat.lt_of_le_of_lt (Nat.sub_le _ _) t.isLt⟩

theorem head_first (t : Fin cfg0.N) (h : t.val % 4 = 0) : head t = t := Fin.ext (by show 4 * (t.val / 4) = t.val; omega)
theorem normAt_same (c : Dev nD) (t u : Fin cfg0.N) (h : t.val / 4 = u.val / 4) : normAt m c t = normAt m c u := by
  have e : head t = head u := Fin.ext (by show 4 * (t.val / 4) = 4 * (u.val / 4); rw [h])
  unfold normAt; rw [e]

/-- The outputs' windows are held to what their blocks are. -/
def marked : Fin 5 → Bool := fun w => decide (3 ≤ w.val)
def Rl (c : Dev nD) (w : Fin cfg0.W) (t : Fin cfg0.N) : ((cfg0.win w).block.Idx → Elt F (cfg0.win w).elt) → Prop :=
  match w with
  | ⟨3, _⟩ => fun X => X = tile (normAt m c t) (iblk m c 2 t)
  | ⟨4, _⟩ => fun X => X = normAt m c t
  | _ => fun _ => True

/-- Before a point that is not the first of its block the scratch holds the block's norm. -/
def Phi (c : Dev nD) (n : ℕ) : sProp 𝕄 :=
  iprop((∃ s, ⌜∀ t : Fin cfg0.N, t.val = n → n % 4 ≠ 0 → s = normAt m c t⌝ ∗ owns (c : Thread nD τ) (Memref.whole cc0_scratch0) fullShare s)
    ∗ (∃ r, prngReg c r))

/-- The arrays as the region finds them; each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨_ + 5, h⟩ => absurd h (by have : cfg0.W = 5 := rfl; omega)
  Φ t := Phi m c t.val
  q w := Pipeline.shareOf spec0 w
  owed _ := 0

abbrev rdats (c : Dev nD) := (dats m 0 c).toRRel marked (Rl m c)

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem live0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after0]
theorem live1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after1]
theorem live2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after2]

/-- Past a block's first point the second result's buffer still holds the block's norm. -/
theorem found (c : Dev nD) (t : Fin cfg0.N) (ht : t.val % 4 ≠ 0) (X) (h : (rdats m c).Finds 4 t X) : X = normAt m c t := by
  rw [← normAt_same m c (pred t) t (by show (t.val - 1) / 4 = t.val / 4; omega)]
  rcases ((rdats m c).finds_of_pos (w := 4) (t := t) rfl (by omega) X).1 h with h' | h'
  · have h2 : (pred t).val % 4 = 3 := (flush0_4 (pred t)).1 h'
    simp only [pred] at h2; omega
  · exact (dats m 0 c).toRRel_leaves (w := 4) rfl h'

/-- What the body is called with at a point, -/
def bodyPre (c : Dev nD) (t : Fin cfg0.N) : sProp 𝕄 :=
  iprop(Phi m c t.val ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ Y, ⌜(rdats m c).Finds 3 t Y⌝ ∗ owns (c : Thread nD τ) (win0_3.stage (cfg0.slots t 3)) fullShare Y)
    ∗ (∃ Y, ⌜(rdats m c).Finds 4 t Y⌝ ∗ owns (c : Thread nD τ) (win0_4.stage (cfg0.slots t 4)) fullShare Y))

/-- and what it returns. -/
def bodyPost (c : Dev nD) (t : Fin cfg0.N) : sProp 𝕄 :=
  iprop(Phi m c (t.val + 1) ∗ (dats m 0 c).owesAt () t.castSucc
    ∗ (dats m 0 c).leavesExact 0 t ∗ (dats m 0 c).leavesExact 1 t ∗ (dats m 0 c).leavesExact 2 t
    ∗ (∃ X, ⌜X = tile (normAt m c t) (iblk m c 2 t)⌝ ∗ owns (c : Thread nD τ) (win0_3.stage (cfg0.slots t 3)) fullShare X)
    ∗ (∃ X, ⌜X = normAt m c t⌝ ∗ owns (c : Thread nD τ) (win0_4.stage (cfg0.slots t 4)) fullShare X))

/-- The body at a point. -/
abbrev bodyOf (t : Fin cfg0.N) := cc0_up_proj (F := F) (grid0.coords t)
  (win0_0.stage (cfg0.slots t 0)) (hstage0_0 ((cfg0.slots t 0).cast nbuf0_0)) (win0_1.stage (cfg0.slots t 1)) (hstage0_1 ((cfg0.slots t 1).cast nbuf0_1))
  (win0_2.stage (cfg0.slots t 2)) (hstage0_2 ((cfg0.slots t 2).cast nbuf0_2)) (win0_3.stage (cfg0.slots t 3)) (hstage0_3 ((cfg0.slots t 3).cast nbuf0_3))
  (win0_4.stage (cfg0.slots t 4)) (hstage0_4 ((cfg0.slots t 4).cast nbuf0_4)) (Memref.whole cc0_scratch0) (Memref.isWhole_whole cc0_scratch0)

/-- The buffers at a point, with the blocks of the inputs. -/
abbrev heldAt (c : Dev nD) (t : Fin cfg0.N) (o : Vec F S1024x1408 .f32) (p s : Vec F S1024x1024 .bf16) : sProp 𝕄 :=
  held (win0_0.stage (cfg0.slots t 0)) (win0_1.stage (cfg0.slots t 1)) (win0_2.stage (cfg0.slots t 2)) (win0_3.stage (cfg0.slots t 3))
    (win0_4.stage (cfg0.slots t 4)) (Memref.whole cc0_scratch0) c (iblk m c 0 t) (iblk m c 1 t) (iblk m c 2 t) o p s

/-- The body takes the buffers, the scratch and the second result's at the norm unless it is to compute it, to the two results' blocks. -/
theorem step_own (c : Dev nD) (t : Fin cfg0.N) (o : Vec F S1024x1408 .f32) (p s : Vec F S1024x1024 .bf16) (hs : t.val % 4 ≠ 0 → s = normAt m c t)
    (hp : t.val % 4 ≠ 0 → p = normAt m c t) (K : PUnit → sProp 𝕄) :
    iprop(heldAt m c t o p s ∗ (heldAt m c t (tile (normAt m c t) (iblk m c 2 t)) (normAt m c t) (normAt m c t) -∗ K ⟨⟩))
      ⊢ wp frame (wpE (defs₀ (F := F)) Variants.none c none) Set.univ (bodyOf t) K := by
  by_cases h : t.val % 4 = 0
  · have e : normAt m c t = normed (iblk m c 0 t) (iblk m c 1 t) := by unfold normAt; rw [head_first t h]
    rw [e]
    iintro ⟨H, Hk⟩
    iapply (first _ _ _ _ _ _ _ _ _ _ _ _ c (grid0.coords t) (iblk m c 0 t) (iblk m c 1 t) (iblk m c 2 t) o p s ((cond1_iff t).2 h) Set.univ K)
    isplitl [H]
    · iapply (held_raw _ _ _ _ _ _ _ _ _ _ _ _ c (iblk m c 0 t) (iblk m c 1 t) (iblk m c 2 t) o p s); iexact H
    iexact Hk
  · rw [hs h, hp h]
    iintro ⟨H, Hk⟩
    iapply (later _ _ _ _ _ _ _ _ _ _ _ _ c (grid0.coords t) (iblk m c 0 t) (iblk m c 1 t) (iblk m c 2 t) o (normAt m c t) (normAt m c t)
      (fun h' => h ((cond1_iff t).1 h')) Set.univ K)
    isplitl [H]
    · iapply (held_raw _ _ _ _ _ _ _ _ _ _ _ _ c (iblk m c 0 t) (iblk m c 1 t) (iblk m c 2 t) o (normAt m c t) (normAt m c t)); iexact H
    iexact Hk

set_option maxHeartbeats 1000000 in
theorem sound_body (c : Dev nD) (t : Fin cfg0.N) :
    bodyPre m c t ⊢ wp frame (wpE (defs₀ (F := F)) Variants.none c none) Set.univ (bodyOf t) (fun _ => bodyPost m c t) := by
  unfold bodyPre bodyPost Phi
  simp only [before0, before1, before2, live0, live1, live2]
  iintro ⟨⟨⟨%s, %hs, HS⟩, Hg⟩, Ho, ⟨%d0, H0⟩, ⟨%d1, H1⟩, ⟨%d2, H2⟩, ⟨%o, %hoo, H3⟩, ⟨%p, %hp, H4⟩⟩
  iapply (step_own m c t o p s (hs t rfl) (fun h => found m c t h p hp) _)
  unfold heldAt held
  isplitl [H0 H1 H2 H3 H4 HS]
  · isplitl [H0]; · iexact H0
    isplitl [H1]; · iexact H1
    isplitl [H2]; · iexact H2
    isplitl [H3]; · iexact H3
    isplitl [H4]; · iexact H4
    iexact HS
  iintro ⟨H0, H1, H2, H3, H4, HS⟩
  isplitl [HS Hg]
  · isplitl [HS]
    · iexists _; isplitr
      · ipureintro
        intro u hu hn
        exact normAt_same m c t u (by omega)
      iexact HS
    iexact Hg
  isplitl [Ho]; · iexact Ho
  isplitl [H0]; · iexact H0
  isplitl [H1]; · iexact H1
  isplitl [H2]; · iexact H2
  isplitl [H3]
  · iexists _; isplitr
    · ipureintro; rfl
    iexact H3
  iexists _; isplitr
  · ipureintro; rfl
  iexact H4

theorem defs₀_row (t : Fin cfg0.N) : defs₀ (F := F) .tc cfg0.body (cfg0.bodyArgs t (cfg0.slots t)) = bodyOf t := by
  unfold defs₀; rw [Defs.onTc_tc]

set_option maxHeartbeats 2000000 in
theorem body_obligation (c : Dev nD) :
    Pipeline.BodyObligationRel (dats m 0 c) (defs₀ (F := F)) Variants.none () Set.univ marked (Rl m c) := fun t => by
  rw [bigSep_W0, bigSep_W0, defs₀_row]
  exact triple_restated (sound_body m c t) rfl .rfl fun _ => .rfl

/-- Before the first point the scratch is at anything; so it may be after the last. -/
theorem phiA_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

theorem hin (c : Dev nD) : Pipeline.ΦA spec0 c ⊢ (dats m 0 c).Φ 0 := by
  rw [phiA_eq]
  show _ ⊢ Phi m c 0
  unfold Phi
  iintro ⟨⟨%d, HS⟩, Hg⟩
  isplitr [Hg]
  · iexists d; isplitr
    · ipureintro; intro t _ hn; exact absurd rfl hn
    iexact HS
  iexact Hg

theorem hout (c : Dev nD) : (dats m 0 c).Φ (Fin.last cfg0.N) ⊢ Pipeline.ΦA spec0 c := by
  rw [phiA_eq]
  show Phi m c _ ⊢ _
  unfold Phi
  iintro ⟨⟨%d, -, HS⟩, Hg⟩
  isplitr [Hg]
  · iexists d; iexact HS
  iexact Hg

-- the launch theorem's implicit arguments are found by unifying its conclusion with this one, which takes unfolding plain
-- definitions in a metavariable's type
set_option backward.isDefEq.respectTransparency.types false in
/-- THE RUN: the program ends with every input array as the region found it, every output array of blocks of the norm and of its products, every
    other buffer as the region found it, and every semaphore at zero. -/
theorem run_main : θ_run defs (onTc (τ := τ) (main (F := F))) (s₀ m ρ)
    (fun r => Pipeline.RDat.FramePost (cfgs 0) (rdats m) (V m) r ∧ r.2.sem = fun _ => 0) :=
  Pipeline.RDat.θ_run_frame_track_shared (Q' := _) cfgs (0 : Fin 1) launch0.to₀ defs₀ Variants.none (rdats m) m ρ main
    (hbody := fun c => (body_obligation m c).toRRel) (hq := fun _ _ _ => rfl)
    (howed := fun _ _ => rfl) (V := V m) (hmain := hmain m Variants.none) (hA := A_eq m) (hin := hin m) (hout := hout m)

/-- An input's array is never written. -/
theorem arr_in (c : Dev nD) (w : Fin cfg0.W) (hw : (cfg0.win w).isOut = false) {X} (h : (rdats m c).ArrAt w cfg0.N X) :
    X = V m c (Pipeline.arrRef spec0 w) :=
  ((congrFun ((rdats m c).ArrAt_in w hw _) X).mp h).trans (A_eq m c w)

/-- The arguments at the end. -/
theorem args_end {r : PUnit × MemSt nD τ sig (Elt F)} (h : Pipeline.RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(arr_in m c 0 rfl ((h c).1 0)).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.Kernel3Ideal.Up

end
-- ==== Proof.Up.Value.lean ====
/-
  WHAT THE UP-PROJECTION COMPUTES, as extended reals: the norm's output of the tokens, and its product with the matrix.
-/
module

public import proofs.«01_k».proof.Proof.Up.Frame
public import Idealize.ShloMosaic.Lib.Pointwise
public import Idealize.ShloMosaic.Lib.StableHlo.Run
public import Idealize.ShloMosaic.Lib.ValueLayout

@[expose] public section

noncomputable section

namespace Cert.Kernel3Ideal.Up

open Cert.Kernel3Ideal Cert.Kernel3Ideal.Gen
open Idealize.ShloMosaic Idealize.ShloMosaic.TcCoe Idealize.SL Idealize.SL.RA Idealize.SL.Sem
open Idealize.ShloMosaic.Pointwise
open Idealize.ShloMosaic.Pipeline (Dat Cfg Window)
open scoped BigOperators

/-- The norm's output of token `p`, entry `q`: the root mean square of the token's entries, taken with a small constant, divides the entry, and
    the gain multiplies it. -/
def rms {n : ℕ} (x : (⟨2, ![n, 1024]⟩ : Shape).Idx → EReal) (g : Fin 1024 → EReal) (p : Fin n) (q : Fin 1024) : EReal :=
  x (ix2 p q) * Ideal.rsqrt (Ideal.div (∑ k : Fin 1024, x (ix2 p k) * x (ix2 p k)) (Ideal.ofBits .f32 0x44800000#32) + Ideal.ofBits .f32 0x358637BD#32) * g q

theorem normed_apply (x : Vec Ideal S1024x1024 .f32) (g : Vec Ideal S1x1024 .f32) (r q : Fin 1024) :
    (normed x g : S1024x1024.Idx → EReal) (ix2 r q) = rms (n := 1024) x (fun k => g (ix2 0 k)) r q := by
  unfold normed
  pointwise [k0_pay3, k0_pay1]
  rfl

theorem tile_apply (h : Vec Ideal S1024x1024 .bf16) (w : Vec Ideal S1408x1024 .bf16) (r : Fin 1024) (s : Fin 1408) :
    (tile h w : S1024x1408.Idx → EReal) (ix2 r s) = ∑ k : Fin 1024, h (ix2 r k) * w (ix2 s k) := by
  unfold tile
  pointwise [k0_pay4]

/-! ## The blocks as parts of the arguments -/

variable (m : (ℓ : Loc nD τ sig) → Buf (Elt Ideal) ℓ) (c : Dev nD)

/-- The three arguments. -/
abbrev argX : S4096x1024.Idx → EReal := m ((c.tc : Thread nD τ).loc main_arg0)
abbrev argG : S1024.Idx → EReal := m ((c.tc : Thread nD τ).loc main_arg1)
abbrev argW : S1024x5632.Idx → EReal := m ((c.tc : Thread nD τ).loc main_arg2)

/-- The kernel's gain is the second argument as a row, -/
theorem gain_apply (k : Fin 1024) : (V m c main_v0 : S1x1024.Idx → EReal) (ix2 0 k) = argG m c (ix1 k) := by
  have e : V m c main_v0 = shapeCast S1x1024 (m ((c.tc : Thread nD τ).loc main_arg1)) shapeCasts_S1024_S1x1024 := by
    show StableHlo.after hostOps0 (fun b => m (c, b)) (Proc.devRef .tc main_v0) = _
    after_results_simp
    rfl
  rw [e]
  exact ValueIdx.shapeCast_a_1a_apply (argG m c) shapeCasts_S1024_S1x1024 0 k

/-- and its matrix the third transposed. -/
theorem matrix_apply (q : Fin 5632) (k : Fin 1024) : (V m c main_v2 : S5632x1024.Idx → EReal) (ix2 q k) = argW m c (ix2 k q) := by
  have e : V m c main_v2 = truncf .bf16 (F := Ideal) (transpose S5632x1024 [1, 0] (m ((c.tc : Thread nD τ).loc main_arg2)) transposes_S1024x5632_S5632x1024_1_0) bitsLt_bf16_f32 := by
    show StableHlo.after hostOps0 (fun b => m (c, b)) (Proc.devRef .tc main_v2) = _
    after_results_simp
  rw [e]
  exact transpose_apply [1, 0] (argW m c) transposes_S1024x5632_S5632x1024_1_0 (ix2 q k) (ix2 k q) (fun b => match b with
    | ⟨0, _⟩ => rfl
    | ⟨1, _⟩ => rfl)

theorem index0 : ∀ t : Fin grid0.N, win0_0.index t 0 = t.val / 4 ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val % 4 ∧ win0_2.index t 1 = 0 := by decide +kernel
theorem index3 : ∀ t : Fin grid0.N, win0_3.index t 0 = t.val / 4 ∧ win0_3.index t 1 = t.val % 4 := by decide +kernel
theorem index4 : ∀ t : Fin grid0.N, win0_4.index t 0 = t.val / 4 ∧ win0_4.index t 1 = 0 := by decide +kernel

theorem block0 (t : Fin cfg0.N) (r k : Fin 1024) (p : Fin 4096) (hp : p.val = 1024 * (t.val / 4) + r.val) :
    (iblk m c 0 t : S1024x1024.Idx → EReal) (ix2 r k) = argX m c (ix2 p k) := by
  rw [show argX m c (ix2 p k) = (V m c main_arg0 : S4096x1024.Idx → EReal) (ix2 p k) from (congrFun (V_main_arg0 m c) _).symm]
  unfold iblk
  rw [View.read_apply, cast_eq]
  show V m c main_arg0 _ = _
  refine congrArg (V m c main_arg0) (funext fun a => Fin.ext ?_)
  match a with
  | ⟨0, _⟩ => show win0_0.index t 0 * 1024 + 1 * r.val = p.val; rw [(index0 t).1, hp]; omega
  | ⟨1, _⟩ => show win0_0.index t 1 * 1024 + 1 * k.val = k.val; rw [(index0 t).2]; omega

theorem block1 (t : Fin cfg0.N) (k : Fin 1024) : (iblk m c 1 t : S1x1024.Idx → EReal) (ix2 0 k) = argG m c (ix1 k) := by
  rw [← gain_apply m c k]
  unfold iblk
  rw [View.read_apply, cast_eq]
  show V m c main_v0 _ = _
  refine congrArg (V m c main_v0) (funext fun a => Fin.ext ?_)
  match a with
  | ⟨0, _⟩ => show win0_1.index t 0 * 1 + 1 * 0 = 0; rw [(index1 t).1]
  | ⟨1, _⟩ => show win0_1.index t 1 * 1024 + 1 * k.val = k.val; rw [(index1 t).2]; omega

theorem block2 (t : Fin cfg0.N) (s : Fin 1408) (k : Fin 1024) (q : Fin 5632) (hq : q.val = 1408 * (t.val % 4) + s.val) :
    (iblk m c 2 t : S1408x1024.Idx → EReal) (ix2 s k) = argW m c (ix2 k q) := by
  rw [← matrix_apply m c q k]
  unfold iblk
  rw [View.read_apply, cast_eq]
  show V m c main_v2 _ = _
  refine congrArg (V m c main_v2) (funext fun a => Fin.ext ?_)
  match a with
  | ⟨0, _⟩ => show win0_2.index t 0 * 1408 + 1 * s.val = q.val; rw [(index2 t).1, hq]; omega
  | ⟨1, _⟩ => show win0_2.index t 1 * 1024 + 1 * k.val = k.val; rw [(index2 t).2]; omega

/-! ## The results -/

/-- The norm's output, -/
def hV (i : S4096x1024.Idx) : EReal := rms (n := 4096) (argX m c) (fun k => argG m c (ix1 k)) (i 0) (i 1)
/-- and its product with the matrix. -/
def uV (i : S4096x5632.Idx) : EReal :=
  ∑ k : Fin 1024, rms (n := 4096) (argX m c) (fun k => argG m c (ix1 k)) (i 0) k * argW m c (ix2 k (i 1))

theorem normAt_apply (t : Fin cfg0.N) (r k : Fin 1024) (p : Fin 4096) (hp : p.val = 1024 * (t.val / 4) + r.val) :
    (normAt m c t : S1024x1024.Idx → EReal) (ix2 r k) = rms (n := 4096) (argX m c) (fun k => argG m c (ix1 k)) p k := by
  have hp' : p.val = 1024 * ((head t).val / 4) + r.val := by
    rw [hp]; show _ = 1024 * (4 * (t.val / 4) / 4) + r.val; omega
  unfold normAt
  rw [normed_apply]
  unfold rms
  simp only [block0 m c (head t) r _ p hp', block1 m c (head t)]

section Arrays

variable {Ix : Type} [DecidableEq Ix] {Name : Type} [DecidableEq Name] {M : Type} [URA M] {Lvl : Type} (dat : Dat τ (Elt Ideal) Ix Name M Lvl cfg0 c)

/-- The second result's array. -/
theorem arr4 (hL : ∀ t : Fin cfg0.N, (cfg0.win 4).flush t = true → dat.after 4 t = normAt m c t) (i : S4096x1024.Idx) :
    dat.arrAt 4 cfg0.N i = hV m c i := by
  refine dat.arrAt_forall_of_covers 4 (fun i v => v = hV m c i) (by decide +kernel) (fun t hf y => ?_) i
  rw [cast_eq, hL t hf]
  have e0 : ((((cfg0.win 4).blk t).view.emb y) 0).val = 1024 * (t.val / 4) + (y 0).val := by
    show win0_4.index t 0 * 1024 + 1 * (y 0).val = _
    rw [(index4 t).1]; omega
  have e1 : ((((cfg0.win 4).blk t).view.emb y) 1) = (y 1 : Fin 1024) := Fin.ext (by
    show win0_4.index t 1 * 1024 + 1 * (y 1).val = (y 1).val
    rw [(index4 t).2]; omega)
  refine (congrArg (normAt m c t) (show _ = ix2 (y 0 : Fin 1024) (y 1 : Fin 1024) from funext fun a => Fin.ext ?_)).trans ((normAt_apply m c t (y 0) (y 1) _ e0).trans ?_)
  · match a with
    | ⟨0, _⟩ => rfl
    | ⟨1, _⟩ => rfl
  · unfold hV
    exact congrArg (rms (n := 4096) (argX m c) (fun k => argG m c (ix1 k)) _) e1.symm

/-- The first result's array. -/
theorem arr3 (hL : ∀ t : Fin cfg0.N, (cfg0.win 3).flush t = true → dat.after 3 t = tile (normAt m c t) (iblk m c 2 t)) (i : S4096x5632.Idx) :
    dat.arrAt 3 cfg0.N i = uV m c i := by
  refine dat.arrAt_forall_of_covers 3 (fun i v => v = uV m c i) (by decide +kernel) (fun t hf y => ?_) i
  rw [cast_eq, hL t hf]
  have e0 : ((((cfg0.win 3).blk t).view.emb y) 0).val = 1024 * (t.val / 4) + (y 0).val := by
    show win0_3.index t 0 * 1024 + 1 * (y 0).val = _
    rw [(index3 t).1]; omega
  have e1 : ((((cfg0.win 3).blk t).view.emb y) 1).val = 1408 * (t.val % 4) + (y 1).val := by
    show win0_3.index t 1 * 1408 + 1 * (y 1).val = _
    rw [(index3 t).2]; omega
  refine (congrArg (tile (normAt m c t) (iblk m c 2 t)) (show _ = ix2 (y 0 : Fin 1024) (y 1 : Fin 1408) from funext fun a => Fin.ext ?_)).trans
    ((tile_apply _ _ (y 0) (y 1)).trans (Finset.sum_congr rfl fun k _ => ?_))
  · match a with
    | ⟨0, _⟩ => rfl
    | ⟨1, _⟩ => rfl
  · rw [normAt_apply m c t (y 0) k _ e0, block2 m c t (y 1) k _ e1]

end Arrays

/-- The kernel's run leaves the results. -/
theorem results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = uV m c ∧ r.2.mem ((c.tc : Thread nD τ).loc main_v3_1) = hV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun r hr c => ?_) (run_main m ρ)
  obtain ⟨after, hL, hA⟩ := hr.1.exists_exact c
  have key : ∀ (w : Fin cfg0.W) (t : Fin cfg0.N), marked w = true → (cfg0.win w).flush t = true → Rl m c w t (after w t) :=
    fun w t hw hf => (dats m 0 c).toRRel_leaves hw (hL w t hf)
  refine ⟨funext fun i => ?_, funext fun i => ?_, args_end m hr.1 c⟩
  · exact (congrFun (hA 3) i).trans (arr3 m c ((rdats m c).withAfter after) (fun t hf => key 3 t rfl hf) i)
  · exact (congrFun (hA 4) i).trans (arr4 m c ((rdats m c).withAfter after) (fun t hf => key 4 t rfl hf) i)

end Cert.Kernel3Ideal.Up

end
-- ==== Proof.Up.Claim.lean ====
/- THE UP-PROJECTION AGAINST THE PRODUCT OF THE NORM'S OUTPUT WITH THE MATRIX, and against the norm's output. -/
module

public import proofs.«01_k».proof.Defs
public import proofs.«01_k».proof.Proof.Up.Value
public import proofs.«01_k».proof.Proof.Gen.Kernel3
public import proofs.«01_k».proof.Proof.Gen.Kernel3Ideal
public import proofs.«01_k».proof.Proof.Gen.Reference4Ideal
public import proofs.«01_k».proof.Proof.Gen.Reference4Ideal.Run
public import proofs.«01_k».proof.Proof.Gen.Reference4Ideal.Read

@[expose] public section

noncomputable section

open Idealize.ShloMosaic Idealize.ShloMosaic.TcCoe Idealize.ShloMosaic.Pointwise Idealize.SL.Sem
open scoped BigOperators

attribute [local instance] Cert.Kernel3.Gen.facts Cert.Kernel3Ideal.Gen.facts Cert.Reference4Ideal.Gen.facts

namespace Cert.Reference4Ideal.Read

open Cert.Kernel3Ideal.Up (rms)

/-- The reference's norm, for the product, -/
theorem norm_eq (x : S4096x1024.Idx → EReal) (g : S1024.Idx → EReal) (i : S4096x1024.Idx) :
    (val_main_v12 (F := Ideal) x g : S4096x1024.Idx → EReal) i = rms (n := 4096) x (fun k => g (ix1 k)) (i 0) (i 1) := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  simp only [val_main_v0_apply]
  unfold rms
  simp only [Ideal.hostUnary_rsqrt_def, Ideal.hostDivf_def]
  rw [show (val_main_cst (F := Ideal) (Shape.Idx.first Gen.h_S_) : EReal) = 0 from Idealize.ShloMosaic.Ideal.ofBits_zero_f32]
  simp only [Idealize.ShloMosaic.Ideal.ofBits_zero_f32, zero_add]
  have e : ∀ k : Fin 1024, idx_main_v1 (idx_main_v2 (idx_main_v8 i)) k = ix2 (i 0) k := fun k => funext fun a => Fin.ext (by
    match a with
    | ⟨0, _⟩ => rfl
    | ⟨1, _⟩ => rfl)
  have e1 : i = ix2 (i 0) (i 1) := funext fun a => Fin.ext (by
    match a with
    | ⟨0, _⟩ => rfl
    | ⟨1, _⟩ => rfl)
  have e2 : idx_main_v10 (idx_main_v11 i) = ix1 (i 1) := funext fun a => Fin.ext (by
    match a with
    | ⟨0, _⟩ => rfl)
  simp only [e, e2]
  conv_lhs => rw [e1]
  rfl

/-- and for itself: the same operations. -/
theorem norm_same (x : S4096x1024.Idx → EReal) (g : S1024.Idx → EReal) : (val_main_v27 (F := Ideal) x g : S4096x1024.Idx → EReal) = val_main_v12 (F := Ideal) x g := rfl

/-- The reference's product. -/
theorem product_eq (x : S4096x1024.Idx → EReal) (g : S1024.Idx → EReal) (w : S1024x5632.Idx → EReal) :
    (val_main_v13 (F := Ideal) x g w : S4096x5632.Idx → EReal)
      = fun i => ∑ k : Fin 1024, rms (n := 4096) x (fun k => g (ix1 k)) (i 0) k * w (ix2 k (i 1)) := by
  funext i
  rw [val_main_v13_apply]
  refine Finset.sum_congr rfl fun k _ => congrArg₂ (fun a b : EReal => a * b) (norm_eq x g _) (congrArg w (funext fun d => Fin.ext ?_))
  match d with
  | ⟨0, _⟩ => rfl
  | ⟨1, _⟩ => rfl

end Cert.Reference4Ideal.Read

namespace Cert.Proof

/-- The run states the frame, over any float values; -/
theorem frame_up {F : FTy → Type} [FloatOps F] (m : (ℓ : Loc Kernel3Ideal.nD Kernel3Ideal.τ Kernel3Ideal.sig) → Buf (Elt F) ℓ) (ρ : Dev Kernel3Ideal.nD → PrngReg) :
    θ_run (Cert.Kernel3Ideal.defs (F := F)) (onTc (τ := Kernel3Ideal.τ) (Cert.Kernel3Ideal.main (F := F))) ⟨m, fun _ => 0, ρ⟩ (fun r => (∀ c : Dev Kernel3Ideal.nD,
      r.2.mem ((c.tc : Thread Kernel3Ideal.nD Kernel3Ideal.τ).loc Kernel3Ideal.main_arg0) = m ((c.tc : Thread Kernel3Ideal.nD Kernel3Ideal.τ).loc Kernel3Ideal.main_arg0)
      ∧ r.2.mem ((c.tc : Thread Kernel3Ideal.nD Kernel3Ideal.τ).loc Kernel3Ideal.main_arg1) = m ((c.tc : Thread Kernel3Ideal.nD Kernel3Ideal.τ).loc Kernel3Ideal.main_arg1)
      ∧ r.2.mem ((c.tc : Thread Kernel3Ideal.nD Kernel3Ideal.τ).loc Kernel3Ideal.main_arg2) = m ((c.tc : Thread Kernel3Ideal.nD Kernel3Ideal.τ).loc Kernel3Ideal.main_arg2))
      ∧ r.2.sem = fun _ => 0) :=
  (θ_run Cert.Kernel3Ideal.defs _ _).mono (fun _ h => ⟨Cert.Kernel3Ideal.Up.args_end _ h.1, h.2⟩) (Cert.Kernel3Ideal.Up.run_main m ρ)

/-- the two programs' bodies are one text, -/
theorem bodies_same : (Cert.Kernel3.defs₀ : Defs _ _ _ (Elt Bits) _) = Cert.Kernel3Ideal.defs₀ :=
  congrArg Defs.onTc (funext fun l => funext fun a => by
    match l, a with
    | ⟨0, _⟩, (t, s) => rfl)

/-- so each has it. -/
theorem frame_kernel3 : Cert.quiescent_Kernel3 := fun m ρ _ => by
  rw [show Cert.Kernel3.defs (F := Bits) = Cert.Kernel3Ideal.defs (F := Bits) from congrArg (Pipeline.defs _) bodies_same]
  exact frame_up (F := Bits) m ρ
theorem frame_kernel3Ideal : Cert.quiescent_Kernel3Ideal := fun m ρ _ => frame_up m ρ

theorem frame_reference4Ideal : Cert.quiescent_Reference4Ideal := fun m ρ _ =>
  (θ_run Cert.Reference4Ideal.defs _ _).mono (fun r h => ⟨fun c => (h c).2.2, sem_eq_zero_of_no_sems (by decide) r.2⟩) (Cert.Reference4Ideal.Value.run m ρ)

/-- The kernel computes both results. -/
theorem algebraic_forward : Cert.algebraic_Kernel3Ideal_Reference4Ideal := by
  intro m g m' g' _ hagree
  refine ⟨fun c => Cert.Kernel3Ideal.Up.uV m c, fun c => Cert.Kernel3Ideal.Up.hV m c, Cert.Kernel3Ideal.Up.results m g, ?_⟩
  refine (θ_run (Cert.Reference4Ideal.defs (F := Ideal)) _ _).mono (fun r h c => ⟨(h c).1.trans ?_, (h c).2.1.trans ?_, (h c).2.2⟩) (Cert.Reference4Ideal.Value.run m' g')
  · rw [(hagree c).1, (hagree c).2.1, (hagree c).2.2, Cert.Reference4Ideal.Read.val_main_v13_eq]
    exact Cert.Reference4Ideal.Read.product_eq _ _ _
  · rw [(hagree c).1, (hagree c).2.1, Cert.Reference4Ideal.Read.val_main_v27_eq, Cert.Reference4Ideal.Read.norm_same]
    exact funext fun i => Cert.Reference4Ideal.Read.norm_eq _ _ i

end Cert.Proof

end
-- ==== Proof.In.Run.lean ====
/-
  THE BODY OF THE KERNEL OF THE PROJECTION BEFORE THE ATTENTIONS. At the first column tile of a block of tokens it normalises the block and
  keeps the norm's output, in the scratch and, transposed, in the second result's buffer; at every column tile it multiplies what is kept by the
  tile of the matrix, and writes the product out in both precisions.
-/
module

public import proofs.«01_k».proof.Proof.Gen.Kernel6Ideal.Frame
public import proofs.«01_k».proof.Proof.Gen.Kernel6Ideal.Skeleton
public import proofs.«01_k».proof.Proof.Up.Whole

@[expose] public section

set_option maxRecDepth 16384

noncomputable section

namespace Cert.Kernel6Ideal.In

open Cert.Kernel6Ideal Cert.Kernel6Ideal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The norm's output of a block of tokens, -/
def normed (x : Vec F S1024x1024 .f32) (g : Vec F S1x1024 .f32) : Vec F S1024x1024 .bf16 := k0_pay2 x g
/-- and its product with a tile of the matrix. -/
def tile (h : Vec F S1024x1024 .bf16) (w : Vec F S1024x1024 .bf16) : Vec F S1024x1024 .f32 := k0_pay4 h w

/-- The product in bf16; the norm's output transposed. -/
def low (h w : Vec F S1024x1024 .bf16) : Vec F S1024x1024 .bf16 := k0_pay5 h w
def turned (x : Vec F S1024x1024 .f32) (g : Vec F S1x1024 .f32) : Vec F S1024x1024 .bf16 := k0_pay3 x g

/-- Every column tile is written in bf16 too. -/
theorem cond2 : ∀ t : Fin cfg0.N, k0_cond2 (grid0.coords t) = 1#1 := by decide +kernel

variable (a2 : Memref sig .tc .vmem S1024x1024 .f32) (h2 : a2.IsWhole) (a3 : Memref sig .tc .vmem S1x1024 .f32) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .bf16) (h6 : a6.IsWhole) (a7 : Memref sig .tc .vmem S1024x1024 .bf16) (h7 : a7.IsWhole)
  (a8 : Memref sig .tc .vmem S1024x1024 .bf16) (h8 : a8.IsWhole)

/-- The three inputs' buffers hold `x`, `g` and `w`; the three outputs' and the scratch `o`, `p`, `b` and `s`. -/
def held (c : Dev nD) (x : Vec F S1024x1024 .f32) (g : Vec F S1x1024 .f32) (w : Vec F S1024x1024 .bf16) (o : Vec F S1024x1024 .f32)
    (p b s : Vec F S1024x1024 .bf16) : sProp 𝕄 :=
  iprop(owns (c : Thread nD τ) a2 fullShare x ∗ owns (c : Thread nD τ) a3 fullShare g ∗ owns (c : Thread nD τ) a4 fullShare w
    ∗ owns (c : Thread nD τ) a5 fullShare o ∗ owns (c : Thread nD τ) a6 fullShare p ∗ owns (c : Thread nD τ) a7 fullShare b
    ∗ owns (c : Thread nD τ) a8 fullShare s)

/-- The same, each buffer at raw contents. -/
def raw (c : Dev nD) (x : Vec F S1024x1024 .f32) (g : Vec F S1x1024 .f32) (w : Vec F S1024x1024 .bf16) (o : Vec F S1024x1024 .f32)
    (p b s : Vec F S1024x1024 .bf16) : sProp 𝕄 :=
  iprop((a2.view.loc (c : Thread nD τ) ↦[a2.view.set]{fullShare} h2.unread x) ∗ (a3.view.loc (c : Thread nD τ) ↦[a3.view.set]{fullShare} h3.unread g)
    ∗ (a4.view.loc (c : Thread nD τ) ↦[a4.view.set]{fullShare} h4.unread w) ∗ (a5.view.loc (c : Thread nD τ) ↦[a5.view.set]{fullShare} h5.unread o)
    ∗ (a6.view.loc (c : Thread nD τ) ↦[a6.view.set]{fullShare} h6.unread p) ∗ (a7.view.loc (c : Thread nD τ) ↦[a7.view.set]{fullShare} h7.unread b)
    ∗ (a8.view.loc (c : Thread nD τ) ↦[a8.view.set]{fullShare} h8.unread s))

theorem held_raw (c : Dev nD) (x : Vec F S1024x1024 .f32) (g : Vec F S1x1024 .f32) (w : Vec F S1024x1024 .bf16) (o : Vec F S1024x1024 .f32)
    (p b s : Vec F S1024x1024 .bf16) : held a2 a3 a4 a5 a6 a7 a8 c x g w o p b s ⊢ raw a2 h2 a3 h3 a4 h4 a5 h5 a6 h6 a7 h7 a8 h8 c x g w o p b s := by
  unfold held raw
  exact BI.sep_mono (owns_open h2 _) <| BI.sep_mono (owns_open h3 _) <| BI.sep_mono (owns_open h4 _) <| BI.sep_mono (owns_open h5 _) <|
    BI.sep_mono (owns_open h6 _) <| BI.sep_mono (owns_open h7 _) (owns_open h8 _)

variable (c : Dev nD) (i : grid0.Coords) (x : Vec F S1024x1024 .f32) (g : Vec F S1x1024 .f32) (w : Vec F S1024x1024 .bf16)
  (o : Vec F S1024x1024 .f32) (p b s : Vec F S1024x1024 .bf16)

set_option maxHeartbeats 2000000 in
/-- The first column tile of a block of tokens. -/
theorem first (hc : k0_cond1 i = 1#1) (hd : k0_cond2 i = 1#1) (E : Set ℕ) (K : PUnit → sProp 𝕄) :
    iprop(raw a2 h2 a3 h3 a4 h4 a5 h5 a6 h6 a7 h7 a8 h8 c x g w o p b s
        ∗ (held a2 a3 a4 a5 a6 a7 a8 c x g w (tile (normed x g) w) (turned x g) (low (normed x g) w) (normed x g) -∗ K ⟨⟩))
      ⊢ wp frame (wpE (defs₀ (F := F)) Variants.none c none) E (cc0_in_proj i a2 h2 a3 h3 a4 h4 a5 h5 a6 h6 a7 h7 a8 h8) K := by
  unfold raw held
  simp only [cc0_in_proj_eq_skeleton]; unfold cc0_in_proj_skel
  iintro ⟨⟨H2, H3, H4, H5, H6, H7, H8⟩, Hk⟩
  sl_exec (disch := first | sl_exact hc | sl_exact hd)
  sl_step
  iapply Hk
  unfold owns
  isplitl [H2]
  · iexists _; isplitr; swap; · iexact H2
    ipureintro; exact h2.read_unread x
  isplitl [H3]
  · iexists _; isplitr; swap; · iexact H3
    ipureintro; exact h3.read_unread g
  isplitl [H4]
  · iexists _; isplitr; swap; · iexact H4
    ipureintro; exact h4.read_unread w
  isplitl [H5]
  · iexists _; isplitr; swap; · iexact H5
    ipureintro
    sl_unfold_words
    refine (View.read_writes_full a5.view _ _ _ _).trans ?_
    unfold tile
    refine congrArg₂ k0_pay4 ?_ (read_all h4 w _)
    refine (View.readCov_full a8.view _ _ _ _).trans ?_
    exact congrArg₂ normed (read_all h2 x _) (read_all h3 g _)
  isplitl [H6]
  · iexists _; isplitr; swap; · iexact H6
    ipureintro
    sl_unfold_words
    refine (View.read_writes_full a6.view _ _ _ _).trans ?_
    exact congrArg₂ turned (read_all h2 x _) (read_all h3 g _)
  isplitl [H7]
  · iexists _; isplitr; swap; · iexact H7
    ipureintro
    sl_unfold_words
    refine (View.read_writes_full a7.view _ _ _ _).trans ?_
    refine congrArg₂ low ?_ (read_all h4 w _)
    refine (View.readCov_full a8.view _ _ _ _).trans ?_
    exact congrArg₂ normed (read_all h2 x _) (read_all h3 g _)
  iexists _; isplitr; swap; · iexact H8
  ipureintro
  sl_unfold_words
  refine (View.read_writes_full a8.view _ _ _ _).trans ?_
  exact congrArg₂ normed (read_all h2 x _) (read_all h3 g _)

set_option maxHeartbeats 2000000 in
/-- A later column tile. -/
theorem later (hc : ¬k0_cond1 i = 1#1) (hd : k0_cond2 i = 1#1) (E : Set ℕ) (K : PUnit → sProp 𝕄) :
    iprop(raw a2 h2 a3 h3 a4 h4 a5 h5 a6 h6 a7 h7 a8 h8 c x g w o p b s ∗ (held a2 a3 a4 a5 a6 a7 a8 c x g w (tile s w) p (low s w) s -∗ K ⟨⟩))
      ⊢ wp frame (wpE (defs₀ (F := F)) Variants.none c none) E (cc0_in_proj i a2 h2 a3 h3 a4 h4 a5 h5 a6 h6 a7 h7 a8 h8) K := by
  unfold raw held
  simp only [cc0_in_proj_eq_skeleton]; unfold cc0_in_proj_skel
  iintro ⟨⟨H2, H3, H4, H5, H6, H7, H8⟩, Hk⟩
  sl_exec (disch := first | sl_exact hc | sl_exact hd)
  sl_step
  iapply Hk
  unfold owns
  isplitl [H2]
  · iexists _; isplitr; swap; · iexact H2
    ipureintro; exact h2.read_unread x
  isplitl [H3]
  · iexists _; isplitr; swap; · iexact H3
    ipureintro; exact h3.read_unread g
  isplitl [H4]
  · iexists _; isplitr; swap; · iexact H4
    ipureintro; exact h4.read_unread w
  isplitl [H5]
  · iexists _; isplitr; swap; · iexact H5
    ipureintro
    refine (View.read_writes_full a5.view _ _ _ _).trans ?_
    exact congrArg₂ k0_pay4 (read_all h8 s _) (read_all h4 w _)
  isplitl [H6]
  · iexists _; isplitr; swap; · iexact H6
    ipureintro; exact h6.read_unread p
  isplitl [H7]
  · iexists _; isplitr; swap; · iexact H7
    ipureintro
    refine (View.read_writes_full a7.view _ _ _ _).trans ?_
    exact congrArg₂ low (read_all h8 s _) (read_all h4 w _)
  iexists _; isplitr; swap; · iexact H8
  ipureintro; exact h8.read_unread s

end Cert.Kernel6Ideal.In

end
-- ==== Proof.In.Frame.lean ====
/-
  THE RUN OF THE PROJECTION BEFORE THE ATTENTIONS. The scratch holds, from a block of tokens' first column tile to its second, the norm's output of
  that block; every column tile of the first and the third result is its product with the tile of the matrix, and the second result's block is the
  norm's output transposed.
-/
module

public import proofs.«01_k».proof.Proof.In.Run
public import Idealize.ShloMosaic.Lib.Pipeline.DatRel
public import Idealize.ShloMosaic.Lib.Pipeline.ArrRel

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond1_iff : ∀ t : Fin cfg0.N, k0_cond1 (grid0.coords t) = 1#1 ↔ t.val % 2 = 0 := by decide +kernel

/-- The first point of a point's block of tokens, -/
def head (t : Fin cfg0.N) : Fin cfg0.N := ⟨2 * (t.val / 2), Nat.lt_of_le_of_lt (Nat.mul_div_le _ _) t.isLt⟩
/-- and the norm's output of the block. -/
def normAt (c : Dev nD) (t : Fin cfg0.N) : Vec F S1024x1024 .bf16 := normed (iblk m c 0 (head t)) (iblk m c 1 (head t))

/-- The same, transposed. -/
def turnedAt (c : Dev nD) (t : Fin cfg0.N) : Vec F S1024x1024 .bf16 := turned (iblk m c 0 (head t)) (iblk m c 1 (head t))

/-- The point before. -/
abbrev pred (t : Fin cfg0.N) : Fin cfg0.N := ⟨t.val - 1, Nat.lt_of_le_of_lt (Nat.sub_le _ _) t.isLt⟩

theorem head_first (t : Fin cfg0.N) (h : t.val % 2 = 0) : head t = t := Fin.ext (by show 2 * (t.val / 2) = t.val; omega)
theorem normAt_same (c : Dev nD) (t u : Fin cfg0.N) (h : t.val / 2 = u.val / 2) : normAt m c t = normAt m c u := by
  have e : head t = head u := Fin.ext (by show 2 * (t.val / 2) = 2 * (u.val / 2); rw [h])
  unfold normAt; rw [e]
theorem turnedAt_same (c : Dev nD) (t u : Fin cfg0.N) (h : t.val / 2 = u.val / 2) : turnedAt m c t = turnedAt m c u := by
  have e : head t = head u := Fin.ext (by show 2 * (t.val / 2) = 2 * (u.val / 2); rw [h])
  unfold turnedAt; rw [e]

/-- The outputs' windows are held to what their blocks are. -/
def marked : Fin 6 → Bool := fun w => decide (3 ≤ w.val)
def Rl (c : Dev nD) (w : Fin cfg0.W) (t : Fin cfg0.N) : ((cfg0.win w).block.Idx → Elt F (cfg0.win w).elt) → Prop :=
  match w with
  | ⟨3, _⟩ => fun X => X = tile (normAt m c t) (iblk m c 2 t)
  | ⟨4, _⟩ => fun X => X = turnedAt m c t
  | ⟨5, _⟩ => fun X => X = low (normAt m c t) (iblk m c 2 t)
  | _ => fun _ => True

/-- Before a point that is not the first of its block the scratch holds the block's norm. -/
def Phi (c : Dev nD) (n : ℕ) : sProp 𝕄 :=
  iprop((∃ s, ⌜∀ t : Fin cfg0.N, t.val = n → n % 2 ≠ 0 → s = normAt m c t⌝ ∗ owns (c : Thread nD τ) (Memref.whole cc0_scratch0) fullShare s)
    ∗ (∃ r, prngReg c r))

/-- The arrays as the region finds them; each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨_ + 6, h⟩ => absurd h (by have : cfg0.W = 6 := rfl; omega)
  Φ t := Phi m c t.val
  q w := Pipeline.shareOf spec0 w
  owed _ := 0

abbrev rdats (c : Dev nD) := (dats m 0 c).toRRel marked (Rl m c)

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem live0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after0]
theorem live1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after1]
theorem live2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after2]

/-- Past a block's first point the second result's buffer still holds the block's norm, transposed. -/
theorem found (c : Dev nD) (t : Fin cfg0.N) (ht : t.val % 2 ≠ 0) (X) (h : (rdats m c).Finds 4 t X) : X = turnedAt m c t := by
  rw [← turnedAt_same m c (pred t) t (by show (t.val - 1) / 2 = t.val / 2; omega)]
  rcases ((rdats m c).finds_of_pos (w := 4) (t := t) rfl (by omega) X).1 h with h' | h'
  · have h2 : (pred t).val % 2 = 1 := (flush0_4 (pred t)).1 h'
    simp only [pred] at h2; omega
  · exact (dats m 0 c).toRRel_leaves (w := 4) rfl h'

/-- What the body is called with at a point, -/
def bodyPre (c : Dev nD) (t : Fin cfg0.N) : sProp 𝕄 :=
  iprop(Phi m c t.val ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ Y, ⌜(rdats m c).Finds 3 t Y⌝ ∗ owns (c : Thread nD τ) (win0_3.stage (cfg0.slots t 3)) fullShare Y)
    ∗ (∃ Y, ⌜(rdats m c).Finds 4 t Y⌝ ∗ owns (c : Thread nD τ) (win0_4.stage (cfg0.slots t 4)) fullShare Y)
    ∗ (∃ Y, ⌜(rdats m c).Finds 5 t Y⌝ ∗ owns (c : Thread nD τ) (win0_5.stage (cfg0.slots t 5)) fullShare Y))

/-- and what it returns. -/
def bodyPost (c : Dev nD) (t : Fin cfg0.N) : sProp 𝕄 :=
  iprop(Phi m c (t.val + 1) ∗ (dats m 0 c).owesAt () t.castSucc
    ∗ (dats m 0 c).leavesExact 0 t ∗ (dats m 0 c).leavesExact 1 t ∗ (dats m 0 c).leavesExact 2 t
    ∗ (∃ X, ⌜X = tile (normAt m c t) (iblk m c 2 t)⌝ ∗ owns (c : Thread nD τ) (win0_3.stage (cfg0.slots t 3)) fullShare X)
    ∗ (∃ X, ⌜X = turnedAt m c t⌝ ∗ owns (c : Thread nD τ) (win0_4.stage (cfg0.slots t 4)) fullShare X)
    ∗ (∃ X, ⌜X = low (normAt m c t) (iblk m c 2 t)⌝ ∗ owns (c : Thread nD τ) (win0_5.stage (cfg0.slots t 5)) fullShare X))

/-- The body at a point. -/
abbrev bodyOf (t : Fin cfg0.N) := cc0_in_proj (F := F) (grid0.coords t)
  (win0_0.stage (cfg0.slots t 0)) (hstage0_0 ((cfg0.slots t 0).cast nbuf0_0)) (win0_1.stage (cfg0.slots t 1)) (hstage0_1 ((cfg0.slots t 1).cast nbuf0_1))
  (win0_2.stage (cfg0.slots t 2)) (hstage0_2 ((cfg0.slots t 2).cast nbuf0_2)) (win0_3.stage (cfg0.slots t 3)) (hstage0_3 ((cfg0.slots t 3).cast nbuf0_3))
  (win0_4.stage (cfg0.slots t 4)) (hstage0_4 ((cfg0.slots t 4).cast nbuf0_4))
  (win0_5.stage (cfg0.slots t 5)) (hstage0_5 ((cfg0.slots t 5).cast nbuf0_5)) (Memref.whole cc0_scratch0) (Memref.isWhole_whole cc0_scratch0)

/-- The buffers at a point, with the blocks of the inputs. -/
abbrev heldAt (c : Dev nD) (t : Fin cfg0.N) (o : Vec F S1024x1024 .f32) (p b s : Vec F S1024x1024 .bf16) : sProp 𝕄 :=
  held (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) (Memref.whole cc0_scratch0) c (iblk m c 0 t) (iblk m c 1 t) (iblk m c 2 t) o p b s

/-- The body takes the buffers, the scratch and the second result's at the norm unless it is to compute it, to the two results' blocks. -/
theorem step_own (c : Dev nD) (t : Fin cfg0.N) (o : Vec F S1024x1024 .f32) (p b s : Vec F S1024x1024 .bf16) (hs : t.val % 2 ≠ 0 → s = normAt m c t)
    (hp : t.val % 2 ≠ 0 → p = turnedAt m c t) (K : PUnit → sProp 𝕄) :
    iprop(heldAt m c t o p b s ∗ (heldAt m c t (tile (normAt m c t) (iblk m c 2 t)) (turnedAt m c t) (low (normAt m c t) (iblk m c 2 t)) (normAt m c t) -∗ K ⟨⟩))
      ⊢ wp frame (wpE (defs₀ (F := F)) Variants.none c none) Set.univ (bodyOf t) K := by
  by_cases h : t.val % 2 = 0
  · have e : normAt m c t = normed (iblk m c 0 t) (iblk m c 1 t) := by unfold normAt; rw [head_first t h]
    have e' : turnedAt m c t = turned (iblk m c 0 t) (iblk m c 1 t) := by unfold turnedAt; rw [head_first t h]
    rw [e, e']
    iintro ⟨H, Hk⟩
    iapply (first _ _ _ _ _ _ _ _ _ _ _ _ _ _ c (grid0.coords t) (iblk m c 0 t) (iblk m c 1 t) (iblk m c 2 t) o p b s ((cond1_iff t).2 h) (cond2 t) Set.univ K)
    isplitl [H]
    · iapply (held_raw _ _ _ _ _ _ _ _ _ _ _ _ _ _ c (iblk m c 0 t) (iblk m c 1 t) (iblk m c 2 t) o p b s); iexact H
    iexact Hk
  · rw [hs h, hp h]
    iintro ⟨H, Hk⟩
    iapply (later _ _ _ _ _ _ _ _ _ _ _ _ _ _ c (grid0.coords t) (iblk m c 0 t) (iblk m c 1 t) (iblk m c 2 t) o (turnedAt m c t) b (normAt m c t)
      (fun h' => h ((cond1_iff t).1 h')) (cond2 t) Set.univ K)
    isplitl [H]
    · iapply (held_raw _ _ _ _ _ _ _ _ _ _ _ _ _ _ c (iblk m c 0 t) (iblk m c 1 t) (iblk m c 2 t) o (turnedAt m c t) b (normAt m c t)); iexact H
    iexact Hk

set_option maxHeartbeats 1000000 in
theorem sound_body (c : Dev nD) (t : Fin cfg0.N) :
    bodyPre m c t ⊢ wp frame (wpE (defs₀ (F := F)) Variants.none c none) Set.univ (bodyOf t) (fun _ => bodyPost m c t) := by
  unfold bodyPre bodyPost Phi
  simp only [before0, before1, before2, live0, live1, live2]
  iintro ⟨⟨⟨%s, %hs, HS⟩, Hg⟩, Ho, ⟨%d0, H0⟩, ⟨%d1, H1⟩, ⟨%d2, H2⟩, ⟨%o, %hoo, H3⟩, ⟨%p, %hp, H4⟩, ⟨%b, %hb, H5⟩⟩
  iapply (step_own m c t o p b s (hs t rfl) (fun h => found m c t h p hp) _)
  unfold heldAt held
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  iintro ⟨H0, H1, H2, H3, H4, H5, HS⟩
  isplitl [HS Hg]
  · isplitl [HS]
    · iexists _; isplitr
      · ipureintro
        intro u hu hn
        exact normAt_same m c t u (by omega)
      iexact HS
    iexact Hg
  isplitl [Ho]; · iexact Ho
  isplitl [H0]; · iexact H0
  isplitl [H1]; · iexact H1
  isplitl [H2]; · iexact H2
  isplitl [H3]
  · iexists _; isplitr
    · ipureintro; rfl
    iexact H3
  isplitl [H4]
  · iexists _; isplitr
    · ipureintro; rfl
    iexact H4
  iexists _; isplitr
  · ipureintro; rfl
  iexact H5

theorem defs₀_row (t : Fin cfg0.N) : defs₀ (F := F) .tc cfg0.body (cfg0.bodyArgs t (cfg0.slots t)) = bodyOf t := by
  unfold defs₀; rw [Defs.onTc_tc]

set_option maxHeartbeats 2000000 in
theorem body_obligation (c : Dev nD) :
    Pipeline.BodyObligationRel (dats m 0 c) (defs₀ (F := F)) Variants.none () Set.univ marked (Rl m c) := fun t => by
  rw [bigSep_W0, bigSep_W0, defs₀_row]
  exact triple_restated (sound_body m c t) rfl .rfl fun _ => .rfl

/-- Before the first point the scratch is at anything; so it may be after the last. -/
theorem phiA_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

theorem hin (c : Dev nD) : Pipeline.ΦA spec0 c ⊢ (dats m 0 c).Φ 0 := by
  rw [phiA_eq]
  show _ ⊢ Phi m c 0
  unfold Phi
  iintro ⟨⟨%d, HS⟩, Hg⟩
  isplitr [Hg]
  · iexists d; isplitr
    · ipureintro; intro t _ hn; exact absurd rfl hn
    iexact HS
  iexact Hg

theorem hout (c : Dev nD) : (dats m 0 c).Φ (Fin.last cfg0.N) ⊢ Pipeline.ΦA spec0 c := by
  rw [phiA_eq]
  show Phi m c _ ⊢ _
  unfold Phi
  iintro ⟨⟨%d, -, HS⟩, Hg⟩
  isplitr [Hg]
  · iexists d; iexact HS
  iexact Hg

-- the launch theorem's implicit arguments are found by unifying its conclusion with this one, which takes unfolding plain
-- definitions in a metavariable's type
set_option backward.isDefEq.respectTransparency.types false in
/-- THE RUN: the program ends with every input array as the region found it, every output array of blocks of the norm and of its products, every
    other buffer as the region found it, and every semaphore at zero. -/
theorem run_main : θ_run defs (onTc (τ := τ) (main (F := F))) (s₀ m ρ)
    (fun r => Pipeline.RDat.FramePost (cfgs 0) (rdats m) (V m) r ∧ r.2.sem = fun _ => 0) :=
  Pipeline.RDat.θ_run_frame_track_shared (Q' := _) cfgs (0 : Fin 1) launch0.to₀ defs₀ Variants.none (rdats m) m ρ main
    (hbody := fun c => (body_obligation m c).toRRel) (hq := fun _ _ _ => rfl)
    (howed := fun _ _ => rfl) (V := V m) (hmain := hmain m Variants.none) (hA := A_eq m) (hin := hin m) (hout := hout m)

/-- An input's array is never written. -/
theorem arr_in (c : Dev nD) (w : Fin cfg0.W) (hw : (cfg0.win w).isOut = false) {X} (h : (rdats m c).ArrAt w cfg0.N X) :
    X = V m c (Pipeline.arrRef spec0 w) :=
  ((congrFun ((rdats m c).ArrAt_in w hw _) X).mp h).trans (A_eq m c w)

/-- The arguments at the end. -/
theorem args_end {r : PUnit × MemSt nD τ sig (Elt F)} (h : Pipeline.RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(arr_in m c 0 rfl ((h c).1 0)).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.Kernel6Ideal.In

end
-- ==== Proof.In.Value.lean ====
/-
  WHAT THE PROJECTION BEFORE THE ATTENTIONS COMPUTES, as extended reals: the norm's output of the tokens, transposed, and its product with the matrix, twice.
-/
module

public import proofs.«01_k».proof.Proof.In.Frame
public import proofs.«01_k».proof.Proof.Up.Value
public import Idealize.ShloMosaic.Lib.Pointwise
public import Idealize.ShloMosaic.Lib.StableHlo.Run
public import Idealize.ShloMosaic.Lib.ValueLayout

@[expose] public section

noncomputable section

namespace Cert.Kernel6Ideal.In

open Cert.Kernel6Ideal Cert.Kernel6Ideal.Gen
open Idealize.ShloMosaic Idealize.ShloMosaic.TcCoe Idealize.SL Idealize.SL.RA Idealize.SL.Sem
open Idealize.ShloMosaic.Pointwise
open Cert.Kernel3Ideal.Up (rms)
open Idealize.ShloMosaic.Pipeline (Dat Cfg Window)
open scoped BigOperators

theorem normed_apply (x : Vec Ideal S1024x1024 .f32) (g : Vec Ideal S1x1024 .f32) (r q : Fin 1024) :
    (normed x g : S1024x1024.Idx → EReal) (ix2 r q) = rms (n := 1024) x (fun k => g (ix2 0 k)) r q := by
  unfold normed
  pointwise [k0_pay2, k0_pay1]
  rfl

theorem turned_apply (x : Vec Ideal S1024x1024 .f32) (g : Vec Ideal S1x1024 .f32) (q r : Fin 1024) :
    (turned x g : S1024x1024.Idx → EReal) (ix2 q r) = rms (n := 1024) x (fun k => g (ix2 0 k)) r q := by
  unfold turned
  pointwise [k0_pay3, k0_pay1]
  rfl

theorem tile_apply (h w : Vec Ideal S1024x1024 .bf16) (r s : Fin 1024) :
    (tile h w : S1024x1024.Idx → EReal) (ix2 r s) = ∑ k : Fin 1024, h (ix2 r k) * w (ix2 k s) := by
  unfold tile
  pointwise [k0_pay4]

theorem low_apply (h w : Vec Ideal S1024x1024 .bf16) (r s : Fin 1024) :
    (low h w : S1024x1024.Idx → EReal) (ix2 r s) = ∑ k : Fin 1024, h (ix2 r k) * w (ix2 k s) := by
  unfold low
  pointwise [k0_pay5]
  exact tile_apply h w r s

/-! ## The blocks as parts of the arguments -/

variable (m : (ℓ : Loc nD τ sig) → Buf (Elt Ideal) ℓ) (c : Dev nD)

/-- The three arguments. -/
abbrev argX : S4096x1024.Idx → EReal := m ((c.tc : Thread nD τ).loc main_arg0)
abbrev argG : S1024.Idx → EReal := m ((c.tc : Thread nD τ).loc main_arg1)
abbrev argW : S1024x2048.Idx → EReal := m ((c.tc : Thread nD τ).loc main_arg2)

/-- The kernel's gain is the second argument as a row, -/
theorem gain_apply (k : Fin 1024) : (V m c main_v0 : S1x1024.Idx → EReal) (ix2 0 k) = argG m c (ix1 k) := by
  have e : V m c main_v0 = shapeCast S1x1024 (m ((c.tc : Thread nD τ).loc main_arg1)) shapeCasts_S1024_S1x1024 := by
    show StableHlo.after hostOps0 (fun b => m (c, b)) (Proc.devRef .tc main_v0) = _
    after_results_simp
    rfl
  rw [e]
  exact ValueIdx.shapeCast_a_1a_apply (argG m c) shapeCasts_S1024_S1x1024 0 k

/-- and its matrix the third. -/
theorem matrix_apply (k : Fin 1024) (q : Fin 2048) : (V m c main_v1 : S1024x2048.Idx → EReal) (ix2 k q) = argW m c (ix2 k q) := by
  have e : V m c main_v1 = truncf .bf16 (F := Ideal) (m ((c.tc : Thread nD τ).loc main_arg2)) bitsLt_bf16_f32 := by
    show StableHlo.after hostOps0 (fun b => m (c, b)) (Proc.devRef .tc main_v1) = _
    after_results_simp
  rw [e]
  rfl

theorem index0 : ∀ t : Fin grid0.N, win0_0.index t 0 = t.val / 2 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = t.val % 2 := by decide +kernel
theorem index3 : ∀ t : Fin grid0.N, win0_3.index t 0 = t.val / 2 ∧ win0_3.index t 1 = t.val % 2 := by decide +kernel
theorem index4 : ∀ t : Fin grid0.N, win0_4.index t 0 = 0 ∧ win0_4.index t 1 = t.val / 2 := by decide +kernel
theorem index5 : ∀ t : Fin grid0.N, win0_5.index t 0 = t.val / 2 ∧ win0_5.index t 1 = t.val % 2 := by decide +kernel

theorem block0 (t : Fin cfg0.N) (r k : Fin 1024) (p : Fin 4096) (hp : p.val = 1024 * (t.val / 2) + r.val) :
    (iblk m c 0 t : S1024x1024.Idx → EReal) (ix2 r k) = argX m c (ix2 p k) := by
  rw [show argX m c (ix2 p k) = (V m c main_arg0 : S4096x1024.Idx → EReal) (ix2 p k) from (congrFun (V_main_arg0 m c) _).symm]
  unfold iblk
  rw [View.read_apply, cast_eq]
  show V m c main_arg0 _ = _
  refine congrArg (V m c main_arg0) (funext fun a => Fin.ext ?_)
  match a with
  | ⟨0, _⟩ => show win0_0.index t 0 * 1024 + 1 * r.val = p.val; rw [(index0 t).1, hp]; omega
  | ⟨1, _⟩ => show win0_0.index t 1 * 1024 + 1 * k.val = k.val; rw [(index0 t).2]; omega

theorem block1 (t : Fin cfg0.N) (k : Fin 1024) : (iblk m c 1 t : S1x1024.Idx → EReal) (ix2 0 k) = argG m c (ix1 k) := by
  rw [← gain_apply m c k]
  unfold iblk
  rw [View.read_apply, cast_eq]
  show V m c main_v0 _ = _
  refine congrArg (V m c main_v0) (funext fun a => Fin.ext ?_)
  match a with
  | ⟨0, _⟩ => show win0_1.index t 0 * 1 + 1 * 0 = 0; rw [(index1 t).1]
  | ⟨1, _⟩ => show win0_1.index t 1 * 1024 + 1 * k.val = k.val; rw [(index1 t).2]; omega

theorem block2 (t : Fin cfg0.N) (k s : Fin 1024) (q : Fin 2048) (hq : q.val = 1024 * (t.val % 2) + s.val) :
    (iblk m c 2 t : S1024x1024.Idx → EReal) (ix2 k s) = argW m c (ix2 k q) := by
  rw [← matrix_apply m c k q]
  unfold iblk
  rw [View.read_apply, cast_eq]
  show V m c main_v1 _ = _
  refine congrArg (V m c main_v1) (funext fun a => Fin.ext ?_)
  match a with
  | ⟨0, _⟩ => show win0_2.index t 0 * 1024 + 1 * k.val = k.val; rw [(index2 t).1]; omega
  | ⟨1, _⟩ => show win0_2.index t 1 * 1024 + 1 * s.val = q.val; rw [(index2 t).2, hq]; omega

/-! ## The results -/

/-- The norm's output, transposed, -/
def hV (i : S1024x4096.Idx) : EReal := rms (n := 4096) (argX m c) (fun k => argG m c (ix1 k)) (i 1) (i 0)
/-- and its product with the matrix. -/
def uV (i : S4096x2048.Idx) : EReal :=
  ∑ k : Fin 1024, rms (n := 4096) (argX m c) (fun k => argG m c (ix1 k)) (i 0) k * argW m c (ix2 k (i 1))

theorem normAt_apply (t : Fin cfg0.N) (r k : Fin 1024) (p : Fin 4096) (hp : p.val = 1024 * (t.val / 2) + r.val) :
    (normAt m c t : S1024x1024.Idx → EReal) (ix2 r k) = rms (n := 4096) (argX m c) (fun k => argG m c (ix1 k)) p k := by
  have hp' : p.val = 1024 * ((head t).val / 2) + r.val := by
    rw [hp]; show _ = 1024 * (2 * (t.val / 2) / 2) + r.val; omega
  unfold normAt
  rw [normed_apply]
  unfold rms
  simp only [block0 m c (head t) r _ p hp', block1 m c (head t)]

theorem turnedAt_apply (t : Fin cfg0.N) (q r : Fin 1024) (p : Fin 4096) (hp : p.val = 1024 * (t.val / 2) + r.val) :
    (turnedAt m c t : S1024x1024.Idx → EReal) (ix2 q r) = rms (n := 4096) (argX m c) (fun k => argG m c (ix1 k)) p q := by
  refine Eq.trans ?_ (normAt_apply m c t r q p hp)
  unfold turnedAt normAt
  rw [turned_apply, normed_apply]

theorem ix2_of (y : S1024x1024.Idx) : y = ix2 (y 0 : Fin 1024) (y 1 : Fin 1024) := funext fun a => Fin.ext (by
  match a with
  | ⟨0, _⟩ => rfl
  | ⟨1, _⟩ => rfl)

section Arrays

variable {Ix : Type} [DecidableEq Ix] {Name : Type} [DecidableEq Name] {M : Type} [URA M] {Lvl : Type} (dat : Dat τ (Elt Ideal) Ix Name M Lvl cfg0 c)

/-- The second result's array. -/
theorem arr4 (hL : ∀ t : Fin cfg0.N, (cfg0.win 4).flush t = true → dat.after 4 t = turnedAt m c t) (i : S1024x4096.Idx) :
    dat.arrAt 4 cfg0.N i = hV m c i := by
  refine dat.arrAt_forall_of_covers 4 (fun i v => v = hV m c i) (by decide +kernel) (fun t hf y => ?_) i
  rw [cast_eq, hL t hf]
  have e0 : ((((cfg0.win 4).blk t).view.emb y) 0) = (y 0 : Fin 1024) := Fin.ext (by
    show win0_4.index t 0 * 1024 + 1 * (y 0).val = (y 0).val
    rw [(index4 t).1]; omega)
  have e1 : ((((cfg0.win 4).blk t).view.emb y) 1).val = 1024 * (t.val / 2) + (y 1).val := by
    show win0_4.index t 1 * 1024 + 1 * (y 1).val = _
    rw [(index4 t).2]; omega
  refine (congrArg (turnedAt m c t) (ix2_of y)).trans ((turnedAt_apply m c t (y 0) (y 1) _ e1).trans ?_)
  unfold hV
  exact congrArg (rms (n := 4096) (argX m c) (fun k => argG m c (ix1 k)) _) e0.symm

/-- The first result's array. -/
theorem arr3 (hL : ∀ t : Fin cfg0.N, (cfg0.win 3).flush t = true → dat.after 3 t = tile (normAt m c t) (iblk m c 2 t)) (i : S4096x2048.Idx) :
    dat.arrAt 3 cfg0.N i = uV m c i := by
  refine dat.arrAt_forall_of_covers 3 (fun i v => v = uV m c i) (by decide +kernel) (fun t hf y => ?_) i
  rw [cast_eq, hL t hf]
  have e0 : ((((cfg0.win 3).blk t).view.emb y) 0).val = 1024 * (t.val / 2) + (y 0).val := by
    show win0_3.index t 0 * 1024 + 1 * (y 0).val = _
    rw [(index3 t).1]; omega
  have e1 : ((((cfg0.win 3).blk t).view.emb y) 1).val = 1024 * (t.val % 2) + (y 1).val := by
    show win0_3.index t 1 * 1024 + 1 * (y 1).val = _
    rw [(index3 t).2]; omega
  refine (congrArg (tile (normAt m c t) (iblk m c 2 t)) (ix2_of y)).trans ((tile_apply _ _ (y 0) (y 1)).trans (Finset.sum_congr rfl fun k _ => ?_))
  rw [normAt_apply m c t (y 0) k _ e0, block2 m c t k (y 1) _ e1]

/-- The third result's array. -/
theorem arr5 (hL : ∀ t : Fin cfg0.N, (cfg0.win 5).flush t = true → dat.after 5 t = low (normAt m c t) (iblk m c 2 t)) (i : S4096x2048.Idx) :
    dat.arrAt 5 cfg0.N i = uV m c i := by
  refine dat.arrAt_forall_of_covers 5 (fun i v => v = uV m c i) (by decide +kernel) (fun t hf y => ?_) i
  rw [cast_eq, hL t hf]
  have e0 : ((((cfg0.win 5).blk t).view.emb y) 0).val = 1024 * (t.val / 2) + (y 0).val := by
    show win0_5.index t 0 * 1024 + 1 * (y 0).val = _
    rw [(index5 t).1]; omega
  have e1 : ((((cfg0.win 5).blk t).view.emb y) 1).val = 1024 * (t.val % 2) + (y 1).val := by
    show win0_5.index t 1 * 1024 + 1 * (y 1).val = _
    rw [(index5 t).2]; omega
  refine (congrArg (low (normAt m c t) (iblk m c 2 t)) (ix2_of y)).trans ((low_apply _ _ (y 0) (y 1)).trans (Finset.sum_congr rfl fun k _ => ?_))
  rw [normAt_apply m c t (y 0) k _ e0, block2 m c t k (y 1) _ e1]

end Arrays

/-- The kernel's run leaves the results. -/
theorem results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = uV m c ∧ r.2.mem ((c.tc : Thread nD τ).loc main_v2_1) = hV m c ∧ r.2.mem ((c.tc : Thread nD τ).loc main_v2_2) = uV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun r hr c => ?_) (run_main m ρ)
  obtain ⟨after, hL, hA⟩ := hr.1.exists_exact c
  have key : ∀ (w : Fin cfg0.W) (t : Fin cfg0.N), marked w = true → (cfg0.win w).flush t = true → Rl m c w t (after w t) :=
    fun w t hw hf => (dats m 0 c).toRRel_leaves hw (hL w t hf)
  refine ⟨funext fun i => ?_, funext fun i => ?_, funext fun i => ?_, args_end m hr.1 c⟩
  · exact (congrFun (hA 3) i).trans (arr3 m c ((rdats m c).withAfter after) (fun t hf => key 3 t rfl hf) i)
  · exact (congrFun (hA 4) i).trans (arr4 m c ((rdats m c).withAfter after) (fun t hf => key 4 t rfl hf) i)
  · exact (congrFun (hA 5) i).trans (arr5 m c ((rdats m c).withAfter after) (fun t hf => key 5 t rfl hf) i)

end Cert.Kernel6Ideal.In

end
-- ==== Proof.In.Claim.lean ====
/- THE PROJECTION BEFORE THE ATTENTIONS AGAINST THE PRODUCT OF THE NORM'S OUTPUT WITH THE MATRIX, and against the norm's output transposed. -/
module

public import proofs.«01_k».proof.Defs
public import proofs.«01_k».proof.Proof.In.Value
public import proofs.«01_k».proof.Proof.Up.Claim
public import proofs.«01_k».proof.Proof.Gen.Kernel6
public import proofs.«01_k».proof.Proof.Gen.Kernel6Ideal
public import proofs.«01_k».proof.Proof.Gen.Reference7Ideal
public import proofs.«01_k».proof.Proof.Gen.Reference7Ideal.Run
public import proofs.«01_k».proof.Proof.Gen.Reference7Ideal.Read

@[expose] public section

noncomputable section

open Idealize.ShloMosaic Idealize.ShloMosaic.TcCoe Idealize.ShloMosaic.Pointwise Idealize.SL.Sem
open scoped BigOperators

attribute [local instance] Cert.Kernel6.Gen.facts Cert.Kernel6Ideal.Gen.facts Cert.Reference7Ideal.Gen.facts

namespace Cert.Reference7Ideal.Read

open Cert.Kernel3Ideal.Up (rms)

/-- The reference's norm: the operations of the up projection's reference. -/
theorem norm_eq (x : S4096x1024.Idx → EReal) (g : S1024.Idx → EReal) (i : S4096x1024.Idx) :
    (val_main_v12 (F := Ideal) x g : S4096x1024.Idx → EReal) i = rms (n := 4096) x (fun k => g (ix1 k)) (i 0) (i 1) :=
  Cert.Reference4Ideal.Read.norm_eq x g i

/-- The reference's product, -/
theorem product_eq (x : S4096x1024.Idx → EReal) (g : S1024.Idx → EReal) (w : S1024x2048.Idx → EReal) :
    (val_main_v13 (F := Ideal) x g w : S4096x2048.Idx → EReal)
      = fun i => ∑ k : Fin 1024, rms (n := 4096) x (fun k => g (ix1 k)) (i 0) k * w (ix2 k (i 1)) := by
  funext i
  rw [val_main_v13_apply]
  refine Finset.sum_congr rfl fun k _ => congrArg₂ (fun a b : EReal => a * b) (norm_eq x g _) (congrArg w (funext fun d => Fin.ext ?_))
  match d with
  | ⟨0, _⟩ => rfl
  | ⟨1, _⟩ => rfl

/-- which the cast leaves as it is, -/
theorem low_eq (x : S4096x1024.Idx → EReal) (g : S1024.Idx → EReal) (w : S1024x2048.Idx → EReal) :
    (val_main_v16 (F := Ideal) x g w : S4096x2048.Idx → EReal) = val_main_v13 (F := Ideal) x g w := rfl

/-- and its norm transposed. -/
theorem turned_eq (x : S4096x1024.Idx → EReal) (g : S1024.Idx → EReal) :
    (val_main_v15 (F := Ideal) x g : S1024x4096.Idx → EReal) = fun i => rms (n := 4096) x (fun k => g (ix1 k)) (i 1) (i 0) := by
  funext i
  rw [val_main_v15_apply, val_main_v14_apply]
  exact norm_eq x g _

end Cert.Reference7Ideal.Read

namespace Cert.Proof

/-- The run states the frame, over any float values; -/
theorem frame_in {F : FTy → Type} [FloatOps F] (m : (ℓ : Loc Kernel6Ideal.nD Kernel6Ideal.τ Kernel6Ideal.sig) → Buf (Elt F) ℓ) (ρ : Dev Kernel6Ideal.nD → PrngReg) :
    θ_run (Cert.Kernel6Ideal.defs (F := F)) (onTc (τ := Kernel6Ideal.τ) (Cert.Kernel6Ideal.main (F := F))) ⟨m, fun _ => 0, ρ⟩ (fun r => (∀ c : Dev Kernel6Ideal.nD,
      r.2.mem ((c.tc : Thread Kernel6Ideal.nD Kernel6Ideal.τ).loc Kernel6Ideal.main_arg0) = m ((c.tc : Thread Kernel6Ideal.nD Kernel6Ideal.τ).loc Kernel6Ideal.main_arg0)
      ∧ r.2.mem ((c.tc : Thread Kernel6Ideal.nD Kernel6Ideal.τ).loc Kernel6Ideal.main_arg1) = m ((c.tc : Thread Kernel6Ideal.nD Kernel6Ideal.τ).loc Kernel6Ideal.main_arg1)
      ∧ r.2.mem ((c.tc : Thread Kernel6Ideal.nD Kernel6Ideal.τ).loc Kernel6Ideal.main_arg2) = m ((c.tc : Thread Kernel6Ideal.nD Kernel6Ideal.τ).loc Kernel6Ideal.main_arg2))
      ∧ r.2.sem = fun _ => 0) :=
  (θ_run Cert.Kernel6Ideal.defs _ _).mono (fun _ h => ⟨Cert.Kernel6Ideal.In.args_end _ h.1, h.2⟩) (Cert.Kernel6Ideal.In.run_main m ρ)

/-- the two programs' bodies are one text, -/
theorem bodies_same_in : (Cert.Kernel6.defs₀ : Defs _ _ _ (Elt Bits) _) = Cert.Kernel6Ideal.defs₀ :=
  congrArg Defs.onTc (funext fun l => funext fun a => by
    match l, a with
    | ⟨0, _⟩, (t, s) => rfl)

/-- so each has it. -/
theorem frame_kernel6 : Cert.quiescent_Kernel6 := fun m ρ _ => by
  rw [show Cert.Kernel6.defs (F := Bits) = Cert.Kernel6Ideal.defs (F := Bits) from congrArg (Pipeline.defs _) bodies_same_in]
  exact frame_in (F := Bits) m ρ
theorem frame_kernel6Ideal : Cert.quiescent_Kernel6Ideal := fun m ρ _ => frame_in m ρ

theorem frame_reference7Ideal : Cert.quiescent_Reference7Ideal := fun m ρ _ =>
  (θ_run Cert.Reference7Ideal.defs _ _).mono (fun r h => ⟨fun c => (h c).2.2.2, sem_eq_zero_of_no_sems (by decide) r.2⟩) (Cert.Reference7Ideal.Value.run m ρ)

/-- The kernel computes the three results. -/
theorem algebraic_before : Cert.algebraic_Kernel6Ideal_Reference7Ideal := by
  intro m g m' g' _ hagree
  refine ⟨fun c => Cert.Kernel6Ideal.In.uV m c, fun c => Cert.Kernel6Ideal.In.hV m c, fun c => Cert.Kernel6Ideal.In.uV m c, Cert.Kernel6Ideal.In.results m g, ?_⟩
  refine (θ_run (Cert.Reference7Ideal.defs (F := Ideal)) _ _).mono (fun r h c => ⟨(h c).1.trans ?_, (h c).2.1.trans ?_, (h c).2.2.1.trans ?_, (h c).2.2.2⟩)
    (Cert.Reference7Ideal.Value.run m' g')
  · rw [(hagree c).1, (hagree c).2.1, (hagree c).2.2, Cert.Reference7Ideal.Read.val_main_v13_eq]
    exact Cert.Reference7Ideal.Read.product_eq _ _ _
  · rw [(hagree c).1, (hagree c).2.1, Cert.Reference7Ideal.Read.val_main_v15_eq]
    exact Cert.Reference7Ideal.Read.turned_eq _ _
  · rw [(hagree c).1, (hagree c).2.1, (hagree c).2.2, Cert.Reference7Ideal.Read.val_main_v16_eq, Cert.Reference7Ideal.Read.low_eq]
    exact Cert.Reference7Ideal.Read.product_eq _ _ _

end Cert.Proof

end
-- ==== Proof.InBack.Reference.lean ====
/-
  THE BACKWARD CALL OF THE PROJECTION BEFORE THE ATTENTIONS: the two results as functions of what the arguments hold, any extended
  reals, and the reference's two results as these.
-/
module

public import proofs.«01_k».proof.Proof.Gen.Reference8Ideal.Read
public import proofs.«01_k».proof.Proof.Value.Reals

@[expose] public section

set_option maxHeartbeats 1000000

noncomputable section

namespace Cert.InBack

open Cert.Ffn
open Idealize.ShloMosaic Idealize.ShloMosaic.Pointwise

/-- A matrix holds the extended reals `f`; a vector does. -/
abbrev H2 {n b : ℕ} (v : (⟨2, ![n, b]⟩ : Shape).Idx → EReal) (f : ℕ → ℕ → EReal) : Prop := ∀ (r : Fin n) (k : Fin b), v (ix2 r k) = f r.val k.val
abbrev H1 {n : ℕ} (v : (⟨1, ![n]⟩ : Shape).Idx → EReal) (f : ℕ → EReal) : Prop := ∀ (r : Fin n), v (ix1 r) = f r.val

/-- What the five arguments hold: the gradient at the projection's result, its matrix, the layer's input, the norm's gain, the gradient
    on the residual path. -/
structure Params where
  D : ℕ → ℕ → EReal
  W : ℕ → ℕ → EReal
  X : ℕ → ℕ → EReal
  G : ℕ → EReal
  E : ℕ → ℕ → EReal

/-- The five arguments hold them. -/
structure Args (P : Params) (x0 : (⟨2, ![4096, 2048]⟩ : Shape).Idx → EReal) (x1 : (⟨2, ![1024, 2048]⟩ : Shape).Idx → EReal)
    (x2 : (⟨2, ![4096, 1024]⟩ : Shape).Idx → EReal) (x3 : (⟨1, ![1024]⟩ : Shape).Idx → EReal)
    (x4 : (⟨2, ![4096, 1024]⟩ : Shape).Idx → EReal) : Prop where
  d : H2 x0 P.D
  w : H2 x1 P.W
  x : H2 x2 P.X
  g : H1 x3 P.G
  e : H2 x4 P.E

/-- The entries of a matrix, zero outside it; of a vector. -/
def entries2 {n b : ℕ} (v : (⟨2, ![n, b]⟩ : Shape).Idx → EReal) (r k : ℕ) : EReal := if h : r < n ∧ k < b then v (ix2 ⟨r, h.1⟩ ⟨k, h.2⟩) else 0
def entries1 {n : ℕ} (v : (⟨1, ![n]⟩ : Shape).Idx → EReal) (r : ℕ) : EReal := if h : r < n then v (ix1 ⟨r, h⟩) else 0

theorem entries2_spec {n b : ℕ} (v : (⟨2, ![n, b]⟩ : Shape).Idx → EReal) : H2 v (entries2 v) := fun r k => by
  unfold entries2
  rw [dif_pos ⟨r.isLt, k.isLt⟩]

theorem entries1_spec {n : ℕ} (v : (⟨1, ![n]⟩ : Shape).Idx → EReal) : H1 v (entries1 v) := fun r => by
  unfold entries1
  rw [dif_pos r.isLt]

/-- Any five arrays hold some. -/
theorem args_exist (x0 : (⟨2, ![4096, 2048]⟩ : Shape).Idx → EReal) (x1 : (⟨2, ![1024, 2048]⟩ : Shape).Idx → EReal)
    (x2 : (⟨2, ![4096, 1024]⟩ : Shape).Idx → EReal) (x3 : (⟨1, ![1024]⟩ : Shape).Idx → EReal)
    (x4 : (⟨2, ![4096, 1024]⟩ : Shape).Idx → EReal) : ∃ P, Args P x0 x1 x2 x3 x4 :=
  ⟨⟨entries2 x0, entries2 x1, entries2 x2, entries1 x3, entries2 x4⟩,
    entries2_spec x0, entries2_spec x1, entries2_spec x2, entries1_spec x3, entries2_spec x4⟩

/-- The mean square of a row with the small number, and one over its root. -/
def mean (X : ℕ → ℕ → EReal) (i : ℕ) : EReal := Ideal.div (∑ k : Fin 1024, X i k * X i k) ((1024 : ℝ) : EReal) + ((eps : ℝ) : EReal)
def root (X : ℕ → ℕ → EReal) (i : ℕ) : EReal := Ideal.rsqrt (mean X i)

/-- The norm's gradient in the kernel's form: `D` into the result, `G` the gain. -/
def back (D X : ℕ → ℕ → EReal) (G : ℕ → EReal) (i k : ℕ) : EReal :=
  root X i * (D i k * G k - X i k * root X i * Ideal.div (∑ x : Fin 1024, D i x * G x * (X i x * root X i)) ((1024 : ℝ) : EReal))

/-- The part of the reference's that comes through the root. -/
def through (D X : ℕ → ℕ → EReal) (G : ℕ → EReal) (i : ℕ) : EReal :=
  Ideal.div ((∑ x : Fin 1024, X i x * (D i x * G x)) * (((-(1 / 2) : ℝ) : EReal) * Ideal.div (root X i) (mean X i))) ((1024 : ℝ) : EReal)

/-- A nonnegative real number multiplies through a sum. -/
theorem sum_mul_real {ι : Type} [Fintype ι] (f : ι → EReal) {q : ℝ} (hq : 0 ≤ q) : (∑ i, f i) * (q : EReal) = ∑ i, f i * (q : EReal) := by
  classical
  have h : ∀ s : Finset ι, (∑ i ∈ s, f i) * (q : EReal) = ∑ i ∈ s, f i * (q : EReal) := by
    intro s
    induction s using Finset.induction_on with
    | empty => simp
    | insert a s ha h =>
      rw [Finset.sum_insert ha, Finset.sum_insert ha, EReal.right_distrib_of_nonneg_of_ne_top (EReal.coe_nonneg.mpr hq) (EReal.coe_ne_top q), h]
  exact h _

/-- Twice a real multiple. -/
theorem twice (s : EReal) (d : ℝ) : s * (d : EReal) + s * (d : EReal) = s * ((d + d : ℝ) : EReal) := by
  induction s with
  | coe s => rw [← EReal.coe_mul, ← EReal.coe_add, ← EReal.coe_mul, mul_add]
  | top =>
    rcases lt_trichotomy d 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy d 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A row with an infinite entry has an infinite mean square. -/
theorem mean_top {X : ℕ → ℕ → EReal} {i : ℕ} {j : Fin 1024} (h : X i j * X i j = ⊤) : mean X i = ⊤ := by
  have nonneg : ∀ k : Fin 1024, 0 ≤ X i k * X i k := fun k => by
    rcases le_total 0 (X i k) with h | h
    · exact mul_nonneg h h
    · have := mul_nonneg (EReal.neg_nonneg.mpr h) (EReal.neg_nonneg.mpr h)
      rwa [neg_mul_neg] at this
  have e : ∑ k : Fin 1024, X i k * X i k = ⊤ :=
    top_le_iff.mp (h ▸ Finset.single_le_sum (f := fun k : Fin 1024 => X i k * X i k) (fun k _ => nonneg k) (Finset.mem_univ j))
  unfold mean
  rw [e, Ideal.div_coe (by norm_num), EReal.top_mul_coe_of_pos (by norm_num), EReal.top_add_coe]

/-- The chain rule's form, in which the root's part stands once and the square's twice, is the kernel's, over all extended reals. -/
theorem back_eq (D X : ℕ → ℕ → EReal) (G : ℕ → EReal) (i k : ℕ) (hk : k < 1024) :
    D i k * G k * root X i + X i k * through D X G i + through D X G i * X i k = back D X G i k := by
  by_cases hx : ∃ j : Fin 1024, X i j * X i j = ⊤
  · obtain ⟨j, hj⟩ := hx
    have hr : root X i = 0 := by rw [root, mean_top hj, Ideal.rsqrt_top]
    have ht : through D X G i = 0 := by
      unfold through
      rw [hr, mean_top hj, show Ideal.div 0 ⊤ = 0 by rw [Ideal.div, if_neg EReal.top_ne_zero, zero_mul], mul_zero, mul_zero, Ideal.div_coe (by norm_num), zero_mul]
    unfold back
    rw [ht, hr]
    simp
  · have fin : ∀ j : Fin 1024, ∃ y : ℝ, X i j = (y : EReal) := fun j => by
      have h := fun e => hx ⟨j, e⟩
      induction e : X i j with
      | coe y => exact ⟨y, rfl⟩
      | top => exact absurd (by rw [e]; rfl) h
      | bot => exact absurd (by rw [e]; rfl) h
    choose y hy using fin
    have hm : mean X i = (((∑ k : Fin 1024, y k * y k) / 1024 + eps : ℝ) : EReal) := by
      unfold mean
      simp only [hy, ← EReal.coe_mul, csum, div_n, ← EReal.coe_add]
    have pos : 0 < (∑ k : Fin 1024, y k * y k) / 1024 + eps :=
      add_pos_of_nonneg_of_pos (div_nonneg (Finset.sum_nonneg fun k _ => mul_self_nonneg _) (by norm_num)) eps_pos
    generalize (∑ k : Fin 1024, y k * y k) / 1024 + eps = μ at hm pos
    have hr : root X i = (((Real.sqrt μ)⁻¹ : ℝ) : EReal) := by rw [root, hm, rsqrt_pos _ pos]
    have hρ : (Real.sqrt μ)⁻¹ / μ = (Real.sqrt μ)⁻¹ * (Real.sqrt μ)⁻¹ * (Real.sqrt μ)⁻¹ := by
      rw [mul_assoc, ← mul_inv, Real.mul_self_sqrt pos.le, div_eq_mul_inv]
    have nn : 0 ≤ (Real.sqrt μ)⁻¹ := inv_nonneg.mpr (Real.sqrt_nonneg _)
    have hsum : ∑ x : Fin 1024, D i x * G x * (X i x * root X i) = (∑ x : Fin 1024, X i x * (D i x * G x)) * (((Real.sqrt μ)⁻¹ : ℝ) : EReal) := by
      rw [hr, sum_mul_real _ nn]
      exact Finset.sum_congr rfl fun x _ => by rw [← mul_assoc, mul_comm (D i x * G x)]
    unfold back through
    rw [hsum, hr, hm, div_pos _ _ pos, hρ, hy ⟨k, hk⟩]
    generalize (Real.sqrt μ)⁻¹ = ρ at nn
    generalize (∑ x : Fin 1024, X i x * (D i x * G x)) = s
    generalize D i k * G k = a
    generalize y ⟨k, hk⟩ = z
    have e1 : (z : EReal) * (ρ : EReal) * Ideal.div (s * (ρ : EReal)) ((1024 : ℝ) : EReal) = s * ((z * ρ * ρ / 1024 : ℝ) : EReal) := by
      rw [Ideal.div_coe (by norm_num), ← EReal.coe_mul, mul_assoc s, ← EReal.coe_mul, mul_left_comm, ← EReal.coe_mul]
      congr 2; ring
    have e2 : Ideal.div (s * (((-(1 / 2) : ℝ) : EReal) * ((ρ * ρ * ρ : ℝ) : EReal))) ((1024 : ℝ) : EReal) * (z : EReal)
        = s * ((-(z * ρ * ρ * ρ / 1024) / 2 : ℝ) : EReal) := by
      rw [Ideal.div_coe (by norm_num), ← EReal.coe_mul, mul_assoc s, ← EReal.coe_mul, mul_assoc s, ← EReal.coe_mul]
      congr 2; ring
    rw [mul_comm (z : EReal) (Ideal.div _ _), e1, e2, add_assoc, twice, sub_eq_add_neg,
      EReal.left_distrib_of_nonneg_of_ne_top (EReal.coe_nonneg.mpr nn) (EReal.coe_ne_top ρ), mul_comm a, mul_neg, mul_left_comm, ← EReal.coe_mul, ← mul_neg, ← EReal.coe_neg]
    congr 3; ring

/-- The gradient at the norm's result. -/
def dh (P : Params) (i k : ℕ) : EReal := ∑ c : Fin 2048, P.D i c * P.W k c

/-- The gradient at the layer's input, -/
def dx (P : Params) (i k : ℕ) : EReal := P.E i k + back (dh P) P.X P.G i k

/-- and at the gain. -/
def dg (P : Params) (k : ℕ) : EReal := ∑ i : Fin 4096, P.X i k * root P.X i * dh P i k

end Cert.InBack

namespace Cert.Reference8Ideal.Read

open Cert.Reference8Ideal Cert.Ffn Cert.InBack
open Idealize.ShloMosaic Idealize.ShloMosaic.TcCoe
open Idealize.ShloMosaic.Pointwise

variable {P : Params} {x0 : (⟨S4096x2048, .f32⟩ : BufTy).Contents (Elt Ideal)} {x1 : (⟨S1024x2048, .f32⟩ : BufTy).Contents (Elt Ideal)}
  {x2 : (⟨S4096x1024, .f32⟩ : BufTy).Contents (Elt Ideal)} {x3 : (⟨S1024, .f32⟩ : BufTy).Contents (Elt Ideal)}
  {x4 : (⟨S4096x1024, .f32⟩ : BufTy).Contents (Elt Ideal)}

theorem r6 (h : Args P x0 x1 x2 x3 x4) : H2 (n := 4096) (b := 1) (val_main_v6 (F := Ideal) x2) (fun i _ => mean P.X i) := by
  intro r k
  pointwise [val_main_v6, val_main_v5, val_main_v4, val_main_v3, val_main_v2, val_main_v1, val_main_v0, val_main_cst, val_main_cst_0, val_main_cst_1]
  simp only [h.x _ _, bits_n, bits_eps]
  rfl

theorem r7 (h : Args P x0 x1 x2 x3 x4) : H2 (n := 4096) (b := 1) (val_main_v7 (F := Ideal) x2) (fun i _ => root P.X i) := by
  intro r k
  pointwise [val_main_v7]
  rw [r6 h]
  rfl

theorem r10 (h : Args P x0 x1 x2 x3 x4) : H2 (n := 4096) (b := 1) (val_main_v10 (F := Ideal) x2) (fun i _ => ((-(1 / 2) : ℝ) : EReal) * Ideal.div (root P.X i) (mean P.X i)) := by
  intro r k
  pointwise [val_main_v10, val_main_v9, val_main_cst_2, val_main_v8]
  rw [r7 h, r6 h, bits_neg_half]

theorem r12 (h : Args P x0 x1 x2 x3 x4) : H2 (n := 4096) (b := 1024) (val_main_v12 (F := Ideal) x2) (fun i k => P.X i k * root P.X i) := by
  intro r k
  pointwise [val_main_v12, val_main_v11]
  rw [h.x, r7 h]

theorem r17 (h : Args P x0 x1 x2 x3 x4) : H2 (n := 4096) (b := 1024) (val_main_v17 (F := Ideal) x0 x1) (dh P) := by
  intro r k
  pointwise [val_main_v17]
  simp only [h.d _ _, h.w _ _]
  rfl

theorem r19 (h : Args P x0 x1 x2 x3 x4) : H1 (n := 1024) (val_main_v19 (F := Ideal) x0 x1 x2) (dg P) := by
  intro k
  pointwise [val_main_v19, val_main_v18, val_main_cst_3]
  simp only [r12 h _ _, r17 h _ _]
  rfl

theorem r23 (h : Args P x0 x1 x2 x3 x4) : H1 (n := 1024) (val_main_v23 (F := Ideal) x0 x1 x2) (dg P) := by
  intro k
  pointwise [val_main_v23, val_main_v20, val_main_cst_4]
  first | (rw [Fin.sum_univ_one]; exact r19 h _) | exact r19 h _

/-- The gradient at the gain. -/
theorem r39 (h : Args P x0 x1 x2 x3 x4) : H2 (n := 1) (b := 1024) (val_main_v39 (F := Ideal) x0 x1 x2) (fun _ k => dg P k) := by
  intro r k
  pointwise [val_main_v39]
  exact r23 h _

theorem r22 (h : Args P x0 x1 x2 x3 x4) : H2 (n := 4096) (b := 1024) (val_main_v22 (F := Ideal) x0 x1 x3) (fun i k => dh P i k * P.G k) := by
  intro r k
  pointwise [val_main_v22, val_main_v21, val_main_v13]
  rw [r17 h, h.g]

theorem r31 (h : Args P x0 x1 x2 x3 x4) : H2 (n := 4096) (b := 1) (val_main_v31 (F := Ideal) x0 x1 x2 x3) (fun i _ => through (dh P) P.X P.G i) := by
  intro r k
  pointwise [val_main_v31, val_main_v30, val_main_cst_6, val_main_v29, val_main_v26, val_main_v25, val_main_cst_5, val_main_v24]
  simp only [h.x _ _, r22 h _ _, r10 h _ _]
  rw [bits_n]
  rfl

theorem r32 (h : Args P x0 x1 x2 x3 x4) : H1 (n := 4096) (val_main_v32 (F := Ideal) x0 x1 x2 x3) (through (dh P) P.X P.G) := by
  intro k
  pointwise [val_main_v32, val_main_cst_7]
  first | (rw [Fin.sum_univ_one]; exact r31 h _ _) | exact r31 h _ _

/-- The gradient at the input. -/
theorem r38 (h : Args P x0 x1 x2 x3 x4) : H2 (n := 4096) (b := 1024) (val_main_v38 (F := Ideal) x0 x1 x2 x3 x4) (dx P) := by
  intro r k
  pointwise [val_main_v38, val_main_v37, val_main_v36, val_main_v35, val_main_v34, val_main_v33, val_main_v28, val_main_v27]
  rw [r32 h, h.x, h.e, r22 h, r7 h]
  rw [dx, ← back_eq _ _ _ _ _ k.isLt]

end Cert.Reference8Ideal.Read

end
-- ==== Proof.InBack.Cases.lean ====
/-
  THE KERNEL OF THE PROJECTION'S BACKWARD CALL, point by point: the three cases' stores as the generated values of the point's blocks, and
  those values' entries.
-/
module

public import proofs.«01_k».proof.Proof.Gen.Kernel7Ideal.Value
public import proofs.«01_k».proof.Proof.InBack.Reference
public import Idealize.ShloMosaic.Lib.Tactic
public import Idealize.ShloMosaic.Lib.StableHlo.Run

@[expose] public section

noncomputable section

namespace Cert.Kernel7Ideal.Back

open Cert.Kernel7Ideal Cert.Kernel7Ideal.Gen Idealize.ShloMosaic Idealize.ShloMosaic.TcCoe Idealize.ShloMosaic.Pointwise Cert.Ffn Cert.InBack
open scoped BigOperators

theorem zero_offsets : (![0, 0] : Fin 2 → Nat) = fun _ => 0 := funext fun a => by fin_cases a <;> rfl

/-! ## The cases' stores as values -/

section Cases

variable (c : Dev nD) (i : grid0.Coords) (a2 : Memref sig .tc .vmem S1024x1024 .bf16) (h2 : a2.IsWhole) (a3 : Memref sig .tc .vmem S1024x1024 .bf16) (h3 : a3.IsWhole)
  (a4 : Memref sig .tc .vmem S1024x1024 .f32) (h4 : a4.IsWhole) (a5 : Memref sig .tc .vmem S1x1024 .f32) (h5 : a5.IsWhole)
  (a6 : Memref sig .tc .vmem S1024x1024 .f32) (h6 : a6.IsWhole) (a7 : Memref sig .tc .vmem S1024x1024 .f32) (h7 : a7.IsWhole)
  (a8 : Memref sig .tc .vmem S1x1024 .f32) (h8 : a8.IsWhole) (a9 : Memref sig .tc .vmem S1024x1024 .f32) (h9 : a9.IsWhole)
  (x0 : Vec Ideal S1024x1024 .bf16) (x1 : Vec Ideal S1024x1024 .bf16) (x2 : Vec Ideal S1024x1024 .f32) (x3 : Vec Ideal S1x1024 .f32)
  (x4 : Vec Ideal S1024x1024 .f32) (o6 : Vec Ideal S1x1024 .f32) (acc : Vec Ideal S1024x1024 .f32)

/-- The first point of a row of tokens leaves the product of its blocks. -/
theorem acc_first (hc0 : cond0_0 i) (hc1 : ¬cond0_1 i) (hc2 : ¬cond0_2 i) :
    sout0_A_0 c i a2 h2 a3 h3 a4 h4 a5 h5 a6 h6 a7 h7 a8 h8 a9 h9 hc0 hc1 hc2 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 hc2 x0 x1 x2 x3 x4)]
  unfold kernelRun0_A
  dsimp only
  rw [View.canon_unit_zero zero_offsets]
  unfold k0_pay2
  simp only [View.readAt_eq_ld, h2.read_unread, h3.read_unread, View.ld_unit_zero (S := S1024x1024) zero_offsets, shapeCast_self]

section Last

variable (hc0 : ¬cond0_0 i) (hc1 : cond0_1 i) (hc2 : cond0_2 i)

/-- The first row's last point writes the input's gradient, -/
theorem dx_start (hc3 : cond0_3 i) (hc4 : ¬cond0_4 i) :
    out0_B_5 c i a2 h2 a3 h3 a4 h4 a5 h5 a6 h6 a7 h7 a8 h8 a9 h9 hc0 hc1 hc2 hc3 hc4 x0 x1 x2 x3 x4 acc = k0_pay8 (addf acc (k0_pay1 x0 x1)) x2 x3 x4 := by
  unfold out0_B_5
  rw [View.read_writes_eq_canon _ _ _ (cover0_B_5 c i a2 h2 a3 h3 a4 h4 a5 h5 a6 h6 a7 h7 a8 h8 a9 h9 hc0 hc1 hc2 hc3 hc4 x0 x1 x2 x3 x4 acc)]
  unfold kernelRun0_B
  dsimp only
  sl_unfold_words
  rw [View.canon_unit_zero zero_offsets]
  simp only [View.readCov_unit_zero (S := S1024x1024) _ zero_offsets]
  unfold k0_pay3
  simp only [View.readAt_eq_ld, h2.read_unread, h3.read_unread, h4.read_unread, h5.read_unread, h6.read_unread, h9.read_unread, View.ld_unit_zero (S := S1024x1024) zero_offsets, View.ld_unit_zero (S := S1x1024) zero_offsets, shapeCast_self]

/-- and its part of the gain's. -/
theorem dg_start (hc3 : cond0_3 i) (hc4 : ¬cond0_4 i) :
    out0_B_6 c i a2 h2 a3 h3 a4 h4 a5 h5 a6 h6 a7 h7 a8 h8 a9 h9 hc0 hc1 hc2 hc3 hc4 x0 x1 x2 x3 x4 acc = k0_pay7 (addf acc (k0_pay1 x0 x1)) x2 := by
  unfold out0_B_6
  rw [View.read_writes_eq_canon _ _ _ (cover0_B_6 c i a2 h2 a3 h3 a4 h4 a5 h5 a6 h6 a7 h7 a8 h8 a9 h9 hc0 hc1 hc2 hc3 hc4 x0 x1 x2 x3 x4 acc)]
  unfold kernelRun0_B
  dsimp only
  sl_unfold_words
  rw [View.canon_unit_zero zero_offsets]
  simp only [View.readCov_unit_zero (S := S1024x1024) _ zero_offsets]
  unfold k0_pay3
  simp only [View.readAt_eq_ld, h2.read_unread, h3.read_unread, h4.read_unread, h5.read_unread, h6.read_unread, h9.read_unread, View.ld_unit_zero (S := S1024x1024) zero_offsets, View.ld_unit_zero (S := S1x1024) zero_offsets, shapeCast_self]

/-- The later rows' last points write the input's gradient likewise, -/
theorem dx_later (hc3 : ¬cond0_3 i) (hc4 : cond0_4 i) :
    out0_C_5 c i a2 h2 a3 h3 a4 h4 a5 h5 a6 h6 a7 h7 a8 h8 a9 h9 hc0 hc1 hc2 hc3 hc4 x0 x1 x2 x3 x4 o6 acc = k0_pay8 (addf acc (k0_pay1 x0 x1)) x2 x3 x4 := by
  unfold out0_C_5
  rw [View.read_writes_eq_canon _ _ _ (cover0_C_5 c i a2 h2 a3 h3 a4 h4 a5 h5 a6 h6 a7 h7 a8 h8 a9 h9 hc0 hc1 hc2 hc3 hc4 x0 x1 x2 x3 x4 o6 acc)]
  unfold kernelRun0_C
  dsimp only
  sl_unfold_words
  rw [View.canon_unit_zero zero_offsets]
  simp only [View.readCov_unit_zero (S := S1024x1024) _ zero_offsets]
  unfold k0_pay3
  simp only [View.readAt_eq_ld, h2.read_unread, h3.read_unread, h4.read_unread, h5.read_unread, h6.read_unread, h9.read_unread, View.ld_unit_zero (S := S1024x1024) zero_offsets, View.ld_unit_zero (S := S1x1024) zero_offsets, shapeCast_self]

/-- and add their parts of the gain's. -/
theorem dg_later (hc3 : ¬cond0_3 i) (hc4 : cond0_4 i) :
    out0_C_6 c i a2 h2 a3 h3 a4 h4 a5 h5 a6 h6 a7 h7 a8 h8 a9 h9 hc0 hc1 hc2 hc3 hc4 x0 x1 x2 x3 x4 o6 acc = k0_pay4 (k0_pay7 (addf acc (k0_pay1 x0 x1)) x2) o6 := by
  unfold out0_C_6
  rw [View.read_writes_eq_canon _ _ _ (cover0_C_6 c i a2 h2 a3 h3 a4 h4 a5 h5 a6 h6 a7 h7 a8 h8 a9 h9 hc0 hc1 hc2 hc3 hc4 x0 x1 x2 x3 x4 o6 acc)]
  unfold kernelRun0_C
  dsimp only
  sl_unfold_words
  rw [View.canon_unit_zero zero_offsets]
  simp only [View.readCov_unit_zero (S := S1024x1024) _ zero_offsets]
  unfold k0_pay3
  simp only [View.readAt_eq_ld, h2.read_unread, h3.read_unread, h4.read_unread, h5.read_unread, h6.read_unread, h8.read_unread, h9.read_unread, View.ld_unit_zero (S := S1024x1024) zero_offsets, View.ld_unit_zero (S := S1x1024) zero_offsets, shapeCast_self]

end Last

end Cases

/-! ## The values, entry by entry -/

section Values

variable {x0 x1 : FVec Ideal S1024x1024 .bf16} {a x e : FVec Ideal S1024x1024 .f32} {g p : FVec Ideal S1x1024 .f32} {D W A X E : ℕ → ℕ → EReal} {G Z : ℕ → EReal}

theorem product_entry (h0 : H2 (n := 1024) (b := 1024) x0 D) (h1 : H2 (n := 1024) (b := 1024) x1 W) :
    H2 (n := 1024) (b := 1024) (k0_pay1 (F := Ideal) x0 x1) (fun r k => ∑ c : Fin 1024, D r c * W k c) := by
  intro r k
  pointwise [k0_pay1]
  simp only [h0 r, h1 k]

/-- The accumulator with the product added. -/
theorem added_entry (ha : H2 (n := 1024) (b := 1024) a A) (h0 : H2 (n := 1024) (b := 1024) x0 D) (h1 : H2 (n := 1024) (b := 1024) x1 W) :
    H2 (n := 1024) (b := 1024) (addf a (k0_pay1 (F := Ideal) x0 x1)) (fun r k => A r k + ∑ c : Fin 1024, D r c * W k c) := fun r k =>
  congrArg₂ (fun x y : EReal => x + y) (ha r k) (product_entry h0 h1 r k)

theorem root_entry (hx : H2 (n := 1024) (b := 1024) x X) (r : Fin 1024) (k : Fin 1) : k0_pay5 (F := Ideal) x (ix2 r k) = root X r.val := by
  pointwise [k0_pay5]
  simp only [hx r, bits_eps, bits_n]
  rfl

theorem dx_entry (ha : H2 (n := 1024) (b := 1024) a A) (hx : H2 (n := 1024) (b := 1024) x X) (hg : H2 (n := 1) (b := 1024) g (fun _ k => G k))
    (he : H2 (n := 1024) (b := 1024) e E) :
    H2 (n := 1024) (b := 1024) (k0_pay8 (F := Ideal) a x g e) (fun r k => E r k + back A X G r k) := by
  intro r k
  pointwise [k0_pay8, k0_pay6]
  simp only [root_entry hx, ha r, hx r, hg, he r, bits_n]
  rfl

theorem dg_entry (ha : H2 (n := 1024) (b := 1024) a A) (hx : H2 (n := 1024) (b := 1024) x X) :
    H2 (n := 1) (b := 1024) (k0_pay7 (F := Ideal) a x) (fun _ k => ∑ r : Fin 1024, A r k * (X r k * root X r)) := by
  intro r k
  pointwise [k0_pay7, k0_pay6]
  simp only [root_entry hx, ha, hx]

theorem dg_added_entry (hp : H2 (n := 1) (b := 1024) p (fun _ k => G k)) (hg : H2 (n := 1) (b := 1024) g (fun _ k => Z k)) :
    H2 (n := 1) (b := 1024) (k0_pay4 (F := Ideal) p g) (fun _ k => Z k + G k) := by
  intro r k
  pointwise [k0_pay4]
  rw [hp, hg]

end Values

end Cert.Kernel7Ideal.Back

end
-- ==== Proof.InBack.Value.lean ====
/-
  THE KERNEL'S TWO RESULTS. After each point the accumulator, the input's gradient and the gain's hold sums of the arguments'
  entries; the arrays after the run hold the two gradients.
-/
module

public import proofs.«01_k».proof.Proof.InBack.Cases
public import proofs.«01_k».proof.Proof.InBack.Reference
public import proofs.«01_k».proof.Proof.Value.RefOut

@[expose] public section

noncomputable section

namespace Cert.Kernel7Ideal.Back

open Cert.Kernel7Ideal Cert.Kernel7Ideal.Gen Idealize.ShloMosaic Idealize.ShloMosaic.TcCoe Idealize.ShloMosaic.Pointwise Cert.Ffn Cert.InBack
open scoped BigOperators

/-! ## The windows' arrays -/

section Arrays

variable (m : (ℓ : Loc nD τ sig) → Buf (Elt Ideal) ℓ) (c : Dev nD)

theorem arr0 : V m c main_v0 = truncf .bf16 (F := Ideal) (m ((c.tc : Thread nD τ).loc main_arg0)) bitsLt_bf16_f32 := by
  show StableHlo.after hostOps0 (fun b => m (c, b)) (Proc.devRef .tc main_v0) = _
  after_results_simp

theorem arr1 : V m c main_v1 = truncf .bf16 (F := Ideal) (m ((c.tc : Thread nD τ).loc main_arg1)) bitsLt_bf16_f32 := by
  show StableHlo.after hostOps0 (fun b => m (c, b)) (Proc.devRef .tc main_v1) = _
  after_results_simp

theorem arr2 : V m c main_arg2 = m ((c.tc : Thread nD τ).loc main_arg2) := by
  show StableHlo.after hostOps0 (fun b => m (c, b)) (Proc.devRef .tc main_arg2) = _
  after_results_simp

theorem arr3 : V m c main_v2 = shapeCast S1x1024 (m ((c.tc : Thread nD τ).loc main_arg3)) shapeCasts_S1024_S1x1024 := by
  show StableHlo.after hostOps0 (fun b => m (c, b)) (Proc.devRef .tc main_v2) = _
  after_results_simp
  rfl

theorem arr4 : V m c main_arg4 = m ((c.tc : Thread nD τ).loc main_arg4) := by
  show StableHlo.after hostOps0 (fun b => m (c, b)) (Proc.devRef .tc main_arg4) = _
  after_results_simp

end Arrays

/-- A core's five arguments hold the parameters. -/
abbrev ArgsAt (m : (ℓ : Loc nD τ sig) → Buf (Elt Ideal) ℓ) (c : Dev nD) (P : Params) : Prop :=
  Args P (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem row1024 (v : S1024.Idx → EReal) (r : Fin 1) (k : Fin 1024) :
    shapeCast (α := EReal) S1x1024 v shapeCasts_S1024_S1x1024 (ix2 r k) = v (ix1 k) := by
  pointwise []

theorem index0 : ∀ t : Fin grid0.N, win0_0.index t 0 = t.val / 2 ∧ win0_0.index t 1 = t.val % 2 := by decide +kernel
theorem index1 : ∀ t : Fin grid0.N, win0_1.index t 0 = 0 ∧ win0_1.index t 1 = t.val % 2 := by decide +kernel
theorem index2 : ∀ t : Fin grid0.N, win0_2.index t 0 = t.val / 2 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val / 2 ∧ win0_4.index t 1 = 0 := by decide +kernel

variable {m : (ℓ : Loc nD τ sig) → Buf (Elt Ideal) ℓ} {c : Dev nD} {P : Params}

theorem lt8 (t : Fin cfg0.N) : t.val < 8 := lt_of_lt_of_eq t.isLt N_0

/-- The point's blocks: its row's gradients at the projection's result, a half of the columns, -/
theorem block0 (h : ArgsAt m c P) (t : Fin cfg0.N) :
    H2 (n := 1024) (b := 1024) (iblk m c 0 t) (fun r x => P.D (1024 * (t.val / 2) + r) (1024 * (t.val % 2) + x)) := fun r x => by
  have ht := lt8 t
  refine Eq.trans ?_ (h.d ⟨1024 * (t.val / 2) + r.val, by omega⟩ ⟨1024 * (t.val % 2) + x.val, by omega⟩)
  refine Eq.trans ?_ (congrFun (arr0 m c) _)
  unfold iblk
  rw [View.read_apply, cast_eq]
  refine congrArg (V m c main_v0) (funext fun a => Fin.ext ?_)
  match a with
  | ⟨0, _⟩ => show win0_0.index t 0 * 1024 + 1 * r.val = 1024 * (t.val / 2) + r.val; rw [(index0 t).1]; omega
  | ⟨1, _⟩ => show win0_0.index t 1 * 1024 + 1 * x.val = 1024 * (t.val % 2) + x.val; rw [(index0 t).2]; omega

/-- the same half of the matrix's columns, -/
theorem block1 (h : ArgsAt m c P) (t : Fin cfg0.N) :
    H2 (n := 1024) (b := 1024) (iblk m c 1 t) (fun r x => P.W r (1024 * (t.val % 2) + x)) := fun r x => by
  have ht := lt8 t
  refine Eq.trans ?_ (h.w r ⟨1024 * (t.val % 2) + x.val, by omega⟩)
  refine Eq.trans ?_ (congrFun (arr1 m c) _)
  unfold iblk
  rw [View.read_apply, cast_eq]
  refine congrArg (V m c main_v1) (funext fun a => Fin.ext ?_)
  match a with
  | ⟨0, _⟩ => show win0_1.index t 0 * 1024 + 1 * r.val = r.val; rw [(index1 t).1]; omega
  | ⟨1, _⟩ => show win0_1.index t 1 * 1024 + 1 * x.val = 1024 * (t.val % 2) + x.val; rw [(index1 t).2]; omega

/-- the row's inputs, -/
theorem block2 (h : ArgsAt m c P) (t : Fin cfg0.N) :
    H2 (n := 1024) (b := 1024) (iblk m c 2 t) (fun r x => P.X (1024 * (t.val / 2) + r) x) := fun r x => by
  have ht := lt8 t
  refine Eq.trans ?_ (h.x ⟨1024 * (t.val / 2) + r.val, by omega⟩ x)
  refine Eq.trans ?_ (congrFun (arr2 m c) _)
  unfold iblk
  rw [View.read_apply, cast_eq]
  refine congrArg (V m c main_arg2) (funext fun a => Fin.ext ?_)
  match a with
  | ⟨0, _⟩ => show win0_2.index t 0 * 1024 + 1 * r.val = 1024 * (t.val / 2) + r.val; rw [(index2 t).1]; omega
  | ⟨1, _⟩ => show win0_2.index t 1 * 1024 + 1 * x.val = x.val; rw [(index2 t).2]; omega

/-- the gain, -/
theorem block3 (h : ArgsAt m c P) (t : Fin cfg0.N) :
    H2 (n := 1) (b := 1024) (iblk m c 3 t) (fun _ x => P.G x) := fun r x => by
  refine Eq.trans ?_ (h.g x)
  refine Eq.trans ?_ ((congrFun (arr3 m c) (ix2 r x)).trans (row1024 _ r x))
  unfold iblk
  rw [View.read_apply, cast_eq]
  refine congrArg (V m c main_v2) (funext fun a => Fin.ext ?_)
  match a with
  | ⟨0, _⟩ => show win0_3.index t 0 * 1 + 1 * r.val = r.val; rw [(index3 t).1]; omega
  | ⟨1, _⟩ => show win0_3.index t 1 * 1024 + 1 * x.val = x.val; rw [(index3 t).2]; omega

/-- and the row's gradients on the residual path. -/
theorem block4 (h : ArgsAt m c P) (t : Fin cfg0.N) :
    H2 (n := 1024) (b := 1024) (iblk m c 4 t) (fun r x => P.E (1024 * (t.val / 2) + r) x) := fun r x => by
  have ht := lt8 t
  refine Eq.trans ?_ (h.e ⟨1024 * (t.val / 2) + r.val, by omega⟩ x)
  refine Eq.trans ?_ (congrFun (arr4 m c) _)
  unfold iblk
  rw [View.read_apply, cast_eq]
  refine congrArg (V m c main_arg4) (funext fun a => Fin.ext ?_)
  match a with
  | ⟨0, _⟩ => show win0_4.index t 0 * 1024 + 1 * r.val = 1024 * (t.val / 2) + r.val; rw [(index4 t).1]; omega
  | ⟨1, _⟩ => show win0_4.index t 1 * 1024 + 1 * x.val = x.val; rw [(index4 t).2]; omega

/-! ## After each point -/

/-- The first half of the columns. -/
def half (P : Params) (i k : ℕ) : EReal := ∑ x : Fin 1024, P.D i x * P.W k x

/-- The two halves are the whole. -/
theorem halves (P : Params) (i k : ℕ) : half P i k + ∑ x : Fin 1024, P.D i (1024 + x) * P.W k (1024 + x) = dh P i k := by
  unfold half dh
  rw [Fin.sum_univ_eq_sum_range (fun x => P.D i x * P.W k x) 1024, Fin.sum_univ_eq_sum_range (fun x => P.D i (1024 + x) * P.W k (1024 + x)) 1024,
    Fin.sum_univ_eq_sum_range (fun x => P.D i x * P.W k x) 2048, show 2048 = 1024 + 1024 from rfl, Finset.sum_range_add]

/-- After a row's first point the accumulator holds the first half's sums. -/
theorem acc_eq (h : ArgsAt m c P) (n : ℕ) (hn : n < cfg0.N) (h0 : n % 2 = 0) :
    H2 (n := 1024) (b := 1024) (outsAt0 m c n hn).2.2 (fun r k => half P (1024 * (n / 2) + r) k) := by
  rw [outsAt0_A m c ⟨n, hn⟩ h0 (by dsimp only; omega) (by dsimp only; omega)]
  dsimp only
  rw [acc_first]
  intro r k
  refine (product_entry (block0 h ⟨n, hn⟩) (block1 h ⟨n, hn⟩) r k).trans ?_
  dsimp only
  simp only [h0, Nat.mul_zero, Nat.zero_add]
  rfl

/-- At its last point the sums are whole. -/
theorem whole_eq (h : ArgsAt m c P) (n : ℕ) (hn : n + 1 < cfg0.N) (h0 : n % 2 = 0) :
    H2 (n := 1024) (b := 1024) (addf (outsAt0 m c n (Nat.lt_of_succ_lt hn)).2.2 (k0_pay1 (F := Ideal) (iblk m c 0 ⟨n + 1, hn⟩) (iblk m c 1 ⟨n + 1, hn⟩)))
      (fun r k => dh P (1024 * ((n + 1) / 2) + r) k) := by
  intro r k
  refine (added_entry (acc_eq h n _ h0) (block0 h ⟨n + 1, hn⟩) (block1 h ⟨n + 1, hn⟩) r k).trans ?_
  dsimp only
  have e1 : (n + 1) % 2 = 1 := by omega
  have e2 : n / 2 = (n + 1) / 2 := by omega
  simp only [e1, Nat.mul_one]
  rw [e2, halves]

/-- A row's part of the gain's gradient. -/
def part (P : Params) (s k : ℕ) : EReal := ∑ r : Fin 1024, dh P (1024 * s + r) k * (P.X (1024 * s + r) k * root P.X (1024 * s + r))

theorem dx_at (h : ArgsAt m c P) (n : ℕ) (hn : n + 1 < cfg0.N) (h0 : n % 2 = 0) :
    H2 (n := 1024) (b := 1024) (outsAt0 m c (n + 1) hn).1 (fun r k => dx P (1024 * ((n + 1) / 2) + r) k) := by
  have e := dx_entry (whole_eq h n hn h0) (block2 h ⟨n + 1, hn⟩) (block3 h ⟨n + 1, hn⟩) (block4 h ⟨n + 1, hn⟩)
  by_cases h3 : n + 1 < 2
  · rw [outsAt0_B m c ⟨n + 1, hn⟩ (by dsimp only; omega) (by dsimp only; omega) (by dsimp only; omega) h3 (by dsimp only; omega)]
    dsimp only
    rw [dx_start]
    exact e
  · rw [outsAt0_C m c ⟨n + 1, hn⟩ (by dsimp only; omega) (by dsimp only; omega) (by dsimp only; omega) h3 (by dsimp only; omega)]
    dsimp only
    rw [dx_later]
    exact e

/-- After the first point the gain's gradient holds the parts of the rows that are done. -/
theorem dg_at (h : ArgsAt m c P) : ∀ (n : ℕ) (hn : n + 1 < cfg0.N),
    H2 (n := 1) (b := 1024) (outsAt0 m c (n + 1) hn).2.1 (fun _ k => ∑ s ∈ Finset.range ((n + 2) / 2), part P s k) := by
  intro n
  induction n with
  | zero =>
    intro hn
    rw [outsAt0_B m c ⟨0 + 1, hn⟩ (by dsimp only; omega) rfl rfl (by dsimp only; omega) (by dsimp only; omega)]
    dsimp only
    rw [dg_start]
    intro r k
    refine (dg_entry (whole_eq h 0 hn rfl) (block2 h ⟨0 + 1, hn⟩) r k).trans ?_
    dsimp only
    rw [show (0 + 2) / 2 = 1 from rfl, Finset.sum_range_one]
    rfl
  | succ n ih =>
    intro hn
    have ih' := ih (Nat.lt_of_succ_lt hn)
    by_cases h0 : n % 2 = 0
    · rw [outsAt0_A m c ⟨n + 1 + 1, hn⟩ (by dsimp only; omega) (by dsimp only; omega) (by dsimp only; omega)]
      dsimp only
      rw [show (n + 1 + 2) / 2 = (n + 2) / 2 by omega]
      exact ih'
    · rw [outsAt0_C m c ⟨n + 1 + 1, hn⟩ (by dsimp only; omega) (by dsimp only; omega) (by dsimp only; omega) (by dsimp only; omega) (by dsimp only; omega)]
      dsimp only
      rw [dg_later]
      intro r k
      refine (dg_added_entry (dg_entry (whole_eq h (n + 1) hn (by omega)) (block2 h ⟨n + 1 + 1, hn⟩)) ih' r k).trans ?_
      dsimp only
      rw [show (n + 1 + 2) / 2 = (n + 2) / 2 + 1 by omega, Finset.sum_range_succ, show (n + 2) / 2 = (n + 1 + 1) / 2 from rfl]
      rfl

/-! ## The results -/

theorem parts (P : Params) (k : ℕ) : ∑ s ∈ Finset.range 4, part P s k = dg P k := by
  have e := Cert.ReferenceIdeal.Read.sum_blocks (fun i => P.X i k * root P.X i * dh P i k) 1024 4
  rw [show 1024 * 4 = 4096 from rfl] at e
  refine Eq.trans (Finset.sum_congr rfl fun s _ => ?_) (e.trans (Fin.sum_univ_eq_sum_range (fun i => P.X i k * root P.X i * dh P i k) 4096).symm)
  refine Eq.trans (Finset.sum_congr rfl fun r _ => mul_comm _ _) (Fin.sum_univ_eq_sum_range (fun r => P.X (1024 * s + r) k * root P.X (1024 * s + r) * dh P (1024 * s + r) k) 1024)

/-- The array of the gain's gradient, -/
theorem dg_eq (h : ArgsAt m c P) : H2 (n := 1) (b := 1024) (Value.G6 m c) (fun _ k => dg P k) := by
  have hN : 6 + 1 < cfg0.N := lt_of_lt_of_eq (by decide) N_0.symm
  have last : Value.G6 m c = (outsAt0 m c (6 + 1) hN).2.1 :=
    (Value.G6_last m c).trans (congrArg (fun x => x.2.1)
      ((Value.fold0_congr m c 7 _ (6 + 1) (by omega) rfl).trans (Value.outsAt0_sweep m c (6 + 1) hN).symm))
  intro r k
  refine (congrFun last _).trans ((dg_at h 6 hN r k).trans ?_)
  exact parts P k

/-- and the array of the input's. -/
theorem dx_eq (h : ArgsAt m c P) : H2 (n := 4096) (b := 1024) (Value.G5 m c) (dx P) := by
  intro r k
  have hr := r.isLt
  have hk := k.isLt
  have hp : Value.pt5Of (ix2 r k) = 2 * (r.val / 1024) + 1 := by
    show 2 * (1 * (r.val / 1024 - 0) + 1 * (k.val / 1024 - 0)) + 1 = _
    omega
  have hN : Value.pt5Of (ix2 r k) < cfg0.N := by
    rw [hp, show cfg0.N = 8 from N_0]
    omega
  have hl : Value.loc5Of (ix2 r k) = ix2 ⟨r.val % 1024, Nat.mod_lt _ (by decide)⟩ k := by
    funext a; apply Fin.ext
    match a with
    | ⟨0, _⟩ => rfl
    | ⟨1, _⟩ => exact Nat.mod_eq_of_lt hk
  have hM : 2 * (r.val / 1024) + 1 < cfg0.N := by rw [← hp]; exact hN
  have e := dx_at h (2 * (r.val / 1024)) hM (by omega) ⟨r.val % 1024, Nat.mod_lt _ (by decide)⟩ k
  show Value.G5 m c (ix2 r k) = _
  unfold Value.G5
  rw [dif_pos hN, ← Value.outsAt0_sweep m c _ hN, hl]
  have same : ∀ (a b : ℕ) (ha : a < cfg0.N) (hb : b < cfg0.N), a = b → outsAt0 m c a ha = outsAt0 m c b hb := by
    intro a b ha hb hab
    subst hab
    rfl
  rw [same _ _ hN hM hp]
  refine e.trans ?_
  dsimp only
  rw [show 1024 * ((2 * (r.val / 1024) + 1) / 2) + r.val % 1024 = r.val by omega]

end Cert.Kernel7Ideal.Back

end
-- ==== Proof.InBack.Claim.lean ====
/-
  THE CLAIMS OF THE PROJECTION'S BACKWARD CALL. The kernel and the reference leave the same two gradients, from any arguments.
-/
module

public import proofs.«01_k».proof.Defs
public import proofs.«01_k».proof.Proof.Gen.Kernel7Ideal
public import proofs.«01_k».proof.Proof.Gen.Reference8Ideal
public import proofs.«01_k».proof.Proof.Gen.Reference8Ideal.Run
public import proofs.«01_k».proof.Proof.InBack.Value

@[expose] public section

noncomputable section

open Idealize.ShloMosaic Idealize.ShloMosaic.TcCoe Idealize.ShloMosaic.Pointwise Idealize.SL.Sem Cert.Ffn Cert.InBack

attribute [local instance] Cert.Kernel7Ideal.Gen.facts Cert.Reference8Ideal.Gen.facts

namespace Cert.Proof

/-- Two matrices that hold the same entries are one. -/
theorem entries_ext {n b : ℕ} {v w : (⟨2, ![n, b]⟩ : Shape).Idx → EReal} {f : ℕ → ℕ → EReal} (hv : H2 v f) (hw : H2 w f) : v = w := by
  funext i
  have hi : i = ix2 (i 0) (i 1) := by
    funext a
    match a with
    | ⟨0, _⟩ => rfl
    | ⟨1, _⟩ => rfl
  rw [hi]
  exact (hv _ _).trans (hw _ _).symm

/-- The reference has no semaphore; its arguments are among what its run states. -/
theorem frame_reference8Ideal : Cert.quiescent_Reference8Ideal := fun m ρ _ =>
  (θ_run Cert.Reference8Ideal.defs _ _).mono (fun r h => ⟨fun c => (h c).2.2, sem_eq_zero_of_no_sems (by decide) r.2⟩) (Cert.Reference8Ideal.Value.run m ρ)

/-- The kernel computes the gradients of the projection's input and of its norm's gain. -/
theorem algebraic_in_back : Cert.algebraic_Kernel7Ideal_Reference8Ideal := by
  intro m g m' g' _ hagree
  choose P hP using fun c : Dev Cert.Kernel7Ideal.nD => Cert.InBack.args_exist (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))
  refine ⟨fun c => Cert.Kernel7Ideal.Value.G5 m c, fun c => Cert.Kernel7Ideal.Value.G6 m c, Cert.Kernel7Ideal.Value.run m g, ?_⟩
  refine (θ_run (Cert.Reference8Ideal.defs (F := Ideal)) _ _).mono (fun r h c => ⟨(h c).1.trans ?_, (h c).2.1.trans ?_, (h c).2.2⟩) (Cert.Reference8Ideal.Value.run m' g')
  · obtain ⟨e0, e1, e2, e3, e4⟩ := hagree c
    rw [Cert.Reference8Ideal.Read.val_main_v38_eq, e0, e1, e2, e3, e4]
    exact entries_ext (Cert.Reference8Ideal.Read.r38 (hP c)) (Cert.Kernel7Ideal.Back.dx_eq (hP c))
  · obtain ⟨e0, e1, e2, e3, e4⟩ := hagree c
    rw [Cert.Reference8Ideal.Read.val_main_v39_eq, e0, e1, e2]
    exact entries_ext (Cert.Reference8Ideal.Read.r39 (hP c)) (Cert.Kernel7Ideal.Back.dg_eq (hP c))

end Cert.Proof

end
-- ==== Proof.Mix.Reference.lean ====
/-
  THE REFERENCE OF THE OUTPUT PROJECTION, entry by entry: the attentions' results normalised and set side by side, their product with the
  matrix, and the input with the normalised product added.
-/
module

public import proofs.«01_k».proof.Proof.Gen.Reference9Ideal.Read
public import proofs.«01_k».proof.Proof.InBack.Reference
public import Idealize.ShloMosaic.Lib.Tactic

@[expose] public section

noncomputable section

namespace Cert.Mix

open Idealize.ShloMosaic Idealize.ShloMosaic.TcCoe Idealize.ShloMosaic.Pointwise Cert.Ffn Cert.InBack
open scoped BigOperators

/-- The arguments' entries: three attentions' results, their gain, the matrix, the product's gain and the input of the layer. -/
structure Params where
  A : ℕ → ℕ → EReal
  B : ℕ → ℕ → EReal
  C : ℕ → ℕ → EReal
  G : ℕ → EReal
  W : ℕ → ℕ → EReal
  Q : ℕ → EReal
  X : ℕ → ℕ → EReal

/-- Seven arguments hold them. -/
structure Args (P : Params) (x0 : (⟨2, ![4096, 512]⟩ : Shape).Idx → EReal) (x1 x2 : (⟨2, ![4096, 256]⟩ : Shape).Idx → EReal)
    (x3 : (⟨1, ![1024]⟩ : Shape).Idx → EReal) (x4 : (⟨2, ![1024, 1024]⟩ : Shape).Idx → EReal) (x5 : (⟨1, ![1024]⟩ : Shape).Idx → EReal)
    (x6 : (⟨2, ![4096, 1024]⟩ : Shape).Idx → EReal) : Prop where
  a : H2 x0 P.A
  b : H2 x1 P.B
  c : H2 x2 P.C
  g : H1 x3 P.G
  w : H2 x4 P.W
  q : H1 x5 P.Q
  x : H2 x6 P.X

theorem args_exist (x0 : (⟨2, ![4096, 512]⟩ : Shape).Idx → EReal) (x1 x2 : (⟨2, ![4096, 256]⟩ : Shape).Idx → EReal)
    (x3 : (⟨1, ![1024]⟩ : Shape).Idx → EReal) (x4 : (⟨2, ![1024, 1024]⟩ : Shape).Idx → EReal) (x5 : (⟨1, ![1024]⟩ : Shape).Idx → EReal)
    (x6 : (⟨2, ![4096, 1024]⟩ : Shape).Idx → EReal) : ∃ P, Args P x0 x1 x2 x3 x4 x5 x6 :=
  ⟨⟨entries2 x0, entries2 x1, entries2 x2, entries1 x3, entries2 x4, entries1 x5, entries2 x6⟩,
    entries2_spec x0, entries2_spec x1, entries2_spec x2, entries1_spec x3, entries2_spec x4, entries1_spec x5, entries2_spec x6⟩

/-- The root of a row of `n` entries; `w` is the width as the programs write it. -/
def rootOf (n : ℕ) (w : EReal) (X : ℕ → ℕ → EReal) (i : ℕ) : EReal :=
  Ideal.rsqrt (Ideal.div (∑ k : Fin n, X i k * X i k) w + FloatOps.ofBits (F := Ideal) .f32 0x358637BD#32)

abbrev w256 : EReal := FloatOps.ofBits (F := Ideal) .f32 0x43800000#32
abbrev w512 : EReal := FloatOps.ofBits (F := Ideal) .f32 0x44000000#32
abbrev w1024 : EReal := FloatOps.ofBits (F := Ideal) .f32 0x44800000#32

/-- The attentions' results, normalised apart and set side by side. -/
def mixed (P : Params) (i k : ℕ) : EReal :=
  if k < 512 then P.A i k * rootOf 512 w512 P.A i * P.G k
  else if k < 768 then P.B i (k - 512) * rootOf 256 w256 P.B i * P.G k
  else P.C i (k - 768) * rootOf 256 w256 P.C i * P.G k

/-- Three blocks of columns that hold the three parts hold `mixed`, the one found from the column as both programs do. -/
theorem mixed_of_parts (P : Params) (i : ℕ) (k : Fin 1024) (u : Fin 512 → EReal) (v z : Fin 256 → EReal)
    (hu : ∀ x : Fin 512, u x = P.A i x * rootOf 512 w512 P.A i * P.G x) (hv : ∀ x : Fin 256, v x = P.B i x * rootOf 256 w256 P.B i * P.G (512 + x))
    (hz : ∀ x : Fin 256, z x = P.C i x * rootOf 256 w256 P.C i * P.G (768 + x)) :
    (if h : k.val < 512 then u ⟨k.val, h⟩ else if h' : k.val - 512 < 256 then v ⟨k.val - 512, h'⟩ else z ⟨k.val - 512 - 256, by omega⟩) = mixed P i k.val := by
  unfold mixed
  by_cases h : k.val < 512
  · rw [dif_pos h, if_pos h, hu]
  · by_cases h' : k.val - 512 < 256
    · rw [dif_neg h, if_neg h, dif_pos h', if_pos (by omega), hv]
      dsimp only
      rw [show 512 + (k.val - 512) = k.val by omega]
    · rw [dif_neg h, if_neg h, dif_neg h', if_neg (by omega), hz]
      dsimp only
      rw [show 768 + (k.val - 512 - 256) = k.val by omega, show k.val - 512 - 256 = k.val - 768 by omega]

/-- Their product with the matrix, -/
def prod (P : Params) (i k : ℕ) : EReal := ∑ x : Fin 1024, mixed P i x * P.W x k

/-- and the input with the normalised product added. -/
def res (P : Params) (i k : ℕ) : EReal := P.X i k + prod P i k * rootOf 1024 w1024 (prod P) i * P.Q k

end Cert.Mix

namespace Cert.Reference9Ideal.Read

open Cert.Reference9Ideal Idealize.ShloMosaic Idealize.ShloMosaic.TcCoe Idealize.ShloMosaic.Pointwise Cert.Ffn Cert.InBack Cert.Mix
open scoped BigOperators

variable {P : Cert.Mix.Params} {x0 : (⟨2, ![4096, 512]⟩ : Shape).Idx → EReal} {x1 x2 : (⟨2, ![4096, 256]⟩ : Shape).Idx → EReal}
  {x3 x5 : (⟨1, ![1024]⟩ : Shape).Idx → EReal} {x4 : (⟨2, ![1024, 1024]⟩ : Shape).Idx → EReal} {x6 : (⟨2, ![4096, 1024]⟩ : Shape).Idx → EReal}

/-- The first attention's results, normalised, -/
theorem r15 (h : Cert.Mix.Args P x0 x1 x2 x3 x4 x5 x6) :
    H2 (n := 4096) (b := 512) (val_main_v15 (F := Ideal) x0 x3) (fun i k => P.A i k * rootOf 512 w512 P.A i * P.G k) := by
  intro r k
  pointwise [val_main_v15, val_main_v14, val_main_v13, val_main_v12, val_main_v11, val_main_v10, val_main_v9, val_main_v8, val_main_v7, val_main_v6,
    val_main_v5, val_main_v4, val_main_v3, val_main_v0, val_main_cst, val_main_cst_0, val_main_cst_1]
  simp only [h.a _ _, h.g _]
  rfl

/-- the second's, -/
theorem r28 (h : Cert.Mix.Args P x0 x1 x2 x3 x4 x5 x6) :
    H2 (n := 4096) (b := 256) (val_main_v28 (F := Ideal) x1 x3) (fun i k => P.B i k * rootOf 256 w256 P.B i * P.G (512 + k)) := by
  intro r k
  pointwise [val_main_v28, val_main_v27, val_main_v26, val_main_v25, val_main_v24, val_main_v23, val_main_v22, val_main_v21, val_main_v20, val_main_v19,
    val_main_v18, val_main_v17, val_main_v16, val_main_v1, val_main_cst_2, val_main_cst_3, val_main_cst_4]
  simp only [h.b _ _, h.g _]
  rfl

/-- and the third's. -/
theorem r41 (h : Cert.Mix.Args P x0 x1 x2 x3 x4 x5 x6) :
    H2 (n := 4096) (b := 256) (val_main_v41 (F := Ideal) x2 x3) (fun i k => P.C i k * rootOf 256 w256 P.C i * P.G (768 + k)) := by
  intro r k
  pointwise [val_main_v41, val_main_v40, val_main_v39, val_main_v38, val_main_v37, val_main_v36, val_main_v35, val_main_v34, val_main_v33, val_main_v32,
    val_main_v31, val_main_v30, val_main_v29, val_main_v2, val_main_cst_5, val_main_cst_6, val_main_cst_7]
  simp only [h.c _ _, h.g _]
  rfl

theorem r42 (h : Cert.Mix.Args P x0 x1 x2 x3 x4 x5 x6) : H2 (n := 4096) (b := 1024) (val_main_v42 (F := Ideal) x0 x1 x2 x3) (mixed P) := by
  intro r k
  pointwise [val_main_v42]
  exact mixed_of_parts P r.val k _ _ _ (fun x => r15 h r x) (fun x => r28 h r x) (fun x => r41 h r x)

/-- The product, -/
theorem r43 (h : Cert.Mix.Args P x0 x1 x2 x3 x4 x5 x6) : H2 (n := 4096) (b := 1024) (val_main_v43 (F := Ideal) x0 x1 x2 x3 x4) (prod P) := by
  intro r k
  pointwise [val_main_v43]
  simp only [r42 h _ _, h.w _ _]
  rfl

/-- the input with the normalised product added, -/
theorem r57 (h : Cert.Mix.Args P x0 x1 x2 x3 x4 x5 x6) : H2 (n := 4096) (b := 1024) (val_main_v57 (F := Ideal) x0 x1 x2 x3 x4 x5 x6) (res P) := by
  intro r k
  pointwise [val_main_v57, val_main_v56, val_main_v55, val_main_v54, val_main_v53, val_main_v52, val_main_v51, val_main_v50, val_main_v49, val_main_v48,
    val_main_v47, val_main_v46, val_main_v45, val_main_v44, val_main_cst_8, val_main_cst_9, val_main_cst_10]
  simp only [r43 h _ _, h.x _ _, h.q _]
  rfl

/-- and the normalised results transposed. -/
theorem r59 (h : Cert.Mix.Args P x0 x1 x2 x3 x4 x5 x6) : H2 (n := 1024) (b := 4096) (val_main_v59 (F := Ideal) x0 x1 x2 x3) (fun k i => mixed P i k) := by
  intro r k
  pointwise [val_main_v59, val_main_v58]
  exact r42 h _ _

end Cert.Reference9Ideal.Read

end
-- ==== Proof.Mix.Value.lean ====
/-
  THE OUTPUT PROJECTION'S KERNEL. A point's three stores are functions of its blocks, and the three arrays after the run hold what the
  reference's hold.
-/
module

public import proofs.«01_k».proof.Proof.Gen.Kernel8Ideal.Value
public import proofs.«01_k».proof.Proof.Mix.Reference
public import Idealize.ShloMosaic.Lib.Tactic
public import Idealize.ShloMosaic.Lib.Pipeline.ValueKit.Geometry
public import Idealize.ShloMosaic.Lib.StableHlo.Run

@[expose] public section

noncomputable section

namespace Cert.Kernel8Ideal.Mix

open Cert.Kernel8Ideal Cert.Kernel8Ideal.Gen Idealize.ShloMosaic Idealize.ShloMosaic.TcCoe Idealize.ShloMosaic.Pointwise Cert.Ffn Cert.InBack Cert.Mix
open scoped BigOperators

theorem zero_offsets : (![0, 0] : Fin 2 → Nat) = fun _ => 0 := funext fun a => by fin_cases a <;> rfl

/-! ## A point's values, entry by entry -/

section Values

variable {x0 : FVec Ideal S512x512 .f32} {x1 x2 : FVec Ideal S512x256 .f32} {x3 x5 : FVec Ideal S1x1024 .f32} {x4 : FVec Ideal S1024x1024 .bf16}
  {x6 : FVec Ideal S512x1024 .f32} {P : Cert.Mix.Params}

/-- A point's seven blocks hold the parameters. -/
structure Blocks (P : Cert.Mix.Params) (x0 : FVec Ideal S512x512 .f32) (x1 x2 : FVec Ideal S512x256 .f32) (x3 : FVec Ideal S1x1024 .f32)
    (x4 : FVec Ideal S1024x1024 .bf16) (x5 : FVec Ideal S1x1024 .f32) (x6 : FVec Ideal S512x1024 .f32) : Prop where
  a : H2 (n := 512) (b := 512) x0 P.A
  b : H2 (n := 512) (b := 256) x1 P.B
  c : H2 (n := 512) (b := 256) x2 P.C
  g : H2 (n := 1) (b := 1024) x3 (fun _ k => P.G k)
  w : H2 (n := 1024) (b := 1024) x4 P.W
  q : H2 (n := 1) (b := 1024) x5 (fun _ k => P.Q k)
  x : H2 (n := 512) (b := 1024) x6 P.X

theorem first_entry (h : Blocks P x0 x1 x2 x3 x4 x5 x6) :
    H2 (n := 512) (b := 512) (k0_pay6 (F := Ideal) x3 x0) (fun r k => P.A r k * rootOf 512 w512 P.A r * P.G k) := by
  intro r k
  pointwise [k0_pay6, k0_pay5]
  simp only [h.a _ _, h.g _ _]
  rfl

theorem second_entry (h : Blocks P x0 x1 x2 x3 x4 x5 x6) :
    H2 (n := 512) (b := 256) (k0_pay7 (F := Ideal) x3 x1) (fun r k => P.B r k * rootOf 256 w256 P.B r * P.G (512 + k)) := by
  intro r k
  pointwise [k0_pay7, k0_pay5]
  simp only [h.b _ _, h.g _ _]
  rfl

theorem third_entry (h : Blocks P x0 x1 x2 x3 x4 x5 x6) :
    H2 (n := 512) (b := 256) (k0_pay9 (F := Ideal) x2) (fun r k => P.C r k * rootOf 256 w256 P.C r) := by
  intro r k
  pointwise [k0_pay9]
  simp only [h.c _ _]
  rfl

theorem gain_entry (h : Blocks P x0 x1 x2 x3 x4 x5 x6) :
    H2 (n := 1) (b := 256) (k0_pay8 (F := Ideal) x3) (fun _ k => P.G (768 + k)) := by
  intro r k
  pointwise [k0_pay8, k0_pay5]
  exact h.g _ _

/-- The normalised results side by side, -/
theorem mixed_entry (h : Blocks P x0 x1 x2 x3 x4 x5 x6) :
    H2 (n := 512) (b := 1024) (k0_pay1 (F := Ideal) (k0_pay6 x3 x0) (k0_pay7 x3 x1) (k0_pay8 x3) (k0_pay9 x2)) (mixed P) := by
  intro r k
  pointwise [k0_pay1]
  exact mixed_of_parts P r.val k _ _ _ (fun x => first_entry h r x) (fun x => second_entry h r x)
    (fun x => congrArg₂ (fun x y : EReal => x * y) (third_entry h r x) (gain_entry h _ x))

/-- transposed, -/
theorem turned_entry (h : Blocks P x0 x1 x2 x3 x4 x5 x6) :
    H2 (n := 1024) (b := 512) (k0_pay2 (F := Ideal) (k0_pay6 x3 x0) (k0_pay7 x3 x1) (k0_pay8 x3) (k0_pay9 x2)) (fun k r => mixed P r k) := by
  intro r k
  pointwise [k0_pay2]
  exact mixed_entry h _ _

/-- their product with the matrix, -/
theorem prod_entry (h : Blocks P x0 x1 x2 x3 x4 x5 x6) :
    H2 (n := 512) (b := 1024) (k0_pay3 (F := Ideal) (k0_pay6 x3 x0) (k0_pay7 x3 x1) (k0_pay8 x3) (k0_pay9 x2) x4) (prod P) := by
  intro r k
  pointwise [k0_pay3]
  simp only [mixed_entry h _ _, h.w _ _]
  rfl

/-- and the input with the normalised product added. -/
theorem res_entry (h : Blocks P x0 x1 x2 x3 x4 x5 x6) :
    H2 (n := 512) (b := 1024) (k0_pay4 (F := Ideal) (k0_pay6 x3 x0) (k0_pay7 x3 x1) (k0_pay8 x3) (k0_pay9 x2) x4 x6 x5) (res P) := by
  intro r k
  pointwise [k0_pay4]
  simp only [prod_entry h _ _, h.x _ _, h.q _ _]
  rfl

/-! ## A point's stores -/

theorem store7 (h : Blocks P x0 x1 x2 x3 x4 x5 x6) : H2 (n := 512) (b := 1024) (out0_7 (F := Ideal) x0 x1 x2 x3 x4 x5 x6) (res P) := by
  have e : out0_7 (F := Ideal) x0 x1 x2 x3 x4 x5 x6 = k0_pay4 (F := Ideal) (k0_pay6 x3 x0) (k0_pay7 x3 x1) (k0_pay8 x3) (k0_pay9 x2) x4 x6 x5 := by
    unfold_out out0_7
    rw [View.canon_unit_zero zero_offsets]
    simp only [View.ld_unit_zero (S := S512x512) zero_offsets, View.ld_unit_zero (S := S512x256) zero_offsets, View.ld_unit_zero (S := S1x1024) zero_offsets,
      View.ld_unit_zero (S := S1024x1024) zero_offsets, View.ld_unit_zero (S := S512x1024) zero_offsets, shapeCast_self]
  rw [e]
  exact res_entry h

theorem store8 (h : Blocks P x0 x1 x2 x3 x4 x5 x6) : H2 (n := 512) (b := 1024) (out0_8 (F := Ideal) x0 x1 x2 x3 x4 x5 x6) (prod P) := by
  have e : out0_8 (F := Ideal) x0 x1 x2 x3 x4 x5 x6 = k0_pay3 (F := Ideal) (k0_pay6 x3 x0) (k0_pay7 x3 x1) (k0_pay8 x3) (k0_pay9 x2) x4 := by
    unfold_out out0_8
    rw [View.canon_unit_zero zero_offsets]
    simp only [View.ld_unit_zero (S := S512x512) zero_offsets, View.ld_unit_zero (S := S512x256) zero_offsets, View.ld_unit_zero (S := S1x1024) zero_offsets,
      View.ld_unit_zero (S := S1024x1024) zero_offsets, shapeCast_self]
  rw [e]
  exact prod_entry h

theorem store9 (h : Blocks P x0 x1 x2 x3 x4 x5 x6) : H2 (n := 1024) (b := 512) (out0_9 (F := Ideal) x0 x1 x2 x3 x4 x5 x6) (fun k r => mixed P r k) := by
  have e : out0_9 (F := Ideal) x0 x1 x2 x3 x4 x5 x6 = k0_pay2 (F := Ideal) (k0_pay6 x3 x0) (k0_pay7 x3 x1) (k0_pay8 x3) (k0_pay9 x2) := by
    unfold_out out0_9
    rw [View.canon_unit_zero zero_offsets]
    simp only [View.ld_unit_zero (S := S512x512) zero_offsets, View.ld_unit_zero (S := S512x256) zero_offsets, View.ld_unit_zero (S := S1x1024) zero_offsets, shapeCast_self]
  rw [e]
  exact turned_entry h

end Values

/-! ## The windows' arrays -/

section Arrays

variable (m : (ℓ : Loc nD τ sig) → Buf (Elt Ideal) ℓ) (c : Dev nD)

theorem arr3 : V m c main_v0 = shapeCast S1x1024 (m ((c.tc : Thread nD τ).loc main_arg3)) shapeCasts_S1024_S1x1024 := by
  show StableHlo.after hostOps0 (fun b => m (c, b)) (Proc.devRef .tc main_v0) = _
  after_results_simp
  rfl

theorem arr4 : V m c main_v1 = truncf .bf16 (F := Ideal) (m ((c.tc : Thread nD τ).loc main_arg4)) bitsLt_bf16_f32 := by
  show StableHlo.after hostOps0 (fun b => m (c, b)) (Proc.devRef .tc main_v1) = _
  after_results_simp

theorem arr5 : V m c main_v2 = shapeCast S1x1024 (m ((c.tc : Thread nD τ).loc main_arg5)) shapeCasts_S1024_S1x1024 := by
  show StableHlo.after hostOps0 (fun b => m (c, b)) (Proc.devRef .tc main_v2) = _
  after_results_simp
  rfl

end Arrays

/-- A core's seven arguments hold the parameters. -/
abbrev ArgsAt (m : (ℓ : Loc nD τ sig) → Buf (Elt Ideal) ℓ) (c : Dev nD) (P : Cert.Mix.Params) : Prop :=
  Cert.Mix.Args P (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

theorem row1024 (v : S1024.Idx → EReal) (r : Fin 1) (k : Fin 1024) :
    shapeCast (α := EReal) S1x1024 v shapeCasts_S1024_S1x1024 (ix2 r k) = v (ix1 k) := by
  pointwise []

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index9 : ∀ t : Fin grid0.N, win0_9.index t 0 = 0 ∧ win0_9.index t 1 = t.val := by decide +kernel

variable {m : (ℓ : Loc nD τ sig) → Buf (Elt Ideal) ℓ} {c : Dev nD} {P : Cert.Mix.Params}

theorem lt8 (t : Fin cfg0.N) : t.val < 8 := lt_of_lt_of_eq t.isLt N_0

/-- The parameters from token `o` on. -/
def startAt (P : Cert.Mix.Params) (o : ℕ) : Cert.Mix.Params :=
  { P with A := fun r => P.A (o + r), B := fun r => P.B (o + r), C := fun r => P.C (o + r), X := fun r => P.X (o + r) }

/-- A point's blocks hold the parameters of its 512 tokens. -/
theorem blocks (h : ArgsAt m c P) (t : Fin cfg0.N) :
    Blocks (startAt P (512 * t.val)) (iblk m c 0 t) (iblk m c 1 t) (iblk m c 2 t) (iblk m c 3 t) (iblk m c 4 t) (iblk m c 5 t) (iblk m c 6 t) := by
  have ht := lt8 t
  constructor
  · intro r x
    refine Eq.trans ?_ (h.a ⟨512 * t.val + r.val, by omega⟩ x)
    refine Eq.trans ?_ (congrFun (V_main_arg0 m c) _)
    unfold iblk
    rw [View.read_apply, cast_eq]
    refine congrArg (V m c main_arg0) (funext fun a => Fin.ext ?_)
    match a with
    | ⟨0, _⟩ => show win0_0.index t 0 * 512 + 1 * r.val = 512 * t.val + r.val; rw [(index0 t).1]; omega
    | ⟨1, _⟩ => show win0_0.index t 1 * 512 + 1 * x.val = x.val; rw [(index0 t).2]; omega
  · intro r x
    refine Eq.trans ?_ (h.b ⟨512 * t.val + r.val, by omega⟩ x)
    refine Eq.trans ?_ (congrFun (V_main_arg1 m c) _)
    unfold iblk
    rw [View.read_apply, cast_eq]
    refine congrArg (V m c main_arg1) (funext fun a => Fin.ext ?_)
    match a with
    | ⟨0, _⟩ => show win0_1.index t 0 * 512 + 1 * r.val = 512 * t.val + r.val; rw [(index1 t).1]; omega
    | ⟨1, _⟩ => show win0_1.index t 1 * 256 + 1 * x.val = x.val; rw [(index1 t).2]; omega
  · intro r x
    refine Eq.trans ?_ (h.c ⟨512 * t.val + r.val, by omega⟩ x)
    refine Eq.trans ?_ (congrFun (V_main_arg2 m c) _)
    unfold iblk
    rw [View.read_apply, cast_eq]
    refine congrArg (V m c main_arg2) (funext fun a => Fin.ext ?_)
    match a with
    | ⟨0, _⟩ => show win0_2.index t 0 * 512 + 1 * r.val = 512 * t.val + r.val; rw [(index2 t).1]; omega
    | ⟨1, _⟩ => show win0_2.index t 1 * 256 + 1 * x.val = x.val; rw [(index2 t).2]; omega
  · intro r x
    refine Eq.trans ?_ (h.g x)
    refine Eq.trans ?_ ((congrFun (arr3 m c) (ix2 r x)).trans (row1024 _ r x))
    unfold iblk
    rw [View.read_apply, cast_eq]
    refine congrArg (V m c main_v0) (funext fun a => Fin.ext ?_)
    match a with
    | ⟨0, _⟩ => show win0_3.index t 0 * 1 + 1 * r.val = r.val; rw [(index3 t).1]; omega
    | ⟨1, _⟩ => show win0_3.index t 1 * 1024 + 1 * x.val = x.val; rw [(index3 t).2]; omega
  · intro r x
    refine Eq.trans ?_ (h.w r x)
    refine Eq.trans ?_ (congrFun (arr4 m c) _)
    unfold iblk
    rw [View.read_apply, cast_eq]
    refine congrArg (V m c main_v1) (funext fun a => Fin.ext ?_)
    match a with
    | ⟨0, _⟩ => show win0_4.index t 0 * 1024 + 1 * r.val = r.val; rw [(index4 t).1]; omega
    | ⟨1, _⟩ => show win0_4.index t 1 * 1024 + 1 * x.val = x.val; rw [(index4 t).2]; omega
  · intro r x
    refine Eq.trans ?_ (h.q x)
    refine Eq.trans ?_ ((congrFun (arr5 m c) (ix2 r x)).trans (row1024 _ r x))
    unfold iblk
    rw [View.read_apply, cast_eq]
    refine congrArg (V m c main_v2) (funext fun a => Fin.ext ?_)
    match a with
    | ⟨0, _⟩ => show win0_5.index t 0 * 1 + 1 * r.val = r.val; rw [(index5 t).1]; omega
    | ⟨1, _⟩ => show win0_5.index t 1 * 1024 + 1 * x.val = x.val; rw [(index5 t).2]; omega
  · intro r x
    refine Eq.trans ?_ (h.x ⟨512 * t.val + r.val, by omega⟩ x)
    refine Eq.trans ?_ (congrFun (V_main_arg6 m c) _)
    unfold iblk
    rw [View.read_apply, cast_eq]
    refine congrArg (V m c main_arg6) (funext fun a => Fin.ext ?_)
    match a with
    | ⟨0, _⟩ => show win0_6.index t 0 * 512 + 1 * r.val = 512 * t.val + r.val; rw [(index6 t).1]; omega
    | ⟨1, _⟩ => show win0_6.index t 1 * 1024 + 1 * x.val = x.val; rw [(index6 t).2]; omega

/-! ## The results -/

/-- The input with the normalised product added, -/
theorem res_eq (h : ArgsAt m c P) (i : S4096x1024.Idx) : (dats m 0 c).arrAt 7 cfg0.N i = res P (i 0).val (i 1).val := by
  refine (dats m 0 c).arrAt_forall_of_covers 7 (fun i v => v = res P (i 0).val (i 1).val) (by decide +kernel) (fun t _ y => ?_) i
  rw [cast_eq, after0_7]
  have e0 : ((((cfg0.win 7).blk t).view.emb y) 0).val = 512 * t.val + (y 0).val := by
    show win0_7.index t 0 * 512 + 1 * (y 0).val = _
    rw [(index7 t).1]; omega
  have e1 : ((((cfg0.win 7).blk t).view.emb y) 1).val = (y 1).val := by
    show win0_7.index t 1 * 1024 + 1 * (y 1).val = _
    rw [(index7 t).2]; omega
  refine (congrArg (out0_7 (F := Ideal) _ _ _ _ _ _ _) (show _ = ix2 (y 0 : Fin 512) (y 1 : Fin 1024) from funext fun a => Fin.ext ?_)).trans ((store7 (blocks h t) (y 0) (y 1)).trans ?_)
  · match a with
    | ⟨0, _⟩ => rfl
    | ⟨1, _⟩ => rfl
  · show res P (512 * t.val + (y 0).val) (y 1).val = res P ((((cfg0.win 7).blk t).view.emb y) 0).val ((((cfg0.win 7).blk t).view.emb y) 1).val
    rw [e0, e1]

/-- the product, -/
theorem prod_eq (h : ArgsAt m c P) (i : S4096x1024.Idx) : (dats m 0 c).arrAt 8 cfg0.N i = prod P (i 0).val (i 1).val := by
  refine (dats m 0 c).arrAt_forall_of_covers 8 (fun i v => v = prod P (i 0).val (i 1).val) (by decide +kernel) (fun t _ y => ?_) i
  rw [cast_eq, after0_8]
  have e0 : ((((cfg0.win 8).blk t).view.emb y) 0).val = 512 * t.val + (y 0).val := by
    show win0_8.index t 0 * 512 + 1 * (y 0).val = _
    rw [(index8 t).1]; omega
  have e1 : ((((cfg0.win 8).blk t).view.emb y) 1).val = (y 1).val := by
    show win0_8.index t 1 * 1024 + 1 * (y 1).val = _
    rw [(index8 t).2]; omega
  refine (congrArg (out0_8 (F := Ideal) _ _ _ _ _ _ _) (show _ = ix2 (y 0 : Fin 512) (y 1 : Fin 1024) from funext fun a => Fin.ext ?_)).trans ((store8 (blocks h t) (y 0) (y 1)).trans ?_)
  · match a with
    | ⟨0, _⟩ => rfl
    | ⟨1, _⟩ => rfl
  · show prod P (512 * t.val + (y 0).val) (y 1).val = prod P ((((cfg0.win 8).blk t).view.emb y) 0).val ((((cfg0.win 8).blk t).view.emb y) 1).val
    rw [e0, e1]

/-- and the normalised results transposed. -/
theorem mixed_eq (h : ArgsAt m c P) (i : S1024x4096.Idx) : (dats m 0 c).arrAt 9 cfg0.N i = mixed P (i 1).val (i 0).val := by
  refine (dats m 0 c).arrAt_forall_of_covers 9 (fun i v => v = mixed P (i 1).val (i 0).val) (by decide +kernel) (fun t _ y => ?_) i
  rw [cast_eq, after0_9]
  have e0 : ((((cfg0.win 9).blk t).view.emb y) 0).val = (y 0).val := by
    show win0_9.index t 0 * 1024 + 1 * (y 0).val = _
    rw [(index9 t).1]; omega
  have e1 : ((((cfg0.win 9).blk t).view.emb y) 1).val = 512 * t.val + (y 1).val := by
    show win0_9.index t 1 * 512 + 1 * (y 1).val = _
    rw [(index9 t).2]; omega
  refine (congrArg (out0_9 (F := Ideal) _ _ _ _ _ _ _) (show _ = ix2 (y 0 : Fin 1024) (y 1 : Fin 512) from funext fun a => Fin.ext ?_)).trans ((store9 (blocks h t) (y 0) (y 1)).trans ?_)
  · match a with
    | ⟨0, _⟩ => rfl
    | ⟨1, _⟩ => rfl
  · show mixed P (512 * t.val + (y 1).val) (y 0).val = mixed P ((((cfg0.win 9).blk t).view.emb y) 1).val ((((cfg0.win 9).blk t).view.emb y) 0).val
    rw [e0, e1]

end Cert.Kernel8Ideal.Mix

end
-- ==== Proof.Mix.Claim.lean ====
/-
  THE CLAIMS OF THE OUTPUT PROJECTION. The kernel and the reference leave the same three results, from any arguments.
-/
module

public import proofs.«01_k».proof.Defs
public import proofs.«01_k».proof.Proof.Gen.Kernel8Ideal
public import proofs.«01_k».proof.Proof.Gen.Reference9Ideal
public import proofs.«01_k».proof.Proof.Gen.Reference9Ideal.Run
public import proofs.«01_k».proof.Proof.Mix.Value
public import proofs.«01_k».proof.Proof.InBack.Claim

@[expose] public section

noncomputable section

open Idealize.ShloMosaic Idealize.ShloMosaic.TcCoe Idealize.ShloMosaic.Pointwise Idealize.SL.Sem Cert.InBack

attribute [local instance] Cert.Kernel8Ideal.Gen.facts Cert.Reference9Ideal.Gen.facts

namespace Cert.Proof

/-- The reference has no semaphore; its arguments are among what its run states. -/
theorem frame_reference9Ideal : Cert.quiescent_Reference9Ideal := fun m ρ _ =>
  (θ_run Cert.Reference9Ideal.defs _ _).mono (fun r h => ⟨fun c => (h c).2.2.2, sem_eq_zero_of_no_sems (by decide) r.2⟩) (Cert.Reference9Ideal.Value.run m ρ)

/-- The kernel computes the layer's input with the projection's normalised result added, the result itself, and the attentions' normalised
    results transposed. -/
theorem algebraic_mix : Cert.algebraic_Kernel8Ideal_Reference9Ideal := by
  intro m g m' g' _ hagree
  choose P hP using fun c : Dev Cert.Kernel8Ideal.nD => Cert.Mix.args_exist (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))
    (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))
    (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))
  refine ⟨fun c => (Cert.Kernel8Ideal.Gen.dats m 0 c).arrAt 7 Cert.Kernel8Ideal.cfg0.N, fun c => (Cert.Kernel8Ideal.Gen.dats m 0 c).arrAt 8 Cert.Kernel8Ideal.cfg0.N,
    fun c => (Cert.Kernel8Ideal.Gen.dats m 0 c).arrAt 9 Cert.Kernel8Ideal.cfg0.N, Cert.Kernel8Ideal.Value.run_blocks m g, ?_⟩
  refine (θ_run (Cert.Reference9Ideal.defs (F := Ideal)) _ _).mono (fun r h c => ⟨(h c).1.trans ?_, (h c).2.1.trans ?_, (h c).2.2.1.trans ?_, (h c).2.2.2⟩) (Cert.Reference9Ideal.Value.run m' g')
  · obtain ⟨e0, e1, e2, e3, e4, e5, e6⟩ := hagree c
    rw [Cert.Reference9Ideal.Read.val_main_v57_eq, e0, e1, e2, e3, e4, e5, e6]
    exact entries_ext (Cert.Reference9Ideal.Read.r57 (hP c)) (fun r k => Cert.Kernel8Ideal.Mix.res_eq (hP c) (ix2 r k))
  · obtain ⟨e0, e1, e2, e3, e4, e5, e6⟩ := hagree c
    rw [Cert.Reference9Ideal.Read.val_main_v43_eq, e0, e1, e2, e3, e4]
    exact entries_ext (Cert.Reference9Ideal.Read.r43 (hP c)) (fun r k => Cert.Kernel8Ideal.Mix.prod_eq (hP c) (ix2 r k))
  · obtain ⟨e0, e1, e2, e3, e4, e5, e6⟩ := hagree c
    rw [Cert.Reference9Ideal.Read.val_main_v59_eq, e0, e1, e2, e3]
    exact entries_ext (Cert.Reference9Ideal.Read.r59 (hP c)) (fun r k => Cert.Kernel8Ideal.Mix.mixed_eq (hP c) (ix2 r k))

end Cert.Proof

end
-- ==== Proof.MixBack.Reference.lean ====
/-
  THE BACKWARD CALL OF THE OUTPUT PROJECTION: its six results as functions of what the arguments hold, any extended reals, and the
  reference's six results as these.
-/
module

public import proofs.«01_k».proof.Proof.Gen.Reference10Ideal.Read
public import proofs.«01_k».proof.Proof.InBack.Reference
public import proofs.«01_k».proof.Proof.Value.Reals

@[expose] public section

set_option maxHeartbeats 1000000

noncomputable section

namespace Cert.MixBack

open Cert.Ffn Cert.InBack
open Idealize.ShloMosaic Idealize.ShloMosaic.Pointwise

/-! ## The norm of a row of any width `n`, whose real number is `q` -/

theorem bits_512 : Ideal.ofBits .f32 1140850688#32 = ((512 : ℝ) : EReal) := by
  simp [Ideal.ofBits, Ideal.ieee]; norm_num; rw [← EReal.coe_mul]; norm_num
theorem bits_256 : Ideal.ofBits .f32 1132462080#32 = ((256 : ℝ) : EReal) := by
  simp [Ideal.ofBits, Ideal.ieee]; norm_num; rw [← EReal.coe_mul]; norm_num

/-- The mean square of a row with the small number, and one over its root. -/
def meanOf (n : ℕ) (q : ℝ) (X : ℕ → ℕ → EReal) (i : ℕ) : EReal := Ideal.div (∑ k : Fin n, X i k * X i k) ((q : ℝ) : EReal) + ((eps : ℝ) : EReal)
def rootOf (n : ℕ) (q : ℝ) (X : ℕ → ℕ → EReal) (i : ℕ) : EReal := Ideal.rsqrt (meanOf n q X i)

/-- The norm's gradient in the kernel's form: `D` into the result, `G` the gain. -/
def backOf (n : ℕ) (q : ℝ) (D X : ℕ → ℕ → EReal) (G : ℕ → EReal) (i k : ℕ) : EReal :=
  rootOf n q X i * (D i k * G k - X i k * rootOf n q X i * Ideal.div (∑ x : Fin n, D i x * G x * (X i x * rootOf n q X i)) ((q : ℝ) : EReal))

/-- The part of the reference's that comes through the root. -/
def throughOf (n : ℕ) (q : ℝ) (D X : ℕ → ℕ → EReal) (G : ℕ → EReal) (i : ℕ) : EReal :=
  Ideal.div ((∑ x : Fin n, X i x * (D i x * G x)) * (((-(1 / 2) : ℝ) : EReal) * Ideal.div (rootOf n q X i) (meanOf n q X i))) ((q : ℝ) : EReal)

/-- A row with an infinite entry has an infinite mean square. -/
theorem meanOf_top {n : ℕ} {q : ℝ} (hq : 0 < q) {X : ℕ → ℕ → EReal} {i : ℕ} {j : Fin n} (h : X i j * X i j = ⊤) : meanOf n q X i = ⊤ := by
  have nonneg : ∀ k : Fin n, 0 ≤ X i k * X i k := fun k => by
    rcases le_total 0 (X i k) with h | h
    · exact mul_nonneg h h
    · have := mul_nonneg (EReal.neg_nonneg.mpr h) (EReal.neg_nonneg.mpr h)
      rwa [neg_mul_neg] at this
  have e : ∑ k : Fin n, X i k * X i k = ⊤ :=
    top_le_iff.mp (h ▸ Finset.single_le_sum (f := fun k : Fin n => X i k * X i k) (fun k _ => nonneg k) (Finset.mem_univ j))
  unfold meanOf
  rw [e, Ideal.div_coe hq.ne', EReal.top_mul_coe_of_pos (one_div_pos.mpr hq), EReal.top_add_coe]

/-- The chain rule's form, in which the root's part stands once and the square's twice, is the kernel's, over all extended reals. -/
theorem backOf_eq {n : ℕ} {q : ℝ} (hq : 0 < q) (D X : ℕ → ℕ → EReal) (G : ℕ → EReal) (i k : ℕ) (hk : k < n) :
    D i k * G k * rootOf n q X i + X i k * throughOf n q D X G i + throughOf n q D X G i * X i k = backOf n q D X G i k := by
  by_cases hx : ∃ j : Fin n, X i j * X i j = ⊤
  · obtain ⟨j, hj⟩ := hx
    have hr : rootOf n q X i = 0 := by rw [rootOf, meanOf_top hq hj, Ideal.rsqrt_top]
    have ht : throughOf n q D X G i = 0 := by
      unfold throughOf
      rw [hr, meanOf_top hq hj, show Ideal.div 0 ⊤ = 0 by rw [Ideal.div, if_neg EReal.top_ne_zero, zero_mul], mul_zero, mul_zero, Ideal.div_coe hq.ne', zero_mul]
    unfold backOf
    rw [ht, hr]
    simp
  · have fin : ∀ j : Fin n, ∃ y : ℝ, X i j = (y : EReal) := fun j => by
      have h := fun e => hx ⟨j, e⟩
      induction e : X i j with
      | coe y => exact ⟨y, rfl⟩
      | top => exact absurd (by rw [e]; rfl) h
      | bot => exact absurd (by rw [e]; rfl) h
    choose y hy using fin
    have hm : meanOf n q X i = (((∑ k : Fin n, y k * y k) / q + eps : ℝ) : EReal) := by
      unfold meanOf
      simp only [hy, ← EReal.coe_mul, csum, div_pos _ _ hq, ← EReal.coe_add]
    have pos : 0 < (∑ k : Fin n, y k * y k) / q + eps :=
      add_pos_of_nonneg_of_pos (div_nonneg (Finset.sum_nonneg fun k _ => mul_self_nonneg _) hq.le) eps_pos
    generalize (∑ k : Fin n, y k * y k) / q + eps = μ at hm pos
    have hr : rootOf n q X i = (((Real.sqrt μ)⁻¹ : ℝ) : EReal) := by rw [rootOf, hm, rsqrt_pos _ pos]
    have hρ : (Real.sqrt μ)⁻¹ / μ = (Real.sqrt μ)⁻¹ * (Real.sqrt μ)⁻¹ * (Real.sqrt μ)⁻¹ := by
      rw [mul_assoc, ← mul_inv, Real.mul_self_sqrt pos.le, div_eq_mul_inv]
    have nn : 0 ≤ (Real.sqrt μ)⁻¹ := inv_nonneg.mpr (Real.sqrt_nonneg _)
    have hsum : ∑ x : Fin n, D i x * G x * (X i x * rootOf n q X i) = (∑ x : Fin n, X i x * (D i x * G x)) * (((Real.sqrt μ)⁻¹ : ℝ) : EReal) := by
      rw [hr, sum_mul_real _ nn]
      exact Finset.sum_congr rfl fun x _ => by rw [← mul_assoc, mul_comm (D i x * G x)]
    unfold backOf throughOf
    rw [hsum, hr, hm, div_pos _ _ pos, hρ, hy ⟨k, hk⟩]
    generalize (Real.sqrt μ)⁻¹ = ρ at nn
    generalize (∑ x : Fin n, X i x * (D i x * G x)) = s
    generalize D i k * G k = a
    generalize y ⟨k, hk⟩ = z
    have e1 : (z : EReal) * (ρ : EReal) * Ideal.div (s * (ρ : EReal)) ((q : ℝ) : EReal) = s * ((z * ρ * ρ / q : ℝ) : EReal) := by
      rw [Ideal.div_coe hq.ne', ← EReal.coe_mul, mul_assoc s, ← EReal.coe_mul, mul_left_comm, ← EReal.coe_mul]
      congr 2; ring
    have e2 : Ideal.div (s * (((-(1 / 2) : ℝ) : EReal) * ((ρ * ρ * ρ : ℝ) : EReal))) ((q : ℝ) : EReal) * (z : EReal)
        = s * ((-(z * ρ * ρ * ρ / q) / 2 : ℝ) : EReal) := by
      rw [Ideal.div_coe hq.ne', ← EReal.coe_mul, mul_assoc s, ← EReal.coe_mul, mul_assoc s, ← EReal.coe_mul]
      congr 2; ring
    rw [mul_comm (z : EReal) (Ideal.div _ _), e1, e2, add_assoc, twice, sub_eq_add_neg,
      EReal.left_distrib_of_nonneg_of_ne_top (EReal.coe_nonneg.mpr nn) (EReal.coe_ne_top ρ), mul_comm a, mul_neg, mul_left_comm, ← EReal.coe_mul, ← mul_neg, ← EReal.coe_neg]
    congr 3; ring

/-- The gain's gradient. -/
def gainOf (n : ℕ) (q : ℝ) (D X : ℕ → ℕ → EReal) (k : ℕ) : EReal := ∑ i : Fin 4096, X i k * rootOf n q X i * D i k

/-! ## The results -/

/-- What the eight arguments hold: the gradient at the normalised result, the result, the three attentions' results, the gain of their
    norms, the matrix, the gain of the result's norm. -/
structure Params where
  D : ℕ → ℕ → EReal
  Y : ℕ → ℕ → EReal
  A : ℕ → ℕ → EReal
  B : ℕ → ℕ → EReal
  C : ℕ → ℕ → EReal
  G : ℕ → EReal
  W : ℕ → ℕ → EReal
  Q : ℕ → EReal

/-- The eight arguments hold them. -/
structure Args (P : Params) (x0 x1 : (⟨2, ![4096, 1024]⟩ : Shape).Idx → EReal) (x2 : (⟨2, ![4096, 512]⟩ : Shape).Idx → EReal)
    (x3 x4 : (⟨2, ![4096, 256]⟩ : Shape).Idx → EReal) (x5 : (⟨1, ![1024]⟩ : Shape).Idx → EReal)
    (x6 : (⟨2, ![1024, 1024]⟩ : Shape).Idx → EReal) (x7 : (⟨1, ![1024]⟩ : Shape).Idx → EReal) : Prop where
  d : H2 x0 P.D
  y : H2 x1 P.Y
  a : H2 x2 P.A
  b : H2 x3 P.B
  c : H2 x4 P.C
  g : H1 x5 P.G
  w : H2 x6 P.W
  q : H1 x7 P.Q

theorem args_exist (x0 x1 : (⟨2, ![4096, 1024]⟩ : Shape).Idx → EReal) (x2 : (⟨2, ![4096, 512]⟩ : Shape).Idx → EReal)
    (x3 x4 : (⟨2, ![4096, 256]⟩ : Shape).Idx → EReal) (x5 : (⟨1, ![1024]⟩ : Shape).Idx → EReal)
    (x6 : (⟨2, ![1024, 1024]⟩ : Shape).Idx → EReal) (x7 : (⟨1, ![1024]⟩ : Shape).Idx → EReal) : ∃ P, Args P x0 x1 x2 x3 x4 x5 x6 x7 :=
  ⟨⟨entries2 x0, entries2 x1, entries2 x2, entries2 x3, entries2 x4, entries1 x5, entries2 x6, entries1 x7⟩,
    entries2_spec x0, entries2_spec x1, entries2_spec x2, entries2_spec x3, entries2_spec x4, entries1_spec x5, entries2_spec x6, entries1_spec x7⟩

/-- The gradient at the projection's result, -/
def dy (P : Params) : ℕ → ℕ → EReal := backOf 1024 1024 P.D P.Y P.Q

/-- at the projected rows, with the parts of the second and the third attention, and these attentions' gains, -/
def dm (P : Params) (i k : ℕ) : EReal := ∑ c : Fin 1024, dy P i c * P.W k c
def dmB (P : Params) (i k : ℕ) : EReal := dm P i (512 + k)
def dmC (P : Params) (i k : ℕ) : EReal := dm P i (768 + k)
def gB (P : Params) (k : ℕ) : EReal := P.G (512 + k)
def gC (P : Params) (k : ℕ) : EReal := P.G (768 + k)

/-- at the attentions' results, -/
def da (P : Params) : ℕ → ℕ → EReal := backOf 512 512 (dm P) P.A P.G
def db (P : Params) : ℕ → ℕ → EReal := backOf 256 256 (dmB P) P.B (gB P)
def dc (P : Params) : ℕ → ℕ → EReal := backOf 256 256 (dmC P) P.C (gC P)

/-- at their norms' gain, -/
def dgn (P : Params) (k : ℕ) : EReal :=
  if k < 512 then gainOf 512 512 (dm P) P.A k
  else if k < 768 then gainOf 256 256 (dmB P) P.B (k - 512)
  else gainOf 256 256 (dmC P) P.C (k - 768)

/-- and at the gain of the result's norm. -/
def dgp (P : Params) (k : ℕ) : EReal := gainOf 1024 1024 P.D P.Y k

/-- Three parts of a gain side by side, the one found from the column as both programs do. -/
theorem sides (a b c : ℕ → EReal) (k : Fin 1024) (u : Fin 512 → EReal) (v z : Fin 256 → EReal)
    (hu : ∀ x : Fin 512, u x = a x) (hv : ∀ x : Fin 256, v x = b x) (hz : ∀ x : Fin 256, z x = c x) :
    (if h : k.val < 512 then u ⟨k.val, h⟩ else if h' : k.val - 512 < 256 then v ⟨k.val - 512, h'⟩ else z ⟨k.val - 512 - 256, by omega⟩)
      = if k.val < 512 then a k.val else if k.val < 768 then b (k.val - 512) else c (k.val - 768) := by
  by_cases h : k.val < 512
  · rw [dif_pos h, if_pos h, hu]
  · by_cases h' : k.val - 512 < 256
    · rw [dif_neg h, if_neg h, dif_pos h', if_pos (by omega), hv]
    · rw [dif_neg h, if_neg h, dif_neg h', if_neg (by omega), hz]
      dsimp only
      rw [show k.val - 512 - 256 = k.val - 768 by omega]

theorem dgn_of_parts (P : Params) (k : Fin 1024) (u : Fin 512 → EReal) (v z : Fin 256 → EReal)
    (hu : ∀ x : Fin 512, u x = gainOf 512 512 (dm P) P.A x) (hv : ∀ x : Fin 256, v x = gainOf 256 256 (dmB P) P.B x)
    (hz : ∀ x : Fin 256, z x = gainOf 256 256 (dmC P) P.C x) :
    (if h : k.val < 512 then u ⟨k.val, h⟩ else if h' : k.val - 512 < 256 then v ⟨k.val - 512, h'⟩ else z ⟨k.val - 512 - 256, by omega⟩) = dgn P k.val :=
  sides (gainOf 512 512 (dm P) P.A) (gainOf 256 256 (dmB P) P.B) (gainOf 256 256 (dmC P) P.C) k u v z hu hv hz

end Cert.MixBack

namespace Cert.Reference10Ideal.Read

open Cert.Reference10Ideal Cert.Ffn Cert.InBack Cert.MixBack
open Idealize.ShloMosaic Idealize.ShloMosaic.TcCoe
open Idealize.ShloMosaic.Pointwise

variable {P : Cert.MixBack.Params} {x0 x1 : (⟨2, ![4096, 1024]⟩ : Shape).Idx → EReal} {x2 : (⟨2, ![4096, 512]⟩ : Shape).Idx → EReal}
  {x3 x4 : (⟨2, ![4096, 256]⟩ : Shape).Idx → EReal} {x5 x7 : (⟨1, ![1024]⟩ : Shape).Idx → EReal} {x6 : (⟨2, ![1024, 1024]⟩ : Shape).Idx → EReal}

/-- The norm of the result: its mean square, root and their derivative's factor. -/
theorem r6 (h : Cert.MixBack.Args P x0 x1 x2 x3 x4 x5 x6 x7) : H2 (n := 4096) (b := 1) (val_main_v6 (F := Ideal) x1) (fun i _ => meanOf 1024 1024 P.Y i) := by
  intro r k
  pointwise [val_main_v6, val_main_v5, val_main_v4, val_main_v3, val_main_v2, val_main_v1, val_main_v0, val_main_cst, val_main_cst_0, val_main_cst_1]
  simp only [h.y _ _, bits_n, bits_eps]
  rfl

theorem r7 (h : Cert.MixBack.Args P x0 x1 x2 x3 x4 x5 x6 x7) : H2 (n := 4096) (b := 1) (val_main_v7 (F := Ideal) x1) (fun i _ => rootOf 1024 1024 P.Y i) := by
  intro r k
  pointwise [val_main_v7]
  rw [r6 h]
  rfl

theorem r10 (h : Cert.MixBack.Args P x0 x1 x2 x3 x4 x5 x6 x7) : H2 (n := 4096) (b := 1) (val_main_v10 (F := Ideal) x1) (fun i _ => ((-(1 / 2) : ℝ) : EReal) * Ideal.div (rootOf 1024 1024 P.Y i) (meanOf 1024 1024 P.Y i)) := by
  intro r k
  pointwise [val_main_v10, val_main_v9, val_main_cst_2, val_main_v8]
  rw [r7 h, r6 h, bits_neg_half]

theorem r12 (h : Cert.MixBack.Args P x0 x1 x2 x3 x4 x5 x6 x7) : H2 (n := 4096) (b := 1024) (val_main_v12 (F := Ideal) x1) (fun i k => P.Y i k * rootOf 1024 1024 P.Y i) := by
  intro r k
  pointwise [val_main_v12, val_main_v11]
  rw [h.y, r7 h]

/-- The gradient at its gain, -/
theorem r17 (h : Cert.MixBack.Args P x0 x1 x2 x3 x4 x5 x6 x7) : H1 (n := 1024) (val_main_v17 (F := Ideal) x0 x1) (gainOf 1024 1024 P.D P.Y) := by
  intro k
  pointwise [val_main_v17, val_main_v16, val_main_cst_3]
  simp only [r12 h _ _, h.d _ _]
  rfl

theorem r21 (h : Cert.MixBack.Args P x0 x1 x2 x3 x4 x5 x6 x7) : H1 (n := 1024) (val_main_v21 (F := Ideal) x0 x1) (gainOf 1024 1024 P.D P.Y) := by
  intro k
  pointwise [val_main_v21, val_main_v18, val_main_cst_4]
  first | (rw [Fin.sum_univ_one]; exact r17 h _) | exact r17 h _

theorem r20 (h : Cert.MixBack.Args P x0 x1 x2 x3 x4 x5 x6 x7) : H2 (n := 4096) (b := 1024) (val_main_v20 (F := Ideal) x0 x7) (fun i k => P.D i k * P.Q k) := by
  intro r k
  pointwise [val_main_v20, val_main_v19, val_main_v13]
  simp only [h.d _ _, h.q _]
  try rfl

theorem r29 (h : Cert.MixBack.Args P x0 x1 x2 x3 x4 x5 x6 x7) : H2 (n := 4096) (b := 1) (val_main_v29 (F := Ideal) x0 x1 x7) (fun i _ => throughOf 1024 1024 P.D P.Y P.Q i) := by
  intro r k
  pointwise [val_main_v29, val_main_v28, val_main_cst_6, val_main_v27, val_main_v24, val_main_v23, val_main_cst_5, val_main_v22]
  simp only [h.y _ _, r20 h _ _, r10 h _ _]
  rw [bits_n]
  rfl

theorem r30 (h : Cert.MixBack.Args P x0 x1 x2 x3 x4 x5 x6 x7) : H1 (n := 4096) (val_main_v30 (F := Ideal) x0 x1 x7) (throughOf 1024 1024 P.D P.Y P.Q) := by
  intro k
  pointwise [val_main_v30, val_main_cst_7]
  first | (rw [Fin.sum_univ_one]; exact r29 h _ _) | exact r29 h _ _

/-- and at its input. -/
theorem r35 (h : Cert.MixBack.Args P x0 x1 x2 x3 x4 x5 x6 x7) : H2 (n := 4096) (b := 1024) (val_main_v35 (F := Ideal) x0 x1 x7) (backOf 1024 1024 P.D P.Y P.Q) := by
  intro r k
  pointwise [val_main_v35, val_main_v34, val_main_v33, val_main_v32, val_main_v31, val_main_v26, val_main_v25]
  rw [r30 h, h.y, r20 h, r7 h]
  rw [← backOf_eq (by norm_num) _ _ _ _ _ k.isLt]

/-- The gradient at the projected rows, and its three parts. -/
theorem r89 (h : Cert.MixBack.Args P x0 x1 x2 x3 x4 x5 x6 x7) : H2 (n := 4096) (b := 1024) (val_main_v89 (F := Ideal) x0 x1 x6 x7) (dm P) := by
  intro r k
  pointwise [val_main_v89]
  simp only [r35 h _ _, h.w _ _]
  rfl

theorem r90 (h : Cert.MixBack.Args P x0 x1 x2 x3 x4 x5 x6 x7) : H2 (n := 4096) (b := 512) (val_main_v90 (F := Ideal) x0 x1 x6 x7) (dm P) := by
  intro r k
  pointwise [val_main_v90]
  first | exact r89 h _ _ | (refine (r89 h _ _).trans ?_; simp)

theorem r91 (h : Cert.MixBack.Args P x0 x1 x2 x3 x4 x5 x6 x7) : H2 (n := 4096) (b := 256) (val_main_v91 (F := Ideal) x0 x1 x6 x7) (dmB P) := by
  intro r k
  pointwise [val_main_v91]
  exact r89 h _ _

theorem r92 (h : Cert.MixBack.Args P x0 x1 x2 x3 x4 x5 x6 x7) : H2 (n := 4096) (b := 256) (val_main_v92 (F := Ideal) x0 x1 x6 x7) (dmC P) := by
  intro r k
  pointwise [val_main_v92]
  exact r89 h _ _

/-- The norm of the first attention: its mean square, root and their derivative's factor. -/
theorem r45 (h : Cert.MixBack.Args P x0 x1 x2 x3 x4 x5 x6 x7) : H2 (n := 4096) (b := 1) (val_main_v45 (F := Ideal) x2) (fun i _ => meanOf 512 512 P.A i) := by
  intro r k
  pointwise [val_main_v45, val_main_v44, val_main_v43, val_main_v42, val_main_v41, val_main_v40, val_main_v39, val_main_cst_8, val_main_cst_9, val_main_cst_10]
  simp only [h.a _ _, bits_512, bits_eps]
  rfl

theorem r46 (h : Cert.MixBack.Args P x0 x1 x2 x3 x4 x5 x6 x7) : H2 (n := 4096) (b := 1) (val_main_v46 (F := Ideal) x2) (fun i _ => rootOf 512 512 P.A i) := by
  intro r k
  pointwise [val_main_v46]
  rw [r45 h]
  rfl

theorem r49 (h : Cert.MixBack.Args P x0 x1 x2 x3 x4 x5 x6 x7) : H2 (n := 4096) (b := 1) (val_main_v49 (F := Ideal) x2) (fun i _ => ((-(1 / 2) : ℝ) : EReal) * Ideal.div (rootOf 512 512 P.A i) (meanOf 512 512 P.A i)) := by
  intro r k
  pointwise [val_main_v49, val_main_v48, val_main_cst_11, val_main_v47]
  rw [r46 h, r45 h, bits_neg_half]

theorem r51 (h : Cert.MixBack.Args P x0 x1 x2 x3 x4 x5 x6 x7) : H2 (n := 4096) (b := 512) (val_main_v51 (F := Ideal) x2) (fun i k => P.A i k * rootOf 512 512 P.A i) := by
  intro r k
  pointwise [val_main_v51, val_main_v50]
  rw [h.a, r46 h]

/-- The gradient at its gain, -/
theorem r134 (h : Cert.MixBack.Args P x0 x1 x2 x3 x4 x5 x6 x7) : H1 (n := 512) (val_main_v134 (F := Ideal) x0 x1 x2 x6 x7) (gainOf 512 512 (dm P) P.A) := by
  intro k
  pointwise [val_main_v134, val_main_v133, val_main_cst_30]
  simp only [r51 h _ _, r90 h _ _]
  rfl

theorem r138 (h : Cert.MixBack.Args P x0 x1 x2 x3 x4 x5 x6 x7) : H1 (n := 512) (val_main_v138 (F := Ideal) x0 x1 x2 x6 x7) (gainOf 512 512 (dm P) P.A) := by
  intro k
  pointwise [val_main_v138, val_main_v135, val_main_cst_31]
  first | (rw [Fin.sum_univ_one]; exact r134 h _) | exact r134 h _

theorem r137 (h : Cert.MixBack.Args P x0 x1 x2 x3 x4 x5 x6 x7) : H2 (n := 4096) (b := 512) (val_main_v137 (F := Ideal) x0 x1 x5 x6 x7) (fun i k => (dm P) i k * P.G k) := by
  intro r k
  pointwise [val_main_v137, val_main_v136, val_main_v52, val_main_v36]
  simp only [r90 h _ _, h.g _]
  try rfl

theorem r146 (h : Cert.MixBack.Args P x0 x1 x2 x3 x4 x5 x6 x7) : H2 (n := 4096) (b := 1) (val_main_v146 (F := Ideal) x0 x1 x2 x5 x6 x7) (fun i _ => throughOf 512 512 (dm P) P.A P.G i) := by
  intro r k
  pointwise [val_main_v146, val_main_v145, val_main_cst_33, val_main_v144, val_main_v141, val_main_v140, val_main_cst_32, val_main_v139]
  simp only [h.a _ _, r137 h _ _, r49 h _ _]
  rw [bits_512]
  rfl

theorem r147 (h : Cert.MixBack.Args P x0 x1 x2 x3 x4 x5 x6 x7) : H1 (n := 4096) (val_main_v147 (F := Ideal) x0 x1 x2 x5 x6 x7) (throughOf 512 512 (dm P) P.A P.G) := by
  intro k
  pointwise [val_main_v147, val_main_cst_34]
  first | (rw [Fin.sum_univ_one]; exact r146 h _ _) | exact r146 h _ _

/-- and at its input. -/
theorem r152 (h : Cert.MixBack.Args P x0 x1 x2 x3 x4 x5 x6 x7) : H2 (n := 4096) (b := 512) (val_main_v152 (F := Ideal) x0 x1 x2 x5 x6 x7) (backOf 512 512 (dm P) P.A P.G) := by
  intro r k
  pointwise [val_main_v152, val_main_v151, val_main_v150, val_main_v149, val_main_v148, val_main_v143, val_main_v142]
  rw [r147 h, h.a, r137 h, r46 h]
  rw [← backOf_eq (by norm_num) _ _ _ _ _ k.isLt]

/-- The norm of the second attention: its mean square, root and their derivative's factor. -/
theorem r61 (h : Cert.MixBack.Args P x0 x1 x2 x3 x4 x5 x6 x7) : H2 (n := 4096) (b := 1) (val_main_v61 (F := Ideal) x3) (fun i _ => meanOf 256 256 P.B i) := by
  intro r k
  pointwise [val_main_v61, val_main_v60, val_main_v59, val_main_v58, val_main_v57, val_main_v56, val_main_v55, val_main_cst_12, val_main_cst_13, val_main_cst_14]
  simp only [h.b _ _, bits_256, bits_eps]
  rfl

theorem r62 (h : Cert.MixBack.Args P x0 x1 x2 x3 x4 x5 x6 x7) : H2 (n := 4096) (b := 1) (val_main_v62 (F := Ideal) x3) (fun i _ => rootOf 256 256 P.B i) := by
  intro r k
  pointwise [val_main_v62]
  rw [r61 h]
  rfl

theorem r65 (h : Cert.MixBack.Args P x0 x1 x2 x3 x4 x5 x6 x7) : H2 (n := 4096) (b := 1) (val_main_v65 (F := Ideal) x3) (fun i _ => ((-(1 / 2) : ℝ) : EReal) * Ideal.div (rootOf 256 256 P.B i) (meanOf 256 256 P.B i)) := by
  intro r k
  pointwise [val_main_v65, val_main_v64, val_main_cst_15, val_main_v63]
  rw [r62 h, r61 h, bits_neg_half]

theorem r67 (h : Cert.MixBack.Args P x0 x1 x2 x3 x4 x5 x6 x7) : H2 (n := 4096) (b := 256) (val_main_v67 (F := Ideal) x3) (fun i k => P.B i k * rootOf 256 256 P.B i) := by
  intro r k
  pointwise [val_main_v67, val_main_v66]
  rw [h.b, r62 h]

/-- The gradient at its gain, -/
theorem r114 (h : Cert.MixBack.Args P x0 x1 x2 x3 x4 x5 x6 x7) : H1 (n := 256) (val_main_v114 (F := Ideal) x0 x1 x3 x6 x7) (gainOf 256 256 (dmB P) P.B) := by
  intro k
  pointwise [val_main_v114, val_main_v113, val_main_cst_25]
  simp only [r67 h _ _, r91 h _ _]
  rfl

theorem r118 (h : Cert.MixBack.Args P x0 x1 x2 x3 x4 x5 x6 x7) : H1 (n := 256) (val_main_v118 (F := Ideal) x0 x1 x3 x6 x7) (gainOf 256 256 (dmB P) P.B) := by
  intro k
  pointwise [val_main_v118, val_main_v115, val_main_cst_26]
  first | (rw [Fin.sum_univ_one]; exact r114 h _) | exact r114 h _

theorem r117 (h : Cert.MixBack.Args P x0 x1 x2 x3 x4 x5 x6 x7) : H2 (n := 4096) (b := 256) (val_main_v117 (F := Ideal) x0 x1 x5 x6 x7) (fun i k => (dmB P) i k * (gB P) k) := by
  intro r k
  pointwise [val_main_v117, val_main_v116, val_main_v68, val_main_v37]
  simp only [r91 h _ _, h.g _]
  try rfl

theorem r126 (h : Cert.MixBack.Args P x0 x1 x2 x3 x4 x5 x6 x7) : H2 (n := 4096) (b := 1) (val_main_v126 (F := Ideal) x0 x1 x3 x5 x6 x7) (fun i _ => throughOf 256 256 (dmB P) P.B (gB P) i) := by
  intro r k
  pointwise [val_main_v126, val_main_v125, val_main_cst_28, val_main_v124, val_main_v121, val_main_v120, val_main_cst_27, val_main_v119]
  simp only [h.b _ _, r117 h _ _, r65 h _ _]
  rw [bits_256]
  rfl

theorem r127 (h : Cert.MixBack.Args P x0 x1 x2 x3 x4 x5 x6 x7) : H1 (n := 4096) (val_main_v127 (F := Ideal) x0 x1 x3 x5 x6 x7) (throughOf 256 256 (dmB P) P.B (gB P)) := by
  intro k
  pointwise [val_main_v127, val_main_cst_29]
  first | (rw [Fin.sum_univ_one]; exact r126 h _ _) | exact r126 h _ _

/-- and at its input. -/
theorem r132 (h : Cert.MixBack.Args P x0 x1 x2 x3 x4 x5 x6 x7) : H2 (n := 4096) (b := 256) (val_main_v132 (F := Ideal) x0 x1 x3 x5 x6 x7) (backOf 256 256 (dmB P) P.B (gB P)) := by
  intro r k
  pointwise [val_main_v132, val_main_v131, val_main_v130, val_main_v129, val_main_v128, val_main_v123, val_main_v122]
  rw [r127 h, h.b, r117 h, r62 h]
  rw [← backOf_eq (by norm_num) _ _ _ _ _ k.isLt]

/-- The norm of the third attention: its mean square, root and their derivative's factor. -/
theorem r77 (h : Cert.MixBack.Args P x0 x1 x2 x3 x4 x5 x6 x7) : H2 (n := 4096) (b := 1) (val_main_v77 (F := Ideal) x4) (fun i _ => meanOf 256 256 P.C i) := by
  intro r k
  pointwise [val_main_v77, val_main_v76, val_main_v75, val_main_v74, val_main_v73, val_main_v72, val_main_v71, val_main_cst_16, val_main_cst_17, val_main_cst_18]
  simp only [h.c _ _, bits_256, bits_eps]
  rfl

theorem r78 (h : Cert.MixBack.Args P x0 x1 x2 x3 x4 x5 x6 x7) : H2 (n := 4096) (b := 1) (val_main_v78 (F := Ideal) x4) (fun i _ => rootOf 256 256 P.C i) := by
  intro r k
  pointwise [val_main_v78]
  rw [r77 h]
  rfl

theorem r81 (h : Cert.MixBack.Args P x0 x1 x2 x3 x4 x5 x6 x7) : H2 (n := 4096) (b := 1) (val_main_v81 (F := Ideal) x4) (fun i _ => ((-(1 / 2) : ℝ) : EReal) * Ideal.div (rootOf 256 256 P.C i) (meanOf 256 256 P.C i)) := by
  intro r k
  pointwise [val_main_v81, val_main_v80, val_main_cst_19, val_main_v79]
  rw [r78 h, r77 h, bits_neg_half]

theorem r83 (h : Cert.MixBack.Args P x0 x1 x2 x3 x4 x5 x6 x7) : H2 (n := 4096) (b := 256) (val_main_v83 (F := Ideal) x4) (fun i k => P.C i k * rootOf 256 256 P.C i) := by
  intro r k
  pointwise [val_main_v83, val_main_v82]
  rw [h.c, r78 h]

/-- The gradient at its gain, -/
theorem r94 (h : Cert.MixBack.Args P x0 x1 x2 x3 x4 x5 x6 x7) : H1 (n := 256) (val_main_v94 (F := Ideal) x0 x1 x4 x6 x7) (gainOf 256 256 (dmC P) P.C) := by
  intro k
  pointwise [val_main_v94, val_main_v93, val_main_cst_20]
  simp only [r83 h _ _, r92 h _ _]
  rfl

theorem r98 (h : Cert.MixBack.Args P x0 x1 x2 x3 x4 x5 x6 x7) : H1 (n := 256) (val_main_v98 (F := Ideal) x0 x1 x4 x6 x7) (gainOf 256 256 (dmC P) P.C) := by
  intro k
  pointwise [val_main_v98, val_main_v95, val_main_cst_21]
  first | (rw [Fin.sum_univ_one]; exact r94 h _) | exact r94 h _

theorem r97 (h : Cert.MixBack.Args P x0 x1 x2 x3 x4 x5 x6 x7) : H2 (n := 4096) (b := 256) (val_main_v97 (F := Ideal) x0 x1 x5 x6 x7) (fun i k => (dmC P) i k * (gC P) k) := by
  intro r k
  pointwise [val_main_v97, val_main_v96, val_main_v84, val_main_v38]
  simp only [r92 h _ _, h.g _]
  try rfl

theorem r106 (h : Cert.MixBack.Args P x0 x1 x2 x3 x4 x5 x6 x7) : H2 (n := 4096) (b := 1) (val_main_v106 (F := Ideal) x0 x1 x4 x5 x6 x7) (fun i _ => throughOf 256 256 (dmC P) P.C (gC P) i) := by
  intro r k
  pointwise [val_main_v106, val_main_v105, val_main_cst_23, val_main_v104, val_main_v101, val_main_v100, val_main_cst_22, val_main_v99]
  simp only [h.c _ _, r97 h _ _, r81 h _ _]
  rw [bits_256]
  rfl

theorem r107 (h : Cert.MixBack.Args P x0 x1 x2 x3 x4 x5 x6 x7) : H1 (n := 4096) (val_main_v107 (F := Ideal) x0 x1 x4 x5 x6 x7) (throughOf 256 256 (dmC P) P.C (gC P)) := by
  intro k
  pointwise [val_main_v107, val_main_cst_24]
  first | (rw [Fin.sum_univ_one]; exact r106 h _ _) | exact r106 h _ _

/-- and at its input. -/
theorem r112 (h : Cert.MixBack.Args P x0 x1 x2 x3 x4 x5 x6 x7) : H2 (n := 4096) (b := 256) (val_main_v112 (F := Ideal) x0 x1 x4 x5 x6 x7) (backOf 256 256 (dmC P) P.C (gC P)) := by
  intro r k
  pointwise [val_main_v112, val_main_v111, val_main_v110, val_main_v109, val_main_v108, val_main_v103, val_main_v102]
  rw [r107 h, h.c, r97 h, r78 h]
  rw [← backOf_eq (by norm_num) _ _ _ _ _ k.isLt]

/-- The rounded gradient at the projection's result, -/
theorem r154 (h : Cert.MixBack.Args P x0 x1 x2 x3 x4 x5 x6 x7) : H2 (n := 4096) (b := 1024) (val_main_v154 (F := Ideal) x0 x1 x7) (dy P) := by
  intro r k
  pointwise [val_main_v154]
  exact r35 h _ _

/-- the norms' gain's, side by side, -/
theorem r155 (h : Cert.MixBack.Args P x0 x1 x2 x3 x4 x5 x6 x7) : H2 (n := 1) (b := 1024) (val_main_v155 (F := Ideal) x0 x1 x2 x3 x4 x6 x7) (fun _ k => dgn P k) := by
  intro r k
  pointwise [val_main_v155, val_main_v153]
  exact dgn_of_parts P k _ _ _ (fun x => r138 h x) (fun x => r118 h x) (fun x => r98 h x)

/-- and the last norm's gain's. -/
theorem r156 (h : Cert.MixBack.Args P x0 x1 x2 x3 x4 x5 x6 x7) : H2 (n := 1) (b := 1024) (val_main_v156 (F := Ideal) x0 x1) (fun _ k => dgp P k) := by
  intro r k
  pointwise [val_main_v156]
  exact r21 h _

end Cert.Reference10Ideal.Read

end
-- ==== Proof.MixBack.Cases.lean ====
/-
  THE KERNEL OF THE OUTPUT PROJECTION'S BACKWARD CALL, point by point: the two cases' stores as the generated values of the point's blocks.
-/
module

public import proofs.«01_k».proof.Proof.Gen.Kernel9Ideal.Value
public import proofs.«01_k».proof.Proof.MixBack.Reference
public import Idealize.ShloMosaic.Lib.Tactic
public import Idealize.ShloMosaic.Lib.StableHlo.Run

@[expose] public section

noncomputable section

namespace Cert.Kernel9Ideal.MixBack

open Cert.Kernel9Ideal Cert.Kernel9Ideal.Gen Idealize.ShloMosaic Idealize.ShloMosaic.TcCoe Idealize.ShloMosaic.Pointwise

theorem zero_offsets : (![0, 0] : Fin 2 → Nat) = fun _ => 0 := funext fun a => by fin_cases a <;> rfl

section Cases

variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S512x512 .f32) (h3 : a3.IsWhole)
  (a4 : Memref sig .tc .vmem S512x256 .f32) (h4 : a4.IsWhole)
  (a5 : Memref sig .tc .vmem S512x256 .f32) (h5 : a5.IsWhole)
  (a6 : Memref sig .tc .vmem S1x1024 .f32) (h6 : a6.IsWhole)
  (a7 : Memref sig .tc .vmem S1024x1024 .bf16) (h7 : a7.IsWhole)
  (a8 : Memref sig .tc .vmem S1x1024 .f32) (h8 : a8.IsWhole)
  (a9 : Memref sig .tc .vmem S512x1024 .bf16) (h9 : a9.IsWhole)
  (a10 : Memref sig .tc .vmem S512x512 .f32) (h10 : a10.IsWhole)
  (a11 : Memref sig .tc .vmem S512x256 .f32) (h11 : a11.IsWhole)
  (a12 : Memref sig .tc .vmem S512x256 .f32) (h12 : a12.IsWhole)
  (a13 : Memref sig .tc .vmem S1x1024 .f32) (h13 : a13.IsWhole)
  (a14 : Memref sig .tc .vmem S1x1024 .f32) (h14 : a14.IsWhole)
  (x0 : Vec Ideal S512x1024 .f32) (x1 : Vec Ideal S512x1024 .f32) (x2 : Vec Ideal S512x512 .f32) (x3 : Vec Ideal S512x256 .f32) (x4 : Vec Ideal S512x256 .f32) (x5 : Vec Ideal S1x1024 .f32) (x6 : Vec Ideal S1024x1024 .bf16) (x7 : Vec Ideal S1x1024 .f32)
  (o12 o13 : Vec Ideal S1x1024 .f32)

/-! ## The first point -/

section First

variable (hc0 : cond0_0 i) (hc1 : ¬cond0_1 i) (hc2 : cond0_2 i) (hc3 : ¬cond0_3 i)

theorem dy_first :
    out0_A_8 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7
      = k0_pay7 x0 x1 x7 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7)]
  unfold kernelRun0_A
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

theorem da_first :
    out0_A_9 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7
      = k0_pay15 (k0_pay6 x0 x1 x7) x6 x5 x2 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7)]
  unfold kernelRun0_A
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

theorem db_first :
    out0_A_10 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7
      = k0_pay23 (k0_pay16 (k0_pay6 x0 x1 x7) x6) x3 (k0_pay17 x5) (k0_pay18 x3) k0_pay19 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7)]
  unfold kernelRun0_A
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

theorem dc_first :
    out0_A_11 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7
      = k0_pay28 (k0_pay9 (k0_pay6 x0 x1 x7) x6) (k0_pay10 x5) x4 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7)]
  unfold kernelRun0_A
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

theorem dgn_first :
    out0_A_12 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7
      = k0_pay1 (k0_pay14 (k0_pay6 x0 x1 x7) x6 x2) (k0_pay22 (k0_pay16 (k0_pay6 x0 x1 x7) x6) x3 (k0_pay18 x3) k0_pay19) (k0_pay27 (k0_pay9 (k0_pay6 x0 x1 x7) x6) x4) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7)]
  unfold kernelRun0_A
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

theorem dgp_first :
    out0_A_13 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7
      = k0_pay5 x0 x1 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7)]
  unfold kernelRun0_A
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

end First

/-! ## The later points -/

section Later

variable (hc0 : ¬cond0_0 i) (hc1 : cond0_1 i) (hc2 : ¬cond0_2 i) (hc3 : cond0_3 i)

theorem dy_later :
    out0_B_8 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13
      = k0_pay7 x0 x1 x7 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13)]
  unfold kernelRun0_B
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

theorem da_later :
    out0_B_9 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13
      = k0_pay15 (k0_pay6 x0 x1 x7) x6 x5 x2 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13)]
  unfold kernelRun0_B
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

theorem db_later :
    out0_B_10 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13
      = k0_pay23 (k0_pay16 (k0_pay6 x0 x1 x7) x6) x3 (k0_pay17 x5) (k0_pay18 x3) k0_pay19 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13)]
  unfold kernelRun0_B
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

theorem dc_later :
    out0_B_11 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13
      = k0_pay28 (k0_pay9 (k0_pay6 x0 x1 x7) x6) (k0_pay10 x5) x4 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13)]
  unfold kernelRun0_B
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

theorem dgn_later :
    out0_B_12 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13
      = k0_pay2 (k0_pay14 (k0_pay6 x0 x1 x7) x6 x2) (k0_pay22 (k0_pay16 (k0_pay6 x0 x1 x7) x6) x3 (k0_pay18 x3) k0_pay19) (k0_pay27 (k0_pay9 (k0_pay6 x0 x1 x7) x6) x4) o12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13)]
  unfold kernelRun0_B
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

theorem dgp_later :
    out0_B_13 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13
      = k0_pay8 x0 x1 o13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc0 hc1 hc2 hc3 x0 x1 x2 x3 x4 x5 x6 x7 o12 o13)]
  unfold kernelRun0_B
  dsimp only
  sl_unfold_words
  rw [View.canon_unit_zero zero_offsets]
  simp only [View.readAt_eq_ld, h1.read_unread, h2.read_unread, h3.read_unread, h4.read_unread, h5.read_unread, h6.read_unread, h7.read_unread, h8.read_unread, h13.read_unread, h14.read_unread, View.ld_unit_zero (S := S512x1024) zero_offsets,
    View.ld_unit_zero (S := S512x512) zero_offsets, View.ld_unit_zero (S := S512x256) zero_offsets, View.ld_unit_zero (S := S1x1024) zero_offsets,
    View.ld_unit_zero (S := S1024x1024) zero_offsets, shapeCast_self]

end Later

end Cases

end Cert.Kernel9Ideal.MixBack

end
-- ==== Proof.MixBack.Entries.lean ====
/-
  THE VALUES OF A POINT OF THE OUTPUT PROJECTION'S BACKWARD CALL, entry by entry, from what the point's blocks hold.
-/
module

public import proofs.«01_k».proof.Proof.Gen.Kernel9Ideal.Skeleton
public import proofs.«01_k».proof.Proof.MixBack.Reference
public import Idealize.ShloMosaic.Lib.Tactic

@[expose] public section

set_option maxHeartbeats 1000000

noncomputable section

namespace Cert.Kernel9Ideal.MixBack

open Cert.Kernel9Ideal Cert.Kernel9Ideal.Gen Idealize.ShloMosaic Idealize.ShloMosaic.TcCoe Idealize.ShloMosaic.Pointwise Cert.Ffn Cert.InBack Cert.MixBack
open scoped BigOperators

variable {x0 x1 : FVec Ideal S512x1024 .f32} {x2 : FVec Ideal S512x512 .f32} {x3 x4 : FVec Ideal S512x256 .f32} {x5 x7 : FVec Ideal S1x1024 .f32}
  {x6 : FVec Ideal S1024x1024 .bf16} {P : Cert.MixBack.Params}

/-- A point's eight blocks hold the parameters. -/
structure Blocks (P : Cert.MixBack.Params) (x0 x1 : FVec Ideal S512x1024 .f32) (x2 : FVec Ideal S512x512 .f32) (x3 x4 : FVec Ideal S512x256 .f32)
    (x5 : FVec Ideal S1x1024 .f32) (x6 : FVec Ideal S1024x1024 .bf16) (x7 : FVec Ideal S1x1024 .f32) : Prop where
  d : H2 (n := 512) (b := 1024) x0 P.D
  y : H2 (n := 512) (b := 1024) x1 P.Y
  a : H2 (n := 512) (b := 512) x2 P.A
  b : H2 (n := 512) (b := 256) x3 P.B
  c : H2 (n := 512) (b := 256) x4 P.C
  g : H2 (n := 1) (b := 1024) x5 (fun _ k => P.G k)
  w : H2 (n := 1024) (b := 1024) x6 P.W
  q : H2 (n := 1) (b := 1024) x7 (fun _ k => P.Q k)

/-- The part of a gain's gradient of 512 tokens. -/
def partOf (n : ℕ) (q : ℝ) (D X : ℕ → ℕ → EReal) (k : ℕ) : EReal := ∑ i : Fin 512, D i k * (X i k * rootOf n q X i)

/-- The three norms' parts side by side. -/
def partN (P : Cert.MixBack.Params) (k : ℕ) : EReal :=
  if k < 512 then partOf 512 512 (dm P) P.A k
  else if k < 768 then partOf 256 256 (dmB P) P.B (k - 512)
  else partOf 256 256 (dmC P) P.C (k - 768)

/-! ## The norm of the result -/

theorem rootY_entry (h : Blocks P x0 x1 x2 x3 x4 x5 x6 x7) : H2 (n := 512) (b := 1) (k0_pay3 (F := Ideal) x1) (fun i _ => rootOf 1024 1024 P.Y i) := by
  intro r k
  pointwise [k0_pay3]
  simp only [h.y _ _, bits_n, bits_eps]
  rfl

theorem dy_entry (h : Blocks P x0 x1 x2 x3 x4 x5 x6 x7) : H2 (n := 512) (b := 1024) (k0_pay6 (F := Ideal) x0 x1 x7) (dy P) := by
  intro r k
  pointwise [k0_pay6, k0_pay4]
  simp only [rootY_entry h _ _, h.d _ _, h.y _ _, h.q _ _, bits_n]
  rfl

theorem dy_stored (h : Blocks P x0 x1 x2 x3 x4 x5 x6 x7) : H2 (n := 512) (b := 1024) (k0_pay7 (F := Ideal) x0 x1 x7) (dy P) := by
  intro r k
  pointwise [k0_pay7]
  exact dy_entry h r k

theorem dgp_entry (h : Blocks P x0 x1 x2 x3 x4 x5 x6 x7) : H2 (n := 1) (b := 1024) (k0_pay5 (F := Ideal) x0 x1) (fun _ k => partOf 1024 1024 P.D P.Y k) := by
  intro r k
  pointwise [k0_pay5, k0_pay4]
  simp only [rootY_entry h _ _, h.d _ _, h.y _ _]
  rfl

theorem dgp_added (h : Blocks P x0 x1 x2 x3 x4 x5 x6 x7) {o : FVec Ideal S1x1024 .f32} {Z : ℕ → EReal} (ho : H2 (n := 1) (b := 1024) o (fun _ k => Z k)) :
    H2 (n := 1) (b := 1024) (k0_pay8 (F := Ideal) x0 x1 o) (fun _ k => Z k + partOf 1024 1024 P.D P.Y k) := by
  intro r k
  pointwise [k0_pay8]
  rw [ho, dgp_entry h]

/-! ## The gradient at the projected rows -/

theorem dm_entry (h : Blocks P x0 x1 x2 x3 x4 x5 x6 x7) : H2 (n := 512) (b := 1024) (k0_pay9 (F := Ideal) (k0_pay6 x0 x1 x7) x6) (dm P) := by
  intro r k
  pointwise [k0_pay9]
  simp only [dy_entry h _ _, h.w _ _]
  rfl

theorem dmA_entry (h : Blocks P x0 x1 x2 x3 x4 x5 x6 x7) : H2 (n := 512) (b := 512) (k0_pay11 (F := Ideal) (k0_pay6 x0 x1 x7) x6) (dm P) := by
  intro r k
  pointwise [k0_pay11]
  first | exact dm_entry h _ _ | (refine (dm_entry h _ _).trans ?_; simp)

theorem dmB_entry (h : Blocks P x0 x1 x2 x3 x4 x5 x6 x7) : H2 (n := 512) (b := 256) (k0_pay16 (F := Ideal) (k0_pay6 x0 x1 x7) x6) (dmB P) := by
  intro r k
  pointwise [k0_pay16]
  exact dm_entry h _ _

theorem dmC_entry (h : Blocks P x0 x1 x2 x3 x4 x5 x6 x7) : H2 (n := 512) (b := 256) (k0_pay24 (F := Ideal) (k0_pay9 (k0_pay6 x0 x1 x7) x6)) (dmC P) := by
  intro r k
  pointwise [k0_pay24]
  exact dm_entry h _ _

/-! ## The first attention's norm -/

theorem rootA_entry (h : Blocks P x0 x1 x2 x3 x4 x5 x6 x7) : H2 (n := 512) (b := 1) (k0_pay12 (F := Ideal) x2) (fun i _ => rootOf 512 512 P.A i) := by
  intro r k
  pointwise [k0_pay12]
  simp only [h.a _ _, bits_512, bits_eps]
  rfl

theorem da_entry (h : Blocks P x0 x1 x2 x3 x4 x5 x6 x7) : H2 (n := 512) (b := 512) (k0_pay15 (F := Ideal) (k0_pay6 x0 x1 x7) x6 x5 x2) (da P) := by
  intro r k
  pointwise [k0_pay15, k0_pay13, k0_pay10]
  simp only [rootA_entry h _ _, dmA_entry h _ _, h.a _ _, h.g _ _, bits_512]
  first | rfl | (simp only [Nat.zero_add]; rfl)

theorem gainA_entry (h : Blocks P x0 x1 x2 x3 x4 x5 x6 x7) :
    H2 (n := 1) (b := 512) (k0_pay14 (F := Ideal) (k0_pay6 x0 x1 x7) x6 x2) (fun _ k => partOf 512 512 (dm P) P.A k) := by
  intro r k
  pointwise [k0_pay14, k0_pay13]
  simp only [rootA_entry h _ _, dmA_entry h _ _, h.a _ _]
  rfl

/-! ## The second's -/

theorem rootB_entry (h : Blocks P x0 x1 x2 x3 x4 x5 x6 x7) :
    H2 (n := 512) (b := 1) (k0_pay20 (F := Ideal) (k0_pay18 x3) k0_pay19) (fun i _ => rootOf 256 256 P.B i) := by
  intro r k
  pointwise [k0_pay20, k0_pay18, k0_pay19]
  simp only [h.b _ _, bits_256, bits_eps]
  rfl

theorem gB_entry (h : Blocks P x0 x1 x2 x3 x4 x5 x6 x7) : H2 (n := 1) (b := 256) (k0_pay17 (F := Ideal) x5) (fun _ k => gB P k) := by
  intro r k
  pointwise [k0_pay17, k0_pay10]
  exact h.g _ _

theorem db_entry (h : Blocks P x0 x1 x2 x3 x4 x5 x6 x7) :
    H2 (n := 512) (b := 256) (k0_pay23 (F := Ideal) (k0_pay16 (k0_pay6 x0 x1 x7) x6) x3 (k0_pay17 x5) (k0_pay18 x3) k0_pay19) (db P) := by
  intro r k
  pointwise [k0_pay23, k0_pay21]
  simp only [rootB_entry h _ _, dmB_entry h _ _, h.b _ _, gB_entry h _ _, bits_256]
  rfl

theorem gainB_entry (h : Blocks P x0 x1 x2 x3 x4 x5 x6 x7) :
    H2 (n := 1) (b := 256) (k0_pay22 (F := Ideal) (k0_pay16 (k0_pay6 x0 x1 x7) x6) x3 (k0_pay18 x3) k0_pay19) (fun _ k => partOf 256 256 (dmB P) P.B k) := by
  intro r k
  pointwise [k0_pay22, k0_pay21]
  simp only [rootB_entry h _ _, dmB_entry h _ _, h.b _ _]
  rfl

/-! ## The third's -/

theorem rootC_entry (h : Blocks P x0 x1 x2 x3 x4 x5 x6 x7) : H2 (n := 512) (b := 1) (k0_pay25 (F := Ideal) x4) (fun i _ => rootOf 256 256 P.C i) := by
  intro r k
  pointwise [k0_pay25]
  simp only [h.c _ _, bits_256, bits_eps]
  rfl

theorem dc_entry (h : Blocks P x0 x1 x2 x3 x4 x5 x6 x7) :
    H2 (n := 512) (b := 256) (k0_pay28 (F := Ideal) (k0_pay9 (k0_pay6 x0 x1 x7) x6) (k0_pay10 x5) x4) (dc P) := by
  intro r k
  pointwise [k0_pay28, k0_pay26, k0_pay10]
  simp only [rootC_entry h _ _, dmC_entry h _ _, h.c _ _, h.g _ _, bits_256]
  rfl

theorem gainC_entry (h : Blocks P x0 x1 x2 x3 x4 x5 x6 x7) :
    H2 (n := 1) (b := 256) (k0_pay27 (F := Ideal) (k0_pay9 (k0_pay6 x0 x1 x7) x6) x4) (fun _ k => partOf 256 256 (dmC P) P.C k) := by
  intro r k
  pointwise [k0_pay27, k0_pay26]
  simp only [rootC_entry h _ _, dmC_entry h _ _, h.c _ _]
  rfl

/-! ## The three gains' parts side by side -/

theorem dgn_entry (h : Blocks P x0 x1 x2 x3 x4 x5 x6 x7) :
    H2 (n := 1) (b := 1024) (k0_pay1 (F := Ideal) (k0_pay14 (k0_pay6 x0 x1 x7) x6 x2) (k0_pay22 (k0_pay16 (k0_pay6 x0 x1 x7) x6) x3 (k0_pay18 x3) k0_pay19)
      (k0_pay27 (k0_pay9 (k0_pay6 x0 x1 x7) x6) x4)) (fun _ k => partN P k) := by
  intro r k
  pointwise [k0_pay1]
  exact sides (partOf 512 512 (dm P) P.A) (partOf 256 256 (dmB P) P.B) (partOf 256 256 (dmC P) P.C) k _ _ _
    (fun x => gainA_entry h _ x) (fun x => gainB_entry h _ x) (fun x => gainC_entry h _ x)

theorem dgn_added (h : Blocks P x0 x1 x2 x3 x4 x5 x6 x7) {o : FVec Ideal S1x1024 .f32} {Z : ℕ → EReal} (ho : H2 (n := 1) (b := 1024) o (fun _ k => Z k)) :
    H2 (n := 1) (b := 1024) (k0_pay2 (F := Ideal) (k0_pay14 (k0_pay6 x0 x1 x7) x6 x2) (k0_pay22 (k0_pay16 (k0_pay6 x0 x1 x7) x6) x3 (k0_pay18 x3) k0_pay19)
      (k0_pay27 (k0_pay9 (k0_pay6 x0 x1 x7) x6) x4) o) (fun _ k => Z k + partN P k) := by
  intro r k
  pointwise [k0_pay2]
  rw [ho, dgn_entry h]

end Cert.Kernel9Ideal.MixBack

end
-- ==== Proof.MixBack.Value.lean ====
/-
  THE KERNEL OF THE OUTPUT PROJECTION'S BACKWARD CALL: after each point its stores hold parts of the six results, and the arrays after the
  run hold the results.
-/
module

public import proofs.«01_k».proof.Proof.MixBack.Cases
public import proofs.«01_k».proof.Proof.MixBack.Entries
public import proofs.«01_k».proof.Proof.Value.RefOut
public import Idealize.ShloMosaic.Lib.Pipeline.ValueKit.Geometry
public import Idealize.ShloMosaic.Lib.StableHlo.Run

@[expose] public section

noncomputable section

namespace Cert.Kernel9Ideal.MixBack

open Cert.Kernel9Ideal Cert.Kernel9Ideal.Gen Idealize.ShloMosaic Idealize.ShloMosaic.TcCoe Idealize.ShloMosaic.Pointwise Cert.Ffn Cert.InBack Cert.MixBack
open scoped BigOperators

/-! ## The windows' arrays -/

section Arrays

variable (m : (ℓ : Loc nD τ sig) → Buf (Elt Ideal) ℓ) (c : Dev nD)

theorem arr5 : V m c main_v0 = shapeCast S1x1024 (m ((c.tc : Thread nD τ).loc main_arg5)) shapeCasts_S1024_S1x1024 := by
  show StableHlo.after hostOps0 (fun b => m (c, b)) (Proc.devRef .tc main_v0) = _
  after_results_simp
  rfl

theorem arr6 : V m c main_v1 = truncf .bf16 (F := Ideal) (m ((c.tc : Thread nD τ).loc main_arg6)) bitsLt_bf16_f32 := by
  show StableHlo.after hostOps0 (fun b => m (c, b)) (Proc.devRef .tc main_v1) = _
  after_results_simp

theorem arr7 : V m c main_v2 = shapeCast S1x1024 (m ((c.tc : Thread nD τ).loc main_arg7)) shapeCasts_S1024_S1x1024 := by
  show StableHlo.after hostOps0 (fun b => m (c, b)) (Proc.devRef .tc main_v2) = _
  after_results_simp
  rfl

end Arrays

/-- A core's eight arguments hold the parameters. -/
abbrev ArgsAt (m : (ℓ : Loc nD τ sig) → Buf (Elt Ideal) ℓ) (c : Dev nD) (P : Cert.MixBack.Params) : Prop :=
  Cert.MixBack.Args P (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem row1024 (v : S1024.Idx → EReal) (r : Fin 1) (k : Fin 1024) :
    shapeCast (α := EReal) S1x1024 v shapeCasts_S1024_S1x1024 (ix2 r k) = v (ix1 k) := by
  pointwise []

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index10 : ∀ t : Fin grid0.N, win0_10.index t 0 = t.val ∧ win0_10.index t 1 = 0 := by decide +kernel
theorem index11 : ∀ t : Fin grid0.N, win0_11.index t 0 = t.val ∧ win0_11.index t 1 = 0 := by decide +kernel
theorem index12 : ∀ t : Fin grid0.N, win0_12.index t 0 = 0 ∧ win0_12.index t 1 = 0 := by decide +kernel
theorem index13 : ∀ t : Fin grid0.N, win0_13.index t 0 = 0 ∧ win0_13.index t 1 = 0 := by decide +kernel

variable {m : (ℓ : Loc nD τ sig) → Buf (Elt Ideal) ℓ} {c : Dev nD} {P : Cert.MixBack.Params}

theorem lt8 (t : Fin cfg0.N) : t.val < 8 := lt_of_lt_of_eq t.isLt N_0

/-- The parameters from token `o` on. -/
def startAt (P : Cert.MixBack.Params) (o : ℕ) : Cert.MixBack.Params :=
  { P with D := fun r => P.D (o + r), Y := fun r => P.Y (o + r), A := fun r => P.A (o + r), B := fun r => P.B (o + r), C := fun r => P.C (o + r) }

/-- A point's blocks hold the parameters of its 512 tokens. -/
theorem blocks (h : ArgsAt m c P) (t : Fin cfg0.N) :
    Blocks (startAt P (512 * t.val)) (iblk m c 0 t) (iblk m c 1 t) (iblk m c 2 t) (iblk m c 3 t) (iblk m c 4 t) (iblk m c 5 t) (iblk m c 6 t) (iblk m c 7 t) := by
  have ht := lt8 t
  constructor
  · intro r x
    refine Eq.trans ?_ (h.d ⟨512 * t.val + r.val, by omega⟩ x)
    refine Eq.trans ?_ (congrFun (V_main_arg0 m c) _)
    unfold iblk
    rw [View.read_apply, cast_eq]
    refine congrArg (V m c main_arg0) (funext fun a => Fin.ext ?_)
    match a with
    | ⟨0, _⟩ => show win0_0.index t 0 * 512 + 1 * r.val = 512 * t.val + r.val; rw [(index0 t).1]; omega
    | ⟨1, _⟩ => show win0_0.index t 1 * 1024 + 1 * x.val = x.val; rw [(index0 t).2]; omega
  · intro r x
    refine Eq.trans ?_ (h.y ⟨512 * t.val + r.val, by omega⟩ x)
    refine Eq.trans ?_ (congrFun (V_main_arg1 m c) _)
    unfold iblk
    rw [View.read_apply, cast_eq]
    refine congrArg (V m c main_arg1) (funext fun a => Fin.ext ?_)
    match a with
    | ⟨0, _⟩ => show win0_1.index t 0 * 512 + 1 * r.val = 512 * t.val + r.val; rw [(index1 t).1]; omega
    | ⟨1, _⟩ => show win0_1.index t 1 * 1024 + 1 * x.val = x.val; rw [(index1 t).2]; omega
  · intro r x
    refine Eq.trans ?_ (h.a ⟨512 * t.val + r.val, by omega⟩ x)
    refine Eq.trans ?_ (congrFun (V_main_arg2 m c) _)
    unfold iblk
    rw [View.read_apply, cast_eq]
    refine congrArg (V m c main_arg2) (funext fun a => Fin.ext ?_)
    match a with
    | ⟨0, _⟩ => show win0_2.index t 0 * 512 + 1 * r.val = 512 * t.val + r.val; rw [(index2 t).1]; omega
    | ⟨1, _⟩ => show win0_2.index t 1 * 512 + 1 * x.val = x.val; rw [(index2 t).2]; omega
  · intro r x
    refine Eq.trans ?_ (h.b ⟨512 * t.val + r.val, by omega⟩ x)
    refine Eq.trans ?_ (congrFun (V_main_arg3 m c) _)
    unfold iblk
    rw [View.read_apply, cast_eq]
    refine congrArg (V m c main_arg3) (funext fun a => Fin.ext ?_)
    match a with
    | ⟨0, _⟩ => show win0_3.index t 0 * 512 + 1 * r.val = 512 * t.val + r.val; rw [(index3 t).1]; omega
    | ⟨1, _⟩ => show win0_3.index t 1 * 256 + 1 * x.val = x.val; rw [(index3 t).2]; omega
  · intro r x
    refine Eq.trans ?_ (h.c ⟨512 * t.val + r.val, by omega⟩ x)
    refine Eq.trans ?_ (congrFun (V_main_arg4 m c) _)
    unfold iblk
    rw [View.read_apply, cast_eq]
    refine congrArg (V m c main_arg4) (funext fun a => Fin.ext ?_)
    match a with
    | ⟨0, _⟩ => show win0_4.index t 0 * 512 + 1 * r.val = 512 * t.val + r.val; rw [(index4 t).1]; omega
    | ⟨1, _⟩ => show win0_4.index t 1 * 256 + 1 * x.val = x.val; rw [(index4 t).2]; omega
  · intro r x
    refine Eq.trans ?_ (h.g x)
    refine Eq.trans ?_ ((congrFun (arr5 m c) (ix2 r x)).trans (row1024 _ r x))
    unfold iblk
    rw [View.read_apply, cast_eq]
    refine congrArg (V m c main_v0) (funext fun a => Fin.ext ?_)
    match a with
    | ⟨0, _⟩ => show win0_5.index t 0 * 1 + 1 * r.val = r.val; rw [(index5 t).1]; omega
    | ⟨1, _⟩ => show win0_5.index t 1 * 1024 + 1 * x.val = x.val; rw [(index5 t).2]; omega
  · intro r x
    refine Eq.trans ?_ (h.w r x)
    refine Eq.trans ?_ (congrFun (arr6 m c) _)
    unfold iblk
    rw [View.read_apply, cast_eq]
    refine congrArg (V m c main_v1) (funext fun a => Fin.ext ?_)
    match a with
    | ⟨0, _⟩ => show win0_6.index t 0 * 1024 + 1 * r.val = r.val; rw [(index6 t).1]; omega
    | ⟨1, _⟩ => show win0_6.index t 1 * 1024 + 1 * x.val = x.val; rw [(index6 t).2]; omega
  · intro r x
    refine Eq.trans ?_ (h.q x)
    refine Eq.trans ?_ ((congrFun (arr7 m c) (ix2 r x)).trans (row1024 _ r x))
    unfold iblk
    rw [View.read_apply, cast_eq]
    refine congrArg (V m c main_v2) (funext fun a => Fin.ext ?_)
    match a with
    | ⟨0, _⟩ => show win0_7.index t 0 * 1 + 1 * r.val = r.val; rw [(index7 t).1]; omega
    | ⟨1, _⟩ => show win0_7.index t 1 * 1024 + 1 * x.val = x.val; rw [(index7 t).2]; omega

/-! ## After each point -/

theorem dy_at (h : ArgsAt m c P) (t : Fin cfg0.N) :
    H2 (n := 512) (b := 1024) (outsAt0 m c t.val t.isLt).1 (dy (startAt P (512 * t.val))) := by
  have ht := lt8 t
  by_cases h0 : t.val = 0
  · rw [outsAt0_A m c t (by omega) (by omega) (by omega) (by omega)]
    dsimp only
    rw [dy_first]
    exact dy_stored (blocks h t)
  · rw [outsAt0_B m c t (by omega) (by omega) (by omega) (by omega)]
    dsimp only
    rw [dy_later]
    exact dy_stored (blocks h t)

theorem da_at (h : ArgsAt m c P) (t : Fin cfg0.N) :
    H2 (n := 512) (b := 512) (outsAt0 m c t.val t.isLt).2.1 (da (startAt P (512 * t.val))) := by
  have ht := lt8 t
  by_cases h0 : t.val = 0
  · rw [outsAt0_A m c t (by omega) (by omega) (by omega) (by omega)]
    dsimp only
    rw [da_first]
    exact da_entry (blocks h t)
  · rw [outsAt0_B m c t (by omega) (by omega) (by omega) (by omega)]
    dsimp only
    rw [da_later]
    exact da_entry (blocks h t)

theorem db_at (h : ArgsAt m c P) (t : Fin cfg0.N) :
    H2 (n := 512) (b := 256) (outsAt0 m c t.val t.isLt).2.2.1 (db (startAt P (512 * t.val))) := by
  have ht := lt8 t
  by_cases h0 : t.val = 0
  · rw [outsAt0_A m c t (by omega) (by omega) (by omega) (by omega)]
    dsimp only
    rw [db_first]
    exact db_entry (blocks h t)
  · rw [outsAt0_B m c t (by omega) (by omega) (by omega) (by omega)]
    dsimp only
    rw [db_later]
    exact db_entry (blocks h t)

theorem dc_at (h : ArgsAt m c P) (t : Fin cfg0.N) :
    H2 (n := 512) (b := 256) (outsAt0 m c t.val t.isLt).2.2.2.1 (dc (startAt P (512 * t.val))) := by
  have ht := lt8 t
  by_cases h0 : t.val = 0
  · rw [outsAt0_A m c t (by omega) (by omega) (by omega) (by omega)]
    dsimp only
    rw [dc_first]
    exact dc_entry (blocks h t)
  · rw [outsAt0_B m c t (by omega) (by omega) (by omega) (by omega)]
    dsimp only
    rw [dc_later]
    exact dc_entry (blocks h t)

theorem dgn_at (h : ArgsAt m c P) : ∀ (n : ℕ) (hn : n < cfg0.N),
    H2 (n := 1) (b := 1024) (outsAt0 m c n hn).2.2.2.2.1 (fun _ k => ∑ s ∈ Finset.range (n + 1), partN (startAt P (512 * s)) k) := by
  intro n
  induction n with
  | zero =>
    intro hn
    rw [outsAt0_A m c ⟨0, hn⟩ rfl (by dsimp only; omega) rfl (by dsimp only; omega)]
    dsimp only
    rw [dgn_first]
    intro r k
    refine (dgn_entry (blocks h ⟨0, hn⟩) r k).trans ?_
    dsimp only
    rw [show (0 + 1 : ℕ) = 1 from rfl, Finset.sum_range_one]
  | succ n ih =>
    intro hn
    have ht := lt8 ⟨n + 1, hn⟩
    dsimp only at ht
    rw [outsAt0_B m c ⟨n + 1, hn⟩ (by dsimp only; omega) (by dsimp only; omega) (by dsimp only; omega) (by dsimp only; omega)]
    dsimp only
    rw [dgn_later]
    intro r k
    refine (dgn_added (blocks h ⟨n + 1, hn⟩) (ih (Nat.lt_of_succ_lt hn)) r k).trans ?_
    dsimp only
    rw [Finset.sum_range_succ _ (n + 1)]

theorem dgp_at (h : ArgsAt m c P) : ∀ (n : ℕ) (hn : n < cfg0.N),
    H2 (n := 1) (b := 1024) (outsAt0 m c n hn).2.2.2.2.2 (fun _ k => ∑ s ∈ Finset.range (n + 1), partOf 1024 1024 (startAt P (512 * s)).D (startAt P (512 * s)).Y k) := by
  intro n
  induction n with
  | zero =>
    intro hn
    rw [outsAt0_A m c ⟨0, hn⟩ rfl (by dsimp only; omega) rfl (by dsimp only; omega)]
    dsimp only
    rw [dgp_first]
    intro r k
    refine (dgp_entry (blocks h ⟨0, hn⟩) r k).trans ?_
    dsimp only
    rw [show (0 + 1 : ℕ) = 1 from rfl, Finset.sum_range_one]
  | succ n ih =>
    intro hn
    have ht := lt8 ⟨n + 1, hn⟩
    dsimp only at ht
    rw [outsAt0_B m c ⟨n + 1, hn⟩ (by dsimp only; omega) (by dsimp only; omega) (by dsimp only; omega) (by dsimp only; omega)]
    dsimp only
    rw [dgp_later]
    intro r k
    refine (dgp_added (blocks h ⟨n + 1, hn⟩) (ih (Nat.lt_of_succ_lt hn)) r k).trans ?_
    dsimp only
    rw [Finset.sum_range_succ _ (n + 1)]

/-! ## The results -/

/-- The parts of the tokens' eight blocks are a gain's whole gradient. -/
theorem parts (n : ℕ) (q : ℝ) (D X : ℕ → ℕ → EReal) (k : ℕ) :
    ∑ s ∈ Finset.range 8, partOf n q (fun r => D (512 * s + r)) (fun r => X (512 * s + r)) k = gainOf n q D X k := by
  have e := Cert.ReferenceIdeal.Read.sum_blocks (fun i => X i k * rootOf n q X i * D i k) 512 8
  rw [show 512 * 8 = 4096 from rfl] at e
  refine Eq.trans (Finset.sum_congr rfl fun s _ => ?_) (e.trans (Fin.sum_univ_eq_sum_range (fun i => X i k * rootOf n q X i * D i k) 4096).symm)
  refine Eq.trans (Finset.sum_congr rfl fun r _ => mul_comm _ _) (Fin.sum_univ_eq_sum_range (fun r => X (512 * s + r) k * rootOf n q X (512 * s + r) * D (512 * s + r) k) 512)

theorem partsN (P : Cert.MixBack.Params) (k : ℕ) : ∑ s ∈ Finset.range 8, partN (startAt P (512 * s)) k = dgn P k := by
  unfold partN dgn
  split_ifs
  · exact parts 512 512 (dm P) P.A k
  · exact parts 256 256 (dmB P) P.B (k - 512)
  · exact parts 256 256 (dmC P) P.C (k - 768)

theorem dy_eq (h : ArgsAt m c P) (i : S4096x1024.Idx) : (dats m 0 c).arrAt 8 cfg0.N i = dy P (i 0).val (i 1).val := by
  refine (dats m 0 c).arrAt_forall_of_covers 8 (fun i v => v = dy P (i 0).val (i 1).val) (by decide +kernel) (fun t _ y => ?_) i
  rw [cast_eq, after0_8]
  have e0 : ((((cfg0.win 8).blk t).view.emb y) 0).val = 512 * t.val + (y 0).val := by
    show win0_8.index t 0 * 512 + 1 * (y 0).val = _
    rw [(index8 t).1]; omega
  have e1 : ((((cfg0.win 8).blk t).view.emb y) 1).val = (y 1).val := by
    show win0_8.index t 1 * 1024 + 1 * (y 1).val = _
    rw [(index8 t).2]; omega
  refine (congrArg (outsAt0 m c t.val t.isLt).1 (show _ = ix2 (y 0 : Fin 512) (y 1 : Fin 1024) from funext fun a => Fin.ext ?_)).trans ((dy_at h t (y 0) (y 1)).trans ?_)
  · match a with
    | ⟨0, _⟩ => rfl
    | ⟨1, _⟩ => rfl
  · show dy P (512 * t.val + (y 0).val) (y 1).val = dy P ((((cfg0.win 8).blk t).view.emb y) 0).val ((((cfg0.win 8).blk t).view.emb y) 1).val
    rw [e0, e1]

theorem da_eq (h : ArgsAt m c P) (i : S4096x512.Idx) : (dats m 0 c).arrAt 9 cfg0.N i = da P (i 0).val (i 1).val := by
  refine (dats m 0 c).arrAt_forall_of_covers 9 (fun i v => v = da P (i 0).val (i 1).val) (by decide +kernel) (fun t _ y => ?_) i
  rw [cast_eq, after0_9]
  have e0 : ((((cfg0.win 9).blk t).view.emb y) 0).val = 512 * t.val + (y 0).val := by
    show win0_9.index t 0 * 512 + 1 * (y 0).val = _
    rw [(index9 t).1]; omega
  have e1 : ((((cfg0.win 9).blk t).view.emb y) 1).val = (y 1).val := by
    show win0_9.index t 1 * 512 + 1 * (y 1).val = _
    rw [(index9 t).2]; omega
  refine (congrArg (outsAt0 m c t.val t.isLt).2.1 (show _ = ix2 (y 0 : Fin 512) (y 1 : Fin 512) from funext fun a => Fin.ext ?_)).trans ((da_at h t (y 0) (y 1)).trans ?_)
  · match a with
    | ⟨0, _⟩ => rfl
    | ⟨1, _⟩ => rfl
  · show da P (512 * t.val + (y 0).val) (y 1).val = da P ((((cfg0.win 9).blk t).view.emb y) 0).val ((((cfg0.win 9).blk t).view.emb y) 1).val
    rw [e0, e1]

theorem db_eq (h : ArgsAt m c P) (i : S4096x256.Idx) : (dats m 0 c).arrAt 10 cfg0.N i = db P (i 0).val (i 1).val := by
  refine (dats m 0 c).arrAt_forall_of_covers 10 (fun i v => v = db P (i 0).val (i 1).val) (by decide +kernel) (fun t _ y => ?_) i
  rw [cast_eq, after0_10]
  have e0 : ((((cfg0.win 10).blk t).view.emb y) 0).val = 512 * t.val + (y 0).val := by
    show win0_10.index t 0 * 512 + 1 * (y 0).val = _
    rw [(index10 t).1]; omega
  have e1 : ((((cfg0.win 10).blk t).view.emb y) 1).val = (y 1).val := by
    show win0_10.index t 1 * 256 + 1 * (y 1).val = _
    rw [(index10 t).2]; omega
  refine (congrArg (outsAt0 m c t.val t.isLt).2.2.1 (show _ = ix2 (y 0 : Fin 512) (y 1 : Fin 256) from funext fun a => Fin.ext ?_)).trans ((db_at h t (y 0) (y 1)).trans ?_)
  · match a with
    | ⟨0, _⟩ => rfl
    | ⟨1, _⟩ => rfl
  · show db P (512 * t.val + (y 0).val) (y 1).val = db P ((((cfg0.win 10).blk t).view.emb y) 0).val ((((cfg0.win 10).blk t).view.emb y) 1).val
    rw [e0, e1]

theorem dc_eq (h : ArgsAt m c P) (i : S4096x256.Idx) : (dats m 0 c).arrAt 11 cfg0.N i = dc P (i 0).val (i 1).val := by
  refine (dats m 0 c).arrAt_forall_of_covers 11 (fun i v => v = dc P (i 0).val (i 1).val) (by decide +kernel) (fun t _ y => ?_) i
  rw [cast_eq, after0_11]
  have e0 : ((((cfg0.win 11).blk t).view.emb y) 0).val = 512 * t.val + (y 0).val := by
    show win0_11.index t 0 * 512 + 1 * (y 0).val = _
    rw [(index11 t).1]; omega
  have e1 : ((((cfg0.win 11).blk t).view.emb y) 1).val = (y 1).val := by
    show win0_11.index t 1 * 256 + 1 * (y 1).val = _
    rw [(index11 t).2]; omega
  refine (congrArg (outsAt0 m c t.val t.isLt).2.2.2.1 (show _ = ix2 (y 0 : Fin 512) (y 1 : Fin 256) from funext fun a => Fin.ext ?_)).trans ((dc_at h t (y 0) (y 1)).trans ?_)
  · match a with
    | ⟨0, _⟩ => rfl
    | ⟨1, _⟩ => rfl
  · show dc P (512 * t.val + (y 0).val) (y 1).val = dc P ((((cfg0.win 11).blk t).view.emb y) 0).val ((((cfg0.win 11).blk t).view.emb y) 1).val
    rw [e0, e1]

theorem last12 : ∀ t : Fin cfg0.N, (cfg0.win 12).flush t = true → t.val = 7 := by decide +kernel

theorem dgn_eq (h : ArgsAt m c P) (i : S1x1024.Idx) : (dats m 0 c).arrAt 12 cfg0.N i = dgn P (i 1).val := by
  refine (dats m 0 c).arrAt_forall_of_covers 12 (fun i v => v = dgn P (i 1).val) (by decide +kernel) (fun t hf y => ?_) i
  have ht := last12 t hf
  rw [cast_eq, after0_12]
  have e1 : ((((cfg0.win 12).blk t).view.emb y) 1).val = (y 1).val := by
    show win0_12.index t 1 * 1024 + 1 * (y 1).val = _
    rw [(index12 t).2]; omega
  refine (congrArg (outsAt0 m c t.val t.isLt).2.2.2.2.1 (show _ = ix2 (y 0 : Fin 1) (y 1 : Fin 1024) from funext fun a => Fin.ext ?_)).trans ((dgn_at h t.val t.isLt (y 0) (y 1)).trans ?_)
  · match a with
    | ⟨0, _⟩ => rfl
    | ⟨1, _⟩ => rfl
  · rw [ht]
    refine (partsN P (y 1).val).trans ?_
    show dgn P (y 1).val = dgn P ((((cfg0.win 12).blk t).view.emb y) 1).val
    rw [e1]

theorem last13 : ∀ t : Fin cfg0.N, (cfg0.win 13).flush t = true → t.val = 7 := by decide +kernel

theorem dgp_eq (h : ArgsAt m c P) (i : S1x1024.Idx) : (dats m 0 c).arrAt 13 cfg0.N i = dgp P (i 1).val := by
  refine (dats m 0 c).arrAt_forall_of_covers 13 (fun i v => v = dgp P (i 1).val) (by decide +kernel) (fun t hf y => ?_) i
  have ht := last13 t hf
  rw [cast_eq, after0_13]
  have e1 : ((((cfg0.win 13).blk t).view.emb y) 1).val = (y 1).val := by
    show win0_13.index t 1 * 1024 + 1 * (y 1).val = _
    rw [(index13 t).2]; omega
  refine (congrArg (outsAt0 m c t.val t.isLt).2.2.2.2.2 (show _ = ix2 (y 0 : Fin 1) (y 1 : Fin 1024) from funext fun a => Fin.ext ?_)).trans ((dgp_at h t.val t.isLt (y 0) (y 1)).trans ?_)
  · match a with
    | ⟨0, _⟩ => rfl
    | ⟨1, _⟩ => rfl
  · rw [ht]
    refine (parts 1024 1024 P.D P.Y (y 1).val).trans ?_
    show dgp P (y 1).val = dgp P ((((cfg0.win 13).blk t).view.emb y) 1).val
    rw [e1]

end Cert.Kernel9Ideal.MixBack

end
-- ==== Proof.MixBack.Claim.lean ====
/-
  THE CLAIMS OF THE OUTPUT PROJECTION'S BACKWARD CALL. The kernel and the reference leave the same six gradients, from any arguments.
-/
module

public import proofs.«01_k».proof.Defs
public import proofs.«01_k».proof.Proof.Gen.Kernel9Ideal
public import proofs.«01_k».proof.Proof.Gen.Reference10Ideal
public import proofs.«01_k».proof.Proof.Gen.Reference10Ideal.Run
public import proofs.«01_k».proof.Proof.MixBack.Value
public import proofs.«01_k».proof.Proof.InBack.Claim

@[expose] public section

noncomputable section

open Idealize.ShloMosaic Idealize.ShloMosaic.TcCoe Idealize.ShloMosaic.Pointwise Idealize.SL.Sem Cert.InBack

attribute [local instance] Cert.Kernel9Ideal.Gen.facts Cert.Reference10Ideal.Gen.facts

namespace Cert.Proof

/-- The reference has no semaphore; its arguments are among what its run states. -/
theorem frame_reference10Ideal : Cert.quiescent_Reference10Ideal := fun m ρ _ =>
  (θ_run Cert.Reference10Ideal.defs _ _).mono (fun r h => ⟨fun c => (h c).2.2.2.2.2.2, sem_eq_zero_of_no_sems (by decide) r.2⟩) (Cert.Reference10Ideal.Value.run m ρ)

/-- The kernel computes the gradients at the projection's result, at the three attentions' results, and at the gains of their norms and of
    the result's. -/
theorem algebraic_mix_back : Cert.algebraic_Kernel9Ideal_Reference10Ideal := by
  intro m g m' g' _ hagree
  choose P hP using fun c : Dev Cert.Kernel9Ideal.nD => Cert.MixBack.args_exist (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))
    (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))
    (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))
    (m ((c.tc : Thread Cert.Kernel9Ideal.nD Cert.Kernel9Ideal.τ).loc Cert.Kernel9Ideal.main_arg7))
  refine ⟨fun c => (Cert.Kernel9Ideal.Gen.dats m 0 c).arrAt 8 Cert.Kernel9Ideal.cfg0.N, fun c => (Cert.Kernel9Ideal.Gen.dats m 0 c).arrAt 9 Cert.Kernel9Ideal.cfg0.N,
    fun c => (Cert.Kernel9Ideal.Gen.dats m 0 c).arrAt 10 Cert.Kernel9Ideal.cfg0.N, fun c => (Cert.Kernel9Ideal.Gen.dats m 0 c).arrAt 11 Cert.Kernel9Ideal.cfg0.N,
    fun c => (Cert.Kernel9Ideal.Gen.dats m 0 c).arrAt 12 Cert.Kernel9Ideal.cfg0.N, fun c => (Cert.Kernel9Ideal.Gen.dats m 0 c).arrAt 13 Cert.Kernel9Ideal.cfg0.N,
    Cert.Kernel9Ideal.Value.run_blocks m g, ?_⟩
  refine (θ_run (Cert.Reference10Ideal.defs (F := Ideal)) _ _).mono (fun r h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩) (Cert.Reference10Ideal.Value.run m' g')
  · obtain ⟨e0, e1, e2, e3, e4, e5, e6, e7⟩ := hagree c
    replace e0 : StableHlo.launchContents m' c (Proc.devRef .tc Cert.Reference10Ideal.main_arg0) = _ := e0
    replace e1 : StableHlo.launchContents m' c (Proc.devRef .tc Cert.Reference10Ideal.main_arg1) = _ := e1
    replace e7 : StableHlo.launchContents m' c (Proc.devRef .tc Cert.Reference10Ideal.main_arg7) = _ := e7
    rw [Cert.Reference10Ideal.Read.val_main_v154_eq, e0, e1, e7]
    exact entries_ext (Cert.Reference10Ideal.Read.r154 (hP c)) (fun r k => Cert.Kernel9Ideal.MixBack.dy_eq (hP c) (ix2 r k))
  · obtain ⟨e0, e1, e2, e3, e4, e5, e6, e7⟩ := hagree c
    replace e0 : StableHlo.launchContents m' c (Proc.devRef .tc Cert.Reference10Ideal.main_arg0) = _ := e0
    replace e1 : StableHlo.launchContents m' c (Proc.devRef .tc Cert.Reference10Ideal.main_arg1) = _ := e1
    replace e2 : StableHlo.launchContents m' c (Proc.devRef .tc Cert.Reference10Ideal.main_arg2) = _ := e2
    replace e5 : StableHlo.launchContents m' c (Proc.devRef .tc Cert.Reference10Ideal.main_arg5) = _ := e5
    replace e6 : StableHlo.launchContents m' c (Proc.devRef .tc Cert.Reference10Ideal.main_arg6) = _ := e6
    replace e7 : StableHlo.launchContents m' c (Proc.devRef .tc Cert.Reference10Ideal.main_arg7) = _ := e7
    rw [Cert.Reference10Ideal.Read.val_main_v152_eq, e0, e1, e2, e5, e6, e7]
    exact entries_ext (Cert.Reference10Ideal.Read.r152 (hP c)) (fun r k => Cert.Kernel9Ideal.MixBack.da_eq (hP c) (ix2 r k))
  · obtain ⟨e0, e1, e2, e3, e4, e5, e6, e7⟩ := hagree c
    replace e0 : StableHlo.launchContents m' c (Proc.devRef .tc Cert.Reference10Ideal.main_arg0) = _ := e0
    replace e1 : StableHlo.launchContents m' c (Proc.devRef .tc Cert.Reference10Ideal.main_arg1) = _ := e1
    replace e3 : StableHlo.launchContents m' c (Proc.devRef .tc Cert.Reference10Ideal.main_arg3) = _ := e3
    replace e5 : StableHlo.launchContents m' c (Proc.devRef .tc Cert.Reference10Ideal.main_arg5) = _ := e5
    replace e6 : StableHlo.launchContents m' c (Proc.devRef .tc Cert.Reference10Ideal.main_arg6) = _ := e6
    replace e7 : StableHlo.launchContents m' c (Proc.devRef .tc Cert.Reference10Ideal.main_arg7) = _ := e7
    rw [Cert.Reference10Ideal.Read.val_main_v132_eq, e0, e1, e3, e5, e6, e7]
    exact entries_ext (Cert.Reference10Ideal.Read.r132 (hP c)) (fun r k => Cert.Kernel9Ideal.MixBack.db_eq (hP c) (ix2 r k))
  · obtain ⟨e0, e1, e2, e3, e4, e5, e6, e7⟩ := hagree c
    replace e0 : StableHlo.launchContents m' c (Proc.devRef .tc Cert.Reference10Ideal.main_arg0) = _ := e0
    replace e1 : StableHlo.launchContents m' c (Proc.devRef .tc Cert.Reference10Ideal.main_arg1) = _ := e1
    replace e4 : StableHlo.launchContents m' c (Proc.devRef .tc Cert.Reference10Ideal.main_arg4) = _ := e4
    replace e5 : StableHlo.launchContents m' c (Proc.devRef .tc Cert.Reference10Ideal.main_arg5) = _ := e5
    replace e6 : StableHlo.launchContents m' c (Proc.devRef .tc Cert.Reference10Ideal.main_arg6) = _ := e6
    replace e7 : StableHlo.launchContents m' c (Proc.devRef .tc Cert.Reference10Ideal.main_arg7) = _ := e7
    rw [Cert.Reference10Ideal.Read.val_main_v112_eq, e0, e1, e4, e5, e6, e7]
    exact entries_ext (Cert.Reference10Ideal.Read.r112 (hP c)) (fun r k => Cert.Kernel9Ideal.MixBack.dc_eq (hP c) (ix2 r k))
  · obtain ⟨e0, e1, e2, e3, e4, e5, e6, e7⟩ := hagree c
    replace e0 : StableHlo.launchContents m' c (Proc.devRef .tc Cert.Reference10Ideal.main_arg0) = _ := e0
    replace e1 : StableHlo.launchContents m' c (Proc.devRef .tc Cert.Reference10Ideal.main_arg1) = _ := e1
    replace e2 : StableHlo.launchContents m' c (Proc.devRef .tc Cert.Reference10Ideal.main_arg2) = _ := e2
    replace e3 : StableHlo.launchContents m' c (Proc.devRef .tc Cert.Reference10Ideal.main_arg3) = _ := e3
    replace e4 : StableHlo.launchContents m' c (Proc.devRef .tc Cert.Reference10Ideal.main_arg4) = _ := e4
    replace e6 : StableHlo.launchContents m' c (Proc.devRef .tc Cert.Reference10Ideal.main_arg6) = _ := e6
    replace e7 : StableHlo.launchContents m' c (Proc.devRef .tc Cert.Reference10Ideal.main_arg7) = _ := e7
    rw [Cert.Reference10Ideal.Read.val_main_v155_eq, e0, e1, e2, e3, e4, e6, e7]
    exact entries_ext (Cert.Reference10Ideal.Read.r155 (hP c)) (fun r k => Cert.Kernel9Ideal.MixBack.dgn_eq (hP c) (ix2 r k))
  · obtain ⟨e0, e1, e2, e3, e4, e5, e6, e7⟩ := hagree c
    replace e0 : StableHlo.launchContents m' c (Proc.devRef .tc Cert.Reference10Ideal.main_arg0) = _ := e0
    replace e1 : StableHlo.launchContents m' c (Proc.devRef .tc Cert.Reference10Ideal.main_arg1) = _ := e1
    rw [Cert.Reference10Ideal.Read.val_main_v156_eq, e0, e1]
    exact entries_ext (Cert.Reference10Ideal.Read.r156 (hP c)) (fun r k => Cert.Kernel9Ideal.MixBack.dgp_eq (hP c) (ix2 r k))

end Cert.Proof

end
-- ==== Proof.lean ====
/- THE CERTIFICATE of the feed-forward network's backward call, of its up projection, of the projection before the attentions with its backward
   call, of the output projection after them with its backward call and of the kernel of the weights' gradients: the frames of the programs, the two named constants, and the equality of each kernel's
   results with its references', assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_whole_sums
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference4Ideal.Run
public import proofs.«01_k».proof.Proof.Gen.Reference4Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference5Ideal.Run
public import proofs.«01_k».proof.Proof.Gen.Reference5Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference6Ideal.Run
public import proofs.«01_k».proof.Proof.Gen.Reference6Ideal.Read
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference8Ideal.Run
public import proofs.«01_k».proof.Proof.Gen.Reference8Ideal.Read
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference9Ideal.Run
public import proofs.«01_k».proof.Proof.Gen.Reference9Ideal.Read
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference10Ideal.Run
public import proofs.«01_k».proof.Proof.Gen.Reference10Ideal.Read
public import proofs.«01_k».proof.Proof.Frames
public import proofs.«01_k».proof.Proof.KernelFrame
public import proofs.«01_k».proof.Proof.Value.Claim
public import proofs.«01_k».proof.Proof.Weights.Claim
public import proofs.«01_k».proof.Proof.Weights.ClaimIO
public import proofs.«01_k».proof.Proof.Up.Claim
public import proofs.«01_k».proof.Proof.In.Claim
public import proofs.«01_k».proof.Proof.InBack.Claim
public import proofs.«01_k».proof.Proof.Mix.Claim
public import proofs.«01_k».proof.Proof.MixBack.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Reference3Ideal.Gen.facts,
  Cert.Kernel3.Gen.facts, Cert.Kernel3Ideal.Gen.facts, Cert.Reference4Ideal.Gen.facts, Cert.Kernel4.Gen.facts, Cert.Kernel4Ideal.Gen.facts,
  Cert.Reference5Ideal.Gen.facts, Cert.Kernel5.Gen.facts, Cert.Kernel5Ideal.Gen.facts, Cert.Reference6Ideal.Gen.facts,
  Cert.Kernel6.Gen.facts, Cert.Kernel6Ideal.Gen.facts, Cert.Reference7Ideal.Gen.facts, Cert.Kernel7.Gen.facts, Cert.Kernel7Ideal.Gen.facts,
  Cert.Reference8Ideal.Gen.facts, Cert.Kernel8.Gen.facts, Cert.Kernel8Ideal.Gen.facts, Cert.Reference9Ideal.Gen.facts,
  Cert.Kernel9.Gen.facts, Cert.Kernel9Ideal.Gen.facts, Cert.Reference10Ideal.Gen.facts, Cert.Pre_finite.Gen.facts, Cert.On_whole_sums.Gen.facts,
  frame_kernel, frame_kernelIdeal, frame_kernelIdeal_finite, frame_referenceIdeal, frame_referenceIdeal_finite,
  fun m ρ _ => Cert.Kernel2.Gen.frame m ρ, fun m ρ _ => Cert.Kernel2Ideal.Gen.frame m ρ, frame_reference2Ideal, frame_reference3Ideal,
  frame_kernel3, frame_kernel3Ideal, frame_reference4Ideal,
  fun m ρ _ => Cert.Kernel4.Gen.frame m ρ, fun m ρ _ => Cert.Kernel4Ideal.Gen.frame m ρ, frame_reference5Ideal,
  fun m ρ _ => Cert.Kernel5.Gen.frame m ρ, fun m ρ _ => Cert.Kernel5Ideal.Gen.frame m ρ, frame_reference6Ideal,
  frame_kernel6, frame_kernel6Ideal, frame_reference7Ideal,
  fun m ρ _ => Cert.Kernel7.Gen.frame m ρ, fun m ρ _ => Cert.Kernel7Ideal.Gen.frame m ρ, frame_reference8Ideal,
  fun m ρ _ => Cert.Kernel8.Gen.frame m ρ, fun m ρ _ => Cert.Kernel8Ideal.Gen.frame m ρ, frame_reference9Ideal,
  fun m ρ _ => Cert.Kernel9.Gen.frame m ρ, fun m ρ _ => Cert.Kernel9Ideal.Gen.frame m ρ, frame_reference10Ideal,
  preserves, algebraic, trivial, algebraic_down, algebraic_up, trivial, algebraic_forward, trivial, algebraic_in, trivial, algebraic_out,
  trivial, algebraic_before, trivial, algebraic_in_back, trivial, algebraic_mix, trivial, algebraic_mix_back⟩

end Cert.Proof

end
